-- ==== Defs.lean ====
def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1Ideal_finite_ffn1 [hPre_finite_ffn1 : Cert.Pre_finite_ffn1.Facts] (m : (ℓ : Loc Cert.Ffn1Ideal.nD Cert.Ffn1Ideal.τ Cert.Ffn1Ideal.sig) → Buf (Elt Ideal) ℓ) : Prop :=
  ∀ c : Dev Cert.Ffn1Ideal.nD,
    (Cert.Pre_finite_ffn1.fn (F := Ideal) (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4))) = (fun _ => 1#1)

def Pre_Ffn1RefIdeal (m : (ℓ : Loc Cert.Ffn1RefIdeal.nD Cert.Ffn1RefIdeal.τ Cert.Ffn1RefIdeal.sig) → Buf (Elt Ideal) ℓ) : Prop :=
  True

def Pre_Ffn1RefIdeal_finite_ffn1 [hPre_finite_ffn1 : Cert.Pre_finite_ffn1.Facts] (m : (ℓ : Loc Cert.Ffn1RefIdeal.nD Cert.Ffn1RefIdeal.τ Cert.Ffn1RefIdeal.sig) → Buf (Elt Ideal) ℓ) : Prop :=
  ∀ c : Dev Cert.Ffn1RefIdeal.nD,
    (Cert.Pre_finite_ffn1.fn (F := Ideal) (m ((c.tc : Thread Cert.Ffn1RefIdeal.nD Cert.Ffn1RefIdeal.τ).loc Cert.Ffn1RefIdeal.main_arg0)) (m ((c.tc : Thread Cert.Ffn1RefIdeal.nD Cert.Ffn1RefIdeal.τ).loc Cert.Ffn1RefIdeal.main_arg1)) (m ((c.tc : Thread Cert.Ffn1RefIdeal.nD Cert.Ffn1RefIdeal.τ).loc Cert.Ffn1RefIdeal.main_arg2)) (m ((c.tc : Thread Cert.Ffn1RefIdeal.nD Cert.Ffn1RefIdeal.τ).loc Cert.Ffn1RefIdeal.main_arg3)) (m ((c.tc : Thread Cert.Ffn1RefIdeal.nD Cert.Ffn1RefIdeal.τ).loc Cert.Ffn1RefIdeal.main_arg4))) = (fun _ => 1#1)

def Pre_Shift (m : (ℓ : Loc Cert.Shift.nD Cert.Shift.τ Cert.Shift.sig) → Buf (Elt Bits) ℓ) : Prop :=
  True

def Pre_ShiftIdeal (m : (ℓ : Loc Cert.ShiftIdeal.nD Cert.ShiftIdeal.τ Cert.ShiftIdeal.sig) → Buf (Elt Ideal) ℓ) : Prop :=
  True

def Pre_ShiftIdeal_finite_shift [hPre_finite_shift : Cert.Pre_finite_shift.Facts] (m : (ℓ : Loc Cert.ShiftIdeal.nD Cert.ShiftIdeal.τ Cert.ShiftIdeal.sig) → Buf (Elt Ideal) ℓ) : Prop :=
  ∀ c : Dev Cert.ShiftIdeal.nD,
    (Cert.Pre_finite_shift.fn (F := Ideal) (m ((c.tc : Thread Cert.ShiftIdeal.nD Cert.ShiftIdeal.τ).loc Cert.ShiftIdeal.main_arg0)) (m ((c.tc : Thread Cert.ShiftIdeal.nD Cert.ShiftIdeal.τ).loc Cert.ShiftIdeal.main_arg1)) (m ((c.tc : Thread Cert.ShiftIdeal.nD Cert.ShiftIdeal.τ).loc Cert.ShiftIdeal.main_arg2)) (m ((c.tc : Thread Cert.ShiftIdeal.nD Cert.ShiftIdeal.τ).loc Cert.ShiftIdeal.main_arg3))) = (fun _ => 1#1)

def Pre_ShiftRefIdeal (m : (ℓ : Loc Cert.ShiftRefIdeal.nD Cert.ShiftRefIdeal.τ Cert.ShiftRefIdeal.sig) → Buf (Elt Ideal) ℓ) : Prop :=
  True

def Pre_ShiftRefIdeal_finite_shift [hPre_finite_shift : Cert.Pre_finite_shift.Facts] (m : (ℓ : Loc Cert.ShiftRefIdeal.nD Cert.ShiftRefIdeal.τ Cert.ShiftRefIdeal.sig) → Buf (Elt Ideal) ℓ) : Prop :=
  ∀ c : Dev Cert.ShiftRefIdeal.nD,
    (Cert.Pre_finite_shift.fn (F := Ideal) (m ((c.tc : Thread Cert.ShiftRefIdeal.nD Cert.ShiftRefIdeal.τ).loc Cert.ShiftRefIdeal.main_arg0)) (m ((c.tc : Thread Cert.ShiftRefIdeal.nD Cert.ShiftRefIdeal.τ).loc Cert.ShiftRefIdeal.main_arg1)) (m ((c.tc : Thread Cert.ShiftRefIdeal.nD Cert.ShiftRefIdeal.τ).loc Cert.ShiftRefIdeal.main_arg2)) (m ((c.tc : Thread Cert.ShiftRefIdeal.nD Cert.ShiftRefIdeal.τ).loc Cert.ShiftRefIdeal.main_arg3))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2Ideal_finite_ffn2 [hPre_finite_ffn2 : Cert.Pre_finite_ffn2.Facts] (m : (ℓ : Loc Cert.Ffn2Ideal.nD Cert.Ffn2Ideal.τ Cert.Ffn2Ideal.sig) → Buf (Elt Ideal) ℓ) : Prop :=
  ∀ c : Dev Cert.Ffn2Ideal.nD,
    (Cert.Pre_finite_ffn2.fn (F := Ideal) (m ((c.tc : Thread Cert.Ffn2Ideal.nD Cert.Ffn2Ideal.τ).loc Cert.Ffn2Ideal.main_arg0)) (m ((c.tc : Thread Cert.Ffn2Ideal.nD Cert.Ffn2Ideal.τ).loc Cert.Ffn2Ideal.main_arg1)) (m ((c.tc : Thread Cert.Ffn2Ideal.nD Cert.Ffn2Ideal.τ).loc Cert.Ffn2Ideal.main_arg2)) (m ((c.tc : Thread Cert.Ffn2Ideal.nD Cert.Ffn2Ideal.τ).loc Cert.Ffn2Ideal.main_arg3))) = (fun _ => 1#1)

def Pre_Ffn2RefIdeal (m : (ℓ : Loc Cert.Ffn2RefIdeal.nD Cert.Ffn2RefIdeal.τ Cert.Ffn2RefIdeal.sig) → Buf (Elt Ideal) ℓ) : Prop :=
  True

def Pre_Ffn2RefIdeal_finite_ffn2 [hPre_finite_ffn2 : Cert.Pre_finite_ffn2.Facts] (m : (ℓ : Loc Cert.Ffn2RefIdeal.nD Cert.Ffn2RefIdeal.τ Cert.Ffn2RefIdeal.sig) → Buf (Elt Ideal) ℓ) : Prop :=
  ∀ c : Dev Cert.Ffn2RefIdeal.nD,
    (Cert.Pre_finite_ffn2.fn (F := Ideal) (m ((c.tc : Thread Cert.Ffn2RefIdeal.nD Cert.Ffn2RefIdeal.τ).loc Cert.Ffn2RefIdeal.main_arg0)) (m ((c.tc : Thread Cert.Ffn2RefIdeal.nD Cert.Ffn2RefIdeal.τ).loc Cert.Ffn2RefIdeal.main_arg1)) (m ((c.tc : Thread Cert.Ffn2RefIdeal.nD Cert.Ffn2RefIdeal.τ).loc Cert.Ffn2RefIdeal.main_arg2)) (m ((c.tc : Thread Cert.Ffn2RefIdeal.nD Cert.Ffn2RefIdeal.τ).loc Cert.Ffn2RefIdeal.main_arg3))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_finite_inproj [hPre_finite_inproj : Cert.Pre_finite_inproj.Facts] (m : (ℓ : Loc Cert.InProjIdeal.nD Cert.InProjIdeal.τ Cert.InProjIdeal.sig) → Buf (Elt Ideal) ℓ) : Prop :=
  ∀ c : Dev Cert.InProjIdeal.nD,
    (Cert.Pre_finite_inproj.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3)) (m ((c.tc : Thread Cert.InProjIdeal.nD Cert.InProjIdeal.τ).loc Cert.InProjIdeal.main_arg4)) (m ((c.tc : Thread Cert.InProjIdeal.nD Cert.InProjIdeal.τ).loc Cert.InProjIdeal.main_arg5)) (m ((c.tc : Thread Cert.InProjIdeal.nD Cert.InProjIdeal.τ).loc Cert.InProjIdeal.main_arg6))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_finite_inproj [hPre_finite_inproj : Cert.Pre_finite_inproj.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_finite_inproj.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3)) (m ((c.tc : Thread Cert.InProjRefIdeal.nD Cert.InProjRefIdeal.τ).loc Cert.InProjRefIdeal.main_arg4)) (m ((c.tc : Thread Cert.InProjRefIdeal.nD Cert.InProjRefIdeal.τ).loc Cert.InProjRefIdeal.main_arg5)) (m ((c.tc : Thread Cert.InProjRefIdeal.nD Cert.InProjRefIdeal.τ).loc Cert.InProjRefIdeal.main_arg6))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3)) (m ((c.tc : Thread Cert.LossIdeal.nD Cert.LossIdeal.τ).loc Cert.LossIdeal.main_arg4))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4))) = (fun _ => 1#1)

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvIdeal_finite_qkv [hPre_finite_qkv : Cert.Pre_finite_qkv.Facts] (m : (ℓ : Loc Cert.QkvIdeal.nD Cert.QkvIdeal.τ Cert.QkvIdeal.sig) → Buf (Elt Ideal) ℓ) : Prop :=
  ∀ c : Dev Cert.QkvIdeal.nD,
    (Cert.Pre_finite_qkv.fn (F := Ideal) (m ((c.tc : Thread Cert.QkvIdeal.nD Cert.QkvIdeal.τ).loc Cert.QkvIdeal.main_arg0)) (m ((c.tc : Thread Cert.QkvIdeal.nD Cert.QkvIdeal.τ).loc Cert.QkvIdeal.main_arg1)) (m ((c.tc : Thread Cert.QkvIdeal.nD Cert.QkvIdeal.τ).loc Cert.QkvIdeal.main_arg2)) (m ((c.tc : Thread Cert.QkvIdeal.nD Cert.QkvIdeal.τ).loc Cert.QkvIdeal.main_arg3)) (m ((c.tc : Thread Cert.QkvIdeal.nD Cert.QkvIdeal.τ).loc Cert.QkvIdeal.main_arg4)) (m ((c.tc : Thread Cert.QkvIdeal.nD Cert.QkvIdeal.τ).loc Cert.QkvIdeal.main_arg5)) (m ((c.tc : Thread Cert.QkvIdeal.nD Cert.QkvIdeal.τ).loc Cert.QkvIdeal.main_arg6)) (m ((c.tc : Thread Cert.QkvIdeal.nD Cert.QkvIdeal.τ).loc Cert.QkvIdeal.main_arg7)) (m ((c.tc : Thread Cert.QkvIdeal.nD Cert.QkvIdeal.τ).loc Cert.QkvIdeal.main_arg8)) (m ((c.tc : Thread Cert.QkvIdeal.nD Cert.QkvIdeal.τ).loc Cert.QkvIdeal.main_arg9))) = (fun _ => 1#1)

def Pre_QkvRefIdeal (m : (ℓ : Loc Cert.QkvRefIdeal.nD Cert.QkvRefIdeal.τ Cert.QkvRefIdeal.sig) → Buf (Elt Ideal) ℓ) : Prop :=
  True

def Pre_QkvRefIdeal_finite_qkv [hPre_finite_qkv : Cert.Pre_finite_qkv.Facts] (m : (ℓ : Loc Cert.QkvRefIdeal.nD Cert.QkvRefIdeal.τ Cert.QkvRefIdeal.sig) → Buf (Elt Ideal) ℓ) : Prop :=
  ∀ c : Dev Cert.QkvRefIdeal.nD,
    (Cert.Pre_finite_qkv.fn (F := Ideal) (m ((c.tc : Thread Cert.QkvRefIdeal.nD Cert.QkvRefIdeal.τ).loc Cert.QkvRefIdeal.main_arg0)) (m ((c.tc : Thread Cert.QkvRefIdeal.nD Cert.QkvRefIdeal.τ).loc Cert.QkvRefIdeal.main_arg1)) (m ((c.tc : Thread Cert.QkvRefIdeal.nD Cert.QkvRefIdeal.τ).loc Cert.QkvRefIdeal.main_arg2)) (m ((c.tc : Thread Cert.QkvRefIdeal.nD Cert.QkvRefIdeal.τ).loc Cert.QkvRefIdeal.main_arg3)) (m ((c.tc : Thread Cert.QkvRefIdeal.nD Cert.QkvRefIdeal.τ).loc Cert.QkvRefIdeal.main_arg4)) (m ((c.tc : Thread Cert.QkvRefIdeal.nD Cert.QkvRefIdeal.τ).loc Cert.QkvRefIdeal.main_arg5)) (m ((c.tc : Thread Cert.QkvRefIdeal.nD Cert.QkvRefIdeal.τ).loc Cert.QkvRefIdeal.main_arg6)) (m ((c.tc : Thread Cert.QkvRefIdeal.nD Cert.QkvRefIdeal.τ).loc Cert.QkvRefIdeal.main_arg7)) (m ((c.tc : Thread Cert.QkvRefIdeal.nD Cert.QkvRefIdeal.τ).loc Cert.QkvRefIdeal.main_arg8)) (m ((c.tc : Thread Cert.QkvRefIdeal.nD Cert.QkvRefIdeal.τ).loc Cert.QkvRefIdeal.main_arg9))) = (fun _ => 1#1)

def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdIdeal_finite_fwd [hPre_finite_fwd : Cert.Pre_finite_fwd.Facts] (m : (ℓ : Loc Cert.FwdIdeal.nD Cert.FwdIdeal.τ Cert.FwdIdeal.sig) → Buf (Elt Ideal) ℓ) : Prop :=
  ∀ c : Dev Cert.FwdIdeal.nD,
    (Cert.Pre_finite_fwd.fn (F := Ideal) (m ((c.tc : Thread Cert.FwdIdeal.nD Cert.FwdIdeal.τ).loc Cert.FwdIdeal.main_arg0)) (m ((c.tc : Thread Cert.FwdIdeal.nD Cert.FwdIdeal.τ).loc Cert.FwdIdeal.main_arg1)) (m ((c.tc : Thread Cert.FwdIdeal.nD Cert.FwdIdeal.τ).loc Cert.FwdIdeal.main_arg2))) = (fun _ => 1#1)

def Pre_FwdRefIdeal (m : (ℓ : Loc Cert.FwdRefIdeal.nD Cert.FwdRefIdeal.τ Cert.FwdRefIdeal.sig) → Buf (Elt Ideal) ℓ) : Prop :=
  True

def Pre_FwdRefIdeal_finite_fwd [hPre_finite_fwd : Cert.Pre_finite_fwd.Facts] (m : (ℓ : Loc Cert.FwdRefIdeal.nD Cert.FwdRefIdeal.τ Cert.FwdRefIdeal.sig) → Buf (Elt Ideal) ℓ) : Prop :=
  ∀ c : Dev Cert.FwdRefIdeal.nD,
    (Cert.Pre_finite_fwd.fn (F := Ideal) (m ((c.tc : Thread Cert.FwdRefIdeal.nD Cert.FwdRefIdeal.τ).loc Cert.FwdRefIdeal.main_arg0)) (m ((c.tc : Thread Cert.FwdRefIdeal.nD Cert.FwdRefIdeal.τ).loc Cert.FwdRefIdeal.main_arg1)) (m ((c.tc : Thread Cert.FwdRefIdeal.nD Cert.FwdRefIdeal.τ).loc Cert.FwdRefIdeal.main_arg2))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite_up [hPre_finite_up : Cert.Pre_finite_up.Facts] (m : (ℓ : Loc Cert.UpIdeal.nD Cert.UpIdeal.τ Cert.UpIdeal.sig) → Buf (Elt Ideal) ℓ) : Prop :=
  ∀ c : Dev Cert.UpIdeal.nD,
    (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_finite_up [hPre_finite_up : Cert.Pre_finite_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2))) = (fun _ => 1#1)

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_finite_down [hPre_finite_down : Cert.Pre_finite_down.Facts] (m : (ℓ : Loc Cert.DownIdeal.nD Cert.DownIdeal.τ Cert.DownIdeal.sig) → Buf (Elt Ideal) ℓ) : Prop :=
  ∀ c : Dev Cert.DownIdeal.nD,
    (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_finite_down [hPre_finite_down : Cert.Pre_finite_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_finite_prep [hPre_finite_prep : Cert.Pre_finite_prep.Facts] (m : (ℓ : Loc Cert.PrepIdeal.nD Cert.PrepIdeal.τ Cert.PrepIdeal.sig) → Buf (Elt Ideal) ℓ) : Prop :=
  ∀ c : Dev Cert.PrepIdeal.nD,
    (Cert.Pre_finite_prep.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4)) (m ((c.tc : Thread Cert.PrepIdeal.nD Cert.PrepIdeal.τ).loc Cert.PrepIdeal.main_arg5)) (m ((c.tc : Thread Cert.PrepIdeal.nD Cert.PrepIdeal.τ).loc Cert.PrepIdeal.main_arg6))) = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_finite_prep [hPre_finite_prep : Cert.Pre_finite_prep.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_finite_prep.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4)) (m ((c.tc : Thread Cert.PrepRefIdeal.nD Cert.PrepRefIdeal.τ).loc Cert.PrepRefIdeal.main_arg5)) (m ((c.tc : Thread Cert.PrepRefIdeal.nD Cert.PrepRefIdeal.τ).loc Cert.PrepRefIdeal.main_arg6))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_proj [hPre_finite_proj : Cert.Pre_finite_proj.Facts] (m : (ℓ : Loc Cert.ProjIdeal.nD Cert.ProjIdeal.τ Cert.ProjIdeal.sig) → Buf (Elt Ideal) ℓ) : Prop :=
  ∀ c : Dev Cert.ProjIdeal.nD,
    (Cert.Pre_finite_proj.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_proj [hPre_finite_proj : Cert.Pre_finite_proj.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_proj.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))) = (fun _ => 1#1)

def Pre_Wup (m : (ℓ : Loc Cert.Wup.nD Cert.Wup.τ Cert.Wup.sig) → Buf (Elt Bits) ℓ) : Prop :=
  True

def Pre_WupIdeal (m : (ℓ : Loc Cert.WupIdeal.nD Cert.WupIdeal.τ Cert.WupIdeal.sig) → Buf (Elt Ideal) ℓ) : Prop :=
  True

def Pre_WupIdeal_finite_wup [hPre_finite_wup : Cert.Pre_finite_wup.Facts] (m : (ℓ : Loc Cert.WupIdeal.nD Cert.WupIdeal.τ Cert.WupIdeal.sig) → Buf (Elt Ideal) ℓ) : Prop :=
  ∀ c : Dev Cert.WupIdeal.nD,
    (Cert.Pre_finite_wup.fn (F := Ideal) (m ((c.tc : Thread Cert.WupIdeal.nD Cert.WupIdeal.τ).loc Cert.WupIdeal.main_arg0)) (m ((c.tc : Thread Cert.WupIdeal.nD Cert.WupIdeal.τ).loc Cert.WupIdeal.main_arg1)) (m ((c.tc : Thread Cert.WupIdeal.nD Cert.WupIdeal.τ).loc Cert.WupIdeal.main_arg2))) = (fun _ => 1#1)

def Pre_WupRefIdeal (m : (ℓ : Loc Cert.WupRefIdeal.nD Cert.WupRefIdeal.τ Cert.WupRefIdeal.sig) → Buf (Elt Ideal) ℓ) : Prop :=
  True

def Pre_WupRefIdeal_finite_wup [hPre_finite_wup : Cert.Pre_finite_wup.Facts] (m : (ℓ : Loc Cert.WupRefIdeal.nD Cert.WupRefIdeal.τ Cert.WupRefIdeal.sig) → Buf (Elt Ideal) ℓ) : Prop :=
  ∀ c : Dev Cert.WupRefIdeal.nD,
    (Cert.Pre_finite_wup.fn (F := Ideal) (m ((c.tc : Thread Cert.WupRefIdeal.nD Cert.WupRefIdeal.τ).loc Cert.WupRefIdeal.main_arg0)) (m ((c.tc : Thread Cert.WupRefIdeal.nD Cert.WupRefIdeal.τ).loc Cert.WupRefIdeal.main_arg1)) (m ((c.tc : Thread Cert.WupRefIdeal.nD Cert.WupRefIdeal.τ).loc Cert.WupRefIdeal.main_arg2))) = (fun _ => 1#1)

def Pre_Wdown (m : (ℓ : Loc Cert.Wdown.nD Cert.Wdown.τ Cert.Wdown.sig) → Buf (Elt Bits) ℓ) : Prop :=
  True

def Pre_WdownIdeal (m : (ℓ : Loc Cert.WdownIdeal.nD Cert.WdownIdeal.τ Cert.WdownIdeal.sig) → Buf (Elt Ideal) ℓ) : Prop :=
  True

def Pre_WdownIdeal_finite_wdown [hPre_finite_wdown : Cert.Pre_finite_wdown.Facts] (m : (ℓ : Loc Cert.WdownIdeal.nD Cert.WdownIdeal.τ Cert.WdownIdeal.sig) → Buf (Elt Ideal) ℓ) : Prop :=
  ∀ c : Dev Cert.WdownIdeal.nD,
    (Cert.Pre_finite_wdown.fn (F := Ideal) (m ((c.tc : Thread Cert.WdownIdeal.nD Cert.WdownIdeal.τ).loc Cert.WdownIdeal.main_arg0)) (m ((c.tc : Thread Cert.WdownIdeal.nD Cert.WdownIdeal.τ).loc Cert.WdownIdeal.main_arg1))) = (fun _ => 1#1)

def Pre_WdownRefIdeal (m : (ℓ : Loc Cert.WdownRefIdeal.nD Cert.WdownRefIdeal.τ Cert.WdownRefIdeal.sig) → Buf (Elt Ideal) ℓ) : Prop :=
  True

def Pre_WdownRefIdeal_finite_wdown [hPre_finite_wdown : Cert.Pre_finite_wdown.Facts] (m : (ℓ : Loc Cert.WdownRefIdeal.nD Cert.WdownRefIdeal.τ Cert.WdownRefIdeal.sig) → Buf (Elt Ideal) ℓ) : Prop :=
  ∀ c : Dev Cert.WdownRefIdeal.nD,
    (Cert.Pre_finite_wdown.fn (F := Ideal) (m ((c.tc : Thread Cert.WdownRefIdeal.nD Cert.WdownRefIdeal.τ).loc Cert.WdownRefIdeal.main_arg0)) (m ((c.tc : Thread Cert.WdownRefIdeal.nD Cert.WdownRefIdeal.τ).loc Cert.WdownRefIdeal.main_arg1))) = (fun _ => 1#1)

def Pre_Adam (m : (ℓ : Loc Cert.Adam.nD Cert.Adam.τ Cert.Adam.sig) → Buf (Elt Bits) ℓ) : Prop :=
  True

def Pre_AdamIdeal (m : (ℓ : Loc Cert.AdamIdeal.nD Cert.AdamIdeal.τ Cert.AdamIdeal.sig) → Buf (Elt Ideal) ℓ) : Prop :=
  True

def Pre_AdamRefIdeal (m : (ℓ : Loc Cert.AdamRefIdeal.nD Cert.AdamRefIdeal.τ Cert.AdamRefIdeal.sig) → Buf (Elt Ideal) ℓ) : Prop :=
  True

def Pre_Sums (m : (ℓ : Loc Cert.Sums.nD Cert.Sums.τ Cert.Sums.sig) → Buf (Elt Bits) ℓ) : Prop :=
  True

def Pre_SumsIdeal (m : (ℓ : Loc Cert.SumsIdeal.nD Cert.SumsIdeal.τ Cert.SumsIdeal.sig) → Buf (Elt Ideal) ℓ) : Prop :=
  True

def Pre_SumsRefIdeal (m : (ℓ : Loc Cert.SumsRefIdeal.nD Cert.SumsRefIdeal.τ Cert.SumsRefIdeal.sig) → Buf (Elt Ideal) ℓ) : Prop :=
  True

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ r.2.sem = fun _ => 0)

def quiescent_Ffn1Ideal_pre_finite_ffn1 [hFfn1Ideal : Cert.Ffn1Ideal.Facts] [hPre_finite_ffn1 : Cert.Pre_finite_ffn1.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal_finite_ffn1 m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4))
      ∧ r.2.sem = fun _ => 0)

def quiescent_Ffn1RefIdeal_pre_finite_ffn1 [hFfn1RefIdeal : Cert.Ffn1RefIdeal.Facts] [hPre_finite_ffn1 : Cert.Pre_finite_ffn1.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal_finite_ffn1 m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4))
      ∧ r.2.sem = fun _ => 0)

def quiescent_Shift [hShift : Cert.Shift.Facts] : Prop :=
  ∀ (m : (ℓ : Loc Cert.Shift.nD Cert.Shift.τ Cert.Shift.sig) → Buf (Elt Bits) ℓ) (g : Dev Cert.Shift.nD → PrngReg), Pre_Shift m →
    θ_run (Cert.Shift.defs (F := Bits)) (onTc (τ := Cert.Shift.τ) (Cert.Shift.main (F := Bits))) ⟨m, fun _ => 0, g⟩ (fun r => (∀ c : Dev Cert.Shift.nD,
      r.2.mem ((c.tc : Thread Cert.Shift.nD Cert.Shift.τ).loc Cert.Shift.main_arg0) = m ((c.tc : Thread Cert.Shift.nD Cert.Shift.τ).loc Cert.Shift.main_arg0)
      ∧ r.2.mem ((c.tc : Thread Cert.Shift.nD Cert.Shift.τ).loc Cert.Shift.main_arg1) = m ((c.tc : Thread Cert.Shift.nD Cert.Shift.τ).loc Cert.Shift.main_arg1)
      ∧ r.2.mem ((c.tc : Thread Cert.Shift.nD Cert.Shift.τ).loc Cert.Shift.main_arg2) = m ((c.tc : Thread Cert.Shift.nD Cert.Shift.τ).loc Cert.Shift.main_arg2)
      ∧ r.2.mem ((c.tc : Thread Cert.Shift.nD Cert.Shift.τ).loc Cert.Shift.main_arg3) = m ((c.tc : Thread Cert.Shift.nD Cert.Shift.τ).loc Cert.Shift.main_arg3))
      ∧ r.2.sem = fun _ => 0)

def quiescent_ShiftIdeal [hShiftIdeal : Cert.ShiftIdeal.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
      ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2)
      ∧ r.2.mem ((c.tc : Thread Cert.ShiftIdeal.nD Cert.ShiftIdeal.τ).loc Cert.ShiftIdeal.main_arg3) = m ((c.tc : Thread Cert.ShiftIdeal.nD Cert.ShiftIdeal.τ).loc Cert.ShiftIdeal.main_arg3))
      ∧ r.2.sem = fun _ => 0)

def quiescent_ShiftIdeal_pre_finite_shift [hShiftIdeal : Cert.ShiftIdeal.Facts] [hPre_finite_shift : Cert.Pre_finite_shift.Facts] : Prop :=
  ∀ (m : (ℓ : Loc Cert.ShiftIdeal.nD Cert.ShiftIdeal.τ Cert.ShiftIdeal.sig) → Buf (Elt Ideal) ℓ) (g : Dev Cert.ShiftIdeal.nD → PrngReg), Pre_ShiftIdeal_finite_shift m →
    θ_run (Cert.ShiftIdeal.defs (F := Ideal)) (onTc (τ := Cert.ShiftIdeal.τ) (Cert.ShiftIdeal.main (F := Ideal))) ⟨m, fun _ => 0, g⟩ (fun r => (∀ c : Dev Cert.ShiftIdeal.nD,
      r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
      ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
      ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2)
      ∧ r.2.mem ((c.tc : Thread Cert.ShiftIdeal.nD Cert.ShiftIdeal.τ).loc Cert.ShiftIdeal.main_arg3) = m ((c.tc : Thread Cert.ShiftIdeal.nD Cert.ShiftIdeal.τ).loc Cert.ShiftIdeal.main_arg3))
      ∧ r.2.sem = fun _ => 0)

def quiescent_ShiftRefIdeal [hShiftRefIdeal : Cert.ShiftRefIdeal.Facts] : Prop :=
  ∀ (m : (ℓ : Loc Cert.ShiftRefIdeal.nD Cert.ShiftRefIdeal.τ Cert.ShiftRefIdeal.sig) → Buf (Elt Ideal) ℓ) (g : Dev Cert.ShiftRefIdeal.nD → PrngReg), Pre_ShiftRefIdeal m →
    θ_run (Cert.ShiftRefIdeal.defs (F := Ideal)) (onTc (τ := Cert.ShiftRefIdeal.τ) (Cert.ShiftRefIdeal.main (F := Ideal))) ⟨m, fun _ => 0, g⟩ (fun r => (∀ c : Dev Cert.ShiftRefIdeal.nD,
      r.2.mem ((c.tc : Thread Cert.ShiftRefIdeal.nD Cert.ShiftRefIdeal.τ).loc Cert.ShiftRefIdeal.main_arg0) = m ((c.tc : Thread Cert.ShiftRefIdeal.nD Cert.ShiftRefIdeal.τ).loc Cert.ShiftRefIdeal.main_arg0)
      ∧ r.2.mem ((c.tc : Thread Cert.ShiftRefIdeal.nD Cert.ShiftRefIdeal.τ).loc Cert.ShiftRefIdeal.main_arg1) = m ((c.tc : Thread Cert.ShiftRefIdeal.nD Cert.ShiftRefIdeal.τ).loc Cert.ShiftRefIdeal.main_arg1)
      ∧ r.2.mem ((c.tc : Thread Cert.ShiftRefIdeal.nD Cert.ShiftRefIdeal.τ).loc Cert.ShiftRefIdeal.main_arg2) = m ((c.tc : Thread Cert.ShiftRefIdeal.nD Cert.ShiftRefIdeal.τ).loc Cert.ShiftRefIdeal.main_arg2)
      ∧ r.2.mem ((c.tc : Thread Cert.ShiftRefIdeal.nD Cert.ShiftRefIdeal.τ).loc Cert.ShiftRefIdeal.main_arg3) = m ((c.tc : Thread Cert.ShiftRefIdeal.nD Cert.ShiftRefIdeal.τ).loc Cert.ShiftRefIdeal.main_arg3))
      ∧ r.2.sem = fun _ => 0)

def quiescent_ShiftRefIdeal_pre_finite_shift [hShiftRefIdeal : Cert.ShiftRefIdeal.Facts] [hPre_finite_shift : Cert.Pre_finite_shift.Facts] : Prop :=
  ∀ (m : (ℓ : Loc Cert.ShiftRefIdeal.nD Cert.ShiftRefIdeal.τ Cert.ShiftRefIdeal.sig) → Buf (Elt Ideal) ℓ) (g : Dev Cert.ShiftRefIdeal.nD → PrngReg), Pre_ShiftRefIdeal_finite_shift m →
    θ_run (Cert.ShiftRefIdeal.defs (F := Ideal)) (onTc (τ := Cert.ShiftRefIdeal.τ) (Cert.ShiftRefIdeal.main (F := Ideal))) ⟨m, fun _ => 0, g⟩ (fun r => (∀ c : Dev Cert.ShiftRefIdeal.nD,
      r.2.mem ((c.tc : Thread Cert.ShiftRefIdeal.nD Cert.ShiftRefIdeal.τ).loc Cert.ShiftRefIdeal.main_arg0) = m ((c.tc : Thread Cert.ShiftRefIdeal.nD Cert.ShiftRefIdeal.τ).loc Cert.ShiftRefIdeal.main_arg0)
      ∧ r.2.mem ((c.tc : Thread Cert.ShiftRefIdeal.nD Cert.ShiftRefIdeal.τ).loc Cert.ShiftRefIdeal.main_arg1) = m ((c.tc : Thread Cert.ShiftRefIdeal.nD Cert.ShiftRefIdeal.τ).loc Cert.ShiftRefIdeal.main_arg1)
      ∧ r.2.mem ((c.tc : Thread Cert.ShiftRefIdeal.nD Cert.ShiftRefIdeal.τ).loc Cert.ShiftRefIdeal.main_arg2) = m ((c.tc : Thread Cert.ShiftRefIdeal.nD Cert.ShiftRefIdeal.τ).loc Cert.ShiftRefIdeal.main_arg2)
      ∧ r.2.mem ((c.tc : Thread Cert.ShiftRefIdeal.nD Cert.ShiftRefIdeal.τ).loc Cert.ShiftRefIdeal.main_arg3) = m ((c.tc : Thread Cert.ShiftRefIdeal.nD Cert.ShiftRefIdeal.τ).loc Cert.ShiftRefIdeal.main_arg3))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3))
      ∧ r.2.sem = fun _ => 0)

def quiescent_Ffn2Ideal_pre_finite_ffn2 [hFfn2Ideal : Cert.Ffn2Ideal.Facts] [hPre_finite_ffn2 : Cert.Pre_finite_ffn2.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal_finite_ffn2 m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3))
      ∧ r.2.sem = fun _ => 0)

def quiescent_Ffn2RefIdeal_pre_finite_ffn2 [hFfn2RefIdeal : Cert.Ffn2RefIdeal.Facts] [hPre_finite_ffn2 : Cert.Pre_finite_ffn2.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal_finite_ffn2 m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjIdeal_pre_finite_inproj [hInProjIdeal : Cert.InProjIdeal.Facts] [hPre_finite_inproj : Cert.Pre_finite_inproj.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_finite_inproj m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_InProjRefIdeal_pre_finite_inproj [hInProjRefIdeal : Cert.InProjRefIdeal.Facts] [hPre_finite_inproj : Cert.Pre_finite_inproj.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_finite_inproj m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5)
      ∧ r.2.mem ((c.tc : Thread Cert.Qkv.nD Cert.Qkv.τ).loc Cert.Qkv.main_arg6) = m ((c.tc : Thread Cert.Qkv.nD Cert.Qkv.τ).loc Cert.Qkv.main_arg6)
      ∧ r.2.mem ((c.tc : Thread Cert.Qkv.nD Cert.Qkv.τ).loc Cert.Qkv.main_arg7) = m ((c.tc : Thread Cert.Qkv.nD Cert.Qkv.τ).loc Cert.Qkv.main_arg7)
      ∧ r.2.mem ((c.tc : Thread Cert.Qkv.nD Cert.Qkv.τ).loc Cert.Qkv.main_arg8) = m ((c.tc : Thread Cert.Qkv.nD Cert.Qkv.τ).loc Cert.Qkv.main_arg8)
      ∧ r.2.mem ((c.tc : Thread Cert.Qkv.nD Cert.Qkv.τ).loc Cert.Qkv.main_arg9) = m ((c.tc : Thread Cert.Qkv.nD Cert.Qkv.τ).loc Cert.Qkv.main_arg9))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ r.2.sem = fun _ => 0)

def quiescent_QkvIdeal_pre_finite_qkv [hQkvIdeal : Cert.QkvIdeal.Facts] [hPre_finite_qkv : Cert.Pre_finite_qkv.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal_finite_qkv m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
      ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
      ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
      ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
      ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9))
      ∧ r.2.sem = fun _ => 0)

def quiescent_QkvRefIdeal_pre_finite_qkv [hQkvRefIdeal : Cert.QkvRefIdeal.Facts] [hPre_finite_qkv : Cert.Pre_finite_qkv.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal_finite_qkv m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5)
      ∧ r.2.mem ((c.tc : Thread Cert.QkvRefIdeal.nD Cert.QkvRefIdeal.τ).loc Cert.QkvRefIdeal.main_arg6) = m ((c.tc : Thread Cert.QkvRefIdeal.nD Cert.QkvRefIdeal.τ).loc Cert.QkvRefIdeal.main_arg6)
      ∧ r.2.mem ((c.tc : Thread Cert.QkvRefIdeal.nD Cert.QkvRefIdeal.τ).loc Cert.QkvRefIdeal.main_arg7) = m ((c.tc : Thread Cert.QkvRefIdeal.nD Cert.QkvRefIdeal.τ).loc Cert.QkvRefIdeal.main_arg7)
      ∧ r.2.mem ((c.tc : Thread Cert.QkvRefIdeal.nD Cert.QkvRefIdeal.τ).loc Cert.QkvRefIdeal.main_arg8) = m ((c.tc : Thread Cert.QkvRefIdeal.nD Cert.QkvRefIdeal.τ).loc Cert.QkvRefIdeal.main_arg8)
      ∧ r.2.mem ((c.tc : Thread Cert.QkvRefIdeal.nD Cert.QkvRefIdeal.τ).loc Cert.QkvRefIdeal.main_arg9) = m ((c.tc : Thread Cert.QkvRefIdeal.nD Cert.QkvRefIdeal.τ).loc Cert.QkvRefIdeal.main_arg9))
      ∧ r.2.sem = fun _ => 0)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdIdeal_pre_finite_fwd [hFwdIdeal : Cert.FwdIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal_finite_fwd m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_FwdRefIdeal_pre_finite_fwd [hFwdRefIdeal : Cert.FwdRefIdeal.Facts] [hPre_finite_fwd : Cert.Pre_finite_fwd.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal_finite_fwd m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpIdeal_pre_finite_up [hUpIdeal : Cert.UpIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite_up m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_UpRefIdeal_pre_finite_up [hUpRefIdeal : Cert.UpRefIdeal.Facts] [hPre_finite_up : Cert.Pre_finite_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_finite_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownIdeal_pre_finite_down [hDownIdeal : Cert.DownIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal_finite_down m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_finite_down [hDownRefIdeal : Cert.DownRefIdeal.Facts] [hPre_finite_down : Cert.Pre_finite_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_finite_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4)
      ∧ r.2.mem ((c.tc : Thread Cert.Prep.nD Cert.Prep.τ).loc Cert.Prep.main_arg5) = m ((c.tc : Thread Cert.Prep.nD Cert.Prep.τ).loc Cert.Prep.main_arg5)
      ∧ r.2.mem ((c.tc : Thread Cert.Prep.nD Cert.Prep.τ).loc Cert.Prep.main_arg6) = m ((c.tc : Thread Cert.Prep.nD Cert.Prep.τ).loc Cert.Prep.main_arg6))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepIdeal_pre_finite_prep [hPrepIdeal : Cert.PrepIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_finite_prep m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
      ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
      ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def quiescent_PrepRefIdeal_pre_finite_prep [hPrepRefIdeal : Cert.PrepRefIdeal.Facts] [hPre_finite_prep : Cert.Pre_finite_prep.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_finite_prep m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4)
      ∧ r.2.mem ((c.tc : Thread Cert.PrepRefIdeal.nD Cert.PrepRefIdeal.τ).loc Cert.PrepRefIdeal.main_arg5) = m ((c.tc : Thread Cert.PrepRefIdeal.nD Cert.PrepRefIdeal.τ).loc Cert.PrepRefIdeal.main_arg5)
      ∧ r.2.mem ((c.tc : Thread Cert.PrepRefIdeal.nD Cert.PrepRefIdeal.τ).loc Cert.PrepRefIdeal.main_arg6) = m ((c.tc : Thread Cert.PrepRefIdeal.nD Cert.PrepRefIdeal.τ).loc Cert.PrepRefIdeal.main_arg6))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjIdeal_pre_finite_proj [hProjIdeal : Cert.ProjIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_proj m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_ProjRefIdeal_pre_finite_proj [hProjRefIdeal : Cert.ProjRefIdeal.Facts] [hPre_finite_proj : Cert.Pre_finite_proj.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_proj m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Wup [hWup : Cert.Wup.Facts] : Prop :=
  ∀ (m : (ℓ : Loc Cert.Wup.nD Cert.Wup.τ Cert.Wup.sig) → Buf (Elt Bits) ℓ) (g : Dev Cert.Wup.nD → PrngReg), Pre_Wup m →
    θ_run (Cert.Wup.defs (F := Bits)) (onTc (τ := Cert.Wup.τ) (Cert.Wup.main (F := Bits))) ⟨m, fun _ => 0, g⟩ (fun r => (∀ c : Dev Cert.Wup.nD,
      r.2.mem ((c.tc : Thread Cert.Wup.nD Cert.Wup.τ).loc Cert.Wup.main_arg0) = m ((c.tc : Thread Cert.Wup.nD Cert.Wup.τ).loc Cert.Wup.main_arg0)
      ∧ r.2.mem ((c.tc : Thread Cert.Wup.nD Cert.Wup.τ).loc Cert.Wup.main_arg1) = m ((c.tc : Thread Cert.Wup.nD Cert.Wup.τ).loc Cert.Wup.main_arg1)
      ∧ r.2.mem ((c.tc : Thread Cert.Wup.nD Cert.Wup.τ).loc Cert.Wup.main_arg2) = m ((c.tc : Thread Cert.Wup.nD Cert.Wup.τ).loc Cert.Wup.main_arg2))
      ∧ r.2.sem = fun _ => 0)

def quiescent_WupIdeal [hWupIdeal : Cert.WupIdeal.Facts] : Prop :=
  ∀ (m : (ℓ : Loc Cert.WupIdeal.nD Cert.WupIdeal.τ Cert.WupIdeal.sig) → Buf (Elt Ideal) ℓ) (g : Dev Cert.WupIdeal.nD → PrngReg), Pre_WupIdeal m →
    θ_run (Cert.WupIdeal.defs (F := Ideal)) (onTc (τ := Cert.WupIdeal.τ) (Cert.WupIdeal.main (F := Ideal))) ⟨m, fun _ => 0, g⟩ (fun r => (∀ c : Dev Cert.WupIdeal.nD,
      r.2.mem ((c.tc : Thread Cert.WupIdeal.nD Cert.WupIdeal.τ).loc Cert.WupIdeal.main_arg0) = m ((c.tc : Thread Cert.WupIdeal.nD Cert.WupIdeal.τ).loc Cert.WupIdeal.main_arg0)
      ∧ r.2.mem ((c.tc : Thread Cert.WupIdeal.nD Cert.WupIdeal.τ).loc Cert.WupIdeal.main_arg1) = m ((c.tc : Thread Cert.WupIdeal.nD Cert.WupIdeal.τ).loc Cert.WupIdeal.main_arg1)
      ∧ r.2.mem ((c.tc : Thread Cert.WupIdeal.nD Cert.WupIdeal.τ).loc Cert.WupIdeal.main_arg2) = m ((c.tc : Thread Cert.WupIdeal.nD Cert.WupIdeal.τ).loc Cert.WupIdeal.main_arg2))
      ∧ r.2.sem = fun _ => 0)

def quiescent_WupIdeal_pre_finite_wup [hWupIdeal : Cert.WupIdeal.Facts] [hPre_finite_wup : Cert.Pre_finite_wup.Facts] : Prop :=
  ∀ (m : (ℓ : Loc Cert.WupIdeal.nD Cert.WupIdeal.τ Cert.WupIdeal.sig) → Buf (Elt Ideal) ℓ) (g : Dev Cert.WupIdeal.nD → PrngReg), Pre_WupIdeal_finite_wup m →
    θ_run (Cert.WupIdeal.defs (F := Ideal)) (onTc (τ := Cert.WupIdeal.τ) (Cert.WupIdeal.main (F := Ideal))) ⟨m, fun _ => 0, g⟩ (fun r => (∀ c : Dev Cert.WupIdeal.nD,
      r.2.mem ((c.tc : Thread Cert.WupIdeal.nD Cert.WupIdeal.τ).loc Cert.WupIdeal.main_arg0) = m ((c.tc : Thread Cert.WupIdeal.nD Cert.WupIdeal.τ).loc Cert.WupIdeal.main_arg0)
      ∧ r.2.mem ((c.tc : Thread Cert.WupIdeal.nD Cert.WupIdeal.τ).loc Cert.WupIdeal.main_arg1) = m ((c.tc : Thread Cert.WupIdeal.nD Cert.WupIdeal.τ).loc Cert.WupIdeal.main_arg1)
      ∧ r.2.mem ((c.tc : Thread Cert.WupIdeal.nD Cert.WupIdeal.τ).loc Cert.WupIdeal.main_arg2) = m ((c.tc : Thread Cert.WupIdeal.nD Cert.WupIdeal.τ).loc Cert.WupIdeal.main_arg2))
      ∧ r.2.sem = fun _ => 0)

def quiescent_WupRefIdeal [hWupRefIdeal : Cert.WupRefIdeal.Facts] : Prop :=
  ∀ (m : (ℓ : Loc Cert.WupRefIdeal.nD Cert.WupRefIdeal.τ Cert.WupRefIdeal.sig) → Buf (Elt Ideal) ℓ) (g : Dev Cert.WupRefIdeal.nD → PrngReg), Pre_WupRefIdeal m →
    θ_run (Cert.WupRefIdeal.defs (F := Ideal)) (onTc (τ := Cert.WupRefIdeal.τ) (Cert.WupRefIdeal.main (F := Ideal))) ⟨m, fun _ => 0, g⟩ (fun r => (∀ c : Dev Cert.WupRefIdeal.nD,
      r.2.mem ((c.tc : Thread Cert.WupRefIdeal.nD Cert.WupRefIdeal.τ).loc Cert.WupRefIdeal.main_arg0) = m ((c.tc : Thread Cert.WupRefIdeal.nD Cert.WupRefIdeal.τ).loc Cert.WupRefIdeal.main_arg0)
      ∧ r.2.mem ((c.tc : Thread Cert.WupRefIdeal.nD Cert.WupRefIdeal.τ).loc Cert.WupRefIdeal.main_arg1) = m ((c.tc : Thread Cert.WupRefIdeal.nD Cert.WupRefIdeal.τ).loc Cert.WupRefIdeal.main_arg1)
      ∧ r.2.mem ((c.tc : Thread Cert.WupRefIdeal.nD Cert.WupRefIdeal.τ).loc Cert.WupRefIdeal.main_arg2) = m ((c.tc : Thread Cert.WupRefIdeal.nD Cert.WupRefIdeal.τ).loc Cert.WupRefIdeal.main_arg2))
      ∧ r.2.sem = fun _ => 0)

def quiescent_WupRefIdeal_pre_finite_wup [hWupRefIdeal : Cert.WupRefIdeal.Facts] [hPre_finite_wup : Cert.Pre_finite_wup.Facts] : Prop :=
  ∀ (m : (ℓ : Loc Cert.WupRefIdeal.nD Cert.WupRefIdeal.τ Cert.WupRefIdeal.sig) → Buf (Elt Ideal) ℓ) (g : Dev Cert.WupRefIdeal.nD → PrngReg), Pre_WupRefIdeal_finite_wup m →
    θ_run (Cert.WupRefIdeal.defs (F := Ideal)) (onTc (τ := Cert.WupRefIdeal.τ) (Cert.WupRefIdeal.main (F := Ideal))) ⟨m, fun _ => 0, g⟩ (fun r => (∀ c : Dev Cert.WupRefIdeal.nD,
      r.2.mem ((c.tc : Thread Cert.WupRefIdeal.nD Cert.WupRefIdeal.τ).loc Cert.WupRefIdeal.main_arg0) = m ((c.tc : Thread Cert.WupRefIdeal.nD Cert.WupRefIdeal.τ).loc Cert.WupRefIdeal.main_arg0)
      ∧ r.2.mem ((c.tc : Thread Cert.WupRefIdeal.nD Cert.WupRefIdeal.τ).loc Cert.WupRefIdeal.main_arg1) = m ((c.tc : Thread Cert.WupRefIdeal.nD Cert.WupRefIdeal.τ).loc Cert.WupRefIdeal.main_arg1)
      ∧ r.2.mem ((c.tc : Thread Cert.WupRefIdeal.nD Cert.WupRefIdeal.τ).loc Cert.WupRefIdeal.main_arg2) = m ((c.tc : Thread Cert.WupRefIdeal.nD Cert.WupRefIdeal.τ).loc Cert.WupRefIdeal.main_arg2))
      ∧ r.2.sem = fun _ => 0)

def quiescent_Wdown [hWdown : Cert.Wdown.Facts] : Prop :=
  ∀ (m : (ℓ : Loc Cert.Wdown.nD Cert.Wdown.τ Cert.Wdown.sig) → Buf (Elt Bits) ℓ) (g : Dev Cert.Wdown.nD → PrngReg), Pre_Wdown m →
    θ_run (Cert.Wdown.defs (F := Bits)) (onTc (τ := Cert.Wdown.τ) (Cert.Wdown.main (F := Bits))) ⟨m, fun _ => 0, g⟩ (fun r => (∀ c : Dev Cert.Wdown.nD,
      r.2.mem ((c.tc : Thread Cert.Wdown.nD Cert.Wdown.τ).loc Cert.Wdown.main_arg0) = m ((c.tc : Thread Cert.Wdown.nD Cert.Wdown.τ).loc Cert.Wdown.main_arg0)
      ∧ r.2.mem ((c.tc : Thread Cert.Wdown.nD Cert.Wdown.τ).loc Cert.Wdown.main_arg1) = m ((c.tc : Thread Cert.Wdown.nD Cert.Wdown.τ).loc Cert.Wdown.main_arg1))
      ∧ r.2.sem = fun _ => 0)

def quiescent_WdownIdeal [hWdownIdeal : Cert.WdownIdeal.Facts] : Prop :=
  ∀ (m : (ℓ : Loc Cert.WdownIdeal.nD Cert.WdownIdeal.τ Cert.WdownIdeal.sig) → Buf (Elt Ideal) ℓ) (g : Dev Cert.WdownIdeal.nD → PrngReg), Pre_WdownIdeal m →
    θ_run (Cert.WdownIdeal.defs (F := Ideal)) (onTc (τ := Cert.WdownIdeal.τ) (Cert.WdownIdeal.main (F := Ideal))) ⟨m, fun _ => 0, g⟩ (fun r => (∀ c : Dev Cert.WdownIdeal.nD,
      r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
      ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ r.2.sem = fun _ => 0)

def quiescent_WdownIdeal_pre_finite_wdown [hWdownIdeal : Cert.WdownIdeal.Facts] [hPre_finite_wdown : Cert.Pre_finite_wdown.Facts] : Prop :=
  ∀ (m : (ℓ : Loc Cert.WdownIdeal.nD Cert.WdownIdeal.τ Cert.WdownIdeal.sig) → Buf (Elt Ideal) ℓ) (g : Dev Cert.WdownIdeal.nD → PrngReg), Pre_WdownIdeal_finite_wdown m →
    θ_run (Cert.WdownIdeal.defs (F := Ideal)) (onTc (τ := Cert.WdownIdeal.τ) (Cert.WdownIdeal.main (F := Ideal))) ⟨m, fun _ => 0, g⟩ (fun r => (∀ c : Dev Cert.WdownIdeal.nD,
      r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
      ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ r.2.sem = fun _ => 0)

def quiescent_WdownRefIdeal [hWdownRefIdeal : Cert.WdownRefIdeal.Facts] : Prop :=
  ∀ (m : (ℓ : Loc Cert.WdownRefIdeal.nD Cert.WdownRefIdeal.τ Cert.WdownRefIdeal.sig) → Buf (Elt Ideal) ℓ) (g : Dev Cert.WdownRefIdeal.nD → PrngReg), Pre_WdownRefIdeal m →
    θ_run (Cert.WdownRefIdeal.defs (F := Ideal)) (onTc (τ := Cert.WdownRefIdeal.τ) (Cert.WdownRefIdeal.main (F := Ideal))) ⟨m, fun _ => 0, g⟩ (fun r => (∀ c : Dev Cert.WdownRefIdeal.nD,
      r.2.mem ((c.tc : Thread Cert.WdownRefIdeal.nD Cert.WdownRefIdeal.τ).loc Cert.WdownRefIdeal.main_arg0) = m ((c.tc : Thread Cert.WdownRefIdeal.nD Cert.WdownRefIdeal.τ).loc Cert.WdownRefIdeal.main_arg0)
      ∧ r.2.mem ((c.tc : Thread Cert.WdownRefIdeal.nD Cert.WdownRefIdeal.τ).loc Cert.WdownRefIdeal.main_arg1) = m ((c.tc : Thread Cert.WdownRefIdeal.nD Cert.WdownRefIdeal.τ).loc Cert.WdownRefIdeal.main_arg1))
      ∧ r.2.sem = fun _ => 0)

def quiescent_WdownRefIdeal_pre_finite_wdown [hWdownRefIdeal : Cert.WdownRefIdeal.Facts] [hPre_finite_wdown : Cert.Pre_finite_wdown.Facts] : Prop :=
  ∀ (m : (ℓ : Loc Cert.WdownRefIdeal.nD Cert.WdownRefIdeal.τ Cert.WdownRefIdeal.sig) → Buf (Elt Ideal) ℓ) (g : Dev Cert.WdownRefIdeal.nD → PrngReg), Pre_WdownRefIdeal_finite_wdown m →
    θ_run (Cert.WdownRefIdeal.defs (F := Ideal)) (onTc (τ := Cert.WdownRefIdeal.τ) (Cert.WdownRefIdeal.main (F := Ideal))) ⟨m, fun _ => 0, g⟩ (fun r => (∀ c : Dev Cert.WdownRefIdeal.nD,
      r.2.mem ((c.tc : Thread Cert.WdownRefIdeal.nD Cert.WdownRefIdeal.τ).loc Cert.WdownRefIdeal.main_arg0) = m ((c.tc : Thread Cert.WdownRefIdeal.nD Cert.WdownRefIdeal.τ).loc Cert.WdownRefIdeal.main_arg0)
      ∧ r.2.mem ((c.tc : Thread Cert.WdownRefIdeal.nD Cert.WdownRefIdeal.τ).loc Cert.WdownRefIdeal.main_arg1) = m ((c.tc : Thread Cert.WdownRefIdeal.nD Cert.WdownRefIdeal.τ).loc Cert.WdownRefIdeal.main_arg1))
      ∧ r.2.sem = fun _ => 0)

def quiescent_Adam [hAdam : Cert.Adam.Facts] : Prop :=
  ∀ (m : (ℓ : Loc Cert.Adam.nD Cert.Adam.τ Cert.Adam.sig) → Buf (Elt Bits) ℓ) (g : Dev Cert.Adam.nD → PrngReg), Pre_Adam m →
    θ_run (Cert.Adam.defs (F := Bits)) (onTc (τ := Cert.Adam.τ) (Cert.Adam.main (F := Bits))) ⟨m, fun _ => 0, g⟩ (fun r => (∀ c : Dev Cert.Adam.nD,
      r.2.mem ((c.tc : Thread Cert.Adam.nD Cert.Adam.τ).loc Cert.Adam.main_arg0) = m ((c.tc : Thread Cert.Adam.nD Cert.Adam.τ).loc Cert.Adam.main_arg0)
      ∧ r.2.mem ((c.tc : Thread Cert.Adam.nD Cert.Adam.τ).loc Cert.Adam.main_arg1) = m ((c.tc : Thread Cert.Adam.nD Cert.Adam.τ).loc Cert.Adam.main_arg1)
      ∧ r.2.mem ((c.tc : Thread Cert.Adam.nD Cert.Adam.τ).loc Cert.Adam.main_arg2) = m ((c.tc : Thread Cert.Adam.nD Cert.Adam.τ).loc Cert.Adam.main_arg2)
      ∧ r.2.mem ((c.tc : Thread Cert.Adam.nD Cert.Adam.τ).loc Cert.Adam.main_arg3) = m ((c.tc : Thread Cert.Adam.nD Cert.Adam.τ).loc Cert.Adam.main_arg3))
      ∧ r.2.sem = fun _ => 0)

def quiescent_AdamIdeal [hAdamIdeal : Cert.AdamIdeal.Facts] : Prop :=
  ∀ (m : (ℓ : Loc Cert.AdamIdeal.nD Cert.AdamIdeal.τ Cert.AdamIdeal.sig) → Buf (Elt Ideal) ℓ) (g : Dev Cert.AdamIdeal.nD → PrngReg), Pre_AdamIdeal m →
    θ_run (Cert.AdamIdeal.defs (F := Ideal)) (onTc (τ := Cert.AdamIdeal.τ) (Cert.AdamIdeal.main (F := Ideal))) ⟨m, fun _ => 0, g⟩ (fun r => (∀ c : Dev Cert.AdamIdeal.nD,
      r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
      ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
      ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
      ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ r.2.sem = fun _ => 0)

def quiescent_AdamRefIdeal [hAdamRefIdeal : Cert.AdamRefIdeal.Facts] : Prop :=
  ∀ (m : (ℓ : Loc Cert.AdamRefIdeal.nD Cert.AdamRefIdeal.τ Cert.AdamRefIdeal.sig) → Buf (Elt Ideal) ℓ) (g : Dev Cert.AdamRefIdeal.nD → PrngReg), Pre_AdamRefIdeal m →
    θ_run (Cert.AdamRefIdeal.defs (F := Ideal)) (onTc (τ := Cert.AdamRefIdeal.τ) (Cert.AdamRefIdeal.main (F := Ideal))) ⟨m, fun _ => 0, g⟩ (fun r => (∀ c : Dev Cert.AdamRefIdeal.nD,
      r.2.mem ((c.tc : Thread Cert.AdamRefIdeal.nD Cert.AdamRefIdeal.τ).loc Cert.AdamRefIdeal.main_arg0) = m ((c.tc : Thread Cert.AdamRefIdeal.nD Cert.AdamRefIdeal.τ).loc Cert.AdamRefIdeal.main_arg0)
      ∧ r.2.mem ((c.tc : Thread Cert.AdamRefIdeal.nD Cert.AdamRefIdeal.τ).loc Cert.AdamRefIdeal.main_arg1) = m ((c.tc : Thread Cert.AdamRefIdeal.nD Cert.AdamRefIdeal.τ).loc Cert.AdamRefIdeal.main_arg1)
      ∧ r.2.mem ((c.tc : Thread Cert.AdamRefIdeal.nD Cert.AdamRefIdeal.τ).loc Cert.AdamRefIdeal.main_arg2) = m ((c.tc : Thread Cert.AdamRefIdeal.nD Cert.AdamRefIdeal.τ).loc Cert.AdamRefIdeal.main_arg2)
      ∧ r.2.mem ((c.tc : Thread Cert.AdamRefIdeal.nD Cert.AdamRefIdeal.τ).loc Cert.AdamRefIdeal.main_arg3) = m ((c.tc : Thread Cert.AdamRefIdeal.nD Cert.AdamRefIdeal.τ).loc Cert.AdamRefIdeal.main_arg3))
      ∧ r.2.sem = fun _ => 0)

def quiescent_Sums [hSums : Cert.Sums.Facts] : Prop :=
  ∀ (m : (ℓ : Loc Cert.Sums.nD Cert.Sums.τ Cert.Sums.sig) → Buf (Elt Bits) ℓ) (g : Dev Cert.Sums.nD → PrngReg), Pre_Sums m →
    θ_run (Cert.Sums.defs (F := Bits)) (onTc (τ := Cert.Sums.τ) (Cert.Sums.main (F := Bits))) ⟨m, fun _ => 0, g⟩ (fun r => (∀ c : Dev Cert.Sums.nD,
      r.2.mem ((c.tc : Thread Cert.Sums.nD Cert.Sums.τ).loc Cert.Sums.main_arg0) = m ((c.tc : Thread Cert.Sums.nD Cert.Sums.τ).loc Cert.Sums.main_arg0))
      ∧ r.2.sem = fun _ => 0)

def quiescent_SumsIdeal [hSumsIdeal : Cert.SumsIdeal.Facts] : Prop :=
  ∀ (m : (ℓ : Loc Cert.SumsIdeal.nD Cert.SumsIdeal.τ Cert.SumsIdeal.sig) → Buf (Elt Ideal) ℓ) (g : Dev Cert.SumsIdeal.nD → PrngReg), Pre_SumsIdeal m →
    θ_run (Cert.SumsIdeal.defs (F := Ideal)) (onTc (τ := Cert.SumsIdeal.τ) (Cert.SumsIdeal.main (F := Ideal))) ⟨m, fun _ => 0, g⟩ (fun r => (∀ c : Dev Cert.SumsIdeal.nD,
      r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ r.2.sem = fun _ => 0)

def quiescent_SumsRefIdeal [hSumsRefIdeal : Cert.SumsRefIdeal.Facts] : Prop :=
  ∀ (m : (ℓ : Loc Cert.SumsRefIdeal.nD Cert.SumsRefIdeal.τ Cert.SumsRefIdeal.sig) → Buf (Elt Ideal) ℓ) (g : Dev Cert.SumsRefIdeal.nD → PrngReg), Pre_SumsRefIdeal m →
    θ_run (Cert.SumsRefIdeal.defs (F := Ideal)) (onTc (τ := Cert.SumsRefIdeal.τ) (Cert.SumsRefIdeal.main (F := Ideal))) ⟨m, fun _ => 0, g⟩ (fun r => (∀ c : Dev Cert.SumsRefIdeal.nD,
      r.2.mem ((c.tc : Thread Cert.SumsRefIdeal.nD Cert.SumsRefIdeal.τ).loc Cert.SumsRefIdeal.main_arg0) = m ((c.tc : Thread Cert.SumsRefIdeal.nD Cert.SumsRefIdeal.τ).loc Cert.SumsRefIdeal.main_arg0))
      ∧ r.2.sem = fun _ => 0)

def preserves_Ffn1_Ffn1Ideal : Prop :=
  True

def algebraic_Ffn1Ideal_Ffn1RefIdeal_pre_finite_ffn1 [hFfn1Ideal : Cert.Ffn1Ideal.Facts] [hFfn1RefIdeal : Cert.Ffn1RefIdeal.Facts] [hPre_finite_ffn1 : Cert.Pre_finite_ffn1.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal_finite_ffn1 m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)) →
    ∃ (v0 : (c : Dev Cert.Ffn1Ideal.nD) → Buf (Elt Ideal) ((c.tc : Thread Cert.Ffn1Ideal.nD Cert.Ffn1Ideal.τ).loc Cert.Ffn1Ideal.main_v3_0)) (v1 : (c : Dev Cert.Ffn1Ideal.nD) → Buf (Elt Ideal) ((c.tc : Thread Cert.Ffn1Ideal.nD Cert.Ffn1Ideal.τ).loc Cert.Ffn1Ideal.main_v3_1)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v3_0) = v0 c
          ∧ r.2.mem ((c.tc : Thread Cert.Ffn1Ideal.nD Cert.Ffn1Ideal.τ).loc Cert.Ffn1Ideal.main_v3_1) = v1 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v41) = v0 c
          ∧ r.2.mem ((c.tc : Thread Cert.Ffn1RefIdeal.nD Cert.Ffn1RefIdeal.τ).loc Cert.Ffn1RefIdeal.main_v42) = v1 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4))

def preserves_Shift_ShiftIdeal : Prop :=
  True

def algebraic_ShiftIdeal_ShiftRefIdeal_pre_finite_shift [hShiftIdeal : Cert.ShiftIdeal.Facts] [hShiftRefIdeal : Cert.ShiftRefIdeal.Facts] [hPre_finite_shift : Cert.Pre_finite_shift.Facts] : Prop :=
  ∀ (m : (ℓ : Loc Cert.ShiftIdeal.nD Cert.ShiftIdeal.τ Cert.ShiftIdeal.sig) → Buf (Elt Ideal) ℓ) (g : Dev Cert.ShiftIdeal.nD → PrngReg)
    (m' : (ℓ : Loc Cert.ShiftRefIdeal.nD Cert.ShiftRefIdeal.τ Cert.ShiftRefIdeal.sig) → Buf (Elt Ideal) ℓ) (g' : Dev Cert.ShiftRefIdeal.nD → PrngReg), Pre_ShiftIdeal_finite_shift m →
    (∀ c : Dev Cert.ShiftIdeal.nD,
      m' ((c.tc : Thread Cert.ShiftRefIdeal.nD Cert.ShiftRefIdeal.τ).loc Cert.ShiftRefIdeal.main_arg0) = m ((c.tc : Thread Cert.ShiftIdeal.nD Cert.ShiftIdeal.τ).loc Cert.ShiftIdeal.main_arg0)
      ∧ m' ((c.tc : Thread Cert.ShiftRefIdeal.nD Cert.ShiftRefIdeal.τ).loc Cert.ShiftRefIdeal.main_arg1) = m ((c.tc : Thread Cert.ShiftIdeal.nD Cert.ShiftIdeal.τ).loc Cert.ShiftIdeal.main_arg1)
      ∧ m' ((c.tc : Thread Cert.ShiftRefIdeal.nD Cert.ShiftRefIdeal.τ).loc Cert.ShiftRefIdeal.main_arg2) = m ((c.tc : Thread Cert.ShiftIdeal.nD Cert.ShiftIdeal.τ).loc Cert.ShiftIdeal.main_arg2)
      ∧ m' ((c.tc : Thread Cert.ShiftRefIdeal.nD Cert.ShiftRefIdeal.τ).loc Cert.ShiftRefIdeal.main_arg3) = m ((c.tc : Thread Cert.ShiftIdeal.nD Cert.ShiftIdeal.τ).loc Cert.ShiftIdeal.main_arg3)) →
    ∃ (v0 : (c : Dev Cert.ShiftIdeal.nD) → Buf (Elt Ideal) ((c.tc : Thread Cert.ShiftIdeal.nD Cert.ShiftIdeal.τ).loc Cert.ShiftIdeal.main_v45)),
      θ_run (Cert.ShiftIdeal.defs (F := Ideal)) (onTc (τ := Cert.ShiftIdeal.τ) (Cert.ShiftIdeal.main (F := Ideal))) ⟨m, fun _ => 0, g⟩ (fun r => ∀ c : Dev Cert.ShiftIdeal.nD,
          r.2.mem ((c.tc : Thread Cert.ShiftIdeal.nD Cert.ShiftIdeal.τ).loc Cert.ShiftIdeal.main_v45) = v0 c
          ∧ r.2.mem ((c.tc : Thread Cert.ShiftIdeal.nD Cert.ShiftIdeal.τ).loc Cert.ShiftIdeal.main_arg0) = m ((c.tc : Thread Cert.ShiftIdeal.nD Cert.ShiftIdeal.τ).loc Cert.ShiftIdeal.main_arg0)
          ∧ r.2.mem ((c.tc : Thread Cert.ShiftIdeal.nD Cert.ShiftIdeal.τ).loc Cert.ShiftIdeal.main_arg1) = m ((c.tc : Thread Cert.ShiftIdeal.nD Cert.ShiftIdeal.τ).loc Cert.ShiftIdeal.main_arg1)
          ∧ r.2.mem ((c.tc : Thread Cert.ShiftIdeal.nD Cert.ShiftIdeal.τ).loc Cert.ShiftIdeal.main_arg2) = m ((c.tc : Thread Cert.ShiftIdeal.nD Cert.ShiftIdeal.τ).loc Cert.ShiftIdeal.main_arg2)
          ∧ r.2.mem ((c.tc : Thread Cert.ShiftIdeal.nD Cert.ShiftIdeal.τ).loc Cert.ShiftIdeal.main_arg3) = m ((c.tc : Thread Cert.ShiftIdeal.nD Cert.ShiftIdeal.τ).loc Cert.ShiftIdeal.main_arg3))
      ∧ θ_run (Cert.ShiftRefIdeal.defs (F := Ideal)) (onTc (τ := Cert.ShiftRefIdeal.τ) (Cert.ShiftRefIdeal.main (F := Ideal))) ⟨m', fun _ => 0, g'⟩ (fun r => ∀ c : Dev Cert.ShiftRefIdeal.nD,
          r.2.mem ((c.tc : Thread Cert.ShiftRefIdeal.nD Cert.ShiftRefIdeal.τ).loc Cert.ShiftRefIdeal.main_v201) = v0 c
          ∧ r.2.mem ((c.tc : Thread Cert.ShiftRefIdeal.nD Cert.ShiftRefIdeal.τ).loc Cert.ShiftRefIdeal.main_arg0) = m' ((c.tc : Thread Cert.ShiftRefIdeal.nD Cert.ShiftRefIdeal.τ).loc Cert.ShiftRefIdeal.main_arg0)
          ∧ r.2.mem ((c.tc : Thread Cert.ShiftRefIdeal.nD Cert.ShiftRefIdeal.τ).loc Cert.ShiftRefIdeal.main_arg1) = m' ((c.tc : Thread Cert.ShiftRefIdeal.nD Cert.ShiftRefIdeal.τ).loc Cert.ShiftRefIdeal.main_arg1)
          ∧ r.2.mem ((c.tc : Thread Cert.ShiftRefIdeal.nD Cert.ShiftRefIdeal.τ).loc Cert.ShiftRefIdeal.main_arg2) = m' ((c.tc : Thread Cert.ShiftRefIdeal.nD Cert.ShiftRefIdeal.τ).loc Cert.ShiftRefIdeal.main_arg2)
          ∧ r.2.mem ((c.tc : Thread Cert.ShiftRefIdeal.nD Cert.ShiftRefIdeal.τ).loc Cert.ShiftRefIdeal.main_arg3) = m' ((c.tc : Thread Cert.ShiftRefIdeal.nD Cert.ShiftRefIdeal.τ).loc Cert.ShiftRefIdeal.main_arg3))

def preserves_Attn_AttnIdeal : Prop :=
  IdealRules.named_const.Statement Cert.AttnIdeal.κ "attn_scale_log2e" .f32 0x3E16C740#32 (((3424635 / 33554432) * (Real.log 2)⁻¹ : ℝ) : EReal)

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v53_0)) (v1 : (c : Dev Cert.AttnIdeal.nD) → Buf (Elt Ideal) ((c.tc : Thread Cert.AttnIdeal.nD Cert.AttnIdeal.τ).loc Cert.AttnIdeal.main_v53_1)) (v2 : (c : Dev Cert.AttnIdeal.nD) → Buf (Elt Ideal) ((c.tc : Thread Cert.AttnIdeal.nD Cert.AttnIdeal.τ).loc Cert.AttnIdeal.main_v53_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v53_0) = v0 c
          ∧ r.2.mem ((c.tc : Thread Cert.AttnIdeal.nD Cert.AttnIdeal.τ).loc Cert.AttnIdeal.main_v53_1) = v1 c
          ∧ r.2.mem ((c.tc : Thread Cert.AttnIdeal.nD Cert.AttnIdeal.τ).loc Cert.AttnIdeal.main_v53_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v65) = v0 c
          ∧ r.2.mem ((c.tc : Thread Cert.AttnRefIdeal.nD Cert.AttnRefIdeal.τ).loc Cert.AttnRefIdeal.main_v68) = v1 c
          ∧ r.2.mem ((c.tc : Thread Cert.AttnRefIdeal.nD Cert.AttnRefIdeal.τ).loc Cert.AttnRefIdeal.main_v71) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Ffn2_Ffn2Ideal : Prop :=
  True

def algebraic_Ffn2Ideal_Ffn2RefIdeal_pre_finite_ffn2 [hFfn2Ideal : Cert.Ffn2Ideal.Facts] [hFfn2RefIdeal : Cert.Ffn2RefIdeal.Facts] [hPre_finite_ffn2 : Cert.Pre_finite_ffn2.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal_finite_ffn2 m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)) →
    ∃ (v0 : (c : Dev Cert.Ffn2Ideal.nD) → Buf (Elt Ideal) ((c.tc : Thread Cert.Ffn2Ideal.nD Cert.Ffn2Ideal.τ).loc Cert.Ffn2Ideal.main_v11_0)) (v1 : (c : Dev Cert.Ffn2Ideal.nD) → Buf (Elt Ideal) ((c.tc : Thread Cert.Ffn2Ideal.nD Cert.Ffn2Ideal.τ).loc Cert.Ffn2Ideal.main_v11_1)) (v2 : (c : Dev Cert.Ffn2Ideal.nD) → Buf (Elt Ideal) ((c.tc : Thread Cert.Ffn2Ideal.nD Cert.Ffn2Ideal.τ).loc Cert.Ffn2Ideal.main_v11_2)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v11_0) = v0 c
          ∧ r.2.mem ((c.tc : Thread Cert.Ffn2Ideal.nD Cert.Ffn2Ideal.τ).loc Cert.Ffn2Ideal.main_v11_1) = v1 c
          ∧ r.2.mem ((c.tc : Thread Cert.Ffn2Ideal.nD Cert.Ffn2Ideal.τ).loc Cert.Ffn2Ideal.main_v11_2) = v2 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v48) = v0 c
          ∧ r.2.mem ((c.tc : Thread Cert.Ffn2RefIdeal.nD Cert.Ffn2RefIdeal.τ).loc Cert.Ffn2RefIdeal.main_v49) = v1 c
          ∧ r.2.mem ((c.tc : Thread Cert.Ffn2RefIdeal.nD Cert.Ffn2RefIdeal.τ).loc Cert.Ffn2RefIdeal.main_v50) = v2 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3))

def preserves_InProj_InProjIdeal : Prop :=
  True

def algebraic_InProjIdeal_InProjRefIdeal_pre_finite_inproj [hInProjIdeal : Cert.InProjIdeal.Facts] [hInProjRefIdeal : Cert.InProjRefIdeal.Facts] [hPre_finite_inproj : Cert.Pre_finite_inproj.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_finite_inproj m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v53_0)) (v1 : (c : Dev Cert.InProjIdeal.nD) → Buf (Elt Ideal) ((c.tc : Thread Cert.InProjIdeal.nD Cert.InProjIdeal.τ).loc Cert.InProjIdeal.main_v53_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v53_0) = v0 c
          ∧ r.2.mem ((c.tc : Thread Cert.InProjIdeal.nD Cert.InProjIdeal.τ).loc Cert.InProjIdeal.main_v53_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v79) = v0 c
          ∧ r.2.mem ((c.tc : Thread Cert.InProjRefIdeal.nD Cert.InProjRefIdeal.τ).loc Cert.InProjRefIdeal.main_v80) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v31) = v0 c
          ∧ r.2.mem ((c.tc : Thread Cert.LossRefIdeal.nD Cert.LossRefIdeal.τ).loc Cert.LossRefIdeal.main_v2) = v1 c
          ∧ r.2.mem ((c.tc : Thread Cert.LossRefIdeal.nD Cert.LossRefIdeal.τ).loc Cert.LossRefIdeal.main_v32) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Qkv_QkvIdeal : Prop :=
  True

def algebraic_QkvIdeal_QkvRefIdeal_pre_finite_qkv [hQkvIdeal : Cert.QkvIdeal.Facts] [hQkvRefIdeal : Cert.QkvRefIdeal.Facts] [hPre_finite_qkv : Cert.Pre_finite_qkv.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal_finite_qkv m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)
      ∧ m' ((c.tc : Thread Cert.QkvRefIdeal.nD Cert.QkvRefIdeal.τ).loc Cert.QkvRefIdeal.main_arg6) = m ((c.tc : Thread Cert.QkvIdeal.nD Cert.QkvIdeal.τ).loc Cert.QkvIdeal.main_arg6)
      ∧ m' ((c.tc : Thread Cert.QkvRefIdeal.nD Cert.QkvRefIdeal.τ).loc Cert.QkvRefIdeal.main_arg7) = m ((c.tc : Thread Cert.QkvIdeal.nD Cert.QkvIdeal.τ).loc Cert.QkvIdeal.main_arg7)
      ∧ m' ((c.tc : Thread Cert.QkvRefIdeal.nD Cert.QkvRefIdeal.τ).loc Cert.QkvRefIdeal.main_arg8) = m ((c.tc : Thread Cert.QkvIdeal.nD Cert.QkvIdeal.τ).loc Cert.QkvIdeal.main_arg8)
      ∧ m' ((c.tc : Thread Cert.QkvRefIdeal.nD Cert.QkvRefIdeal.τ).loc Cert.QkvRefIdeal.main_arg9) = m ((c.tc : Thread Cert.QkvIdeal.nD Cert.QkvIdeal.τ).loc Cert.QkvIdeal.main_arg9)) →
    ∃ (v0 : (c : Dev Cert.QkvIdeal.nD) → Buf (Elt Ideal) ((c.tc : Thread Cert.QkvIdeal.nD Cert.QkvIdeal.τ).loc Cert.QkvIdeal.main_v88)) (v1 : (c : Dev Cert.QkvIdeal.nD) → Buf (Elt Ideal) ((c.tc : Thread Cert.QkvIdeal.nD Cert.QkvIdeal.τ).loc Cert.QkvIdeal.main_v89)) (v2 : (c : Dev Cert.QkvIdeal.nD) → Buf (Elt Ideal) ((c.tc : Thread Cert.QkvIdeal.nD Cert.QkvIdeal.τ).loc Cert.QkvIdeal.main_v98)) (v3 : (c : Dev Cert.QkvIdeal.nD) → Buf (Elt Ideal) ((c.tc : Thread Cert.QkvIdeal.nD Cert.QkvIdeal.τ).loc Cert.QkvIdeal.main_v99)) (v4 : (c : Dev Cert.QkvIdeal.nD) → Buf (Elt Ideal) ((c.tc : Thread Cert.QkvIdeal.nD Cert.QkvIdeal.τ).loc Cert.QkvIdeal.main_v100)) (v5 : (c : Dev Cert.QkvIdeal.nD) → Buf (Elt Ideal) ((c.tc : Thread Cert.QkvIdeal.nD Cert.QkvIdeal.τ).loc Cert.QkvIdeal.main_v101)) (v6 : (c : Dev Cert.QkvIdeal.nD) → Buf (Elt Ideal) ((c.tc : Thread Cert.QkvIdeal.nD Cert.QkvIdeal.τ).loc Cert.QkvIdeal.main_v102)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v88) = v0 c
          ∧ r.2.mem ((c.tc : Thread Cert.QkvIdeal.nD Cert.QkvIdeal.τ).loc Cert.QkvIdeal.main_v89) = v1 c
          ∧ r.2.mem ((c.tc : Thread Cert.QkvIdeal.nD Cert.QkvIdeal.τ).loc Cert.QkvIdeal.main_v98) = v2 c
          ∧ r.2.mem ((c.tc : Thread Cert.QkvIdeal.nD Cert.QkvIdeal.τ).loc Cert.QkvIdeal.main_v99) = v3 c
          ∧ r.2.mem ((c.tc : Thread Cert.QkvIdeal.nD Cert.QkvIdeal.τ).loc Cert.QkvIdeal.main_v100) = v4 c
          ∧ r.2.mem ((c.tc : Thread Cert.QkvIdeal.nD Cert.QkvIdeal.τ).loc Cert.QkvIdeal.main_v101) = v5 c
          ∧ r.2.mem ((c.tc : Thread Cert.QkvIdeal.nD Cert.QkvIdeal.τ).loc Cert.QkvIdeal.main_v102) = v6 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5)
          ∧ r.2.mem ((c.tc : Thread Cert.QkvIdeal.nD Cert.QkvIdeal.τ).loc Cert.QkvIdeal.main_arg6) = m ((c.tc : Thread Cert.QkvIdeal.nD Cert.QkvIdeal.τ).loc Cert.QkvIdeal.main_arg6)
          ∧ r.2.mem ((c.tc : Thread Cert.QkvIdeal.nD Cert.QkvIdeal.τ).loc Cert.QkvIdeal.main_arg7) = m ((c.tc : Thread Cert.QkvIdeal.nD Cert.QkvIdeal.τ).loc Cert.QkvIdeal.main_arg7)
          ∧ r.2.mem ((c.tc : Thread Cert.QkvIdeal.nD Cert.QkvIdeal.τ).loc Cert.QkvIdeal.main_arg8) = m ((c.tc : Thread Cert.QkvIdeal.nD Cert.QkvIdeal.τ).loc Cert.QkvIdeal.main_arg8)
          ∧ r.2.mem ((c.tc : Thread Cert.QkvIdeal.nD Cert.QkvIdeal.τ).loc Cert.QkvIdeal.main_arg9) = m ((c.tc : Thread Cert.QkvIdeal.nD Cert.QkvIdeal.τ).loc Cert.QkvIdeal.main_arg9))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v162) = v0 c
          ∧ r.2.mem ((c.tc : Thread Cert.QkvRefIdeal.nD Cert.QkvRefIdeal.τ).loc Cert.QkvRefIdeal.main_v135) = v1 c
          ∧ r.2.mem ((c.tc : Thread Cert.QkvRefIdeal.nD Cert.QkvRefIdeal.τ).loc Cert.QkvRefIdeal.main_v94) = v2 c
          ∧ r.2.mem ((c.tc : Thread Cert.QkvRefIdeal.nD Cert.QkvRefIdeal.τ).loc Cert.QkvRefIdeal.main_v148) = v3 c
          ∧ r.2.mem ((c.tc : Thread Cert.QkvRefIdeal.nD Cert.QkvRefIdeal.τ).loc Cert.QkvRefIdeal.main_v141) = v4 c
          ∧ r.2.mem ((c.tc : Thread Cert.QkvRefIdeal.nD Cert.QkvRefIdeal.τ).loc Cert.QkvRefIdeal.main_v121) = v5 c
          ∧ r.2.mem ((c.tc : Thread Cert.QkvRefIdeal.nD Cert.QkvRefIdeal.τ).loc Cert.QkvRefIdeal.main_v114) = v6 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5)
          ∧ r.2.mem ((c.tc : Thread Cert.QkvRefIdeal.nD Cert.QkvRefIdeal.τ).loc Cert.QkvRefIdeal.main_arg6) = m' ((c.tc : Thread Cert.QkvRefIdeal.nD Cert.QkvRefIdeal.τ).loc Cert.QkvRefIdeal.main_arg6)
          ∧ r.2.mem ((c.tc : Thread Cert.QkvRefIdeal.nD Cert.QkvRefIdeal.τ).loc Cert.QkvRefIdeal.main_arg7) = m' ((c.tc : Thread Cert.QkvRefIdeal.nD Cert.QkvRefIdeal.τ).loc Cert.QkvRefIdeal.main_arg7)
          ∧ r.2.mem ((c.tc : Thread Cert.QkvRefIdeal.nD Cert.QkvRefIdeal.τ).loc Cert.QkvRefIdeal.main_arg8) = m' ((c.tc : Thread Cert.QkvRefIdeal.nD Cert.QkvRefIdeal.τ).loc Cert.QkvRefIdeal.main_arg8)
          ∧ r.2.mem ((c.tc : Thread Cert.QkvRefIdeal.nD Cert.QkvRefIdeal.τ).loc Cert.QkvRefIdeal.main_arg9) = m' ((c.tc : Thread Cert.QkvRefIdeal.nD Cert.QkvRefIdeal.τ).loc Cert.QkvRefIdeal.main_arg9))

def preserves_Fwd_FwdIdeal : Prop :=
  IdealRules.named_const.Statement Cert.FwdIdeal.κ "attn_scale_log2e" .f32 0x3E16C740#32 (((3424635 / 33554432) * (Real.log 2)⁻¹ : ℝ) : EReal)
  ∧ IdealRules.named_const.Statement Cert.FwdIdeal.κ "inv_log_2" .f32 0x3FB8AA3B#32 (((Real.log 2)⁻¹ : ℝ) : EReal)

def algebraic_FwdIdeal_FwdRefIdeal_pre_finite_fwd [hFwdIdeal : Cert.FwdIdeal.Facts] [hFwdRefIdeal : Cert.FwdRefIdeal.Facts] [hPre_finite_fwd : Cert.Pre_finite_fwd.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal_finite_fwd m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)) →
    ∃ (v0 : (c : Dev Cert.FwdIdeal.nD) → Buf (Elt Ideal) ((c.tc : Thread Cert.FwdIdeal.nD Cert.FwdIdeal.τ).loc Cert.FwdIdeal.main_v19_0)) (v1 : (c : Dev Cert.FwdIdeal.nD) → Buf (Elt Ideal) ((c.tc : Thread Cert.FwdIdeal.nD Cert.FwdIdeal.τ).loc Cert.FwdIdeal.main_v19_1)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v19_0) = v0 c
          ∧ r.2.mem ((c.tc : Thread Cert.FwdIdeal.nD Cert.FwdIdeal.τ).loc Cert.FwdIdeal.main_v19_1) = v1 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v34) = v0 c
          ∧ r.2.mem ((c.tc : Thread Cert.FwdRefIdeal.nD Cert.FwdRefIdeal.τ).loc Cert.FwdRefIdeal.main_v37) = v1 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2))

def preserves_Up_UpIdeal : Prop :=
  True

def algebraic_UpIdeal_UpRefIdeal_pre_finite_up [hUpIdeal : Cert.UpIdeal.Facts] [hUpRefIdeal : Cert.UpRefIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_finite_up m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v14) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal_pre_finite_down [hDownIdeal : Cert.DownIdeal.Facts] [hDownRefIdeal : Cert.DownRefIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_finite_down m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v3_0)) (v1 : (c : Dev Cert.DownIdeal.nD) → Buf (Elt Ideal) ((c.tc : Thread Cert.DownIdeal.nD Cert.DownIdeal.τ).loc Cert.DownIdeal.main_v3_1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3_0) = v0 c
          ∧ r.2.mem ((c.tc : Thread Cert.DownIdeal.nD Cert.DownIdeal.τ).loc Cert.DownIdeal.main_v3_1) = v1 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v16) = v0 c
          ∧ r.2.mem ((c.tc : Thread Cert.DownRefIdeal.nD Cert.DownRefIdeal.τ).loc Cert.DownRefIdeal.main_v2) = v1 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_Prep_PrepIdeal : Prop :=
  True

def algebraic_PrepIdeal_PrepRefIdeal_pre_finite_prep [hPrepIdeal : Cert.PrepIdeal.Facts] [hPrepRefIdeal : Cert.PrepRefIdeal.Facts] [hPre_finite_prep : Cert.Pre_finite_prep.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_finite_prep m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)
      ∧ m' ((c.tc : Thread Cert.PrepRefIdeal.nD Cert.PrepRefIdeal.τ).loc Cert.PrepRefIdeal.main_arg5) = m ((c.tc : Thread Cert.PrepIdeal.nD Cert.PrepIdeal.τ).loc Cert.PrepIdeal.main_arg5)
      ∧ m' ((c.tc : Thread Cert.PrepRefIdeal.nD Cert.PrepRefIdeal.τ).loc Cert.PrepRefIdeal.main_arg6) = m ((c.tc : Thread Cert.PrepIdeal.nD Cert.PrepIdeal.τ).loc Cert.PrepIdeal.main_arg6)) →
    ∃ (v0 : (c : Dev Cert.PrepIdeal.nD) → Buf (Elt Ideal) ((c.tc : Thread Cert.PrepIdeal.nD Cert.PrepIdeal.τ).loc Cert.PrepIdeal.main_v57_0)) (v1 : (c : Dev Cert.PrepIdeal.nD) → Buf (Elt Ideal) ((c.tc : Thread Cert.PrepIdeal.nD Cert.PrepIdeal.τ).loc Cert.PrepIdeal.main_v57_1)) (v2 : (c : Dev Cert.PrepIdeal.nD) → Buf (Elt Ideal) ((c.tc : Thread Cert.PrepIdeal.nD Cert.PrepIdeal.τ).loc Cert.PrepIdeal.main_v57_2)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v57_0) = v0 c
          ∧ r.2.mem ((c.tc : Thread Cert.PrepIdeal.nD Cert.PrepIdeal.τ).loc Cert.PrepIdeal.main_v57_1) = v1 c
          ∧ r.2.mem ((c.tc : Thread Cert.PrepIdeal.nD Cert.PrepIdeal.τ).loc Cert.PrepIdeal.main_v57_2) = v2 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4)
          ∧ r.2.mem ((c.tc : Thread Cert.PrepIdeal.nD Cert.PrepIdeal.τ).loc Cert.PrepIdeal.main_arg5) = m ((c.tc : Thread Cert.PrepIdeal.nD Cert.PrepIdeal.τ).loc Cert.PrepIdeal.main_arg5)
          ∧ r.2.mem ((c.tc : Thread Cert.PrepIdeal.nD Cert.PrepIdeal.τ).loc Cert.PrepIdeal.main_arg6) = m ((c.tc : Thread Cert.PrepIdeal.nD Cert.PrepIdeal.τ).loc Cert.PrepIdeal.main_arg6))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v80) = v0 c
          ∧ r.2.mem ((c.tc : Thread Cert.PrepRefIdeal.nD Cert.PrepRefIdeal.τ).loc Cert.PrepRefIdeal.main_v82) = v1 c
          ∧ r.2.mem ((c.tc : Thread Cert.PrepRefIdeal.nD Cert.PrepRefIdeal.τ).loc Cert.PrepRefIdeal.main_v84) = v2 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4)
          ∧ r.2.mem ((c.tc : Thread Cert.PrepRefIdeal.nD Cert.PrepRefIdeal.τ).loc Cert.PrepRefIdeal.main_arg5) = m' ((c.tc : Thread Cert.PrepRefIdeal.nD Cert.PrepRefIdeal.τ).loc Cert.PrepRefIdeal.main_arg5)
          ∧ r.2.mem ((c.tc : Thread Cert.PrepRefIdeal.nD Cert.PrepRefIdeal.τ).loc Cert.PrepRefIdeal.main_arg6) = m' ((c.tc : Thread Cert.PrepRefIdeal.nD Cert.PrepRefIdeal.τ).loc Cert.PrepRefIdeal.main_arg6))

def preserves_Proj_ProjIdeal : Prop :=
  True

def algebraic_ProjIdeal_ProjRefIdeal_pre_finite_proj [hProjIdeal : Cert.ProjIdeal.Facts] [hProjRefIdeal : Cert.ProjRefIdeal.Facts] [hPre_finite_proj : Cert.Pre_finite_proj.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_proj m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v23)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v23) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v32) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Wup_WupIdeal : Prop :=
  True

def algebraic_WupIdeal_WupRefIdeal_pre_finite_wup [hWupIdeal : Cert.WupIdeal.Facts] [hWupRefIdeal : Cert.WupRefIdeal.Facts] [hPre_finite_wup : Cert.Pre_finite_wup.Facts] : Prop :=
  ∀ (m : (ℓ : Loc Cert.WupIdeal.nD Cert.WupIdeal.τ Cert.WupIdeal.sig) → Buf (Elt Ideal) ℓ) (g : Dev Cert.WupIdeal.nD → PrngReg)
    (m' : (ℓ : Loc Cert.WupRefIdeal.nD Cert.WupRefIdeal.τ Cert.WupRefIdeal.sig) → Buf (Elt Ideal) ℓ) (g' : Dev Cert.WupRefIdeal.nD → PrngReg), Pre_WupIdeal_finite_wup m →
    (∀ c : Dev Cert.WupIdeal.nD,
      m' ((c.tc : Thread Cert.WupRefIdeal.nD Cert.WupRefIdeal.τ).loc Cert.WupRefIdeal.main_arg0) = m ((c.tc : Thread Cert.WupIdeal.nD Cert.WupIdeal.τ).loc Cert.WupIdeal.main_arg0)
      ∧ m' ((c.tc : Thread Cert.WupRefIdeal.nD Cert.WupRefIdeal.τ).loc Cert.WupRefIdeal.main_arg1) = m ((c.tc : Thread Cert.WupIdeal.nD Cert.WupIdeal.τ).loc Cert.WupIdeal.main_arg1)
      ∧ m' ((c.tc : Thread Cert.WupRefIdeal.nD Cert.WupRefIdeal.τ).loc Cert.WupRefIdeal.main_arg2) = m ((c.tc : Thread Cert.WupIdeal.nD Cert.WupIdeal.τ).loc Cert.WupIdeal.main_arg2)) →
    ∃ (v0 : (c : Dev Cert.WupIdeal.nD) → Buf (Elt Ideal) ((c.tc : Thread Cert.WupIdeal.nD Cert.WupIdeal.τ).loc Cert.WupIdeal.main_v2)),
      θ_run (Cert.WupIdeal.defs (F := Ideal)) (onTc (τ := Cert.WupIdeal.τ) (Cert.WupIdeal.main (F := Ideal))) ⟨m, fun _ => 0, g⟩ (fun r => ∀ c : Dev Cert.WupIdeal.nD,
          r.2.mem ((c.tc : Thread Cert.WupIdeal.nD Cert.WupIdeal.τ).loc Cert.WupIdeal.main_v2) = v0 c
          ∧ r.2.mem ((c.tc : Thread Cert.WupIdeal.nD Cert.WupIdeal.τ).loc Cert.WupIdeal.main_arg0) = m ((c.tc : Thread Cert.WupIdeal.nD Cert.WupIdeal.τ).loc Cert.WupIdeal.main_arg0)
          ∧ r.2.mem ((c.tc : Thread Cert.WupIdeal.nD Cert.WupIdeal.τ).loc Cert.WupIdeal.main_arg1) = m ((c.tc : Thread Cert.WupIdeal.nD Cert.WupIdeal.τ).loc Cert.WupIdeal.main_arg1)
          ∧ r.2.mem ((c.tc : Thread Cert.WupIdeal.nD Cert.WupIdeal.τ).loc Cert.WupIdeal.main_arg2) = m ((c.tc : Thread Cert.WupIdeal.nD Cert.WupIdeal.τ).loc Cert.WupIdeal.main_arg2))
      ∧ θ_run (Cert.WupRefIdeal.defs (F := Ideal)) (onTc (τ := Cert.WupRefIdeal.τ) (Cert.WupRefIdeal.main (F := Ideal))) ⟨m', fun _ => 0, g'⟩ (fun r => ∀ c : Dev Cert.WupRefIdeal.nD,
          r.2.mem ((c.tc : Thread Cert.WupRefIdeal.nD Cert.WupRefIdeal.τ).loc Cert.WupRefIdeal.main_v16) = v0 c
          ∧ r.2.mem ((c.tc : Thread Cert.WupRefIdeal.nD Cert.WupRefIdeal.τ).loc Cert.WupRefIdeal.main_arg0) = m' ((c.tc : Thread Cert.WupRefIdeal.nD Cert.WupRefIdeal.τ).loc Cert.WupRefIdeal.main_arg0)
          ∧ r.2.mem ((c.tc : Thread Cert.WupRefIdeal.nD Cert.WupRefIdeal.τ).loc Cert.WupRefIdeal.main_arg1) = m' ((c.tc : Thread Cert.WupRefIdeal.nD Cert.WupRefIdeal.τ).loc Cert.WupRefIdeal.main_arg1)
          ∧ r.2.mem ((c.tc : Thread Cert.WupRefIdeal.nD Cert.WupRefIdeal.τ).loc Cert.WupRefIdeal.main_arg2) = m' ((c.tc : Thread Cert.WupRefIdeal.nD Cert.WupRefIdeal.τ).loc Cert.WupRefIdeal.main_arg2))

def preserves_Wdown_WdownIdeal : Prop :=
  True

def algebraic_WdownIdeal_WdownRefIdeal_pre_finite_wdown [hWdownIdeal : Cert.WdownIdeal.Facts] [hWdownRefIdeal : Cert.WdownRefIdeal.Facts] [hPre_finite_wdown : Cert.Pre_finite_wdown.Facts] : Prop :=
  ∀ (m : (ℓ : Loc Cert.WdownIdeal.nD Cert.WdownIdeal.τ Cert.WdownIdeal.sig) → Buf (Elt Ideal) ℓ) (g : Dev Cert.WdownIdeal.nD → PrngReg)
    (m' : (ℓ : Loc Cert.WdownRefIdeal.nD Cert.WdownRefIdeal.τ Cert.WdownRefIdeal.sig) → Buf (Elt Ideal) ℓ) (g' : Dev Cert.WdownRefIdeal.nD → PrngReg), Pre_WdownIdeal_finite_wdown m →
    (∀ c : Dev Cert.WdownIdeal.nD,
      m' ((c.tc : Thread Cert.WdownRefIdeal.nD Cert.WdownRefIdeal.τ).loc Cert.WdownRefIdeal.main_arg0) = m ((c.tc : Thread Cert.WdownIdeal.nD Cert.WdownIdeal.τ).loc Cert.WdownIdeal.main_arg0)
      ∧ m' ((c.tc : Thread Cert.WdownRefIdeal.nD Cert.WdownRefIdeal.τ).loc Cert.WdownRefIdeal.main_arg1) = m ((c.tc : Thread Cert.WdownIdeal.nD Cert.WdownIdeal.τ).loc Cert.WdownIdeal.main_arg1)) →
    ∃ (v0 : (c : Dev Cert.WdownIdeal.nD) → Buf (Elt Ideal) ((c.tc : Thread Cert.WdownIdeal.nD Cert.WdownIdeal.τ).loc Cert.WdownIdeal.main_v2)),
      θ_run (Cert.WdownIdeal.defs (F := Ideal)) (onTc (τ := Cert.WdownIdeal.τ) (Cert.WdownIdeal.main (F := Ideal))) ⟨m, fun _ => 0, g⟩ (fun r => ∀ c : Dev Cert.WdownIdeal.nD,
          r.2.mem ((c.tc : Thread Cert.WdownIdeal.nD Cert.WdownIdeal.τ).loc Cert.WdownIdeal.main_v2) = v0 c
          ∧ r.2.mem ((c.tc : Thread Cert.WdownIdeal.nD Cert.WdownIdeal.τ).loc Cert.WdownIdeal.main_arg0) = m ((c.tc : Thread Cert.WdownIdeal.nD Cert.WdownIdeal.τ).loc Cert.WdownIdeal.main_arg0)
          ∧ r.2.mem ((c.tc : Thread Cert.WdownIdeal.nD Cert.WdownIdeal.τ).loc Cert.WdownIdeal.main_arg1) = m ((c.tc : Thread Cert.WdownIdeal.nD Cert.WdownIdeal.τ).loc Cert.WdownIdeal.main_arg1))
      ∧ θ_run (Cert.WdownRefIdeal.defs (F := Ideal)) (onTc (τ := Cert.WdownRefIdeal.τ) (Cert.WdownRefIdeal.main (F := Ideal))) ⟨m', fun _ => 0, g'⟩ (fun r => ∀ c : Dev Cert.WdownRefIdeal.nD,
          r.2.mem ((c.tc : Thread Cert.WdownRefIdeal.nD Cert.WdownRefIdeal.τ).loc Cert.WdownRefIdeal.main_v5) = v0 c
          ∧ r.2.mem ((c.tc : Thread Cert.WdownRefIdeal.nD Cert.WdownRefIdeal.τ).loc Cert.WdownRefIdeal.main_arg0) = m' ((c.tc : Thread Cert.WdownRefIdeal.nD Cert.WdownRefIdeal.τ).loc Cert.WdownRefIdeal.main_arg0)
          ∧ r.2.mem ((c.tc : Thread Cert.WdownRefIdeal.nD Cert.WdownRefIdeal.τ).loc Cert.WdownRefIdeal.main_arg1) = m' ((c.tc : Thread Cert.WdownRefIdeal.nD Cert.WdownRefIdeal.τ).loc Cert.WdownRefIdeal.main_arg1))

def preserves_Adam_AdamIdeal : Prop :=
  True

def algebraic_AdamIdeal_AdamRefIdeal [hAdamIdeal : Cert.AdamIdeal.Facts] [hAdamRefIdeal : Cert.AdamRefIdeal.Facts] : Prop :=
  ∀ (m : (ℓ : Loc Cert.AdamIdeal.nD Cert.AdamIdeal.τ Cert.AdamIdeal.sig) → Buf (Elt Ideal) ℓ) (g : Dev Cert.AdamIdeal.nD → PrngReg)
    (m' : (ℓ : Loc Cert.AdamRefIdeal.nD Cert.AdamRefIdeal.τ Cert.AdamRefIdeal.sig) → Buf (Elt Ideal) ℓ) (g' : Dev Cert.AdamRefIdeal.nD → PrngReg), Pre_AdamIdeal m →
    (∀ c : Dev Cert.AdamIdeal.nD,
      m' ((c.tc : Thread Cert.AdamRefIdeal.nD Cert.AdamRefIdeal.τ).loc Cert.AdamRefIdeal.main_arg0) = m ((c.tc : Thread Cert.AdamIdeal.nD Cert.AdamIdeal.τ).loc Cert.AdamIdeal.main_arg0)
      ∧ m' ((c.tc : Thread Cert.AdamRefIdeal.nD Cert.AdamRefIdeal.τ).loc Cert.AdamRefIdeal.main_arg1) = m ((c.tc : Thread Cert.AdamIdeal.nD Cert.AdamIdeal.τ).loc Cert.AdamIdeal.main_arg1)
      ∧ m' ((c.tc : Thread Cert.AdamRefIdeal.nD Cert.AdamRefIdeal.τ).loc Cert.AdamRefIdeal.main_arg2) = m ((c.tc : Thread Cert.AdamIdeal.nD Cert.AdamIdeal.τ).loc Cert.AdamIdeal.main_arg2)
      ∧ m' ((c.tc : Thread Cert.AdamRefIdeal.nD Cert.AdamRefIdeal.τ).loc Cert.AdamRefIdeal.main_arg3) = m ((c.tc : Thread Cert.AdamIdeal.nD Cert.AdamIdeal.τ).loc Cert.AdamIdeal.main_arg3)) →
    ∃ (v0 : (c : Dev Cert.AdamIdeal.nD) → Buf (Elt Ideal) ((c.tc : Thread Cert.AdamIdeal.nD Cert.AdamIdeal.τ).loc Cert.AdamIdeal.main_v4_0)) (v1 : (c : Dev Cert.AdamIdeal.nD) → Buf (Elt Ideal) ((c.tc : Thread Cert.AdamIdeal.nD Cert.AdamIdeal.τ).loc Cert.AdamIdeal.main_v4_1)) (v2 : (c : Dev Cert.AdamIdeal.nD) → Buf (Elt Ideal) ((c.tc : Thread Cert.AdamIdeal.nD Cert.AdamIdeal.τ).loc Cert.AdamIdeal.main_v4_2)),
      θ_run (Cert.AdamIdeal.defs (F := Ideal)) (onTc (τ := Cert.AdamIdeal.τ) (Cert.AdamIdeal.main (F := Ideal))) ⟨m, fun _ => 0, g⟩ (fun r => ∀ c : Dev Cert.AdamIdeal.nD,
          r.2.mem ((c.tc : Thread Cert.AdamIdeal.nD Cert.AdamIdeal.τ).loc Cert.AdamIdeal.main_v4_0) = v0 c
          ∧ r.2.mem ((c.tc : Thread Cert.AdamIdeal.nD Cert.AdamIdeal.τ).loc Cert.AdamIdeal.main_v4_1) = v1 c
          ∧ r.2.mem ((c.tc : Thread Cert.AdamIdeal.nD Cert.AdamIdeal.τ).loc Cert.AdamIdeal.main_v4_2) = v2 c
          ∧ r.2.mem ((c.tc : Thread Cert.AdamIdeal.nD Cert.AdamIdeal.τ).loc Cert.AdamIdeal.main_arg0) = m ((c.tc : Thread Cert.AdamIdeal.nD Cert.AdamIdeal.τ).loc Cert.AdamIdeal.main_arg0)
          ∧ r.2.mem ((c.tc : Thread Cert.AdamIdeal.nD Cert.AdamIdeal.τ).loc Cert.AdamIdeal.main_arg1) = m ((c.tc : Thread Cert.AdamIdeal.nD Cert.AdamIdeal.τ).loc Cert.AdamIdeal.main_arg1)
          ∧ r.2.mem ((c.tc : Thread Cert.AdamIdeal.nD Cert.AdamIdeal.τ).loc Cert.AdamIdeal.main_arg2) = m ((c.tc : Thread Cert.AdamIdeal.nD Cert.AdamIdeal.τ).loc Cert.AdamIdeal.main_arg2)
          ∧ r.2.mem ((c.tc : Thread Cert.AdamIdeal.nD Cert.AdamIdeal.τ).loc Cert.AdamIdeal.main_arg3) = m ((c.tc : Thread Cert.AdamIdeal.nD Cert.AdamIdeal.τ).loc Cert.AdamIdeal.main_arg3))
      ∧ θ_run (Cert.AdamRefIdeal.defs (F := Ideal)) (onTc (τ := Cert.AdamRefIdeal.τ) (Cert.AdamRefIdeal.main (F := Ideal))) ⟨m', fun _ => 0, g'⟩ (fun r => ∀ c : Dev Cert.AdamRefIdeal.nD,
          r.2.mem ((c.tc : Thread Cert.AdamRefIdeal.nD Cert.AdamRefIdeal.τ).loc Cert.AdamRefIdeal.main_v24) = v0 c
          ∧ r.2.mem ((c.tc : Thread Cert.AdamRefIdeal.nD Cert.AdamRefIdeal.τ).loc Cert.AdamRefIdeal.main_v25) = v1 c
          ∧ r.2.mem ((c.tc : Thread Cert.AdamRefIdeal.nD Cert.AdamRefIdeal.τ).loc Cert.AdamRefIdeal.main_v26) = v2 c
          ∧ r.2.mem ((c.tc : Thread Cert.AdamRefIdeal.nD Cert.AdamRefIdeal.τ).loc Cert.AdamRefIdeal.main_arg0) = m' ((c.tc : Thread Cert.AdamRefIdeal.nD Cert.AdamRefIdeal.τ).loc Cert.AdamRefIdeal.main_arg0)
          ∧ r.2.mem ((c.tc : Thread Cert.AdamRefIdeal.nD Cert.AdamRefIdeal.τ).loc Cert.AdamRefIdeal.main_arg1) = m' ((c.tc : Thread Cert.AdamRefIdeal.nD Cert.AdamRefIdeal.τ).loc Cert.AdamRefIdeal.main_arg1)
          ∧ r.2.mem ((c.tc : Thread Cert.AdamRefIdeal.nD Cert.AdamRefIdeal.τ).loc Cert.AdamRefIdeal.main_arg2) = m' ((c.tc : Thread Cert.AdamRefIdeal.nD Cert.AdamRefIdeal.τ).loc Cert.AdamRefIdeal.main_arg2)
          ∧ r.2.mem ((c.tc : Thread Cert.AdamRefIdeal.nD Cert.AdamRefIdeal.τ).loc Cert.AdamRefIdeal.main_arg3) = m' ((c.tc : Thread Cert.AdamRefIdeal.nD Cert.AdamRefIdeal.τ).loc Cert.AdamRefIdeal.main_arg3))

def preserves_Sums_SumsIdeal : Prop :=
  True

def algebraic_SumsIdeal_SumsRefIdeal [hSumsIdeal : Cert.SumsIdeal.Facts] [hSumsRefIdeal : Cert.SumsRefIdeal.Facts] : Prop :=
  ∀ (m : (ℓ : Loc Cert.SumsIdeal.nD Cert.SumsIdeal.τ Cert.SumsIdeal.sig) → Buf (Elt Ideal) ℓ) (g : Dev Cert.SumsIdeal.nD → PrngReg)
    (m' : (ℓ : Loc Cert.SumsRefIdeal.nD Cert.SumsRefIdeal.τ Cert.SumsRefIdeal.sig) → Buf (Elt Ideal) ℓ) (g' : Dev Cert.SumsRefIdeal.nD → PrngReg), Pre_SumsIdeal m →
    (∀ c : Dev Cert.SumsIdeal.nD,
      m' ((c.tc : Thread Cert.SumsRefIdeal.nD Cert.SumsRefIdeal.τ).loc Cert.SumsRefIdeal.main_arg0) = m ((c.tc : Thread Cert.SumsIdeal.nD Cert.SumsIdeal.τ).loc Cert.SumsIdeal.main_arg0)) →
    ∃ (v0 : (c : Dev Cert.SumsIdeal.nD) → Buf (Elt Ideal) ((c.tc : Thread Cert.SumsIdeal.nD Cert.SumsIdeal.τ).loc Cert.SumsIdeal.main_v0)),
      θ_run (Cert.SumsIdeal.defs (F := Ideal)) (onTc (τ := Cert.SumsIdeal.τ) (Cert.SumsIdeal.main (F := Ideal))) ⟨m, fun _ => 0, g⟩ (fun r => ∀ c : Dev Cert.SumsIdeal.nD,
          r.2.mem ((c.tc : Thread Cert.SumsIdeal.nD Cert.SumsIdeal.τ).loc Cert.SumsIdeal.main_v0) = v0 c
          ∧ r.2.mem ((c.tc : Thread Cert.SumsIdeal.nD Cert.SumsIdeal.τ).loc Cert.SumsIdeal.main_arg0) = m ((c.tc : Thread Cert.SumsIdeal.nD Cert.SumsIdeal.τ).loc Cert.SumsIdeal.main_arg0))
      ∧ θ_run (Cert.SumsRefIdeal.defs (F := Ideal)) (onTc (τ := Cert.SumsRefIdeal.τ) (Cert.SumsRefIdeal.main (F := Ideal))) ⟨m', fun _ => 0, g'⟩ (fun r => ∀ c : Dev Cert.SumsRefIdeal.nD,
          r.2.mem ((c.tc : Thread Cert.SumsRefIdeal.nD Cert.SumsRefIdeal.τ).loc Cert.SumsRefIdeal.main_v0) = v0 c
          ∧ r.2.mem ((c.tc : Thread Cert.SumsRefIdeal.nD Cert.SumsRefIdeal.τ).loc Cert.SumsRefIdeal.main_arg0) = m' ((c.tc : Thread Cert.SumsRefIdeal.nD Cert.SumsRefIdeal.τ).loc Cert.SumsRefIdeal.main_arg0))

def Claim : Prop :=
  ∃ (hFfn1 : Cert.Ffn1.Facts) (hFfn1Ideal : Cert.Ffn1Ideal.Facts) (hFfn1RefIdeal : Cert.Ffn1RefIdeal.Facts) (hShift : Cert.Shift.Facts) (hShiftIdeal : Cert.ShiftIdeal.Facts) (hShiftRefIdeal : Cert.ShiftRefIdeal.Facts) (hAttn : Cert.Attn.Facts) (hAttnIdeal : Cert.AttnIdeal.Facts) (hAttnRefIdeal : Cert.AttnRefIdeal.Facts) (hFfn2 : Cert.Ffn2.Facts) (hFfn2Ideal : Cert.Ffn2Ideal.Facts) (hFfn2RefIdeal : Cert.Ffn2RefIdeal.Facts) (hInProj : Cert.InProj.Facts) (hInProjIdeal : Cert.InProjIdeal.Facts) (hInProjRefIdeal : Cert.InProjRefIdeal.Facts) (hLoss : Cert.Loss.Facts) (hLossIdeal : Cert.LossIdeal.Facts) (hLossRefIdeal : Cert.LossRefIdeal.Facts) (hQkv : Cert.Qkv.Facts) (hQkvIdeal : Cert.QkvIdeal.Facts) (hQkvRefIdeal : Cert.QkvRefIdeal.Facts) (hFwd : Cert.Fwd.Facts) (hFwdIdeal : Cert.FwdIdeal.Facts) (hFwdRefIdeal : Cert.FwdRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hPrep : Cert.Prep.Facts) (hPrepIdeal : Cert.PrepIdeal.Facts) (hPrepRefIdeal : Cert.PrepRefIdeal.Facts) (hProj : Cert.Proj.Facts) (hProjIdeal : Cert.ProjIdeal.Facts) (hProjRefIdeal : Cert.ProjRefIdeal.Facts) (hWup : Cert.Wup.Facts) (hWupIdeal : Cert.WupIdeal.Facts) (hWupRefIdeal : Cert.WupRefIdeal.Facts) (hWdown : Cert.Wdown.Facts) (hWdownIdeal : Cert.WdownIdeal.Facts) (hWdownRefIdeal : Cert.WdownRefIdeal.Facts) (hAdam : Cert.Adam.Facts) (hAdamIdeal : Cert.AdamIdeal.Facts) (hAdamRefIdeal : Cert.AdamRefIdeal.Facts) (hSums : Cert.Sums.Facts) (hSumsIdeal : Cert.SumsIdeal.Facts) (hSumsRefIdeal : Cert.SumsRefIdeal.Facts) (hPre_finite_ffn1 : Cert.Pre_finite_ffn1.Facts) (hPre_finite_shift : Cert.Pre_finite_shift.Facts) (hPre_finite_attn : Cert.Pre_finite_attn.Facts) (hPre_finite_ffn2 : Cert.Pre_finite_ffn2.Facts) (hPre_finite_inproj : Cert.Pre_finite_inproj.Facts) (hPre_finite_loss : Cert.Pre_finite_loss.Facts) (hPre_finite_qkv : Cert.Pre_finite_qkv.Facts) (hPre_finite_fwd : Cert.Pre_finite_fwd.Facts) (hPre_finite_up : Cert.Pre_finite_up.Facts) (hPre_finite_down : Cert.Pre_finite_down.Facts) (hPre_finite_prep : Cert.Pre_finite_prep.Facts) (hPre_finite_proj : Cert.Pre_finite_proj.Facts) (hPre_finite_wup : Cert.Pre_finite_wup.Facts) (hPre_finite_wdown : Cert.Pre_finite_wdown.Facts),
    quiescent_Ffn1 (hFfn1 := hFfn1)
    ∧ quiescent_Ffn1Ideal (hFfn1Ideal := hFfn1Ideal)
    ∧ quiescent_Ffn1Ideal_pre_finite_ffn1 (hFfn1Ideal := hFfn1Ideal) (hPre_finite_ffn1 := hPre_finite_ffn1)
    ∧ quiescent_Ffn1RefIdeal (hFfn1RefIdeal := hFfn1RefIdeal)
    ∧ quiescent_Ffn1RefIdeal_pre_finite_ffn1 (hFfn1RefIdeal := hFfn1RefIdeal) (hPre_finite_ffn1 := hPre_finite_ffn1)
    ∧ quiescent_Shift (hShift := hShift)
    ∧ quiescent_ShiftIdeal (hShiftIdeal := hShiftIdeal)
    ∧ quiescent_ShiftIdeal_pre_finite_shift (hShiftIdeal := hShiftIdeal) (hPre_finite_shift := hPre_finite_shift)
    ∧ quiescent_ShiftRefIdeal (hShiftRefIdeal := hShiftRefIdeal)
    ∧ quiescent_ShiftRefIdeal_pre_finite_shift (hShiftRefIdeal := hShiftRefIdeal) (hPre_finite_shift := hPre_finite_shift)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_Ffn2 (hFfn2 := hFfn2)
    ∧ quiescent_Ffn2Ideal (hFfn2Ideal := hFfn2Ideal)
    ∧ quiescent_Ffn2Ideal_pre_finite_ffn2 (hFfn2Ideal := hFfn2Ideal) (hPre_finite_ffn2 := hPre_finite_ffn2)
    ∧ quiescent_Ffn2RefIdeal (hFfn2RefIdeal := hFfn2RefIdeal)
    ∧ quiescent_Ffn2RefIdeal_pre_finite_ffn2 (hFfn2RefIdeal := hFfn2RefIdeal) (hPre_finite_ffn2 := hPre_finite_ffn2)
    ∧ quiescent_InProj (hInProj := hInProj)
    ∧ quiescent_InProjIdeal (hInProjIdeal := hInProjIdeal)
    ∧ quiescent_InProjIdeal_pre_finite_inproj (hInProjIdeal := hInProjIdeal) (hPre_finite_inproj := hPre_finite_inproj)
    ∧ quiescent_InProjRefIdeal (hInProjRefIdeal := hInProjRefIdeal)
    ∧ quiescent_InProjRefIdeal_pre_finite_inproj (hInProjRefIdeal := hInProjRefIdeal) (hPre_finite_inproj := hPre_finite_inproj)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Qkv (hQkv := hQkv)
    ∧ quiescent_QkvIdeal (hQkvIdeal := hQkvIdeal)
    ∧ quiescent_QkvIdeal_pre_finite_qkv (hQkvIdeal := hQkvIdeal) (hPre_finite_qkv := hPre_finite_qkv)
    ∧ quiescent_QkvRefIdeal (hQkvRefIdeal := hQkvRefIdeal)
    ∧ quiescent_QkvRefIdeal_pre_finite_qkv (hQkvRefIdeal := hQkvRefIdeal) (hPre_finite_qkv := hPre_finite_qkv)
    ∧ quiescent_Fwd (hFwd := hFwd)
    ∧ quiescent_FwdIdeal (hFwdIdeal := hFwdIdeal)
    ∧ quiescent_FwdIdeal_pre_finite_fwd (hFwdIdeal := hFwdIdeal) (hPre_finite_fwd := hPre_finite_fwd)
    ∧ quiescent_FwdRefIdeal (hFwdRefIdeal := hFwdRefIdeal)
    ∧ quiescent_FwdRefIdeal_pre_finite_fwd (hFwdRefIdeal := hFwdRefIdeal) (hPre_finite_fwd := hPre_finite_fwd)
    ∧ quiescent_Up (hUp := hUp)
    ∧ quiescent_UpIdeal (hUpIdeal := hUpIdeal)
    ∧ quiescent_UpIdeal_pre_finite_up (hUpIdeal := hUpIdeal) (hPre_finite_up := hPre_finite_up)
    ∧ quiescent_UpRefIdeal (hUpRefIdeal := hUpRefIdeal)
    ∧ quiescent_UpRefIdeal_pre_finite_up (hUpRefIdeal := hUpRefIdeal) (hPre_finite_up := hPre_finite_up)
    ∧ quiescent_Down (hDown := hDown)
    ∧ quiescent_DownIdeal (hDownIdeal := hDownIdeal)
    ∧ quiescent_DownIdeal_pre_finite_down (hDownIdeal := hDownIdeal) (hPre_finite_down := hPre_finite_down)
    ∧ quiescent_DownRefIdeal (hDownRefIdeal := hDownRefIdeal)
    ∧ quiescent_DownRefIdeal_pre_finite_down (hDownRefIdeal := hDownRefIdeal) (hPre_finite_down := hPre_finite_down)
    ∧ quiescent_Prep (hPrep := hPrep)
    ∧ quiescent_PrepIdeal (hPrepIdeal := hPrepIdeal)
    ∧ quiescent_PrepIdeal_pre_finite_prep (hPrepIdeal := hPrepIdeal) (hPre_finite_prep := hPre_finite_prep)
    ∧ quiescent_PrepRefIdeal (hPrepRefIdeal := hPrepRefIdeal)
    ∧ quiescent_PrepRefIdeal_pre_finite_prep (hPrepRefIdeal := hPrepRefIdeal) (hPre_finite_prep := hPre_finite_prep)
    ∧ quiescent_Proj (hProj := hProj)
    ∧ quiescent_ProjIdeal (hProjIdeal := hProjIdeal)
    ∧ quiescent_ProjIdeal_pre_finite_proj (hProjIdeal := hProjIdeal) (hPre_finite_proj := hPre_finite_proj)
    ∧ quiescent_ProjRefIdeal (hProjRefIdeal := hProjRefIdeal)
    ∧ quiescent_ProjRefIdeal_pre_finite_proj (hProjRefIdeal := hProjRefIdeal) (hPre_finite_proj := hPre_finite_proj)
    ∧ quiescent_Wup (hWup := hWup)
    ∧ quiescent_WupIdeal (hWupIdeal := hWupIdeal)
    ∧ quiescent_WupIdeal_pre_finite_wup (hWupIdeal := hWupIdeal) (hPre_finite_wup := hPre_finite_wup)
    ∧ quiescent_WupRefIdeal (hWupRefIdeal := hWupRefIdeal)
    ∧ quiescent_WupRefIdeal_pre_finite_wup (hWupRefIdeal := hWupRefIdeal) (hPre_finite_wup := hPre_finite_wup)
    ∧ quiescent_Wdown (hWdown := hWdown)
    ∧ quiescent_WdownIdeal (hWdownIdeal := hWdownIdeal)
    ∧ quiescent_WdownIdeal_pre_finite_wdown (hWdownIdeal := hWdownIdeal) (hPre_finite_wdown := hPre_finite_wdown)
    ∧ quiescent_WdownRefIdeal (hWdownRefIdeal := hWdownRefIdeal)
    ∧ quiescent_WdownRefIdeal_pre_finite_wdown (hWdownRefIdeal := hWdownRefIdeal) (hPre_finite_wdown := hPre_finite_wdown)
    ∧ quiescent_Adam (hAdam := hAdam)
    ∧ quiescent_AdamIdeal (hAdamIdeal := hAdamIdeal)
    ∧ quiescent_AdamRefIdeal (hAdamRefIdeal := hAdamRefIdeal)
    ∧ quiescent_Sums (hSums := hSums)
    ∧ quiescent_SumsIdeal (hSumsIdeal := hSumsIdeal)
    ∧ quiescent_SumsRefIdeal (hSumsRefIdeal := hSumsRefIdeal)
    ∧ preserves_Ffn1_Ffn1Ideal
    ∧ algebraic_Ffn1Ideal_Ffn1RefIdeal_pre_finite_ffn1 (hFfn1Ideal := hFfn1Ideal) (hFfn1RefIdeal := hFfn1RefIdeal) (hPre_finite_ffn1 := hPre_finite_ffn1)
    ∧ preserves_Shift_ShiftIdeal
    ∧ algebraic_ShiftIdeal_ShiftRefIdeal_pre_finite_shift (hShiftIdeal := hShiftIdeal) (hShiftRefIdeal := hShiftRefIdeal) (hPre_finite_shift := hPre_finite_shift)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_Ffn2_Ffn2Ideal
    ∧ algebraic_Ffn2Ideal_Ffn2RefIdeal_pre_finite_ffn2 (hFfn2Ideal := hFfn2Ideal) (hFfn2RefIdeal := hFfn2RefIdeal) (hPre_finite_ffn2 := hPre_finite_ffn2)
    ∧ preserves_InProj_InProjIdeal
    ∧ algebraic_InProjIdeal_InProjRefIdeal_pre_finite_inproj (hInProjIdeal := hInProjIdeal) (hInProjRefIdeal := hInProjRefIdeal) (hPre_finite_inproj := hPre_finite_inproj)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Qkv_QkvIdeal
    ∧ algebraic_QkvIdeal_QkvRefIdeal_pre_finite_qkv (hQkvIdeal := hQkvIdeal) (hQkvRefIdeal := hQkvRefIdeal) (hPre_finite_qkv := hPre_finite_qkv)
    ∧ preserves_Fwd_FwdIdeal
    ∧ algebraic_FwdIdeal_FwdRefIdeal_pre_finite_fwd (hFwdIdeal := hFwdIdeal) (hFwdRefIdeal := hFwdRefIdeal) (hPre_finite_fwd := hPre_finite_fwd)
    ∧ preserves_Up_UpIdeal
    ∧ algebraic_UpIdeal_UpRefIdeal_pre_finite_up (hUpIdeal := hUpIdeal) (hUpRefIdeal := hUpRefIdeal) (hPre_finite_up := hPre_finite_up)
    ∧ preserves_Down_DownIdeal
    ∧ algebraic_DownIdeal_DownRefIdeal_pre_finite_down (hDownIdeal := hDownIdeal) (hDownRefIdeal := hDownRefIdeal) (hPre_finite_down := hPre_finite_down)
    ∧ preserves_Prep_PrepIdeal
    ∧ algebraic_PrepIdeal_PrepRefIdeal_pre_finite_prep (hPrepIdeal := hPrepIdeal) (hPrepRefIdeal := hPrepRefIdeal) (hPre_finite_prep := hPre_finite_prep)
    ∧ preserves_Proj_ProjIdeal
    ∧ algebraic_ProjIdeal_ProjRefIdeal_pre_finite_proj (hProjIdeal := hProjIdeal) (hProjRefIdeal := hProjRefIdeal) (hPre_finite_proj := hPre_finite_proj)
    ∧ preserves_Wup_WupIdeal
    ∧ algebraic_WupIdeal_WupRefIdeal_pre_finite_wup (hWupIdeal := hWupIdeal) (hWupRefIdeal := hWupRefIdeal) (hPre_finite_wup := hPre_finite_wup)
    ∧ preserves_Wdown_WdownIdeal
    ∧ algebraic_WdownIdeal_WdownRefIdeal_pre_finite_wdown (hWdownIdeal := hWdownIdeal) (hWdownRefIdeal := hWdownRefIdeal) (hPre_finite_wdown := hPre_finite_wdown)
    ∧ preserves_Adam_AdamIdeal
    ∧ algebraic_AdamIdeal_AdamRefIdeal (hAdamIdeal := hAdamIdeal) (hAdamRefIdeal := hAdamRefIdeal)
    ∧ preserves_Sums_SumsIdeal
    ∧ algebraic_SumsIdeal_SumsRefIdeal (hSumsIdeal := hSumsIdeal) (hSumsRefIdeal := hSumsRefIdeal)
-- ==== Pre_finite_attn.lean ====
abbrev S8192x4x96 : Shape := ⟨3, ![8192, 4, 96]⟩
abbrev S8192x4x64 : Shape := ⟨3, ![8192, 4, 64]⟩
abbrev S_ : Shape := ⟨0, ![]⟩

class Facts : Prop where
  bcast_S_S8192x4x96 : S_.BroadcastsInDim S8192x4x96 (![] : Fin 0 → Fin S8192x4x96.rank)
  reducesTo_S8192x4x96_S_d0_1_2 : S8192x4x96.ReducesTo [0, 1, 2] S_
  h_S_ : 0 < S_.numel
  bcast_S_S8192x4x64 : S_.BroadcastsInDim S8192x4x64 (![] : Fin 0 → Fin S8192x4x64.rank)
  reducesTo_S8192x4x64_S_d0_1_2 : S8192x4x64.ReducesTo [0, 1, 2] S_

variable [Facts]

def fn_part1 {F : FTy → Type} [FloatOps F] (main_v13 : IVec S_ 1) (main_v16 : IVec S8192x4x64 1) : IVec S_ 1 :=
  let main_c_5 : IVec S_ 1 := constantI S_ 1 1#1
  let main_v17 : IVec S_ 1 := (fun x v => Host.reduce IntOp.andi x v reducesTo_S8192x4x64_S_d0_1_2 h_S_) main_v16 main_c_5
  let main_v18 : IVec S_ 1 := andi main_v13 main_v17
  main_v18

def fn {F : FTy → Type} [FloatOps F] (main_arg0 : FVec F S8192x4x96 .f32) (main_arg1 : FVec F S8192x4x96 .f32) (main_arg2 : FVec F S8192x4x64 .f32) (main_arg3 : FVec F S8192x4x64 .f32) : IVec S_ 1 :=
  let main_v0 : FVec F S8192x4x96 .f32 := Host.absf main_arg0
  let main_cst : FVec F S_ .f32 := constant S_ .f32 0x7F800000#32
  let main_v1 : FVec F S8192x4x96 .f32 := broadcastInDim S8192x4x96 ![] bcast_S_S8192x4x96 main_cst
  let main_v2 : IVec S8192x4x96 1 := cmpf .olt main_v0 main_v1
  let main_c : IVec S_ 1 := constantI S_ 1 1#1
  let main_v3 : IVec S_ 1 := (fun x v => Host.reduce IntOp.andi x v reducesTo_S8192x4x96_S_d0_1_2 h_S_) main_v2 main_c
  let main_v4 : FVec F S8192x4x96 .f32 := Host.absf main_arg1
  let main_cst_0 : FVec F S_ .f32 := constant S_ .f32 0x7F800000#32
  let main_v5 : FVec F S8192x4x96 .f32 := broadcastInDim S8192x4x96 ![] bcast_S_S8192x4x96 main_cst_0
  let main_v6 : IVec S8192x4x96 1 := cmpf .olt main_v4 main_v5
  let main_c_1 : IVec S_ 1 := constantI S_ 1 1#1
  let main_v7 : IVec S_ 1 := (fun x v => Host.reduce IntOp.andi x v reducesTo_S8192x4x96_S_d0_1_2 h_S_) main_v6 main_c_1
  let main_v8 : IVec S_ 1 := andi main_v3 main_v7
  let main_v9 : FVec F S8192x4x64 .f32 := Host.absf main_arg2
  let main_cst_2 : FVec F S_ .f32 := constant S_ .f32 0x7F800000#32
  let main_v10 : FVec F S8192x4x64 .f32 := broadcastInDim S8192x4x64 ![] bcast_S_S8192x4x64 main_cst_2
  let main_v11 : IVec S8192x4x64 1 := cmpf .olt main_v9 main_v10
  let main_c_3 : IVec S_ 1 := constantI S_ 1 1#1
  let main_v12 : IVec S_ 1 := (fun x v => Host.reduce IntOp.andi x v reducesTo_S8192x4x64_S_d0_1_2 h_S_) main_v11 main_c_3
  let main_v13 : IVec S_ 1 := andi main_v8 main_v12
  let main_v14 : FVec F S8192x4x64 .f32 := Host.absf main_arg3
  let main_cst_4 : FVec F S_ .f32 := constant S_ .f32 0x7F800000#32
  let main_v15 : FVec F S8192x4x64 .f32 := broadcastInDim S8192x4x64 ![] bcast_S_S8192x4x64 main_cst_4
  let main_v16 : IVec S8192x4x64 1 := cmpf .olt main_v14 main_v15
  fn_part1 (F := F) main_v13 main_v16
-- ==== Pre_finite_down.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8192x4096 .f32) (main_arg1 : FVec F S4096x1024 .f32) (main_arg2 : FVec F S8192x1024 .f32) (main_arg3 : FVec F S1024 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Pre_finite_ffn1.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_

variable [Facts]

def fn_part1 {F : FTy → Type} [FloatOps F] (main_v13 : IVec S_ 1) (main_v15 : FVec F S8192x4096 .f32) (main_v16 : FVec F S8192x4096 .f32) : IVec S_ 1 :=
  let main_v17 : IVec S8192x4096 1 := cmpf .olt main_v15 main_v16
  let main_c_5 : IVec S_ 1 := constantI S_ 1 1#1
  let main_v18 : IVec S_ 1 := (fun x v => Host.reduce IntOp.andi x v reducesTo_S8192x4096_S_d0_1 h_S_) main_v17 main_c_5
  let main_v19 : IVec S_ 1 := andi main_v13 main_v18
  main_v19

def fn {F : FTy → Type} [FloatOps F] (main_arg0 : FVec F S8192x1024 .f32) (main_arg1 : FVec F S1024 .f32) (main_arg2 : FVec F S1024x4096 .f32) (main_arg3 : FVec F S8192x4096 .bf16) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S8192x4096 .f32 := (extf .f32 · bitsLt_bf16_f32) main_arg3
  let main_v15 : FVec F S8192x4096 .f32 := Host.absf main_v14
  let main_cst_4 : FVec F S_ .f32 := constant S_ .f32 0x7F800000#32
  let main_v16 : FVec F S8192x4096 .f32 := broadcastInDim S8192x4096 ![] bcast_S_S8192x4096 main_cst_4
  fn_part1 (F := F) main_v13 main_v15 main_v16
-- ==== Pre_finite_ffn2.lean ====
abbrev S8192x4096 : Shape := ⟨2, ![8192, 4096]⟩
abbrev S4096x1024 : Shape := ⟨2, ![4096, 1024]⟩
abbrev S1024 : Shape := ⟨1, ![1024]⟩
abbrev S8192x1024 : Shape := ⟨2, ![8192, 1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S1024 : S_.BroadcastsInDim S1024 (![] : Fin 0 → Fin S1024.rank)
  reducesTo_S1024_S_d0 : S1024.ReducesTo [0] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x4096 .f32) (main_arg1 : FVec F S4096x1024 .f32) (main_arg2 : FVec F S1024 .f32) (main_arg3 : FVec F S8192x1024 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_finite_fwd.lean ====
abbrev S8192x4x96 : Shape := ⟨3, ![8192, 4, 96]⟩
abbrev S8192x4x64 : Shape := ⟨3, ![8192, 4, 64]⟩
abbrev S_ : Shape := ⟨0, ![]⟩

class Facts : Prop where
  bcast_S_S8192x4x96 : S_.BroadcastsInDim S8192x4x96 (![] : Fin 0 → Fin S8192x4x96.rank)
  reducesTo_S8192x4x96_S_d0_1_2 : S8192x4x96.ReducesTo [0, 1, 2] S_
  h_S_ : 0 < S_.numel
  bcast_S_S8192x4x64 : S_.BroadcastsInDim S8192x4x64 (![] : Fin 0 → Fin S8192x4x64.rank)
  reducesTo_S8192x4x64_S_d0_1_2 : S8192x4x64.ReducesTo [0, 1, 2] S_

variable [Facts]

def fn {F : FTy → Type} [FloatOps F] (main_arg0 : FVec F S8192x4x96 .f32) (main_arg1 : FVec F S8192x4x96 .f32) (main_arg2 : FVec F S8192x4x64 .f32) : IVec S_ 1 :=
  let main_v0 : FVec F S8192x4x96 .f32 := Host.absf main_arg0
  let main_cst : FVec F S_ .f32 := constant S_ .f32 0x7F800000#32
  let main_v1 : FVec F S8192x4x96 .f32 := broadcastInDim S8192x4x96 ![] bcast_S_S8192x4x96 main_cst
  let main_v2 : IVec S8192x4x96 1 := cmpf .olt main_v0 main_v1
  let main_c : IVec S_ 1 := constantI S_ 1 1#1
  let main_v3 : IVec S_ 1 := (fun x v => Host.reduce IntOp.andi x v reducesTo_S8192x4x96_S_d0_1_2 h_S_) main_v2 main_c
  let main_v4 : FVec F S8192x4x96 .f32 := Host.absf main_arg1
  let main_cst_0 : FVec F S_ .f32 := constant S_ .f32 0x7F800000#32
  let main_v5 : FVec F S8192x4x96 .f32 := broadcastInDim S8192x4x96 ![] bcast_S_S8192x4x96 main_cst_0
  let main_v6 : IVec S8192x4x96 1 := cmpf .olt main_v4 main_v5
  let main_c_1 : IVec S_ 1 := constantI S_ 1 1#1
  let main_v7 : IVec S_ 1 := (fun x v => Host.reduce IntOp.andi x v reducesTo_S8192x4x96_S_d0_1_2 h_S_) main_v6 main_c_1
  let main_v8 : IVec S_ 1 := andi main_v3 main_v7
  let main_v9 : FVec F S8192x4x64 .f32 := Host.absf main_arg2
  let main_cst_2 : FVec F S_ .f32 := constant S_ .f32 0x7F800000#32
  let main_v10 : FVec F S8192x4x64 .f32 := broadcastInDim S8192x4x64 ![] bcast_S_S8192x4x64 main_cst_2
  let main_v11 : IVec S8192x4x64 1 := cmpf .olt main_v9 main_v10
  let main_c_3 : IVec S_ 1 := constantI S_ 1 1#1
  let main_v12 : IVec S_ 1 := (fun x v => Host.reduce IntOp.andi x v reducesTo_S8192x4x64_S_d0_1_2 h_S_) main_v11 main_c_3
  let main_v13 : IVec S_ 1 := andi main_v8 main_v12
  main_v13
-- ==== Pre_finite_inproj.lean ====
abbrev S8192x1024 : Shape := ⟨2, ![8192, 1024]⟩
abbrev S1024 : Shape := ⟨1, ![1024]⟩
abbrev S1024x6048 : Shape := ⟨2, ![1024, 6048]⟩
abbrev S8192x16 : Shape := ⟨2, ![8192, 16]⟩
abbrev S8192x6048 : Shape := ⟨2, ![8192, 6048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6048 : S_.BroadcastsInDim S1024x6048 (![] : Fin 0 → Fin S1024x6048.rank)
  reducesTo_S1024x6048_S_d0_1 : S1024x6048.ReducesTo [0, 1] S_
  bcast_S_S8192x16 : S_.BroadcastsInDim S8192x16 (![] : Fin 0 → Fin S8192x16.rank)
  reducesTo_S8192x16_S_d0_1 : S8192x16.ReducesTo [0, 1] S_
  bcast_S_S8192x6048 : S_.BroadcastsInDim S8192x6048 (![] : Fin 0 → Fin S8192x6048.rank)
  reducesTo_S8192x6048_S_d0_1 : S8192x6048.ReducesTo [0, 1] S_

variable [Facts]

def fn_part1 {F : FTy → Type} [FloatOps F] (main_arg4 : FVec F S8192x16 .f32) (main_arg5 : FVec F S8192x6048 .f32) (main_v13 : IVec S_ 1) (main_v16 : IVec S8192x16 1) : IVec S_ 1 :=
  let main_c_5 : IVec S_ 1 := constantI S_ 1 1#1
  let main_v17 : IVec S_ 1 := (fun x v => Host.reduce IntOp.andi x v reducesTo_S8192x16_S_d0_1 h_S_) main_v16 main_c_5
  let main_v18 : IVec S_ 1 := andi main_v13 main_v17
  let main_v19 : FVec F S8192x16 .f32 := Host.absf main_arg4
  let main_cst_6 : FVec F S_ .f32 := constant S_ .f32 0x7F800000#32
  let main_v20 : FVec F S8192x16 .f32 := broadcastInDim S8192x16 ![] bcast_S_S8192x16 main_cst_6
  let main_v21 : IVec S8192x16 1 := cmpf .olt main_v19 main_v20
  let main_c_7 : IVec S_ 1 := constantI S_ 1 1#1
  let main_v22 : IVec S_ 1 := (fun x v => Host.reduce IntOp.andi x v reducesTo_S8192x16_S_d0_1 h_S_) main_v21 main_c_7
  let main_v23 : IVec S_ 1 := andi main_v18 main_v22
  let main_v24 : FVec F S8192x6048 .f32 := Host.absf main_arg5
  let main_cst_8 : FVec F S_ .f32 := constant S_ .f32 0x7F800000#32
  let main_v25 : FVec F S8192x6048 .f32 := broadcastInDim S8192x6048 ![] bcast_S_S8192x6048 main_cst_8
  let main_v26 : IVec S8192x6048 1 := cmpf .olt main_v24 main_v25
  let main_c_9 : IVec S_ 1 := constantI S_ 1 1#1
  let main_v27 : IVec S_ 1 := (fun x v => Host.reduce IntOp.andi x v reducesTo_S8192x6048_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024x6048 .f32) (main_arg3 : FVec F S8192x16 .f32) (main_arg4 : FVec F S8192x16 .f32) (main_arg5 : FVec F S8192x6048 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6048 .f32 := Host.absf main_arg2
  let main_cst_2 : FVec F S_ .f32 := constant S_ .f32 0x7F800000#32
  let main_v10 : FVec F S1024x6048 .f32 := broadcastInDim S1024x6048 ![] bcast_S_S1024x6048 main_cst_2
  let main_v11 : IVec S1024x6048 1 := cmpf .olt main_v9 main_v10
  let main_c_3 : IVec S_ 1 := constantI S_ 1 1#1
  let main_v12 : IVec S_ 1 := (fun x v => Host.reduce IntOp.andi x v reducesTo_S1024x6048_S_d0_1 h_S_) main_v11 main_c_3
  let main_v13 : IVec S_ 1 := andi main_v8 main_v12
  let main_v14 : FVec F S8192x16 .f32 := Host.absf main_arg3
  let main_cst_4 : FVec F S_ .f32 := constant S_ .f32 0x7F800000#32
  let main_v15 : FVec F S8192x16 .f32 := broadcastInDim S8192x16 ![] bcast_S_S8192x16 main_cst_4
  let main_v16 : IVec S8192x16 1 := cmpf .olt main_v14 main_v15
  fn_part1 (F := F) main_arg4 main_arg5 main_v13 main_v16
-- ==== Pre_finite_loss.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S8192x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S8192x1024 .f32 := Host.absf main_arg4
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  main_v23

def fn {F : FTy → Type} [FloatOps F] (main_arg0 : FVec F S8192x4096 .f32) (main_arg1 : FVec F S4096x1024 .f32) (main_arg2 : FVec F S8192x1024 .f32) (main_arg3 : FVec F S1024 .f32) (main_arg4 : FVec F S8192x1024 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_v13 main_v16
-- ==== Pre_finite_prep.lean ====
abbrev S8192x6048 : Shape := ⟨2, ![8192, 6048]⟩
abbrev S256 : Shape := ⟨1, ![256]⟩
abbrev S256x384 : Shape := ⟨2, ![256, 384]⟩
abbrev S128 : Shape := ⟨1, ![128]⟩
abbrev S128x512 : Shape := ⟨2, ![128, 512]⟩
abbrev S8192x16 : Shape := ⟨2, ![8192, 16]⟩
abbrev S_ : Shape := ⟨0, ![]⟩

class Facts : Prop where
  bcast_S_S8192x6048 : S_.BroadcastsInDim S8192x6048 (![] : Fin 0 → Fin S8192x6048.rank)
  reducesTo_S8192x6048_S_d0_1 : S8192x6048.ReducesTo [0, 1] S_
  h_S_ : 0 < S_.numel
  bcast_S_S256 : S_.BroadcastsInDim S256 (![] : Fin 0 → Fin S256.rank)
  reducesTo_S256_S_d0 : S256.ReducesTo [0] S_
  bcast_S_S256x384 : S_.BroadcastsInDim S256x384 (![] : Fin 0 → Fin S256x384.rank)
  reducesTo_S256x384_S_d0_1 : S256x384.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S8192x16 : S_.BroadcastsInDim S8192x16 (![] : Fin 0 → Fin S8192x16.rank)
  reducesTo_S8192x16_S_d0_1 : S8192x16.ReducesTo [0, 1] S_

variable [Facts]

def fn_part1 {F : FTy → Type} [FloatOps F] (main_arg4 : FVec F S128x512 .f32) (main_arg5 : FVec F S8192x16 .f32) (main_arg6 : FVec F S8192x16 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S8192x16 .f32 := Host.absf main_arg5
  let main_cst_8 : FVec F S_ .f32 := constant S_ .f32 0x7F800000#32
  let main_v25 : FVec F S8192x16 .f32 := broadcastInDim S8192x16 ![] bcast_S_S8192x16 main_cst_8
  let main_v26 : IVec S8192x16 1 := cmpf .olt main_v24 main_v25
  let main_c_9 : IVec S_ 1 := constantI S_ 1 1#1
  let main_v27 : IVec S_ 1 := (fun x v => Host.reduce IntOp.andi x v reducesTo_S8192x16_S_d0_1 h_S_) main_v26 main_c_9
  let main_v28 : IVec S_ 1 := andi main_v23 main_v27
  let main_v29 : FVec F S8192x16 .f32 := Host.absf main_arg6
  let main_cst_10 : FVec F S_ .f32 := constant S_ .f32 0x7F800000#32
  let main_v30 : FVec F S8192x16 .f32 := broadcastInDim S8192x16 ![] bcast_S_S8192x16 main_cst_10
  let main_v31 : IVec S8192x16 1 := cmpf .olt main_v29 main_v30
  let main_c_11 : IVec S_ 1 := constantI S_ 1 1#1
  let main_v32 : IVec S_ 1 := (fun x v => Host.reduce IntOp.andi x v reducesTo_S8192x16_S_d0_1 h_S_) main_v31 main_c_11
  let main_v33 : IVec S_ 1 := andi main_v28 main_v32
  main_v33

def fn {F : FTy → Type} [FloatOps F] (main_arg0 : FVec F S8192x6048 .f32) (main_arg1 : FVec F S256 .f32) (main_arg2 : FVec F S256x384 .f32) (main_arg3 : FVec F S128 .f32) (main_arg4 : FVec F S128x512 .f32) (main_arg5 : FVec F S8192x16 .f32) (main_arg6 : FVec F S8192x16 .f32) : IVec S_ 1 :=
  let main_v0 : FVec F S8192x6048 .f32 := Host.absf main_arg0
  let main_cst : FVec F S_ .f32 := constant S_ .f32 0x7F800000#32
  let main_v1 : FVec F S8192x6048 .f32 := broadcastInDim S8192x6048 ![] bcast_S_S8192x6048 main_cst
  let main_v2 : IVec S8192x6048 1 := cmpf .olt main_v0 main_v1
  let main_c : IVec S_ 1 := constantI S_ 1 1#1
  let main_v3 : IVec S_ 1 := (fun x v => Host.reduce IntOp.andi x v reducesTo_S8192x6048_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256x384 .f32 := Host.absf main_arg2
  let main_cst_2 : FVec F S_ .f32 := constant S_ .f32 0x7F800000#32
  let main_v10 : FVec F S256x384 .f32 := broadcastInDim S256x384 ![] bcast_S_S256x384 main_cst_2
  let main_v11 : IVec S256x384 1 := cmpf .olt main_v9 main_v10
  let main_c_3 : IVec S_ 1 := constantI S_ 1 1#1
  let main_v12 : IVec S_ 1 := (fun x v => Host.reduce IntOp.andi x v reducesTo_S256x384_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Pre_finite_proj.lean ====
abbrev S8192x1024 : Shape := ⟨2, ![8192, 1024]⟩
abbrev S1024 : Shape := ⟨1, ![1024]⟩
abbrev S1024x6048 : Shape := ⟨2, ![1024, 6048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x6048 : S_.BroadcastsInDim S1024x6048 (![] : Fin 0 → Fin S1024x6048.rank)
  reducesTo_S1024x6048_S_d0_1 : S1024x6048.ReducesTo [0, 1] S_

variable [Facts]

def fn {F : FTy → Type} [FloatOps F] (main_arg0 : FVec F S8192x1024 .f32) (main_arg1 : FVec F S1024 .f32) (main_arg2 : FVec F S1024x6048 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x6048 .f32 := Host.absf main_arg2
  let main_cst_2 : FVec F S_ .f32 := constant S_ .f32 0x7F800000#32
  let main_v10 : FVec F S1024x6048 .f32 := broadcastInDim S1024x6048 ![] bcast_S_S1024x6048 main_cst_2
  let main_v11 : IVec S1024x6048 1 := cmpf .olt main_v9 main_v10
  let main_c_3 : IVec S_ 1 := constantI S_ 1 1#1
  let main_v12 : IVec S_ 1 := (fun x v => Host.reduce IntOp.andi x v reducesTo_S1024x6048_S_d0_1 h_S_) main_v11 main_c_3
  let main_v13 : IVec S_ 1 := andi main_v8 main_v12
  main_v13
-- ==== Pre_finite_qkv.lean ====
abbrev S8192x6048 : Shape := ⟨2, ![8192, 6048]⟩
abbrev S256 : Shape := ⟨1, ![256]⟩
abbrev S256x384 : Shape := ⟨2, ![256, 384]⟩
abbrev S128 : Shape := ⟨1, ![128]⟩
abbrev S128x512 : Shape := ⟨2, ![128, 512]⟩
abbrev S8192x16 : Shape := ⟨2, ![8192, 16]⟩
abbrev S8192x4x96 : Shape := ⟨3, ![8192, 4, 96]⟩
abbrev S8192x4x64 : Shape := ⟨3, ![8192, 4, 64]⟩
abbrev S_ : Shape := ⟨0, ![]⟩

class Facts : Prop where
  bcast_S_S8192x6048 : S_.BroadcastsInDim S8192x6048 (![] : Fin 0 → Fin S8192x6048.rank)
  reducesTo_S8192x6048_S_d0_1 : S8192x6048.ReducesTo [0, 1] S_
  h_S_ : 0 < S_.numel
  bcast_S_S256 : S_.BroadcastsInDim S256 (![] : Fin 0 → Fin S256.rank)
  reducesTo_S256_S_d0 : S256.ReducesTo [0] S_
  bcast_S_S256x384 : S_.BroadcastsInDim S256x384 (![] : Fin 0 → Fin S256x384.rank)
  reducesTo_S256x384_S_d0_1 : S256x384.ReducesTo [0, 1] S_
  bcast_S_S128 : S_.BroadcastsInDim S128 (![] : Fin 0 → Fin S128.rank)
  reducesTo_S128_S_d0 : S128.ReducesTo [0] S_
  bcast_S_S128x512 : S_.BroadcastsInDim S128x512 (![] : Fin 0 → Fin S128x512.rank)
  reducesTo_S128x512_S_d0_1 : S128x512.ReducesTo [0, 1] S_
  bcast_S_S8192x16 : S_.BroadcastsInDim S8192x16 (![] : Fin 0 → Fin S8192x16.rank)
  reducesTo_S8192x16_S_d0_1 : S8192x16.ReducesTo [0, 1] S_
  bcast_S_S8192x4x96 : S_.BroadcastsInDim S8192x4x96 (![] : Fin 0 → Fin S8192x4x96.rank)
  reducesTo_S8192x4x96_S_d0_1_2 : S8192x4x96.ReducesTo [0, 1, 2] S_
  bcast_S_S8192x4x64 : S_.BroadcastsInDim S8192x4x64 (![] : Fin 0 → Fin S8192x4x64.rank)
  reducesTo_S8192x4x64_S_d0_1_2 : S8192x4x64.ReducesTo [0, 1, 2] S_

variable [Facts]

def fn_part2 {F : FTy → Type} [FloatOps F] (main_arg7 : FVec F S8192x4x96 .f32) (main_arg8 : FVec F S8192x4x96 .f32) (main_arg9 : FVec F S8192x4x64 .f32) (main_v33 : IVec S_ 1) : IVec S_ 1 :=
  let main_v34 : FVec F S8192x4x96 .f32 := Host.absf main_arg7
  let main_cst_12 : FVec F S_ .f32 := constant S_ .f32 0x7F800000#32
  let main_v35 : FVec F S8192x4x96 .f32 := broadcastInDim S8192x4x96 ![] bcast_S_S8192x4x96 main_cst_12
  let main_v36 : IVec S8192x4x96 1 := cmpf .olt main_v34 main_v35
  let main_c_13 : IVec S_ 1 := constantI S_ 1 1#1
  let main_v37 : IVec S_ 1 := (fun x v => Host.reduce IntOp.andi x v reducesTo_S8192x4x96_S_d0_1_2 h_S_) main_v36 main_c_13
  let main_v38 : IVec S_ 1 := andi main_v33 main_v37
  let main_v39 : FVec F S8192x4x96 .f32 := Host.absf main_arg8
  let main_cst_14 : FVec F S_ .f32 := constant S_ .f32 0x7F800000#32
  let main_v40 : FVec F S8192x4x96 .f32 := broadcastInDim S8192x4x96 ![] bcast_S_S8192x4x96 main_cst_14
  let main_v41 : IVec S8192x4x96 1 := cmpf .olt main_v39 main_v40
  let main_c_15 : IVec S_ 1 := constantI S_ 1 1#1
  let main_v42 : IVec S_ 1 := (fun x v => Host.reduce IntOp.andi x v reducesTo_S8192x4x96_S_d0_1_2 h_S_) main_v41 main_c_15
  let main_v43 : IVec S_ 1 := andi main_v38 main_v42
  let main_v44 : FVec F S8192x4x64 .f32 := Host.absf main_arg9
  let main_cst_16 : FVec F S_ .f32 := constant S_ .f32 0x7F800000#32
  let main_v45 : FVec F S8192x4x64 .f32 := broadcastInDim S8192x4x64 ![] bcast_S_S8192x4x64 main_cst_16
  let main_v46 : IVec S8192x4x64 1 := cmpf .olt main_v44 main_v45
  let main_c_17 : IVec S_ 1 := constantI S_ 1 1#1
  let main_v47 : IVec S_ 1 := (fun x v => Host.reduce IntOp.andi x v reducesTo_S8192x4x64_S_d0_1_2 h_S_) main_v46 main_c_17
  let main_v48 : IVec S_ 1 := andi main_v43 main_v47
  main_v48

def fn_part1 {F : FTy → Type} [FloatOps F] (main_arg4 : FVec F S128x512 .f32) (main_arg5 : FVec F S8192x16 .f32) (main_arg6 : FVec F S8192x16 .f32) (main_arg7 : FVec F S8192x4x96 .f32) (main_arg8 : FVec F S8192x4x96 .f32) (main_arg9 : FVec F S8192x4x64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  let main_v24 : FVec F S8192x16 .f32 := Host.absf main_arg5
  let main_cst_8 : FVec F S_ .f32 := constant S_ .f32 0x7F800000#32
  let main_v25 : FVec F S8192x16 .f32 := broadcastInDim S8192x16 ![] bcast_S_S8192x16 main_cst_8
  let main_v26 : IVec S8192x16 1 := cmpf .olt main_v24 main_v25
  let main_c_9 : IVec S_ 1 := constantI S_ 1 1#1
  let main_v27 : IVec S_ 1 := (fun x v => Host.reduce IntOp.andi x v reducesTo_S8192x16_S_d0_1 h_S_) main_v26 main_c_9
  let main_v28 : IVec S_ 1 := andi main_v23 main_v27
  let main_v29 : FVec F S8192x16 .f32 := Host.absf main_arg6
  let main_cst_10 : FVec F S_ .f32 := constant S_ .f32 0x7F800000#32
  let main_v30 : FVec F S8192x16 .f32 := broadcastInDim S8192x16 ![] bcast_S_S8192x16 main_cst_10
  let main_v31 : IVec S8192x16 1 := cmpf .olt main_v29 main_v30
  let main_c_11 : IVec S_ 1 := constantI S_ 1 1#1
  let main_v32 : IVec S_ 1 := (fun x v => Host.reduce IntOp.andi x v reducesTo_S8192x16_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x6048 .f32) (main_arg1 : FVec F S256 .f32) (main_arg2 : FVec F S256x384 .f32) (main_arg3 : FVec F S128 .f32) (main_arg4 : FVec F S128x512 .f32) (main_arg5 : FVec F S8192x16 .f32) (main_arg6 : FVec F S8192x16 .f32) (main_arg7 : FVec F S8192x4x96 .f32) (main_arg8 : FVec F S8192x4x96 .f32) (main_arg9 : FVec F S8192x4x64 .f32) : IVec S_ 1 :=
  let main_v0 : FVec F S8192x6048 .f32 := Host.absf main_arg0
  let main_cst : FVec F S_ .f32 := constant S_ .f32 0x7F800000#32
  let main_v1 : FVec F S8192x6048 .f32 := broadcastInDim S8192x6048 ![] bcast_S_S8192x6048 main_cst
  let main_v2 : IVec S8192x6048 1 := cmpf .olt main_v0 main_v1
  let main_c : IVec S_ 1 := constantI S_ 1 1#1
  let main_v3 : IVec S_ 1 := (fun x v => Host.reduce IntOp.andi x v reducesTo_S8192x6048_S_d0_1 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S256x384 .f32 := Host.absf main_arg2
  let main_cst_2 : FVec F S_ .f32 := constant S_ .f32 0x7F800000#32
  let main_v10 : FVec F S256x384 .f32 := broadcastInDim S256x384 ![] bcast_S_S256x384 main_cst_2
  let main_v11 : IVec S256x384 1 := cmpf .olt main_v9 main_v10
  let main_c_3 : IVec S_ 1 := constantI S_ 1 1#1
  let main_v12 : IVec S_ 1 := (fun x v => Host.reduce IntOp.andi x v reducesTo_S256x384_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Pre_finite_shift.lean ====
abbrev S8192x6048 : Shape := ⟨2, ![8192, 6048]⟩
abbrev S3x256 : Shape := ⟨2, ![3, 256]⟩
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x6048 .f32) (main_arg1 : FVec F S3x256 .f32) (main_arg2 : FVec F S8192x256 .f32) (main_arg3 : FVec F S8192x256 .f32) : IVec S_ 1 :=
  let main_v0 : FVec F S8192x256 .f32 := Host.absf main_arg3
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Pre_finite_up.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x4096 : S_.BroadcastsInDim S1024x4096 (![] : Fin 0 → Fin S1024x4096.rank)
  reducesTo_S1024x4096_S_d0_1 : S1024x4096.ReducesTo [0, 1] S_

variable [Facts]

def fn {F : FTy → Type} [FloatOps F] (main_arg0 : FVec F S8192x1024 .f32) (main_arg1 : FVec F S1024 .f32) (main_arg2 : FVec F S1024x4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  main_v13
-- ==== Pre_finite_wdown.lean ====
abbrev S8192x4096 : Shape := ⟨2, ![8192, 4096]⟩
abbrev S8192x1024 : Shape := ⟨2, ![8192, 1024]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_

variable [Facts]

def fn {F : FTy → Type} [FloatOps F] (main_arg0 : FVec F S8192x4096 .f32) (main_arg1 : FVec F S8192x1024 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  main_v8
-- ==== Pre_finite_wup.lean ====
abbrev S8192x1024 : Shape := ⟨2, ![8192, 1024]⟩
abbrev S1024 : Shape := ⟨1, ![1024]⟩
abbrev S8192x4096 : Shape := ⟨2, ![8192, 4096]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S8192x1024 .f32) (main_arg1 : FVec F S1024 .f32) (main_arg2 : FVec F S8192x4096 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S8192x4096 .f32 := Host.absf main_arg2
  let main_cst_2 : FVec F S_ .f32 := constant S_ .f32 0x7F800000#32
  let main_v10 : FVec F S8192x4096 .f32 := broadcastInDim S8192x4096 ![] bcast_S_S8192x4096 main_cst_2
  let main_v11 : IVec S8192x4096 1 := cmpf .olt main_v9 main_v10
  let main_c_3 : IVec S_ 1 := constantI S_ 1 1#1
  let main_v12 : IVec S_ 1 := (fun x v => Host.reduce IntOp.andi x v reducesTo_S8192x4096_S_d0_1 h_S_) main_v11 main_c_3
  let main_v13 : IVec S_ 1 := andi main_v8 main_v12
  main_v13
-- ==== Ffn1.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .bf16⟩
  | .hbm, ⟨4, _⟩ => ⟨S8192x1024, .f32⟩
  | .hbm, ⟨5, _⟩ => ⟨S1024x4096, .bf16⟩
  | .hbm, ⟨6, _⟩ => ⟨S4096x1024, .bf16⟩
  | .hbm, ⟨7, _⟩ => ⟨S1x1024, .f32⟩
  | .hbm, ⟨8, _⟩ => ⟨S8192x1024, .f32⟩
  | .hbm, ⟨9, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Ffn1RefIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .bf16⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x4096, .f32⟩
  | .hbm, ⟨27, _⟩ => ⟨S4096x1024, .f32⟩
  | .hbm, ⟨28, _⟩ => ⟨S1024x4096, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Shift.lean ====
abbrev S8192x6048 : Shape := ⟨2, ![8192, 6048]⟩
abbrev S3x256 : Shape := ⟨2, ![3, 256]⟩
abbrev S8192x256 : Shape := ⟨2, ![8192, 256]⟩
abbrev S_ : Shape := ⟨0, ![]⟩
abbrev S8x256 : Shape := ⟨2, ![8, 256]⟩
abbrev S1x256 : Shape := ⟨2, ![1, 256]⟩
abbrev S8192x1 : Shape := ⟨2, ![8192, 1]⟩
abbrev S8192x128 : Shape := ⟨2, ![8192, 128]⟩
abbrev S8192x32 : Shape := ⟨2, ![8192, 32]⟩
abbrev S8192x4096 : Shape := ⟨2, ![8192, 4096]⟩
abbrev S8192x64 : Shape := ⟨2, ![8192, 64]⟩
abbrev S8192x16 : Shape := ⟨2, ![8192, 16]⟩
abbrev S8192x6272 : Shape := ⟨2, ![8192, 6272]⟩
abbrev S8192x768 : Shape := ⟨2, ![8192, 768]⟩
abbrev S512x256 : Shape := ⟨2, ![512, 256]⟩
abbrev S16x256 : Shape := ⟨2, ![16, 256]⟩
abbrev S512x768 : Shape := ⟨2, ![512, 768]⟩
abbrev S528x256 : Shape := ⟨2, ![528, 256]⟩
abbrev S512x1 : Shape := ⟨2, ![512, 1]⟩

abbrev nBuf : Space → Nat
  | .hbm => 86
  | .vmem => 15
  | .smem => 0
  | _ => 0

abbrev bufTy : (tb : Table) → Fin (tcTables nBuf tb) → BufTy
  | .hbm, ⟨0, _⟩ => ⟨S8192x6048, .f32⟩
  | .hbm, ⟨1, _⟩ => ⟨S3x256, .f32⟩
  | .hbm, ⟨2, _⟩ => ⟨S8192x256, .f32⟩
  | .hbm, ⟨3, _⟩ => ⟨S8192x256, .f32⟩
  | .hbm, ⟨4, _⟩ => ⟨S_, .i32⟩
  | .hbm, ⟨5, _⟩ => ⟨S_, .f32⟩
  | .hbm, ⟨6, _⟩ => ⟨S8x256, .f32⟩
  | .hbm, ⟨7, _⟩ => ⟨S1x256, .i32⟩
  | .hbm, ⟨8, _⟩ => ⟨S_, .i32⟩
  | .hbm, ⟨9, _⟩ => ⟨S_, .i32⟩
  | .hbm, ⟨10, _⟩ => ⟨S1x256, .i32⟩
  | .hbm, ⟨11, _⟩ => ⟨S1x256, .i32⟩
  | .hbm, ⟨12, _⟩ => ⟨S1x256, .i32⟩
  | .hbm, ⟨13, _⟩ => ⟨S_, .i32⟩
  | .hbm, ⟨14, _⟩ => ⟨S1x256, .i32⟩
  | .hbm, ⟨15, _⟩ => ⟨S1x256, .i1⟩
  | .hbm, ⟨16, _⟩ => ⟨S1x256, .i32⟩
  | .hbm, ⟨17, _⟩ => ⟨S1x256, .i32⟩
  | .hbm, ⟨18, _⟩ => ⟨S_, .i32⟩
  | .hbm, ⟨19, _⟩ => ⟨S1x256, .i32⟩
  | .hbm, ⟨20, _⟩ => ⟨S1x256, .i1⟩
  | .hbm, ⟨21, _⟩ => ⟨S1x256, .i1⟩
  | .hbm, ⟨22, _⟩ => ⟨S_, .i32⟩
  | .hbm, ⟨23, _⟩ => ⟨S1x256, .i32⟩
  | .hbm, ⟨24, _⟩ => ⟨S1x256, .i32⟩
  | .hbm, ⟨25, _⟩ => ⟨S1x256, .i32⟩
  | .hbm, ⟨26, _⟩ => ⟨S_, .i32⟩
  | .hbm, ⟨27, _⟩ => ⟨S1x256, .i32⟩
  | .hbm, ⟨28, _⟩ => ⟨S1x256, .i1⟩
  | .hbm, ⟨29, _⟩ => ⟨S_, .i32⟩
  | .hbm, ⟨30, _⟩ => ⟨S1x256, .i32⟩
  | .hbm, ⟨31, _⟩ => ⟨S1x256, .i1⟩
  | .hbm, ⟨32, _⟩ => ⟨S_, .i32⟩
  | .hbm, ⟨33, _⟩ => ⟨S1x256, .i32⟩
  | .hbm, ⟨34, _⟩ => ⟨S1x256, .i1⟩
  | .hbm, ⟨35, _⟩ => ⟨S_, .f32⟩
  | .hbm, ⟨36, _⟩ => ⟨S_, .f32⟩
  | .hbm, ⟨37, _⟩ => ⟨S1x256, .f32⟩
  | .hbm, ⟨38, _⟩ => ⟨S1x256, .f32⟩
  | .hbm, ⟨39, _⟩ => ⟨S1x256, .f32⟩
  | .hbm, ⟨40, _⟩ => ⟨S_, .f32⟩
  | .hbm, ⟨41, _⟩ => ⟨S1x256, .f32⟩
  | .hbm, ⟨42, _⟩ => ⟨S1x256, .f32⟩
  | .hbm, ⟨43, _⟩ => ⟨S_, .f32⟩
  | .hbm, ⟨44, _⟩ => ⟨S1x256, .f32⟩
  | .hbm, ⟨45, _⟩ => ⟨S1x256, .f32⟩
  | .hbm, ⟨46, _⟩ => ⟨S8192x1, .i32⟩
  | .hbm, ⟨47, _⟩ => ⟨S_, .i32⟩
  | .hbm, ⟨48, _⟩ => ⟨S8192x1, .i32⟩
  | .hbm, ⟨49, _⟩ => ⟨S8192x1, .i32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S1x256, .f32⟩
  | .hbm, ⟨55, _⟩ => ⟨S8192x256, .f32⟩
  | .hbm, ⟨56, _⟩ => ⟨S8192x256, .f32⟩
  | .hbm, ⟨57, _⟩ => ⟨S8192x256, .f32⟩
  | .hbm, ⟨58, _⟩ => ⟨S8192x256, .f32⟩
  | .hbm, ⟨59, _⟩ => ⟨S8192x6048, .bf16⟩
  | .hbm, ⟨60, _⟩ => ⟨S8192x256, .bf16⟩
  | .hbm, ⟨61, _⟩ => ⟨S8192x128, .bf16⟩
  | .hbm, ⟨62, _⟩ => ⟨S8192x32, .bf16⟩
  | .hbm, ⟨63, _⟩ => ⟨S8192x256, .bf16⟩
  | .hbm, ⟨64, _⟩ => ⟨S8192x256, .bf16⟩
  | .hbm, ⟨65, _⟩ => ⟨S8192x256, .bf16⟩
  | .hbm, ⟨66, _⟩ => ⟨S8192x256, .bf16⟩
  | .hbm, ⟨67, _⟩ => ⟨S8192x256, .bf16⟩
  | .hbm, ⟨68, _⟩ => ⟨S8192x256, .bf16⟩
  | .hbm, ⟨69, _⟩ => ⟨S8192x4096, .bf16⟩
  | .hbm, ⟨70, _⟩ => ⟨S_, .bf16⟩
  | .hbm, ⟨71, _⟩ => ⟨S8192x64, .bf16⟩
  | .hbm, ⟨72, _⟩ => ⟨S_, .bf16⟩
  | .hbm, ⟨73, _⟩ => ⟨S8192x32, .bf16⟩
  | .hbm, ⟨74, _⟩ => ⟨S8192x128, .bf16⟩
  | .hbm, ⟨75, _⟩ => ⟨S8192x16, .bf16⟩
  | .hbm, ⟨76, _⟩ => ⟨S8192x16, .bf16⟩
  | .hbm, ⟨77, _⟩ => ⟨S8192x16, .bf16⟩
  | .hbm, ⟨78, _⟩ => ⟨S8192x32, .bf16⟩
  | .hbm, ⟨79, _⟩ => ⟨S_, .bf16⟩
  | .hbm, ⟨80, _⟩ => ⟨S8192x64, .bf16⟩
  | .hbm, ⟨81, _⟩ => ⟨S_, .bf16⟩
  | .hbm, ⟨82, _⟩ => ⟨S8192x32, .bf16⟩
  | .hbm, ⟨83, _⟩ => ⟨S8192x128, .bf16⟩
  | .hbm, ⟨84, _⟩ => ⟨S8192x6272, .bf16⟩
  | .hbm, ⟨85, _⟩ => ⟨S8192x768, .bf16⟩
  | .local _ .vmem, ⟨0, _⟩ => ⟨S512x256, .f32⟩
  | .local _ .vmem, ⟨1, _⟩ => ⟨S512x256, .f32⟩
  | .local _ .vmem, ⟨2, _⟩ => ⟨S16x256, .f32⟩
  | .local _ .vmem, ⟨3, _⟩ => ⟨S16x256, .f32⟩
  | .local _ .vmem, ⟨4, _⟩ => ⟨S512x256, .f32⟩
  | .local _ .vmem, ⟨5, _⟩ => ⟨S512x256, .f32⟩
  | .local _ .vmem, ⟨6, _⟩ => ⟨S16x256, .f32⟩
  | .local _ .vmem, ⟨7, _⟩ => ⟨S16x256, .f32⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S8x256, .f32⟩
  | .local _ .vmem, ⟨13, _⟩ => ⟨S512x768, .bf16⟩
  | .local _ .vmem, ⟨14, _⟩ => ⟨S512x768, .bf16⟩
  | _, _ => ⟨S8192x6048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_call1_v1 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_c : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_0 : Ref sig .tc := ⟨.hbm, 22, rfl⟩
abbrev main_call1_v12 : Ref sig .tc := ⟨.hbm, 23, rfl⟩
abbrev main_call1_v13 : Ref sig .tc := ⟨.hbm, 24, rfl⟩
abbrev main_v2 : Ref sig .tc := ⟨.hbm, 25, rfl⟩
abbrev main_c_1 : Ref sig .tc := ⟨.hbm, 26, rfl⟩
abbrev main_v3 : Ref sig .tc := ⟨.hbm, 27, rfl⟩
abbrev main_v4 : Ref sig .tc := ⟨.hbm, 28, rfl⟩
abbrev main_c_2 : Ref sig .tc := ⟨.hbm, 29, rfl⟩
abbrev main_v5 : Ref sig .tc := ⟨.hbm, 30, rfl⟩
abbrev main_v6 : Ref sig .tc := ⟨.hbm, 31, rfl⟩
abbrev main_c_3 : Ref sig .tc := ⟨.hbm, 32, rfl⟩
abbrev main_v7 : Ref sig .tc := ⟨.hbm, 33, rfl⟩
abbrev main_v8 : Ref sig .tc := ⟨.hbm, 34, rfl⟩
abbrev main_cst : Ref sig .tc := ⟨.hbm, 35, rfl⟩
abbrev main_cst_4 : Ref sig .tc := ⟨.hbm, 36, rfl⟩
abbrev main_call2_v0 : Ref sig .tc := ⟨.hbm, 37, rfl⟩
abbrev main_call2_v1 : Ref sig .tc := ⟨.hbm, 38, rfl⟩
abbrev main_v9 : Ref sig .tc := ⟨.hbm, 39, rfl⟩
abbrev main_cst_5 : Ref sig .tc := ⟨.hbm, 40, rfl⟩
abbrev main_call3_v0 : Ref sig .tc := ⟨.hbm, 41, rfl⟩
abbrev main_v10 : Ref sig .tc := ⟨.hbm, 42, rfl⟩
abbrev main_cst_6 : Ref sig .tc := ⟨.hbm, 43, rfl⟩
abbrev main_call4_v0 : Ref sig .tc := ⟨.hbm, 44, rfl⟩
abbrev main_v11 : Ref sig .tc := ⟨.hbm, 45, rfl⟩
abbrev main_v12 : Ref sig .tc := ⟨.hbm, 46, rfl⟩
abbrev main_c_7 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_cst_8 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_cst_9 : Ref sig .tc := ⟨.hbm, 70, rfl⟩
abbrev main_v34 : Ref sig .tc := ⟨.hbm, 71, rfl⟩
abbrev main_cst_10 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_cst_11 : Ref sig .tc := ⟨.hbm, 79, rfl⟩
abbrev main_v41 : Ref sig .tc := ⟨.hbm, 80, rfl⟩
abbrev main_cst_12 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_5 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ShiftRefIdeal.lean ====
abbrev S8192x6048 : Shape := ⟨2, ![8192, 6048]⟩
abbrev S3x256 : Shape := ⟨2, ![3, 256]⟩
abbrev S8192x256 : Shape := ⟨2, ![8192, 256]⟩
abbrev S8192x128 : Shape := ⟨2, ![8192, 128]⟩
abbrev S8192x32 : Shape := ⟨2, ![8192, 32]⟩
abbrev S8192x4096 : Shape := ⟨2, ![8192, 4096]⟩
abbrev S_ : Shape := ⟨0, ![]⟩
abbrev S2x256 : Shape := ⟨2, ![2, 256]⟩
abbrev S8194x256 : Shape := ⟨2, ![8194, 256]⟩
abbrev S1x256 : Shape := ⟨2, ![1, 256]⟩
abbrev S256 : Shape := ⟨1, ![256]⟩
abbrev S8192x4x64 : Shape := ⟨3, ![8192, 4, 64]⟩
abbrev S8192 : Shape := ⟨1, ![8192]⟩
abbrev S8192x1x64 : Shape := ⟨3, ![8192, 1, 64]⟩
abbrev S8192x64 : Shape := ⟨2, ![8192, 64]⟩
abbrev S2x64 : Shape := ⟨2, ![2, 64]⟩
abbrev S8194x64 : Shape := ⟨2, ![8194, 64]⟩
abbrev S8192x1 : Shape := ⟨2, ![8192, 1]⟩
abbrev S4x64 : Shape := ⟨2, ![4, 64]⟩
abbrev S8196x64 : Shape := ⟨2, ![8196, 64]⟩
abbrev S8x64 : Shape := ⟨2, ![8, 64]⟩
abbrev S8200x64 : Shape := ⟨2, ![8200, 64]⟩
abbrev S16x64 : Shape := ⟨2, ![16, 64]⟩
abbrev S8208x64 : Shape := ⟨2, ![8208, 64]⟩
abbrev S8192x768 : Shape := ⟨2, ![8192, 768]⟩

abbrev nBuf : Space → Nat
  | .hbm => 244
  | .vmem => 0
  | .smem => 0
  | _ => 0

abbrev hbmTy0_0 (i : Nat) : BufTy := match i % 128 with
  | 0 => ⟨S8192x6048, .f32⟩
  | 1 => ⟨S3x256, .f32⟩
  | 2 => ⟨S8192x256, .f32⟩
  | 3 => ⟨S8192x256, .f32⟩
  | 4 => ⟨S8192x256, .f32⟩
  | 5 => ⟨S8192x128, .f32⟩
  | 6 => ⟨S8192x32, .f32⟩
  | 7 => ⟨S8192x256, .f32⟩
  | 8 => ⟨S8192x256, .f32⟩
  | 9 => ⟨S8192x256, .f32⟩
  | 10 => ⟨S8192x256, .f32⟩
  | 11 => ⟨S8192x256, .f32⟩
  | 12 => ⟨S8192x256, .f32⟩
  | 13 => ⟨S8192x4096, .f32⟩
  | 14 => ⟨S8192x256, .f32⟩
  | 15 => ⟨S_, .f32⟩
  | 16 => ⟨S2x256, .f32⟩
  | 17 => ⟨S8194x256, .f32⟩
  | 18 => ⟨S_, .f32⟩
  | 19 => ⟨S2x256, .f32⟩
  | 20 => ⟨S1x256, .f32⟩
  | 21 => ⟨S256, .f32⟩
  | 22 => ⟨S8192x256, .f32⟩
  | 23 => ⟨S1x256, .f32⟩
  | 24 => ⟨S8192x256, .f32⟩
  | 25 => ⟨S8192x256, .f32⟩
  | 26 => ⟨S_, .f32⟩
  | 27 => ⟨S8192x256, .f32⟩
  | 28 => ⟨S8192x256, .f32⟩
  | 29 => ⟨S1x256, .f32⟩
  | 30 => ⟨S256, .f32⟩
  | 31 => ⟨S8192x256, .f32⟩
  | 32 => ⟨S1x256, .f32⟩
  | 33 => ⟨S8192x256, .f32⟩
  | 34 => ⟨S8192x256, .f32⟩
  | 35 => ⟨S8192x256, .f32⟩
  | 36 => ⟨S1x256, .f32⟩
  | 37 => ⟨S256, .f32⟩
  | 38 => ⟨S8192x256, .f32⟩
  | 39 => ⟨S1x256, .f32⟩
  | 40 => ⟨S8192x256, .f32⟩
  | 41 => ⟨S8192x256, .f32⟩
  | 42 => ⟨S8192x256, .f32⟩
  | 43 => ⟨S8192x256, .f32⟩
  | 44 => ⟨S8192x256, .f32⟩
  | 45 => ⟨S8192x256, .f32⟩
  | 46 => ⟨S8192x256, .f32⟩
  | 47 => ⟨S_, .f32⟩
  | 48 => ⟨S8194x256, .f32⟩
  | 49 => ⟨S8192x256, .f32⟩
  | 50 => ⟨S8192x256, .f32⟩
  | 51 => ⟨S_, .f32⟩
  | 52 => ⟨S8194x256, .f32⟩
  | 53 => ⟨S8194x256, .f32⟩
  | 54 => ⟨S8192x256, .f32⟩
  | 55 => ⟨S8192x256, .f32⟩
  | 56 => ⟨S_, .f32⟩
  | 57 => ⟨S8194x256, .f32⟩
  | 58 => ⟨S8194x256, .f32⟩
  | 59 => ⟨S2x256, .f32⟩
  | 60 => ⟨S8192x256, .f32⟩
  | 61 => ⟨S8192x256, .f32⟩
  | 62 => ⟨S8192x256, .f32⟩
  | 63 => ⟨S8192x4x64, .f32⟩
  | 64 => ⟨S_, .f32⟩
  | 65 => ⟨S_, .f32⟩
  | 66 => ⟨S8192x4x64, .f32⟩
  | 67 => ⟨S8192, .i32⟩
  | 68 => ⟨S8192x1x64, .f32⟩
  | 69 => ⟨S8192x64, .f32⟩
  | 70 => ⟨S_, .f32⟩
  | 71 => ⟨S2x64, .f32⟩
  | 72 => ⟨S8194x64, .f32⟩
  | 73 => ⟨S_, .f32⟩
  | 74 => ⟨S2x64, .f32⟩
  | 75 => ⟨S8192x64, .f32⟩
  | 76 => ⟨S_, .i32⟩
  | 77 => ⟨S8192, .i32⟩
  | 78 => ⟨S8192, .i32⟩
  | 79 => ⟨S_, .i32⟩
  | 80 => ⟨S8192, .i32⟩
  | 81 => ⟨S8192, .i32⟩
  | 82 => ⟨S8192, .f32⟩
  | 83 => ⟨S8192x1, .f32⟩
  | 84 => ⟨S8192x64, .f32⟩
  | 85 => ⟨S8192x64, .f32⟩
  | 86 => ⟨S8192x64, .f32⟩
  | 87 => ⟨S8192x1x64, .f32⟩
  | 88 => ⟨S8192x64, .f32⟩
  | 89 => ⟨S8192x64, .f32⟩
  | 90 => ⟨S8192x1x64, .f32⟩
  | 91 => ⟨S8192x64, .f32⟩
  | 92 => ⟨S_, .f32⟩
  | 93 => ⟨S4x64, .f32⟩
  | 94 => ⟨S8196x64, .f32⟩
  | 95 => ⟨S_, .f32⟩
  | 96 => ⟨S4x64, .f32⟩
  | 97 => ⟨S8192x64, .f32⟩
  | 98 => ⟨S_, .i32⟩
  | 99 => ⟨S8192, .i32⟩
  | 100 => ⟨S8192, .i32⟩
  | 101 => ⟨S_, .i32⟩
  | 102 => ⟨S8192, .i32⟩
  | 103 => ⟨S8192, .i32⟩
  | 104 => ⟨S8192, .f32⟩
  | 105 => ⟨S8192x1, .f32⟩
  | 106 => ⟨S8192x64, .f32⟩
  | 107 => ⟨S8192x64, .f32⟩
  | 108 => ⟨S8192x64, .f32⟩
  | 109 => ⟨S8192x1x64, .f32⟩
  | 110 => ⟨S8192x64, .f32⟩
  | 111 => ⟨S8192x64, .f32⟩
  | 112 => ⟨S8192x1x64, .f32⟩
  | 113 => ⟨S8192x64, .f32⟩
  | 114 => ⟨S_, .f32⟩
  | 115 => ⟨S8x64, .f32⟩
  | 116 => ⟨S8200x64, .f32⟩
  | 117 => ⟨S_, .f32⟩
  | 118 => ⟨S8x64, .f32⟩
  | 119 => ⟨S8192x64, .f32⟩
  | 120 => ⟨S_, .i32⟩
  | 121 => ⟨S8192, .i32⟩
  | 122 => ⟨S8192, .i32⟩
  | 123 => ⟨S_, .i32⟩
  | 124 => ⟨S8192, .i32⟩
  | 125 => ⟨S8192, .i32⟩
  | 126 => ⟨S8192, .f32⟩
  | 127 => ⟨S8192x1, .f32⟩
  | _ => ⟨S8192x6048, .f32⟩

abbrev hbmTy0_1 (i : Nat) : BufTy := match i % 128 with
  | 0 => ⟨S8192x64, .f32⟩
  | 1 => ⟨S8192x64, .f32⟩
  | 2 => ⟨S8192x64, .f32⟩
  | 3 => ⟨S8192x1x64, .f32⟩
  | 4 => ⟨S8192x64, .f32⟩
  | 5 => ⟨S8192x64, .f32⟩
  | 6 => ⟨S8192x1x64, .f32⟩
  | 7 => ⟨S8192x64, .f32⟩
  | 8 => ⟨S_, .f32⟩
  | 9 => ⟨S16x64, .f32⟩
  | 10 => ⟨S8208x64, .f32⟩
  | 11 => ⟨S_, .f32⟩
  | 12 => ⟨S16x64, .f32⟩
  | 13 => ⟨S8192x64, .f32⟩
  | 14 => ⟨S_, .i32⟩
  | 15 => ⟨S8192, .i32⟩
  | 16 => ⟨S8192, .i32⟩
  | 17 => ⟨S_, .i32⟩
  | 18 => ⟨S8192, .i32⟩
  | 19 => ⟨S8192, .i32⟩
  | 20 => ⟨S8192, .f32⟩
  | 21 => ⟨S8192x1, .f32⟩
  | 22 => ⟨S8192x64, .f32⟩
  | 23 => ⟨S8192x64, .f32⟩
  | 24 => ⟨S8192x64, .f32⟩
  | 25 => ⟨S8192x1x64, .f32⟩
  | 26 => ⟨S8192x64, .f32⟩
  | 27 => ⟨S8192x64, .f32⟩
  | 28 => ⟨S8192x1x64, .f32⟩
  | 29 => ⟨S8192x1x64, .f32⟩
  | 30 => ⟨S8192x1x64, .f32⟩
  | 31 => ⟨S8192x1x64, .f32⟩
  | 32 => ⟨S8192x4x64, .f32⟩
  | 33 => ⟨S8192x256, .f32⟩
  | 34 => ⟨S8192x4x64, .f32⟩
  | 35 => ⟨S8192x1x64, .f32⟩
  | 36 => ⟨S8192x64, .f32⟩
  | 37 => ⟨S8192x1x64, .f32⟩
  | 38 => ⟨S8192x64, .f32⟩
  | 39 => ⟨S8192x1x64, .f32⟩
  | 40 => ⟨S8192x64, .f32⟩
  | 41 => ⟨S8192x1x64, .f32⟩
  | 42 => ⟨S8192x64, .f32⟩
  | 43 => ⟨S8192x64, .f32⟩
  | 44 => ⟨S8192x1x64, .f32⟩
  | 45 => ⟨S_, .f32⟩
  | 46 => ⟨S8192x4x64, .f32⟩
  | 47 => ⟨S8192x64, .f32⟩
  | 48 => ⟨S8192x64, .f32⟩
  | 49 => ⟨S8192x64, .f32⟩
  | 50 => ⟨S_, .f32⟩
  | 51 => ⟨S8208x64, .f32⟩
  | 52 => ⟨S16x64, .f32⟩
  | 53 => ⟨S8192x64, .f32⟩
  | 54 => ⟨S8192x64, .f32⟩
  | 55 => ⟨S8192x1x64, .f32⟩
  | 56 => ⟨S_, .f32⟩
  | 57 => ⟨S8192x4x64, .f32⟩
  | 58 => ⟨S8192x64, .f32⟩
  | 59 => ⟨S8192x1x64, .f32⟩
  | 60 => ⟨S_, .f32⟩
  | 61 => ⟨S8192x4x64, .f32⟩
  | 62 => ⟨S8192x4x64, .f32⟩
  | 63 => ⟨S8192x64, .f32⟩
  | 64 => ⟨S8192x64, .f32⟩
  | 65 => ⟨S8192x64, .f32⟩
  | 66 => ⟨S_, .f32⟩
  | 67 => ⟨S8200x64, .f32⟩
  | 68 => ⟨S8x64, .f32⟩
  | 69 => ⟨S8192x64, .f32⟩
  | 70 => ⟨S8192x64, .f32⟩
  | 71 => ⟨S8192x1x64, .f32⟩
  | 72 => ⟨S_, .f32⟩
  | 73 => ⟨S8192x4x64, .f32⟩
  | 74 => ⟨S8192x4x64, .f32⟩
  | 75 => ⟨S8192x64, .f32⟩
  | 76 => ⟨S8192x1x64, .f32⟩
  | 77 => ⟨S_, .f32⟩
  | 78 => ⟨S8192x4x64, .f32⟩
  | 79 => ⟨S8192x4x64, .f32⟩
  | 80 => ⟨S8192x64, .f32⟩
  | 81 => ⟨S8192x64, .f32⟩
  | 82 => ⟨S8192x64, .f32⟩
  | 83 => ⟨S_, .f32⟩
  | 84 => ⟨S8196x64, .f32⟩
  | 85 => ⟨S4x64, .f32⟩
  | 86 => ⟨S8192x64, .f32⟩
  | 87 => ⟨S8192x64, .f32⟩
  | 88 => ⟨S8192x1x64, .f32⟩
  | 89 => ⟨S_, .f32⟩
  | 90 => ⟨S8192x4x64, .f32⟩
  | 91 => ⟨S8192x4x64, .f32⟩
  | 92 => ⟨S8192x64, .f32⟩
  | 93 => ⟨S8192x1x64, .f32⟩
  | 94 => ⟨S_, .f32⟩
  | 95 => ⟨S8192x4x64, .f32⟩
  | 96 => ⟨S8192x4x64, .f32⟩
  | 97 => ⟨S8192x64, .f32⟩
  | 98 => ⟨S8192x64, .f32⟩
  | 99 => ⟨S8192x64, .f32⟩
  | 100 => ⟨S_, .f32⟩
  | 101 => ⟨S8194x64, .f32⟩
  | 102 => ⟨S2x64, .f32⟩
  | 103 => ⟨S8192x64, .f32⟩
  | 104 => ⟨S8192x64, .f32⟩
  | 105 => ⟨S8192x1x64, .f32⟩
  | 106 => ⟨S_, .f32⟩
  | 107 => ⟨S8192x4x64, .f32⟩
  | 108 => ⟨S8192x4x64, .f32⟩
  | 109 => ⟨S_, .f32⟩
  | 110 => ⟨S_, .f32⟩
  | 111 => ⟨S8192x4x64, .f32⟩
  | 112 => ⟨S8192x4x64, .f32⟩
  | 113 => ⟨S8192x256, .f32⟩
  | 114 => ⟨S8192x768, .f32⟩
  | 115 => ⟨S8192x768, .bf16⟩
  | _ => ⟨S8192x6048, .f32⟩

abbrev hbmTy (i : Nat) : BufTy := match i / 128 with
  | 0 => hbmTy0_0 i
  | 1 => hbmTy0_1 i
  | _ => ⟨S8192x6048, .f32⟩

abbrev bufTy : (tb : Table) → Fin (tcTables nBuf tb) → BufTy
  | .hbm, ⟨i, _⟩ => hbmTy i
  | _, _ => ⟨S8192x6048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_1 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_cst_3 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_4 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_call0_call0_cst : Ref sig .tc := ⟨.hbm, 64, rfl⟩
abbrev main_call0_call0_v0 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_5 : Ref sig .tc := ⟨.hbm, 70, rfl⟩
abbrev main_v58 : Ref sig .tc := ⟨.hbm, 71, rfl⟩
abbrev main_v59 : Ref sig .tc := ⟨.hbm, 72, rfl⟩
abbrev main_cst_6 : Ref sig .tc := ⟨.hbm, 73, rfl⟩
abbrev main_v60 : Ref sig .tc := ⟨.hbm, 74, rfl⟩
abbrev main_v61 : Ref sig .tc := ⟨.hbm, 75, rfl⟩
abbrev main_c : Ref sig .tc := ⟨.hbm, 76, rfl⟩
abbrev main_v62 : Ref sig .tc := ⟨.hbm, 77, rfl⟩
abbrev main_v63 : Ref sig .tc := ⟨.hbm, 78, rfl⟩
abbrev main_c_7 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_cst_8 : Ref sig .tc := ⟨.hbm, 92, rfl⟩
abbrev main_v76 : Ref sig .tc := ⟨.hbm, 93, rfl⟩
abbrev main_v77 : Ref sig .tc := ⟨.hbm, 94, rfl⟩
abbrev main_cst_9 : Ref sig .tc := ⟨.hbm, 95, rfl⟩
abbrev main_v78 : Ref sig .tc := ⟨.hbm, 96, rfl⟩
abbrev main_v79 : Ref sig .tc := ⟨.hbm, 97, rfl⟩
abbrev main_c_10 : Ref sig .tc := ⟨.hbm, 98, rfl⟩
abbrev main_v80 : Ref sig .tc := ⟨.hbm, 99, rfl⟩
abbrev main_v81 : Ref sig .tc := ⟨.hbm, 100, rfl⟩
abbrev main_c_11 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_cst_12 : Ref sig .tc := ⟨.hbm, 114, rfl⟩
abbrev main_v94 : Ref sig .tc := ⟨.hbm, 115, rfl⟩
abbrev main_v95 : Ref sig .tc := ⟨.hbm, 116, rfl⟩
abbrev main_cst_13 : Ref sig .tc := ⟨.hbm, 117, rfl⟩
abbrev main_v96 : Ref sig .tc := ⟨.hbm, 118, rfl⟩
abbrev main_v97 : Ref sig .tc := ⟨.hbm, 119, rfl⟩
abbrev main_c_14 : Ref sig .tc := ⟨.hbm, 120, rfl⟩
abbrev main_v98 : Ref sig .tc := ⟨.hbm, 121, rfl⟩
abbrev main_v99 : Ref sig .tc := ⟨.hbm, 122, rfl⟩
abbrev main_c_15 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_cst_16 : Ref sig .tc := ⟨.hbm, 136, rfl⟩
abbrev main_v112 : Ref sig .tc := ⟨.hbm, 137, rfl⟩
abbrev main_v113 : Ref sig .tc := ⟨.hbm, 138, rfl⟩
abbrev main_cst_17 : Ref sig .tc := ⟨.hbm, 139, rfl⟩
abbrev main_v114 : Ref sig .tc := ⟨.hbm, 140, rfl⟩
abbrev main_v115 : Ref sig .tc := ⟨.hbm, 141, rfl⟩
abbrev main_c_18 : Ref sig .tc := ⟨.hbm, 142, rfl⟩
abbrev main_v116 : Ref sig .tc := ⟨.hbm, 143, rfl⟩
abbrev main_v117 : Ref sig .tc := ⟨.hbm, 144, rfl⟩
abbrev main_c_19 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_cst_20 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_cst_21 : Ref sig .tc := ⟨.hbm, 178, rfl⟩
abbrev main_v149 : Ref sig .tc := ⟨.hbm, 179, rfl⟩
abbrev main_v150 : Ref sig .tc := ⟨.hbm, 180, rfl⟩
abbrev main_v151 : Ref sig .tc := ⟨.hbm, 181, rfl⟩
abbrev main_v152 : Ref sig .tc := ⟨.hbm, 182, rfl⟩
abbrev main_v153 : Ref sig .tc := ⟨.hbm, 183, rfl⟩
abbrev main_cst_22 : Ref sig .tc := ⟨.hbm, 184, rfl⟩
abbrev main_v154 : Ref sig .tc := ⟨.hbm, 185, rfl⟩
abbrev main_v155 : Ref sig .tc := ⟨.hbm, 186, rfl⟩
abbrev main_v156 : Ref sig .tc := ⟨.hbm, 187, rfl⟩
abbrev main_cst_23 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_cst_24 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_cst_25 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_cst_26 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_cst_27 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_cst_28 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_cst_29 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_cst_30 : Ref sig .tc := ⟨.hbm, 228, rfl⟩
abbrev main_v190 : Ref sig .tc := ⟨.hbm, 229, rfl⟩
abbrev main_v191 : Ref sig .tc := ⟨.hbm, 230, rfl⟩
abbrev main_v192 : Ref sig .tc := ⟨.hbm, 231, rfl⟩
abbrev main_v193 : Ref sig .tc := ⟨.hbm, 232, rfl⟩
abbrev main_v194 : Ref sig .tc := ⟨.hbm, 233, rfl⟩
abbrev main_cst_31 : Ref sig .tc := ⟨.hbm, 234, rfl⟩
abbrev main_v195 : Ref sig .tc := ⟨.hbm, 235, rfl⟩
abbrev main_v196 : Ref sig .tc := ⟨.hbm, 236, rfl⟩
abbrev main_call1_call0_cst : Ref sig .tc := ⟨.hbm, 237, rfl⟩
abbrev main_call1_call0_v0 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩

abbrev nD : Nat := 1
abbrev τ : Topo := Topo.v7x

variable {F : FTy → Type} [FloatOps F]
-- ==== Attn.lean ====
abbrev S8192x4x96 : Shape := ⟨3, ![8192, 4, 96]⟩
abbrev S8192x4x64 : Shape := ⟨3, ![8192, 4, 64]⟩
abbrev S4x8192x96 : Shape := ⟨3, ![4, 8192, 96]⟩
abbrev S_ : Shape := ⟨0, ![]⟩
abbrev S4x8192x32 : Shape := ⟨3, ![4, 8192, 32]⟩
abbrev S4x8192x128 : Shape := ⟨3, ![4, 8192, 128]⟩
abbrev S4x8192x64 : Shape := ⟨3, ![4, 8192, 64]⟩
abbrev S8192x4x128 : Shape := ⟨3, ![8192, 4, 128]⟩
abbrev S4x8192x8192 : Shape := ⟨3, ![4, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S128 : Shape := ⟨1, ![128]⟩
abbrev S1x1x128 : Shape := ⟨3, ![1, 1, 128]⟩
abbrev S8192x512 : Shape := ⟨2, ![8192, 512]⟩
abbrev S4x8x1x1024 : Shape := ⟨4, ![4, 8, 1, 1024]⟩
abbrev S2x8192x128 : Shape := ⟨3, ![2, 8192, 128]⟩
abbrev S8192x256 : Shape := ⟨2, ![8192, 256]⟩
abbrev S2x8x1x1024 : Shape := ⟨4, ![2, 8, 1, 1024]⟩
abbrev S2x1024x128 : Shape := ⟨3, ![2, 1024, 128]⟩
abbrev S1024x128 : Shape := ⟨2, ![1024, 128]⟩
abbrev S1x1024x128 : Shape := ⟨3, ![1, 1024, 128]⟩
abbrev S1024x1024 : Shape := ⟨2, ![1024, 1024]⟩
abbrev S1x1x1x1024 : Shape := ⟨4, ![1, 1, 1, 1024]⟩
abbrev S1x1024 : Shape := ⟨2, ![1, 1024]⟩

abbrev nBuf : Space → Nat
  | .hbm => 74
  | .vmem => 18
  | .smem => 0
  | _ => 0

abbrev bufTy : (tb : Table) → Fin (tcTables nBuf tb) → BufTy
  | .hbm, ⟨0, _⟩ => ⟨S8192x4x96, .f32⟩
  | .hbm, ⟨1, _⟩ => ⟨S8192x4x96, .f32⟩
  | .hbm, ⟨2, _⟩ => ⟨S8192x4x64, .f32⟩
  | .hbm, ⟨3, _⟩ => ⟨S8192x4x64, .f32⟩
  | .hbm, ⟨4, _⟩ => ⟨S4x8192x96, .f32⟩
  | .hbm, ⟨5, _⟩ => ⟨S_, .f32⟩
  | .hbm, ⟨6, _⟩ => ⟨S4x8192x32, .f32⟩
  | .hbm, ⟨7, _⟩ => ⟨S4x8192x128, .f32⟩
  | .hbm, ⟨8, _⟩ => ⟨S4x8192x96, .f32⟩
  | .hbm, ⟨9, _⟩ => ⟨S_, .f32⟩
  | .hbm, ⟨10, _⟩ => ⟨S4x8192x32, .f32⟩
  | .hbm, ⟨11, _⟩ => ⟨S4x8192x128, .f32⟩
  | .hbm, ⟨12, _⟩ => ⟨S4x8192x64, .f32⟩
  | .hbm, ⟨13, _⟩ => ⟨S_, .f32⟩
  | .hbm, ⟨14, _⟩ => ⟨S4x8192x64, .f32⟩
  | .hbm, ⟨15, _⟩ => ⟨S4x8192x128, .f32⟩
  | .hbm, ⟨16, _⟩ => ⟨S_, .f32⟩
  | .hbm, ⟨17, _⟩ => ⟨S8192x4x64, .f32⟩
  | .hbm, ⟨18, _⟩ => ⟨S8192x4x128, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S8192, .i32⟩
  | .hbm, ⟨24, _⟩ => ⟨S1x8192, .i32⟩
  | .hbm, ⟨25, _⟩ => ⟨S8192x1, .i32⟩
  | .hbm, ⟨26, _⟩ => ⟨S8192x8192, .i32⟩
  | .hbm, ⟨27, _⟩ => ⟨S8192x8192, .i32⟩
  | .hbm, ⟨28, _⟩ => ⟨S8192x8192, .i1⟩
  | .hbm, ⟨29, _⟩ => ⟨S_, .f32⟩
  | .hbm, ⟨30, _⟩ => ⟨S_, .f32⟩
  | .hbm, ⟨31, _⟩ => ⟨S4x8192x8192, .i1⟩
  | .hbm, ⟨32, _⟩ => ⟨S4x8192x8192, .f32⟩
  | .hbm, ⟨33, _⟩ => ⟨S4x8192x8192, .f32⟩
  | .hbm, ⟨34, _⟩ => ⟨S_, .f32⟩
  | .hbm, ⟨35, _⟩ => ⟨S4x8192, .f32⟩
  | .hbm, ⟨36, _⟩ => ⟨S4x8192x1, .f32⟩
  | .hbm, ⟨37, _⟩ => ⟨S4x8192x8192, .f32⟩
  | .hbm, ⟨38, _⟩ => ⟨S4x8192x8192, .f32⟩
  | .hbm, ⟨39, _⟩ => ⟨S4x8192x8192, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S4x8192x64, .f32⟩
  | .hbm, ⟨44, _⟩ => ⟨S4x8192x64, .f32⟩
  | .hbm, ⟨45, _⟩ => ⟨S4x8192x64, .f32⟩
  | .hbm, ⟨46, _⟩ => ⟨S4x8192x1, .f32⟩
  | .hbm, ⟨47, _⟩ => ⟨S4x8192x1, .f32⟩
  | .hbm, ⟨48, _⟩ => ⟨S_, .f32⟩
  | .hbm, ⟨49, _⟩ => ⟨S_, .f32⟩
  | .hbm, ⟨50, _⟩ => ⟨S4x8192x1, .f32⟩
  | .hbm, ⟨51, _⟩ => ⟨S4x8192x1, .f32⟩
  | .hbm, ⟨52, _⟩ => ⟨S4x8192x64, .f32⟩
  | .hbm, ⟨53, _⟩ => ⟨S4x8192x64, .f32⟩
  | .hbm, ⟨54, _⟩ => ⟨S_, .f32⟩
  | .hbm, ⟨55, _⟩ => ⟨S4x8192, .f32⟩
  | .hbm, ⟨56, _⟩ => ⟨S128, .i32⟩
  | .hbm, ⟨57, _⟩ => ⟨S_, .i32⟩
  | .hbm, ⟨58, _⟩ => ⟨S128, .i32⟩
  | .hbm, ⟨59, _⟩ => ⟨S128, .i1⟩
  | .hbm, ⟨60, _⟩ => ⟨S128, .f32⟩
  | .hbm, ⟨61, _⟩ => ⟨S4x8192x128, .bf16⟩
  | .hbm, ⟨62, _⟩ => ⟨S4x8192x128, .bf16⟩
  | .hbm, ⟨63, _⟩ => ⟨S1x1x128, .f32⟩
  | .hbm, ⟨64, _⟩ => ⟨S4x8192x128, .f32⟩
  | .hbm, ⟨65, _⟩ => ⟨S4x8192x128, .f32⟩
  | .hbm, ⟨66, _⟩ => ⟨S4x8192x128, .bf16⟩
  | .hbm, ⟨67, _⟩ => ⟨S8192x512, .f32⟩
  | .hbm, ⟨68, _⟩ => ⟨S4x8192, .f32⟩
  | .hbm, ⟨69, _⟩ => ⟨S4x8x1x1024, .f32⟩
  | .hbm, ⟨70, _⟩ => ⟨S4x8x1x1024, .f32⟩
  | .hbm, ⟨71, _⟩ => ⟨S4x8192x128, .f32⟩
  | .hbm, ⟨72, _⟩ => ⟨S4x8192x128, .f32⟩
  | .hbm, ⟨73, _⟩ => ⟨S4x8192x128, .f32⟩
  | .local _ .vmem, ⟨0, _⟩ => ⟨S2x8192x128, .bf16⟩
  | .local _ .vmem, ⟨1, _⟩ => ⟨S2x8192x128, .bf16⟩
  | .local _ .vmem, ⟨2, _⟩ => ⟨S8192x256, .f32⟩
  | .local _ .vmem, ⟨3, _⟩ => ⟨S8192x256, .f32⟩
  | .local _ .vmem, ⟨4, _⟩ => ⟨S2x8x1x1024, .f32⟩
  | .local _ .vmem, ⟨5, _⟩ => ⟨S2x8x1x1024, .f32⟩
  | .local _ .vmem, ⟨6, _⟩ => ⟨S2x8x1x1024, .f32⟩
  | .local _ .vmem, ⟨7, _⟩ => ⟨S2x8x1x1024, .f32⟩
  | .local _ .vmem, ⟨8, _⟩ => ⟨S2x1024x128, .bf16⟩
  | .local _ .vmem, ⟨9, _⟩ => ⟨S2x1024x128, .bf16⟩
  | .local _ .vmem, ⟨10, _⟩ => ⟨S2x1024x128, .bf16⟩
  | .local _ .vmem, ⟨11, _⟩ => ⟨S2x1024x128, .bf16⟩
  | .local _ .vmem, ⟨12, _⟩ => ⟨S2x8192x128, .f32⟩
  | .local _ .vmem, ⟨13, _⟩ => ⟨S2x8192x128, .f32⟩
  | .local _ .vmem, ⟨14, _⟩ => ⟨S2x1024x128, .f32⟩
  | .local _ .vmem, ⟨15, _⟩ => ⟨S2x1024x128, .f32⟩
  | .local _ .vmem, ⟨16, _⟩ => ⟨S2x1024x128, .f32⟩
  | .local _ .vmem, ⟨17, _⟩ => ⟨S2x1024x128, .f32⟩
  | _, _ => ⟨S8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_c : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53_0 : Ref sig .tc := ⟨.hbm, 71, rfl⟩
abbrev main_v53_1 : Ref sig .tc := ⟨.hbm, 72, rfl⟩
abbrev main_v53_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 8], ![false, false]⟩

def k0_mult1 (i : grid0.Coords) : BitVec 32 :=
  let arg1 : BitVec 32 := BitVec.ofNat 32 (i 1).val
  let c1024_i32 : BitVec 32 := 1024#32
  let v4 : BitVec 32 := Scalar.muli arg1 c1024_i32
  v4
def k0_off1 (i : grid0.Coords) : Fin 3 → Nat :=
  let c0 : Index := 0#32
  let arg1 : BitVec 32 := BitVec.ofNat 32 (i 1).val
  let c1024_i32 : BitVec 32 := 1024#32
  let v4 : BitVec 32 := Scalar.muli arg1 c1024_i32
  let v5 : BitVec 32 := v4
  let v6 : Index := Scalar.indexCast v5
  let c0_1 : Index := 0#32
  ![0, v6.toNat, 0]
def k0_off2 (i : grid0.Coords) : Fin 2 → Nat :=
  let arg1 : BitVec 32 := BitVec.ofNat 32 (i 1).val
  let c1024_i32 : BitVec 32 := 1024#32
  let v4 : BitVec 32 := Scalar.muli arg1 c1024_i32
  let v5 : BitVec 32 := v4
  let v9 : Index := Scalar.indexCast v5
  let c0_2 : Index := 0#32
  ![v9.toNat, 0]
def k0_off3 (i : grid0.Coords) : Fin 4 → Nat :=
  let c0_9 : Index := 0#32
  let arg1 : BitVec 32 := BitVec.ofNat 32 (i 1).val
  let v22 : Index := Scalar.indexCast arg1
  let c0_10 : Index := 0#32
  let c0_11 : Index := 0#32
  ![0, v22.toNat, 0, 0]
def k0_off4 (i : grid0.Coords) : Fin 3 → Nat :=
  let c1 : Index := 1#32
  let arg1 : BitVec 32 := BitVec.ofNat 32 (i 1).val
  let c1024_i32 : BitVec 32 := 1024#32
  let v4 : BitVec 32 := Scalar.muli arg1 c1024_i32
  let v5 : BitVec 32 := v4
  let v51 : Index := Scalar.indexCast v5
  let c0_26 : Index := 0#32
  ![1, v51.toNat, 0]
def k0_off5 (i : grid0.Coords) : Fin 2 → Nat :=
  let arg1 : BitVec 32 := BitVec.ofNat 32 (i 1).val
  let c1024_i32 : BitVec 32 := 1024#32
  let v4 : BitVec 32 := Scalar.muli arg1 c1024_i32
  let v5 : BitVec 32 := v4
  let v54 : Index := Scalar.indexCast v5
  let c128 : Index := 128#32
  ![v54.toNat, 128]
def k0_off6 (i : grid0.Coords) : Fin 4 → Nat :=
  let c1_33 : Index := 1#32
  let arg1 : BitVec 32 := BitVec.ofNat 32 (i 1).val
  let v67 : Index := Scalar.indexCast arg1
  let c0_34 : Index := 0#32
  let c0_35 : Index := 0#32
  ![1, v67.toNat, 0, 0]
@[reducible] def k0_t1_loop (i : grid0.Coords) : Scf.Loop 32 :=
  let arg1 : BitVec 32 := BitVec.ofNat 32 (i 1).val
  let c1_i32 : BitVec 32 := 1#32
  let v96 : BitVec 32 := Scalar.addi arg1 c1_i32
  let c8_i32 : BitVec 32 := 8#32
  let v97 : BitVec 32 := Scalar.subi c8_i32 v96
  let c1_i32_50 : BitVec 32 := 1#32
  let v99 : BitVec 32 := Scalar.divsi v97 c1_i32_50
  let v100 : BitVec 32 := Scalar.muli v99 c1_i32_50
  let v101 : BitVec 32 := Scalar.addi v96 v100
  let c1_i32_51 : BitVec 32 := 1#32
  ⟨v96, v101, c1_i32_51⟩
def k0_mult2 (i : grid0.Coords) (k0_t1 : Fin (k0_t1_loop i).trips) : BitVec 32 :=
  let arg1 : BitVec 32 := BitVec.ofNat 32 (i 1).val
  let c1_i32 : BitVec 32 := 1#32
  let v96 : BitVec 32 := Scalar.addi arg1 c1_i32
  let c1_i32_51 : BitVec 32 := 1#32
  let arg11 : BitVec 32 := Scf.iv v96 c1_i32_51 k0_t1
  let c1024_i32_75 : BitVec 32 := 1024#32
  let v136 : BitVec 32 := Scalar.muli arg11 c1024_i32_75
  v136
def k0_off7 (i : grid0.Coords) (k0_t1 : Fin (k0_t1_loop i).trips) : Fin 3 → Nat :=
  let c0_76 : Index := 0#32
  let arg1 : BitVec 32 := BitVec.ofNat 32 (i 1).val
  let c1_i32 : BitVec 32 := 1#32
  let v96 : BitVec 32 := Scalar.addi arg1 c1_i32
  let c1_i32_51 : BitVec 32 := 1#32
  let arg11 : BitVec 32 := Scf.iv v96 c1_i32_51 k0_t1
  let c1024_i32_75 : BitVec 32 := 1024#32
  let v136 : BitVec 32 := Scalar.muli arg11 c1024_i32_75
  let v137 : BitVec 32 := v136
  let v138 : Index := Scalar.indexCast v137
  let c0_77 : Index := 0#32
  ![0, v138.toNat, 0]
def k0_off8 (i : grid0.Coords) (k0_t1 : Fin (k0_t1_loop i).trips) : Fin 2 → Nat :=
  let arg1 : BitVec 32 := BitVec.ofNat 32 (i 1).val
  let c1_i32 : BitVec 32 := 1#32
  let v96 : BitVec 32 := Scalar.addi arg1 c1_i32
  let c1_i32_51 : BitVec 32 := 1#32
  let arg11 : BitVec 32 := Scf.iv v96 c1_i32_51 k0_t1
  let c1024_i32_75 : BitVec 32 := 1024#32
  let v136 : BitVec 32 := Scalar.muli arg11 c1024_i32_75
  let v137 : BitVec 32 := v136
  let v141 : Index := Scalar.indexCast v137
  let c0_78 : Index := 0#32
  ![v141.toNat, 0]
def k0_off9 (i : grid0.Coords) (k0_t1 : Fin (k0_t1_loop i).trips) : Fin 4 → Nat :=
  let c0_84 : Index := 0#32
  let arg1 : BitVec 32 := BitVec.ofNat 32 (i 1).val
  let c1_i32 : BitVec 32 := 1#32
  let v96 : BitVec 32 := Scalar.addi arg1 c1_i32
  let c1_i32_51 : BitVec 32 := 1#32
  let arg11 : BitVec 32 := Scf.iv v96 c1_i32_51 k0_t1
  let v149 : Index := Scalar.indexCast arg11
  let c0_85 : Index := 0#32
  let c0_86 : Index := 0#32
  ![0, v149.toNat, 0, 0]
def k0_off10 (i : grid0.Coords) (k0_t1 : Fin (k0_t1_loop i).trips) : Fin 3 → Nat :=
  let c1_105 : Index := 1#32
  let arg1 : BitVec 32 := BitVec.ofNat 32 (i 1).val
  let c1_i32 : BitVec 32 := 1#32
  let v96 : BitVec 32 := Scalar.addi arg1 c1_i32
  let c1_i32_51 : BitVec 32 := 1#32
  let arg11 : BitVec 32 := Scf.iv v96 c1_i32_51 k0_t1
  let c1024_i32_75 : BitVec 32 := 1024#32
  let v136 : BitVec 32 := Scalar.muli arg11 c1024_i32_75
  let v137 : BitVec 32 := v136
  let v186 : Index := Scalar.indexCast v137
  let c0_106 : Index := 0#32
  ![1, v186.toNat, 0]
def k0_off11 (i : grid0.Coords) (k0_t1 : Fin (k0_t1_loop i).trips) : Fin 2 → Nat :=
  let arg1 : BitVec 32 := BitVec.ofNat 32 (i 1).val
  let c1_i32 : BitVec 32 := 1#32
  let v96 : BitVec 32 := Scalar.addi arg1 c1_i32
  let c1_i32_51 : BitVec 32 := 1#32
  let arg11 : BitVec 32 := Scf.iv v96 c1_i32_51 k0_t1
  let c1024_i32_75 : BitVec 32 := 1024#32
  let v136 : BitVec 32 := Scalar.muli arg11 c1024_i32_75
  let v137 : BitVec 32 := v136
  let v189 : Index := Scalar.indexCast v137
  let c128_107 : Index := 128#32
  ![v189.toNat, 128]
def k0_off12 (i : grid0.Coords) (k0_t1 : Fin (k0_t1_loop i).trips) : Fin 4 → Nat :=
  let c1_113 : Index := 1#32
  let arg1 : BitVec 32 := BitVec.ofNat 32 (i 1).val
  let c1_i32 : BitVec 32 := 1#32
  let v96 : BitVec 32 := Scalar.addi arg1 c1_i32
  let c1_i32_51 : BitVec 32 := 1#32
  let arg11 : BitVec 32 := Scf.iv v96 c1_i32_51 k0_t1
  let v197 : Index := Scalar.indexCast arg11
  let c0_114 : Index := 0#32
  let c0_115 : Index := 0#32
  ![1, v197.toNat, 0, 0]
@[reducible] def k0_t2_loop (i : grid0.Coords) : Scf.Loop 32 :=
  let arg1 : BitVec 32 := BitVec.ofNat 32 (i 1).val
  let c1_i32 : BitVec 32 := 1#32
  let v96 : BitVec 32 := Scalar.addi arg1 c1_i32
  let c8_i32 : BitVec 32 := 8#32
  let v97 : BitVec 32 := Scalar.subi c8_i32 v96
  let c1_i32_50 : BitVec 32 := 1#32
  let v99 : BitVec 32 := Scalar.divsi v97 c1_i32_50
  let v100 : BitVec 32 := Scalar.muli v99 c1_i32_50
  let v101 : BitVec 32 := Scalar.addi v96 v100
  let v98 : BitVec 32 := Scalar.addi v96 v97
  let c1_i32_52 : BitVec 32 := 1#32
  ⟨v101, v98, c1_i32_52⟩
def k0_mult3 (i : grid0.Coords) (k0_t2 : Fin (k0_t2_loop i).trips) : BitVec 32 :=
  let arg1 : BitVec 32 := BitVec.ofNat 32 (i 1).val
  let c1_i32 : BitVec 32 := 1#32
  let v96 : BitVec 32 := Scalar.addi arg1 c1_i32
  let c8_i32 : BitVec 32 := 8#32
  let v97 : BitVec 32 := Scalar.subi c8_i32 v96
  let c1_i32_50 : BitVec 32 := 1#32
  let v99 : BitVec 32 := Scalar.divsi v97 c1_i32_50
  let v100 : BitVec 32 := Scalar.muli v99 c1_i32_50
  let v101 : BitVec 32 := Scalar.addi v96 v100
  let c1_i32_52 : BitVec 32 := 1#32
  let arg11 : BitVec 32 := Scf.iv v101 c1_i32_52 k0_t2
  let c1024_i32_75 : BitVec 32 := 1024#32
  let v136 : BitVec 32 := Scalar.muli arg11 c1024_i32_75
  v136
def k0_off13 (i : grid0.Coords) (k0_t2 : Fin (k0_t2_loop i).trips) : Fin 3 → Nat :=
  let c0_76 : Index := 0#32
  let arg1 : BitVec 32 := BitVec.ofNat 32 (i 1).val
  let c1_i32 : BitVec 32 := 1#32
  let v96 : BitVec 32 := Scalar.addi arg1 c1_i32
  let c8_i32 : BitVec 32 := 8#32
  let v97 : BitVec 32 := Scalar.subi c8_i32 v96
  let c1_i32_50 : BitVec 32 := 1#32
  let v99 : BitVec 32 := Scalar.divsi v97 c1_i32_50
  let v100 : BitVec 32 := Scalar.muli v99 c1_i32_50
  let v101 : BitVec 32 := Scalar.addi v96 v100
  let c1_i32_52 : BitVec 32 := 1#32
  let arg11 : BitVec 32 := Scf.iv v101 c1_i32_52 k0_t2
  let c1024_i32_75 : BitVec 32 := 1024#32
  let v136 : BitVec 32 := Scalar.muli arg11 c1024_i32_75
  let v137 : BitVec 32 := v136
  let v138 : Index := Scalar.indexCast v137
  let c0_77 : Index := 0#32
  ![0, v138.toNat, 0]
def k0_off14 (i : grid0.Coords) (k0_t2 : Fin (k0_t2_loop i).trips) : Fin 2 → Nat :=
  let arg1 : BitVec 32 := BitVec.ofNat 32 (i 1).val
  let c1_i32 : BitVec 32 := 1#32
  let v96 : BitVec 32 := Scalar.addi arg1 c1_i32
  let c8_i32 : BitVec 32 := 8#32
  let v97 : BitVec 32 := Scalar.subi c8_i32 v96
  let c1_i32_50 : BitVec 32 := 1#32
  let v99 : BitVec 32 := Scalar.divsi v97 c1_i32_50
  let v100 : BitVec 32 := Scalar.muli v99 c1_i32_50
  let v101 : BitVec 32 := Scalar.addi v96 v100
  let c1_i32_52 : BitVec 32 := 1#32
  let arg11 : BitVec 32 := Scf.iv v101 c1_i32_52 k0_t2
  let c1024_i32_75 : BitVec 32 := 1024#32
  let v136 : BitVec 32 := Scalar.muli arg11 c1024_i32_75
  let v137 : BitVec 32 := v136
  let v141 : Index := Scalar.indexCast v137
  let c0_78 : Index := 0#32
  ![v141.toNat, 0]
def k0_off15 (i : grid0.Coords) (k0_t2 : Fin (k0_t2_loop i).trips) : Fin 4 → Nat :=
  let c0_84 : Index := 0#32
  let arg1 : BitVec 32 := BitVec.ofNat 32 (i 1).val
  let c1_i32 : BitVec 32 := 1#32
  let v96 : BitVec 32 := Scalar.addi arg1 c1_i32
  let c8_i32 : BitVec 32 := 8#32
  let v97 : BitVec 32 := Scalar.subi c8_i32 v96
  let c1_i32_50 : BitVec 32 := 1#32
  let v99 : BitVec 32 := Scalar.divsi v97 c1_i32_50
  let v100 : BitVec 32 := Scalar.muli v99 c1_i32_50
  let v101 : BitVec 32 := Scalar.addi v96 v100
  let c1_i32_52 : BitVec 32 := 1#32
  let arg11 : BitVec 32 := Scf.iv v101 c1_i32_52 k0_t2
  let v149 : Index := Scalar.indexCast arg11
  let c0_85 : Index := 0#32
  let c0_86 : Index := 0#32
  ![0, v149.toNat, 0, 0]
def k0_off16 (i : grid0.Coords) (k0_t2 : Fin (k0_t2_loop i).trips) : Fin 3 → Nat :=
  let c1_105 : Index := 1#32
  let arg1 : BitVec 32 := BitVec.ofNat 32 (i 1).val
  let c1_i32 : BitVec 32 := 1#32
  let v96 : BitVec 32 := Scalar.addi arg1 c1_i32
  let c8_i32 : BitVec 32 := 8#32
  let v97 : BitVec 32 := Scalar.subi c8_i32 v96
  let c1_i32_50 : BitVec 32 := 1#32
  let v99 : BitVec 32 := Scalar.divsi v97 c1_i32_50
  let v100 : BitVec 32 := Scalar.muli v99 c1_i32_50
  let v101 : BitVec 32 := Scalar.addi v96 v100
  let c1_i32_52 : BitVec 32 := 1#32
  let arg11 : BitVec 32 := Scf.iv v101 c1_i32_52 k0_t2
  let c1024_i32_75 : BitVec 32 := 1024#32
  let v136 : BitVec 32 := Scalar.muli arg11 c1024_i32_75
  let v137 : BitVec 32 := v136
  let v186 : Index := Scalar.indexCast v137
  let c0_106 : Index := 0#32
  ![1, v186.toNat, 0]
def k0_off17 (i : grid0.Coords) (k0_t2 : Fin (k0_t2_loop i).trips) : Fin 2 → Nat :=
  let arg1 : BitVec 32 := BitVec.ofNat 32 (i 1).val
  let c1_i32 : BitVec 32 := 1#32
  let v96 : BitVec 32 := Scalar.addi arg1 c1_i32
  let c8_i32 : BitVec 32 := 8#32
  let v97 : BitVec 32 := Scalar.subi c8_i32 v96
  let c1_i32_50 : BitVec 32 := 1#32
  let v99 : BitVec 32 := Scalar.divsi v97 c1_i32_50
  let v100 : BitVec 32 := Scalar.muli v99 c1_i32_50
  let v101 : BitVec 32 := Scalar.addi v96 v100
  let c1_i32_52 : BitVec 32 := 1#32
  let arg11 : BitVec 32 := Scf.iv v101 c1_i32_52 k0_t2
  let c1024_i32_75 : BitVec 32 := 1024#32
  let v136 : BitVec 32 := Scalar.muli arg11 c1024_i32_75
  let v137 : BitVec 32 := v136
  let v189 : Index := Scalar.indexCast v137
  let c128_107 : Index := 128#32
  ![v189.toNat, 128]
def k0_off18 (i : grid0.Coords) (k0_t2 : Fin (k0_t2_loop i).trips) : Fin 4 → Nat :=
  let c1_113 : Index := 1#32
  let arg1 : BitVec 32 := BitVec.ofNat 32 (i 1).val
  let c1_i32 : BitVec 32 := 1#32
  let v96 : BitVec 32 := Scalar.addi arg1 c1_i32
  let c8_i32 : BitVec 32 := 8#32
  let v97 : BitVec 32 := Scalar.subi c8_i32 v96
  let c1_i32_50 : BitVec 32 := 1#32
  let v99 : BitVec 32 := Scalar.divsi v97 c1_i32_50
  let v100 : BitVec 32 := Scalar.muli v99 c1_i32_50
  let v101 : BitVec 32 := Scalar.addi v96 v100
  let c1_i32_52 : BitVec 32 := 1#32
  let arg11 : BitVec 32 := Scf.iv v101 c1_i32_52 k0_t2
  let v197 : Index := Scalar.indexCast arg11
  let c0_114 : Index := 0#32
  let c0_115 : Index := 0#32
  ![1, v197.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x8x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x8x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S2x8192x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "attn_scale_log2e" => some (((3424635 / 33554432) * (Real.log 2)⁻¹ : ℝ) : EReal)
  | _ => none
-- ==== AttnRefIdeal.lean ====
abbrev S8192x4x96 : Shape := ⟨3, ![8192, 4, 96]⟩
abbrev S8192x4x64 : Shape := ⟨3, ![8192, 4, 64]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x64x8192 : Shape := ⟨3, ![4, 64, 8192]⟩
abbrev S4x8192x96 : Shape := ⟨3, ![4, 8192, 96]⟩
abbrev S4x8192x32 : Shape := ⟨3, ![4, 8192, 32]⟩
abbrev S4x8192x128 : Shape := ⟨3, ![4, 8192, 128]⟩
abbrev S4x8192x64 : Shape := ⟨3, ![4, 8192, 64]⟩

abbrev nBuf : Space → Nat
  | .hbm => 101
  | .vmem => 0
  | .smem => 0
  | _ => 0

abbrev bufTy : (tb : Table) → Fin (tcTables nBuf tb) → BufTy
  | .hbm, ⟨0, _⟩ => ⟨S8192x4x96, .f32⟩
  | .hbm, ⟨1, _⟩ => ⟨S8192x4x96, .f32⟩
  | .hbm, ⟨2, _⟩ => ⟨S8192x4x64, .f32⟩
  | .hbm, ⟨3, _⟩ => ⟨S8192x4x64, .f32⟩
  | .hbm, ⟨4, _⟩ => ⟨S4x8192x8192, .f32⟩
  | .hbm, ⟨5, _⟩ => ⟨S_, .f32⟩
  | .hbm, ⟨6, _⟩ => ⟨S4x8192x8192, .f32⟩
  | .hbm, ⟨7, _⟩ => ⟨S4x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S4x8192x8192, .i1⟩
  | .hbm, ⟨17, _⟩ => ⟨S4x8192x8192, .f32⟩
  | .hbm, ⟨18, _⟩ => ⟨S4x8192x8192, .f32⟩
  | .hbm, ⟨19, _⟩ => ⟨S_, .f32⟩
  | .hbm, ⟨20, _⟩ => ⟨S4x8192x8192, .f32⟩
  | .hbm, ⟨21, _⟩ => ⟨S_, .f32⟩
  | .hbm, ⟨22, _⟩ => ⟨S4x8192, .f32⟩
  | .hbm, ⟨23, _⟩ => ⟨S4x8192x1, .f32⟩
  | .hbm, ⟨24, _⟩ => ⟨S4x8192x8192, .f32⟩
  | .hbm, ⟨25, _⟩ => ⟨S4x8192x8192, .i1⟩
  | .hbm, ⟨26, _⟩ => ⟨S4x8192x8192, .f32⟩
  | .hbm, ⟨27, _⟩ => ⟨S_, .f32⟩
  | .hbm, ⟨28, _⟩ => ⟨S4x8192, .f32⟩
  | .hbm, ⟨29, _⟩ => ⟨S_, .f32⟩
  | .hbm, ⟨30, _⟩ => ⟨S4x8192, .f32⟩
  | .hbm, ⟨31, _⟩ => ⟨S4x8192, .f32⟩
  | .hbm, ⟨32, _⟩ => ⟨S_, .f32⟩
  | .hbm, ⟨33, _⟩ => ⟨S4x8192, .f32⟩
  | .hbm, ⟨34, _⟩ => ⟨S4x8192, .i1⟩
  | .hbm, ⟨35, _⟩ => ⟨S_, .f32⟩
  | .hbm, ⟨36, _⟩ => ⟨S4x8192, .f32⟩
  | .hbm, ⟨37, _⟩ => ⟨S4x8192, .i1⟩
  | .hbm, ⟨38, _⟩ => ⟨S_, .f32⟩
  | .hbm, ⟨39, _⟩ => ⟨S4x8192, .f32⟩
  | .hbm, ⟨40, _⟩ => ⟨S_, .f32⟩
  | .hbm, ⟨41, _⟩ => ⟨S4x8192, .f32⟩
  | .hbm, ⟨42, _⟩ => ⟨S_, .f32⟩
  | .hbm, ⟨43, _⟩ => ⟨S4x8192, .f32⟩
  | .hbm, ⟨44, _⟩ => ⟨S4x8192, .f32⟩
  | .hbm, ⟨45, _⟩ => ⟨S4x8192, .f32⟩
  | .hbm, ⟨46, _⟩ => ⟨S4x8192x1, .f32⟩
  | .hbm, ⟨47, _⟩ => ⟨S4x8192x8192, .f32⟩
  | .hbm, ⟨48, _⟩ => ⟨S4x8192x8192, .f32⟩
  | .hbm, ⟨49, _⟩ => ⟨S4x8192x8192, .f32⟩
  | .hbm, ⟨50, _⟩ => ⟨S_, .f32⟩
  | .hbm, ⟨51, _⟩ => ⟨S4x8192, .f32⟩
  | .hbm, ⟨52, _⟩ => ⟨S4x8192x1, .f32⟩
  | .hbm, ⟨53, _⟩ => ⟨S4x8192x8192, .f32⟩
  | .hbm, ⟨54, _⟩ => ⟨S4x8192x8192, .f32⟩
  | .hbm, ⟨55, _⟩ => ⟨S4x8192x1, .f32⟩
  | .hbm, ⟨56, _⟩ => ⟨S_, .f32⟩
  | .hbm, ⟨57, _⟩ => ⟨S4x8192x1, .f32⟩
  | .hbm, ⟨58, _⟩ => ⟨S4x8192x1, .f32⟩
  | .hbm, ⟨59, _⟩ => ⟨S4x64x8192, .f32⟩
  | .hbm, ⟨60, _⟩ => ⟨S8192x4x64, .f32⟩
  | .hbm, ⟨61, _⟩ => ⟨S4x64x8192, .f32⟩
  | .hbm, ⟨62, _⟩ => ⟨S4x8192x8192, .f32⟩
  | .hbm, ⟨63, _⟩ => ⟨S4x64x8192, .f32⟩
  | .hbm, ⟨64, _⟩ => ⟨S8192x4x64, .f32⟩
  | .hbm, ⟨65, _⟩ => ⟨S4x8192x8192, .f32⟩
  | .hbm, ⟨66, _⟩ => ⟨S4x8192x8192, .f32⟩
  | .hbm, ⟨67, _⟩ => ⟨S4x8192x8192, .f32⟩
  | .hbm, ⟨68, _⟩ => ⟨S_, .f32⟩
  | .hbm, ⟨69, _⟩ => ⟨S4x8192, .f32⟩
  | .hbm, ⟨70, _⟩ => ⟨S4x8192x1, .f32⟩
  | .hbm, ⟨71, _⟩ => ⟨S4x8192x1, .f32⟩
  | .hbm, ⟨72, _⟩ => ⟨S4x8192x8192, .f32⟩
  | .hbm, ⟨73, _⟩ => ⟨S4x8192x8192, .f32⟩
  | .hbm, ⟨74, _⟩ => ⟨S_, .f32⟩
  | .hbm, ⟨75, _⟩ => ⟨S4x8192, .f32⟩
  | .hbm, ⟨76, _⟩ => ⟨S4x8192x8192, .f32⟩
  | .hbm, ⟨77, _⟩ => ⟨S4x8192x8192, .f32⟩
  | .hbm, ⟨78, _⟩ => ⟨S4x8192x8192, .f32⟩
  | .hbm, ⟨79, _⟩ => ⟨S_, .f32⟩
  | .hbm, ⟨80, _⟩ => ⟨S4x8192x8192, .f32⟩
  | .hbm, ⟨81, _⟩ => ⟨S4x8192x8192, .f32⟩
  | .hbm, ⟨82, _⟩ => ⟨S_, .f32⟩
  | .hbm, ⟨83, _⟩ => ⟨S4x8192x8192, .f32⟩
  | .hbm, ⟨84, _⟩ => ⟨S4x8192x8192, .f32⟩
  | .hbm, ⟨85, _⟩ => ⟨S4x8192x96, .f32⟩
  | .hbm, ⟨86, _⟩ => ⟨S8192x4x96, .f32⟩
  | .hbm, ⟨87, _⟩ => ⟨S4x8192x96, .f32⟩
  | .hbm, ⟨88, _⟩ => ⟨S8192x4x96, .f32⟩
  | .hbm, ⟨89, _⟩ => ⟨S4x8192x96, .f32⟩
  | .hbm, ⟨90, _⟩ => ⟨S_, .f32⟩
  | .hbm, ⟨91, _⟩ => ⟨S4x8192x32, .f32⟩
  | .hbm, ⟨92, _⟩ => ⟨S4x8192x128, .f32⟩
  | .hbm, ⟨93, _⟩ => ⟨S4x8192x96, .f32⟩
  | .hbm, ⟨94, _⟩ => ⟨S_, .f32⟩
  | .hbm, ⟨95, _⟩ => ⟨S4x8192x32, .f32⟩
  | .hbm, ⟨96, _⟩ => ⟨S4x8192x128, .f32⟩
  | .hbm, ⟨97, _⟩ => ⟨S4x8192x64, .f32⟩
  | .hbm, ⟨98, _⟩ => ⟨S_, .f32⟩
  | .hbm, ⟨99, _⟩ => ⟨S4x8192x64, .f32⟩
  | .hbm, ⟨100, _⟩ => ⟨S4x8192x128, .f32⟩
  | _, _ => ⟨S8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_14 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_15 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_16 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]
-- ==== Ffn2.lean ====
abbrev S8192x4096 : Shape := ⟨2, ![8192, 4096]⟩
abbrev S4096x1024 : Shape := ⟨2, ![4096, 1024]⟩
abbrev S1024 : Shape := ⟨1, ![1024]⟩
abbrev S8192x1024 : Shape := ⟨2, ![8192, 1024]⟩
abbrev S_ : Shape := ⟨0, ![]⟩
abbrev S1024x4096 : Shape := ⟨2, ![1024, 4096]⟩
abbrev S1x1024 : Shape := ⟨2, ![1, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 19
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S1024, .f32⟩
  | .hbm, ⟨3, _⟩ => ⟨S8192x1024, .f32⟩
  | .hbm, ⟨4, _⟩ => ⟨S8192x4096, .bf16⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .bf16⟩
  | .hbm, ⟨11, _⟩ => ⟨S4096x1024, .bf16⟩
  | .hbm, ⟨12, _⟩ => ⟨S8192x1024, .f32⟩
  | .hbm, ⟨13, _⟩ => ⟨S4096x1024, .bf16⟩
  | .hbm, ⟨14, _⟩ => ⟨S1024x4096, .bf16⟩
  | .hbm, ⟨15, _⟩ => ⟨S1x1024, .f32⟩
  | .hbm, ⟨16, _⟩ => ⟨S8192x1024, .bf16⟩
  | .hbm, ⟨17, _⟩ => ⟨S8192x4096, .bf16⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x4096, .bf16⟩
  | .local _ .vmem, ⟨6, _⟩ => ⟨S512x4096, .bf16⟩
  | .local _ .vmem, ⟨7, _⟩ => ⟨S1024x4096, .bf16⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11_0 : Ref sig .tc := ⟨.hbm, 16, rfl⟩
abbrev main_v11_1 : Ref sig .tc := ⟨.hbm, 17, rfl⟩
abbrev main_v11_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Ffn2RefIdeal.lean ====
abbrev S8192x4096 : Shape := ⟨2, ![8192, 4096]⟩
abbrev S4096x1024 : Shape := ⟨2, ![4096, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x4096, .f32⟩
  | .hbm, ⟨63, _⟩ => ⟨S8192x4096, .f32⟩
  | .hbm, ⟨64, _⟩ => ⟨S_, .f32⟩
  | .hbm, ⟨65, _⟩ => ⟨S8192x4096, .f32⟩
  | .hbm, ⟨66, _⟩ => ⟨S8192x4096, .f32⟩
  | .hbm, ⟨67, _⟩ => ⟨S8192x1024, .bf16⟩
  | .hbm, ⟨68, _⟩ => ⟨S8192x4096, .bf16⟩
  | .hbm, ⟨69, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== InProj.lean ====
abbrev S8192x1024 : Shape := ⟨2, ![8192, 1024]⟩
abbrev S1024 : Shape := ⟨1, ![1024]⟩
abbrev S1024x6048 : Shape := ⟨2, ![1024, 6048]⟩
abbrev S8192x16 : Shape := ⟨2, ![8192, 16]⟩
abbrev S8192x6048 : Shape := ⟨2, ![8192, 6048]⟩
abbrev S1024x256 : Shape := ⟨2, ![1024, 256]⟩
abbrev S1024x128 : Shape := ⟨2, ![1024, 128]⟩
abbrev S1024x32 : Shape := ⟨2, ![1024, 32]⟩
abbrev S1024x4096 : Shape := ⟨2, ![1024, 4096]⟩
abbrev S_ : Shape := ⟨0, ![]⟩
abbrev S1024x64 : Shape := ⟨2, ![1024, 64]⟩
abbrev S1024x16 : Shape := ⟨2, ![1024, 16]⟩
abbrev S1024x6272 : Shape := ⟨2, ![1024, 6272]⟩
abbrev S6272x1024 : Shape := ⟨2, ![6272, 1024]⟩
abbrev S8192x256 : Shape := ⟨2, ![8192, 256]⟩
abbrev S8192x128 : Shape := ⟨2, ![8192, 128]⟩
abbrev S8192x32 : Shape := ⟨2, ![8192, 32]⟩
abbrev S8192x4096 : Shape := ⟨2, ![8192, 4096]⟩
abbrev S8192x64 : Shape := ⟨2, ![8192, 64]⟩
abbrev S8192x768 : Shape := ⟨2, ![8192, 768]⟩
abbrev S8192x640 : Shape := ⟨2, ![8192, 640]⟩
abbrev S4096x1024 : Shape := ⟨2, ![4096, 1024]⟩
abbrev S768x1024 : Shape := ⟨2, ![768, 1024]⟩
abbrev S640x1024 : Shape := ⟨2, ![640, 1024]⟩
abbrev S1x1024 : Shape := ⟨2, ![1, 1024]⟩
abbrev S512x4096 : Shape := ⟨2, ![512, 4096]⟩
abbrev S512x768 : Shape := ⟨2, ![512, 768]⟩
abbrev S512x640 : Shape := ⟨2, ![512, 640]⟩
abbrev S512x1024 : Shape := ⟨2, ![512, 1024]⟩
abbrev S512 : Shape := ⟨1, ![512]⟩
abbrev S512x1 : Shape := ⟨2, ![512, 1]⟩

abbrev nBuf : Space → Nat
  | .hbm => 68
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6048, .f32⟩
  | .hbm, ⟨3, _⟩ => ⟨S8192x16, .f32⟩
  | .hbm, ⟨4, _⟩ => ⟨S8192x16, .f32⟩
  | .hbm, ⟨5, _⟩ => ⟨S8192x6048, .f32⟩
  | .hbm, ⟨6, _⟩ => ⟨S8192x1024, .f32⟩
  | .hbm, ⟨7, _⟩ => ⟨S1024x6048, .bf16⟩
  | .hbm, ⟨8, _⟩ => ⟨S1024x256, .bf16⟩
  | .hbm, ⟨9, _⟩ => ⟨S1024x128, .bf16⟩
  | .hbm, ⟨10, _⟩ => ⟨S1024x32, .bf16⟩
  | .hbm, ⟨11, _⟩ => ⟨S1024x256, .bf16⟩
  | .hbm, ⟨12, _⟩ => ⟨S1024x256, .bf16⟩
  | .hbm, ⟨13, _⟩ => ⟨S1024x256, .bf16⟩
  | .hbm, ⟨14, _⟩ => ⟨S1024x256, .bf16⟩
  | .hbm, ⟨15, _⟩ => ⟨S1024x256, .bf16⟩
  | .hbm, ⟨16, _⟩ => ⟨S1024x256, .bf16⟩
  | .hbm, ⟨17, _⟩ => ⟨S1024x4096, .bf16⟩
  | .hbm, ⟨18, _⟩ => ⟨S_, .bf16⟩
  | .hbm, ⟨19, _⟩ => ⟨S1024x64, .bf16⟩
  | .hbm, ⟨20, _⟩ => ⟨S_, .bf16⟩
  | .hbm, ⟨21, _⟩ => ⟨S1024x32, .bf16⟩
  | .hbm, ⟨22, _⟩ => ⟨S1024x128, .bf16⟩
  | .hbm, ⟨23, _⟩ => ⟨S1024x16, .bf16⟩
  | .hbm, ⟨24, _⟩ => ⟨S1024x16, .bf16⟩
  | .hbm, ⟨25, _⟩ => ⟨S1024x16, .bf16⟩
  | .hbm, ⟨26, _⟩ => ⟨S1024x32, .bf16⟩
  | .hbm, ⟨27, _⟩ => ⟨S_, .bf16⟩
  | .hbm, ⟨28, _⟩ => ⟨S1024x64, .bf16⟩
  | .hbm, ⟨29, _⟩ => ⟨S_, .bf16⟩
  | .hbm, ⟨30, _⟩ => ⟨S1024x32, .bf16⟩
  | .hbm, ⟨31, _⟩ => ⟨S1024x128, .bf16⟩
  | .hbm, ⟨32, _⟩ => ⟨S1024x6272, .bf16⟩
  | .hbm, ⟨33, _⟩ => ⟨S6272x1024, .bf16⟩
  | .hbm, ⟨34, _⟩ => ⟨S8192x256, .f32⟩
  | .hbm, ⟨35, _⟩ => ⟨S8192x128, .f32⟩
  | .hbm, ⟨36, _⟩ => ⟨S8192x32, .f32⟩
  | .hbm, ⟨37, _⟩ => ⟨S8192x256, .f32⟩
  | .hbm, ⟨38, _⟩ => ⟨S8192x256, .f32⟩
  | .hbm, ⟨39, _⟩ => ⟨S8192x256, .f32⟩
  | .hbm, ⟨40, _⟩ => ⟨S8192x256, .f32⟩
  | .hbm, ⟨41, _⟩ => ⟨S8192x256, .f32⟩
  | .hbm, ⟨42, _⟩ => ⟨S8192x256, .f32⟩
  | .hbm, ⟨43, _⟩ => ⟨S8192x4096, .f32⟩
  | .hbm, ⟨44, _⟩ => ⟨S_, .f32⟩
  | .hbm, ⟨45, _⟩ => ⟨S8192x64, .f32⟩
  | .hbm, ⟨46, _⟩ => ⟨S_, .f32⟩
  | .hbm, ⟨47, _⟩ => ⟨S8192x32, .f32⟩
  | .hbm, ⟨48, _⟩ => ⟨S8192x32, .f32⟩
  | .hbm, ⟨49, _⟩ => ⟨S8192x32, .f32⟩
  | .hbm, ⟨50, _⟩ => ⟨S8192x128, .f32⟩
  | .hbm, ⟨51, _⟩ => ⟨S8192x32, .f32⟩
  | .hbm, ⟨52, _⟩ => ⟨S8192x32, .f32⟩
  | .hbm, ⟨53, _⟩ => ⟨S8192x128, .f32⟩
  | .hbm, ⟨54, _⟩ => ⟨S8192x768, .f32⟩
  | .hbm, ⟨55, _⟩ => ⟨S8192x768, .f32⟩
  | .hbm, ⟨56, _⟩ => ⟨S8192x640, .f32⟩
  | .hbm, ⟨57, _⟩ => ⟨S8192x4096, .bf16⟩
  | .hbm, ⟨58, _⟩ => ⟨S4096x1024, .bf16⟩
  | .hbm, ⟨59, _⟩ => ⟨S8192x768, .bf16⟩
  | .hbm, ⟨60, _⟩ => ⟨S768x1024, .bf16⟩
  | .hbm, ⟨61, _⟩ => ⟨S8192x768, .bf16⟩
  | .hbm, ⟨62, _⟩ => ⟨S768x1024, .bf16⟩
  | .hbm, ⟨63, _⟩ => ⟨S8192x640, .bf16⟩
  | .hbm, ⟨64, _⟩ => ⟨S640x1024, .bf16⟩
  | .hbm, ⟨65, _⟩ => ⟨S1x1024, .f32⟩
  | .hbm, ⟨66, _⟩ => ⟨S8192x1024, .f32⟩
  | .hbm, ⟨67, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x768, .bf16⟩
  | .local _ .vmem, ⟨3, _⟩ => ⟨S512x768, .bf16⟩
  | .local _ .vmem, ⟨4, _⟩ => ⟨S512x768, .bf16⟩
  | .local _ .vmem, ⟨5, _⟩ => ⟨S512x768, .bf16⟩
  | .local _ .vmem, ⟨6, _⟩ => ⟨S512x640, .bf16⟩
  | .local _ .vmem, ⟨7, _⟩ => ⟨S512x640, .bf16⟩
  | .local _ .vmem, ⟨8, _⟩ => ⟨S4096x1024, .bf16⟩
  | .local _ .vmem, ⟨9, _⟩ => ⟨S768x1024, .bf16⟩
  | .local _ .vmem, ⟨10, _⟩ => ⟨S768x1024, .bf16⟩
  | .local _ .vmem, ⟨11, _⟩ => ⟨S640x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_cst_4 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53_0 : Ref sig .tc := ⟨.hbm, 66, rfl⟩
abbrev main_v53_1 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S640x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InProjRefIdeal.lean ====
abbrev S8192x1024 : Shape := ⟨2, ![8192, 1024]⟩
abbrev S1024 : Shape := ⟨1, ![1024]⟩
abbrev S1024x6048 : Shape := ⟨2, ![1024, 6048]⟩
abbrev S8192x16 : Shape := ⟨2, ![8192, 16]⟩
abbrev S8192x6048 : Shape := ⟨2, ![8192, 6048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x256 : Shape := ⟨2, ![8192, 256]⟩
abbrev S8192x128 : Shape := ⟨2, ![8192, 128]⟩
abbrev S8192x32 : Shape := ⟨2, ![8192, 32]⟩
abbrev S8192x4096 : Shape := ⟨2, ![8192, 4096]⟩

abbrev nBuf : Space → Nat
  | .hbm => 97
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6048, .f32⟩
  | .hbm, ⟨3, _⟩ => ⟨S8192x16, .f32⟩
  | .hbm, ⟨4, _⟩ => ⟨S8192x16, .f32⟩
  | .hbm, ⟨5, _⟩ => ⟨S8192x6048, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x6048, .f32⟩
  | .hbm, ⟨28, _⟩ => ⟨S8192x256, .f32⟩
  | .hbm, ⟨29, _⟩ => ⟨S8192x128, .f32⟩
  | .hbm, ⟨30, _⟩ => ⟨S8192x32, .f32⟩
  | .hbm, ⟨31, _⟩ => ⟨S8192x256, .f32⟩
  | .hbm, ⟨32, _⟩ => ⟨S8192x256, .f32⟩
  | .hbm, ⟨33, _⟩ => ⟨S8192x256, .f32⟩
  | .hbm, ⟨34, _⟩ => ⟨S8192x256, .f32⟩
  | .hbm, ⟨35, _⟩ => ⟨S8192x256, .f32⟩
  | .hbm, ⟨36, _⟩ => ⟨S8192x256, .f32⟩
  | .hbm, ⟨37, _⟩ => ⟨S8192x4096, .f32⟩
  | .hbm, ⟨38, _⟩ => ⟨S8192x16, .f32⟩
  | .hbm, ⟨39, _⟩ => ⟨S8192x16, .f32⟩
  | .hbm, ⟨40, _⟩ => ⟨S8192x16, .f32⟩
  | .hbm, ⟨41, _⟩ => ⟨S8192x16, .f32⟩
  | .hbm, ⟨42, _⟩ => ⟨S8192x16, .f32⟩
  | .hbm, ⟨43, _⟩ => ⟨S8192x16, .f32⟩
  | .hbm, ⟨44, _⟩ => ⟨S8192x16, .f32⟩
  | .hbm, ⟨45, _⟩ => ⟨S8192x16, .f32⟩
  | .hbm, ⟨46, _⟩ => ⟨S8192x32, .f32⟩
  | .hbm, ⟨47, _⟩ => ⟨S8192x6048, .f32⟩
  | .hbm, ⟨48, _⟩ => ⟨S8192x256, .f32⟩
  | .hbm, ⟨49, _⟩ => ⟨S8192x128, .f32⟩
  | .hbm, ⟨50, _⟩ => ⟨S8192x32, .f32⟩
  | .hbm, ⟨51, _⟩ => ⟨S8192x256, .f32⟩
  | .hbm, ⟨52, _⟩ => ⟨S8192x256, .f32⟩
  | .hbm, ⟨53, _⟩ => ⟨S8192x256, .f32⟩
  | .hbm, ⟨54, _⟩ => ⟨S8192x256, .f32⟩
  | .hbm, ⟨55, _⟩ => ⟨S8192x256, .f32⟩
  | .hbm, ⟨56, _⟩ => ⟨S8192x256, .f32⟩
  | .hbm, ⟨57, _⟩ => ⟨S8192x4096, .f32⟩
  | .hbm, ⟨58, _⟩ => ⟨S8192x16, .f32⟩
  | .hbm, ⟨59, _⟩ => ⟨S8192x16, .f32⟩
  | .hbm, ⟨60, _⟩ => ⟨S8192x16, .f32⟩
  | .hbm, ⟨61, _⟩ => ⟨S8192x16, .f32⟩
  | .hbm, ⟨62, _⟩ => ⟨S8192x16, .f32⟩
  | .hbm, ⟨63, _⟩ => ⟨S8192x16, .f32⟩
  | .hbm, ⟨64, _⟩ => ⟨S8192x16, .f32⟩
  | .hbm, ⟨65, _⟩ => ⟨S8192x16, .f32⟩
  | .hbm, ⟨66, _⟩ => ⟨S8192x16, .f32⟩
  | .hbm, ⟨67, _⟩ => ⟨S8192x32, .f32⟩
  | .hbm, ⟨68, _⟩ => ⟨S8192x6048, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S_, .f32⟩
  | .hbm, ⟨77, _⟩ => ⟨S1024, .f32⟩
  | .hbm, ⟨78, _⟩ => ⟨S8192x1024, .f32⟩
  | .hbm, ⟨79, _⟩ => ⟨S_, .f32⟩
  | .hbm, ⟨80, _⟩ => ⟨S8192, .f32⟩
  | .hbm, ⟨81, _⟩ => ⟨S8192x1, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_3 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_cst_4 : Ref sig .tc := ⟨.hbm, 76, rfl⟩
abbrev main_v64 : Ref sig .tc := ⟨.hbm, 77, rfl⟩
abbrev main_v65 : Ref sig .tc := ⟨.hbm, 78, rfl⟩
abbrev main_cst_5 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_cst_6 : Ref sig .tc := ⟨.hbm, 86, rfl⟩
abbrev main_v72 : Ref sig .tc := ⟨.hbm, 87, rfl⟩
abbrev main_v73 : Ref sig .tc := ⟨.hbm, 88, rfl⟩
abbrev main_cst_7 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩

abbrev nD : Nat := 1
abbrev τ : Topo := Topo.v7x

variable {F : FTy → Type} [FloatOps F]
-- ==== Loss.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S8x128 : Shape := ⟨2, ![8, 128]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S8192x4096, .bf16⟩
  | .hbm, ⟨6, _⟩ => ⟨S4096x1024, .bf16⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S8x128, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== LossRefIdeal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8x128 : Shape := ⟨2, ![8, 128]⟩

abbrev nBuf : Space → Nat
  | .hbm => 51
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8x128, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_cst : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_cst_7 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_cst_9 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Qkv.lean ====
abbrev S8192x6048 : Shape := ⟨2, ![8192, 6048]⟩
abbrev S256 : Shape := ⟨1, ![256]⟩
abbrev S256x384 : Shape := ⟨2, ![256, 384]⟩
abbrev S128 : Shape := ⟨1, ![128]⟩
abbrev S128x512 : Shape := ⟨2, ![128, 512]⟩
abbrev S8192x16 : Shape := ⟨2, ![8192, 16]⟩
abbrev S8192x4x96 : Shape := ⟨3, ![8192, 4, 96]⟩
abbrev S8192x4x64 : Shape := ⟨3, ![8192, 4, 64]⟩
abbrev S256x4x96 : Shape := ⟨3, ![256, 4, 96]⟩
abbrev S256x4x64 : Shape := ⟨3, ![256, 4, 64]⟩
abbrev S256x4x32 : Shape := ⟨3, ![256, 4, 32]⟩
abbrev S_ : Shape := ⟨0, ![]⟩
abbrev S256x4x128 : Shape := ⟨3, ![256, 4, 128]⟩
abbrev S256x512 : Shape := ⟨2, ![256, 512]⟩
abbrev S256x4x16 : Shape := ⟨3, ![256, 4, 16]⟩
abbrev S128x4x128 : Shape := ⟨3, ![128, 4, 128]⟩
abbrev S256x1024 : Shape := ⟨2, ![256, 1024]⟩
abbrev S128x4x64 : Shape := ⟨3, ![128, 4, 64]⟩
abbrev S128x1024 : Shape := ⟨2, ![128, 1024]⟩
abbrev S8192x64 : Shape := ⟨2, ![8192, 64]⟩
abbrev S8192x32 : Shape := ⟨2, ![8192, 32]⟩
abbrev S8192x128 : Shape := ⟨2, ![8192, 128]⟩
abbrev S4x8192x96 : Shape := ⟨3, ![4, 8192, 96]⟩
abbrev S4x8192x32 : Shape := ⟨3, ![4, 8192, 32]⟩
abbrev S4x8192x128 : Shape := ⟨3, ![4, 8192, 128]⟩
abbrev S4x8192x64 : Shape := ⟨3, ![4, 8192, 64]⟩
abbrev S8192x256 : Shape := ⟨2, ![8192, 256]⟩
abbrev S8192x4096 : Shape := ⟨2, ![8192, 4096]⟩
abbrev S8192x6272 : Shape := ⟨2, ![8192, 6272]⟩
abbrev S1x256 : Shape := ⟨2, ![1, 256]⟩
abbrev S1x128 : Shape := ⟨2, ![1, 128]⟩
abbrev S8192x640 : Shape := ⟨2, ![8192, 640]⟩
abbrev S4x512x128 : Shape := ⟨3, ![4, 512, 128]⟩
abbrev S512x256 : Shape := ⟨2, ![512, 256]⟩
abbrev S512x128 : Shape := ⟨2, ![512, 128]⟩
abbrev S512x640 : Shape := ⟨2, ![512, 640]⟩
abbrev S1x512x128 : Shape := ⟨3, ![1, 512, 128]⟩
abbrev S512x1024 : Shape := ⟨2, ![512, 1024]⟩
abbrev S512 : Shape := ⟨1, ![512]⟩
abbrev S512x1 : Shape := ⟨2, ![512, 1]⟩

abbrev nBuf : Space → Nat
  | .hbm => 132
  | .vmem => 26
  | .smem => 0
  | _ => 0

abbrev hbmTy0_0 (i : Nat) : BufTy := match i % 128 with
  | 0 => ⟨S8192x6048, .f32⟩
  | 1 => ⟨S256, .f32⟩
  | 2 => ⟨S256x384, .f32⟩
  | 3 => ⟨S128, .f32⟩
  | 4 => ⟨S128x512, .f32⟩
  | 5 => ⟨S8192x16, .f32⟩
  | 6 => ⟨S8192x16, .f32⟩
  | 7 => ⟨S8192x4x96, .f32⟩
  | 8 => ⟨S8192x4x96, .f32⟩
  | 9 => ⟨S8192x4x64, .f32⟩
  | 10 => ⟨S256x384, .bf16⟩
  | 11 => ⟨S256x4x96, .bf16⟩
  | 12 => ⟨S256x4x64, .bf16⟩
  | 13 => ⟨S256x4x32, .bf16⟩
  | 14 => ⟨S_, .bf16⟩
  | 15 => ⟨S256x4x32, .bf16⟩
  | 16 => ⟨S256x4x128, .bf16⟩
  | 17 => ⟨S256x512, .bf16⟩
  | 18 => ⟨S256x4x16, .bf16⟩
  | 19 => ⟨S256x4x16, .bf16⟩
  | 20 => ⟨S256x4x16, .bf16⟩
  | 21 => ⟨S256x4x32, .bf16⟩
  | 22 => ⟨S_, .bf16⟩
  | 23 => ⟨S256x4x64, .bf16⟩
  | 24 => ⟨S_, .bf16⟩
  | 25 => ⟨S256x4x32, .bf16⟩
  | 26 => ⟨S256x4x128, .bf16⟩
  | 27 => ⟨S256x512, .bf16⟩
  | 28 => ⟨S128x512, .bf16⟩
  | 29 => ⟨S128x4x128, .bf16⟩
  | 30 => ⟨S256x1024, .bf16⟩
  | 31 => ⟨S128x4x64, .bf16⟩
  | 32 => ⟨S_, .bf16⟩
  | 33 => ⟨S128x4x64, .bf16⟩
  | 34 => ⟨S128x4x128, .bf16⟩
  | 35 => ⟨S128x512, .bf16⟩
  | 36 => ⟨S128x4x64, .bf16⟩
  | 37 => ⟨S_, .bf16⟩
  | 38 => ⟨S128x4x64, .bf16⟩
  | 39 => ⟨S128x4x128, .bf16⟩
  | 40 => ⟨S128x512, .bf16⟩
  | 41 => ⟨S128x1024, .bf16⟩
  | 42 => ⟨S_, .f32⟩
  | 43 => ⟨S8192x64, .f32⟩
  | 44 => ⟨S_, .f32⟩
  | 45 => ⟨S8192x64, .f32⟩
  | 46 => ⟨S_, .f32⟩
  | 47 => ⟨S8192x32, .f32⟩
  | 48 => ⟨S8192x128, .f32⟩
  | 49 => ⟨S8192x128, .f32⟩
  | 50 => ⟨S8192x128, .f32⟩
  | 51 => ⟨S4x8192x96, .f32⟩
  | 52 => ⟨S_, .f32⟩
  | 53 => ⟨S4x8192x32, .f32⟩
  | 54 => ⟨S4x8192x128, .f32⟩
  | 55 => ⟨S4x8192x96, .f32⟩
  | 56 => ⟨S_, .f32⟩
  | 57 => ⟨S4x8192x32, .f32⟩
  | 58 => ⟨S4x8192x128, .f32⟩
  | 59 => ⟨S4x8192x64, .f32⟩
  | 60 => ⟨S_, .f32⟩
  | 61 => ⟨S4x8192x64, .f32⟩
  | 62 => ⟨S4x8192x128, .f32⟩
  | 63 => ⟨S8192x6048, .bf16⟩
  | 64 => ⟨S8192x256, .bf16⟩
  | 65 => ⟨S8192x128, .bf16⟩
  | 66 => ⟨S8192x32, .bf16⟩
  | 67 => ⟨S8192x256, .bf16⟩
  | 68 => ⟨S8192x256, .bf16⟩
  | 69 => ⟨S8192x256, .bf16⟩
  | 70 => ⟨S8192x256, .bf16⟩
  | 71 => ⟨S8192x256, .bf16⟩
  | 72 => ⟨S8192x256, .bf16⟩
  | 73 => ⟨S8192x4096, .bf16⟩
  | 74 => ⟨S_, .bf16⟩
  | 75 => ⟨S8192x64, .bf16⟩
  | 76 => ⟨S_, .bf16⟩
  | 77 => ⟨S8192x32, .bf16⟩
  | 78 => ⟨S8192x128, .bf16⟩
  | 79 => ⟨S8192x16, .bf16⟩
  | 80 => ⟨S8192x16, .bf16⟩
  | 81 => ⟨S8192x16, .bf16⟩
  | 82 => ⟨S8192x32, .bf16⟩
  | 83 => ⟨S_, .bf16⟩
  | 84 => ⟨S8192x64, .bf16⟩
  | 85 => ⟨S_, .bf16⟩
  | 86 => ⟨S8192x32, .bf16⟩
  | 87 => ⟨S8192x128, .bf16⟩
  | 88 => ⟨S8192x6272, .bf16⟩
  | 89 => ⟨S1x256, .f32⟩
  | 90 => ⟨S1x128, .f32⟩
  | 91 => ⟨S8192x640, .bf16⟩
  | 92 => ⟨S256x1024, .f32⟩
  | 93 => ⟨S128x1024, .f32⟩
  | 94 => ⟨S1x256, .f32⟩
  | 95 => ⟨S1x128, .f32⟩
  | 96 => ⟨S256x512, .f32⟩
  | 97 => ⟨S256x4x128, .f32⟩
  | 98 => ⟨S256x512, .f32⟩
  | 99 => ⟨S256x4x128, .f32⟩
  | 100 => ⟨S256x4x64, .f32⟩
  | 101 => ⟨S256x4x32, .f32⟩
  | 102 => ⟨S256x4x32, .f32⟩
  | 103 => ⟨S256x4x16, .f32⟩
  | 104 => ⟨S256x4x16, .f32⟩
  | 105 => ⟨S256x4x16, .f32⟩
  | 106 => ⟨S256x4x32, .f32⟩
  | 107 => ⟨S256x4x32, .f32⟩
  | 108 => ⟨S256x4x96, .f32⟩
  | 109 => ⟨S128x512, .f32⟩
  | 110 => ⟨S128x4x128, .f32⟩
  | 111 => ⟨S128x512, .f32⟩
  | 112 => ⟨S128x4x128, .f32⟩
  | 113 => ⟨S128x4x64, .f32⟩
  | 114 => ⟨S128x4x64, .f32⟩
  | 115 => ⟨S128x4x128, .f32⟩
  | 116 => ⟨S8192x640, .f32⟩
  | 117 => ⟨S8192x256, .f32⟩
  | 118 => ⟨S8192x128, .f32⟩
  | 119 => ⟨S8192x128, .f32⟩
  | 120 => ⟨S8192x128, .f32⟩
  | 121 => ⟨S8192x32, .f32⟩
  | 122 => ⟨S8192x32, .f32⟩
  | 123 => ⟨S8192x16, .f32⟩
  | 124 => ⟨S8192x16, .f32⟩
  | 125 => ⟨S8192x16, .f32⟩
  | 126 => ⟨S8192x32, .f32⟩
  | 127 => ⟨S8192x32, .f32⟩
  | _ => ⟨S8192x6048, .f32⟩

abbrev hbmTy0_1 (i : Nat) : BufTy := match i % 128 with
  | 0 => ⟨S256, .f32⟩
  | 1 => ⟨S256x384, .f32⟩
  | 2 => ⟨S128, .f32⟩
  | 3 => ⟨S128x512, .f32⟩
  | _ => ⟨S8192x6048, .f32⟩

abbrev hbmTy (i : Nat) : BufTy := match i / 128 with
  | 0 => hbmTy0_0 i
  | 1 => hbmTy0_1 i
  | _ => ⟨S8192x6048, .f32⟩

abbrev bufTy : (tb : Table) → Fin (tcTables nBuf tb) → BufTy
  | .hbm, ⟨i, _⟩ => hbmTy i
  | .local _ .vmem, ⟨0, _⟩ => ⟨S4x512x128, .f32⟩
  | .local _ .vmem, ⟨1, _⟩ => ⟨S4x512x128, .f32⟩
  | .local _ .vmem, ⟨2, _⟩ => ⟨S4x512x128, .f32⟩
  | .local _ .vmem, ⟨3, _⟩ => ⟨S4x512x128, .f32⟩
  | .local _ .vmem, ⟨4, _⟩ => ⟨S4x512x128, .f32⟩
  | .local _ .vmem, ⟨5, _⟩ => ⟨S4x512x128, .f32⟩
  | .local _ .vmem, ⟨6, _⟩ => ⟨S512x256, .bf16⟩
  | .local _ .vmem, ⟨7, _⟩ => ⟨S512x256, .bf16⟩
  | .local _ .vmem, ⟨8, _⟩ => ⟨S512x128, .bf16⟩
  | .local _ .vmem, ⟨9, _⟩ => ⟨S512x128, .bf16⟩
  | .local _ .vmem, ⟨10, _⟩ => ⟨S1x256, .f32⟩
  | .local _ .vmem, ⟨11, _⟩ => ⟨S1x128, .f32⟩
  | .local _ .vmem, ⟨12, _⟩ => ⟨S256x1024, .bf16⟩
  | .local _ .vmem, ⟨13, _⟩ => ⟨S128x1024, .bf16⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x640, .bf16⟩
  | .local _ .vmem, ⟨21, _⟩ => ⟨S512x640, .bf16⟩
  | .local _ .vmem, ⟨22, _⟩ => ⟨S256x1024, .f32⟩
  | .local _ .vmem, ⟨23, _⟩ => ⟨S128x1024, .f32⟩
  | .local _ .vmem, ⟨24, _⟩ => ⟨S1x256, .f32⟩
  | .local _ .vmem, ⟨25, _⟩ => ⟨S1x128, .f32⟩
  | _, _ => ⟨S8192x6048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_9 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66_0 : Ref sig .tc := ⟨.hbm, 91, rfl⟩
abbrev main_v66_1 : Ref sig .tc := ⟨.hbm, 92, rfl⟩
abbrev main_v66_2 : Ref sig .tc := ⟨.hbm, 93, rfl⟩
abbrev main_v66_3 : Ref sig .tc := ⟨.hbm, 94, rfl⟩
abbrev main_v66_4 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_4 (i : grid0.Coords) : Fin 2 → Nat :=
  let arg0 : BitVec 32 := BitVec.ofNat 32 (i 0).val
  let c46_i32 : BitVec 32 := 46#32
  let c0_i32 : BitVec 32 := 0#32
  ![arg0.toNat, c46_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x640 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== QkvRefIdeal.lean ====
abbrev S8192x6048 : Shape := ⟨2, ![8192, 6048]⟩
abbrev S256 : Shape := ⟨1, ![256]⟩
abbrev S256x384 : Shape := ⟨2, ![256, 384]⟩
abbrev S128 : Shape := ⟨1, ![128]⟩
abbrev S128x512 : Shape := ⟨2, ![128, 512]⟩
abbrev S8192x16 : Shape := ⟨2, ![8192, 16]⟩
abbrev S8192x4x96 : Shape := ⟨3, ![8192, 4, 96]⟩
abbrev S8192x4x64 : Shape := ⟨3, ![8192, 4, 64]⟩
abbrev S8192x256 : Shape := ⟨2, ![8192, 256]⟩
abbrev S8192x128 : Shape := ⟨2, ![8192, 128]⟩
abbrev S8192x32 : Shape := ⟨2, ![8192, 32]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S8192x384 : Shape := ⟨2, ![8192, 384]⟩
abbrev S8192x4x32 : Shape := ⟨3, ![8192, 4, 32]⟩
abbrev S1x128 : Shape := ⟨2, ![1, 128]⟩
abbrev S8192x512 : Shape := ⟨2, ![8192, 512]⟩
abbrev S8192x4x128 : Shape := ⟨3, ![8192, 4, 128]⟩
abbrev S8192x1x16 : Shape := ⟨3, ![8192, 1, 16]⟩
abbrev S8192x4x16 : Shape := ⟨3, ![8192, 4, 16]⟩
abbrev S8192x1x32 : Shape := ⟨3, ![8192, 1, 32]⟩
abbrev S512x128 : Shape := ⟨2, ![512, 128]⟩
abbrev S384x256 : Shape := ⟨2, ![384, 256]⟩

abbrev nBuf : Space → Nat
  | .hbm => 197
  | .vmem => 0
  | .smem => 0
  | _ => 0

abbrev hbmTy0_0 (i : Nat) : BufTy := match i % 128 with
  | 0 => ⟨S8192x6048, .f32⟩
  | 1 => ⟨S256, .f32⟩
  | 2 => ⟨S256x384, .f32⟩
  | 3 => ⟨S128, .f32⟩
  | 4 => ⟨S128x512, .f32⟩
  | 5 => ⟨S8192x16, .f32⟩
  | 6 => ⟨S8192x16, .f32⟩
  | 7 => ⟨S8192x4x96, .f32⟩
  | 8 => ⟨S8192x4x96, .f32⟩
  | 9 => ⟨S8192x4x64, .f32⟩
  | 10 => ⟨S8192x256, .f32⟩
  | 11 => ⟨S8192x128, .f32⟩
  | 12 => ⟨S8192x32, .f32⟩
  | 13 => ⟨S8192x256, .f32⟩
  | 14 => ⟨S8192x256, .f32⟩
  | 15 => ⟨S8192x256, .f32⟩
  | 16 => ⟨S8192x256, .f32⟩
  | 17 => ⟨S8192x256, .f32⟩
  | 18 => ⟨S8192x256, .f32⟩
  | 19 => ⟨S8192x4096, .f32⟩
  | 20 => ⟨S8192x256, .f32⟩
  | 21 => ⟨S_, .f32⟩
  | 22 => ⟨S8192, .f32⟩
  | 23 => ⟨S8192x1, .f32⟩
  | 24 => ⟨S_, .f32⟩
  | 25 => ⟨S8192x1, .f32⟩
  | 26 => ⟨S8192x1, .f32⟩
  | 27 => ⟨S_, .f32⟩
  | 28 => ⟨S8192x1, .f32⟩
  | 29 => ⟨S8192x1, .f32⟩
  | 30 => ⟨S8192x1, .f32⟩
  | 31 => ⟨S8192x1, .f32⟩
  | 32 => ⟨S_, .f32⟩
  | 33 => ⟨S8192x1, .f32⟩
  | 34 => ⟨S8192x1, .f32⟩
  | 35 => ⟨S8192x256, .f32⟩
  | 36 => ⟨S8192x256, .f32⟩
  | 37 => ⟨S1x256, .f32⟩
  | 38 => ⟨S8192x256, .f32⟩
  | 39 => ⟨S8192x256, .f32⟩
  | 40 => ⟨S8192x384, .f32⟩
  | 41 => ⟨S8192x4x96, .f32⟩
  | 42 => ⟨S8192x4x64, .f32⟩
  | 43 => ⟨S8192x4x32, .f32⟩
  | 44 => ⟨S8192x128, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x128, .f32⟩
  | 60 => ⟨S8192x128, .f32⟩
  | 61 => ⟨S1x128, .f32⟩
  | 62 => ⟨S8192x128, .f32⟩
  | 63 => ⟨S8192x128, .f32⟩
  | 64 => ⟨S8192x512, .f32⟩
  | 65 => ⟨S8192x4x128, .f32⟩
  | 66 => ⟨S8192x4x64, .f32⟩
  | 67 => ⟨S8192x4x64, .f32⟩
  | 68 => ⟨S8192x1x16, .f32⟩
  | 69 => ⟨S8192x1x16, .f32⟩
  | 70 => ⟨S8192x4x16, .f32⟩
  | 71 => ⟨S8192x4x16, .f32⟩
  | 72 => ⟨S8192x4x16, .f32⟩
  | 73 => ⟨S8192x4x16, .f32⟩
  | 74 => ⟨S8192x4x16, .f32⟩
  | 75 => ⟨S8192x4x16, .f32⟩
  | 76 => ⟨S8192x4x16, .f32⟩
  | 77 => ⟨S8192x4x16, .f32⟩
  | 78 => ⟨S8192x4x16, .f32⟩
  | 79 => ⟨S8192x4x16, .f32⟩
  | 80 => ⟨S8192x4x16, .f32⟩
  | 81 => ⟨S8192x4x16, .f32⟩
  | 82 => ⟨S8192x4x32, .f32⟩
  | 83 => ⟨S8192x16, .f32⟩
  | 84 => ⟨S8192x16, .f32⟩
  | 85 => ⟨S8192x16, .f32⟩
  | 86 => ⟨S8192x16, .f32⟩
  | 87 => ⟨S8192x16, .f32⟩
  | 88 => ⟨S8192x16, .f32⟩
  | 89 => ⟨S8192x16, .f32⟩
  | 90 => ⟨S8192x16, .f32⟩
  | 91 => ⟨S8192x32, .f32⟩
  | 92 => ⟨S8192x1x32, .f32⟩
  | 93 => ⟨S8192x4x32, .f32⟩
  | 94 => ⟨S8192x4x96, .f32⟩
  | 95 => ⟨S8192x4x96, .f32⟩
  | 96 => ⟨S8192x4x64, .f32⟩
  | 97 => ⟨S8192x4x32, .f32⟩
  | 98 => ⟨S8192x4x64, .f32⟩
  | 99 => ⟨S8192x4x32, .f32⟩
  | 100 => ⟨S_, .f32⟩
  | 101 => ⟨S8192x32, .f32⟩
  | 102 => ⟨S8192x1x32, .f32⟩
  | 103 => ⟨S_, .f32⟩
  | 104 => ⟨S8192x32, .f32⟩
  | 105 => ⟨S8192x16, .f32⟩
  | 106 => ⟨S8192x16, .f32⟩
  | 107 => ⟨S8192x16, .f32⟩
  | 108 => ⟨S8192x16, .f32⟩
  | 109 => ⟨S8192x16, .f32⟩
  | 110 => ⟨S8192x16, .f32⟩
  | 111 => ⟨S8192x16, .f32⟩
  | 112 => ⟨S8192x16, .f32⟩
  | 113 => ⟨S8192x16, .f32⟩
  | 114 => ⟨S8192x32, .f32⟩
  | 115 => ⟨S8192x4x16, .f32⟩
  | 116 => ⟨S8192x4x16, .f32⟩
  | 117 => ⟨S8192x4x16, .f32⟩
  | 118 => ⟨S8192x4x16, .f32⟩
  | 119 => ⟨S8192x4x16, .f32⟩
  | 120 => ⟨S8192x4x16, .f32⟩
  | 121 => ⟨S8192x4x16, .f32⟩
  | 122 => ⟨S8192x4x16, .f32⟩
  | 123 => ⟨S8192x4x16, .f32⟩
  | 124 => ⟨S8192x4x16, .f32⟩
  | 125 => ⟨S8192x4x16, .f32⟩
  | 126 => ⟨S8192x4x16, .f32⟩
  | 127 => ⟨S8192x4x16, .f32⟩
  | _ => ⟨S8192x6048, .f32⟩

abbrev hbmTy0_1 (i : Nat) : BufTy := match i % 128 with
  | 0 => ⟨S8192x4x32, .f32⟩
  | 1 => ⟨S_, .f32⟩
  | 2 => ⟨S8192x4x128, .f32⟩
  | 3 => ⟨S_, .f32⟩
  | 4 => ⟨S8192x4x128, .f32⟩
  | 5 => ⟨S8192x4x128, .f32⟩
  | 6 => ⟨S8192x512, .f32⟩
  | 7 => ⟨S512x128, .f32⟩
  | 8 => ⟨S128x512, .f32⟩
  | 9 => ⟨S8192x128, .f32⟩
  | 10 => ⟨S8192x128, .f32⟩
  | 11 => ⟨S_, .f32⟩
  | 12 => ⟨S128, .f32⟩
  | 13 => ⟨S1x128, .f32⟩
  | 14 => ⟨S8192x128, .f32⟩
  | 15 => ⟨S8192x128, .f32⟩
  | 16 => ⟨S_, .f32⟩
  | 17 => ⟨S128, .f32⟩
  | 18 => ⟨S8192x128, .f32⟩
  | 19 => ⟨S_, .f32⟩
  | 20 => ⟨S8192, .f32⟩
  | 21 => ⟨S8192x1, .f32⟩
  | 22 => ⟨S8192x128, .f32⟩
  | 23 => ⟨S8192x128, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192, .f32⟩
  | 30 => ⟨S8192x128, .f32⟩
  | 31 => ⟨S8192x128, .f32⟩
  | 32 => ⟨S8192x128, .f32⟩
  | 33 => ⟨S8192x128, .f32⟩
  | 34 => ⟨S8192x128, .f32⟩
  | 35 => ⟨S_, .f32⟩
  | 36 => ⟨S8192x4x96, .f32⟩
  | 37 => ⟨S_, .f32⟩
  | 38 => ⟨S8192x4x96, .f32⟩
  | 39 => ⟨S8192x4x96, .f32⟩
  | 40 => ⟨S8192x384, .f32⟩
  | 41 => ⟨S384x256, .f32⟩
  | 42 => ⟨S256x384, .f32⟩
  | 43 => ⟨S8192x256, .f32⟩
  | 44 => ⟨S8192x256, .f32⟩
  | 45 => ⟨S_, .f32⟩
  | 46 => ⟨S256, .f32⟩
  | 47 => ⟨S1x256, .f32⟩
  | 48 => ⟨S8192x256, .f32⟩
  | 49 => ⟨S8192x256, .f32⟩
  | 50 => ⟨S_, .f32⟩
  | 51 => ⟨S256, .f32⟩
  | 52 => ⟨S8192x256, .f32⟩
  | 53 => ⟨S_, .f32⟩
  | 54 => ⟨S8192, .f32⟩
  | 55 => ⟨S8192x1, .f32⟩
  | 56 => ⟨S8192x256, .f32⟩
  | 57 => ⟨S8192x256, .f32⟩
  | 58 => ⟨S8192x1, .f32⟩
  | 59 => ⟨S_, .f32⟩
  | 60 => ⟨S8192x1, .f32⟩
  | 61 => ⟨S8192x1, .f32⟩
  | 62 => ⟨S_, .f32⟩
  | 63 => ⟨S8192, .f32⟩
  | 64 => ⟨S8192x256, .f32⟩
  | 65 => ⟨S8192x256, .f32⟩
  | 66 => ⟨S8192x256, .f32⟩
  | 67 => ⟨S8192x256, .f32⟩
  | 68 => ⟨S8192x256, .f32⟩
  | _ => ⟨S8192x6048, .f32⟩

abbrev hbmTy (i : Nat) : BufTy := match i / 128 with
  | 0 => hbmTy0_0 i
  | 1 => hbmTy0_1 i
  | _ => ⟨S8192x6048, .f32⟩

abbrev bufTy : (tb : Table) → Fin (tcTables nBuf tb) → BufTy
  | .hbm, ⟨i, _⟩ => hbmTy i
  | _, _ => ⟨S8192x6048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_7 : Ref sig .tc := ⟨.hbm, 100, rfl⟩
abbrev main_v82 : Ref sig .tc := ⟨.hbm, 101, rfl⟩
abbrev main_v83 : Ref sig .tc := ⟨.hbm, 102, rfl⟩
abbrev main_cst_8 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_cst_9 : Ref sig .tc := ⟨.hbm, 129, rfl⟩
abbrev main_v109 : Ref sig .tc := ⟨.hbm, 130, rfl⟩
abbrev main_cst_10 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_cst_11 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_cst_12 : Ref sig .tc := ⟨.hbm, 144, rfl⟩
abbrev main_v121 : Ref sig .tc := ⟨.hbm, 145, rfl⟩
abbrev main_v122 : Ref sig .tc := ⟨.hbm, 146, rfl⟩
abbrev main_cst_13 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_cst_14 : Ref sig .tc := ⟨.hbm, 153, rfl⟩
abbrev main_v128 : Ref sig .tc := ⟨.hbm, 154, rfl⟩
abbrev main_v129 : Ref sig .tc := ⟨.hbm, 155, rfl⟩
abbrev main_cst_15 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_cst_16 : Ref sig .tc := ⟨.hbm, 163, rfl⟩
abbrev main_v136 : Ref sig .tc := ⟨.hbm, 164, rfl⟩
abbrev main_cst_17 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_cst_18 : Ref sig .tc := ⟨.hbm, 173, rfl⟩
abbrev main_v144 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_cst_19 : Ref sig .tc := ⟨.hbm, 178, rfl⟩
abbrev main_v148 : Ref sig .tc := ⟨.hbm, 179, rfl⟩
abbrev main_v149 : Ref sig .tc := ⟨.hbm, 180, rfl⟩
abbrev main_cst_20 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_cst_21 : Ref sig .tc := ⟨.hbm, 187, rfl⟩
abbrev main_v155 : Ref sig .tc := ⟨.hbm, 188, rfl⟩
abbrev main_v156 : Ref sig .tc := ⟨.hbm, 189, rfl⟩
abbrev main_cst_22 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩

abbrev nD : Nat := 1
abbrev τ : Topo := Topo.v7x

variable {F : FTy → Type} [FloatOps F]
-- ==== Fwd.lean ====
abbrev S8192x4x96 : Shape := ⟨3, ![8192, 4, 96]⟩
abbrev S8192x4x64 : Shape := ⟨3, ![8192, 4, 64]⟩
abbrev S128 : Shape := ⟨1, ![128]⟩
abbrev S_ : Shape := ⟨0, ![]⟩
abbrev S4x8192x96 : Shape := ⟨3, ![4, 8192, 96]⟩
abbrev S4x8192x32 : Shape := ⟨3, ![4, 8192, 32]⟩
abbrev S4x8192x128 : Shape := ⟨3, ![4, 8192, 128]⟩
abbrev S4x8192x64 : Shape := ⟨3, ![4, 8192, 64]⟩
abbrev S1x1x128 : Shape := ⟨3, ![1, 1, 128]⟩
abbrev S8192x512 : Shape := ⟨2, ![8192, 512]⟩
abbrev S4x8192x1 : Shape := ⟨3, ![4, 8192, 1]⟩
abbrev S4x1024x128 : Shape := ⟨3, ![4, 1024, 128]⟩
abbrev S1024x512 : Shape := ⟨2, ![1024, 512]⟩
abbrev S4x1024x1 : Shape := ⟨3, ![4, 1024, 1]⟩
abbrev S1x128 : Shape := ⟨2, ![1, 128]⟩
abbrev S1024x1 : Shape := ⟨2, ![1024, 1]⟩
abbrev S1024x128 : Shape := ⟨2, ![1024, 128]⟩
abbrev S1x1024x128 : Shape := ⟨3, ![1, 1024, 128]⟩
abbrev S1024x1024 : Shape := ⟨2, ![1024, 1024]⟩
abbrev S1024 : Shape := ⟨1, ![1024]⟩
abbrev S1x1024x1 : Shape := ⟨3, ![1, 1024, 1]⟩

abbrev nBuf : Space → Nat
  | .hbm => 28
  | .vmem => 8
  | .smem => 0
  | _ => 0

abbrev bufTy : (tb : Table) → Fin (tcTables nBuf tb) → BufTy
  | .hbm, ⟨0, _⟩ => ⟨S8192x4x96, .f32⟩
  | .hbm, ⟨1, _⟩ => ⟨S8192x4x96, .f32⟩
  | .hbm, ⟨2, _⟩ => ⟨S8192x4x64, .f32⟩
  | .hbm, ⟨3, _⟩ => ⟨S128, .i32⟩
  | .hbm, ⟨4, _⟩ => ⟨S_, .i32⟩
  | .hbm, ⟨5, _⟩ => ⟨S128, .i32⟩
  | .hbm, ⟨6, _⟩ => ⟨S128, .i1⟩
  | .hbm, ⟨7, _⟩ => ⟨S128, .f32⟩
  | .hbm, ⟨8, _⟩ => ⟨S4x8192x96, .f32⟩
  | .hbm, ⟨9, _⟩ => ⟨S_, .f32⟩
  | .hbm, ⟨10, _⟩ => ⟨S4x8192x32, .f32⟩
  | .hbm, ⟨11, _⟩ => ⟨S4x8192x128, .f32⟩
  | .hbm, ⟨12, _⟩ => ⟨S4x8192x128, .bf16⟩
  | .hbm, ⟨13, _⟩ => ⟨S4x8192x96, .f32⟩
  | .hbm, ⟨14, _⟩ => ⟨S_, .f32⟩
  | .hbm, ⟨15, _⟩ => ⟨S4x8192x32, .f32⟩
  | .hbm, ⟨16, _⟩ => ⟨S4x8192x128, .f32⟩
  | .hbm, ⟨17, _⟩ => ⟨S4x8192x128, .bf16⟩
  | .hbm, ⟨18, _⟩ => ⟨S4x8192x64, .f32⟩
  | .hbm, ⟨19, _⟩ => ⟨S_, .f32⟩
  | .hbm, ⟨20, _⟩ => ⟨S4x8192x64, .f32⟩
  | .hbm, ⟨21, _⟩ => ⟨S4x8192x128, .f32⟩
  | .hbm, ⟨22, _⟩ => ⟨S1x1x128, .f32⟩
  | .hbm, ⟨23, _⟩ => ⟨S4x8192x128, .f32⟩
  | .hbm, ⟨24, _⟩ => ⟨S4x8192x128, .f32⟩
  | .hbm, ⟨25, _⟩ => ⟨S4x8192x128, .bf16⟩
  | .hbm, ⟨26, _⟩ => ⟨S8192x512, .f32⟩
  | .hbm, ⟨27, _⟩ => ⟨S4x8192x1, .f32⟩
  | .local _ .vmem, ⟨0, _⟩ => ⟨S4x1024x128, .bf16⟩
  | .local _ .vmem, ⟨1, _⟩ => ⟨S4x1024x128, .bf16⟩
  | .local _ .vmem, ⟨2, _⟩ => ⟨S4x8192x128, .bf16⟩
  | .local _ .vmem, ⟨3, _⟩ => ⟨S4x8192x128, .bf16⟩
  | .local _ .vmem, ⟨4, _⟩ => ⟨S1024x512, .f32⟩
  | .local _ .vmem, ⟨5, _⟩ => ⟨S1024x512, .f32⟩
  | .local _ .vmem, ⟨6, _⟩ => ⟨S4x1024x1, .f32⟩
  | .local _ .vmem, ⟨7, _⟩ => ⟨S4x1024x1, .f32⟩
  | _, _ => ⟨S8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19_0 : Ref sig .tc := ⟨.hbm, 26, rfl⟩
abbrev main_v19_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 8], ![false, false]⟩

@[reducible] def k0_t1_loop (i : grid0.Coords) : Scf.Loop 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_1 : BitVec 32 := 1#32
  ⟨c0_i32, v7, c1_i32_1⟩
def k0_mult1 (i : grid0.Coords) (k0_t1 : Fin (k0_t1_loop i).trips) : BitVec 32 :=
  let c0_i32 : BitVec 32 := 0#32
  let c1_i32_1 : BitVec 32 := 1#32
  let arg7 : BitVec 32 := Scf.iv c0_i32 c1_i32_1 k0_t1
  let c1024_i32_87 : BitVec 32 := 1024#32
  let v224 : BitVec 32 := Scalar.muli arg7 c1024_i32_87
  v224
def k0_off1 (i : grid0.Coords) (k0_t1 : Fin (k0_t1_loop i).trips) : Fin 3 → Nat :=
  let c0_91 : Index := 0#32
  let c0_i32 : BitVec 32 := 0#32
  let c1_i32_1 : BitVec 32 := 1#32
  let arg7 : BitVec 32 := Scf.iv c0_i32 c1_i32_1 k0_t1
  let c1024_i32_87 : BitVec 32 := 1024#32
  let v224 : BitVec 32 := Scalar.muli arg7 c1024_i32_87
  let v225 : BitVec 32 := v224
  let v228 : Index := Scalar.indexCast v225
  let c0_92 : Index := 0#32
  ![0, v228.toNat, 0]
def k0_off2 (i : grid0.Coords) (k0_t1 : Fin (k0_t1_loop i).trips) : Fin 3 → Nat :=
  let c1_102 : Index := 1#32
  let c0_i32 : BitVec 32 := 0#32
  let c1_i32_1 : BitVec 32 := 1#32
  let arg7 : BitVec 32 := Scf.iv c0_i32 c1_i32_1 k0_t1
  let c1024_i32_87 : BitVec 32 := 1024#32
  let v224 : BitVec 32 := Scalar.muli arg7 c1024_i32_87
  let v225 : BitVec 32 := v224
  let v252 : Index := Scalar.indexCast v225
  let c0_103 : Index := 0#32
  ![1, v252.toNat, 0]
def k0_off3 (i : grid0.Coords) (k0_t1 : Fin (k0_t1_loop i).trips) : Fin 3 → Nat :=
  let c2_113 : Index := 2#32
  let c0_i32 : BitVec 32 := 0#32
  let c1_i32_1 : BitVec 32 := 1#32
  let arg7 : BitVec 32 := Scf.iv c0_i32 c1_i32_1 k0_t1
  let c1024_i32_87 : BitVec 32 := 1024#32
  let v224 : BitVec 32 := Scalar.muli arg7 c1024_i32_87
  let v225 : BitVec 32 := v224
  let v276 : Index := Scalar.indexCast v225
  let c0_114 : Index := 0#32
  ![2, v276.toNat, 0]
def k0_off4 (i : grid0.Coords) (k0_t1 : Fin (k0_t1_loop i).trips) : Fin 3 → Nat :=
  let c3_124 : Index := 3#32
  let c0_i32 : BitVec 32 := 0#32
  let c1_i32_1 : BitVec 32 := 1#32
  let arg7 : BitVec 32 := Scf.iv c0_i32 c1_i32_1 k0_t1
  let c1024_i32_87 : BitVec 32 := 1024#32
  let v224 : BitVec 32 := Scalar.muli arg7 c1024_i32_87
  let v225 : BitVec 32 := v224
  let v300 : Index := Scalar.indexCast v225
  let c0_125 : Index := 0#32
  ![3, v300.toNat, 0]
@[reducible] def k0_t2_loop (i : grid0.Coords) : Scf.Loop 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let v4 : BitVec 32 := Scalar.addi c0_i32 v3
  let c1_i32_2 : BitVec 32 := 1#32
  ⟨v7, v4, c1_i32_2⟩
def k0_mult2 (i : grid0.Coords) (k0_t2 : Fin (k0_t2_loop i).trips) : BitVec 32 :=
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_2 : BitVec 32 := 1#32
  let arg7 : BitVec 32 := Scf.iv v7 c1_i32_2 k0_t2
  let c1024_i32_87 : BitVec 32 := 1024#32
  let v224 : BitVec 32 := Scalar.muli arg7 c1024_i32_87
  v224
def k0_off5 (i : grid0.Coords) (k0_t2 : Fin (k0_t2_loop i).trips) : Fin 3 → Nat :=
  let c0_91 : Index := 0#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_2 : BitVec 32 := 1#32
  let arg7 : BitVec 32 := Scf.iv v7 c1_i32_2 k0_t2
  let c1024_i32_87 : BitVec 32 := 1024#32
  let v224 : BitVec 32 := Scalar.muli arg7 c1024_i32_87
  let v225 : BitVec 32 := v224
  let v228 : Index := Scalar.indexCast v225
  let c0_92 : Index := 0#32
  ![0, v228.toNat, 0]
def k0_off6 (i : grid0.Coords) (k0_t2 : Fin (k0_t2_loop i).trips) : Fin 3 → Nat :=
  let c1_102 : Index := 1#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_2 : BitVec 32 := 1#32
  let arg7 : BitVec 32 := Scf.iv v7 c1_i32_2 k0_t2
  let c1024_i32_87 : BitVec 32 := 1024#32
  let v224 : BitVec 32 := Scalar.muli arg7 c1024_i32_87
  let v225 : BitVec 32 := v224
  let v252 : Index := Scalar.indexCast v225
  let c0_103 : Index := 0#32
  ![1, v252.toNat, 0]
def k0_off7 (i : grid0.Coords) (k0_t2 : Fin (k0_t2_loop i).trips) : Fin 3 → Nat :=
  let c2_113 : Index := 2#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_2 : BitVec 32 := 1#32
  let arg7 : BitVec 32 := Scf.iv v7 c1_i32_2 k0_t2
  let c1024_i32_87 : BitVec 32 := 1024#32
  let v224 : BitVec 32 := Scalar.muli arg7 c1024_i32_87
  let v225 : BitVec 32 := v224
  let v276 : Index := Scalar.indexCast v225
  let c0_114 : Index := 0#32
  ![2, v276.toNat, 0]
def k0_off8 (i : grid0.Coords) (k0_t2 : Fin (k0_t2_loop i).trips) : Fin 3 → Nat :=
  let c3_124 : Index := 3#32
  let c0_i32 : BitVec 32 := 0#32
  let arg1 : BitVec 32 := BitVec.ofNat 32 (i 1).val
  let v3 : BitVec 32 := Scalar.subi arg1 c0_i32
  let c1_i32 : BitVec 32 := 1#32
  let v5 : BitVec 32 := Scalar.divsi v3 c1_i32
  let v6 : BitVec 32 := Scalar.muli v5 c1_i32
  let v7 : BitVec 32 := Scalar.addi c0_i32 v6
  let c1_i32_2 : BitVec 32 := 1#32
  let arg7 : BitVec 32 := Scf.iv v7 c1_i32_2 k0_t2
  let c1024_i32_87 : BitVec 32 := 1024#32
  let v224 : BitVec 32 := Scalar.muli arg7 c1024_i32_87
  let v225 : BitVec 32 := v224
  let v300 : Index := Scalar.indexCast v225
  let c0_125 : Index := 0#32
  ![3, v300.toNat, 0]
def k0_mult3 (i : grid0.Coords) : BitVec 32 :=
  let arg1 : BitVec 32 := BitVec.ofNat 32 (i 1).val
  let c1024_i32 : BitVec 32 := 1024#32
  let v10 : BitVec 32 := Scalar.muli arg1 c1024_i32
  v10
def k0_off9 (i : grid0.Coords) : Fin 3 → Nat :=
  let c0_5 : Index := 0#32
  let arg1 : BitVec 32 := BitVec.ofNat 32 (i 1).val
  let c1024_i32 : BitVec 32 := 1024#32
  let v10 : BitVec 32 := Scalar.muli arg1 c1024_i32
  let v11 : BitVec 32 := v10
  let v14 : Index := Scalar.indexCast v11
  let c0_6 : Index := 0#32
  ![0, v14.toNat, 0]
def k0_off10 (i : grid0.Coords) : Fin 3 → Nat :=
  let c1_16 : Index := 1#32
  let arg1 : BitVec 32 := BitVec.ofNat 32 (i 1).val
  let c1024_i32 : BitVec 32 := 1024#32
  let v10 : BitVec 32 := Scalar.muli arg1 c1024_i32
  let v11 : BitVec 32 := v10
  let v43 : Index := Scalar.indexCast v11
  let c0_17 : Index := 0#32
  ![1, v43.toNat, 0]
def k0_off11 (i : grid0.Coords) : Fin 3 → Nat :=
  let c2_27 : Index := 2#32
  let arg1 : BitVec 32 := BitVec.ofNat 32 (i 1).val
  let c1024_i32 : BitVec 32 := 1024#32
  let v10 : BitVec 32 := Scalar.muli arg1 c1024_i32
  let v11 : BitVec 32 := v10
  let v72 : Index := Scalar.indexCast v11
  let c0_28 : Index := 0#32
  ![2, v72.toNat, 0]
def k0_off12 (i : grid0.Coords) : Fin 3 → Nat :=
  let c3_38 : Index := 3#32
  let arg1 : BitVec 32 := BitVec.ofNat 32 (i 1).val
  let c1024_i32 : BitVec 32 := 1024#32
  let v10 : BitVec 32 := Scalar.muli arg1 c1024_i32
  let v11 : BitVec 32 := v10
  let v101 : Index := Scalar.indexCast v11
  let c0_39 : Index := 0#32
  ![3, v101.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4x8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FwdIdeal.lean ====
variable {F : FTy → Type} [FloatOps F] [Named F]
def κ : String → Option EReal := fun
  | "attn_scale_log2e" => some (((3424635 / 33554432) * (Real.log 2)⁻¹ : ℝ) : EReal)
  | "inv_log_2" => some (((Real.log 2)⁻¹ : ℝ) : EReal)
  | _ => none
-- ==== FwdRefIdeal.lean ====
abbrev S8192x4x96 : Shape := ⟨3, ![8192, 4, 96]⟩
abbrev S8192x4x64 : Shape := ⟨3, ![8192, 4, 64]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x8192 : Shape := ⟨2, ![4, 8192]⟩
abbrev S4x8192x1 : Shape := ⟨3, ![4, 8192, 1]⟩
abbrev S4x64x8192 : Shape := ⟨3, ![4, 64, 8192]⟩
abbrev S8192x4x128 : Shape := ⟨3, ![8192, 4, 128]⟩
abbrev S8192x512 : Shape := ⟨2, ![8192, 512]⟩

abbrev nBuf : Space → Nat
  | .hbm => 53
  | .vmem => 0
  | .smem => 0
  | _ => 0

abbrev bufTy : (tb : Table) → Fin (tcTables nBuf tb) → BufTy
  | .hbm, ⟨0, _⟩ => ⟨S8192x4x96, .f32⟩
  | .hbm, ⟨1, _⟩ => ⟨S8192x4x96, .f32⟩
  | .hbm, ⟨2, _⟩ => ⟨S8192x4x64, .f32⟩
  | .hbm, ⟨3, _⟩ => ⟨S4x8192x8192, .f32⟩
  | .hbm, ⟨4, _⟩ => ⟨S_, .f32⟩
  | .hbm, ⟨5, _⟩ => ⟨S4x8192x8192, .f32⟩
  | .hbm, ⟨6, _⟩ => ⟨S4x8192x8192, .f32⟩
  | .hbm, ⟨7, _⟩ => ⟨S8192, .i32⟩
  | .hbm, ⟨8, _⟩ => ⟨S1x8192, .i32⟩
  | .hbm, ⟨9, _⟩ => ⟨S8192x1, .i32⟩
  | .hbm, ⟨10, _⟩ => ⟨S8192x8192, .i32⟩
  | .hbm, ⟨11, _⟩ => ⟨S8192x8192, .i32⟩
  | .hbm, ⟨12, _⟩ => ⟨S8192x8192, .i1⟩
  | .hbm, ⟨13, _⟩ => ⟨S_, .f32⟩
  | .hbm, ⟨14, _⟩ => ⟨S_, .f32⟩
  | .hbm, ⟨15, _⟩ => ⟨S4x8192x8192, .i1⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S4x8192x1, .f32⟩
  | .hbm, ⟨21, _⟩ => ⟨S4x8192x8192, .f32⟩
  | .hbm, ⟨22, _⟩ => ⟨S4x8192x8192, .f32⟩
  | .hbm, ⟨23, _⟩ => ⟨S4x8192x8192, .f32⟩
  | .hbm, ⟨24, _⟩ => ⟨S_, .f32⟩
  | .hbm, ⟨25, _⟩ => ⟨S4x8192, .f32⟩
  | .hbm, ⟨26, _⟩ => ⟨S4x8192x1, .f32⟩
  | .hbm, ⟨27, _⟩ => ⟨S4x8192x1, .f32⟩
  | .hbm, ⟨28, _⟩ => ⟨S4x8192x1, .f32⟩
  | .hbm, ⟨29, _⟩ => ⟨S_, .f32⟩
  | .hbm, ⟨30, _⟩ => ⟨S4x8192, .f32⟩
  | .hbm, ⟨31, _⟩ => ⟨S_, .f32⟩
  | .hbm, ⟨32, _⟩ => ⟨S4x8192, .f32⟩
  | .hbm, ⟨33, _⟩ => ⟨S4x8192, .f32⟩
  | .hbm, ⟨34, _⟩ => ⟨S4x8192x1, .f32⟩
  | .hbm, ⟨35, _⟩ => ⟨S4x8192x8192, .f32⟩
  | .hbm, ⟨36, _⟩ => ⟨S4x8192x8192, .f32⟩
  | .hbm, ⟨37, _⟩ => ⟨S4x8192x8192, .f32⟩
  | .hbm, ⟨38, _⟩ => ⟨S_, .f32⟩
  | .hbm, ⟨39, _⟩ => ⟨S4x8192, .f32⟩
  | .hbm, ⟨40, _⟩ => ⟨S4x8192x1, .f32⟩
  | .hbm, ⟨41, _⟩ => ⟨S4x8192x8192, .f32⟩
  | .hbm, ⟨42, _⟩ => ⟨S4x8192x8192, .f32⟩
  | .hbm, ⟨43, _⟩ => ⟨S4x64x8192, .f32⟩
  | .hbm, ⟨44, _⟩ => ⟨S8192x4x64, .f32⟩
  | .hbm, ⟨45, _⟩ => ⟨S_, .f32⟩
  | .hbm, ⟨46, _⟩ => ⟨S8192x4x64, .f32⟩
  | .hbm, ⟨47, _⟩ => ⟨S8192x4x128, .f32⟩
  | .hbm, ⟨48, _⟩ => ⟨S8192x512, .f32⟩
  | .hbm, ⟨49, _⟩ => ⟨S_, .f32⟩
  | .hbm, ⟨50, _⟩ => ⟨S_, .f32⟩
  | .hbm, ⟨51, _⟩ => ⟨S4x8192x1, .f32⟩
  | .hbm, ⟨52, _⟩ => ⟨S4x8192x1, .f32⟩
  | _, _ => ⟨S8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_5 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩

abbrev nD : Nat := 1
abbrev τ : Topo := Topo.v7x

variable {F : FTy → Type} [FloatOps F]
-- ==== Up.lean ====
abbrev S8192x1024 : Shape := ⟨2, ![8192, 1024]⟩
abbrev S1024 : Shape := ⟨1, ![1024]⟩
abbrev S1024x4096 : Shape := ⟨2, ![1024, 4096]⟩
abbrev S1x1024 : Shape := ⟨2, ![1, 1024]⟩
abbrev S8192x4096 : Shape := ⟨2, ![8192, 4096]⟩
abbrev S1024x1024 : Shape := ⟨2, ![1024, 1024]⟩
abbrev S1024x1 : Shape := ⟨2, ![1024, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S1024x4096, .bf16⟩
  | .hbm, ⟨4, _⟩ => ⟨S1x1024, .f32⟩
  | .hbm, ⟨5, _⟩ => ⟨S8192x4096, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x4096, .bf16⟩
  | .local _ .vmem, ⟨4, _⟩ => ⟨S1024x4096, .bf16⟩
  | .local _ .vmem, ⟨5, _⟩ => ⟨S1024x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpRefIdeal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x4096, .f32⟩
  | .hbm, ⟨20, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Down.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1024, .f32⟩
  | .hbm, ⟨4, _⟩ => ⟨S8192x4096, .bf16⟩
  | .hbm, ⟨5, _⟩ => ⟨S4096x1024, .bf16⟩
  | .hbm, ⟨6, _⟩ => ⟨S1x1024, .f32⟩
  | .hbm, ⟨7, _⟩ => ⟨S8192x1024, .f32⟩
  | .hbm, ⟨8, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== DownRefIdeal.lean ====
abbrev S8192x4096 : Shape := ⟨2, ![8192, 4096]⟩
abbrev S4096x1024 : Shape := ⟨2, ![4096, 1024]⟩
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Prep.lean ====
abbrev S8192x6048 : Shape := ⟨2, ![8192, 6048]⟩
abbrev S256 : Shape := ⟨1, ![256]⟩
abbrev S256x384 : Shape := ⟨2, ![256, 384]⟩
abbrev S128 : Shape := ⟨1, ![128]⟩
abbrev S128x512 : Shape := ⟨2, ![128, 512]⟩
abbrev S8192x16 : Shape := ⟨2, ![8192, 16]⟩
abbrev S256x4x96 : Shape := ⟨3, ![256, 4, 96]⟩
abbrev S256x4x64 : Shape := ⟨3, ![256, 4, 64]⟩
abbrev S256x4x32 : Shape := ⟨3, ![256, 4, 32]⟩
abbrev S_ : Shape := ⟨0, ![]⟩
abbrev S256x4x128 : Shape := ⟨3, ![256, 4, 128]⟩
abbrev S256x512 : Shape := ⟨2, ![256, 512]⟩
abbrev S256x4x16 : Shape := ⟨3, ![256, 4, 16]⟩
abbrev S128x4x128 : Shape := ⟨3, ![128, 4, 128]⟩
abbrev S256x1024 : Shape := ⟨2, ![256, 1024]⟩
abbrev S128x4x64 : Shape := ⟨3, ![128, 4, 64]⟩
abbrev S128x1024 : Shape := ⟨2, ![128, 1024]⟩
abbrev S8192x64 : Shape := ⟨2, ![8192, 64]⟩
abbrev S8192x32 : Shape := ⟨2, ![8192, 32]⟩
abbrev S8192x128 : Shape := ⟨2, ![8192, 128]⟩
abbrev S8192x256 : Shape := ⟨2, ![8192, 256]⟩
abbrev S8192x4096 : Shape := ⟨2, ![8192, 4096]⟩
abbrev S8192x6272 : Shape := ⟨2, ![8192, 6272]⟩
abbrev S1x256 : Shape := ⟨2, ![1, 256]⟩
abbrev S1x128 : Shape := ⟨2, ![1, 128]⟩
abbrev S4x8192x128 : Shape := ⟨3, ![4, 8192, 128]⟩
abbrev S512x256 : Shape := ⟨2, ![512, 256]⟩
abbrev S512x128 : Shape := ⟨2, ![512, 128]⟩
abbrev S4x512x128 : Shape := ⟨3, ![4, 512, 128]⟩
abbrev S512 : Shape := ⟨1, ![512]⟩
abbrev S512x1 : Shape := ⟨2, ![512, 1]⟩
abbrev S512x1024 : Shape := ⟨2, ![512, 1024]⟩
abbrev S1x512x128 : Shape := ⟨3, ![1, 512, 128]⟩

abbrev nBuf : Space → Nat
  | .hbm => 79
  | .vmem => 24
  | .smem => 0
  | _ => 0

abbrev bufTy : (tb : Table) → Fin (tcTables nBuf tb) → BufTy
  | .hbm, ⟨0, _⟩ => ⟨S8192x6048, .f32⟩
  | .hbm, ⟨1, _⟩ => ⟨S256, .f32⟩
  | .hbm, ⟨2, _⟩ => ⟨S256x384, .f32⟩
  | .hbm, ⟨3, _⟩ => ⟨S128, .f32⟩
  | .hbm, ⟨4, _⟩ => ⟨S128x512, .f32⟩
  | .hbm, ⟨5, _⟩ => ⟨S8192x16, .f32⟩
  | .hbm, ⟨6, _⟩ => ⟨S8192x16, .f32⟩
  | .hbm, ⟨7, _⟩ => ⟨S256x384, .bf16⟩
  | .hbm, ⟨8, _⟩ => ⟨S256x4x96, .bf16⟩
  | .hbm, ⟨9, _⟩ => ⟨S256x4x64, .bf16⟩
  | .hbm, ⟨10, _⟩ => ⟨S256x4x32, .bf16⟩
  | .hbm, ⟨11, _⟩ => ⟨S_, .bf16⟩
  | .hbm, ⟨12, _⟩ => ⟨S256x4x32, .bf16⟩
  | .hbm, ⟨13, _⟩ => ⟨S256x4x128, .bf16⟩
  | .hbm, ⟨14, _⟩ => ⟨S256x512, .bf16⟩
  | .hbm, ⟨15, _⟩ => ⟨S256x4x16, .bf16⟩
  | .hbm, ⟨16, _⟩ => ⟨S256x4x16, .bf16⟩
  | .hbm, ⟨17, _⟩ => ⟨S256x4x16, .bf16⟩
  | .hbm, ⟨18, _⟩ => ⟨S256x4x32, .bf16⟩
  | .hbm, ⟨19, _⟩ => ⟨S_, .bf16⟩
  | .hbm, ⟨20, _⟩ => ⟨S256x4x64, .bf16⟩
  | .hbm, ⟨21, _⟩ => ⟨S_, .bf16⟩
  | .hbm, ⟨22, _⟩ => ⟨S256x4x32, .bf16⟩
  | .hbm, ⟨23, _⟩ => ⟨S256x4x128, .bf16⟩
  | .hbm, ⟨24, _⟩ => ⟨S256x512, .bf16⟩
  | .hbm, ⟨25, _⟩ => ⟨S128x512, .bf16⟩
  | .hbm, ⟨26, _⟩ => ⟨S128x4x128, .bf16⟩
  | .hbm, ⟨27, _⟩ => ⟨S256x1024, .bf16⟩
  | .hbm, ⟨28, _⟩ => ⟨S128x4x64, .bf16⟩
  | .hbm, ⟨29, _⟩ => ⟨S_, .bf16⟩
  | .hbm, ⟨30, _⟩ => ⟨S128x4x64, .bf16⟩
  | .hbm, ⟨31, _⟩ => ⟨S128x4x128, .bf16⟩
  | .hbm, ⟨32, _⟩ => ⟨S128x512, .bf16⟩
  | .hbm, ⟨33, _⟩ => ⟨S128x4x64, .bf16⟩
  | .hbm, ⟨34, _⟩ => ⟨S_, .bf16⟩
  | .hbm, ⟨35, _⟩ => ⟨S128x4x64, .bf16⟩
  | .hbm, ⟨36, _⟩ => ⟨S128x4x128, .bf16⟩
  | .hbm, ⟨37, _⟩ => ⟨S128x512, .bf16⟩
  | .hbm, ⟨38, _⟩ => ⟨S128x1024, .bf16⟩
  | .hbm, ⟨39, _⟩ => ⟨S_, .f32⟩
  | .hbm, ⟨40, _⟩ => ⟨S8192x64, .f32⟩
  | .hbm, ⟨41, _⟩ => ⟨S_, .f32⟩
  | .hbm, ⟨42, _⟩ => ⟨S8192x64, .f32⟩
  | .hbm, ⟨43, _⟩ => ⟨S_, .f32⟩
  | .hbm, ⟨44, _⟩ => ⟨S8192x32, .f32⟩
  | .hbm, ⟨45, _⟩ => ⟨S8192x128, .f32⟩
  | .hbm, ⟨46, _⟩ => ⟨S8192x128, .f32⟩
  | .hbm, ⟨47, _⟩ => ⟨S8192x128, .f32⟩
  | .hbm, ⟨48, _⟩ => ⟨S8192x6048, .bf16⟩
  | .hbm, ⟨49, _⟩ => ⟨S8192x256, .bf16⟩
  | .hbm, ⟨50, _⟩ => ⟨S8192x128, .bf16⟩
  | .hbm, ⟨51, _⟩ => ⟨S8192x32, .bf16⟩
  | .hbm, ⟨52, _⟩ => ⟨S8192x256, .bf16⟩
  | .hbm, ⟨53, _⟩ => ⟨S8192x256, .bf16⟩
  | .hbm, ⟨54, _⟩ => ⟨S8192x256, .bf16⟩
  | .hbm, ⟨55, _⟩ => ⟨S8192x256, .bf16⟩
  | .hbm, ⟨56, _⟩ => ⟨S8192x256, .bf16⟩
  | .hbm, ⟨57, _⟩ => ⟨S8192x256, .bf16⟩
  | .hbm, ⟨58, _⟩ => ⟨S8192x4096, .bf16⟩
  | .hbm, ⟨59, _⟩ => ⟨S_, .bf16⟩
  | .hbm, ⟨60, _⟩ => ⟨S8192x64, .bf16⟩
  | .hbm, ⟨61, _⟩ => ⟨S_, .bf16⟩
  | .hbm, ⟨62, _⟩ => ⟨S8192x32, .bf16⟩
  | .hbm, ⟨63, _⟩ => ⟨S8192x128, .bf16⟩
  | .hbm, ⟨64, _⟩ => ⟨S8192x16, .bf16⟩
  | .hbm, ⟨65, _⟩ => ⟨S8192x16, .bf16⟩
  | .hbm, ⟨66, _⟩ => ⟨S8192x16, .bf16⟩
  | .hbm, ⟨67, _⟩ => ⟨S8192x32, .bf16⟩
  | .hbm, ⟨68, _⟩ => ⟨S_, .bf16⟩
  | .hbm, ⟨69, _⟩ => ⟨S8192x64, .bf16⟩
  | .hbm, ⟨70, _⟩ => ⟨S_, .bf16⟩
  | .hbm, ⟨71, _⟩ => ⟨S8192x32, .bf16⟩
  | .hbm, ⟨72, _⟩ => ⟨S8192x128, .bf16⟩
  | .hbm, ⟨73, _⟩ => ⟨S8192x6272, .bf16⟩
  | .hbm, ⟨74, _⟩ => ⟨S1x256, .f32⟩
  | .hbm, ⟨75, _⟩ => ⟨S1x128, .f32⟩
  | .hbm, ⟨76, _⟩ => ⟨S4x8192x128, .bf16⟩
  | .hbm, ⟨77, _⟩ => ⟨S4x8192x128, .bf16⟩
  | .hbm, ⟨78, _⟩ => ⟨S4x8192x128, .bf16⟩
  | .local _ .vmem, ⟨0, _⟩ => ⟨S512x256, .bf16⟩
  | .local _ .vmem, ⟨1, _⟩ => ⟨S512x256, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S512x128, .bf16⟩
  | .local _ .vmem, ⟨8, _⟩ => ⟨S1x256, .f32⟩
  | .local _ .vmem, ⟨9, _⟩ => ⟨S1x128, .f32⟩
  | .local _ .vmem, ⟨10, _⟩ => ⟨S256x1024, .bf16⟩
  | .local _ .vmem, ⟨11, _⟩ => ⟨S128x1024, .bf16⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S4x512x128, .bf16⟩
  | .local _ .vmem, ⟨19, _⟩ => ⟨S4x512x128, .bf16⟩
  | .local _ .vmem, ⟨20, _⟩ => ⟨S4x512x128, .bf16⟩
  | .local _ .vmem, ⟨21, _⟩ => ⟨S4x512x128, .bf16⟩
  | .local _ .vmem, ⟨22, _⟩ => ⟨S4x512x128, .bf16⟩
  | .local _ .vmem, ⟨23, _⟩ => ⟨S4x512x128, .bf16⟩
  | _, _ => ⟨S8192x6048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_cst_10 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57_0 : Ref sig .tc := ⟨.hbm, 76, rfl⟩
abbrev main_v57_1 : Ref sig .tc := ⟨.hbm, 77, rfl⟩
abbrev main_v57_2 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_1 (i : grid0.Coords) : Fin 2 → Nat :=
  let arg0 : BitVec 32 := BitVec.ofNat 32 (i 0).val
  let c46_i32 : BitVec 32 := 46#32
  let c0_i32 : BitVec 32 := 0#32
  ![arg0.toNat, c46_i32.toNat]

def cc0_transform_2 (i : grid0.Coords) : Fin 2 → Nat :=
  let arg0 : BitVec 32 := BitVec.ofNat 32 (i 0).val
  let c47_i32 : BitVec 32 := 47#32
  let c0_i32 : BitVec 32 := 0#32
  ![arg0.toNat, c47_i32.toNat]

def cc0_transform_3 (i : grid0.Coords) : Fin 2 → Nat :=
  let arg0 : BitVec 32 := BitVec.ofNat 32 (i 0).val
  let c48_i32 : BitVec 32 := 48#32
  let c0_i32 : BitVec 32 := 0#32
  ![arg0.toNat, c48_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PrepRefIdeal.lean ====
abbrev S8192x6048 : Shape := ⟨2, ![8192, 6048]⟩
abbrev S256 : Shape := ⟨1, ![256]⟩
abbrev S256x384 : Shape := ⟨2, ![256, 384]⟩
abbrev S128 : Shape := ⟨1, ![128]⟩
abbrev S128x512 : Shape := ⟨2, ![128, 512]⟩
abbrev S8192x16 : Shape := ⟨2, ![8192, 16]⟩
abbrev S8192x256 : Shape := ⟨2, ![8192, 256]⟩
abbrev S8192x128 : Shape := ⟨2, ![8192, 128]⟩
abbrev S8192x32 : Shape := ⟨2, ![8192, 32]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x256 : Shape := ⟨2, ![1, 256]⟩
abbrev S8192x384 : Shape := ⟨2, ![8192, 384]⟩
abbrev S8192x4x96 : Shape := ⟨3, ![8192, 4, 96]⟩
abbrev S8192x4x64 : Shape := ⟨3, ![8192, 4, 64]⟩
abbrev S8192x4x32 : Shape := ⟨3, ![8192, 4, 32]⟩
abbrev S1x128 : Shape := ⟨2, ![1, 128]⟩
abbrev S8192x512 : Shape := ⟨2, ![8192, 512]⟩
abbrev S8192x4x128 : Shape := ⟨3, ![8192, 4, 128]⟩
abbrev S8192x1x16 : Shape := ⟨3, ![8192, 1, 16]⟩
abbrev S8192x4x16 : Shape := ⟨3, ![8192, 4, 16]⟩
abbrev S8192x1x32 : Shape := ⟨3, ![8192, 1, 32]⟩
abbrev S8192x4x1 : Shape := ⟨3, ![8192, 4, 1]⟩
abbrev S8192x4x63 : Shape := ⟨3, ![8192, 4, 63]⟩
abbrev S4x8192x128 : Shape := ⟨3, ![4, 8192, 128]⟩

abbrev nBuf : Space → Nat
  | .hbm => 102
  | .vmem => 0
  | .smem => 0
  | _ => 0

abbrev bufTy : (tb : Table) → Fin (tcTables nBuf tb) → BufTy
  | .hbm, ⟨0, _⟩ => ⟨S8192x6048, .f32⟩
  | .hbm, ⟨1, _⟩ => ⟨S256, .f32⟩
  | .hbm, ⟨2, _⟩ => ⟨S256x384, .f32⟩
  | .hbm, ⟨3, _⟩ => ⟨S128, .f32⟩
  | .hbm, ⟨4, _⟩ => ⟨S128x512, .f32⟩
  | .hbm, ⟨5, _⟩ => ⟨S8192x16, .f32⟩
  | .hbm, ⟨6, _⟩ => ⟨S8192x16, .f32⟩
  | .hbm, ⟨7, _⟩ => ⟨S8192x256, .f32⟩
  | .hbm, ⟨8, _⟩ => ⟨S8192x128, .f32⟩
  | .hbm, ⟨9, _⟩ => ⟨S8192x32, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S8192x256, .f32⟩
  | .hbm, ⟨14, _⟩ => ⟨S8192x256, .f32⟩
  | .hbm, ⟨15, _⟩ => ⟨S8192x256, .f32⟩
  | .hbm, ⟨16, _⟩ => ⟨S8192x4096, .f32⟩
  | .hbm, ⟨17, _⟩ => ⟨S8192x256, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x256, .f32⟩
  | .hbm, ⟨29, _⟩ => ⟨S8192x256, .f32⟩
  | .hbm, ⟨30, _⟩ => ⟨S1x256, .f32⟩
  | .hbm, ⟨31, _⟩ => ⟨S8192x256, .f32⟩
  | .hbm, ⟨32, _⟩ => ⟨S8192x256, .f32⟩
  | .hbm, ⟨33, _⟩ => ⟨S8192x384, .f32⟩
  | .hbm, ⟨34, _⟩ => ⟨S8192x4x96, .f32⟩
  | .hbm, ⟨35, _⟩ => ⟨S8192x4x64, .f32⟩
  | .hbm, ⟨36, _⟩ => ⟨S8192x4x32, .f32⟩
  | .hbm, ⟨37, _⟩ => ⟨S8192x128, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x128, .f32⟩
  | .hbm, ⟨49, _⟩ => ⟨S8192x128, .f32⟩
  | .hbm, ⟨50, _⟩ => ⟨S1x128, .f32⟩
  | .hbm, ⟨51, _⟩ => ⟨S8192x128, .f32⟩
  | .hbm, ⟨52, _⟩ => ⟨S8192x128, .f32⟩
  | .hbm, ⟨53, _⟩ => ⟨S8192x512, .f32⟩
  | .hbm, ⟨54, _⟩ => ⟨S8192x4x128, .f32⟩
  | .hbm, ⟨55, _⟩ => ⟨S8192x4x64, .f32⟩
  | .hbm, ⟨56, _⟩ => ⟨S8192x4x64, .f32⟩
  | .hbm, ⟨57, _⟩ => ⟨S8192x1x16, .f32⟩
  | .hbm, ⟨58, _⟩ => ⟨S8192x1x16, .f32⟩
  | .hbm, ⟨59, _⟩ => ⟨S8192x4x16, .f32⟩
  | .hbm, ⟨60, _⟩ => ⟨S8192x4x16, .f32⟩
  | .hbm, ⟨61, _⟩ => ⟨S8192x4x16, .f32⟩
  | .hbm, ⟨62, _⟩ => ⟨S8192x4x16, .f32⟩
  | .hbm, ⟨63, _⟩ => ⟨S8192x4x16, .f32⟩
  | .hbm, ⟨64, _⟩ => ⟨S8192x4x16, .f32⟩
  | .hbm, ⟨65, _⟩ => ⟨S8192x4x16, .f32⟩
  | .hbm, ⟨66, _⟩ => ⟨S8192x4x16, .f32⟩
  | .hbm, ⟨67, _⟩ => ⟨S8192x4x16, .f32⟩
  | .hbm, ⟨68, _⟩ => ⟨S8192x4x16, .f32⟩
  | .hbm, ⟨69, _⟩ => ⟨S8192x4x16, .f32⟩
  | .hbm, ⟨70, _⟩ => ⟨S8192x4x16, .f32⟩
  | .hbm, ⟨71, _⟩ => ⟨S8192x4x32, .f32⟩
  | .hbm, ⟨72, _⟩ => ⟨S8192x16, .f32⟩
  | .hbm, ⟨73, _⟩ => ⟨S8192x16, .f32⟩
  | .hbm, ⟨74, _⟩ => ⟨S8192x16, .f32⟩
  | .hbm, ⟨75, _⟩ => ⟨S8192x16, .f32⟩
  | .hbm, ⟨76, _⟩ => ⟨S8192x16, .f32⟩
  | .hbm, ⟨77, _⟩ => ⟨S8192x16, .f32⟩
  | .hbm, ⟨78, _⟩ => ⟨S8192x16, .f32⟩
  | .hbm, ⟨79, _⟩ => ⟨S8192x16, .f32⟩
  | .hbm, ⟨80, _⟩ => ⟨S8192x32, .f32⟩
  | .hbm, ⟨81, _⟩ => ⟨S8192x1x32, .f32⟩
  | .hbm, ⟨82, _⟩ => ⟨S8192x4x32, .f32⟩
  | .hbm, ⟨83, _⟩ => ⟨S8192x4x96, .f32⟩
  | .hbm, ⟨84, _⟩ => ⟨S8192x4x96, .f32⟩
  | .hbm, ⟨85, _⟩ => ⟨S_, .f32⟩
  | .hbm, ⟨86, _⟩ => ⟨S8192x4x1, .f32⟩
  | .hbm, ⟨87, _⟩ => ⟨S_, .f32⟩
  | .hbm, ⟨88, _⟩ => ⟨S8192x4x63, .f32⟩
  | .hbm, ⟨89, _⟩ => ⟨S8192x4x128, .f32⟩
  | .hbm, ⟨90, _⟩ => ⟨S_, .f32⟩
  | .hbm, ⟨91, _⟩ => ⟨S8192x4x32, .f32⟩
  | .hbm, ⟨92, _⟩ => ⟨S8192x4x128, .f32⟩
  | .hbm, ⟨93, _⟩ => ⟨S_, .f32⟩
  | .hbm, ⟨94, _⟩ => ⟨S8192x4x32, .f32⟩
  | .hbm, ⟨95, _⟩ => ⟨S8192x4x128, .f32⟩
  | .hbm, ⟨96, _⟩ => ⟨S4x8192x128, .f32⟩
  | .hbm, ⟨97, _⟩ => ⟨S4x8192x128, .bf16⟩
  | .hbm, ⟨98, _⟩ => ⟨S4x8192x128, .f32⟩
  | .hbm, ⟨99, _⟩ => ⟨S4x8192x128, .bf16⟩
  | .hbm, ⟨100, _⟩ => ⟨S4x8192x128, .f32⟩
  | .hbm, ⟨101, _⟩ => ⟨S4x8192x128, .bf16⟩
  | _, _ => ⟨S8192x6048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_cst_3 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_cst_5 : Ref sig .tc := ⟨.hbm, 85, rfl⟩
abbrev main_v72 : Ref sig .tc := ⟨.hbm, 86, rfl⟩
abbrev main_cst_6 : Ref sig .tc := ⟨.hbm, 87, rfl⟩
abbrev main_v73 : Ref sig .tc := ⟨.hbm, 88, rfl⟩
abbrev main_v74 : Ref sig .tc := ⟨.hbm, 89, rfl⟩
abbrev main_cst_7 : Ref sig .tc := ⟨.hbm, 90, rfl⟩
abbrev main_v75 : Ref sig .tc := ⟨.hbm, 91, rfl⟩
abbrev main_v76 : Ref sig .tc := ⟨.hbm, 92, rfl⟩
abbrev main_cst_8 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩

abbrev nD : Nat := 1
abbrev τ : Topo := Topo.v7x

variable {F : FTy → Type} [FloatOps F]
-- ==== Proj.lean ====
abbrev S8192x1024 : Shape := ⟨2, ![8192, 1024]⟩
abbrev S1024 : Shape := ⟨1, ![1024]⟩
abbrev S1024x6048 : Shape := ⟨2, ![1024, 6048]⟩
abbrev S1024x256 : Shape := ⟨2, ![1024, 256]⟩
abbrev S1024x128 : Shape := ⟨2, ![1024, 128]⟩
abbrev S1024x32 : Shape := ⟨2, ![1024, 32]⟩
abbrev S1024x4096 : Shape := ⟨2, ![1024, 4096]⟩
abbrev S_ : Shape := ⟨0, ![]⟩
abbrev S1024x64 : Shape := ⟨2, ![1024, 64]⟩
abbrev S1024x16 : Shape := ⟨2, ![1024, 16]⟩
abbrev S1024x6272 : Shape := ⟨2, ![1024, 6272]⟩
abbrev S1x1024 : Shape := ⟨2, ![1, 1024]⟩
abbrev S8192x6272 : Shape := ⟨2, ![8192, 6272]⟩
abbrev S1024x1024 : Shape := ⟨2, ![1024, 1024]⟩
abbrev S1024x1 : Shape := ⟨2, ![1024, 1]⟩

abbrev nBuf : Space → Nat
  | .hbm => 31
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6048, .f32⟩
  | .hbm, ⟨3, _⟩ => ⟨S1024x6048, .bf16⟩
  | .hbm, ⟨4, _⟩ => ⟨S1024x256, .bf16⟩
  | .hbm, ⟨5, _⟩ => ⟨S1024x128, .bf16⟩
  | .hbm, ⟨6, _⟩ => ⟨S1024x32, .bf16⟩
  | .hbm, ⟨7, _⟩ => ⟨S1024x256, .bf16⟩
  | .hbm, ⟨8, _⟩ => ⟨S1024x256, .bf16⟩
  | .hbm, ⟨9, _⟩ => ⟨S1024x256, .bf16⟩
  | .hbm, ⟨10, _⟩ => ⟨S1024x256, .bf16⟩
  | .hbm, ⟨11, _⟩ => ⟨S1024x256, .bf16⟩
  | .hbm, ⟨12, _⟩ => ⟨S1024x256, .bf16⟩
  | .hbm, ⟨13, _⟩ => ⟨S1024x4096, .bf16⟩
  | .hbm, ⟨14, _⟩ => ⟨S_, .bf16⟩
  | .hbm, ⟨15, _⟩ => ⟨S1024x64, .bf16⟩
  | .hbm, ⟨16, _⟩ => ⟨S_, .bf16⟩
  | .hbm, ⟨17, _⟩ => ⟨S1024x32, .bf16⟩
  | .hbm, ⟨18, _⟩ => ⟨S1024x128, .bf16⟩
  | .hbm, ⟨19, _⟩ => ⟨S1024x16, .bf16⟩
  | .hbm, ⟨20, _⟩ => ⟨S1024x16, .bf16⟩
  | .hbm, ⟨21, _⟩ => ⟨S1024x16, .bf16⟩
  | .hbm, ⟨22, _⟩ => ⟨S1024x32, .bf16⟩
  | .hbm, ⟨23, _⟩ => ⟨S_, .bf16⟩
  | .hbm, ⟨24, _⟩ => ⟨S1024x64, .bf16⟩
  | .hbm, ⟨25, _⟩ => ⟨S_, .bf16⟩
  | .hbm, ⟨26, _⟩ => ⟨S1024x32, .bf16⟩
  | .hbm, ⟨27, _⟩ => ⟨S1024x128, .bf16⟩
  | .hbm, ⟨28, _⟩ => ⟨S1024x6272, .bf16⟩
  | .hbm, ⟨29, _⟩ => ⟨S1x1024, .f32⟩
  | .hbm, ⟨30, _⟩ => ⟨S8192x6272, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x6272, .bf16⟩
  | .local _ .vmem, ⟨4, _⟩ => ⟨S1024x6272, .bf16⟩
  | .local _ .vmem, ⟨5, _⟩ => ⟨S1024x6272, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x6272 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x6272 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S8192x1024 : Shape := ⟨2, ![8192, 1024]⟩
abbrev S1024 : Shape := ⟨1, ![1024]⟩
abbrev S1024x6048 : Shape := ⟨2, ![1024, 6048]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x6048 : Shape := ⟨2, ![8192, 6048]⟩
abbrev S8192x256 : Shape := ⟨2, ![8192, 256]⟩
abbrev S8192x128 : Shape := ⟨2, ![8192, 128]⟩
abbrev S8192x32 : Shape := ⟨2, ![8192, 32]⟩
abbrev S8192x4096 : Shape := ⟨2, ![8192, 4096]⟩
abbrev S8192x16 : Shape := ⟨2, ![8192, 16]⟩
abbrev S8192x64 : Shape := ⟨2, ![8192, 64]⟩
abbrev S8192x6272 : Shape := ⟨2, ![8192, 6272]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x6048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x6048, .f32⟩
  | .hbm, ⟨20, _⟩ => ⟨S8192x256, .f32⟩
  | .hbm, ⟨21, _⟩ => ⟨S8192x128, .f32⟩
  | .hbm, ⟨22, _⟩ => ⟨S8192x32, .f32⟩
  | .hbm, ⟨23, _⟩ => ⟨S8192x256, .f32⟩
  | .hbm, ⟨24, _⟩ => ⟨S8192x256, .f32⟩
  | .hbm, ⟨25, _⟩ => ⟨S8192x256, .f32⟩
  | .hbm, ⟨26, _⟩ => ⟨S8192x256, .f32⟩
  | .hbm, ⟨27, _⟩ => ⟨S8192x256, .f32⟩
  | .hbm, ⟨28, _⟩ => ⟨S8192x256, .f32⟩
  | .hbm, ⟨29, _⟩ => ⟨S8192x4096, .f32⟩
  | .hbm, ⟨30, _⟩ => ⟨S8192x16, .f32⟩
  | .hbm, ⟨31, _⟩ => ⟨S8192x16, .f32⟩
  | .hbm, ⟨32, _⟩ => ⟨S_, .f32⟩
  | .hbm, ⟨33, _⟩ => ⟨S8192x64, .f32⟩
  | .hbm, ⟨34, _⟩ => ⟨S_, .f32⟩
  | .hbm, ⟨35, _⟩ => ⟨S8192x32, .f32⟩
  | .hbm, ⟨36, _⟩ => ⟨S_, .f32⟩
  | .hbm, ⟨37, _⟩ => ⟨S8192x64, .f32⟩
  | .hbm, ⟨38, _⟩ => ⟨S8192x16, .f32⟩
  | .hbm, ⟨39, _⟩ => ⟨S_, .f32⟩
  | .hbm, ⟨40, _⟩ => ⟨S8192x32, .f32⟩
  | .hbm, ⟨41, _⟩ => ⟨S8192x6272, .f32⟩
  | .hbm, ⟨42, _⟩ => ⟨S8192x6272, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_cst_2 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_cst_4 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩

abbrev nD : Nat := 1
abbrev τ : Topo := Topo.v7x

variable {F : FTy → Type} [FloatOps F]
-- ==== Wup.lean ====
abbrev S8192x1024 : Shape := ⟨2, ![8192, 1024]⟩
abbrev S1024 : Shape := ⟨1, ![1024]⟩
abbrev S8192x4096 : Shape := ⟨2, ![8192, 4096]⟩
abbrev S1x1024 : Shape := ⟨2, ![1, 1024]⟩
abbrev S1024x4096 : Shape := ⟨2, ![1024, 4096]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 6
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x4096, .f32⟩
  | .hbm, ⟨3, _⟩ => ⟨S8192x4096, .bf16⟩
  | .hbm, ⟨4, _⟩ => ⟨S1x1024, .f32⟩
  | .hbm, ⟨5, _⟩ => ⟨S1024x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x2048, .bf16⟩
  | .local _ .vmem, ⟨4, _⟩ => ⟨S512x2048, .bf16⟩
  | .local _ .vmem, ⟨5, _⟩ => ⟨S1024x2048, .f32⟩
  | .local _ .vmem, ⟨6, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== WupRefIdeal.lean ====
abbrev S8192x1024 : Shape := ⟨2, ![8192, 1024]⟩
abbrev S1024 : Shape := ⟨1, ![1024]⟩
abbrev S8192x4096 : Shape := ⟨2, ![8192, 4096]⟩
abbrev S_ : Shape := ⟨0, ![]⟩
abbrev S1024x4096 : Shape := ⟨2, ![1024, 4096]⟩
abbrev S8192 : Shape := ⟨1, ![8192]⟩
abbrev S8192x1 : Shape := ⟨2, ![8192, 1]⟩
abbrev S1x1024 : Shape := ⟨2, ![1, 1024]⟩
abbrev S4096x1024 : Shape := ⟨2, ![4096, 1024]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x4096, .f32⟩
  | .hbm, ⟨3, _⟩ => ⟨S_, .f32⟩
  | .hbm, ⟨4, _⟩ => ⟨S1024x4096, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S4096x1024, .f32⟩
  | .hbm, ⟨23, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Wdown.lean ====
abbrev S8192x4096 : Shape := ⟨2, ![8192, 4096]⟩
abbrev S8192x1024 : Shape := ⟨2, ![8192, 1024]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S8192x4096, .bf16⟩
  | .hbm, ⟨3, _⟩ => ⟨S8192x1024, .bf16⟩
  | .hbm, ⟨4, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S4096x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WdownRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 11
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x1024, .f32⟩
  | .hbm, ⟨2, _⟩ => ⟨S_, .f32⟩
  | .hbm, ⟨3, _⟩ => ⟨S4096x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S1024x4096, .f32⟩
  | .hbm, ⟨10, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Adam.lean ====
abbrev S4x1024x1512 : Shape := ⟨3, ![4, 1024, 1512]⟩
abbrev S4x1512x1024 : Shape := ⟨3, ![4, 1512, 1024]⟩
abbrev S4x72x1024 : Shape := ⟨3, ![4, 72, 1024]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x1512, .f32⟩
  | .hbm, ⟨1, _⟩ => ⟨S4x1024x1512, .f32⟩
  | .hbm, ⟨2, _⟩ => ⟨S4x1024x1512, .f32⟩
  | .hbm, ⟨3, _⟩ => ⟨S4x1024x1512, .f32⟩
  | .hbm, ⟨4, _⟩ => ⟨S4x1512x1024, .f32⟩
  | .hbm, ⟨5, _⟩ => ⟨S4x1512x1024, .f32⟩
  | .hbm, ⟨6, _⟩ => ⟨S4x1512x1024, .f32⟩
  | .hbm, ⟨7, _⟩ => ⟨S4x1512x1024, .f32⟩
  | .hbm, ⟨8, _⟩ => ⟨S4x1512x1024, .f32⟩
  | .hbm, ⟨9, _⟩ => ⟨S4x1512x1024, .f32⟩
  | .hbm, ⟨10, _⟩ => ⟨S4x1512x1024, .f32⟩
  | .local _ .vmem, ⟨0, _⟩ => ⟨S4x72x1024, .f32⟩
  | .local _ .vmem, ⟨1, _⟩ => ⟨S4x72x1024, .f32⟩
  | .local _ .vmem, ⟨2, _⟩ => ⟨S4x72x1024, .f32⟩
  | .local _ .vmem, ⟨3, _⟩ => ⟨S4x72x1024, .f32⟩
  | .local _ .vmem, ⟨4, _⟩ => ⟨S4x72x1024, .f32⟩
  | .local _ .vmem, ⟨5, _⟩ => ⟨S4x72x1024, .f32⟩
  | .local _ .vmem, ⟨6, _⟩ => ⟨S4x72x1024, .f32⟩
  | .local _ .vmem, ⟨7, _⟩ => ⟨S4x72x1024, .f32⟩
  | .local _ .vmem, ⟨8, _⟩ => ⟨S4x72x1024, .f32⟩
  | .local _ .vmem, ⟨9, _⟩ => ⟨S4x72x1024, .f32⟩
  | .local _ .vmem, ⟨10, _⟩ => ⟨S4x72x1024, .f32⟩
  | .local _ .vmem, ⟨11, _⟩ => ⟨S4x72x1024, .f32⟩
  | .local _ .vmem, ⟨12, _⟩ => ⟨S4x72x1024, .f32⟩
  | .local _ .vmem, ⟨13, _⟩ => ⟨S4x72x1024, .f32⟩
  | _, _ => ⟨S4x1024x1512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![21], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x72x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x72x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x72x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x72x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x72x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x72x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x72x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamRefIdeal.lean ====
abbrev S4x1024x1512 : Shape := ⟨3, ![4, 1024, 1512]⟩
abbrev S_ : Shape := ⟨0, ![]⟩
abbrev S4x1512x1024 : Shape := ⟨3, ![4, 1512, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x1512, .f32⟩
  | .hbm, ⟨1, _⟩ => ⟨S4x1024x1512, .f32⟩
  | .hbm, ⟨2, _⟩ => ⟨S4x1024x1512, .f32⟩
  | .hbm, ⟨3, _⟩ => ⟨S4x1024x1512, .f32⟩
  | .hbm, ⟨4, _⟩ => ⟨S_, .f32⟩
  | .hbm, ⟨5, _⟩ => ⟨S4x1024x1512, .f32⟩
  | .hbm, ⟨6, _⟩ => ⟨S4x1024x1512, .f32⟩
  | .hbm, ⟨7, _⟩ => ⟨S_, .f32⟩
  | .hbm, ⟨8, _⟩ => ⟨S4x1024x1512, .f32⟩
  | .hbm, ⟨9, _⟩ => ⟨S4x1024x1512, .f32⟩
  | .hbm, ⟨10, _⟩ => ⟨S4x1024x1512, .f32⟩
  | .hbm, ⟨11, _⟩ => ⟨S_, .f32⟩
  | .hbm, ⟨12, _⟩ => ⟨S4x1024x1512, .f32⟩
  | .hbm, ⟨13, _⟩ => ⟨S4x1024x1512, .f32⟩
  | .hbm, ⟨14, _⟩ => ⟨S4x1024x1512, .f32⟩
  | .hbm, ⟨15, _⟩ => ⟨S_, .f32⟩
  | .hbm, ⟨16, _⟩ => ⟨S4x1024x1512, .f32⟩
  | .hbm, ⟨17, _⟩ => ⟨S4x1024x1512, .f32⟩
  | .hbm, ⟨18, _⟩ => ⟨S4x1024x1512, .f32⟩
  | .hbm, ⟨19, _⟩ => ⟨S_, .f32⟩
  | .hbm, ⟨20, _⟩ => ⟨S4x1024x1512, .f32⟩
  | .hbm, ⟨21, _⟩ => ⟨S4x1024x1512, .f32⟩
  | .hbm, ⟨22, _⟩ => ⟨S_, .f32⟩
  | .hbm, ⟨23, _⟩ => ⟨S4x1024x1512, .f32⟩
  | .hbm, ⟨24, _⟩ => ⟨S4x1024x1512, .f32⟩
  | .hbm, ⟨25, _⟩ => ⟨S4x1024x1512, .f32⟩
  | .hbm, ⟨26, _⟩ => ⟨S_, .f32⟩
  | .hbm, ⟨27, _⟩ => ⟨S4x1024x1512, .f32⟩
  | .hbm, ⟨28, _⟩ => ⟨S4x1024x1512, .f32⟩
  | .hbm, ⟨29, _⟩ => ⟨S4x1024x1512, .f32⟩
  | .hbm, ⟨30, _⟩ => ⟨S_, .f32⟩
  | .hbm, ⟨31, _⟩ => ⟨S4x1024x1512, .f32⟩
  | .hbm, ⟨32, _⟩ => ⟨S4x1024x1512, .f32⟩
  | .hbm, ⟨33, _⟩ => ⟨S4x1024x1512, .f32⟩
  | .hbm, ⟨34, _⟩ => ⟨S_, .f32⟩
  | .hbm, ⟨35, _⟩ => ⟨S4x1024x1512, .f32⟩
  | .hbm, ⟨36, _⟩ => ⟨S4x1024x1512, .f32⟩
  | .hbm, ⟨37, _⟩ => ⟨S4x1512x1024, .f32⟩
  | .hbm, ⟨38, _⟩ => ⟨S4x1512x1024, .f32⟩
  | .hbm, ⟨39, _⟩ => ⟨S4x1512x1024, .f32⟩
  | _, _ => ⟨S4x1024x1512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Sums.lean ====
abbrev S8x384x1024 : Shape := ⟨3, ![8, 384, 1024]⟩
abbrev S384x1024 : Shape := ⟨2, ![384, 1024]⟩
abbrev S8x96x1024 : Shape := ⟨3, ![8, 96, 1024]⟩
abbrev S96x1024 : Shape := ⟨2, ![96, 1024]⟩
abbrev S1x96x1024 : Shape := ⟨3, ![1, 96, 1024]⟩

abbrev nBuf : Space → Nat
  | .hbm => 2
  | .vmem => 4
  | .smem => 0
  | _ => 0

abbrev bufTy : (tb : Table) → Fin (tcTables nBuf tb) → BufTy
  | .hbm, ⟨0, _⟩ => ⟨S8x384x1024, .f32⟩
  | .hbm, ⟨1, _⟩ => ⟨S384x1024, .f32⟩
  | .local _ .vmem, ⟨0, _⟩ => ⟨S8x96x1024, .f32⟩
  | .local _ .vmem, ⟨1, _⟩ => ⟨S8x96x1024, .f32⟩
  | .local _ .vmem, ⟨2, _⟩ => ⟨S96x1024, .f32⟩
  | .local _ .vmem, ⟨3, _⟩ => ⟨S96x1024, .f32⟩
  | _, _ => ⟨S8x384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x96x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumsRefIdeal.lean ====
abbrev S8x384x1024 : Shape := ⟨3, ![8, 384, 1024]⟩
abbrev S_ : Shape := ⟨0, ![]⟩
abbrev S384x1024 : Shape := ⟨2, ![384, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x384x1024, .f32⟩
  | .hbm, ⟨1, _⟩ => ⟨S_, .f32⟩
  | .hbm, ⟨2, _⟩ => ⟨S384x1024, .f32⟩
  | _, _ => ⟨S8x384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Kit.Reals.lean ====
/- Arithmetic at finite arguments. At the ideal instance a float is an extended real, and the extended reals are no
   ring; a gradient's two spellings agree by the ring laws, so the value claims suppose finite arguments, take the
   arguments' real numbers, and read every operation as the coercion of the real operation. -/
module

public import Idealize.ShloMosaic.Lib.Pointwise
public import Idealize.ShloMosaic.Lib.ReduceAll
public import Idealize.ShloMosaic.PureOps.Ideal.Laws
public import Mathlib.Analysis.SpecialFunctions.Pow.Real
public import Mathlib.Tactic.FieldSimp
public import Mathlib.Tactic.LinearCombination

@[expose] public section

set_option maxRecDepth 16384

noncomputable section

namespace Cert.Reals

open Idealize.ShloMosaic

/-- An array of reals as an array of extended reals. -/
abbrev up {ι : Type} (X : ι → ℝ) : ι → EReal := fun i => ((X i : ℝ) : EReal)

theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem inf_word : Ideal.ofBits .f32 0x7F800000#32 = (⊤ : EReal) := by
  simp [Ideal.ofBits, Ideal.ieee]

/-- An extended real whose absolute value is below infinity is a real. -/
theorem real_of_abs_lt (x : EReal) (h : Ideal.cmp .olt (max x (-x)) (Ideal.ofBits .f32 0x7F800000#32) = 1#1) :
    ∃ r : ℝ, x = (r : EReal) := by
  rw [inf_word] at h
  have h' : max x (-x) < ⊤ := by
    by_contra hn
    simp [Ideal.cmp, hn] at h
  induction x with
  | bot => simp at h'
  | coe r => exact ⟨r, rfl⟩
  | top => simp at h'

/-- `jnp.all(jnp.abs(x) < inf)` that is 1: `x` is an array of reals. -/
theorem reals_of_all {s t u : Shape} [Subsingleton t.Idx] {axes : List (Fin s.rank)} (x : s.Idx → EReal)
    (y : s.Idx → BitVec 1) (hy : ∀ i, y i = Ideal.cmp .olt (max (x i) (-(x i))) (Ideal.ofBits .f32 0x7F800000#32)) (init : u.Idx → BitVec 1) (hr : s.ReducesTo axes t) (hu : 0 < u.numel) (j : t.Idx)
    (h : Host.reduce IntOp.andi y init hr hu j = 1#1) : ∃ X : s.Idx → ℝ, x = up X := by
  have h' := fun i => (hy i).symm.trans (Host.reduce_andi_all y init hr hu j h i)
  choose X hX using fun i => real_of_abs_lt (x i) (h' i)
  exact ⟨X, funext hX⟩

theorem rsqrt_pos {a : ℝ} (h : 0 < a) : Ideal.rsqrt (a : EReal) = (((Real.sqrt a)⁻¹ : ℝ) : EReal) := by
  rw [Ideal.rsqrt_coe, if_neg h.not_gt, if_neg h.ne']

theorem div_real {a b : ℝ} (h : b ≠ 0) : Ideal.div (a : EReal) (b : EReal) = ((a / b : ℝ) : EReal) := by
  rw [Ideal.div_coe h, ← EReal.coe_mul, mul_one_div]

/-- The value of the word of 1e-6. -/
def eps : ℝ := 8796093 / 2 ^ 43

theorem eps_pos : 0 < eps := by unfold eps; positivity

theorem eps_word : Ideal.ofBits .f32 0x358637BD#32 = (eps : EReal) := by
  unfold eps
  simp [Ideal.ofBits, Ideal.ieee, -EReal.coe_mul]
  norm_num

theorem w1024 : Ideal.ofBits .f32 0x44800000#32 = ((1024 : ℝ) : EReal) := by
  simp [Ideal.ofBits, Ideal.ieee, -EReal.coe_mul]; norm_num

theorem wneghalf : Ideal.ofBits .f32 0xBF000000#32 = ((-1 / 2 : ℝ) : EReal) := by
  simp [Ideal.ofBits, Ideal.ieee, -EReal.coe_mul]; norm_num

theorem wzero : Ideal.ofBits .f32 0x00000000#32 = ((0 : ℝ) : EReal) := by
  simp [Ideal.ofBits, Ideal.ieee, -EReal.coe_mul]

theorem div_1024 (a : ℝ) : Ideal.div (a : EReal) ((1024 : ℝ) : EReal) = ((a / 1024 : ℝ) : EReal) := div_real (by norm_num)

/-- The mean square of a row, moved off zero. -/
def ms {n : ℕ} (x : Fin n → ℝ) (d : ℝ) : ℝ := (∑ k, x k * x k) / d + eps

/-- The reciprocal root mean square of a row. -/
def rr {n : ℕ} (x : Fin n → ℝ) (d : ℝ) : ℝ := (Real.sqrt (ms x d))⁻¹

theorem ms_pos {n : ℕ} (x : Fin n → ℝ) {d : ℝ} (hd : 0 < d) : 0 < ms x d :=
  add_pos_of_nonneg_of_pos (div_nonneg (Finset.sum_nonneg fun k _ => mul_self_nonneg (x k)) hd.le) eps_pos

theorem rr_pos {n : ℕ} (x : Fin n → ℝ) {d : ℝ} (hd : 0 < d) : 0 < rr x d :=
  inv_pos.2 (Real.sqrt_pos.2 (ms_pos x hd))

theorem rr_sq {n : ℕ} (x : Fin n → ℝ) {d : ℝ} (hd : 0 < d) : rr x d * rr x d * ms x d = 1 := by
  have h := ms_pos x hd
  rw [rr, ← mul_inv, Real.mul_self_sqrt h.le, inv_mul_cancel₀ h.ne']

theorem rsqrt_ms {n : ℕ} (x : Fin n → ℝ) {d : ℝ} (hd : 0 < d) : Ideal.rsqrt ((ms x d : ℝ) : EReal) = ((rr x d : ℝ) : EReal) :=
  rsqrt_pos (ms_pos x hd)

/-- `rsqrt_ms` with the mean square spelled out, over 1024 lanes. -/
theorem rsqrt_mean {n : ℕ} (x : Fin n → ℝ) :
    Ideal.rsqrt (((∑ k, x k * x k) / 1024 + eps : ℝ) : EReal) = ((rr x 1024 : ℝ) : EReal) :=
  rsqrt_ms x (by norm_num)

theorem rr_div_ms {n : ℕ} (x : Fin n → ℝ) {d : ℝ} (hd : 0 < d) : rr x d / ms x d = rr x d * rr x d * rr x d := by
  have h := rr_sq x hd
  rw [div_eq_iff (ms_pos x hd).ne']
  linear_combination (-rr x d) * h

/-- The gradient of `x * rr x` at the cotangent `y`, by hand and by the chain rule. -/
theorem rms_grad {n : ℕ} (x y : Fin n → ℝ) {d : ℝ} (hd : 0 < d) (j : Fin n) :
    rr x d * (y j - x j * rr x d * ((∑ k, y k * (x k * rr x d)) / d))
      = y j * rr x d + (x j * ((∑ k, x k * y k) * (-1 / 2 * (rr x d / ms x d)) / d)
          + (∑ k, x k * y k) * (-1 / 2 * (rr x d / ms x d)) / d * x j) := by
  rw [rr_div_ms x hd]
  have h : ∑ k, y k * (x k * rr x d) = rr x d * ∑ k, x k * y k := by
    rw [Finset.mul_sum]; exact Finset.sum_congr rfl fun k _ => by ring
  rw [h]
  ring

end Cert.Reals

end
-- ==== Proof.Ffn1.Pay.lean ====
/- What the body of the first feed-forward norm's gradient stores, at finite blocks: the gradient of the norm's input
   row by row, and the rows' part of the gradient of the norm's weight. -/
module

public import proofs.«01_k».proof.Proof.Gen.Ffn1Ideal.Skeleton
public import proofs.«01_k».proof.Proof.Kit.Reals

@[expose] public section

set_option maxRecDepth 16384

noncomputable section

namespace Cert.Ffn1Ideal.Pay

open Cert.Ffn1Ideal Cert.Ffn1Ideal.Gen Cert.Reals
open Idealize.ShloMosaic Idealize.ShloMosaic.TcCoe Idealize.SL.Sem

variable (a : FVec Ideal S512x4096 .bf16) (w : FVec Ideal S4096x1024 .bf16) (x : FVec Ideal S512x1024 .f32)
  (g : FVec Ideal S1x1024 .f32)
variable {A : Fin 512 → Fin 4096 → ℝ} {W : Fin 1024 → Fin 4096 → ℝ} {X : Fin 512 → Fin 1024 → ℝ} {G : Fin 1024 → ℝ}
variable (ha : ∀ r k, a (ix2 r k) = ((A r k : ℝ) : EReal)) (hw : ∀ k l, w (ix2 k l) = ((W l k : ℝ) : EReal))
  (hx : ∀ r k, x (ix2 r k) = ((X r k : ℝ) : EReal)) (hg : ∀ l, g (ix2 0 l) = ((G l : ℝ) : EReal))

include ha hw hx in
theorem pay7 (acc : FVec Ideal S1x1024 .f32) (l : Fin 1024) :
    k0_pay7 (F := Ideal) a w x acc (ix2 0 l)
      = acc (ix2 0 l) + ∑ r : Fin 512, (((∑ k, A r k * W l k) * (X r l * rr (X r) 1024) : ℝ) : EReal) := by
  pointwise [k0_pay7, k0_pay3, k0_pay4, k0_pay5]
  simp only [hx, ha, hw, eps_word, w1024, ← EReal.coe_mul, sum_coe, zero_add, div_1024, ← EReal.coe_add, rsqrt_mean]

include ha hw hx hg in
theorem pay6 (r : Fin 512) (l : Fin 1024) :
    k0_pay6 (F := Ideal) a w x g (ix2 r l)
      = ((rr (X r) 1024 * ((∑ k, A r k * W l k) * G l - X r l * rr (X r) 1024
          * ((∑ j, (∑ k, A r k * W j k) * G j * (X r j * rr (X r) 1024)) / 1024)) : ℝ) : EReal) := by
  pointwise [k0_pay6, k0_pay3, k0_pay4, k0_pay5]
  simp only [hx, ha, hw, hg, eps_word, w1024, ← EReal.coe_mul, sum_coe, zero_add, div_1024, ← EReal.coe_add,
    rsqrt_mean, ← EReal.coe_sub]

theorem pay1 (v d : FVec Ideal S512x1024 .f32) (j : S512x1024.Idx) : k0_pay1 (F := Ideal) v d j = d j + v j := by
  pointwise [k0_pay1]

theorem pay2 (j : S1x1024.Idx) : k0_pay2 (F := Ideal) j = 0 := by pointwise [k0_pay2]

end Cert.Ffn1Ideal.Pay

end
-- ==== Proof.Ffn1.Spec.lean ====
/- The first feed-forward norm's gradients, over the reals. -/
module

public import proofs.«01_k».proof.Proof.Kit.Reals

@[expose] public section

noncomputable section

namespace Cert.Ffn1Spec

open Cert.Reals

/-- The gradient of the norm's weighted output. -/
def dh (A : Fin 8192 → Fin 4096 → ℝ) (W : Fin 1024 → Fin 4096 → ℝ) (i : Fin 8192) (l : Fin 1024) : ℝ := ∑ k, A i k * W l k

/-- The part of the input's gradient that goes through the norm. -/
def dx (A : Fin 8192 → Fin 4096 → ℝ) (W : Fin 1024 → Fin 4096 → ℝ) (X : Fin 8192 → Fin 1024 → ℝ) (G : Fin 1024 → ℝ)
    (i : Fin 8192) (l : Fin 1024) : ℝ :=
  rr (X i) 1024 * (dh A W i l * G l - X i l * rr (X i) 1024 * ((∑ j, dh A W i j * G j * (X i j * rr (X i) 1024)) / 1024))

/-- The gradient of the norm's weight. -/
def dg (A : Fin 8192 → Fin 4096 → ℝ) (W : Fin 1024 → Fin 4096 → ℝ) (X : Fin 8192 → Fin 1024 → ℝ) (l : Fin 1024) : ℝ :=
  ∑ i, dh A W i l * (X i l * rr (X i) 1024)

end Cert.Ffn1Spec

end
-- ==== Proof.Ffn1.Kernel.lean ====
/- The two arrays the first feed-forward norm's gradient call leaves, at finite arguments. -/
module

public import proofs.«01_k».proof.Proof.Gen.Ffn1Ideal.Value
public import proofs.«01_k».proof.Proof.Ffn1.Pay
public import proofs.«01_k».proof.Proof.Ffn1.Spec
public import Idealize.ShloMosaic.Lib.Pipeline.ValueKit

@[expose] public section

set_option maxRecDepth 16384

noncomputable section

namespace Cert.Ffn1Ideal.Arrays

open Cert.Ffn1Ideal Cert.Ffn1Ideal.Gen Cert.Reals
open Idealize.ShloMosaic Idealize.ShloMosaic.TcCoe Idealize.SL.Sem
open Idealize.ShloMosaic.Pipeline (Dat)

open Cert.Ffn1Spec

variable (m : (ℓ : Loc nD τ sig) → Buf (Elt Ideal) ℓ) (c : Dev nD)
variable {A : Fin 8192 → Fin 4096 → ℝ} {W : Fin 1024 → Fin 4096 → ℝ} {X : Fin 8192 → Fin 1024 → ℝ} {G : Fin 1024 → ℝ}

/-- The arguments are these reals. -/
structure Given (A : Fin 8192 → Fin 4096 → ℝ) (W : Fin 1024 → Fin 4096 → ℝ) (X : Fin 8192 → Fin 1024 → ℝ)
    (G : Fin 1024 → ℝ) : Prop where
  ha : ∀ i k, (m ((c : Thread nD τ).loc main_arg3) : FVec Ideal S8192x4096 .bf16) (ix2 i k) = ((A i k : ℝ) : EReal)
  hw : ∀ l k, (m ((c : Thread nD τ).loc main_arg2) : FVec Ideal S1024x4096 .f32) (ix2 l k) = ((W l k : ℝ) : EReal)
  hx : ∀ i l, (m ((c : Thread nD τ).loc main_arg0) : FVec Ideal S8192x1024 .f32) (ix2 i l) = ((X i l : ℝ) : EReal)
  hg : ∀ l, (m ((c : Thread nD τ).loc main_arg1) : FVec Ideal S1024 .f32) (ix1 l) = ((G l : ℝ) : EReal)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

variable (h : Given m c A W X G)

/-- The row of the array that row `r` of point `t`'s block is. -/
abbrev row (t : Fin cfg0.N) (r : Fin 512) : Fin 8192 := ⟨t.val * 512 + r.val, by have := lt_of_lt_of_eq t.isLt N_0; omega⟩

include h in
theorem blk0 (t : Fin cfg0.N) (r : Fin 512) (k : Fin 4096) :
    (iblk m c 0 t : FVec Ideal S512x4096 .bf16) (ix2 r k) = ((A (row t r) k : ℝ) : EReal) := by
  rw [← h.ha]; blk_point [iblk, V, idx t]

include h in
theorem blk1 (t : Fin cfg0.N) (k : Fin 4096) (l : Fin 1024) :
    (iblk m c 1 t : FVec Ideal S4096x1024 .bf16) (ix2 k l) = ((W l k : ℝ) : EReal) := by
  rw [← h.hw]; blk_point [iblk, V, idx t]

include h in
theorem blk2 (t : Fin cfg0.N) (r : Fin 512) (l : Fin 1024) :
    (iblk m c 2 t : FVec Ideal S512x1024 .f32) (ix2 r l) = ((X (row t r) l : ℝ) : EReal) := by
  rw [← h.hx]; blk_point [iblk, V, idx t]

include h in
theorem blk3 (t : Fin cfg0.N) (l : Fin 1024) :
    (iblk m c 3 t : FVec Ideal S1x1024 .f32) (ix2 0 l) = ((G l : ℝ) : EReal) := by
  rw [← h.hg]; blk_point [iblk, V, idx t]

/-- The residual cotangent, which both gradients pass on. -/
abbrev resid : FVec Ideal S8192x1024 .f32 := m ((c : Thread nD τ).loc main_arg4)

theorem blk4 (t : Fin cfg0.N) (r : Fin 512) (l : Fin 1024) :
    (iblk m c 4 t : FVec Ideal S512x1024 .f32) (ix2 r l) = resid m c (ix2 (row t r) l) := by
  blk_point [iblk, V, idx t]

include h in
/-- What a point leaves in the block of the input's gradient. -/
theorem point5 (t : Fin cfg0.N) (r : Fin 512) (l : Fin 1024) :
    (outsAt0 m c t.val t.isLt).1 (ix2 r l) = resid m c (ix2 (row t r) l) + ((dx A W X G (row t r) l : ℝ) : EReal) := by
  by_cases h0 : t.val % 16 = 0
  · rw [outsAt0_A m c t h0]; frame_out
    rw [Pay.pay1, Pay.pay6 _ _ _ _ (blk0 m c h t) (blk1 m c h t) (blk2 m c h t) (blk3 m c h t), blk4]; rfl
  · rw [outsAt0_B m c t h0]; frame_out
    rw [Pay.pay1, Pay.pay6 _ _ _ _ (blk0 m c h t) (blk1 m c h t) (blk2 m c h t) (blk3 m c h t), blk4]; rfl

include h in
theorem final5 : (dats m 0 c).arrAt 5 cfg0.N
    = (fun i => resid m c i + ((dx A W X G (i 0) (i 1) : ℝ) : EReal) : FVec Ideal S8192x1024 .f32) := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, by idx_vars y⟩
  rw [point5 m c h]
  have e : (win0_5.blk t).view.emb (ix2 r l) = ix2 (row t r) l := by blk_ext [idx t]
  rw [e]; rfl

include h in
theorem final6 : (dats m 0 c).arrAt 6 cfg0.N
    = (fun i => ((dg A W X (i 1) : ℝ) : EReal) : FVec Ideal S1x1024 .f32) := by
  refine (dats m 0 c).arrAt_eq_of_after_last 6 t0_15 (by decide +kernel) _ fun j => ?_
  blk_simp
  idx_vars j
  obtain rfl := Subsingleton.elim j0 0
  rw [after0_6, Pipeline.eq_sum_fin_of_reset_step_apply_last (fun n h => (outsAt0 m c n h).2) 16 (fun _ => 0)
    (fun p j => ∑ r : Fin 512, ((dh A W (row p r) (j 1) * (X (row p r) (j 1) * rr (X (row p r)) 1024) : ℝ) : EReal))
    (fun t h0 j => by
      idx_vars j; obtain rfl := Subsingleton.elim j0 0; rw [outsAt0_A m c t h0]; frame_out
      rw [Pay.pay7 _ _ _ (blk0 m c h t) (blk1 m c h t) (blk2 m c h t), Pay.pay2]; rfl)
    (fun t h0 j => by
      idx_vars j; obtain rfl := Subsingleton.elim j0 0; rw [outsAt0_B m c t h0]; frame_out
      rw [Pay.pay7 _ _ _ (blk0 m c h t) (blk1 m c h t) (blk2 m c h t)]; rfl)
    (le_of_eq N_0) t0_15 rfl (ix2 0 j1), zero_add]
  simp only [sum_coe]
  exact congrArg _ (Fin.sum_mul_add_fin 16 512 (fun i => dh A W i j1 * (X i j1 * rr (X i) 1024)))

end Cert.Ffn1Ideal.Arrays

end
-- ==== Proof.Ffn1.Ref.lean ====
/- The reference's two results at finite arguments: the derivative's terms, by the chain rule, are the gradients. -/
module

public import proofs.«01_k».proof.Proof.Gen.Ffn1RefIdeal.Read
public import proofs.«01_k».proof.Proof.Ffn1.Spec

@[expose] public section

set_option maxRecDepth 16384

noncomputable section

namespace Cert.Ffn1RefIdeal.Grad

open Cert.Ffn1RefIdeal Cert.Ffn1RefIdeal.Gen Cert.Ffn1RefIdeal.Read Cert.Reals Cert.Ffn1Spec
open Idealize.ShloMosaic Idealize.ShloMosaic.TcCoe Idealize.SL.Sem

variable {a : FVec Ideal S8192x4096 .bf16} {w : FVec Ideal S1024x4096 .f32} {x : FVec Ideal S8192x1024 .f32}
  {g : FVec Ideal S1024 .f32}
variable {A : Fin 8192 → Fin 4096 → ℝ} {W : Fin 1024 → Fin 4096 → ℝ} {X : Fin 8192 → Fin 1024 → ℝ} {G : Fin 1024 → ℝ}
variable (ha : ∀ i k, a (ix2 i k) = ((A i k : ℝ) : EReal)) (hw : ∀ l k, w (ix2 l k) = ((W l k : ℝ) : EReal))
  (hx : ∀ i l, x (ix2 i l) = ((X i l : ℝ) : EReal)) (hg : ∀ l, g (ix1 l) = ((G l : ℝ) : EReal))

include ha hw in
theorem v20 (i : Fin 8192) (l : Fin 1024) : val_main_v20 (F := Ideal) w a (ix2 i l) = ((dh A W i l : ℝ) : EReal) := by
  pointwise [val_main_v20, val_main_v17]
  simp only [ha, hw, ← EReal.coe_mul, sum_coe]; rfl

include hx in
theorem v6 (i : Fin 8192) : val_main_v6 (F := Ideal) x (ix2 i 0) = ((ms (X i) 1024 : ℝ) : EReal) := by
  pointwise [val_main_v6, val_main_v4, val_main_v2, val_main_v1, val_main_v0, val_main_cst, val_main_v3, val_main_v5,
    val_main_cst_0, val_main_cst_1]
  simp only [hx, eps_word, w1024, ← EReal.coe_mul, sum_coe, zero_add, div_1024, ← EReal.coe_add]; rfl

include hx in
theorem v7 (i : Fin 8192) : val_main_v7 (F := Ideal) x (ix2 i 0) = ((rr (X i) 1024 : ℝ) : EReal) := by
  pointwise [val_main_v7]
  rw [v6 hx, rsqrt_ms _ (by norm_num)]

include hx in
theorem v8 (i : Fin 8192) : val_main_v8 (F := Ideal) x (ix2 i 0) = ((rr (X i) 1024 / ms (X i) 1024 : ℝ) : EReal) := by
  pointwise [val_main_v8]
  rw [v6 hx, v7 hx, div_real (ms_pos _ (by norm_num)).ne']

include ha hw hg in
theorem v25 (i : Fin 8192) (l : Fin 1024) :
    val_main_v25 (F := Ideal) g w a (ix2 i l) = ((dh A W i l * G l : ℝ) : EReal) := by
  pointwise [val_main_v25, val_main_v24, val_main_v13]
  rw [v20 ha hw, hg, ← EReal.coe_mul]

include ha hw hx hg in
/-- The derivative of the mean square: the row's sum, through the reciprocal root. -/
theorem v37 (i : Fin 8192) (l : Fin 1024) : val_main_v37 (F := Ideal) x g w a (ix2 i l)
    = (((∑ k, X i k * (dh A W i k * G k)) * (-1 / 2 * (rr (X i) 1024 / ms (X i) 1024)) / 1024 : ℝ) : EReal) := by
  pointwise [val_main_v37, val_main_v36, val_main_v35, val_main_v34, val_main_v33, val_main_v29, val_main_v28,
    val_main_v27, val_main_v10, val_main_v9, val_main_cst_2, val_main_cst_5, val_main_cst_6, val_main_cst_7]
  simp only [v25 ha hw hg, v8 hx, hx, w1024, wneghalf, ← EReal.coe_mul, sum_coe, zero_add, div_1024, Finset.univ_unique, Fin.default_eq_zero,
    Finset.sum_singleton]

include ha hw hx hg in
theorem v41 (d : FVec Ideal S8192x1024 .f32) (i : Fin 8192) (l : Fin 1024) :
    val_main_v41 (F := Ideal) x g w a d (ix2 i l) = d (ix2 i l) + ((dx A W X G i l : ℝ) : EReal) := by
  pointwise [val_main_v41, val_main_v40, val_main_v39, val_main_v38, val_main_v32, val_main_v31, val_main_v30]
  rw [v37 ha hw hx hg, v25 ha hw hg, v7 hx, hx, dx, rms_grad (X i) (fun k => dh A W i k * G k) (by norm_num)]
  simp only [← EReal.coe_mul, add_assoc, ← EReal.coe_add]

include ha hw hx in
theorem v42 (l : Fin 1024) : val_main_v42 (F := Ideal) x w a (ix2 0 l) = ((dg A W X l : ℝ) : EReal) := by
  pointwise [val_main_v42, val_main_v26, val_main_v23, val_main_v22, val_main_v21, val_main_v12, val_main_v11,
    val_main_cst_3, val_main_cst_4]
  simp only [v20 ha hw, v7 hx, hx, ← EReal.coe_mul, sum_coe, zero_add, Finset.univ_unique, Fin.default_eq_zero, Finset.sum_singleton]
  exact congrArg _ (Finset.sum_congr rfl fun i _ => mul_comm _ _)

end Cert.Ffn1RefIdeal.Grad

end
-- ==== Proof.Ffn1.Pre.lean ====
/- The precondition read back: every argument it names is an array of reals. -/
module

public import proofs.«01_k».proof.Pre_finite_ffn1
public import proofs.«01_k».proof.Proof.Kit.Reals

@[expose] public section

set_option maxRecDepth 16384

noncomputable section

namespace Cert.Pre_finite_ffn1.Read

open Cert.Pre_finite_ffn1 Cert.Reals Idealize.ShloMosaic

variable [Facts]

theorem reals (x : FVec Ideal S8192x1024 .f32) (g : FVec Ideal S1024 .f32) (w : FVec Ideal S1024x4096 .f32)
    (a : FVec Ideal S8192x4096 .bf16) (d : FVec Ideal S8192x1024 .f32)
    (h : fn (F := Ideal) x g w a d = fun _ => 1#1) :
    (∃ X : S8192x1024.Idx → ℝ, x = up X) ∧ (∃ G : S1024.Idx → ℝ, g = up G) ∧ (∃ W : S1024x4096.Idx → ℝ, w = up W)
      ∧ ∃ A : S8192x4096.Idx → ℝ, a = up A := by
  have h := congrFun h (fun k => k.elim0)
  unfold fn fn_part1 at h
  obtain ⟨h, h4⟩ := IntOp.andi_eq_one.1 h
  obtain ⟨h, h3⟩ := IntOp.andi_eq_one.1 h
  obtain ⟨h1, h2⟩ := IntOp.andi_eq_one.1 h
  haveI : Subsingleton S_.Idx := ⟨fun p q => funext fun k => k.elim0⟩
  exact ⟨reals_of_all _ _ (fun _ => rfl) _ _ _ _ h1, reals_of_all _ _ (fun _ => rfl) _ _ _ _ h2, reals_of_all _ _ (fun _ => rfl) _ _ _ _ h3, reals_of_all _ _ (fun _ => rfl) _ _ _ _ h4⟩

end Cert.Pre_finite_ffn1.Read

end
-- ==== Proof.Ffn1.Claim.lean ====
/- The value claim of the first feed-forward norm's gradient. -/
module

public import proofs.«01_k».proof.Defs
public import proofs.«01_k».proof.Proof.Ffn1.Kernel
public import proofs.«01_k».proof.Proof.Ffn1.Ref
public import proofs.«01_k».proof.Proof.Ffn1.Pre
public import Idealize.ShloMosaic.Lib.Claim

@[expose] public section

set_option maxRecDepth 16384

noncomputable section

namespace Cert.Ffn1Claim

open Idealize.ShloMosaic Idealize.ShloMosaic.TcCoe Idealize.SL.Sem

theorem given [Cert.Pre_finite_ffn1.Facts]
    (m : (ℓ : Loc Cert.Ffn1Ideal.nD Cert.Ffn1Ideal.τ Cert.Ffn1Ideal.sig) → Buf (Elt Ideal) ℓ)
    (h : Cert.Pre_Ffn1Ideal_finite_ffn1 m) (c : Dev Cert.Ffn1Ideal.nD) :
    ∃ A W X G, Cert.Ffn1Ideal.Arrays.Given m c A W X G := by
  obtain ⟨⟨X, hX⟩, ⟨G, hG⟩, ⟨W, hW⟩, A, hA⟩ := Cert.Pre_finite_ffn1.Read.reals _ _ _ _ _ (h c)
  exact ⟨fun i k => A (ix2 i k), fun l k => W (ix2 l k), fun i l => X (ix2 i l), fun l => G (ix1 l),
    fun i k => congrFun hA _, fun l k => congrFun hW _, fun i l => congrFun hX _, fun l => congrFun hG _⟩

theorem algebraic [Cert.Pre_finite_ffn1.Facts] :
    Cert.algebraic_Ffn1Ideal_Ffn1RefIdeal_pre_finite_ffn1 (hFfn1Ideal := Cert.Ffn1Ideal.Gen.facts)
      (hFfn1RefIdeal := Cert.Ffn1RefIdeal.Gen.facts) := by
  pair_intro
  · run_from Cert.Ffn1Ideal.Value.run_blocks m g
  · run_from Cert.Ffn1RefIdeal.Value.run m' g'
    · obtain ⟨A, W, X, G, h⟩ := given m hpre c
      obtain ⟨e0, e1, e2, e3, e4⟩ := hagree c
      rw [Cert.Ffn1RefIdeal.Read.val_main_v41_eq, e0, e1, e2, e3, e4, Cert.Ffn1Ideal.Arrays.final5 m c h]
      funext i
      idx_vars i
      exact Cert.Ffn1RefIdeal.Grad.v41 h.ha h.hw h.hx h.hg _ i0 i1
    · obtain ⟨A, W, X, G, h⟩ := given m hpre c
      refine (Cert.Ffn1RefIdeal.Read.val_main_v42_eq _ _ _).trans ?_
      rw [Cert.Ffn1Ideal.Arrays.final6 m c h]
      funext i
      idx_vars i
      obtain rfl := Subsingleton.elim i0 0
      exact Cert.Ffn1RefIdeal.Grad.v42 h.ha h.hw h.hx i1

theorem frame_ref : Cert.quiescent_Ffn1RefIdeal (hFfn1RefIdeal := Cert.Ffn1RefIdeal.Gen.facts) := fun m ρ _ =>
  (θ_run _ _ _).mono (fun r h => ⟨fun c => (h c).2.2, sem_eq_zero_of_no_sems (by decide) r.2⟩)
    (Cert.Ffn1RefIdeal.Value.run m ρ)

theorem frame_ref_pre [Cert.Pre_finite_ffn1.Facts] :
    Cert.quiescent_Ffn1RefIdeal_pre_finite_ffn1 (hFfn1RefIdeal := Cert.Ffn1RefIdeal.Gen.facts) :=
  fun m ρ _ => frame_ref m ρ True.intro

end Cert.Ffn1Claim

end
-- ==== Proof.Kit.Pool.lean ====
/- The trailing windows of the pooling: a column's lane group, the group's window, and the two spellings of a window's
   sum — one add after another, and a difference of two running sums. -/
module

public import proofs.«01_k».proof.Proof.Kit.Reals

@[expose] public section

set_option maxRecDepth 16384

noncomputable section

namespace Cert.Pool

open Idealize.ShloMosaic Cert.Reals

/-! ## Lane groups -/

/-- The group of 64 lanes a column lies in, as the kernel computes it: floor division of the column's number. -/
theorem lane_kernel : ∀ l : Fin 256,
    Scalar.select (IntOp.andi
        (IntOp.cmpi CmpIPredicate.ne
          (IntOp.subi (BitVec.setWidth 32 (IntOp.cmpi CmpIPredicate.sgt (BitVec.ofNat 32 l.val) 0#32))
            (BitVec.setWidth 32 (IntOp.cmpi CmpIPredicate.slt (BitVec.ofNat 32 l.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 l.val) 64#32) 0#32))
      (IntOp.subi (IntOp.divsi ArithUnit.vector (BitVec.ofNat 32 l.val) 64#32) 1#32)
      (IntOp.divsi ArithUnit.vector (BitVec.ofNat 32 l.val) 64#32) = BitVec.ofNat 32 (l.val / 64) := by
  decide +kernel

theorem group_is : ∀ l : Fin 256,
    IntOp.cmpi CmpIPredicate.eq (BitVec.ofNat 32 (l.val / 64)) 0#32 = (if l.val / 64 = 0 then 1#1 else 0#1)
    ∧ IntOp.cmpi CmpIPredicate.eq (BitVec.ofNat 32 (l.val / 64)) 1#32 = (if l.val / 64 = 1 then 1#1 else 0#1)
    ∧ IntOp.cmpi CmpIPredicate.eq (BitVec.ofNat 32 (l.val / 64)) 2#32 = (if l.val / 64 = 2 then 1#1 else 0#1) := by
  decide +kernel

/-- The value of the four that belongs to a group. -/
def pick {α : Type} (g : ℕ) (a b c d : α) : α := if g = 0 then a else if g = 1 then b else if g = 2 then c else d

theorem select_if {α : Type} (p : Prop) [Decidable p] (a b : α) : Scalar.select (if p then 1#1 else 0#1) a b = if p then a else b := by
  split <;> rfl

theorem select_pick {α : Type} (l : Fin 256) (a b c d : α) :
    Scalar.select (IntOp.cmpi CmpIPredicate.eq (BitVec.ofNat 32 (l.val / 64)) 0#32) a
      (Scalar.select (IntOp.cmpi CmpIPredicate.eq (BitVec.ofNat 32 (l.val / 64)) 1#32) b
        (Scalar.select (IntOp.cmpi CmpIPredicate.eq (BitVec.ofNat 32 (l.val / 64)) 2#32) c d)) = pick (l.val / 64) a b c d := by
  rw [(group_is l).1, (group_is l).2.1, (group_is l).2.2]
  simp only [select_if, pick]

/-- The window of a group. -/
def win (g : ℕ) : ℕ := pick g 2 4 8 16

theorem win_words (g : ℕ) : pick g (Ideal.ofBits .f32 0x40000000#32) (Ideal.ofBits .f32 0x40800000#32) (Ideal.ofBits .f32 0x41000000#32)
    (Ideal.ofBits .f32 0x41800000#32) = (((win g : ℕ) : ℝ) : EReal) := by
  unfold win pick
  split_ifs <;> (simp [Ideal.ofBits, Ideal.ieee, -EReal.coe_mul]; norm_num)

theorem win_pos (g : ℕ) : 0 < win g := by unfold win pick; split_ifs <;> norm_num

/-- How many rows the window ending at row `t` holds. -/
def cnt (g t : ℕ) : ℝ := min ((t : ℝ) + 1) (win g)

theorem cnt_pos (g t : ℕ) : 0 < cnt g t := lt_min (by positivity) (by exact_mod_cast win_pos g)

/-- A row's number as the kernel computes it. -/
theorem row_word : ∀ i : Fin 16, ∀ r : Fin 512, (IntOp.addi (Scalar.muli (BitVec.ofNat 32 i.val) 512#32) (BitVec.ofNat 32 r.val)).toInt = (i.val * 512 + r.val : ℕ) := by
  decide +kernel

theorem min_coe (a b : ℝ) : min (a : EReal) (b : EReal) = ((min a b : ℝ) : EReal) := (EReal.coe_strictMono.monotone.map_min).symm

/-! ## Window sums -/

/-- The sum of `n` entries of a sequence from `t` on. -/
def wsum {M : Type} [AddCommMonoid M] (x : ℕ → M) (n t : ℕ) : M := ∑ k ∈ Finset.range n, x (t + k)

theorem wsum_double {M : Type} [AddCommMonoid M] (x : ℕ → M) (n t : ℕ) : wsum x n t + wsum x n (t + n) = wsum x (n + n) t := by
  unfold wsum
  rw [Finset.sum_range_add]
  simp only [add_assoc]

theorem wsum_one {M : Type} [AddCommMonoid M] (x : ℕ → M) (t : ℕ) : wsum x 1 t = x t := by
  simp [wsum]

theorem pick_wsum {M : Type} [AddCommMonoid M] (x : ℕ → M) (g t : ℕ) : pick g (wsum x 2 t) (wsum x 4 t) (wsum x 8 t) (wsum x 16 t) = wsum x (win g) t := by
  unfold win pick; split_ifs <;> rfl

/-- The differences `x s - x (s + w)` over all `s` from `t` on, of a sequence that is zero from `n` on, add up to the window of `w` from `t`. -/
theorem telescope (x : ℕ → ℝ) (n w t : ℕ) (h0 : ∀ s, n ≤ s → x s = 0) :
    ∑ k : Fin n, (if t + k.val < n then x (t + k.val) - x (t + k.val + w) else 0) = wsum x w t := by
  have e : ∀ k : Fin n, (if t + k.val < n then x (t + k.val) - x (t + k.val + w) else 0) = x (t + k.val) - x (t + (w + k.val)) := fun k => by
    rw [show t + (w + k.val) = t + k.val + w by ring]
    split
    · rfl
    · rw [h0 _ (by omega), h0 _ (by omega), sub_zero]
  rw [Finset.sum_congr rfl fun k _ => e k, Fin.sum_univ_eq_sum_range (fun k => x (t + k) - x (t + (w + k))) n, Finset.sum_sub_distrib]
  have h1 := Finset.sum_range_add (fun k => x (t + k)) n w
  have h2 := Finset.sum_range_add (fun k => x (t + k)) w n
  rw [Nat.add_comm w n] at h2
  have h3 : ∑ k ∈ Finset.range w, x (t + (n + k)) = 0 := Finset.sum_eq_zero fun k _ => h0 _ (by omega)
  unfold wsum
  linarith

/-! ## Running sums -/

/-- A running sum over the first axis of a rank-three array, as it prints: a window of the whole height, padded by `lo` on the low side. -/
theorem window_sum {R G K L H : ℕ} (x : (⟨3, ![R, G, K]⟩ : Shape).Idx → EReal) {u : Shape} (init : u.Idx → EReal) (hi : ∀ i, init i = 0)
    (h : (⟨3, ![R, G, K]⟩ : Shape).ReduceWindows (![R, 1, 1] : Fin 3 → ℕ) ![1, 1, 1] ![L, 0, 0] ![H, 0, 0] ⟨3, ![R, G, K]⟩) (hu : 0 < u.numel)
    (t : Fin R) (g : Fin G) (k : Fin K) :
    (Host.reduceWindow (· + ·) (![R, 1, 1] : Fin 3 → ℕ) ![1, 1, 1] ![L, 0, 0] ![H, 0, 0] x init h hu : (⟨3, ![R, G, K]⟩ : Shape).Idx → EReal) (ix3 t g k)
      = ∑ n : Fin R, if q : L ≤ t.val + n.val ∧ t.val + n.val - L < R then x (ix3 ⟨t.val + n.val - L, q.2⟩ g k) else 0 := by
  unfold Host.reduceWindow
  simp only [hi]
  refine Eq.trans ?_ ((sum_idx_eq_foldl (⟨3, ![R, 1, 1]⟩ : Shape) (fun w => if q : L ≤ t.val + (w 0).val ∧ t.val + (w 0).val - L < R then x (ix3 ⟨t.val + (w 0).val - L, q.2⟩ g k) else 0)).symm.trans ?_)
  · refine congrArg (fun f => List.foldl f (0 : EReal) _) ?_
    funext r n
    have w1 : ((⟨3, ![R, 1, 1]⟩ : Shape).rowMajor.symm n 1).val = 0 := Nat.lt_one_iff.mp ((⟨3, ![R, 1, 1]⟩ : Shape).rowMajor.symm n 1).isLt
    have w2 : ((⟨3, ![R, 1, 1]⟩ : Shape).rowMajor.symm n 2).val = 0 := Nat.lt_one_iff.mp ((⟨3, ![R, 1, 1]⟩ : Shape).rowMajor.symm n 2).isLt
    refine congrArg (r + ·) ?_
    by_cases q : L ≤ t.val + ((⟨3, ![R, 1, 1]⟩ : Shape).rowMajor.symm n 0).val ∧ t.val + ((⟨3, ![R, 1, 1]⟩ : Shape).rowMajor.symm n 0).val - L < R
    · rw [dif_pos q, dif_pos ?_]
      · refine congrArg x (funext fun a => Fin.ext ?_)
        fin_cases a
        · show t.val * 1 + ((⟨3, ![R, 1, 1]⟩ : Shape).rowMajor.symm n 0).val - L = t.val + ((⟨3, ![R, 1, 1]⟩ : Shape).rowMajor.symm n 0).val - L
          omega
        · show g.val * 1 + ((⟨3, ![R, 1, 1]⟩ : Shape).rowMajor.symm n 1).val - 0 = g.val
          omega
        · show k.val * 1 + ((⟨3, ![R, 1, 1]⟩ : Shape).rowMajor.symm n 2).val - 0 = k.val
          omega
      · intro a
        fin_cases a
        · show L ≤ t.val * 1 + ((⟨3, ![R, 1, 1]⟩ : Shape).rowMajor.symm n 0).val ∧ t.val * 1 + ((⟨3, ![R, 1, 1]⟩ : Shape).rowMajor.symm n 0).val - L < R
          omega
        · show 0 ≤ g.val * 1 + ((⟨3, ![R, 1, 1]⟩ : Shape).rowMajor.symm n 1).val ∧ g.val * 1 + ((⟨3, ![R, 1, 1]⟩ : Shape).rowMajor.symm n 1).val - 0 < G
          have := g.isLt; omega
        · show 0 ≤ k.val * 1 + ((⟨3, ![R, 1, 1]⟩ : Shape).rowMajor.symm n 2).val ∧ k.val * 1 + ((⟨3, ![R, 1, 1]⟩ : Shape).rowMajor.symm n 2).val - 0 < K
          have := k.isLt; omega
    · rw [dif_neg q, dif_neg ?_]
      intro hh
      have h0 := hh 0
      change L ≤ t.val * 1 + ((⟨3, ![R, 1, 1]⟩ : Shape).rowMajor.symm n 0).val ∧ t.val * 1 + ((⟨3, ![R, 1, 1]⟩ : Shape).rowMajor.symm n 0).val - L < R at h0
      exact q (by omega)
  · rw [sum_idx3]
    simp only [Finset.univ_unique, Finset.sum_singleton]
    rfl

/-- The same for the sum the reference's running sum prints as. -/
theorem window_add {R G K L H : ℕ} (x : FVec Ideal ⟨3, ![R, G, K]⟩ .f32) {u : Shape} (init : FVec Ideal u .f32) (hi : ∀ i, init i = (0 : EReal))
    (h : (⟨3, ![R, G, K]⟩ : Shape).ReduceWindows (![R, 1, 1] : Fin 3 → ℕ) ![1, 1, 1] ![L, 0, 0] ![H, 0, 0] ⟨3, ![R, G, K]⟩) (hu : 0 < u.numel)
    (t : Fin R) (g : Fin G) (k : Fin K) :
    Host.reduceWindowAdd (F := Ideal) (φ := .f32) (![R, 1, 1] : Fin 3 → ℕ) ![1, 1, 1] ![L, 0, 0] ![H, 0, 0] x init h hu (ix3 t g k)
      = (∑ n : Fin R, if q : L ≤ t.val + n.val ∧ t.val + n.val - L < R then x (ix3 ⟨t.val + n.val - L, q.2⟩ g k) else 0 : EReal) :=
  window_sum x init hi h hu t g k

end Cert.Pool

end
-- ==== Proof.Shift.Spec.lean ====
/- The gradients of the short convolution's input and gate and of the pooled columns, as functions of the arguments. -/
module

public import proofs.«01_k».proof.Proof.Kit.Pool

@[expose] public section

set_option maxRecDepth 16384

noncomputable section

namespace Cert.Shift

open Idealize.ShloMosaic Cert.Reals Cert.Pool

/-- A column as a sequence: zero after the last row. -/
def seq {M : Type} [Zero M] (a : Fin 8192 → M) (t : ℕ) : M := if h : t < 8192 then a ⟨t, h⟩ else 0

theorem seq_lt {M : Type} [Zero M] (a : Fin 8192 → M) (t : Fin 8192) : seq a t.val = a t := dif_pos t.isLt

theorem seq_ge {M : Type} [Zero M] (a : Fin 8192 → M) (t : ℕ) (h : 8192 ≤ t) : seq a t = 0 := dif_neg (by omega)

variable (p : (⟨2, ![8192, 6048]⟩ : Shape).Idx → EReal) (cw : (⟨2, ![3, 256]⟩ : Shape).Idx → EReal) (dy : (⟨2, ![8192, 256]⟩ : Shape).Idx → EReal)
  (CT : (⟨2, ![8192, 256]⟩ : Shape).Idx → ℝ)

/-- The gradient of the convolution's gated input: the three taps read forward in time. -/
def dz (i : Fin 8192) (l : Fin 256) : EReal :=
  cw (ix2 2 l) * seq (fun t => dy (ix2 t l)) i.val + cw (ix2 1 l) * seq (fun t => dy (ix2 t l)) (i.val + 1)
    + cw (ix2 0 l) * seq (fun t => dy (ix2 t l)) (i.val + 2)

/-- A pooled column's cotangent, each row's divided by its window's count. -/
def ups (l : Fin 256) : ℕ → ℝ := seq fun t => CT (ix2 t l) / cnt (l.val / 64) t.val

/-- The gradient of a pooled column. -/
def dpool (i : Fin 8192) (l : Fin 256) : ℝ := wsum (ups CT l) (win (l.val / 64)) i.val - CT (ix2 i l)

theorem ups_cnt (i : Fin 8192) (l : Fin 256) : ups CT l i.val * cnt (l.val / 64) i.val = CT (ix2 i l) := by
  rw [ups, seq_lt]
  exact div_mul_cancel₀ _ (cnt_pos _ _).ne'

/-- The call's result. -/
def out (i : Fin 8192) (k : Fin 768) : EReal :=
  if h : k.val < 256 then dz cw dy i ⟨k.val, h⟩ * p (ix2 i ⟨1440 + k.val, by omega⟩)
  else if h' : k.val < 512 then dz cw dy i ⟨k.val - 256, by omega⟩ * p (ix2 i ⟨928 + (k.val - 256), by omega⟩)
  else ((dpool CT i ⟨k.val - 512, by omega⟩ : ℝ) : EReal)

end Cert.Shift

end
-- ==== Proof.Shift.Host.lean ====
/- The operands that the host lines before the region prepare: the padded taps, the scaled pooling cotangent and the
   projection's columns in the packed order. -/
module

public import proofs.«01_k».proof.Proof.Gen.ShiftIdeal.Value
public import proofs.«01_k».proof.Proof.Shift.Spec
public import Idealize.ShloMosaic.Lib.Pipeline.ValueKit
public import Idealize.ShloMosaic.Lib.Claim
public import Idealize.ShloMosaic.Lib.StableHlo.RunRead

@[expose] public section

set_option maxRecDepth 16384

noncomputable section

namespace Cert.ShiftIdeal.Host

open Cert.ShiftIdeal Cert.ShiftIdeal.Gen Cert.Reals Cert.Pool Cert.Shift
open Idealize.ShloMosaic Idealize.ShloMosaic.TcCoe Idealize.SL.Sem
variable (m : (ℓ : Loc nD τ sig) → Buf (Elt Ideal) ℓ) (c : Dev nD)

/-- The buffers as the last stretch of host lines finds them. -/
def W : Valuation τ sig (Elt Ideal) :=
  StableHlo.after ([hostOps0, hostOps0_1, hostOps0_2, hostOps0_3, hostOps0_4, hostOps0_5, hostOps0_6, hostOps0_7, hostOps0_8, hostOps0_9].flatten) (fun b => m (c, b))

theorem V_eq (b : Ref sig .tc) : V m c b = StableHlo.after hostOps0_10 (W m c) b := by
  unfold V W
  rw [← StableHlo.after_append]
  rfl

theorem W_arg0 : W m c (Proc.devRef .tc main_arg0) = m ((c : Thread nD τ).loc main_arg0) := by
  unfold W hostOps0 hostOps0_1 hostOps0_2 hostOps0_3 hostOps0_4 hostOps0_5 hostOps0_6 hostOps0_7 hostOps0_8 hostOps0_9
  simp only [List.flatten_cons, List.flatten_nil, List.cons_append, List.nil_append]
  after_reads_simp
theorem W_arg3 : W m c (Proc.devRef .tc main_arg3) = m ((c : Thread nD τ).loc main_arg3) := by
  unfold W hostOps0 hostOps0_1 hostOps0_2 hostOps0_3 hostOps0_4 hostOps0_5 hostOps0_6 hostOps0_7 hostOps0_8 hostOps0_9
  simp only [List.flatten_cons, List.flatten_nil, List.cons_append, List.nil_append]
  after_reads_simp
def lane (x : IVec S1x256 32) : IVec S1x256 32 :=
  let k := broadcastInDim S1x256 ![] bcast_S_S1x256 (constantI S_ 32 64#32)
  select (andi (cmpi .ne (signi x) (broadcastInDim S1x256 ![] bcast_S_S1x256 (signi (constantI S_ 32 64#32))))
      (cmpi .ne (Host.remsi x k) (broadcastInDim S1x256 ![] bcast_S_S1x256 (constantI S_ 32 0#32))))
    (subi (Host.divsi x k) (broadcastInDim S1x256 ![] bcast_S_S1x256 (constantI S_ 32 1#32))) (Host.divsi x k)

theorem W_v2 : W m c (Proc.devRef .tc main_v2) = lane (iotaInDim S1x256 32 1) := by
  unfold W hostOps0 hostOps0_1 hostOps0_2 hostOps0_3 hostOps0_4 hostOps0_5 hostOps0_6 hostOps0_7 hostOps0_8 hostOps0_9
  simp only [List.flatten_cons, List.flatten_nil, List.cons_append, List.nil_append]
  after_reads_simp
  rfl
abbrev word (w : BitVec 32) : FVec Ideal S1x256 .f32 := broadcastInDim S1x256 ![] bcast_S_S1x256 (constant S_ .f32 w)
abbrev isG (g : BitVec 32) : IVec S1x256 1 := cmpi .eq (lane (iotaInDim S1x256 32 1)) (broadcastInDim S1x256 ![] bcast_S_S1x256 (constantI S_ 32 g))
theorem W_v11 : W m c (Proc.devRef .tc main_v11) =
    select (isG 0#32) (word 0x40000000#32) (select (isG 1#32) (word 0x40800000#32) (select (isG 2#32) (word 0x41000000#32) (word 0x41800000#32))) := by
  unfold W hostOps0 hostOps0_1 hostOps0_2 hostOps0_3 hostOps0_4 hostOps0_5 hostOps0_6 hostOps0_7 hostOps0_8 hostOps0_9
  simp only [List.flatten_cons, List.flatten_nil, List.cons_append, List.nil_append]
  after_reads_simp
  rfl
theorem V_v22 : V m c main_v22 = Host.divf (m ((c : Thread nD τ).loc main_arg3) : FVec Ideal S8192x256 .f32)
   (minimumf (broadcastInDim S8192x256 ![0, 1] bcast_S8192x1_S8192x256_0_1 (addf (sitofp .f32 (addi (broadcastInDim S8192x1 ![] bcast_S_S8192x1 (constantI S_ 32 0#32)) (iotaInDim S8192x1 32 0)))
       (broadcastInDim S8192x1 ![] bcast_S_S8192x1 (constant S_ .f32 0x3F800000#32)))) (broadcastInDim S8192x256 ![0, 1] bcast_S1x256_S8192x256_0_1
    (select (isG 0#32) (word 0x40000000#32) (select (isG 1#32) (word 0x40800000#32) (select (isG 2#32) (word 0x41000000#32) (word 0x41800000#32))))))  := by
  rw [V_eq]
  unfold hostOps0_10
  after_reads_simp
  rw [W_arg3, W_v11]
  rfl
theorem V_v0 (i : Fin 3) (k : Fin 256) : (V m c main_v0 : FVec Ideal S8x256 .f32) (ix2 ⟨i.val, by omega⟩ k) = (m ((c : Thread nD τ).loc main_arg1) : FVec Ideal S3x256 .f32) (ix2 i k)  := by
  have h : V m c main_v0 = pad (s := S3x256) S8x256 ![0, 0] ![5, 0] ![0, 0] (m ((c : Thread nD τ).loc main_arg1) : FVec Ideal S3x256 .f32) (sitofp (F := Ideal) .f32 (constantI S_ 32 0#32))
        pads_S3x256_S8x256_050_000 h_S_ := by
    rw [V_eq]
    unfold hostOps0_10
    after_reads_simp
    unfold W hostOps0 hostOps0_1 hostOps0_2 hostOps0_3 hostOps0_4 hostOps0_5 hostOps0_6 hostOps0_7 hostOps0_8 hostOps0_9
    simp only [List.flatten_cons, List.flatten_nil, List.cons_append, List.nil_append]
    after_reads_simp
    rfl
  rw [h]
  pointwise
theorem lane_host (l : Fin 256) : lane (iotaInDim S1x256 32 1) (ix2 0 l) = BitVec.ofNat 32 (l.val / 64) := by
  pointwise [lane]
  revert l
  decide +kernel

theorem row_host : ∀ i : Fin 8192, (IntOp.addi 0#32 (BitVec.ofNat 32 i.val)).toInt = (i.val : ℤ) := by decide +kernel

theorem V_up (CT : S8192x256.Idx → ℝ) (hct : m ((c : Thread nD τ).loc main_arg3) = fun i => ((CT i : ℝ) : EReal)) (i : Fin 8192) (l : Fin 256) :
    (V m c main_v22 : FVec Ideal S8192x256 .f32) (ix2 i l) = ((ups CT l i.val : ℝ) : EReal) := by
  rw [V_v22, hct]
  pointwise
  have e : (FloatOps.sitofp FTy.f32 (IntOp.addi (0#32) (BitVec.ofNat 32 i.val)) : Ideal .f32) = ((i.val : ℝ) : EReal) := by
    show (((IntOp.addi 0#32 (BitVec.ofNat 32 i.val)).toInt : ℝ) : EReal) = _
    rw [row_host]
    exact congrArg _ (Int.cast_natCast _)
  rw [e, lane_host, select_pick, win_words, ← EReal.coe_one, ← EReal.coe_add, min_coe, ups, seq_lt]
  exact div_real (cnt_pos _ _).ne'

theorem V_x (i : Fin 8192) (k : Fin 256) : (V m c main_v44 : FVec Ideal S8192x6272 .bf16) (ix2 i ⟨4864 + k.val, by omega⟩)
    = (m ((c : Thread nD τ).loc main_arg0) : FVec Ideal S8192x6048 .f32) (ix2 i ⟨928 + k.val, by omega⟩) := by
  rw [V_eq]
  unfold hostOps0_10
  after_reads_simp
  refine (concatenate_apply_piece (α := EReal) (t := S8192x6272) _ _ _ _ 4 (s₁ := S8192x256) (i := ix2 i k) (pre := 4864) ?hk ?x ?hx rfl ?hp ?hi ?ha).trans ?fin
  case hx => rfl
  case hk => exact (by decide : 4 < 11)
  case hp => rfl
  case hi =>
    intro b hb
    fin_cases b
    · rfl
    · exact absurd rfl hb
  case ha => rfl
  case fin =>
  refine (congrFun (g := (extractStridedSlice S8192x256 ![0, 928] (truncf (F := Ideal) (s := S8192x6048) .bf16 (m ((c : Thread nD τ).loc main_arg0)) bitsLt_bf16_f32)
    slices_S8192x6048_S8192x256_0_928 : FVec Ideal S8192x256 .bf16)) ?e (ix2 i k)).trans ?r
  case e =>
    refine (StableHlo.unary_result' ..).trans ?_
    after_reads_simp
    rw [W_arg0]
  pointwise

theorem V_c (i : Fin 8192) (k : Fin 256) : (V m c main_v44 : FVec Ideal S8192x6272 .bf16) (ix2 i ⟨5120 + k.val, by omega⟩)
    = (m ((c : Thread nD τ).loc main_arg0) : FVec Ideal S8192x6048 .f32) (ix2 i ⟨1440 + k.val, by omega⟩) := by
  rw [V_eq]
  unfold hostOps0_10
  after_reads_simp
  refine (concatenate_apply_piece (α := EReal) (t := S8192x6272) _ _ _ _ 5 (s₁ := S8192x256) (i := ix2 i k) (pre := 5120) ?hk ?x ?hx rfl ?hp ?hi ?ha).trans ?fin
  case hx => rfl
  case hk => exact (by decide : 5 < 11)
  case hp => rfl
  case hi =>
    intro b hb
    fin_cases b
    · rfl
    · exact absurd rfl hb
  case ha => rfl
  case fin =>
  refine (congrFun (g := (extractStridedSlice S8192x256 ![0, 1440] (truncf (F := Ideal) (s := S8192x6048) .bf16 (m ((c : Thread nD τ).loc main_arg0)) bitsLt_bf16_f32)
    slices_S8192x6048_S8192x256_0_1440 : FVec Ideal S8192x256 .bf16)) ?e (ix2 i k)).trans ?r
  case e =>
    refine (StableHlo.unary_result' ..).trans ?_
    after_reads_simp
    rw [W_arg0]
  pointwise

end Cert.ShiftIdeal.Host

end
-- ==== Proof.Shift.Pay.lean ====
/- What the body of the shifts' gradient call stores. -/
module

public import proofs.«01_k».proof.Proof.Gen.ShiftIdeal.Skeleton
public import proofs.«01_k».proof.Proof.Kit.Pool

@[expose] public section

set_option maxRecDepth 16384

noncomputable section

namespace Cert.ShiftIdeal.Pay

open Cert.ShiftIdeal Cert.ShiftIdeal.Gen Cert.Reals Cert.Pool
open Idealize.ShloMosaic Idealize.ShloMosaic.TcCoe Idealize.SL.Sem

/-- The factor that is zero at the last point only, where the rows after the block do not exist. -/
def live (i : grid0.Coords) : EReal := (((Scalar.extui (Scalar.cmpi CmpIPredicate.slt (BitVec.ofNat 32 (i 0).val) 15#32) : BitVec 32).toInt : ℝ) : EReal)

variable (i : grid0.Coords) (d : FVec Ideal S512x256 .f32) (n : FVec Ideal S16x256 .f32) (T : ℕ) (l : Fin 256) (x : ℕ → EReal)

/-- The block and the sixteen rows after it, column `l`, are the sequence `x` from `T` on. -/
structure Halo : Prop where
  hd : ∀ r : Fin 512, d (ix2 r l) = x (T + r.val)
  hn : ∀ r : Fin 16, n (ix2 r l) * live i = x (T + 512 + r.val)

variable {i d n T l x} (h : Halo i d n T l x)
include h

theorem at_row (p : ℕ) (hp : p < 528) :
    (if q : p < 512 then d (ix2 ⟨p, q⟩ l) else n (ix2 ⟨p - 512, by omega⟩ l) * live i) = x (T + p) := by
  split
  · exact h.hd ⟨p, _⟩
  · rw [h.hn ⟨p - 512, by omega⟩]
    exact congrArg x (by show T + 512 + (p - 512) = T + p; omega)

theorem pay3 (w2 w1 w0 : FVec Ideal S1x256 .f32) (r : Fin 512) :
    k0_pay3 (F := Ideal) i d n w2 w1 w0 (ix2 r l)
      = w2 (ix2 0 l) * x (T + r.val) + w1 (ix2 0 l) * x (T + r.val + 1) + w0 (ix2 0 l) * x (T + r.val + 2) := by
  have a1 := at_row h ((r.val + 528 - 527) % 528) (by omega)
  have a2 := at_row h ((r.val + 528 - 526) % 528) (by omega)
  rw [show T + (r.val + 528 - 527) % 528 = T + r.val + 1 by omega] at a1
  rw [show T + (r.val + 528 - 526) % 528 = T + r.val + 2 by omega] at a2
  rw [← h.hd r, ← a1, ← a2]
  unfold live
  pointwise [k0_pay3, k0_pay2]

theorem pay5 (p : Fin 528) (hp : p.val + 1 < 528) : k0_pay5 (F := Ideal) i d n (ix2 p l) = wsum x 2 (T + p.val) := by
  have a0 := at_row h p.val p.isLt
  have a1 := at_row h ((p.val + 528 - 527) % 528) (by omega)
  rw [show T + (p.val + 528 - 527) % 528 = T + p.val + 1 by omega] at a1
  rw [← wsum_double x 1, wsum_one, wsum_one, ← a0, ← a1]
  unfold live
  pointwise [k0_pay5, k0_pay4, k0_pay2]

theorem pay6 (p : Fin 528) (hp : p.val + 3 < 528) : k0_pay6 (F := Ideal) i d n (ix2 p l) = wsum x 4 (T + p.val) := by
  have a0 := pay5 h p (by omega)
  have a1 := pay5 h ⟨(p.val + 528 - 526) % 528, by omega⟩ (by show (p.val + 528 - 526) % 528 + 1 < 528; omega)
  rw [show T + (⟨(p.val + 528 - 526) % 528, by omega⟩ : Fin 528).val = T + p.val + 2 by show T + (p.val + 528 - 526) % 528 = _; omega] at a1
  rw [← wsum_double x 2, ← a0, ← a1]
  pointwise [k0_pay6]

theorem pay7 (p : Fin 528) (hp : p.val + 7 < 528) : k0_pay7 (F := Ideal) i d n (ix2 p l) = wsum x 8 (T + p.val) := by
  have a0 := pay6 h p (by omega)
  have a1 := pay6 h ⟨(p.val + 528 - 524) % 528, by omega⟩ (by show (p.val + 528 - 524) % 528 + 3 < 528; omega)
  rw [show T + (⟨(p.val + 528 - 524) % 528, by omega⟩ : Fin 528).val = T + p.val + 4 by show T + (p.val + 528 - 524) % 528 = _; omega] at a1
  rw [← wsum_double x 4, ← a0, ← a1]
  pointwise [k0_pay7]

theorem pay8 (r : Fin 512) : k0_pay8 (F := Ideal) (k0_pay5 i d n) (k0_pay6 i d n) (k0_pay7 i d n) 520#32 (ix2 r l) = wsum x (win (l.val / 64)) (T + r.val) := by
  have a0 := pay5 h ⟨r.val, by omega⟩ (by show r.val + 1 < 528; omega)
  have a1 := pay6 h ⟨r.val, by omega⟩ (by show r.val + 3 < 528; omega)
  have a2 := pay7 h ⟨r.val, by omega⟩ (by show r.val + 7 < 528; omega)
  have a3 := pay7 h ⟨(r.val + 528 - 520) % 528, by omega⟩ (by show (r.val + 528 - 520) % 528 + 7 < 528; omega)
  rw [show T + (⟨(r.val + 528 - 520) % 528, by omega⟩ : Fin 528).val = T + r.val + 8 by show T + (r.val + 528 - 520) % 528 = _; omega] at a3
  rw [← pick_wsum, ← wsum_double x 8, ← a0, ← a1, ← a2, ← a3]
  pointwise [k0_pay8]
  simp only [lane_kernel, select_pick]

omit h in
theorem pay11 (a : FVec Ideal S512x256 .f32) (r : Fin 512) :
     (k0_pay11 (F := Ideal) (BitVec.ofNat 32 (i 0).val) d a (iota .tc S1x256 32 [1] iota_S1x256_d1_w32) 64#32 k0_pay9 k0_pay10) (ix2 r l)
       = a (ix2 r l) - d (ix2 r l) * ((cnt (l.val / 64) ((i 0).val * 512 + r.val) : ℝ) : EReal) := by
  pointwise [k0_pay11, k0_pay9, k0_pay10]
  simp only [lane_kernel, select_pick, win_words]
  have e : (FloatOps.sitofp FTy.f32 (IntOp.addi (Scalar.muli (BitVec.ofNat 32 (i 0).val) 512#32) (BitVec.ofNat 32 r.val)) : Ideal .f32) = ((((i 0).val * 512 + r.val : ℕ) : ℝ) : EReal) := by
    show (((IntOp.addi (Scalar.muli (BitVec.ofNat 32 (i 0).val) 512#32) (BitVec.ofNat 32 r.val)).toInt : ℝ) : EReal) = _
    rw [row_word ⟨(i 0).val, (i 0).isLt⟩ r]
    exact congrArg _ (Int.cast_natCast _)
  rw [e, ← EReal.coe_one, ← EReal.coe_add, min_coe]
  rfl

omit h in
theorem pay4 (a : FVec Ideal S512x256 .f32) (r : Fin 512) : k0_pay4 (F := Ideal) a (ix2 r l) = a (ix2 r l) := by
  pointwise [k0_pay4]

omit h in
theorem pay1 (z g : FVec Ideal S512x256 .f32) (v w : FVec Ideal S512x256 .bf16) (r : Fin 512) (k : Fin 768) :
    k0_pay1 (F := Ideal) z g v w (ix2 r k) = if h : k.val < 256 then z (ix2 r ⟨k.val, h⟩) * v (ix2 r ⟨k.val, h⟩)
      else if h' : k.val < 512 then z (ix2 r ⟨k.val - 256, by omega⟩) * w (ix2 r ⟨k.val - 256, by omega⟩)
      else g (ix2 r ⟨k.val - 512, by omega⟩) := by
  pointwise [k0_pay1]
  by_cases h : k.val < 256
  · rw [dif_pos h, dif_pos h]
  · by_cases h' : k.val < 512
    · rw [dif_neg h, dif_pos (by omega), dif_neg h, dif_pos h']
    · rw [dif_neg h, dif_neg (by omega), dif_neg h, dif_neg h']
      exact congrArg g (congrArg (ix2 r) (Fin.ext (Nat.sub_sub _ _ _)))

end Cert.ShiftIdeal.Pay

end
-- ==== Proof.Shift.Kernel.lean ====
/- The array the shifts' gradient call writes. -/
module

public import proofs.«01_k».proof.Proof.Shift.Host
public import proofs.«01_k».proof.Proof.Shift.Pay

@[expose] public section

set_option maxRecDepth 16384

noncomputable section

namespace Cert.ShiftIdeal.Arrays

open Cert.ShiftIdeal Cert.ShiftIdeal.Gen Cert.ShiftIdeal.Pay Cert.ShiftIdeal.Host Cert.Reals Cert.Pool Cert.Shift
open Idealize.ShloMosaic Idealize.ShloMosaic.TcCoe Idealize.SL.Sem
open Idealize.ShloMosaic.Pipeline (Dat)

variable (m : (ℓ : Loc nD τ sig) → Buf (Elt Ideal) ℓ) (c : Dev nD)

/-- The projection, the taps and the convolution's cotangent. -/
abbrev P : FVec Ideal S8192x6048 .f32 := m ((c : Thread nD τ).loc main_arg0)
abbrev Cw : FVec Ideal S3x256 .f32 := m ((c : Thread nD τ).loc main_arg1)
abbrev Dy : FVec Ideal S8192x256 .f32 := m ((c : Thread nD τ).loc main_arg2)

theorem idx : ∀ t : Fin cfg0.N, win0_0.index t = ![t.val, 0] ∧ win0_1.index t = ![min ((t.val + 1) * 32) 511, 0] ∧ win0_2.index t = ![t.val, 0]
    ∧ win0_3.index t = ![min ((t.val + 1) * 32) 511, 0] ∧ win0_4.index t = ![t.val, 19] ∧ win0_5.index t = ![t.val, 20] ∧ win0_6.index t = ![0, 0] ∧ win0_7.index t = ![t.val, 0] :=
  (by decide +kernel : ∀ t : Fin grid0.N, _)

theorem coord : ∀ t : Fin cfg0.N, (grid0.coords t 0).val = t.val := (by decide +kernel : ∀ t : Fin grid0.N, _)

abbrev row (t : Fin cfg0.N) (r : Fin 512) : Fin 8192 := ⟨t.val * 512 + r.val, by have := lt_of_lt_of_eq t.isLt N_0; omega⟩
abbrev nrow (t : Fin cfg0.N) (r : Fin 16) : Fin 8192 := ⟨min ((t.val + 1) * 32) 511 * 16 + r.val, by omega⟩

theorem blk0 (t : Fin cfg0.N) (r : Fin 512) (k : Fin 256) : (iblk m c 0 t : FVec Ideal S512x256 .f32) (ix2 r k) = Dy m c (ix2 (row t r) k) := by
  blk_point [iblk, V, idx t]

theorem blk1 (t : Fin cfg0.N) (r : Fin 16) (k : Fin 256) : (iblk m c 1 t : FVec Ideal S16x256 .f32) (ix2 r k) = Dy m c (ix2 (nrow t r) k) := by
  blk_point [iblk, V, idx t]

section
variable {CT : S8192x256.Idx → ℝ} (hct : m ((c : Thread nD τ).loc main_arg3) = fun i => ((CT i : ℝ) : EReal))
include hct

theorem blk2 (t : Fin cfg0.N) (r : Fin 512) (k : Fin 256) : (iblk m c 2 t : FVec Ideal S512x256 .f32) (ix2 r k) = ((ups CT k (row t r).val : ℝ) : EReal) := by
  refine Eq.trans ?_ (V_up m c CT hct (row t r) k)
  blk_simp [iblk, idx t]
  refine congrArg (V m c main_v22) ?_
  blk_ext [idx t]

theorem blk3 (t : Fin cfg0.N) (r : Fin 16) (k : Fin 256) : (iblk m c 3 t : FVec Ideal S16x256 .f32) (ix2 r k) = ((ups CT k (nrow t r).val : ℝ) : EReal) := by
  refine Eq.trans ?_ (V_up m c CT hct (nrow t r) k)
  blk_simp [iblk, idx t]
  refine congrArg (V m c main_v22) ?_
  blk_ext [idx t]

end

theorem blk4 (t : Fin cfg0.N) (r : Fin 512) (k : Fin 256) : (X0_4 m c t : FVec Ideal S512x256 .bf16) (ix2 r k) = P m c (ix2 (row t r) ⟨928 + k.val, by omega⟩) := by
  refine Eq.trans ?_ (V_x m c (row t r) k)
  unfold X0_4 Pipeline.Window.fill
  rw [dif_pos (moved0_4 t _)]
  blk_simp [iblk, idx t]
  refine congrArg (V m c main_v44) ?_
  blk_ext [idx t]

theorem blk5 (t : Fin cfg0.N) (r : Fin 512) (k : Fin 256) : (X0_5 m c t : FVec Ideal S512x256 .bf16) (ix2 r k) = P m c (ix2 (row t r) ⟨1440 + k.val, by omega⟩) := by
  refine Eq.trans ?_ (V_c m c (row t r) k)
  unfold X0_5 Pipeline.Window.fill
  rw [dif_pos (moved0_5 t _)]
  blk_simp [iblk, idx t]
  refine congrArg (V m c main_v44) ?_
  blk_ext [idx t]

theorem blk6 (t : Fin cfg0.N) (j : Fin 3) (k : Fin 256) : (iblk m c 6 t : FVec Ideal S8x256 .f32) (ix2 ⟨j.val, by omega⟩ k) = Cw m c (ix2 j k) := by
  refine Eq.trans ?_ (V_v0 m c j k)
  blk_simp [iblk, idx t]
  refine congrArg (V m c main_v0) ?_
  blk_ext [idx t]

theorem live_of (t : Fin cfg0.N) : live (grid0.coords t) = if t.val < 15 then 1 else 0 := by
  have h : ∀ k : Fin 16, (Scalar.extui (Scalar.cmpi CmpIPredicate.slt (BitVec.ofNat 32 k.val) 15#32) : BitVec 32).toInt = if k.val < 15 then 1 else 0 := by decide +kernel
  unfold live
  have := lt_of_lt_of_eq t.isLt N_0
  rw [coord, h ⟨t.val, this⟩]
  show ((((if t.val < 15 then 1 else 0 : ℤ)) : ℝ) : EReal) = _
  split <;> simp

theorem halo (t : Fin cfg0.N) (l : Fin 256) (d : FVec Ideal S512x256 .f32) (n : FVec Ideal S16x256 .f32) (a : Fin 8192 → EReal)
    (hd : ∀ r, d (ix2 r l) = a (row t r)) (hn : ∀ r, n (ix2 r l) = a (nrow t r)) : Halo (grid0.coords t) d n (t.val * 512) l (seq a) where
  hd r := (hd r).trans (seq_lt a _).symm
  hn r := by
    have := lt_of_lt_of_eq t.isLt N_0
    rw [hn, live_of]
    by_cases q : t.val < 15
    · rw [if_pos q, mul_one]
      exact (seq_lt a _).symm.trans <| congrArg (seq a) (by show min ((t.val + 1) * 32) 511 * 16 + r.val = _; omega)
    · rw [if_neg q, mul_zero, seq_ge _ _ (by omega)]

theorem seq_coe (a : Fin 8192 → ℝ) (t : ℕ) : seq (fun i => ((a i : ℝ) : EReal)) t = ((seq a t : ℝ) : EReal) := by
  unfold seq; split <;> simp

theorem wsum_coe (x : ℕ → ℝ) (n t : ℕ) : wsum (fun t => ((x t : ℝ) : EReal)) n t = ((wsum x n t : ℝ) : EReal) := sum_coe _ _

theorem tap (t : Fin cfg0.N) (l : Fin 256) : View.ld (iblk m c 6 t) (Rect.unit ![2, 0] ![1, 256] inb_S8x256_S1x256_2_0) (ix2 0 l) = Cw m c (ix2 2 l)
    ∧ View.ld (iblk m c 6 t) (Rect.unit ![1, 0] ![1, 256] inb_S8x256_S1x256_1_0) (ix2 0 l) = Cw m c (ix2 1 l)
    ∧ View.ld (iblk m c 6 t) (Rect.unit ![0, 0] ![1, 256] inb_S8x256_S1x256_0_0) (ix2 0 l) = Cw m c (ix2 0 l) := by
  have h2 := blk6 m c t 2 l
  have h1 := blk6 m c t 1 l
  have h0 := blk6 m c t 0 l
  revert h2 h1 h0
  generalize iblk m c 6 t = b
  intro h2 h1 h0
  exact ⟨(congrArg b (by funext a; fin_cases a <;> exact Fin.ext ((Rect.idx_unit_val _ _ _ _ _).trans (by simp)))).trans h2, (congrArg b (by funext a; fin_cases a <;> exact Fin.ext ((Rect.idx_unit_val _ _ _ _ _).trans (by simp)))).trans h1, (congrArg b (by funext a; fin_cases a <;> exact Fin.ext ((Rect.idx_unit_val _ _ _ _ _).trans (by simp)))).trans h0⟩

theorem final {CT : S8192x256.Idx → ℝ} (hct : m ((c : Thread nD τ).loc main_arg3) = fun i => ((CT i : ℝ) : EReal)) :
    ((dats m 0 c).arrAt 7 cfg0.N : FVec Ideal S8192x768 .bf16) = fun j => out (P m c) (Cw m c) (Dy m c) CT (j 0) (j 1) := by
  refine (dats m 0 c).arrAt_eq_of_covers 7 _ (by decide +kernel) fun t hf y => ?_
  blk_simp
  rw [after0_7]
  unfold outsAt0
  frame_out
  obtain ⟨r, k, rfl⟩ : ∃ (r : Fin 512) (k : Fin 768), y = ix2 r k := ⟨y 0, y 1, by idx_vars y⟩
  have e : (win0_7.blk t).view.emb (ix2 r k) = ix2 (row t r) k := by blk_ext [idx t]
  rw [e]
  have hdz : ∀ l : Fin 256, k0_pay3 (grid0.coords t) (iblk m c 0 t) (iblk m c 1 t)
        (View.ld (iblk m c 6 t) (Rect.unit ![2, 0] ![1, 256] inb_S8x256_S1x256_2_0))
        (View.ld (iblk m c 6 t) (Rect.unit ![1, 0] ![1, 256] inb_S8x256_S1x256_1_0))
        (View.ld (iblk m c 6 t) (Rect.unit ![0, 0] ![1, 256] inb_S8x256_S1x256_0_0)) (ix2 r l) = dz (Cw m c) (Dy m c) (row t r) l := fun l => by
    rw [Pay.pay3 (halo t l _ _ (fun s => Dy m c (ix2 s l)) (fun r => blk0 m c t r l) (fun r => blk1 m c t r l)), (tap m c t l).1, (tap m c t l).2.1, (tap m c t l).2.2]
    rfl
  have hpl : ∀ l : Fin 256, (k0_pay11 (BitVec.ofNat 32 (grid0.coords t 0).val) (k0_pay4 (iblk m c 2 t))
        (k0_pay8 (k0_pay5 (grid0.coords t) (iblk m c 2 t) (iblk m c 3 t)) (k0_pay6 (grid0.coords t) (iblk m c 2 t) (iblk m c 3 t))
          (k0_pay7 (grid0.coords t) (iblk m c 2 t) (iblk m c 3 t)) 520#32)
        (iota Kind.tc S1x256 32 [1] iota_S1x256_d1_w32) (64#32) k0_pay9 k0_pay10 : FVec Ideal S512x256 .f32) (ix2 r l) = ((dpool CT (row t r) l : ℝ) : EReal) := fun l => by
    have hu : Halo (grid0.coords t) (iblk m c 2 t) (iblk m c 3 t) (t.val * 512) l (fun s => ((ups CT l s : ℝ) : EReal)) := by
      have := halo t l (iblk m c 2 t) (iblk m c 3 t) (fun i => ((CT (ix2 i l) / cnt (l.val / 64) i.val : ℝ) : EReal))
        (fun r => (blk2 m c hct t r l).trans (congrArg _ (seq_lt _ _))) (fun r => (blk3 m c hct t r l).trans (congrArg _ (seq_lt _ _)))
      rwa [show seq _ = _ from funext (seq_coe _)] at this
    rw [Pay.pay11, Pay.pay8 hu, Pay.pay4, blk2 m c hct, coord, wsum_coe, ← EReal.coe_mul, ← EReal.coe_sub, ups_cnt]
    rfl
  refine (Pay.pay1 _ _ _ _ r k).trans ?_
  show _ = out (P m c) (Cw m c) (Dy m c) CT (row t r) k
  unfold out
  split
  · exact congrArg₂ (· * ·) (hdz _) (blk5 m c t r _)
  · split
    · exact congrArg₂ (· * ·) (hdz _) (blk4 m c t r _)
    · exact hpl _

end Cert.ShiftIdeal.Arrays

end
-- ==== Proof.Shift.Ref.lean ====
/- The reference's result: the derivative's terms, by the chain rule, are the gradients. -/
module

public import proofs.«01_k».proof.Proof.Gen.ShiftRefIdeal.Read
public import proofs.«01_k».proof.Proof.Shift.Spec

@[expose] public section

set_option maxRecDepth 16384

noncomputable section

namespace Cert.ShiftRefIdeal.Grad

open Cert.ShiftRefIdeal Cert.ShiftRefIdeal.Gen Cert.ShiftRefIdeal.Read Cert.Reals Cert.Pool Cert.Shift
open Idealize.ShloMosaic Idealize.ShloMosaic.TcCoe Idealize.SL.Sem

variable (p : FVec Ideal S8192x6048 .f32) (cw : FVec Ideal S3x256 .f32) (dy : FVec Ideal S8192x256 .f32) {ct : FVec Ideal S8192x256 .f32} {CT : S8192x256.Idx → ℝ}
  (hct : ct = fun i => ((CT i : ℝ) : EReal))

theorem v50 (i : Fin 8192) (l : Fin 256) : val_main_v50 (F := Ideal) cw dy (ix2 i l) = dz cw dy i l := by
  pointwise [val_main_v50, val_main_v48, val_main_v47, val_main_v46, val_main_v45, val_main_v44, val_main_v43, val_main_v42, val_main_v41, val_main_v40, val_main_v39, val_main_v38, val_main_v37, val_main_v36, val_main_v32, val_main_v30, val_main_v29, val_main_v25, val_main_v23, val_main_v22, val_main_v17, val_main_v15, val_main_v14, val_main_cst_2, val_main_cst_3, val_main_cst_4]
  unfold dz
  rw [seq_lt]
  refine congrArg₂ (· + ·) (congrArg (cw (ix2 2 l) * dy (ix2 i l) + ·) ?_) ?_
  · by_cases h : i.val + 1 < 8192
    · rw [dif_pos (by omega), ← seq_lt (fun t => dy (ix2 t l)) ⟨_, _⟩]
      exact congrArg (fun n => cw (ix2 1 l) * seq (fun t => dy (ix2 t l)) n) (by show 2 + i.val - 1 = _; omega)
    · rw [dif_neg (by omega), seq_ge _ _ (by omega), mul_zero]
  · by_cases h : i.val + 2 < 8192
    · rw [dif_pos (by omega), ← seq_lt (fun t => dy (ix2 t l)) ⟨_, _⟩]
      exact congrArg (fun n => cw (ix2 0 l) * seq (fun t => dy (ix2 t l)) n) (Nat.add_comm _ _)
    · rw [dif_neg (by omega), seq_ge _ _ (by omega), mul_zero]

/-- The count of a window, from the row's number in words. -/
theorem count (t : Fin 8192) (g : ℕ) {w : BitVec 32} (hw : ∀ t : Fin 8192, (IntOp.minsi (IntOp.addi (BitVec.ofNat 32 t.val) 1#32) w).toInt = (min (t.val + 1) (win g) : ℕ)) :
    (FloatOps.sitofp FTy.f32 (IntOp.minsi (IntOp.addi (BitVec.ofNat 32 t.val) 1#32) w) : Ideal .f32) = ((cnt g t.val : ℝ) : EReal) := by
  show (((IntOp.minsi (IntOp.addi (BitVec.ofNat 32 t.val) 1#32) w).toInt : ℝ) : EReal) = _
  rw [hw]
  refine congrArg _ ?_
  push_cast
  rfl

/-- A sequence less itself shifted, where the shifted one is padded by zeros. -/
theorem step {f : S8192x64.Idx → EReal} {CT : S8192x256.Idx → ℝ} {col : Fin 64 → Fin 256} (hf : ∀ i l, f (ix2 i l) = ((ups CT (col l) i.val : ℝ) : EReal)) (w : ℕ)
    (i : Fin 8192) (l : Fin 64) : (f (ix2 i l) + if h : w + i.val < 8192 then -f (ix2 ⟨w + i.val, h⟩ l) else 0) = ((ups CT (col l) i.val - ups CT (col l) (i.val + w) : ℝ) : EReal) := by
  rw [hf, EReal.coe_sub, sub_eq_add_neg]
  refine congrArg (((ups CT (col l) i.val : ℝ) : EReal) + ·) ?_
  by_cases h : w + i.val < 8192
  · rw [dif_pos h, hf]
    exact congrArg (fun n => -((ups CT (col l) n : ℝ) : EReal)) (Nat.add_comm _ _)
  · rw [dif_neg h, ups, seq_ge _ _ (by omega), EReal.coe_zero, neg_zero]

include hct

theorem v188 (i : Fin 8192) (l : Fin 64) : val_main_v188 (F := Ideal) ct (ix2 i l) = ((ups CT ⟨l.val, by omega⟩ i.val : ℝ) : EReal) := by
  pointwise [val_main_v188, val_main_v187, val_main_v67, val_main_v66, val_main_v65, val_main_v64, val_main_v63, val_main_v62, val_main_v55, val_main_c_7, val_main_c, val_main_v136, val_main_v135, val_main_v134]
  rw [count i 0 (by decide +kernel), congrFun hct, div_real (cnt_pos _ _).ne', ups, seq_lt]
  exact congrArg (fun n => ((CT (ix2 i ⟨l.val, by omega⟩) / cnt n i.val : ℝ) : EReal)) (show 0 = l.val / 64 by omega)

theorem v193 (i : Fin 8192) (l : Fin 64) : val_main_v193 (F := Ideal) ct (ix2 i l) = ((ups CT ⟨l.val, by omega⟩ i.val - ups CT ⟨l.val, by omega⟩ (i.val + 2) : ℝ) : EReal) := by
  pointwise [val_main_v193, val_main_v192, val_main_v190, val_main_v189, val_main_cst_30]
  exact step (v188 hct) 2 i l

theorem v174 (i : Fin 8192) (l : Fin 64) : val_main_v174 (F := Ideal) ct (ix2 i l) = ((ups CT ⟨64 + l.val, by omega⟩ i.val : ℝ) : EReal) := by
  pointwise [val_main_v174, val_main_v173, val_main_v85, val_main_v84, val_main_v83, val_main_v82, val_main_v81, val_main_v80, val_main_v55, val_main_c_11, val_main_c_10, val_main_v138, val_main_v137, val_main_v134]
  rw [count i 1 (by decide +kernel), congrFun hct, div_real (cnt_pos _ _).ne', ups, seq_lt]
  exact congrArg (fun n => ((CT (ix2 i ⟨64 + l.val, by omega⟩) / cnt n i.val : ℝ) : EReal)) (show 1 = (64 + l.val) / 64 by omega)

theorem v179 (i : Fin 8192) (l : Fin 64) : val_main_v179 (F := Ideal) ct (ix2 i l) = ((ups CT ⟨64 + l.val, by omega⟩ i.val - ups CT ⟨64 + l.val, by omega⟩ (i.val + 4) : ℝ) : EReal) := by
  pointwise [val_main_v179, val_main_v178, val_main_v176, val_main_v175, val_main_cst_27]
  exact step (v174 hct) 4 i l

theorem v160 (i : Fin 8192) (l : Fin 64) : val_main_v160 (F := Ideal) ct (ix2 i l) = ((ups CT ⟨128 + l.val, by omega⟩ i.val : ℝ) : EReal) := by
  pointwise [val_main_v160, val_main_v159, val_main_v103, val_main_v102, val_main_v101, val_main_v100, val_main_v99, val_main_v98, val_main_v55, val_main_c_15, val_main_c_14, val_main_v140, val_main_v139, val_main_v134]
  rw [count i 2 (by decide +kernel), congrFun hct, div_real (cnt_pos _ _).ne', ups, seq_lt]
  exact congrArg (fun n => ((CT (ix2 i ⟨128 + l.val, by omega⟩) / cnt n i.val : ℝ) : EReal)) (show 2 = (128 + l.val) / 64 by omega)

theorem v165 (i : Fin 8192) (l : Fin 64) : val_main_v165 (F := Ideal) ct (ix2 i l) = ((ups CT ⟨128 + l.val, by omega⟩ i.val - ups CT ⟨128 + l.val, by omega⟩ (i.val + 8) : ℝ) : EReal) := by
  pointwise [val_main_v165, val_main_v164, val_main_v162, val_main_v161, val_main_cst_24]
  exact step (v160 hct) 8 i l

theorem v147 (i : Fin 8192) (l : Fin 64) : val_main_v147 (F := Ideal) ct (ix2 i l) = ((ups CT ⟨192 + l.val, by omega⟩ i.val : ℝ) : EReal) := by
  pointwise [val_main_v147, val_main_v146, val_main_v121, val_main_v120, val_main_v119, val_main_v118, val_main_v117, val_main_v116, val_main_v55, val_main_c_19, val_main_c_18, val_main_v142, val_main_v141, val_main_v134]
  rw [count i 3 (by decide +kernel), congrFun hct, div_real (cnt_pos _ _).ne', ups, seq_lt]
  exact congrArg (fun n => ((CT (ix2 i ⟨192 + l.val, by omega⟩) / cnt n i.val : ℝ) : EReal)) (show 3 = (192 + l.val) / 64 by omega)

theorem v152 (i : Fin 8192) (l : Fin 64) : val_main_v152 (F := Ideal) ct (ix2 i l) = ((ups CT ⟨192 + l.val, by omega⟩ i.val - ups CT ⟨192 + l.val, by omega⟩ (i.val + 16) : ℝ) : EReal) := by
  pointwise [val_main_v152, val_main_v151, val_main_v149, val_main_v148, val_main_cst_21]
  exact step (v147 hct) 16 i l

theorem v196 (i : Fin 8192) (g : Fin 4) (l : Fin 64) : val_main_v196 (F := Ideal) ct (ix3 i g l)
    = ((ups CT ⟨64 * g.val + l.val, by omega⟩ i.val - ups CT ⟨64 * g.val + l.val, by omega⟩ (i.val + win g.val) : ℝ) : EReal) := by
  pointwise [val_main_v196, val_main_v195, val_main_v194, val_main_v182, val_main_v181, val_main_v180, val_main_v168, val_main_v167, val_main_v166, val_main_v154, val_main_v153, val_main_cst_22, val_main_cst_25, val_main_cst_28, val_main_cst_31]
  fin_cases g
  all_goals simp [v193 hct, v179 hct, v165 hct, v152 hct, win, pick]

theorem v186 (i : Fin 8192) (g : Fin 4) (l : Fin 64) : val_main_v186 (F := Ideal) ct (ix3 i g l) = ((-CT (ix2 i ⟨64 * g.val + l.val, by omega⟩) : ℝ) : EReal) := by
  pointwise [val_main_v186, val_main_v185, val_main_v184, val_main_v183, val_main_v172, val_main_v171, val_main_v170, val_main_v169, val_main_v158, val_main_v157, val_main_v156, val_main_v155, val_main_v145, val_main_v144, val_main_v143,
    val_main_v136, val_main_v135, val_main_v134, val_main_v138, val_main_v137, val_main_v140, val_main_v139, val_main_v142, val_main_v141, val_main_cst_20, val_main_cst_23, val_main_cst_26, val_main_cst_29]
  fin_cases g
  all_goals simp [hct]

theorem v197 (i : Fin 8192) (g : Fin 4) (l : Fin 64) : val_main_v197 (F := Ideal) ct (ix3 i g l)
    = ((wsum (ups CT ⟨64 * g.val + l.val, by omega⟩) (win g.val) i.val : ℝ) : EReal) := by
  have hz : ∀ s, 8192 ≤ s → ups CT ⟨64 * g.val + l.val, by omega⟩ s = 0 := fun s h => by unfold ups; exact seq_ge _ s h
  have key := telescope _ 8192 (win g.val) i.val hz
  rw [← key, ← sum_coe]
  have h0 : ∀ i : S_.Idx, (val_main_call1_call0_v0 (F := Ideal) : S_.Idx → EReal) i = 0 := fun i => by pointwise [val_main_call1_call0_v0, val_main_call1_call0_cst]
  unfold val_main_v197
  refine (window_add _ _ h0 _ _ i g l).trans (Finset.sum_congr rfl fun n _ => ?_)
  · by_cases q : i.val + n.val < 8192
    · rw [dif_pos ⟨Nat.zero_le _, q⟩, if_pos q]
      exact v196 hct ⟨i.val + n.val, q⟩ g l
    · rw [dif_neg (fun h => q h.2), if_neg q, EReal.coe_zero]

theorem v199 (i : Fin 8192) (l : Fin 256) : val_main_v199 (F := Ideal) ct (ix2 i l) = ((dpool CT i l : ℝ) : EReal) := by
  pointwise [val_main_v199, val_main_v198]
  rw [v186 hct, v197 hct, ← EReal.coe_add]
  refine Eq.trans ?_ (congrArg (fun k => ((-CT (ix2 i k) + wsum (ups CT k) (win (l.val / 64)) i.val : ℝ) : EReal)) (Fin.ext (Nat.div_add_mod l.val 64) : (⟨64 * (l.val / 64) + l.val % 64, by omega⟩ : Fin 256) = l) |>.trans ?_)
  · rfl
  · exact congrArg _ (neg_add_eq_sub _ _)

theorem v201 (i : Fin 8192) (k : Fin 768) : val_main_v201 (F := Ideal) p cw dy ct (ix2 i k) = out p cw dy CT i k := by
  pointwise [val_main_v201, val_main_v200]
  unfold out
  by_cases h : k.val < 256
  · rw [dif_pos h, dif_pos h]
    pointwise [val_main_v51, val_main_v7]
    rw [v50, mul_comm]
  · by_cases h' : k.val < 512
    · rw [dif_neg h, dif_pos (by omega), dif_neg h, dif_pos h']
      pointwise [val_main_v52, val_main_v5]
      rw [v50]
    · rw [dif_neg h, dif_neg (by omega), dif_neg h, dif_neg h', v199 hct]
      exact congrArg (fun k => ((dpool CT i k : ℝ) : EReal)) (Fin.ext (Nat.sub_sub _ _ _))

end Cert.ShiftRefIdeal.Grad

end
-- ==== Proof.Shift.Pre.lean ====
/- The precondition read back: the pooled columns' cotangent is an array of reals. -/
module

public import proofs.«01_k».proof.Pre_finite_shift
public import proofs.«01_k».proof.Proof.Kit.Reals

@[expose] public section

set_option maxRecDepth 16384

noncomputable section

namespace Cert.Pre_finite_shift.Read

open Cert.Pre_finite_shift Cert.Reals Idealize.ShloMosaic

variable [Facts]

theorem reals (p : FVec Ideal S8192x6048 .f32) (w : FVec Ideal S3x256 .f32) (d t : FVec Ideal S8192x256 .f32)
    (h : fn (F := Ideal) p w d t = fun _ => 1#1) : ∃ T : S8192x256.Idx → ℝ, t = up T := by
  have h := congrFun h (fun k => k.elim0)
  unfold fn at h
  haveI : Subsingleton S_.Idx := ⟨fun p q => funext fun k => k.elim0⟩
  exact reals_of_all _ _ (fun _ => rfl) _ _ _ _ h

end Cert.Pre_finite_shift.Read

end
-- ==== Proof.Shift.Claim.lean ====
/- The value claim of the shifts' gradient. -/
module

public import proofs.«01_k».proof.Defs
public import proofs.«01_k».proof.Proof.Shift.Kernel
public import proofs.«01_k».proof.Proof.Shift.Ref
public import proofs.«01_k».proof.Proof.Shift.Pre
public import Idealize.ShloMosaic.Lib.Claim

@[expose] public section

set_option maxRecDepth 16384

noncomputable section

namespace Cert.ShiftClaim

open Idealize.ShloMosaic Idealize.ShloMosaic.TcCoe Idealize.SL.Sem

theorem algebraic [Cert.Pre_finite_shift.Facts] :
    Cert.algebraic_ShiftIdeal_ShiftRefIdeal_pre_finite_shift (hShiftIdeal := Cert.ShiftIdeal.Gen.facts)
      (hShiftRefIdeal := Cert.ShiftRefIdeal.Gen.facts) := by
  pair_intro
  · run_from Cert.ShiftIdeal.Value.run_blocks m g
  · run_from Cert.ShiftRefIdeal.Value.run m' g'
    · obtain ⟨CT, hct⟩ := Cert.Pre_finite_shift.Read.reals _ _ _ _ (hpre c)
      obtain ⟨e0, e1, e2, e3⟩ := hagree c
      rw [Cert.ShiftRefIdeal.Read.val_main_v201_eq]
      refine (congr (congr (congr (congrArg (Cert.ShiftRefIdeal.Read.val_main_v201 (F := Ideal)) e0) e1) e2) e3).trans ?_
      rw [Cert.ShiftIdeal.Arrays.final m c hct]
      funext i
      idx_vars i
      exact Cert.ShiftRefIdeal.Grad.v201 _ _ _ hct i0 i1

theorem frame_ref : Cert.quiescent_ShiftRefIdeal (hShiftRefIdeal := Cert.ShiftRefIdeal.Gen.facts) := fun m ρ _ =>
  (θ_run _ _ _).mono (fun r h => ⟨fun c => (h c).2, sem_eq_zero_of_no_sems (by decide) r.2⟩)
    (Cert.ShiftRefIdeal.Value.run m ρ)

theorem frame_ref_pre [Cert.Pre_finite_shift.Facts] :
    Cert.quiescent_ShiftRefIdeal_pre_finite_shift (hShiftRefIdeal := Cert.ShiftRefIdeal.Gen.facts) :=
  fun m ρ _ => frame_ref m ρ True.intro

end Cert.ShiftClaim

end
-- ==== Proof.Attn.Offs.lean ====
/- Where attention's gradient reads and writes: the tiles of queries a grid point's loop meets are those after the
   point's tile of keys. -/
module

public import proofs.«01_k».proof.Proof.Gen.AttnIdeal.Value
public import Idealize.ShloMosaic.Lib.Pipeline.ValueKit

@[expose] public section

set_option maxRecDepth 16384

noncomputable section

namespace Cert.AttnIdeal.Offs

open Cert.AttnIdeal Cert.AttnIdeal.Gen
open Idealize.ShloMosaic Idealize.ShloMosaic.TcCoe Idealize.SL.Sem

theorem trips : ∀ i : grid0.Coords, (k0_t1_loop i).trips = 7 - (i 1).val := by decide +kernel

/-- The tile of queries of a trip. -/
def later (i : grid0.Coords) (k : Fin (k0_t1_loop i).trips) : Fin 8 :=
  ⟨(i 1).val + 1 + k.val, by have := trips i; have := k.isLt; have := (i 1).isLt; omega⟩

/-- The tile of keys of a point. -/
def here (i : grid0.Coords) : Fin 8 := ⟨(i 1).val, (i 1).isLt⟩

theorem off7 : ∀ (i : grid0.Coords) (k : Fin (k0_t1_loop i).trips), k0_off7 i k = ![0, 1024 * (later i k).val, 0] := by decide +kernel
theorem off8 : ∀ (i : grid0.Coords) (k : Fin (k0_t1_loop i).trips), k0_off8 i k = ![1024 * (later i k).val, 0] := by decide +kernel
theorem off9 : ∀ (i : grid0.Coords) (k : Fin (k0_t1_loop i).trips), k0_off9 i k = ![0, (later i k).val, 0, 0] := by decide +kernel
theorem off10 : ∀ (i : grid0.Coords) (k : Fin (k0_t1_loop i).trips), k0_off10 i k = ![1, 1024 * (later i k).val, 0] := by decide +kernel
theorem off11 : ∀ (i : grid0.Coords) (k : Fin (k0_t1_loop i).trips), k0_off11 i k = ![1024 * (later i k).val, 128] := by decide +kernel
theorem off12 : ∀ (i : grid0.Coords) (k : Fin (k0_t1_loop i).trips), k0_off12 i k = ![1, (later i k).val, 0, 0] := by decide +kernel
theorem off1 : ∀ i : grid0.Coords, k0_off1 i = ![0, 1024 * (here i).val, 0] := by decide +kernel
theorem off2 : ∀ i : grid0.Coords, k0_off2 i = ![1024 * (here i).val, 0] := by decide +kernel
theorem off3 : ∀ i : grid0.Coords, k0_off3 i = ![0, (here i).val, 0, 0] := by decide +kernel
theorem off4 : ∀ i : grid0.Coords, k0_off4 i = ![1, 1024 * (here i).val, 0] := by decide +kernel
theorem off5 : ∀ i : grid0.Coords, k0_off5 i = ![1024 * (here i).val, 128] := by decide +kernel
theorem off6 : ∀ i : grid0.Coords, k0_off6 i = ![1, (here i).val, 0, 0] := by decide +kernel

/-- A row of a tile. -/
def tile (i : Fin 8) (r : Fin 1024) : Fin 8192 := ⟨1024 * i.val + r.val, by have := i.isLt; have := r.isLt; omega⟩

theorem tile_surj (a : Fin 8192) : ∃ i r, a = tile i r :=
  ⟨⟨a.val / 1024, by have := a.isLt; omega⟩, ⟨a.val % 1024, Nat.mod_lt _ (by norm_num)⟩, Fin.ext (by simp only [tile]; omega)⟩

/-- A head's lanes among those of the pair's. -/
def pair (h : Fin 2) (l : Fin 128) : Fin 256 := ⟨128 * h.val + l.val, by have := h.isLt; have := l.isLt; omega⟩

section loads
variable {e : EltTy} {Val : EltTy → Type}

theorem ld3 (X : S2x8192x128.Idx → Val e) (off : Fin 3 → ℕ) (inb) (h : Fin 2) (i : Fin 8) (ho : off = ![h.val, 1024 * i.val, 0])
    (r : Fin 1024) (l : Fin 128) : View.ld X (Rect.unit (s := S2x8192x128) off ![1, 1024, 128] inb) (ix3 0 r l) = X (ix3 h (tile i r) l) := by
  subst ho
  exact congrArg X (by funext a; fin_cases a <;> exact Fin.ext ((Rect.idx_unit_val _ _ _ _ _).trans (by simp [tile])))

theorem ld2 (X : S8192x256.Idx → Val e) (off : Fin 2 → ℕ) (inb) (h : Fin 2) (i : Fin 8) (ho : off = ![1024 * i.val, 128 * h.val])
    (r : Fin 1024) (l : Fin 128) : View.ld X (Rect.unit (s := S8192x256) off ![1024, 128] inb) (ix2 r l) = X (ix2 (tile i r) (pair h l)) := by
  subst ho
  exact congrArg X (by funext a; fin_cases a <;> exact Fin.ext ((Rect.idx_unit_val _ _ _ _ _).trans (by simp [tile, pair])))

theorem ld4 (X : S2x8x1x1024.Idx → Val e) (off : Fin 4 → ℕ) (inb) (h : Fin 2) (i : Fin 8) (ho : off = ![h.val, i.val, 0, 0])
    (r : Fin 1024) : View.ld X (Rect.unit (s := S2x8x1x1024) off ![1, 1, 1, 1024] inb) (ix4 0 0 0 r) = X (ix4 h i 0 r) := by
  subst ho
  exact congrArg X (by funext a; fin_cases a <;> exact Fin.ext ((Rect.idx_unit_val _ _ _ _ _).trans (by simp)))

theorem ldk (X : S2x1024x128.Idx → Val e) (off : Fin 3 → ℕ) (inb) (h : Fin 2) (ho : off = ![h.val, 0, 0])
    (r : Fin 1024) (l : Fin 128) : View.ld X (Rect.unit (s := S2x1024x128) off ![1, 1024, 128] inb) (ix3 0 r l) = X (ix3 h r l) := by
  subst ho
  exact congrArg X (by funext a; fin_cases a <;> exact Fin.ext ((Rect.idx_unit_val _ _ _ _ _).trans (by simp)))
end loads

end Cert.AttnIdeal.Offs

end
-- ==== Proof.Attn.Spec.lean ====
/- Causal attention's gradients over the reals, a head at a time: the softmax's rows do not depend on what is
   subtracted in the exponent, and a head's features lie at the first of its 128 lanes, the others zero. -/
module

public import proofs.«01_k».proof.Proof.Kit.Reals
public import Idealize.ShloMosaic.Lib.WordCmp

@[expose] public section

set_option maxRecDepth 16384

noncomputable section

namespace Cert.AttnSpec

open Idealize.ShloMosaic Cert.Reals

/-- A row of `n` features at the first of `w` lanes. -/
def lane (w : ℕ) {n : ℕ} (f : Fin n → ℝ) (l : Fin w) : ℝ := if h : l.val < n then f ⟨l.val, h⟩ else 0

theorem sum_lane {w n : ℕ} (hn : n ≤ w) (f : Fin n → ℝ) (g : Fin w → ℝ) :
    ∑ l, lane w f l * g l = ∑ d : Fin n, f d * g (Fin.castLE hn d) := by
  obtain ⟨k, rfl⟩ := Nat.exists_eq_add_of_le hn
  rw [Fin.sum_univ_add]
  have h1 : ∀ d : Fin n, lane (n + k) f (Fin.castAdd k d) = f d := fun d => by
    unfold lane; rw [dif_pos (show (Fin.castAdd k d).val < n from d.isLt)]; rfl
  have h2 : ∀ d : Fin k, lane (n + k) f (Fin.natAdd n d) = 0 := fun d => by
    unfold lane; rw [dif_neg (by simp)]
  simp only [h1, h2, zero_mul, Finset.sum_const_zero, add_zero]
  rfl

theorem lane_castLE {w n : ℕ} (hn : n ≤ w) (f : Fin n → ℝ) (d : Fin n) : lane w f (Fin.castLE hn d) = f d := by
  unfold lane; rw [dif_pos (show (Fin.castLE hn d).val < n from d.isLt)]; rfl

theorem sum_lane_lane {w n : ℕ} (hn : n ≤ w) (f g : Fin n → ℝ) :
    ∑ l, lane w f l * lane w g l = ∑ d : Fin n, f d * g d := by
  rw [sum_lane hn]; simp only [lane_castLE]

/-- The word of `1/√96`. -/
def scale : ℝ := 3424635 / 33554432

variable {n nh : ℕ} (q k : Fin n → Fin nh → Fin 96 → ℝ) (v c : Fin n → Fin nh → Fin 64 → ℝ)

/-- Query `a`'s score of key `b`. -/
def score (h : Fin nh) (a b : Fin n) : ℝ := (∑ d, q a h d * k b h d) * scale

/-- A weight before it is divided by the row's sum, with `r` subtracted in the exponent. -/
def weight (r : ℝ) (h : Fin nh) (a b : Fin n) : ℝ := if b ≤ a then Real.exp (score q k h a b - r) else 0

def total (r : ℝ) (h : Fin nh) (a : Fin n) : ℝ := ∑ b, weight q k r h a b

theorem weight_nonneg (r : ℝ) (h : Fin nh) (a b : Fin n) : 0 ≤ weight q k r h a b := by
  unfold weight; split <;> positivity

theorem total_pos (r : ℝ) (h : Fin nh) (a : Fin n) : 0 < total q k r h a :=
  Finset.sum_pos' (fun b _ => weight_nonneg q k r h a b)
    ⟨a, Finset.mem_univ a, by unfold weight; rw [if_pos le_rfl]; positivity⟩

/-- Query `a`'s weight of key `b`. -/
def prob (h : Fin nh) (a b : Fin n) : ℝ := weight q k 0 h a b / total q k 0 h a

theorem weight_shift (r : ℝ) (h : Fin nh) (a b : Fin n) : weight q k r h a b = weight q k 0 h a b * Real.exp (-r) := by
  unfold weight
  split
  · rw [← Real.exp_add]; congr 1; ring
  · rw [zero_mul]

theorem prob_eq (r : ℝ) (h : Fin nh) (a b : Fin n) : weight q k r h a b / total q k r h a = prob q k h a b := by
  unfold total prob
  simp only [weight_shift q k r, ← Finset.sum_mul]
  exact mul_div_mul_right _ _ (Real.exp_pos _).ne'

/-- The logarithm of a row's sum of exponentials. -/
def lse (h : Fin nh) (a : Fin n) : ℝ := Real.log (total q k 0 h a)

theorem lse_eq (r : ℝ) (h : Fin nh) (a : Fin n) : r + Real.log (total q k r h a) = lse q k h a := by
  have e : total q k r h a = total q k 0 h a * Real.exp (-r) := by
    unfold total; simp only [weight_shift q k r, Finset.sum_mul]
  rw [e, Real.log_mul (total_pos q k 0 h a).ne' (Real.exp_pos _).ne', Real.log_exp, lse]; ring

theorem prob_exp (h : Fin nh) (a b : Fin n) :
    prob q k h a b = if b ≤ a then Real.exp (score q k h a b - lse q k h a) else 0 := by
  unfold prob weight
  split
  · rw [lse, sub_zero, Real.exp_sub, Real.exp_log (total_pos q k 0 h a)]
  · rw [zero_div]

/-- The gradient of a weight. -/
def dprob (h : Fin nh) (a b : Fin n) : ℝ := ∑ e, c a h e * v b h e

/-- A row's sum of the output times its cotangent. -/
def delta (h : Fin nh) (a : Fin n) : ℝ := ∑ b, prob q k h a b * dprob v c h a b

/-- The gradient of a score. -/
def dscore (h : Fin nh) (a b : Fin n) : ℝ := prob q k h a b * (dprob v c h a b - delta q k v c h a)

/-- The gradients at a head's lanes. -/
def dq (h : Fin nh) (a : Fin n) (l : Fin 128) : ℝ := ∑ b, dscore q k v c h a b * lane 128 (k b h) l * scale

def dk (h : Fin nh) (b : Fin n) (l : Fin 128) : ℝ := (∑ a, dscore q k v c h a b * lane 128 (q a h) l) * scale

def dv (h : Fin nh) (b : Fin n) (l : Fin 128) : ℝ := ∑ a, prob q k h a b * lane 128 (c a h) l

/-- The row's sum of the output times its cotangent, from the output. -/
theorem delta_eq (h : Fin nh) (a : Fin n) :
    ∑ e, c a h e * (∑ b, prob q k h a b * v b h e) = delta q k v c h a := by
  unfold delta dprob
  simp only [Finset.mul_sum]
  rw [Finset.sum_comm]
  exact Finset.sum_congr rfl fun b _ => Finset.sum_congr rfl fun e _ => by ring

theorem prob_masked {h : Fin nh} {a b : Fin n} (hab : ¬b ≤ a) : prob q k h a b = 0 := by
  rw [prob_exp, if_neg hab]

theorem dscore_masked {h : Fin nh} {a b : Fin n} (hab : ¬b ≤ a) : dscore q k v c h a b = 0 := by
  unfold dscore; rw [prob_masked q k hab, zero_mul]

/-- The gradient of a score as differentiation of the quotient writes it. -/
theorem dscore_quotient (r : ℝ) (h : Fin nh) (a b : Fin n) :
    (dprob v c h a b / total q k r h a
        + -(∑ b', dprob v c h a b' * (1 / (total q k r h a * total q k r h a)) * weight q k r h a b')) * weight q k r h a b
      = dscore q k v c h a b := by
  have hL := (total_pos q k r h a).ne'
  have e : ∀ b, weight q k r h a b = prob q k h a b * total q k r h a := fun b => by
    rw [← prob_eq q k r]; field_simp
  have s : ∑ b', dprob v c h a b' * (1 / (total q k r h a * total q k r h a)) * weight q k r h a b'
      = delta q k v c h a / total q k r h a := by
    rw [delta, Finset.sum_div]
    exact Finset.sum_congr rfl fun b' _ => by rw [e b']; field_simp
  rw [s, e b, dscore]; field_simp; ring

/-- Finitely many extended reals, none above the reals and one of them real, have a real maximum. -/
theorem real_max {ι : Type} [Fintype ι] (f : ι → EReal) (ht : ∀ i, f i ≠ ⊤) (i : ι) (hi : f i ≠ ⊥) :
    ∃ r : ℝ, Finset.univ.sup f = (r : EReal) := by
  have h1 : Finset.univ.sup f ≠ ⊤ := fun h => by
    obtain ⟨j, _, hj⟩ := Finset.exists_mem_eq_sup Finset.univ ⟨i, Finset.mem_univ i⟩ f
    exact ht j (hj.symm.trans h)
  have h2 : Finset.univ.sup f ≠ ⊥ := fun h => hi (le_bot_iff.1 (h ▸ Finset.le_sup (f := f) (Finset.mem_univ i)))
  exact ⟨_, (EReal.coe_toReal h1 h2).symm⟩

/-- A choice by the comparison of two indices' words. -/
theorem masked {N : ℕ} (hN : N ≤ 2 ^ 31) (a b : Fin N) (x y : EReal) :
    Scalar.select (IntOp.cmpi .sle (BitVec.ofNat 32 b.val) (BitVec.ofNat 32 a.val)) x y = if b ≤ a then x else y := by
  rw [WordCmp.cmpi_sle_ofNat (by omega) (by omega)]
  by_cases h : b ≤ a
  · rw [if_pos h, decide_eq_true (show b.val ≤ a.val from h)]; rfl
  · rw [if_neg h, decide_eq_false (show ¬b.val ≤ a.val from h)]; rfl

theorem scale_word : Ideal.ofBits .f32 0x3DD105EC#32 = (scale : EReal) := by
  unfold scale
  simp [Ideal.ofBits, Ideal.ieee, -EReal.coe_mul]
  norm_num

theorem bot_word : Ideal.ofBits .f32 0xFF800000#32 = (⊥ : EReal) := by
  simp [Ideal.ofBits, Ideal.ieee]

theorem one_word : Ideal.ofBits .f32 0x3F800000#32 = ((1 : ℝ) : EReal) := by
  simp [Ideal.ofBits, Ideal.ieee, -EReal.coe_mul]; norm_num

theorem two_word : Ideal.ofBits .f32 0x40000000#32 = ((2 : ℝ) : EReal) := by
  simp [Ideal.ofBits, Ideal.ieee, -EReal.coe_mul]; norm_num

/-- The exponential of a masked score. -/
theorem exp_masked (r : ℝ) (h : Fin nh) (a b : Fin n) :
    Ideal.exp ((if b ≤ a then ((score q k h a b : ℝ) : EReal) else ⊥) - (r : EReal)) = ((weight q k r h a b : ℝ) : EReal) := by
  unfold weight
  split
  · rw [← EReal.coe_sub, Ideal.exp_coe]
  · rw [EReal.bot_sub, Ideal.exp_bot, EReal.coe_zero]

/-- A row of masked scores has a real maximum. -/
theorem masked_max (h : Fin nh) (a : Fin n) : ∃ r : ℝ,
    Finset.fold max (⊥ : EReal) (fun b => if b ≤ a then ((score q k h a b : ℝ) : EReal) else ⊥) Finset.univ = (r : EReal) :=
  real_max _ (fun b => by split <;> simp) a (by simp)

end Cert.AttnSpec

end
-- ==== Proof.Attn.Host.lean ====
/- The operands that attention's host lines prepare: each head's features at its lanes, a one in the value's lane after its
   width, and the two sums of a row that the forward pass leaves. -/
module

public import proofs.«01_k».proof.Proof.Gen.AttnIdeal.Value
public import proofs.«01_k».proof.Proof.Attn.Offs
public import proofs.«01_k».proof.Proof.Attn.Spec
public import Idealize.ShloMosaic.Lib.Pipeline.ValueKit
public import Idealize.ShloMosaic.Lib.Claim
public import Idealize.ShloMosaic.Lib.StableHlo.RunRead

@[expose] public section

set_option maxRecDepth 16384

noncomputable section

namespace Cert.AttnIdeal.Host

open Cert.AttnIdeal Cert.AttnIdeal.Gen Cert.AttnIdeal.Offs Cert.Reals Cert.AttnSpec
open Idealize.ShloMosaic Idealize.ShloMosaic.TcCoe Idealize.SL.Sem

section arrays
variable (x0 x1 : FVec Ideal S8192x4x96 .f32) (x2 x3 : FVec Ideal S8192x4x64 .f32)

/-- A head's features at its lanes. -/
def wide (x : FVec Ideal S8192x4x96 .f32) : FVec Ideal S4x8192x128 .f32 :=
  concatenate S4x8192x128 2 [⟨S4x8192x96, transpose S4x8192x96 [1, 0, 2] x transposes_S8192x4x96_S4x8192x96_1_0_2⟩,
    ⟨S4x8192x32, (broadcastInDim S4x8192x32 ![] bcast_S_S4x8192x32 (constant S_ .f32 0x00000000#32) : FVec Ideal S4x8192x32 .f32)⟩]
    concatenates_S4x8192x96_S4x8192x32_S4x8192x128_d2

def wideV : FVec Ideal S4x8192x128 .f32 :=
  concatenate S4x8192x128 2 [⟨S4x8192x64, transpose S4x8192x64 [1, 0, 2] x2 transposes_S8192x4x64_S4x8192x64_1_0_2⟩,
    ⟨S4x8192x64, (broadcastInDim S4x8192x64 ![] bcast_S_S4x8192x64 (constant S_ .f32 0x00000000#32) : FVec Ideal S4x8192x64 .f32)⟩]
    concatenates_S4x8192x64_S4x8192x64_S4x8192x128_d2

def wideC : FVec Ideal S8192x4x128 .f32 :=
  concatenate S8192x4x128 2 [⟨S8192x4x64, x3⟩,
    ⟨S8192x4x64, (broadcastInDim S8192x4x64 ![] bcast_S_S8192x4x64 (constant S_ .f32 0x00000000#32) : FVec Ideal S8192x4x64 .f32)⟩]
    concatenates_S8192x4x64_S8192x4x64_S8192x4x128_d2

/-- The masked scores. -/
def scores : FVec Ideal S4x8192x8192 .f32 :=
  select (broadcastInDim S4x8192x8192 ![1, 2] bcast_S8192x8192_S4x8192x8192_1_2
      (cmpi .sle (broadcastInDim S8192x8192 ![0, 1] bcast_S1x8192_S8192x8192_0_1 (broadcastInDim S1x8192 ![1] bcast_S8192_S1x8192_1 (iotaInDim S8192 32 0)))
        (broadcastInDim S8192x8192 ![0, 1] bcast_S8192x1_S8192x8192_0_1 (broadcastInDim S8192x1 ![0] bcast_S8192_S8192x1_0 (iotaInDim S8192 32 0)))))
    (mulf (Host.dotGeneral dot_S8192x4x96_S8192x4x96_S4x8192x8192_2_2_0_0_1_1 none x0 x1)
      (broadcastInDim S4x8192x8192 ![] bcast_S_S4x8192x8192 (constant S_ .f32 0x3DD105EC#32)))
    (broadcastInDim S4x8192x8192 ![] bcast_S_S4x8192x8192 (constant S_ .f32 0xFF800000#32))

def top : FVec Ideal S4x8192 .f32 :=
  Host.reduce FloatOps.maximumf (scores x0 x1) (constant S_ .f32 0xFF800000#32) reducesTo_S4x8192x8192_S4x8192_d2 h_S_

def top1 : FVec Ideal S4x8192x1 .f32 := broadcastInDim S4x8192x1 ![0, 1] bcast_S4x8192_S4x8192x1_0_1 (top x0 x1)

def powers : FVec Ideal S4x8192x8192 .f32 :=
  Host.exp (subf (scores x0 x1) (broadcastInDim S4x8192x8192 ![0, 1, 2] bcast_S4x8192x1_S4x8192x8192_0_1_2 (top1 x0 x1)))

def sums : FVec Ideal S4x8192x1 .f32 := broadcastInDim S4x8192x1 ![0, 1] bcast_S4x8192_S4x8192x1_0_1
  (Host.reduceAdd (powers x0 x1) (constant S_ .f32 0x00000000#32) reducesTo_S4x8192x8192_S4x8192_d2 h_S_ : FVec Ideal S4x8192 .f32)

def out : FVec Ideal S4x8192x64 .f32 :=
  Host.divf (Host.dotGeneral dot_S4x8192x8192_S8192x4x64_S4x8192x64_2_0_1_2_0_1 none (powers x0 x1) x2)
    (broadcastInDim S4x8192x64 ![0, 1, 2] bcast_S4x8192x1_S4x8192x64_0_1_2 (sums x0 x1))

def logs : FVec Ideal S4x8192x1 .f32 :=
  Host.divf (addf (top1 x0 x1) (Host.log (sums x0 x1))) (broadcastInDim S4x8192x1 ![] bcast_S_S4x8192x1 (Host.log (constant S_ .f32 0x40000000#32)))

def deltas : FVec Ideal S4x8192 .f32 :=
  Host.reduceAdd (mulf (transpose S4x8192x64 [1, 0, 2] x3 transposes_S8192x4x64_S4x8192x64_1_0_2) (out x0 x1 x2)) (constant S_ .f32 0x00000000#32)
    reducesTo_S4x8192x64_S4x8192_d2 h_S_

def oneLane : FVec Ideal S4x8192x128 .f32 :=
  broadcastInDim S4x8192x128 ![0, 1, 2] bcast_S1x1x128_S4x8192x128_0_1_2 (broadcastInDim S1x1x128 ![2] bcast_S128_S1x1x128_2
    (uitofp .f32 (cmpi .eq (iotaInDim S128 32 0) (broadcastInDim S128 ![] bcast_S_S128 (constantI S_ 32 64#32)))))
end arrays

variable (m : (ℓ : Loc nD τ sig) → Buf (Elt Ideal) ℓ) (c : Dev nD)

abbrev A0 : FVec Ideal S8192x4x96 .f32 := m ((c : Thread nD τ).loc main_arg0)
abbrev A1 : FVec Ideal S8192x4x96 .f32 := m ((c : Thread nD τ).loc main_arg1)
abbrev A2 : FVec Ideal S8192x4x64 .f32 := m ((c : Thread nD τ).loc main_arg2)
abbrev A3 : FVec Ideal S8192x4x64 .f32 := m ((c : Thread nD τ).loc main_arg3)

/-- The buffers as the last stretch of host lines finds them. -/
def W : Valuation τ sig (Elt Ideal) := StableHlo.after ([hostOps0, hostOps0_1].flatten) (fun b => m (c, b))

theorem V_eq (b : Ref sig .tc) : V m c b = StableHlo.after hostOps0_2 (W m c) b := by
  unfold V W
  rw [← StableHlo.after_append]
  rfl

theorem W_v20 : W m c (Proc.devRef .tc main_v20) = scores (A0 m c) (A1 m c) := by
  unfold W hostOps0 hostOps0_1
  simp only [List.flatten_cons, List.flatten_nil, List.cons_append, List.nil_append]
  after_reads_simp
  rfl
theorem W_v2 : W m c (Proc.devRef .tc main_v2) = wide (A0 m c) := by
  unfold W hostOps0 hostOps0_1
  simp only [List.flatten_cons, List.flatten_nil, List.cons_append, List.nil_append]
  after_reads_simp
  rfl
theorem W_v5 : W m c (Proc.devRef .tc main_v5) = wide (A1 m c) := by
  unfold W hostOps0 hostOps0_1
  simp only [List.flatten_cons, List.flatten_nil, List.cons_append, List.nil_append]
  after_reads_simp
  rfl
theorem W_v8 : W m c (Proc.devRef .tc main_v8) = wideV (A2 m c) := by
  unfold W hostOps0 hostOps0_1
  simp only [List.flatten_cons, List.flatten_nil, List.cons_append, List.nil_append]
  after_reads_simp
  rfl
theorem W_v10 : W m c (Proc.devRef .tc main_v10) = wideC (A3 m c) := by
  unfold W hostOps0 hostOps0_1
  simp only [List.flatten_cons, List.flatten_nil, List.cons_append, List.nil_append]
  after_reads_simp
  rfl
theorem W_arg2 : W m c (Proc.devRef .tc main_arg2) = A2 m c := by
  unfold W hostOps0 hostOps0_1
  simp only [List.flatten_cons, List.flatten_nil, List.cons_append, List.nil_append]
  after_reads_simp
theorem W_arg3 : W m c (Proc.devRef .tc main_arg3) = A3 m c := by
  unfold W hostOps0 hostOps0_1
  simp only [List.flatten_cons, List.flatten_nil, List.cons_append, List.nil_append]
  after_reads_simp

theorem V_v43 : V m c main_v43 = truncf (F := Ideal) .bf16 (wide (A0 m c)) bitsLt_bf16_f32 := by
  rw [V_eq]; unfold hostOps0_2; after_reads_simp; rw [W_v2]
theorem V_v44 : V m c main_v44 = truncf (F := Ideal) .bf16 (wide (A1 m c)) bitsLt_bf16_f32 := by
  rw [V_eq]; unfold hostOps0_2; after_reads_simp; rw [W_v5]
theorem V_v48 : V m c main_v48 = truncf (F := Ideal) .bf16 (addf (wideV (A2 m c)) oneLane) bitsLt_bf16_f32 := by
  rw [V_eq]; unfold hostOps0_2; after_reads_simp; rw [W_v8]; rfl
theorem V_v49 : V m c main_v49 = shapeCast S8192x512 (wideC (A3 m c)) shapeCasts_S8192x4x128_S8192x512 := by
  rw [V_eq]; unfold hostOps0_2; after_reads_simp; rw [W_v10]; rfl
theorem V_v51 : V m c main_v51 = shapeCast S4x8x1x1024 (shapeCast S4x8192 (logs (A0 m c) (A1 m c)) shapeCasts_S4x8192x1_S4x8192) shapeCasts_S4x8192_S4x8x1x1024 := by
  rw [V_eq]; unfold hostOps0_2; after_reads_simp; rw [W_v20]; rfl
theorem V_v52 : V m c main_v52 = shapeCast S4x8x1x1024 (deltas (A0 m c) (A1 m c) (A2 m c) (A3 m c)) shapeCasts_S4x8192_S4x8x1x1024 := by
  rw [V_eq]; unfold hostOps0_2; after_reads_simp; rw [W_v20, W_arg2, W_arg3]; rfl

section values
variable {x0 x1 : FVec Ideal S8192x4x96 .f32} {x2 x3 : FVec Ideal S8192x4x64 .f32} {q k : Fin 8192 → Fin 4 → Fin 96 → ℝ} {v w : Fin 8192 → Fin 4 → Fin 64 → ℝ}
  (h0 : ∀ a h d, x0 (ix3 a h d) = ((q a h d : ℝ) : EReal)) (h1 : ∀ a h d, x1 (ix3 a h d) = ((k a h d : ℝ) : EReal))
  (h2 : ∀ a h d, x2 (ix3 a h d) = ((v a h d : ℝ) : EReal)) (h3 : ∀ a h d, x3 (ix3 a h d) = ((w a h d : ℝ) : EReal))

theorem logs_apply (t s : FVec Ideal S4x8192x1 .f32) (z : BitVec 32) (i : S4x8192x1.Idx) :
    Host.divf (addf t (Host.log s)) (broadcastInDim S4x8192x1 ![] bcast_S_S4x8192x1 (Host.log (constant (F := Ideal) S_ .f32 z))) i
      = Ideal.div (t i + Ideal.log (s i)) (Ideal.log (Ideal.ofBits .f32 z)) := rfl

theorem log_div (r : ℝ) {a e : ℝ} (ha : 0 < a) (he : r + Real.log a = e) :
    Ideal.div ((r : EReal) + Ideal.log (a : EReal)) (Ideal.log ((2 : ℝ) : EReal)) = ((e / Real.log 2 : ℝ) : EReal) := by
  rw [Ideal.log_coe, Ideal.log_coe, if_neg ha.not_ge, if_neg (by norm_num), ← EReal.coe_add, he, div_real (Real.log_pos (by norm_num)).ne']

include h0
theorem wide_at (h : Fin 4) (a : Fin 8192) (l : Fin 128) : wide x0 (ix3 h a l) = ((lane 128 (q a h) l : ℝ) : EReal) := by
  pointwise [wide]
  unfold lane
  by_cases hl : l.val < 96
  · simp only [dif_pos hl]; exact h0 _ _ _
  · simp only [dif_neg hl]; exact EReal.coe_zero.symm
omit h0
include h2
theorem wideV_at (h : Fin 4) (a : Fin 8192) (l : Fin 128) : wideV x2 (ix3 h a l) = ((lane 128 (v a h) l : ℝ) : EReal) := by
  pointwise [wideV]
  unfold lane
  by_cases hl : l.val < 64
  · simp only [dif_pos hl]; exact h2 _ _ _
  · simp only [dif_neg hl]; exact EReal.coe_zero.symm
omit h2
include h3
theorem wideC_at (a : Fin 8192) (h : Fin 4) (l : Fin 128) : wideC x3 (ix3 a h l) = ((lane 128 (w a h) l : ℝ) : EReal) := by
  pointwise [wideC]
  unfold lane
  by_cases hl : l.val < 64
  · simp only [dif_pos hl]; exact h3 _ _ _
  · simp only [dif_neg hl]; exact EReal.coe_zero.symm
omit h3
theorem oneLane_at (h : Fin 4) (a : Fin 8192) (l : Fin 128) : oneLane (ix3 h a l) = (((if l.val = 64 then 1 else 0 : ℝ)) : EReal) := by
  pointwise [oneLane]
  have h : ∀ l : Fin 128, (IntOp.cmpi CmpIPredicate.eq (BitVec.ofNat 32 l.val) 64#32).toNat = if l.val = 64 then 1 else 0 := by decide +kernel
  show (((IntOp.cmpi CmpIPredicate.eq (BitVec.ofNat 32 l.val) 64#32).toNat : ℝ) : EReal) = _
  rw [h]
  split <;> simp

include h0 h1
theorem scores_at (h : Fin 4) (a b : Fin 8192) : scores x0 x1 (ix3 h a b) = if b ≤ a then ((score q k h a b : ℝ) : EReal) else ⊥ := by
  pointwise [scores]
  rw [masked (by norm_num)]
  simp only [h0, h1, ← EReal.coe_mul, sum_coe, scale_word]
  exact congrArg (ite _ _) bot_word

theorem top_real (h : Fin 4) (a : Fin 8192) : ∃ r : ℝ, top x0 x1 (ix2 h a) = (r : EReal) := by
  pointwise [top]
  simp only [scores_at h0 h1, bot_word]
  exact masked_max q k h a

/-- What a row's exponents have subtracted. -/
def mx (h : Fin 4) (a : Fin 8192) : ℝ := (top x0 x1 (ix2 h a)).toReal

theorem top1_at (h : Fin 4) (a : Fin 8192) (b : Fin 1) : top1 x0 x1 (ix3 h a b) = ((mx (x0 := x0) (x1 := x1) h a : ℝ) : EReal) := by
  obtain ⟨r, hr⟩ := top_real h0 h1 h a
  pointwise [top1]
  rw [mx, hr, EReal.toReal_coe]

theorem powers_at (h : Fin 4) (a b : Fin 8192) : powers x0 x1 (ix3 h a b) = ((weight q k (mx (x0 := x0) (x1 := x1) h a) h a b : ℝ) : EReal) := by
  pointwise [powers]
  rw [scores_at h0 h1, top1_at h0 h1]
  exact exp_masked q k _ h a b

theorem sums_at (h : Fin 4) (a : Fin 8192) (b : Fin 1) : sums x0 x1 (ix3 h a b) = ((total q k (mx (x0 := x0) (x1 := x1) h a) h a : ℝ) : EReal) := by
  pointwise [sums]
  simp only [powers_at h0 h1, sum_coe, wzero, EReal.coe_zero, zero_add]
  rfl

theorem logs_at (h : Fin 4) (a : Fin 8192) (b : Fin 1) : logs x0 x1 (ix3 h a b) = ((lse q k h a / Real.log 2 : ℝ) : EReal) := by
  unfold logs
  rw [logs_apply]
  rw [top1_at h0 h1, sums_at h0 h1, two_word]
  exact log_div _ (total_pos q k _ h a) (lse_eq q k _ h a)

include h2
theorem out_at (h : Fin 4) (a : Fin 8192) (e : Fin 64) : out x0 x1 x2 (ix3 h a e) = ((∑ b, prob q k h a b * v b h e : ℝ) : EReal) := by
  pointwise [out]
  rw [sums_at h0 h1]
  simp only [powers_at h0 h1, h2, ← EReal.coe_mul, sum_coe]
  rw [div_real (total_pos q k _ h a).ne', Finset.sum_div]
  exact congrArg _ (Finset.sum_congr rfl fun b _ => by rw [← prob_eq q k (mx (x0 := x0) (x1 := x1) h a)]; ring)

include h3
theorem deltas_at (h : Fin 4) (a : Fin 8192) : deltas x0 x1 x2 x3 (ix2 h a) = ((delta q k v w h a : ℝ) : EReal) := by
  pointwise [deltas]
  simp only [out_at h0 h1 h2, h3, ← EReal.coe_mul, sum_coe, wzero, EReal.coe_zero, zero_add, delta_eq]
end values

/-- The four arguments are real. -/
structure Given (q k : Fin 8192 → Fin 4 → Fin 96 → ℝ) (v w : Fin 8192 → Fin 4 → Fin 64 → ℝ) : Prop where
  h0 : ∀ a h d, A0 m c (ix3 a h d) = ((q a h d : ℝ) : EReal)
  h1 : ∀ a h d, A1 m c (ix3 a h d) = ((k a h d : ℝ) : EReal)
  h2 : ∀ a h d, A2 m c (ix3 a h d) = ((v a h d : ℝ) : EReal)
  h3 : ∀ a h d, A3 m c (ix3 a h d) = ((w a h d : ℝ) : EReal)

variable {q k : Fin 8192 → Fin 4 → Fin 96 → ℝ} {v w : Fin 8192 → Fin 4 → Fin 64 → ℝ} (g : Given m c q k v w)
include g

theorem at43 (h : Fin 4) (a : Fin 8192) (l : Fin 128) : V m c main_v43 (ix3 h a l) = ((lane 128 (q a h) l : ℝ) : EReal) :=
  (congrFun (V_v43 m c) _).trans (wide_at g.h0 h a l)
theorem at44 (h : Fin 4) (a : Fin 8192) (l : Fin 128) : V m c main_v44 (ix3 h a l) = ((lane 128 (k a h) l : ℝ) : EReal) :=
  (congrFun (V_v44 m c) _).trans (wide_at g.h1 h a l)
theorem at48 (h : Fin 4) (a : Fin 8192) (l : Fin 128) :
    V m c main_v48 (ix3 h a l) = ((lane 128 (v a h) l + (if l.val = 64 then 1 else 0) : ℝ) : EReal) :=
  (congrFun (V_v48 m c) _).trans ((congr (congrArg (FloatOps.addf (F := Ideal) (φ := .f32)) (wideV_at g.h2 h a l)) (oneLane_at h a l)).trans (EReal.coe_add _ _).symm)

/-- The column of head `h`'s lane `l` where the heads lie side by side. -/
def col (h : Fin 4) (l : Fin 128) : Fin 512 := ⟨128 * h.val + l.val, by have := h.isLt; have := l.isLt; omega⟩

theorem at49 (a : Fin 8192) (h : Fin 4) (l : Fin 128) : V m c main_v49 (ix2 a (col h l)) = ((lane 128 (w a h) l : ℝ) : EReal) := by
  refine (congrFun (V_v49 m c) _).trans ((shapeCast_apply _ _ (ix2 a (col h l)) (ix3 a h l) ?_).trans (wideC_at g.h3 a h l))
  rw [Shape.rowMajor_val_two, Shape.rowMajor_val_three]
  show (a.val * 4 + h.val) * 128 + l.val = a.val * 512 + (128 * h.val + l.val)
  omega

theorem at51 (h : Fin 4) (i : Fin 8) (z : Fin 1) (r : Fin 1024) :
    V m c main_v51 (ix4 h i z r) = ((lse q k h (tile i r) / Real.log 2 : ℝ) : EReal) := by
  refine (congrFun (V_v51 m c) _).trans ((shapeCast_apply _ _ (ix4 h i z r) (ix2 h (tile i r)) ?_).trans
    ((shapeCast_apply _ _ (ix2 h (tile i r)) (ix3 h (tile i r) z) ?_).trans (logs_at g.h0 g.h1 h (tile i r) z)))
  · rw [Shape.rowMajor_val_two, Shape.rowMajor_val_four]
    show h.val * 8192 + (1024 * i.val + r.val) = ((h.val * 8 + i.val) * 1 + z.val) * 1024 + r.val
    omega
  · rw [Shape.rowMajor_val_two, Shape.rowMajor_val_three]
    show (h.val * 8192 + (1024 * i.val + r.val)) * 1 + z.val = h.val * 8192 + (1024 * i.val + r.val)
    omega

theorem at52 (h : Fin 4) (i : Fin 8) (z : Fin 1) (r : Fin 1024) :
    V m c main_v52 (ix4 h i z r) = ((delta q k v w h (tile i r) : ℝ) : EReal) := by
  refine (congrFun (V_v52 m c) _).trans ((shapeCast_apply _ _ (ix4 h i z r) (ix2 h (tile i r)) ?_).trans (deltas_at g.h0 g.h1 g.h2 g.h3 h (tile i r)))
  rw [Shape.rowMajor_val_two, Shape.rowMajor_val_four]
  show h.val * 8192 + (1024 * i.val + r.val) = ((h.val * 8 + i.val) * 1 + z.val) * 1024 + r.val
  omega

end Cert.AttnIdeal.Host

end
-- ==== Proof.Attn.Pay.lean ====
/- What the body of attention's gradient computes from real blocks, a pair of a tile of keys and a tile of queries at a
   time: the weights, the gradient of the scores, and the tile's parts of the three gradients. The first head's and the
   second head's statements differ in names only, and so do those of the diagonal tile and of the later ones. -/
module

public import proofs.«01_k».proof.Proof.Gen.AttnIdeal.Skeleton
public import proofs.«01_k».proof.Proof.Attn.Spec

@[expose] public section

set_option maxRecDepth 16384

noncomputable section

namespace Cert.AttnSpec

/-- The weight of a tile's key `r` at the query `c`, the logarithm `L` of the query's sum taken to the base two. -/
def weight2 (K Q : Fin 1024 → Fin 128 → ℝ) (L : Fin 1024 → ℝ) (r c : Fin 1024) : ℝ :=
  Real.rpow 2 ((∑ l, K r l * Q c l) * (scale * (Real.log 2)⁻¹) - L c)

/-- The same in the tile on the diagonal. -/
def weight2d (K Q : Fin 1024 → Fin 128 → ℝ) (L : Fin 1024 → ℝ) (r c : Fin 1024) : ℝ := if r ≤ c then weight2 K Q L r c else 0

/-- The gradient of a tile's scores. -/
def ds (P : Fin 1024 → Fin 1024 → ℝ) (V C : Fin 1024 → Fin 128 → ℝ) (D : Fin 1024 → ℝ) (r c : Fin 1024) : ℝ :=
  P r c * ((∑ l, V r l * C c l) - D c)

end Cert.AttnSpec

namespace Cert.AttnIdeal.Pay

open Cert.AttnIdeal Cert.AttnIdeal.Gen Cert.Reals Cert.AttnSpec
open Idealize.ShloMosaic Idealize.ShloMosaic.TcCoe Idealize.SL.Sem

variable {q k v : FVec Ideal S1x1024x128 .bf16} {c : FVec Ideal S1024x128 .f32} {e d : FVec Ideal S1x1x1x1024 .f32}
variable {K Q V C : Fin 1024 → Fin 128 → ℝ} {L D : Fin 1024 → ℝ} {P W S : Fin 1024 → Fin 1024 → ℝ}
variable {p w s : FVec Ideal S1024x1024 .f32} {pb : FVec Ideal S1024x1024 .bf16} {qb vb cb : FVec Ideal S1024x128 .bf16}
variable (hq : ∀ r l, q (ix3 0 r l) = ((Q r l : ℝ) : EReal)) (hk : ∀ r l, k (ix3 0 r l) = ((K r l : ℝ) : EReal))
  (hv : ∀ r l, v (ix3 0 r l) = ((V r l : ℝ) : EReal)) (hc : ∀ r l, c (ix2 r l) = ((C r l : ℝ) : EReal))
  (he : ∀ r, e (ix4 0 0 0 r) = ((L r : ℝ) : EReal)) (hd : ∀ r, d (ix4 0 0 0 r) = ((D r : ℝ) : EReal))
  (hp : ∀ r t, p (ix2 r t) = ((P r t : ℝ) : EReal)) (hw : ∀ r t, w (ix2 r t) = ((W r t : ℝ) : EReal))
  (hs : ∀ r t, s (ix2 r t) = ((S r t : ℝ) : EReal)) (hpb : ∀ r t, pb (ix2 r t) = ((P r t : ℝ) : EReal))
  (hqb : ∀ r l, qb (ix2 r l) = ((Q r l : ℝ) : EReal)) (hvb : ∀ r l, vb (ix2 r l) = ((V r l : ℝ) : EReal))
  (hcb : ∀ r l, cb (ix2 r l) = ((C r l : ℝ) : EReal))

theorem named : Named.named (F := Ideal) (φ := .f32) κ "attn_scale_log2e" 0x3E16C740#32 = ((scale * (Real.log 2)⁻¹ : ℝ) : EReal) := by
  unfold scale; rfl

theorem exp2_real (x : ℝ) : FloatOps.exp2 (F := Ideal) (φ := .f32) (x : EReal) = ((Real.rpow 2 x : ℝ) : EReal) := Ideal.exp2_coe x

theorem exp2_masked : FloatOps.exp2 (F := Ideal) (φ := .f32) (⊥ : EReal) = ((0 : ℝ) : EReal) := Ideal.exp2_bot

section first
include hq hk he
theorem pay8 (r t : Fin 1024) : k0_pay8 (F := Ideal) q k e (ix2 r t) = ((weight2 K Q L r t : ℝ) : EReal) := by
  pointwise [k0_pay8, k0_pay6]
  simp only [hq, hk, he, named, ← EReal.coe_mul, sum_coe, zero_add, ← EReal.coe_sub, exp2_real]
  rfl

theorem pay15 (r t : Fin 1024) : k0_pay15 (F := Ideal) q k e (ix2 r t) = ((weight2 K Q L r t : ℝ) : EReal) := by
  pointwise [k0_pay15, k0_pay13]
  simp only [hq, hk, he, named, ← EReal.coe_mul, sum_coe, zero_add, ← EReal.coe_sub, exp2_real]
  rfl

theorem pay34 (r t : Fin 1024) : k0_pay34 (F := Ideal) q k e (ix2 r t) = ((weight2d K Q L r t : ℝ) : EReal) := by
  pointwise [k0_pay34, k0_pay32]
  rw [masked (by norm_num)]
  simp only [hq, hk, he, named, ← EReal.coe_mul, sum_coe, zero_add, bot_word]
  unfold weight2d
  split
  · rw [← EReal.coe_sub, exp2_real]; rfl
  · rw [EReal.bot_sub, exp2_masked]

theorem pay42 (r t : Fin 1024) : k0_pay42 (F := Ideal) q k e (ix2 r t) = ((weight2d K Q L r t : ℝ) : EReal) := by
  pointwise [k0_pay42, k0_pay40]
  rw [masked (by norm_num)]
  simp only [hq, hk, he, named, ← EReal.coe_mul, sum_coe, zero_add, bot_word]
  unfold weight2d
  split
  · rw [← EReal.coe_sub, exp2_real]; rfl
  · rw [EReal.bot_sub, exp2_masked]

theorem pay43 (r t : Fin 1024) : k0_pay43 (F := Ideal) q k e (ix2 r t) = ((weight2d K Q L r t : ℝ) : EReal) :=
  (by pointwise [k0_pay43] : k0_pay43 (F := Ideal) q k e (ix2 r t) = k0_pay42 (F := Ideal) q k e (ix2 r t)).trans (pay42 hq hk he r t)

include hc
theorem pay9 (acc : FVec Ideal S1024x128 .f32) (r : Fin 1024) (l : Fin 128) :
    k0_pay9 (F := Ideal) acc q c k e (ix2 r l) = acc (ix2 r l) + ((∑ t, weight2 K Q L r t * C t l : ℝ) : EReal) := by
  pointwise [k0_pay9, k0_pay7]
  simp only [pay8 hq hk he, hc, ← EReal.coe_mul, sum_coe, zero_add]

theorem pay16 (acc : FVec Ideal S1024x128 .f32) (r : Fin 1024) (l : Fin 128) :
    k0_pay16 (F := Ideal) acc q c k e (ix2 r l) = acc (ix2 r l) + ((∑ t, weight2 K Q L r t * C t l : ℝ) : EReal) := by
  pointwise [k0_pay16, k0_pay14]
  simp only [pay15 hq hk he, hc, ← EReal.coe_mul, sum_coe, zero_add]

theorem pay35 (r : Fin 1024) (l : Fin 128) :
    k0_pay35 (F := Ideal) q c k e (ix2 r l) = ((∑ t, weight2d K Q L r t * C t l : ℝ) : EReal) := by
  pointwise [k0_pay35, k0_pay33, k0_pay31]
  simp only [pay34 hq hk he, hc, ← EReal.coe_mul, sum_coe, zero_add]

include hv hd
theorem pay10 (r t : Fin 1024) : k0_pay10 (F := Ideal) q c k e v d (ix2 r t) = ((ds (weight2 K Q L) V C D r t : ℝ) : EReal) := by
  pointwise [k0_pay10, k0_pay7]
  simp only [pay8 hq hk he, hc, hv, hd, ← EReal.coe_mul, sum_coe, zero_add, ← EReal.coe_sub]
  rfl

theorem pay11 (acc : FVec Ideal S1024x128 .f32) (r : Fin 1024) (l : Fin 128) :
    k0_pay11 (F := Ideal) acc q c k e v d (ix2 r l)
      = acc (ix2 r l) + ((∑ t, ds (weight2 K Q L) V C D r t * Q t l : ℝ) : EReal) := by
  pointwise [k0_pay11, k0_pay6]
  simp only [pay10 hq hk hv hc he hd, hq, ← EReal.coe_mul, sum_coe, zero_add]
end first

theorem pay13 (r : Fin 1024) (l : Fin 128) : k0_pay13 (F := Ideal) q (ix2 r l) = q (ix3 0 r l) := by
  pointwise [k0_pay13]

theorem pay14 (r : Fin 1024) (l : Fin 128) : k0_pay14 (F := Ideal) c (ix2 r l) = c (ix2 r l) := by
  pointwise [k0_pay14]

theorem pay17 (r : Fin 1024) (l : Fin 128) : k0_pay17 (F := Ideal) v (ix2 r l) = v (ix3 0 r l) := by
  pointwise [k0_pay17]

theorem pay32 (r : Fin 1024) (l : Fin 128) : k0_pay32 (F := Ideal) q (ix2 r l) = q (ix3 0 r l) := by
  pointwise [k0_pay32]

theorem pay40 (r : Fin 1024) (l : Fin 128) : k0_pay40 (F := Ideal) q (ix2 r l) = q (ix3 0 r l) := by
  pointwise [k0_pay40]

theorem pay41 (r : Fin 1024) (l : Fin 128) : k0_pay41 (F := Ideal) c (ix2 r l) = c (ix2 r l) := by
  pointwise [k0_pay41]

theorem pay44 (r : Fin 1024) (l : Fin 128) : k0_pay44 (F := Ideal) c (ix2 r l) = c (ix2 r l) := by
  pointwise [k0_pay44, k0_pay41]

theorem pay31 (r : Fin 1024) (l : Fin 128) : k0_pay31 (F := Ideal) (ix2 r l) = 0 := by
  pointwise [k0_pay31]

include hs hk in
theorem pay12 (old : FVec Ideal S1x1024x128 .f32) (t : Fin 1024) (l : Fin 128) :
    k0_pay12 (F := Ideal) s k old (ix3 0 t l) = old (ix3 0 t l) + (((∑ r, S r t * K r l) * scale : ℝ) : EReal) := by
  pointwise [k0_pay12]
  simp only [hs, hk, scale_word, ← EReal.coe_mul, sum_coe, zero_add]

section second
include hc hp hvb hd
theorem pay49 (r t : Fin 1024) : k0_pay49 (F := Ideal) c p vb d (ix2 r t) = ((ds P V C D r t : ℝ) : EReal) := by
  pointwise [k0_pay49]
  simp only [hp, hc, hvb, hd, ← EReal.coe_mul, sum_coe, zero_add, ← EReal.coe_sub]
  rfl

include hqb in
theorem pay50 (acc : FVec Ideal S1024x128 .f32) (r : Fin 1024) (l : Fin 128) :
    k0_pay50 (F := Ideal) acc qb c p vb d (ix2 r l) = acc (ix2 r l) + ((∑ t, ds P V C D r t * Q t l : ℝ) : EReal) := by
  pointwise [k0_pay50]
  simp only [pay49 hc hd hp hvb, hqb, ← EReal.coe_mul, sum_coe, zero_add]

include hk in
theorem pay51 (old : FVec Ideal S1x1024x128 .f32) (t : Fin 1024) (l : Fin 128) :
    k0_pay51 (F := Ideal) c p vb d k old (ix3 0 t l) = old (ix3 0 t l) + (((∑ r, ds P V C D r t * K r l) * scale : ℝ) : EReal) := by
  pointwise [k0_pay51]
  simp only [pay49 hc hd hp hvb, hk, scale_word, ← EReal.coe_mul, sum_coe, zero_add]
end second

section diagonal
include hc hv in
theorem pay36 (r t : Fin 1024) : k0_pay36 (F := Ideal) c v (ix2 r t) = ((∑ l, V r l * C t l : ℝ) : EReal) := by
  pointwise [k0_pay36, k0_pay33]
  simp only [hc, hv, ← EReal.coe_mul, sum_coe, zero_add]

include hp hc hv hd
theorem pay37 (r t : Fin 1024) : k0_pay37 (F := Ideal) p (k0_pay36 c v) d (ix2 r t) = ((ds P V C D r t : ℝ) : EReal) := by
  pointwise [k0_pay37]
  simp only [hp, pay36 hv hc, hd, ← EReal.coe_mul, ← EReal.coe_sub]
  rfl

theorem pay46 (r t : Fin 1024) : k0_pay46 (F := Ideal) c p v d (ix2 r t) = ((ds P V C D r t : ℝ) : EReal) := by
  pointwise [k0_pay46]
  simp only [hp, hc, hv, hd, ← EReal.coe_mul, sum_coe, zero_add, ← EReal.coe_sub]
  rfl

include hqb in
theorem pay38 (r : Fin 1024) (l : Fin 128) :
    k0_pay38 (F := Ideal) k0_pay31 qb p (k0_pay36 c v) d (ix2 r l) = ((∑ t, ds P V C D r t * Q t l : ℝ) : EReal) := by
  pointwise [k0_pay38, k0_pay31]
  simp only [pay37 hv hc hd hp, hqb, ← EReal.coe_mul, sum_coe, zero_add]

include hqb in
theorem pay47 (r : Fin 1024) (l : Fin 128) :
    k0_pay47 (F := Ideal) k0_pay31 qb c p v d (ix2 r l) = ((∑ t, ds P V C D r t * Q t l : ℝ) : EReal) := by
  pointwise [k0_pay47, k0_pay31]
  simp only [pay46 hv hc hd hp, hqb, ← EReal.coe_mul, sum_coe, zero_add]

include hk in
theorem pay39 (t : Fin 1024) (l : Fin 128) :
    k0_pay39 (F := Ideal) p (k0_pay36 c v) d k (ix2 t l) = (((∑ r, ds P V C D r t * K r l) * scale : ℝ) : EReal) := by
  pointwise [k0_pay39]
  simp only [pay37 hv hc hd hp, hk, scale_word, ← EReal.coe_mul, sum_coe, zero_add]

include hk in
theorem pay48 (t : Fin 1024) (l : Fin 128) :
    k0_pay48 (F := Ideal) c p v d k (ix2 t l) = (((∑ r, ds P V C D r t * K r l) * scale : ℝ) : EReal) := by
  pointwise [k0_pay48]
  simp only [pay46 hv hc hd hp, hk, scale_word, ← EReal.coe_mul, sum_coe, zero_add]
end diagonal

include hpb hcb in
theorem pay45 (r : Fin 1024) (l : Fin 128) :
    k0_pay45 (F := Ideal) k0_pay31 pb cb (ix2 r l) = ((∑ t, P r t * C t l : ℝ) : EReal) := by
  pointwise [k0_pay45, k0_pay31]
  simp only [hpb, hcb, ← EReal.coe_mul, sum_coe, zero_add]

section stores
variable {a : FVec Ideal S1024x128 .f32} (old : FVec Ideal S1x1024x128 .f32) {A : Fin 1024 → Fin 128 → ℝ}
  (ha : ∀ r l, a (ix2 r l) = ((A r l : ℝ) : EReal)) (r : Fin 1024) (l : Fin 128)

include ha in
theorem pay1 : k0_pay1 (F := Ideal) a (ix3 0 r l) = ((A r l * scale : ℝ) : EReal) := by
  pointwise [k0_pay1]
  simp only [ha, scale_word, ← EReal.coe_mul]

include ha in
theorem pay4 : k0_pay4 (F := Ideal) a (ix3 0 r l) = ((A r l * scale : ℝ) : EReal) := by
  pointwise [k0_pay4]
  simp only [ha, scale_word, ← EReal.coe_mul]

theorem pay2 : k0_pay2 (F := Ideal) a (ix3 0 r l) = a (ix2 r l) := by
  pointwise [k0_pay2]

theorem pay5 : k0_pay5 (F := Ideal) a (ix3 0 r l) = a (ix2 r l) := by
  pointwise [k0_pay5]

theorem pay55 : k0_pay55 (F := Ideal) a old (ix3 0 r l) = old (ix3 0 r l) + a (ix2 r l) := by
  pointwise [k0_pay55]

theorem pay3 : k0_pay3 (F := Ideal) a old (ix3 0 r l) = old (ix3 0 r l) + a (ix2 r l) := by
  pointwise [k0_pay3]
end stores

end Cert.AttnIdeal.Pay

end
-- ==== Proof.Attn.Loop.lean ====
/- The loop of attention's gradient over the tiles of queries after a tile of keys: a trip adds its tile's parts to the
   two gradients it carries and to the rows of the queries' gradient, and no two trips touch the same rows. -/
module

public import proofs.«01_k».proof.Proof.Attn.Offs
public import proofs.«01_k».proof.Proof.Attn.Pay
public import Idealize.ShloMosaic.Lib.WritesUnit

@[expose] public section

set_option maxRecDepth 16384

noncomputable section

namespace Cert.AttnIdeal.Loop

open Cert.AttnIdeal Cert.AttnIdeal.Gen Cert.AttnIdeal.Offs Cert.Reals Cert.AttnSpec
open Idealize.ShloMosaic Idealize.ShloMosaic.TcCoe Idealize.SL.Sem

/-- The real values of a point's blocks: two heads' queries and output gradients at all rows, with the rows' two sums,
and a tile of keys and values. -/
structure Tiles where
  Q : Fin 2 → Fin 8192 → Fin 128 → ℝ
  C : Fin 2 → Fin 8192 → Fin 128 → ℝ
  L : Fin 2 → Fin 8192 → ℝ
  D : Fin 2 → Fin 8192 → ℝ
  K : Fin 2 → Fin 1024 → Fin 128 → ℝ
  V : Fin 2 → Fin 1024 → Fin 128 → ℝ

namespace Tiles
variable (b : Tiles) (P : Fin 1024 → Fin 1024 → ℝ) (i : Fin 8) (h : Fin 2)

/-- The weights of the tile of keys at the tile `i` of queries. -/
def wt : Fin 1024 → Fin 1024 → ℝ := weight2 (b.K h) (fun t => b.Q h (tile i t)) (fun t => b.L h (tile i t))

/-- The same when it is the keys' own tile. -/
def wd : Fin 1024 → Fin 1024 → ℝ := weight2d (b.K h) (fun t => b.Q h (tile i t)) (fun t => b.L h (tile i t))

/-- The gradient of the scores of weights `P`. -/
def sc : Fin 1024 → Fin 1024 → ℝ := ds P (b.V h) (fun t => b.C h (tile i t)) (fun t => b.D h (tile i t))

def dv (r : Fin 1024) (l : Fin 128) : ℝ := ∑ t, P r t * b.C h (tile i t) l
def dk (r : Fin 1024) (l : Fin 128) : ℝ := ∑ t, b.sc P i h r t * b.Q h (tile i t) l
def dq (t : Fin 1024) (l : Fin 128) : ℝ := (∑ r, b.sc P i h r t * b.K h r l) * scale

end Tiles

/-- The blocks hold these real values. -/
structure Reads (b : Tiles) (x2 : FVec Ideal S2x8192x128 .bf16) (x3 : FVec Ideal S8192x256 .f32) (x4 x5 : FVec Ideal S2x8x1x1024 .f32)
    (x6 x7 : FVec Ideal S2x1024x128 .bf16) : Prop where
  q : ∀ h a l, x2 (ix3 h a l) = ((b.Q h a l : ℝ) : EReal)
  c : ∀ h a l, x3 (ix2 a (pair h l)) = ((b.C h a l : ℝ) : EReal)
  l : ∀ h i r, x4 (ix4 h i 0 r) = ((b.L h (tile i r) : ℝ) : EReal)
  d : ∀ h i r, x5 (ix4 h i 0 r) = ((b.D h (tile i r) : ℝ) : EReal)
  k : ∀ h r l, x6 (ix3 h r l) = ((b.K h r l : ℝ) : EReal)
  v : ∀ h r l, x7 (ix3 h r l) = ((b.V h r l : ℝ) : EReal)

variable (𝒱 : Variants) (c : Dev nD) (bd : Option 𝒱.V) (i : grid0.Coords)
    (arg2 : Memref sig .tc .vmem S2x8192x128 .bf16) (harg2 : arg2.IsWhole)
    (arg3 : Memref sig .tc .vmem S8192x256 .f32) (harg3 : arg3.IsWhole) (arg4 : Memref sig .tc .vmem S2x8x1x1024 .f32)
    (harg4 : arg4.IsWhole) (arg5 : Memref sig .tc .vmem S2x8x1x1024 .f32) (harg5 : arg5.IsWhole)
    (arg6 : Memref sig .tc .vmem S2x1024x128 .bf16) (harg6 : arg6.IsWhole)
    (arg7 : Memref sig .tc .vmem S2x1024x128 .bf16) (harg7 : arg7.IsWhole)
    (arg8 : Memref sig .tc .vmem S2x8192x128 .f32) (harg8 : arg8.IsWhole)
    (arg9 : Memref sig .tc .vmem S2x1024x128 .f32) (harg9 : arg9.IsWhole)
    (arg10 : Memref sig .tc .vmem S2x1024x128 .f32) (harg10 : arg10.IsWhole) (arg1 : BitVec 32)
    (v3 : FVec Ideal S1024x128 .f32) (v5 : BitVec 32) (v31 : FVec Ideal S1024x128 .f32)
    (v44 : FVec Ideal S1024x128 .f32) (v50 : FVec Ideal S1024x128 .f32) (v53 : FVec Ideal S1024x128 .bf16)
    (v56 : FVec Ideal S1024x128 .f32) (v72 : FVec Ideal S1024x1024 .f32) (v73 : FVec Ideal S1024x1024 .bf16)
    (v74 : FVec Ideal S1024x128 .bf16) (v96 : BitVec 32) (X_arg2 : BufTy.Contents (Elt Ideal) arg2.view.ty)
    (X_arg3 : BufTy.Contents (Elt Ideal) arg3.view.ty) (X_arg4 : BufTy.Contents (Elt Ideal) arg4.view.ty)
    (X_arg5 : BufTy.Contents (Elt Ideal) arg5.view.ty) (X_arg6 : BufTy.Contents (Elt Ideal) arg6.view.ty)
    (X_arg7 : BufTy.Contents (Elt Ideal) arg7.view.ty)

section one
variable {b : Tiles} (hr : Reads b (arg2.view.read (Elt Ideal) X_arg2) (arg3.view.read (Elt Ideal) X_arg3)
    (arg4.view.read (Elt Ideal) X_arg4) (arg5.view.read (Elt Ideal) X_arg5) (arg6.view.read (Elt Ideal) X_arg6)
    (arg7.view.read (Elt Ideal) X_arg7)) (k : Fin (k0_t1_loop i).trips)
  (acc : FVec Ideal S1024x128 .f32 × FVec Ideal S1024x128 .f32 × FVec Ideal S1024x128 .f32 × FVec Ideal S1024x128 .f32)
  (f : BufTy.Contents (Elt Ideal) arg8.view.ty) (r : Fin 1024) (l : Fin 128)
include hr

theorem tripR : (tripR_k0_t1 (F := Ideal) 𝒱 c bd i arg2 harg2 arg3 harg3 arg4 harg4 arg5 harg5 arg6 harg6 arg7 harg7 arg8 harg8 arg9 harg9 arg10 harg10 arg1 v3 v5 v31 v44 v50 v53 v56 v72 v73 v74 v96 X_arg2 X_arg3 X_arg4 X_arg5 X_arg6 X_arg7 k acc f).1 (ix2 r l)
        = acc.1 (ix2 r l) + ((b.dk (b.wt (later i k) 0) (later i k) 0 r l : ℝ) : EReal)
    ∧ (tripR_k0_t1 (F := Ideal) 𝒱 c bd i arg2 harg2 arg3 harg3 arg4 harg4 arg5 harg5 arg6 harg6 arg7 harg7 arg8 harg8 arg9 harg9 arg10 harg10 arg1 v3 v5 v31 v44 v50 v53 v56 v72 v73 v74 v96 X_arg2 X_arg3 X_arg4 X_arg5 X_arg6 X_arg7 k acc f).2.1 (ix2 r l)
        = acc.2.1 (ix2 r l) + ((b.dv (b.wt (later i k) 0) (later i k) 0 r l : ℝ) : EReal)
    ∧ (tripR_k0_t1 (F := Ideal) 𝒱 c bd i arg2 harg2 arg3 harg3 arg4 harg4 arg5 harg5 arg6 harg6 arg7 harg7 arg8 harg8 arg9 harg9 arg10 harg10 arg1 v3 v5 v31 v44 v50 v53 v56 v72 v73 v74 v96 X_arg2 X_arg3 X_arg4 X_arg5 X_arg6 X_arg7 k acc f).2.2.1 (ix2 r l)
        = acc.2.2.1 (ix2 r l) + ((b.dk (b.wt (later i k) 1) (later i k) 1 r l : ℝ) : EReal)
    ∧ (tripR_k0_t1 (F := Ideal) 𝒱 c bd i arg2 harg2 arg3 harg3 arg4 harg4 arg5 harg5 arg6 harg6 arg7 harg7 arg8 harg8 arg9 harg9 arg10 harg10 arg1 v3 v5 v31 v44 v50 v53 v56 v72 v73 v74 v96 X_arg2 X_arg3 X_arg4 X_arg5 X_arg6 X_arg7 k acc f).2.2.2 (ix2 r l)
        = acc.2.2.2 (ix2 r l) + ((b.dv (b.wt (later i k) 1) (later i k) 1 r l : ℝ) : EReal) := by
  have q0 := fun inb t l => (ld3 _ _ inb 0 (later i k) (off7 i k) t l).trans (hr.q 0 _ l)
  have c0 := fun inb t l => (ld2 _ _ inb 0 (later i k) (off8 i k) t l).trans (hr.c 0 _ l)
  have l0 := fun inb t => (ld4 _ _ inb 0 (later i k) (off9 i k) t).trans (hr.l 0 _ t)
  have d0 := fun inb t => (ld4 _ _ inb 0 (later i k) (off9 i k) t).trans (hr.d 0 _ t)
  have k0 := fun inb t l => (ldk _ ![0, 0, 0] inb 0 rfl t l).trans (hr.k 0 t l)
  have v0 := fun inb t l => (ldk _ ![0, 0, 0] inb 0 rfl t l).trans (hr.v 0 t l)
  have q1 := fun inb t l => (ld3 _ _ inb 1 (later i k) (off10 i k) t l).trans (hr.q 1 _ l)
  have c1 := fun inb t l => (ld2 _ _ inb 1 (later i k) (off11 i k) t l).trans (hr.c 1 _ l)
  have l1 := fun inb t => (ld4 _ _ inb 1 (later i k) (off12 i k) t).trans (hr.l 1 _ t)
  have d1 := fun inb t => (ld4 _ _ inb 1 (later i k) (off12 i k) t).trans (hr.d 1 _ t)
  have k1 := fun inb t l => (ldk _ ![1, 0, 0] inb 1 rfl t l).trans (hr.k 1 t l)
  have v1 := fun inb t l => (ldk _ ![1, 0, 0] inb 1 rfl t l).trans (hr.v 1 t l)
  unfold tripR_k0_t1 trip_k0_t1
  dsimp only
  unfold trip_k0_t1.sl.r_2 trip_k0_t1.sl.r trip_k0_t1.sl.r_3 trip_k0_t1.sl.r_4 trip_k0_t1.sl.r_5 trip_k0_t1.sl.r_6 trip_k0_t1.sl.r_7
  refine ⟨Pay.pay11 (q0 _) (k0 _) (v0 _) (c0 _) (l0 _) (d0 _) _ r l, Pay.pay9 (q0 _) (k0 _) (c0 _) (l0 _) _ r l, ?_, Pay.pay16 (q1 _) (k1 _) (c1 _) (l1 _) _ r l⟩
  exact Pay.pay50 (fun r l => (Pay.pay14 r l).trans (c1 _ r l)) (d1 _) (Pay.pay15 (q1 _) (k1 _) (l1 _)) (fun r l => (Pay.pay13 r l).trans (q1 _ r l))
    (fun r l => (Pay.pay17 r l).trans (v1 _ r l)) _ r l

theorem tripL (h : Fin 2) (n : Fin 8) (t : Fin 1024) :
    arg8.view.read (Elt Ideal) (arg8.view.writes (Elt Ideal) f (tripL_k0_t1 (F := Ideal) 𝒱 c bd i arg2 harg2 arg3 harg3 arg4 harg4 arg5 harg5 arg6 harg6 arg7 harg7 arg8 harg8 arg9 harg9 arg10 harg10 arg1 v3 v5 v31 v44 v50 v53 v56 v72 v73 v74 v96 X_arg2 X_arg3 X_arg4 X_arg5 X_arg6 X_arg7 k acc f)) (ix3 h (tile n t) l)
      = arg8.view.read (Elt Ideal) f (ix3 h (tile n t) l)
        + ((if n = later i k then b.dq (b.wt (later i k) h) (later i k) h t l else 0 : ℝ) : EReal) := by
  have q0 := fun inb t l => (ld3 _ _ inb 0 (later i k) (off7 i k) t l).trans (hr.q 0 _ l)
  have c0 := fun inb t l => (ld2 _ _ inb 0 (later i k) (off8 i k) t l).trans (hr.c 0 _ l)
  have l0 := fun inb t => (ld4 _ _ inb 0 (later i k) (off9 i k) t).trans (hr.l 0 _ t)
  have d0 := fun inb t => (ld4 _ _ inb 0 (later i k) (off9 i k) t).trans (hr.d 0 _ t)
  have k0 := fun inb t l => (ldk _ ![0, 0, 0] inb 0 rfl t l).trans (hr.k 0 t l)
  have v0 := fun inb t l => (ldk _ ![0, 0, 0] inb 0 rfl t l).trans (hr.v 0 t l)
  have q1 := fun inb t l => (ld3 _ _ inb 1 (later i k) (off10 i k) t l).trans (hr.q 1 _ l)
  have c1 := fun inb t l => (ld2 _ _ inb 1 (later i k) (off11 i k) t l).trans (hr.c 1 _ l)
  have l1 := fun inb t => (ld4 _ _ inb 1 (later i k) (off12 i k) t).trans (hr.l 1 _ t)
  have d1 := fun inb t => (ld4 _ _ inb 1 (later i k) (off12 i k) t).trans (hr.d 1 _ t)
  have k1 := fun inb t l => (ldk _ ![1, 0, 0] inb 1 rfl t l).trans (hr.k 1 t l)
  have v1 := fun inb t l => (ldk _ ![1, 0, 0] inb 1 rfl t l).trans (hr.v 1 t l)
  have o0 := fun inb => ld3 (arg8.view.read (Elt Ideal) f) _ inb 0 (later i k) (off7 i k) t l
  have o1 := fun inb => ld3 (arg8.view.read (Elt Ideal) f) _ inb 1 (later i k) (off10 i k) t l
  unfold tripL_k0_t1 trip_k0_t1
  dsimp only
  unfold trip_k0_t1.sl.r_1 trip_k0_t1.sl.r_4 trip_k0_t1.sl.r_5 trip_k0_t1.sl.r_7 trip_k0_t1.sl.v227
  have out : ∀ {h' : Fin 2}, n ≠ later i k → ((ix3 h (tile n t) l : S2x8192x128.Idx) 1).val < (![h'.val, 1024 * (later i k).val, 0] : Fin 3 → ℕ) 1
      ∨ (![h'.val, 1024 * (later i k).val, 0] : Fin 3 → ℕ) 1 + (![1, 1024, 128] : Fin 3 → ℕ) 1 ≤ ((ix3 h (tile n t) l : S2x8192x128.Idx) 1).val := by
    intro h' hn
    have : n.val ≠ (later i k).val := fun e => hn (Fin.ext e)
    have := t.isLt
    show 1024 * n.val + t.val < 1024 * (later i k).val ∨ 1024 * (later i k).val + 1024 ≤ 1024 * n.val + t.val
    omega
  match h with
  | 0 =>
    rw [View.read_writes_cons_unit_of_not_mem _ _ _ _ _ _ (off10 i k) 0 (Or.inl (by simp))]
    by_cases hn : n = later i k
    · subst hn
      rw [if_pos rfl, View.read_writes_cons_unit_of_mem _ _ _ _ _ _ (ix3 0 t l) (off7 i k) (by intro a; fin_cases a <;> simp [tile])]
      exact (Pay.pay12 (k0 _) (Pay.pay10 (q0 _) (k0 _) (v0 _) (c0 _) (l0 _) (d0 _)) _ t l).trans (congrArg (· + _) (o0 _))
    · rw [if_neg hn, View.read_writes_cons_unit_of_not_mem _ _ _ _ _ _ (off7 i k) 1 (out (h' := 0) hn)]
      simp
  | 1 =>
    by_cases hn : n = later i k
    · subst hn
      rw [if_pos rfl, View.read_writes_cons_unit_of_mem _ _ _ _ _ _ (ix3 0 t l) (off10 i k) (by intro a; fin_cases a <;> simp [tile])]
      exact (Pay.pay51 (k1 _) (fun r l => (Pay.pay14 r l).trans (c1 _ r l)) (d1 _) (Pay.pay15 (q1 _) (k1 _) (l1 _))
        (fun r l => (Pay.pay17 r l).trans (v1 _ r l)) _ t l).trans (congrArg (· + _) (o1 _))
    · rw [if_neg hn, View.read_writes_cons_unit_of_not_mem _ _ _ _ _ _ (off10 i k) 1 (out (h' := 1) hn),
        View.read_writes_cons_unit_of_not_mem _ _ _ _ _ _ (off7 i k) 0 (Or.inr (by simp))]
      simp

end one

/-- The tiles met in the first `n` trips. -/
def met (i : grid0.Coords) (n : ℕ) (a : Fin 8) : Prop := (i 1).val < a.val ∧ a.val ≤ (i 1).val + n

instance (i : grid0.Coords) (n : ℕ) (a : Fin 8) : Decidable (met i n a) := by unfold met; infer_instance

theorem met_succ (k : Fin (k0_t1_loop i).trips) (F : Fin 8 → ℝ) (a : Fin 8) :
    (if met i k.val a then F a else 0) + (if a = later i k then F (later i k) else 0) = if met i (k.val + 1) a then F a else 0 := by
  by_cases e : a = later i k
  · have h1 : ¬ met i k.val a := by unfold met; rw [e]; simp only [later]; omega
    have h2 : met i (k.val + 1) a := by unfold met; rw [e]; simp only [later]; omega
    rw [if_neg h1, if_pos h2, if_pos e, e, zero_add]
  · have : a.val ≠ (i 1).val + 1 + k.val := fun h => e (Fin.ext h)
    have h : met i k.val a ↔ met i (k.val + 1) a := by unfold met; omega
    simp only [h, if_neg e, add_zero]

theorem sum_succ (k : Fin (k0_t1_loop i).trips) (F : Fin 8 → ℝ) :
    (∑ a, if met i k.val a then F a else 0) + F (later i k) = ∑ a, if met i (k.val + 1) a then F a else 0 := by
  rw [← Finset.sum_congr rfl (fun a _ => met_succ i k F a), Finset.sum_add_distrib]
  simp

section all
variable {b : Tiles} (hr : Reads b (arg2.view.read (Elt Ideal) X_arg2) (arg3.view.read (Elt Ideal) X_arg3)
    (arg4.view.read (Elt Ideal) X_arg4) (arg5.view.read (Elt Ideal) X_arg5) (arg6.view.read (Elt Ideal) X_arg6)
    (arg7.view.read (Elt Ideal) X_arg7))
  (init : FVec Ideal S1024x128 .f32 × FVec Ideal S1024x128 .f32 × FVec Ideal S1024x128 .f32 × FVec Ideal S1024x128 .f32)
  (G : BufTy.Contents (Elt Ideal) arg8.view.ty) (n : ℕ)

/-- What `n` trips leave, from what they began with. -/
def After (b : Tiles) (i : grid0.Coords) (n : ℕ)
    (init : FVec Ideal S1024x128 .f32 × FVec Ideal S1024x128 .f32 × FVec Ideal S1024x128 .f32 × FVec Ideal S1024x128 .f32)
    (acc : FVec Ideal S1024x128 .f32 × FVec Ideal S1024x128 .f32 × FVec Ideal S1024x128 .f32 × FVec Ideal S1024x128 .f32)
    (g g' : FVec Ideal S2x8192x128 .f32) : Prop :=
  (∀ r l, acc.1 (ix2 r l) = init.1 (ix2 r l) + ((∑ a, if met i n a then b.dk (b.wt a 0) a 0 r l else 0 : ℝ) : EReal))
  ∧ (∀ r l, acc.2.1 (ix2 r l) = init.2.1 (ix2 r l) + ((∑ a, if met i n a then b.dv (b.wt a 0) a 0 r l else 0 : ℝ) : EReal))
  ∧ (∀ r l, acc.2.2.1 (ix2 r l) = init.2.2.1 (ix2 r l) + ((∑ a, if met i n a then b.dk (b.wt a 1) a 1 r l else 0 : ℝ) : EReal))
  ∧ (∀ r l, acc.2.2.2 (ix2 r l) = init.2.2.2 (ix2 r l) + ((∑ a, if met i n a then b.dv (b.wt a 1) a 1 r l else 0 : ℝ) : EReal))
  ∧ (∀ h a t l, g' (ix3 h (tile a t) l) = g (ix3 h (tile a t) l)
      + ((if met i n a then b.dq (b.wt a h) a h t l else 0 : ℝ) : EReal))

include hr in
theorem loop (hn : n ≤ (k0_t1_loop i).trips) :
    After b i n init (st_k0_t1 (F := Ideal) 𝒱 c bd i arg2 harg2 arg3 harg3 arg4 harg4 arg5 harg5 arg6 harg6 arg7 harg7 arg8 harg8 arg9 harg9 arg10 harg10 arg1 v3 v5 v31 v44 v50 v53 v56 v72 v73 v74 v96 X_arg2 X_arg3 X_arg4 X_arg5 X_arg6 X_arg7 G init n).1 (arg8.view.read (Elt Ideal) G)
      (arg8.view.read (Elt Ideal) (arg8.view.writes (Elt Ideal) G (st_k0_t1 (F := Ideal) 𝒱 c bd i arg2 harg2 arg3 harg3 arg4 harg4 arg5 harg5 arg6 harg6 arg7 harg7 arg8 harg8 arg9 harg9 arg10 harg10 arg1 v3 v5 v31 v44 v50 v53 v56 v72 v73 v74 v96 X_arg2 X_arg3 X_arg4 X_arg5 X_arg6 X_arg7 G init n).2)) := by
  induction n with
  | zero =>
    have h0 : ∀ a, ¬ met i 0 a := fun a => by unfold met; omega
    refine ⟨fun r l => ?_, fun r l => ?_, fun r l => ?_, fun r l => ?_, fun h a t l => ?_⟩ <;>
      simp [h0, st_k0_t1]
  | succ n ih =>
    obtain ⟨h1, h2, h3, h4, h5⟩ := ih (Nat.le_of_succ_le hn)
    have e := st_k0_t1_succ (F := Ideal) 𝒱 c bd i arg2 harg2 arg3 harg3 arg4 harg4 arg5 harg5 arg6 harg6 arg7 harg7 arg8 harg8 arg9 harg9 arg10 harg10 arg1 v3 v5 v31 v44 v50 v53 v56 v72 v73 v74 v96 X_arg2 X_arg3 X_arg4 X_arg5 X_arg6 X_arg7 G init ⟨n, hn⟩
    refine ⟨fun r l => ?_, fun r l => ?_, fun r l => ?_, fun r l => ?_, fun h a t l => ?_⟩
    · rw [e]
      refine (tripR (hr := hr) (k := ⟨n, hn⟩) (r := r) (l := l) ..).1.trans ?_
      rw [h1, add_assoc, ← EReal.coe_add, sum_succ i ⟨n, hn⟩ (fun a => b.dk (b.wt a 0) a 0 r l)]
    · rw [e]
      refine (tripR (hr := hr) (k := ⟨n, hn⟩) (r := r) (l := l) ..).2.1.trans ?_
      rw [h2, add_assoc, ← EReal.coe_add, sum_succ i ⟨n, hn⟩ (fun a => b.dv (b.wt a 0) a 0 r l)]
    · rw [e]
      refine (tripR (hr := hr) (k := ⟨n, hn⟩) (r := r) (l := l) ..).2.2.1.trans ?_
      rw [h3, add_assoc, ← EReal.coe_add, sum_succ i ⟨n, hn⟩ (fun a => b.dk (b.wt a 1) a 1 r l)]
    · rw [e]
      refine (tripR (hr := hr) (k := ⟨n, hn⟩) (r := r) (l := l) ..).2.2.2.trans ?_
      rw [h4, add_assoc, ← EReal.coe_add, sum_succ i ⟨n, hn⟩ (fun a => b.dv (b.wt a 1) a 1 r l)]
    · rw [e, View.writes_append]
      refine (tripL (hr := hr) (k := ⟨n, hn⟩) (l := l) ..).trans ?_
      rw [h5, add_assoc, ← EReal.coe_add, met_succ i ⟨n, hn⟩ (fun a => b.dq (b.wt a h) a h t l)]
end all

/-- The loop over the tiles left over makes no trip. -/
theorem trips2 : ∀ i : grid0.Coords, (k0_t2_loop i).trips = 0 := by decide +kernel

theorem rest (init : FVec Ideal S1024x128 .f32 × FVec Ideal S1024x128 .f32 × FVec Ideal S1024x128 .f32 × FVec Ideal S1024x128 .f32)
    (G : BufTy.Contents (Elt Ideal) arg8.view.ty) (n : ℕ) (hn : n = 0) :
    st_k0_t2 (F := Ideal) 𝒱 c bd i arg2 harg2 arg3 harg3 arg4 harg4 arg5 harg5 arg6 harg6 arg7 harg7 arg8 harg8 arg9 harg9 arg10 harg10 arg1 v3 v5 v31 v44 v50 v53 v56 v72 v73 v74 v96 X_arg2 X_arg3 X_arg4 X_arg5 X_arg6 X_arg7 G init n = (init, []) := by
  subst hn
  rfl

/-- What the trips begin with: the parts of the keys' own tile. -/
def Own (b : Tiles) (j : Fin 8)
    (init : FVec Ideal S1024x128 .f32 × FVec Ideal S1024x128 .f32 × FVec Ideal S1024x128 .f32 × FVec Ideal S1024x128 .f32) : Prop :=
  (∀ r l, init.1 (ix2 r l) = ((b.dk (b.wd j 0) j 0 r l : ℝ) : EReal)) ∧ (∀ r l, init.2.1 (ix2 r l) = ((b.dv (b.wd j 0) j 0 r l : ℝ) : EReal))
  ∧ (∀ r l, init.2.2.1 (ix2 r l) = ((b.dk (b.wd j 1) j 1 r l : ℝ) : EReal))
  ∧ (∀ r l, init.2.2.2 (ix2 r l) = ((b.dv (b.wd j 1) j 1 r l : ℝ) : EReal))

theorem met_all (i : grid0.Coords) (n : ℕ) (hn : n = (k0_t1_loop i).trips) (a : Fin 8) : met i n a ↔ here i < a := by
  have := a.isLt; have := trips i
  unfold met; rw [Fin.lt_def]; simp only [here]; omega

variable {b : Tiles} {i n}
  {init acc : FVec Ideal S1024x128 .f32 × FVec Ideal S1024x128 .f32 × FVec Ideal S1024x128 .f32 × FVec Ideal S1024x128 .f32}
  {g g' : FVec Ideal S2x8192x128 .f32}

/-- What the trips end with. -/
theorem carried (n : ℕ) (hn : n = (k0_t1_loop i).trips) (ho : Own b (here i) init) (ha : After b i n init acc g g') :
    (∀ r l, acc.1 (ix2 r l) = ((b.dk (b.wd (here i) 0) (here i) 0 r l + ∑ a, (if here i < a then b.dk (b.wt a 0) a 0 r l else 0) : ℝ) : EReal))
    ∧ (∀ r l, acc.2.1 (ix2 r l) = ((b.dv (b.wd (here i) 0) (here i) 0 r l + ∑ a, (if here i < a then b.dv (b.wt a 0) a 0 r l else 0) : ℝ) : EReal))
    ∧ (∀ r l, acc.2.2.1 (ix2 r l) = ((b.dk (b.wd (here i) 1) (here i) 1 r l + ∑ a, (if here i < a then b.dk (b.wt a 1) a 1 r l else 0) : ℝ) : EReal))
    ∧ (∀ r l, acc.2.2.2 (ix2 r l) = ((b.dv (b.wd (here i) 1) (here i) 1 r l + ∑ a, (if here i < a then b.dv (b.wt a 1) a 1 r l else 0) : ℝ) : EReal))
    ∧ (∀ h a t l, g' (ix3 h (tile a t) l) = g (ix3 h (tile a t) l)
        + ((if here i < a then b.dq (b.wt a h) a h t l else 0 : ℝ) : EReal)) := by
  obtain ⟨o1, o2, o3, o4⟩ := ho
  obtain ⟨h1, h2, h3, h4, h5⟩ := ha
  simp only [met_all i n hn] at h1 h2 h3 h4 h5
  exact ⟨fun r l => by rw [h1, o1, EReal.coe_add], fun r l => by rw [h2, o2, EReal.coe_add],
    fun r l => by rw [h3, o3, EReal.coe_add], fun r l => by rw [h4, o4, EReal.coe_add], h5⟩

end Cert.AttnIdeal.Loop

end
-- ==== Proof.Attn.Tiled.lean ====
/- The three gradients as sums over tiles: what a pair of a tile of keys and a tile of queries computes is that pair's
   part of the gradients, the pairs with later keys than queries contribute nothing, and a head's lanes past its width
   meet zeros. -/
module

public import proofs.«01_k».proof.Proof.Attn.Loop

@[expose] public section

set_option maxRecDepth 16384

noncomputable section

namespace Cert.AttnIdeal.Tiled

open Cert.AttnIdeal Cert.AttnIdeal.Offs Cert.AttnIdeal.Loop Cert.Reals Cert.AttnSpec
open Idealize.ShloMosaic Idealize.ShloMosaic.TcCoe Idealize.SL.Sem

/-- The heads of a pair. -/
def head (p h : Fin 2) : Fin 4 := ⟨2 * p.val + h.val, by have := p.isLt; have := h.isLt; omega⟩

variable (q k : Fin 8192 → Fin 4 → Fin 96 → ℝ) (v c : Fin 8192 → Fin 4 → Fin 64 → ℝ) (p : Fin 2) (j : Fin 8)

/-- The blocks of a pair of heads and a tile of keys; the value's lane after its width holds one. -/
def tiles : Tiles where
  Q h a l := lane 128 (q a (head p h)) l
  C h a l := lane 128 (c a (head p h)) l
  L h a := lse q k (head p h) a / Real.log 2
  D h a := delta q k v c (head p h) a
  K h r l := lane 128 (k (tile j r) (head p h)) l
  V h r l := lane 128 (v (tile j r) (head p h)) l + if l.val = 64 then 1 else 0

theorem tile_le {i j : Fin 8} (h : j < i) (r t : Fin 1024) : tile j r ≤ tile i t := by
  have := Fin.lt_def.1 h; have := r.isLt
  rw [Fin.le_def]; simp only [tile]; omega

theorem not_tile_le {i j : Fin 8} (h : i < j) (r t : Fin 1024) : ¬tile j r ≤ tile i t := by
  have := Fin.lt_def.1 h; have := t.isLt
  rw [Fin.le_def]; simp only [tile]; omega

theorem weight2_eq (h : Fin 2) (i : Fin 8) (r t : Fin 1024) :
    weight2 ((tiles q k v c p j).K h) (fun t => (tiles q k v c p j).Q h (tile i t)) (fun t => (tiles q k v c p j).L h (tile i t)) r t
      = Real.exp (score q k (head p h) (tile i t) (tile j r) - lse q k (head p h) (tile i t)) := by
  have h2 : Real.log 2 ≠ 0 := (Real.log_pos one_lt_two).ne'
  unfold weight2 tiles
  dsimp only
  rw [sum_lane_lane (by norm_num), Real.rpow_eq_pow, Real.rpow_def_of_pos two_pos, score]
  congr 1
  rw [Finset.sum_congr rfl (fun d _ => mul_comm (k (tile j r) (head p h) d) (q (tile i t) (head p h) d))]
  field_simp

/-- The weights at a tile of later queries. -/
theorem wt_eq {i : Fin 8} (hij : j < i) (h : Fin 2) :
    (tiles q k v c p j).wt i h = fun r t => prob q k (head p h) (tile i t) (tile j r) := by
  funext r t
  rw [prob_exp, if_pos (tile_le hij r t)]
  exact weight2_eq q k v c p j h i r t

/-- The weights at the keys' own tile. -/
theorem wd_eq (h : Fin 2) : (tiles q k v c p j).wd j h = fun r t => prob q k (head p h) (tile j t) (tile j r) := by
  funext r t
  rw [prob_exp]
  unfold Tiles.wd weight2d
  rw [weight2_eq]
  have : r ≤ t ↔ tile j r ≤ tile j t := by simp only [Fin.le_def, tile]; omega
  simp only [this]

theorem sc_eq (i : Fin 8) (h : Fin 2) (r t : Fin 1024) :
    (tiles q k v c p j).sc (fun r t => prob q k (head p h) (tile i t) (tile j r)) i h r t
      = dscore q k v c (head p h) (tile i t) (tile j r) := by
  unfold Tiles.sc ds tiles dscore dprob
  dsimp only
  have e : ∑ l : Fin 128, (lane 128 (v (tile j r) (head p h)) l + if l.val = 64 then 1 else 0) * lane 128 (c (tile i t) (head p h)) l
      = ∑ d : Fin 64, c (tile i t) (head p h) d * v (tile j r) (head p h) d := by
    rw [Finset.sum_congr rfl (fun l _ => mul_comm _ _), sum_lane (by norm_num)]
    refine Finset.sum_congr rfl fun d _ => ?_
    rw [lane_castLE, if_neg (by simp only [Fin.val_castLE]; have := d.isLt; omega), add_zero]
  rw [e]

/-- The part of a row's gradient that a tile of keys gives. -/
def part (h : Fin 2) (i : Fin 8) (t : Fin 1024) (l : Fin 128) : ℝ :=
  (∑ r, dscore q k v c (head p h) (tile i t) (tile j r) * lane 128 (k (tile j r) (head p h)) l) * scale

theorem part_early {i : Fin 8} (hij : i < j) (h : Fin 2) (t : Fin 1024) (l : Fin 128) : part q k v c p j h i t l = 0 := by
  unfold part
  simp only [dscore_masked q k v c (not_tile_le hij _ _), zero_mul, Finset.sum_const_zero]

theorem dq_late {i : Fin 8} (hij : j < i) (h : Fin 2) (t : Fin 1024) (l : Fin 128) :
    (tiles q k v c p j).dq ((tiles q k v c p j).wt i h) i h t l = part q k v c p j h i t l := by
  unfold Tiles.dq part
  rw [wt_eq q k v c p j hij]
  simp only [sc_eq]
  rfl

theorem dq_own (h : Fin 2) (t : Fin 1024) (l : Fin 128) :
    (tiles q k v c p j).dq ((tiles q k v c p j).wd j h) j h t l = part q k v c p j h j t l := by
  unfold Tiles.dq part
  rw [wd_eq q k v c p j]
  simp only [sc_eq]
  rfl

/-- A sum over rows, a tile at a time. -/
theorem sum_tiles (F : Fin 8192 → ℝ) : ∑ a, F a = ∑ i, ∑ t, F (tile i t) :=
  (Fin.sum_mul_add_fin 8 1024 F).symm.trans (Finset.sum_congr rfl fun i _ => Finset.sum_congr rfl fun t _ =>
    congrArg F (Fin.ext (by simp only [tile]; omega)))

theorem sum_part (h : Fin 2) (i : Fin 8) (t : Fin 1024) (l : Fin 128) :
    ∑ j, part q k v c p j h i t l = AttnSpec.dq q k v c (head p h) (tile i t) l := by
  unfold part AttnSpec.dq
  rw [sum_tiles]
  simp only [Finset.sum_mul]

/-- The keys' own tile and the later ones make up the whole sum. -/
theorem sum_late (F : Fin 8 → ℝ) (hF : ∀ i < j, F i = 0) : F j + ∑ i, (if j < i then F i else 0) = ∑ i, F i := by
  rw [← Finset.sum_filter, ← Finset.sum_subset (Finset.subset_univ (Finset.univ.filter (fun i => j ≤ i)))
    (fun i _ hi => hF i (by simpa using hi)), add_comm]
  have : Finset.univ.filter (fun i => j ≤ i) = insert j (Finset.univ.filter (fun i => j < i)) := by
    ext i; simp [le_iff_eq_or_lt, eq_comm]
  rw [this, Finset.sum_insert (by simp), add_comm]

theorem dv_all (h : Fin 2) (r : Fin 1024) (l : Fin 128) :
    (tiles q k v c p j).dv ((tiles q k v c p j).wd j h) j h r l
        + ∑ i, (if j < i then (tiles q k v c p j).dv ((tiles q k v c p j).wt i h) i h r l else 0)
      = AttnSpec.dv q k c (head p h) (tile j r) l := by
  rw [AttnSpec.dv, sum_tiles]
  refine Eq.trans ?_ (sum_late j (fun i => ∑ t, prob q k (head p h) (tile i t) (tile j r) * lane 128 (c (tile i t) (head p h)) l)
    (fun i hi => by simp only [prob_masked q k (not_tile_le hi _ _), zero_mul, Finset.sum_const_zero]))
  refine congrArg₂ (· + ·) ?_ ?_
  · unfold Tiles.dv; rw [wd_eq]; rfl
  · refine Finset.sum_congr rfl fun i _ => ?_
    by_cases hi : j < i
    · rw [if_pos hi, if_pos hi]; unfold Tiles.dv; rw [wt_eq q k v c p j hi]; rfl
    · rw [if_neg hi, if_neg hi]

theorem dk_all (h : Fin 2) (r : Fin 1024) (l : Fin 128) :
    ((tiles q k v c p j).dk ((tiles q k v c p j).wd j h) j h r l
        + ∑ i, (if j < i then (tiles q k v c p j).dk ((tiles q k v c p j).wt i h) i h r l else 0)) * scale
      = AttnSpec.dk q k v c (head p h) (tile j r) l := by
  rw [AttnSpec.dk, sum_tiles]
  refine congrArg (· * scale) (Eq.trans ?_ (sum_late j
    (fun i => ∑ t, dscore q k v c (head p h) (tile i t) (tile j r) * lane 128 (q (tile i t) (head p h)) l)
    (fun i hi => by simp only [dscore_masked q k v c (not_tile_le hi _ _), zero_mul, Finset.sum_const_zero])))
  refine congrArg₂ (· + ·) ?_ ?_
  · unfold Tiles.dk; rw [wd_eq]; simp only [sc_eq]; rfl
  · refine Finset.sum_congr rfl fun i _ => ?_
    by_cases hi : j < i
    · rw [if_pos hi, if_pos hi]; unfold Tiles.dk; rw [wt_eq q k v c p j hi]; simp only [sc_eq]; rfl
    · rw [if_neg hi, if_neg hi]

end Cert.AttnIdeal.Tiled

end
-- ==== Proof.Attn.Point.lean ====
/- What a point of attention's gradient leaves in its blocks. -/
module

public import proofs.«01_k».proof.Proof.Attn.Tiled

@[expose] public section

set_option maxRecDepth 16384

noncomputable section

namespace Cert.AttnIdeal.Point

open Cert.AttnIdeal Cert.AttnIdeal.Gen Cert.AttnIdeal.Offs Cert.AttnIdeal.Loop Cert.Reals Cert.AttnSpec
open Idealize.ShloMosaic Idealize.ShloMosaic.TcCoe Idealize.SL.Sem

section own
variable {b : Tiles} {x2 : FVec Ideal S2x8192x128 .bf16} {x3 : FVec Ideal S8192x256 .f32} {x4 x5 : FVec Ideal S2x8x1x1024 .f32}
    {x6 x7 : FVec Ideal S2x1024x128 .bf16} (hr : Reads b x2 x3 x4 x5 x6 x7) (i : grid0.Coords)
include hr

theorem q0 (inb) (r : Fin 1024) (l : Fin 128) : View.ld (Val := Elt Ideal) (e' := EltTy.bf16) x2 (Rect.unit (k0_off1 i) ![1, 1024, 128] inb) (ix3 0 r l) = ((b.Q 0 (tile (here i) r) l : ℝ) : EReal) :=
  (ld3 _ _ inb 0 (here i) (off1 i) r l).trans (hr.q 0 _ l)
theorem q1 (inb) (r : Fin 1024) (l : Fin 128) : View.ld (Val := Elt Ideal) (e' := EltTy.bf16) x2 (Rect.unit (k0_off4 i) ![1, 1024, 128] inb) (ix3 0 r l) = ((b.Q 1 (tile (here i) r) l : ℝ) : EReal) :=
  (ld3 _ _ inb 1 (here i) (off4 i) r l).trans (hr.q 1 _ l)
theorem c0 (inb) (r : Fin 1024) (l : Fin 128) : View.ld (Val := Elt Ideal) (e' := EltTy.f32) x3 (Rect.unit (k0_off2 i) ![1024, 128] inb) (ix2 r l) = ((b.C 0 (tile (here i) r) l : ℝ) : EReal) :=
  (ld2 _ _ inb 0 (here i) (off2 i) r l).trans (hr.c 0 _ l)
theorem c1 (inb) (r : Fin 1024) (l : Fin 128) : View.ld (Val := Elt Ideal) (e' := EltTy.f32) x3 (Rect.unit (k0_off5 i) ![1024, 128] inb) (ix2 r l) = ((b.C 1 (tile (here i) r) l : ℝ) : EReal) :=
  (ld2 _ _ inb 1 (here i) (off5 i) r l).trans (hr.c 1 _ l)
theorem l0 (inb) (r : Fin 1024) : View.ld (Val := Elt Ideal) (e' := EltTy.f32) x4 (Rect.unit (k0_off3 i) ![1, 1, 1, 1024] inb) (ix4 0 0 0 r) = ((b.L 0 (tile (here i) r) : ℝ) : EReal) :=
  (ld4 _ _ inb 0 (here i) (off3 i) r).trans (hr.l 0 _ r)
theorem l1 (inb) (r : Fin 1024) : View.ld (Val := Elt Ideal) (e' := EltTy.f32) x4 (Rect.unit (k0_off6 i) ![1, 1, 1, 1024] inb) (ix4 0 0 0 r) = ((b.L 1 (tile (here i) r) : ℝ) : EReal) :=
  (ld4 _ _ inb 1 (here i) (off6 i) r).trans (hr.l 1 _ r)
theorem d0 (inb) (r : Fin 1024) : View.ld (Val := Elt Ideal) (e' := EltTy.f32) x5 (Rect.unit (k0_off3 i) ![1, 1, 1, 1024] inb) (ix4 0 0 0 r) = ((b.D 0 (tile (here i) r) : ℝ) : EReal) :=
  (ld4 _ _ inb 0 (here i) (off3 i) r).trans (hr.d 0 _ r)
theorem d1 (inb) (r : Fin 1024) : View.ld (Val := Elt Ideal) (e' := EltTy.f32) x5 (Rect.unit (k0_off6 i) ![1, 1, 1, 1024] inb) (ix4 0 0 0 r) = ((b.D 1 (tile (here i) r) : ℝ) : EReal) :=
  (ld4 _ _ inb 1 (here i) (off6 i) r).trans (hr.d 1 _ r)
theorem k0 (inb) (r : Fin 1024) (l : Fin 128) : View.ld (Val := Elt Ideal) (e' := EltTy.bf16) x6 (Rect.unit ![0, 0, 0] ![1, 1024, 128] inb) (ix3 0 r l) = ((b.K 0 r l : ℝ) : EReal) :=
  (ldk _ _ inb 0 rfl r l).trans (hr.k 0 r l)
theorem k1 (inb) (r : Fin 1024) (l : Fin 128) : View.ld (Val := Elt Ideal) (e' := EltTy.bf16) x6 (Rect.unit ![1, 0, 0] ![1, 1024, 128] inb) (ix3 0 r l) = ((b.K 1 r l : ℝ) : EReal) :=
  (ldk _ _ inb 1 rfl r l).trans (hr.k 1 r l)
theorem v0 (inb) (r : Fin 1024) (l : Fin 128) : View.ld (Val := Elt Ideal) (e' := EltTy.bf16) x7 (Rect.unit ![0, 0, 0] ![1, 1024, 128] inb) (ix3 0 r l) = ((b.V 0 r l : ℝ) : EReal) :=
  (ldk _ _ inb 0 rfl r l).trans (hr.v 0 r l)
theorem v1 (inb) (r : Fin 1024) (l : Fin 128) : View.ld (Val := Elt Ideal) (e' := EltTy.bf16) x7 (Rect.unit ![1, 0, 0] ![1, 1024, 128] inb) (ix3 0 r l) = ((b.V 1 r l : ℝ) : EReal) :=
  (ldk _ _ inb 1 rfl r l).trans (hr.v 1 r l)

/-- What the trips begin with. -/
theorem own (a1 a2 a3 a4 a5 a6 b6 b7 d6 d7) : Own b (here i)
    (k0_pay38 (F := Ideal) k0_pay31 (k0_pay32 (View.ld (Val := Elt Ideal) (e' := EltTy.bf16) x2 (Rect.unit (k0_off1 i) ![1, 1024, 128] a1)))
        (k0_pay34 (View.ld (Val := Elt Ideal) (e' := EltTy.bf16) x2 (Rect.unit (k0_off1 i) ![1, 1024, 128] a1)) (View.ld (Val := Elt Ideal) (e' := EltTy.bf16) x6 (Rect.unit ![0, 0, 0] ![1, 1024, 128] b6))
          (View.ld (Val := Elt Ideal) (e' := EltTy.f32) x4 (Rect.unit (k0_off3 i) ![1, 1, 1, 1024] a3)))
        (k0_pay36 (View.ld (Val := Elt Ideal) (e' := EltTy.f32) x3 (Rect.unit (k0_off2 i) ![1024, 128] a2)) (View.ld (Val := Elt Ideal) (e' := EltTy.bf16) x7 (Rect.unit ![0, 0, 0] ![1, 1024, 128] b7)))
        (View.ld (Val := Elt Ideal) (e' := EltTy.f32) x5 (Rect.unit (k0_off3 i) ![1, 1, 1, 1024] a3)),
      k0_pay35 (View.ld (Val := Elt Ideal) (e' := EltTy.bf16) x2 (Rect.unit (k0_off1 i) ![1, 1024, 128] a1)) (View.ld (Val := Elt Ideal) (e' := EltTy.f32) x3 (Rect.unit (k0_off2 i) ![1024, 128] a2))
        (View.ld (Val := Elt Ideal) (e' := EltTy.bf16) x6 (Rect.unit ![0, 0, 0] ![1, 1024, 128] b6)) (View.ld (Val := Elt Ideal) (e' := EltTy.f32) x4 (Rect.unit (k0_off3 i) ![1, 1, 1, 1024] a3)),
      k0_pay47 k0_pay31 (k0_pay40 (View.ld (Val := Elt Ideal) (e' := EltTy.bf16) x2 (Rect.unit (k0_off4 i) ![1, 1024, 128] a4)))
        (k0_pay41 (View.ld (Val := Elt Ideal) (e' := EltTy.f32) x3 (Rect.unit (k0_off5 i) ![1024, 128] a5)))
        (k0_pay42 (View.ld (Val := Elt Ideal) (e' := EltTy.bf16) x2 (Rect.unit (k0_off4 i) ![1, 1024, 128] a4)) (View.ld (Val := Elt Ideal) (e' := EltTy.bf16) x6 (Rect.unit ![1, 0, 0] ![1, 1024, 128] d6))
          (View.ld (Val := Elt Ideal) (e' := EltTy.f32) x4 (Rect.unit (k0_off6 i) ![1, 1, 1, 1024] a6)))
        (View.ld (Val := Elt Ideal) (e' := EltTy.bf16) x7 (Rect.unit ![1, 0, 0] ![1, 1024, 128] d7)) (View.ld (Val := Elt Ideal) (e' := EltTy.f32) x5 (Rect.unit (k0_off6 i) ![1, 1, 1, 1024] a6)),
      k0_pay45 k0_pay31
        (k0_pay43 (View.ld (Val := Elt Ideal) (e' := EltTy.bf16) x2 (Rect.unit (k0_off4 i) ![1, 1024, 128] a4)) (View.ld (Val := Elt Ideal) (e' := EltTy.bf16) x6 (Rect.unit ![1, 0, 0] ![1, 1024, 128] d6))
          (View.ld (Val := Elt Ideal) (e' := EltTy.f32) x4 (Rect.unit (k0_off6 i) ![1, 1, 1, 1024] a6)))
        (k0_pay44 (View.ld (Val := Elt Ideal) (e' := EltTy.f32) x3 (Rect.unit (k0_off5 i) ![1024, 128] a5)))) :=
  ⟨fun r l => Pay.pay38 (v0 hr _) (c0 hr i _) (d0 hr i _) (Pay.pay34 (q0 hr i _) (k0 hr _) (l0 hr i _))
      (fun r l => (Pay.pay32 r l).trans (q0 hr i _ r l)) r l,
    fun r l => Pay.pay35 (q0 hr i _) (k0 hr _) (c0 hr i _) (l0 hr i _) r l,
    fun r l => Pay.pay47 (v1 hr _) (fun r l => (Pay.pay41 r l).trans (c1 hr i _ r l)) (d1 hr i _)
      (Pay.pay42 (q1 hr i _) (k1 hr _) (l1 hr i _)) (fun r l => (Pay.pay40 r l).trans (q1 hr i _ r l)) r l,
    fun r l => Pay.pay45 (Pay.pay43 (q1 hr i _) (k1 hr _) (l1 hr i _)) (fun r l => (Pay.pay44 r l).trans (c1 hr i _ r l)) r l⟩
end own

/-- The newest piece at an index it covers. -/
theorem canon_mem {S : Shape} {e : EltTy} {off size : Fin S.rank → ℕ} (inb : ∀ a, off a + size a ≤ S.size a)
    (w : (Rect.unit off size inb).shape.Idx → Elt Ideal e) (L : List (View.Piece (Elt Ideal) S e)) (y : S.Idx)
    (x : (Rect.unit off size inb).shape.Idx) (hx : ∀ a, (y a).val = off a + (x a).val) :
    View.canon ((⟨Rect.unit off size inb, w⟩ : View.Piece (Elt Ideal) S e) :: L) y = w x := by
  have : (Rect.unit off size inb).emb x = y := funext fun a => Fin.ext (by
    show off a + 1 * (x a).val = (y a).val
    rw [hx a, Nat.one_mul])
  rw [← this]
  exact View.canon_cons_emb _ w L x

/-- The keys' own tile is added to the rows last. -/
theorem store (w : View sig .tc .vmem S2x8192x128 .f32) (G : w.ty.Contents (Elt Ideal)) (L : List (View.Piece (Elt Ideal) S2x8192x128 .f32))
    (i : grid0.Coords) {y0 y1 : FVec Ideal S1024x128 .f32} {A : Fin 2 → Fin 1024 → Fin 128 → ℝ}
    (h0 : ∀ r l, y0 (ix2 r l) = ((A 0 r l : ℝ) : EReal)) (h1 : ∀ r l, y1 (ix2 r l) = ((A 1 r l : ℝ) : EReal))
    (in1 in4) (h : Fin 2) (a : Fin 8) (r : Fin 1024) (l : Fin 128) :
    w.read (Elt Ideal) (w.writes (Elt Ideal) G
        (⟨Rect.unit (k0_off4 i) ![1, 1024, 128] in4, k0_pay3 (F := Ideal) y1 (View.ld (w.read (Elt Ideal) (w.writes (Elt Ideal) G
            (⟨Rect.unit (k0_off1 i) ![1, 1024, 128] in1, k0_pay55 (F := Ideal) y0 (View.ld (w.read (Elt Ideal) (w.writes (Elt Ideal) G L))
              (Rect.unit (k0_off1 i) ![1, 1024, 128] in1))⟩ :: L))) (Rect.unit (k0_off4 i) ![1, 1024, 128] in4))⟩
          :: ⟨Rect.unit (k0_off1 i) ![1, 1024, 128] in1, k0_pay55 (F := Ideal) y0 (View.ld (w.read (Elt Ideal) (w.writes (Elt Ideal) G L))
              (Rect.unit (k0_off1 i) ![1, 1024, 128] in1))⟩ :: L)) (ix3 h (tile a r) l)
      = w.read (Elt Ideal) (w.writes (Elt Ideal) G L) (ix3 h (tile a r) l) + ((if a = here i then A h r l else 0 : ℝ) : EReal) := by
  have out : ∀ {h' : Fin 2}, a ≠ here i → ((ix3 h (tile a r) l : S2x8192x128.Idx) 1).val < (![h'.val, 1024 * (here i).val, 0] : Fin 3 → ℕ) 1
      ∨ (![h'.val, 1024 * (here i).val, 0] : Fin 3 → ℕ) 1 + (![1, 1024, 128] : Fin 3 → ℕ) 1 ≤ ((ix3 h (tile a r) l : S2x8192x128.Idx) 1).val := by
    intro h' hn
    have : a.val ≠ (here i).val := fun e => hn (Fin.ext e)
    have := r.isLt
    show 1024 * a.val + r.val < 1024 * (here i).val ∨ 1024 * (here i).val + 1024 ≤ 1024 * a.val + r.val
    omega
  match h with
  | 0 =>
    rw [View.read_writes_cons_unit_of_not_mem _ _ _ _ _ _ (off4 i) 0 (Or.inl (by simp))]
    by_cases hn : a = here i
    · subst hn
      rw [if_pos rfl, View.read_writes_cons_unit_of_mem _ _ _ _ _ _ (ix3 0 r l) (off1 i) (by intro a; fin_cases a <;> simp [tile])]
      exact (Pay.pay55 _ r l).trans (congrArg₂ (· + ·) (ld3 _ _ _ 0 (here i) (off1 i) r l) (h0 r l))
    · rw [if_neg hn, View.read_writes_cons_unit_of_not_mem _ _ _ _ _ _ (off1 i) 1 (out (h' := 0) hn)]
      simp
  | 1 =>
    by_cases hn : a = here i
    · subst hn
      rw [if_pos rfl, View.read_writes_cons_unit_of_mem _ _ _ _ _ _ (ix3 0 r l) (off4 i) (by intro a; fin_cases a <;> simp [tile])]
      refine (Pay.pay3 _ r l).trans (congrArg₂ (· + ·) ((ld3 _ _ _ 1 (here i) (off4 i) r l).trans ?_) (h1 r l))
      exact View.read_writes_cons_unit_of_not_mem _ _ _ _ _ _ (off1 i) 0 (Or.inr (by simp))
    · rw [if_neg hn, View.read_writes_cons_unit_of_not_mem _ _ _ _ _ _ (off4 i) 1 (out (h' := 1) hn),
        View.read_writes_cons_unit_of_not_mem _ _ _ _ _ _ (off1 i) 0 (Or.inr (by simp))]
      simp

theorem zeros (h : Fin 2) (a : Fin 8192) (l : Fin 128) : k0_pay30 (F := Ideal) (ix3 h a l) = 0 := by
  pointwise [k0_pay30]

/-- What a point adds to a row of the queries' gradient. -/
def added (b : Tiles) (j : Fin 8) (h : Fin 2) (a : Fin 8) (r : Fin 1024) (l : Fin 128) : ℝ :=
  (if j < a then b.dq (b.wt a h) a h r l else 0) + (if a = j then b.dq (b.wd j h) j h r l else 0)

variable (m : (ℓ : Loc nD τ sig) → Buf (Elt Ideal) ℓ) (c : Dev nD) (t : Fin cfg0.N) {b : Tiles}
  (hr : Reads b (iblk m c 0 t) (iblk m c 1 t) (iblk m c 2 t) (iblk m c 3 t) (iblk m c 4 t) (iblk m c 5 t))
include hr

set_option maxHeartbeats 2000000 in
/-- The gradient of a tile's keys. -/
theorem after7 (h : Fin 2) (r : Fin 1024) (l : Fin 128) :
    (outsAt0 m c t.val t.isLt).2.1 (ix3 h r l)
      = (((b.dk (b.wd (here (grid0.coords t)) h) (here (grid0.coords t)) h r l
          + ∑ a, (if here (grid0.coords t) < a then b.dk (b.wt a h) a h r l else 0)) * scale : ℝ) : EReal) := by
  by_cases h0 : t.val % 8 = 0
  on_goal 1 => rw [outsAt0_A m c t h0]
  on_goal 2 => rw [outsAt0_B m c t h0]
  all_goals
    frame_out
    match h with
    | 0 =>
      rw [View.canon_cons_of_not_mem _ _ (by rw [Rect.mem_set_unit]; intro hall; simpa using (hall 0).1),
        canon_mem _ _ _ _ (ix3 0 r l) (by intro a; fin_cases a <;> simp)]
      refine Pay.pay1 (A := fun r l => b.dk (b.wd (here (grid0.coords t)) 0) (here (grid0.coords t)) 0 r l
          + ∑ a, (if here (grid0.coords t) < a then b.dk (b.wt a 0) a 0 r l else 0)) (fun r l => ?_) r l
      rw [rest (hn := trips2 (grid0.coords t))]
      dsimp only
      refine (carried (b := b) (i := grid0.coords t) _ ?_ ?_ (loop (hr := ?_) (hn := ?_) ..)).1 r l
      · rfl
      · exact own hr (grid0.coords t) ..
      · simpa only [Memref.IsWhole.read_unread] using hr
      · exact le_rfl
    | 1 =>
      rw [canon_mem _ _ _ _ (ix3 0 r l) (by intro a; fin_cases a <;> simp)]
      refine Pay.pay4 (A := fun r l => b.dk (b.wd (here (grid0.coords t)) 1) (here (grid0.coords t)) 1 r l
          + ∑ a, (if here (grid0.coords t) < a then b.dk (b.wt a 1) a 1 r l else 0)) (fun r l => ?_) r l
      rw [rest (hn := trips2 (grid0.coords t))]
      dsimp only
      refine (carried (b := b) (i := grid0.coords t) _ ?_ ?_ (loop (hr := ?_) (hn := ?_) ..)).2.2.1 r l
      · rfl
      · exact own hr (grid0.coords t) ..
      · simpa only [Memref.IsWhole.read_unread] using hr
      · exact le_rfl

set_option maxHeartbeats 2000000 in
/-- The gradient of its values. -/
theorem after8 (h : Fin 2) (r : Fin 1024) (l : Fin 128) :
    (outsAt0 m c t.val t.isLt).2.2 (ix3 h r l)
      = (((b.dv (b.wd (here (grid0.coords t)) h) (here (grid0.coords t)) h r l
          + ∑ a, (if here (grid0.coords t) < a then b.dv (b.wt a h) a h r l else 0)) : ℝ) : EReal) := by
  by_cases h0 : t.val % 8 = 0
  on_goal 1 => rw [outsAt0_A m c t h0]
  on_goal 2 => rw [outsAt0_B m c t h0]
  all_goals
    frame_out
    match h with
    | 0 =>
      rw [View.canon_cons_of_not_mem _ _ (by rw [Rect.mem_set_unit]; intro hall; simpa using (hall 0).1),
        canon_mem _ _ _ _ (ix3 0 r l) (by intro a; fin_cases a <;> simp)]
      refine (Pay.pay2 r l).trans ?_
      rw [rest (hn := trips2 (grid0.coords t))]
      dsimp only
      refine (carried (b := b) (i := grid0.coords t) _ ?_ ?_ (loop (hr := ?_) (hn := ?_) ..)).2.1 r l
      · rfl
      · exact own hr (grid0.coords t) ..
      · simpa only [Memref.IsWhole.read_unread] using hr
      · exact le_rfl
    | 1 =>
      rw [canon_mem _ _ _ _ (ix3 0 r l) (by intro a; fin_cases a <;> simp)]
      refine (Pay.pay5 r l).trans ?_
      rw [rest (hn := trips2 (grid0.coords t))]
      dsimp only
      refine (carried (b := b) (i := grid0.coords t) _ ?_ ?_ (loop (hr := ?_) (hn := ?_) ..)).2.2.2.1 r l
      · rfl
      · exact own hr (grid0.coords t) ..
      · simpa only [Memref.IsWhole.read_unread] using hr
      · exact le_rfl

set_option maxHeartbeats 2000000 in
/-- The gradient of all rows' queries, at the first tile of keys. -/
theorem after6_first (h0 : t.val % 8 = 0) (h : Fin 2) (a : Fin 8) (r : Fin 1024) (l : Fin 128) :
    (outsAt0 m c t.val t.isLt).1 (ix3 h (tile a r) l) = ((added b (here (grid0.coords t)) h a r l : ℝ) : EReal) := by
  rw [outsAt0_A m c t h0]
  frame_out
  rw [rest (hn := trips2 (grid0.coords t))]
  dsimp only
  rw [List.nil_append]
  simp only [← View.read_writes_junk_eq_canon (ms0_6 t).view]
  refine (store (A := fun h r l => b.dq (b.wd (here (grid0.coords t)) h) (here (grid0.coords t)) h r l) _ _ _ (grid0.coords t) ?_ ?_ _ _ h a r l).trans ?_
  · exact Pay.pay39 (k0 hr _) (v0 hr _) (c0 hr _ _) (d0 hr _ _) (Pay.pay34 (q0 hr _ _) (k0 hr _) (l0 hr _ _))
  · exact Pay.pay48 (k1 hr _) (v1 hr _) (fun r l => (Pay.pay41 r l).trans (c1 hr _ _ r l)) (d1 hr _ _) (Pay.pay42 (q1 hr _ _) (k1 hr _) (l1 hr _ _))
  rw [View.writes_append]
  rw [(carried (b := b) (i := grid0.coords t) _ ?_ ?_ (loop (hr := ?_) (hn := ?_) ..)).2.2.2.2 h a r l]
  · refine (congrArg (fun x => x + _ + _) ((congrFun ((View.read_writes_junk_eq_canon _ _).trans
      (View.canon_cons_unit_lit _ _ _ (by decide))) _).trans (zeros _ _ _))).trans ?_
    rw [zero_add, ← EReal.coe_add]
    rfl
  · rfl
  · exact own hr (grid0.coords t) ..
  · simpa only [Memref.IsWhole.read_unread] using hr
  · exact le_rfl

set_option maxHeartbeats 2000000 in
/-- The same at a later tile, over what the tile before left. -/
theorem after6_next (h0 : ¬t.val % 8 = 0) (h : Fin 2) (a : Fin 8) (r : Fin 1024) (l : Fin 128) :
    (outsAt0 m c t.val t.isLt).1 (ix3 h (tile a r) l)
      = (outsAt0 m c (t.val - 1) (by omega)).1 (ix3 h (tile a r) l) + ((added b (here (grid0.coords t)) h a r l : ℝ) : EReal) := by
  rw [outsAt0_B m c t h0]
  frame_out
  rw [rest (hn := trips2 (grid0.coords t))]
  dsimp only
  rw [List.nil_append]
  refine (store (A := fun h r l => b.dq (b.wd (here (grid0.coords t)) h) (here (grid0.coords t)) h r l) _ _ _ (grid0.coords t) ?_ ?_ _ _ h a r l).trans ?_
  · exact Pay.pay39 (k0 hr _) (v0 hr _) (c0 hr _ _) (d0 hr _ _) (Pay.pay34 (q0 hr _ _) (k0 hr _) (l0 hr _ _))
  · exact Pay.pay48 (k1 hr _) (v1 hr _) (fun r l => (Pay.pay41 r l).trans (c1 hr _ _ r l)) (d1 hr _ _) (Pay.pay42 (q1 hr _ _) (k1 hr _) (l1 hr _ _))
  refine (congrArg (· + _) ((carried (b := b) (i := grid0.coords t) _ ?_ ?_ (loop (hr := ?_) (hn := ?_) ..)).2.2.2.2 h a r l)).trans ?_
  · rfl
  · exact own hr (grid0.coords t) ..
  · simpa only [Memref.IsWhole.read_unread] using hr
  · exact le_rfl
  · rw [Memref.IsWhole.read_unread, add_assoc, ← EReal.coe_add]
    rfl

end Cert.AttnIdeal.Point

end
-- ==== Proof.Attn.Kernel.lean ====
/- The arrays attention's gradient call writes. -/
module

public import proofs.«01_k».proof.Proof.Attn.Host
public import proofs.«01_k».proof.Proof.Attn.Point

@[expose] public section

set_option maxRecDepth 16384

noncomputable section

namespace Cert.AttnIdeal.Arrays

open Cert.AttnIdeal Cert.AttnIdeal.Gen Cert.AttnIdeal.Offs Cert.AttnIdeal.Loop Cert.AttnIdeal.Tiled Cert.AttnIdeal.Point Cert.AttnIdeal.Host
open Cert.Reals Cert.AttnSpec
open Idealize.ShloMosaic Idealize.ShloMosaic.TcCoe Idealize.SL.Sem
open Idealize.ShloMosaic.Pipeline (Dat)

variable (m : (ℓ : Loc nD τ sig) → Buf (Elt Ideal) ℓ) (c : Dev nD)

/-- The pair of heads of a point. -/
def two (t : Fin cfg0.N) : Fin 2 := ⟨t.val / 8, by have := lt_of_lt_of_eq t.isLt N_0; omega⟩
/-- Its tile of keys. -/
def key (t : Fin cfg0.N) : Fin 8 := ⟨t.val % 8, Nat.mod_lt _ (by norm_num)⟩

theorem here_eq : ∀ t : Fin cfg0.N, here (grid0.coords t) = key t := (by decide +kernel : ∀ t : Fin grid0.N, _)

theorem idx : ∀ t : Fin cfg0.N, win0_0.index t = ![t.val / 8, 0, 0] ∧ win0_1.index t = ![0, t.val / 8] ∧ win0_2.index t = ![t.val / 8, 0, 0, 0]
    ∧ win0_3.index t = ![t.val / 8, 0, 0, 0] ∧ win0_4.index t = ![t.val / 8, t.val % 8, 0] ∧ win0_5.index t = ![t.val / 8, t.val % 8, 0]
    ∧ win0_6.index t = ![t.val / 8, 0, 0] ∧ win0_7.index t = ![t.val / 8, t.val % 8, 0] ∧ win0_8.index t = ![t.val / 8, t.val % 8, 0] :=
  (by decide +kernel : ∀ t : Fin grid0.N, _)

theorem flush6 : ∀ t : Fin cfg0.N, (cfg0.win 6).flush t = true → t.val % 8 = 7 := (by decide +kernel : ∀ t : Fin grid0.N, _)

variable {q k : Fin 8192 → Fin 4 → Fin 96 → ℝ} {v w : Fin 8192 → Fin 4 → Fin 64 → ℝ} (g : Given m c q k v w)
include g

set_option maxHeartbeats 2000000 in
theorem reads (t : Fin cfg0.N) : Reads (tiles q k v w (two t) (key t)) (iblk m c 0 t) (iblk m c 1 t) (iblk m c 2 t) (iblk m c 3 t) (iblk m c 4 t) (iblk m c 5 t) where
  q h a l := by
    refine Eq.trans ?_ (at43 m c g (head (two t) h) a l)
    blk_simp [iblk, idx t]
    refine congrArg (V m c main_v43) ?_
    blk_ext [idx t, head, two]
  c h a l := by
    refine Eq.trans ?_ (at49 m c g a (head (two t) h) l)
    blk_simp [iblk, idx t]
    refine congrArg (V m c main_v49) ?_
    blk_ext [idx t, head, two, col, pair]
  l h i r := by
    refine Eq.trans ?_ (at51 m c g (head (two t) h) i 0 r)
    blk_simp [iblk, idx t]
    refine congrArg (V m c main_v51) ?_
    blk_ext [idx t, head, two]
  d h i r := by
    refine Eq.trans ?_ (at52 m c g (head (two t) h) i 0 r)
    blk_simp [iblk, idx t]
    refine congrArg (V m c main_v52) ?_
    blk_ext [idx t, head, two]
  k h r l := by
    refine Eq.trans ?_ (at44 m c g (head (two t) h) (tile (key t) r) l)
    blk_simp [iblk, idx t]
    refine congrArg (V m c main_v44) ?_
    blk_ext [idx t, head, two, tile, key]
  v h r l := by
    refine Eq.trans ?_ (at48 m c g (head (two t) h) (tile (key t) r) l)
    blk_simp [iblk, idx t]
    refine congrArg (V m c main_v48) ?_
    blk_ext [idx t, head, two, tile, key]

omit g in
/-- What a tile of keys adds to the queries' gradient. -/
theorem added_part (q k : Fin 8192 → Fin 4 → Fin 96 → ℝ) (v w : Fin 8192 → Fin 4 → Fin 64 → ℝ) (p : Fin 2) (j a : Fin 8) (h : Fin 2) (r : Fin 1024) (l : Fin 128) :
    added (tiles q k v w p j) j h a r l = part q k v w p j h a r l := by
  unfold added
  rcases lt_trichotomy a j with h1 | h1 | h1
  · rw [if_neg h1.not_gt, if_neg h1.ne, add_zero, part_early q k v w p j h1]
  · subst h1
    rw [if_neg (lt_irrefl _), if_pos rfl, zero_add, dq_own]
  · rw [if_pos h1, if_neg h1.ne', add_zero, dq_late q k v w p j h1]

/-- The queries' gradient after the tiles so far. -/
theorem after6 : ∀ n (hn : n < cfg0.N) (h : Fin 2) (a : Fin 8) (r : Fin 1024) (l : Fin 128),
    (outsAt0 m c n hn).1 (ix3 h (tile a r) l)
      = ((∑ j : Fin 8, (if j.val ≤ n % 8 then part q k v w (two ⟨n, hn⟩) j h a r l else 0) : ℝ) : EReal) := by
  intro n
  induction n with
  | zero =>
    intro hn h a r l
    refine (after6_first m c ⟨0, hn⟩ (b := tiles q k v w (two ⟨0, hn⟩) (here (grid0.coords ⟨0, hn⟩))) (by rw [here_eq]; exact reads m c g _) rfl h a r l).trans ?_
    rw [added_part, here_eq]
    refine congrArg _ ?_
    rw [Fin.sum_univ_eight]
    simp [key]
  | succ n ih =>
    intro hn h a r l
    have hN := lt_of_lt_of_eq hn N_0
    by_cases h0 : (n + 1) % 8 = 0
    · refine (after6_first m c ⟨n + 1, hn⟩ (b := tiles q k v w (two ⟨n + 1, hn⟩) (here (grid0.coords ⟨n + 1, hn⟩))) (by rw [here_eq]; exact reads m c g _) h0 h a r l).trans ?_
      rw [added_part, here_eq]
      refine congrArg _ ?_
      rw [Fin.sum_univ_eight]
      simp [key, h0]
    · refine (after6_next m c ⟨n + 1, hn⟩ (b := tiles q k v w (two ⟨n + 1, hn⟩) (here (grid0.coords ⟨n + 1, hn⟩))) (by rw [here_eq]; exact reads m c g _) h0 h a r l).trans ?_
      rw [added_part, here_eq]
      refine (congrArg (· + _) (ih (by omega) h a r l)).trans ?_
      have e : two ⟨n, by omega⟩ = two ⟨n + 1, hn⟩ := Fin.ext (by show n / 8 = (n + 1) / 8; omega)
      rw [e, ← EReal.coe_add]
      refine congrArg _ ?_
      rw [← Finset.sum_filter, ← Finset.sum_filter, add_comm]
      have s : Finset.univ.filter (fun j : Fin 8 => j.val ≤ (n + 1) % 8) = insert (key ⟨n + 1, hn⟩) (Finset.univ.filter (fun j : Fin 8 => j.val ≤ n % 8)) := by
        ext j
        simp only [Finset.mem_filter, Finset.mem_univ, true_and, Finset.mem_insert, Fin.ext_iff, key]
        omega
      rw [s, Finset.sum_insert (by simp only [Finset.mem_filter, Finset.mem_univ, true_and, key]; omega)]

theorem final6 : ((dats m 0 c).arrAt 6 cfg0.N : FVec Ideal S4x8192x128 .f32) = fun y => ((dq q k v w (y 0) (y 1) (y 2) : ℝ) : EReal) := by
  refine (dats m 0 c).arrAt_eq_of_covers 6 _ (by decide +kernel) fun t hf y => ?_
  blk_simp
  rw [after0_6]
  obtain ⟨h, a, l, rfl⟩ : ∃ (h : Fin 2) (a : Fin 8192) (l : Fin 128), y = ix3 h a l := ⟨y 0, y 1, y 2, by idx_vars y⟩
  obtain ⟨i, r, rfl⟩ := tile_surj a
  have e : (win0_6.blk t).view.emb (ix3 h (tile i r) l) = ix3 (head (two t) h) (tile i r) l := by blk_ext [idx t, head, two]
  rw [e]
  refine (after6 m c g t.val t.isLt h i r l).trans (congrArg _ ?_)
  refine Eq.trans ?_ (sum_part q k v w (two t) h i r l)
  exact Finset.sum_congr rfl fun j _ => if_pos (by have := j.isLt; have := flush6 t hf; omega)

theorem final7 : ((dats m 0 c).arrAt 7 cfg0.N : FVec Ideal S4x8192x128 .f32) = fun y => ((dk q k v w (y 0) (y 1) (y 2) : ℝ) : EReal) := by
  refine (dats m 0 c).arrAt_eq_of_covers 7 _ (by decide +kernel) fun t hf y => ?_
  blk_simp
  rw [after0_7]
  obtain ⟨h, r, l, rfl⟩ : ∃ (h : Fin 2) (r : Fin 1024) (l : Fin 128), y = ix3 h r l := ⟨y 0, y 1, y 2, by idx_vars y⟩
  have e : (win0_7.blk t).view.emb (ix3 h r l) = ix3 (head (two t) h) (tile (key t) r) l := by blk_ext [idx t, head, two, tile, key]
  rw [e]
  refine (after7 m c t (reads m c g t) h r l).trans ?_
  rw [here_eq]
  exact congrArg _ (dk_all q k v w (two t) (key t) h r l)

theorem final8 : ((dats m 0 c).arrAt 8 cfg0.N : FVec Ideal S4x8192x128 .f32) = fun y => ((dv q k w (y 0) (y 1) (y 2) : ℝ) : EReal) := by
  refine (dats m 0 c).arrAt_eq_of_covers 8 _ (by decide +kernel) fun t hf y => ?_
  blk_simp
  rw [after0_8]
  obtain ⟨h, r, l, rfl⟩ : ∃ (h : Fin 2) (r : Fin 1024) (l : Fin 128), y = ix3 h r l := ⟨y 0, y 1, y 2, by idx_vars y⟩
  have e : (win0_8.blk t).view.emb (ix3 h r l) = ix3 (head (two t) h) (tile (key t) r) l := by blk_ext [idx t, head, two, tile, key]
  rw [e]
  refine (after8 m c t (reads m c g t) h r l).trans ?_
  rw [here_eq]
  exact congrArg _ (dv_all q k v w (two t) (key t) h r l)

end Cert.AttnIdeal.Arrays

end
-- ==== Proof.Attn.Ref.lean ====
/- The reference's results: what differentiating softmax and the products gives, at a head's lanes. -/
module

public import proofs.«01_k».proof.Proof.Gen.AttnRefIdeal.Read
public import proofs.«01_k».proof.Proof.Attn.Spec

@[expose] public section

set_option maxRecDepth 16384

noncomputable section

namespace Cert.AttnRefIdeal.Grad

open Cert.AttnRefIdeal Cert.AttnRefIdeal.Gen Cert.AttnRefIdeal.Read Cert.Reals Cert.AttnSpec
open Idealize.ShloMosaic Idealize.ShloMosaic.TcCoe Idealize.SL.Sem

variable {x0 x1 : FVec Ideal S8192x4x96 .f32} {x2 x3 : FVec Ideal S8192x4x64 .f32} {q k : Fin 8192 → Fin 4 → Fin 96 → ℝ} {v c : Fin 8192 → Fin 4 → Fin 64 → ℝ}
  (h0 : ∀ a h d, x0 (ix3 a h d) = ((q a h d : ℝ) : EReal)) (h1 : ∀ a h d, x1 (ix3 a h d) = ((k a h d : ℝ) : EReal))
  (h2 : ∀ a h d, x2 (ix3 a h d) = ((v a h d : ℝ) : EReal)) (h3 : ∀ a h d, x3 (ix3 a h d) = ((c a h d : ℝ) : EReal))

include h0 h1

theorem v9 (h : Fin 4) (a b : Fin 8192) : val_main_v9_0 (F := Ideal) x0 x1 (ix3 h a b) = if b ≤ a then ((score q k h a b : ℝ) : EReal) else ⊥ := by
  pointwise [val_main_v9_0, val_main_v9_1, val_main_v8, val_main_v7, val_main_v6, val_main_v5, val_main_v4, val_main_v3, val_main_call0_v2, val_main_call0_v0, val_main_cst_0, val_main_v2, val_main_v1, val_main_v0, val_main_cst]
  rw [masked (by norm_num)]
  simp only [h0, h1, ← EReal.coe_mul, sum_coe, scale_word]
  exact congrArg (ite _ _) bot_word

theorem v10 (h : Fin 4) (a : Fin 8192) : ∃ r : ℝ, val_main_v10 (F := Ideal) x0 x1 (ix2 h a) = (r : EReal) := by
  pointwise [val_main_v10, val_main_cst_1]
  simp only [v9 h0 h1, bot_word]
  exact masked_max q k h a

/-- What the reference subtracts in a row's exponents. -/
def top (h : Fin 4) (a : Fin 8192) : ℝ := (val_main_v10 (F := Ideal) x0 x1 (ix2 h a)).toReal

theorem v10_top (h : Fin 4) (a : Fin 8192) : val_main_v10 (F := Ideal) x0 x1 (ix2 h a) = ((top (x0 := x0) (x1 := x1) h a : ℝ) : EReal) := by
  obtain ⟨r, hr⟩ := v10 h0 h1 h a
  rw [top, hr, EReal.toReal_coe]

omit h0 h1 in
theorem v16 (h : Fin 4) (a : Fin 8192) : val_main_v16 (F := Ideal) (ix2 h a) = ⊥ := by
  pointwise [val_main_v16, val_main_cst_3]
  exact bot_word

theorem v17 (h : Fin 4) (a : Fin 8192) : val_main_v17 (F := Ideal) x0 x1 (ix2 h a) = ((top (x0 := x0) (x1 := x1) h a : ℝ) : EReal) := by
  rw [val_main_v17_apply, v16, v10_top h0 h1]
  exact max_bot_left _

theorem v28 (h : Fin 4) (a b : Fin 8192) : val_main_v28 (F := Ideal) x0 x1 (ix3 h a b) = ((top (x0 := x0) (x1 := x1) h a : ℝ) : EReal) := by
  pointwise [val_main_v28, val_main_v27]
  exact v17 h0 h1 h a

theorem v30 (h : Fin 4) (a b : Fin 8192) : val_main_v30 (F := Ideal) x0 x1 (ix3 h a b) = ((weight q k (top (x0 := x0) (x1 := x1) h a) h a b : ℝ) : EReal) := by
  rw [val_main_v30_apply, val_main_v29_apply, v9 h0 h1, v28 h0 h1]
  exact exp_masked q k _ h a b

theorem v32 (h : Fin 4) (a : Fin 8192) (b : Fin 1) : val_main_v32 (F := Ideal) x0 x1 (ix3 h a b) = ((total q k (top (x0 := x0) (x1 := x1) h a) h a : ℝ) : EReal) := by
  pointwise [val_main_v32, val_main_v31, val_main_cst_9]
  simp only [v30 h0 h1, sum_coe, zero_add]
  rfl

theorem v34 (h : Fin 4) (a b : Fin 8192) : val_main_v34 (F := Ideal) x0 x1 (ix3 h a b) = ((prob q k h a b : ℝ) : EReal) := by
  pointwise [val_main_v34, val_main_v33]
  rw [v30 h0 h1, v32 h0 h1, div_real (total_pos q k _ h a).ne', prob_eq]

omit h0 h1
include h2 h3
theorem v41 (h : Fin 4) (a b : Fin 8192) : val_main_v41 (F := Ideal) x2 x3 (ix3 h a b) = ((dprob v c h a b : ℝ) : EReal) := by
  pointwise [val_main_v41, val_main_v40]
  simp only [h2, h3, ← EReal.coe_mul, sum_coe]
  rfl

include h0 h1
theorem v58 (h : Fin 4) (a b : Fin 8192) : val_main_v58 (F := Ideal) x0 x1 x2 x3 (ix3 h a b) = ((dscore q k v c h a b * scale : ℝ) : EReal) := by
  pointwise [val_main_v58, val_main_v57, val_main_cst_13, val_main_v56, val_main_call1_v0, val_main_call1_cst, val_main_v9_1, val_main_v8, val_main_v7, val_main_v6, val_main_v5, val_main_v4, val_main_v3, val_main_v55, val_main_v54, val_main_v53, val_main_v52, val_main_v51, val_main_v50, val_main_v49, val_main_v48, val_main_v47, val_main_v46, val_main_v45, val_main_v44, val_main_v37, val_main_v36, val_main_v35, val_main_cst_10, val_main_cst_11, val_main_cst_12]
  have hL := total_pos q k (top (x0 := x0) (x1 := x1) h a) h a
  rw [masked (by norm_num)]
  simp only [v41 h2 h3, v32 h0 h1, v30 h0 h1, scale_word, ← EReal.coe_mul, ← EReal.coe_one, div_real hL.ne', div_real (mul_pos hL hL).ne',
    ← EReal.coe_neg, sum_coe, ← EReal.coe_add, Finset.univ_unique, Finset.sum_const, Finset.card_singleton, one_smul, dscore_quotient]
  split
  · rfl
  · rename_i hab; rw [dscore_masked q k v c hab, zero_mul, EReal.coe_zero]

theorem v65 (h : Fin 4) (a : Fin 8192) (l : Fin 128) : val_main_v65 (F := Ideal) x0 x1 x2 x3 (ix3 h a l) = ((dq q k v c h a l : ℝ) : EReal) := by
  pointwise [val_main_v65, val_main_v64, val_main_cst_14, val_main_v63, val_main_v62, val_main_v61]
  simp only [v58 h0 h1 h2 h3, h1, ← EReal.coe_mul, sum_coe]
  unfold dq lane
  split
  · exact congrArg _ (Finset.sum_congr rfl fun b _ => by rw [mul_right_comm])
  · simp

theorem v68 (h : Fin 4) (a : Fin 8192) (l : Fin 128) : val_main_v68 (F := Ideal) x0 x1 x2 x3 (ix3 h a l) = ((dk q k v c h a l : ℝ) : EReal) := by
  pointwise [val_main_v68, val_main_v67, val_main_cst_15, val_main_v66, val_main_v60, val_main_v59]
  simp only [v58 h0 h1 h2 h3, h0, ← EReal.coe_mul, sum_coe]
  unfold dk lane
  split
  · rw [Finset.sum_mul]; exact congrArg _ (Finset.sum_congr rfl fun b _ => by rw [mul_right_comm])
  · simp

omit h2
theorem v71 (h : Fin 4) (a : Fin 8192) (l : Fin 128) : val_main_v71 (F := Ideal) x0 x1 x3 (ix3 h a l) = ((dv q k c h a l : ℝ) : EReal) := by
  pointwise [val_main_v71, val_main_v70, val_main_cst_16, val_main_v69, val_main_v43, val_main_v42, val_main_v40]
  simp only [v34 h0 h1, h3, ← EReal.coe_mul, sum_coe]
  unfold dv lane
  split
  · exact congrArg _ (Finset.sum_congr rfl fun b _ => mul_comm _ _)
  · simp

end Cert.AttnRefIdeal.Grad

end
-- ==== Proof.Attn.Pre.lean ====
/- The precondition read back: attention's arguments and its cotangent are arrays of reals. -/
module

public import proofs.«01_k».proof.Pre_finite_attn
public import proofs.«01_k».proof.Proof.Kit.Reals

@[expose] public section

set_option maxRecDepth 16384

noncomputable section

namespace Cert.Pre_finite_attn.Read

open Cert.Pre_finite_attn Cert.Reals Idealize.ShloMosaic

variable [Facts]

theorem reals (q k : FVec Ideal S8192x4x96 .f32) (v d : FVec Ideal S8192x4x64 .f32)
    (h : fn (F := Ideal) q k v d = fun _ => 1#1) :
    (∃ Q : S8192x4x96.Idx → ℝ, q = up Q) ∧ (∃ K : S8192x4x96.Idx → ℝ, k = up K) ∧ (∃ U : S8192x4x64.Idx → ℝ, v = up U)
      ∧ ∃ D : S8192x4x64.Idx → ℝ, d = up D := by
  have h := congrFun h (fun k => k.elim0)
  unfold fn fn_part1 at h
  obtain ⟨h, h4⟩ := IntOp.andi_eq_one.1 h
  obtain ⟨h, h3⟩ := IntOp.andi_eq_one.1 h
  obtain ⟨h1, h2⟩ := IntOp.andi_eq_one.1 h
  haveI : Subsingleton S_.Idx := ⟨fun p q => funext fun k => k.elim0⟩
  exact ⟨reals_of_all _ _ (fun _ => rfl) _ _ _ _ h1, reals_of_all _ _ (fun _ => rfl) _ _ _ _ h2, reals_of_all _ _ (fun _ => rfl) _ _ _ _ h3, reals_of_all _ _ (fun _ => rfl) _ _ _ _ h4⟩

end Cert.Pre_finite_attn.Read

end
-- ==== Proof.Attn.Claim.lean ====
/- The value claim of attention's gradient. -/
module

public import proofs.«01_k».proof.Defs
public import proofs.«01_k».proof.Proof.Attn.Kernel
public import proofs.«01_k».proof.Proof.Attn.Ref
public import proofs.«01_k».proof.Proof.Attn.Pre
public import proofs.«01_k».proof.Proof.Gen.AttnRefIdeal.Run
public import Idealize.ShloMosaic.Lib.Claim

@[expose] public section

set_option maxRecDepth 16384

noncomputable section

namespace Cert.AttnClaim

open Idealize.ShloMosaic Idealize.ShloMosaic.TcCoe Idealize.SL.Sem

theorem given [Cert.Pre_finite_attn.Facts] (m : (ℓ : Loc Cert.AttnIdeal.nD Cert.AttnIdeal.τ Cert.AttnIdeal.sig) → Buf (Elt Ideal) ℓ)
    (c : Dev Cert.AttnIdeal.nD)
    (h : Cert.Pre_finite_attn.fn (F := Ideal) (Cert.AttnIdeal.Host.A0 m c) (Cert.AttnIdeal.Host.A1 m c) (Cert.AttnIdeal.Host.A2 m c)
      (Cert.AttnIdeal.Host.A3 m c) = fun _ => 1#1) : ∃ q k v w, Cert.AttnIdeal.Host.Given m c q k v w := by
  obtain ⟨⟨Q, hQ⟩, ⟨K, hK⟩, ⟨U, hU⟩, ⟨D, hD⟩⟩ := Cert.Pre_finite_attn.Read.reals _ _ _ _ h
  exact ⟨fun a h d => Q (ix3 a h d), fun a h d => K (ix3 a h d), fun a h d => U (ix3 a h d), fun a h d => D (ix3 a h d),
    fun a h d => congrFun hQ _, fun a h d => congrFun hK _, fun a h d => congrFun hU _, fun a h d => congrFun hD _⟩

theorem algebraic [Cert.Pre_finite_attn.Facts] :
    Cert.algebraic_AttnIdeal_AttnRefIdeal_pre_finite_attn (hAttnIdeal := Cert.AttnIdeal.Gen.facts)
      (hAttnRefIdeal := Cert.AttnRefIdeal.Gen.facts) := by
  pair_intro
  · run_from Cert.AttnIdeal.Value.run_blocks m g
  · run_from Cert.AttnRefIdeal.Value.run m' g'
    all_goals
      obtain ⟨q, k, v, w, hg⟩ := given m c (hpre c)
      obtain ⟨e0, e1, e2, e3⟩ := hagree c
    · rw [Cert.AttnRefIdeal.Read.val_main_v65_eq, Cert.AttnIdeal.Arrays.final6 m c hg]
      refine (congr (congr (congr (congrArg (Cert.AttnRefIdeal.Read.val_main_v65 (F := Ideal)) e0) e1) e2) e3).trans ?_
      funext i
      idx_vars i
      exact Cert.AttnRefIdeal.Grad.v65 hg.h0 hg.h1 hg.h2 hg.h3 i0 i1 i2
    · rw [Cert.AttnRefIdeal.Read.val_main_v68_eq, Cert.AttnIdeal.Arrays.final7 m c hg]
      refine (congr (congr (congr (congrArg (Cert.AttnRefIdeal.Read.val_main_v68 (F := Ideal)) e0) e1) e2) e3).trans ?_
      funext i
      idx_vars i
      exact Cert.AttnRefIdeal.Grad.v68 hg.h0 hg.h1 hg.h2 hg.h3 i0 i1 i2
    · rw [Cert.AttnRefIdeal.Read.val_main_v71_eq, Cert.AttnIdeal.Arrays.final8 m c hg]
      refine (congr (congr (congrArg (Cert.AttnRefIdeal.Read.val_main_v71 (F := Ideal)) e0) e1) e3).trans ?_
      funext i
      idx_vars i
      exact Cert.AttnRefIdeal.Grad.v71 hg.h0 hg.h1 hg.h3 i0 i1 i2

theorem frame_ref : Cert.quiescent_AttnRefIdeal (hAttnRefIdeal := Cert.AttnRefIdeal.Gen.facts) := fun m ρ _ =>
  (θ_run _ _ _).mono (fun r h => ⟨fun c => (h c).2.2.2, sem_eq_zero_of_no_sems (by decide) r.2⟩)
    (Cert.AttnRefIdeal.Value.run m ρ)

theorem frame_ref_pre [Cert.Pre_finite_attn.Facts] :
    Cert.quiescent_AttnRefIdeal_pre_finite_attn (hAttnRefIdeal := Cert.AttnRefIdeal.Gen.facts) :=
  fun m ρ _ => frame_ref m ρ True.intro

end Cert.AttnClaim

end
-- ==== Proof.Ffn2.Spec.lean ====
/- The squared-ReLU product and the gradients through its norm, over the reals. -/
module

public import proofs.«01_k».proof.Proof.Kit.Reals

@[expose] public section

set_option maxRecDepth 16384

noncomputable section

namespace Cert.Ffn2Spec

open Cert.Reals Idealize.ShloMosaic

theorem max_zero (a : ℝ) : max (a : EReal) 0 = ((max a 0 : ℝ) : EReal) := by
  rw [← EReal.coe_zero]; exact (EReal.coe_strictMono.monotone.map_max).symm

theorem two_word : Ideal.ofBits .f32 0x40000000#32 = ((2 : ℝ) : EReal) := by
  simp [Ideal.ofBits, Ideal.ieee, -EReal.coe_mul]; norm_num

variable (A : Fin 8192 → Fin 4096 → ℝ) (W : Fin 4096 → Fin 1024 → ℝ) (G : Fin 1024 → ℝ) (T : Fin 8192 → Fin 1024 → ℝ)

/-- The product of the squared ReLU with the weight. -/
def f (i : Fin 8192) (l : Fin 1024) : ℝ := ∑ k, max (A i k) 0 * max (A i k) 0 * W k l

/-- The norm's gradient of a row `F` at the cotangent `t`. -/
def norm_back (F G t : Fin 1024 → ℝ) (l : Fin 1024) : ℝ :=
  rr F 1024 * (t l * G l - F l * rr F 1024 * ((∑ j, t j * G j * (F j * rr F 1024)) / 1024))

def df (i : Fin 8192) (l : Fin 1024) : ℝ := norm_back (f A W i) G (T i) l

def da (i : Fin 8192) (k : Fin 4096) : ℝ := (∑ l, df A W G T i l * W k l) * (2 * max (A i k) 0)

def dg (l : Fin 1024) : ℝ := ∑ i, T i l * (f A W i l * rr (f A W i) 1024)

end Cert.Ffn2Spec

end
-- ==== Proof.Ffn2.Pay.lean ====
/- What the body of the second feed-forward norm's gradient stores, at finite blocks. -/
module

public import proofs.«01_k».proof.Proof.Gen.Ffn2Ideal.Skeleton
public import proofs.«01_k».proof.Proof.Ffn2.Spec

@[expose] public section

set_option maxRecDepth 16384

noncomputable section

namespace Cert.Ffn2Ideal.Pay

open Cert.Ffn2Ideal Cert.Ffn2Ideal.Gen Cert.Reals Cert.Ffn2Spec
open Idealize.ShloMosaic Idealize.ShloMosaic.TcCoe Idealize.SL.Sem

variable {t x : FVec Ideal S512x1024 .f32} {a : FVec Ideal S512x4096 .bf16} {w : FVec Ideal S1024x4096 .bf16}
  {g : FVec Ideal S1x1024 .f32}
variable {T X : Fin 512 → Fin 1024 → ℝ} {A : Fin 512 → Fin 4096 → ℝ} {W : Fin 4096 → Fin 1024 → ℝ} {G : Fin 1024 → ℝ}
variable (ht : ∀ r l, t (ix2 r l) = ((T r l : ℝ) : EReal)) (ha : ∀ r k, a (ix2 r k) = ((A r k : ℝ) : EReal))
  (hw : ∀ l k, w (ix2 l k) = ((W k l : ℝ) : EReal)) (hx : ∀ r k, x (ix2 r k) = ((X r k : ℝ) : EReal))
  (hg : ∀ l, g (ix2 0 l) = ((G l : ℝ) : EReal))

include hx ht in
theorem pay7 (acc : FVec Ideal S1x1024 .f32) (l : Fin 1024) :
    k0_pay7 (F := Ideal) x t acc (ix2 0 l) = acc (ix2 0 l) + ∑ r : Fin 512, ((T r l * (X r l * rr (X r) 1024) : ℝ) : EReal) := by
  pointwise [k0_pay7, k0_pay3, k0_pay4, k0_pay5]
  simp only [hx, ht, eps_word, w1024, ← EReal.coe_mul, sum_coe, zero_add, div_1024, ← EReal.coe_add, rsqrt_mean]

include hx ht hg in
theorem pay6 (r : Fin 512) (l : Fin 1024) :
    k0_pay6 (F := Ideal) x g t (ix2 r l) = ((norm_back (X r) G (T r) l : ℝ) : EReal) := by
  pointwise [k0_pay6, k0_pay3, k0_pay4, k0_pay5]
  simp only [hx, ht, hg, eps_word, w1024, ← EReal.coe_mul, sum_coe, zero_add, div_1024, ← EReal.coe_add,
    rsqrt_mean, ← EReal.coe_sub]
  rfl

include hx ht hg in
theorem pay8 (r : Fin 512) (l : Fin 1024) :
    k0_pay8 (F := Ideal) x g t (ix2 r l) = ((norm_back (X r) G (T r) l : ℝ) : EReal) := by
  pointwise [k0_pay8]
  exact pay6 ht hx hg r l

include ha hw in
theorem pay1 {d : FVec Ideal S512x1024 .f32} {D : Fin 512 → Fin 1024 → ℝ} (hd : ∀ r l, d (ix2 r l) = ((D r l : ℝ) : EReal))
    (r : Fin 512) (k : Fin 4096) :
    k0_pay1 (F := Ideal) d w a (ix2 r k) = (((∑ l, D r l * W k l) * (2 * max (A r k) 0) : ℝ) : EReal) := by
  pointwise [k0_pay1]
  simp only [hd, ha, hw, max_zero, two_word, ← EReal.coe_mul, sum_coe]

theorem pay2 (j : S1x1024.Idx) : k0_pay2 (F := Ideal) j = 0 := by pointwise [k0_pay2]

end Cert.Ffn2Ideal.Pay

end
-- ==== Proof.Ffn2.Kernel.lean ====
/- The three arrays the second feed-forward norm's gradient call leaves, at finite arguments. -/
module

public import proofs.«01_k».proof.Proof.Gen.Ffn2Ideal.Value
public import proofs.«01_k».proof.Proof.Ffn2.Pay
public import Idealize.ShloMosaic.Lib.Pipeline.ValueKit
public import Idealize.ShloMosaic.Lib.StableHlo.RunRead

@[expose] public section

set_option maxRecDepth 16384

noncomputable section

namespace Cert.Ffn2Ideal.Arrays

open Cert.Ffn2Ideal Cert.Ffn2Ideal.Gen Cert.Reals Cert.Ffn2Spec
open Idealize.ShloMosaic Idealize.ShloMosaic.TcCoe Idealize.SL.Sem
open Idealize.ShloMosaic.Pipeline (Dat)

variable (m : (ℓ : Loc nD τ sig) → Buf (Elt Ideal) ℓ) (c : Dev nD)

abbrev A0 : FVec Ideal S8192x4096 .f32 := m ((c : Thread nD τ).loc main_arg0)
abbrev A1 : FVec Ideal S4096x1024 .f32 := m ((c : Thread nD τ).loc main_arg1)
abbrev A2 : FVec Ideal S1024 .f32 := m ((c : Thread nD τ).loc main_arg2)
abbrev A3 : FVec Ideal S8192x1024 .f32 := m ((c : Thread nD τ).loc main_arg3)

/-- The arguments are these reals. -/
structure Given (A : Fin 8192 → Fin 4096 → ℝ) (W : Fin 4096 → Fin 1024 → ℝ) (G : Fin 1024 → ℝ) (T : Fin 8192 → Fin 1024 → ℝ) : Prop where
  ha : ∀ i k, A0 m c (ix2 i k) = ((A i k : ℝ) : EReal)
  hw : ∀ k l, A1 m c (ix2 k l) = ((W k l : ℝ) : EReal)
  hg : ∀ l, A2 m c (ix1 l) = ((G l : ℝ) : EReal)
  ht : ∀ i l, A3 m c (ix2 i l) = ((T i l : ℝ) : EReal)

/-- The product the host computes. -/
def prod (a : FVec Ideal S8192x4096 .f32) (w : FVec Ideal S4096x1024 .f32) : FVec Ideal S8192x1024 .f32 :=
  Host.dotGeneral dot_S8192x4096_S4096x1024_S8192x1024_1_0_0_1_n_n none
    (truncf (F := Ideal) .bf16 (mulf (maximumf (extf .f32 (truncf (F := Ideal) .bf16 a bitsLt_bf16_f32) bitsLt_bf16_f32) (broadcastInDim S8192x4096 ![] bcast_S_S8192x4096 (constant S_ .f32 0x00000000#32)))
      (maximumf (extf .f32 (truncf (F := Ideal) .bf16 a bitsLt_bf16_f32) bitsLt_bf16_f32) (broadcastInDim S8192x4096 ![] bcast_S_S8192x4096 (constant S_ .f32 0x00000000#32)))) bitsLt_bf16_f32)
    (truncf (F := Ideal) .bf16 w bitsLt_bf16_f32)

theorem V_f : V m c main_v7 = prod (A0 m c) (A1 m c) := by
  unfold V hostOps0
  after_reads_simp
  rfl
theorem V_a : V m c main_v0 = truncf (F := Ideal) .bf16 (A0 m c) bitsLt_bf16_f32 := by
  unfold V hostOps0
  after_reads_simp
theorem V_w : V m c main_v9 = transpose S1024x4096 [1, 0] (truncf (F := Ideal) .bf16 (A1 m c) bitsLt_bf16_f32) transposes_S4096x1024_S1024x4096_1_0 := by
  unfold V hostOps0
  after_reads_simp
theorem V_g : V m c main_v10 = broadcastInDim S1x1024 ![1] bcast_S1024_S1x1024_1 (A2 m c) := by
  unfold V hostOps0
  after_reads_simp
theorem V_t : V m c main_arg3 = A3 m c := by
  unfold V hostOps0
  after_reads_simp

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ win0_5.index t = ![t.val, 0] ∧ win0_6.index t = ![t.val, 0] :=
  (by decide +kernel : ∀ t : Fin grid0.N, _)

/-- The row of the array that row `r` of point `t`'s block is. -/
abbrev row (t : Fin cfg0.N) (r : Fin 512) : Fin 8192 := ⟨t.val * 512 + r.val, by have := lt_of_lt_of_eq t.isLt N_0; omega⟩

variable {A : Fin 8192 → Fin 4096 → ℝ} {W : Fin 4096 → Fin 1024 → ℝ} {G : Fin 1024 → ℝ} {T : Fin 8192 → Fin 1024 → ℝ}
variable (h : Given m c A W G T)
include h

theorem prod_at (i : Fin 8192) (l : Fin 1024) : prod (A0 m c) (A1 m c) (ix2 i l) = ((f A W i l : ℝ) : EReal) := by
  pointwise [prod]
  simp only [h.ha, h.hw, max_zero, ← EReal.coe_mul, sum_coe]
  rfl

theorem blk0 (t : Fin cfg0.N) (r : Fin 512) (l : Fin 1024) : (iblk m c 0 t : FVec Ideal S512x1024 .f32) (ix2 r l) = ((T (row t r) l : ℝ) : EReal) := by
  rw [← h.ht, ← V_t m c]
  blk_simp [iblk, idx t]
  refine congrArg (V m c main_arg3) ?_
  blk_ext [idx t]

theorem blk1 (t : Fin cfg0.N) (r : Fin 512) (l : Fin 1024) : (iblk m c 1 t : FVec Ideal S512x1024 .f32) (ix2 r l) = ((f A W (row t r) l : ℝ) : EReal) := by
  rw [← prod_at m c h, ← V_f m c]
  blk_simp [iblk, idx t]
  refine congrArg (V m c main_v7) ?_
  blk_ext [idx t]

theorem blk2 (t : Fin cfg0.N) (l : Fin 1024) : (iblk m c 2 t : FVec Ideal S1x1024 .f32) (ix2 0 l) = ((G l : ℝ) : EReal) := by
  refine Eq.trans (b := V m c main_v10 (ix2 0 l)) ?_ ?_
  · blk_simp [iblk, idx t]
    refine congrArg (V m c main_v10) ?_
    blk_ext [idx t]
  · rw [V_g]; pointwise; exact h.hg l

theorem blk3 (t : Fin cfg0.N) (r : Fin 512) (k : Fin 4096) : (iblk m c 3 t : FVec Ideal S512x4096 .bf16) (ix2 r k) = ((A (row t r) k : ℝ) : EReal) := by
  refine Eq.trans (b := V m c main_v0 (ix2 (row t r) k)) ?_ ?_
  · blk_simp [iblk, idx t]
    refine congrArg (V m c main_v0) ?_
    blk_ext [idx t]
  · rw [V_a]; pointwise; exact h.ha _ k

theorem blk4 (t : Fin cfg0.N) (l : Fin 1024) (k : Fin 4096) : (iblk m c 4 t : FVec Ideal S1024x4096 .bf16) (ix2 l k) = ((W k l : ℝ) : EReal) := by
  refine Eq.trans (b := V m c main_v9 (ix2 l k)) ?_ ?_
  · blk_simp [iblk, idx t]
    refine congrArg (V m c main_v9) ?_
    blk_ext [idx t]
  · rw [V_w]; pointwise; exact h.hw k l

theorem point5 (t : Fin cfg0.N) (r : Fin 512) (l : Fin 1024) : (outsAt0 m c t.val t.isLt).1 (ix2 r l) = ((df A W G T (row t r) l : ℝ) : EReal) := by
  by_cases h0 : t.val % 16 = 0
  · rw [outsAt0_A m c t h0]; frame_out
    exact Pay.pay8 (blk0 m c h t) (blk1 m c h t) (blk2 m c h t) r l
  · rw [outsAt0_B m c t h0]; frame_out
    exact Pay.pay8 (blk0 m c h t) (blk1 m c h t) (blk2 m c h t) r l

theorem point6 (t : Fin cfg0.N) (r : Fin 512) (k : Fin 4096) : (outsAt0 m c t.val t.isLt).2.1 (ix2 r k) = ((da A W G T (row t r) k : ℝ) : EReal) := by
  by_cases h0 : t.val % 16 = 0
  · rw [outsAt0_A m c t h0]; frame_out
    exact Pay.pay1 (blk3 m c h t) (blk4 m c h t) (Pay.pay6 (blk0 m c h t) (blk1 m c h t) (blk2 m c h t)) r k
  · rw [outsAt0_B m c t h0]; frame_out
    exact Pay.pay1 (blk3 m c h t) (blk4 m c h t) (Pay.pay6 (blk0 m c h t) (blk1 m c h t) (blk2 m c h t)) r k

theorem final5 : ((dats m 0 c).arrAt 5 cfg0.N : FVec Ideal S8192x1024 .bf16) = fun i => ((df A W G T (i 0) (i 1) : ℝ) : EReal) := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, by idx_vars y⟩
  rw [point5 m c h]
  have e : (win0_5.blk t).view.emb (ix2 r l) = ix2 (row t r) l := by blk_ext [idx t]
  rw [e]; rfl

theorem final6 : ((dats m 0 c).arrAt 6 cfg0.N : FVec Ideal S8192x4096 .bf16) = fun i => ((da A W G T (i 0) (i 1) : ℝ) : EReal) := by
  refine (dats m 0 c).arrAt_eq_of_covers 6 _ (by decide +kernel) fun t hf y => ?_
  blk_simp
  rw [after0_6]
  obtain ⟨r, l, rfl⟩ : ∃ (r : Fin 512) (l : Fin 4096), y = ix2 r l := ⟨y 0, y 1, by idx_vars y⟩
  rw [point6 m c h]
  have e : (win0_6.blk t).view.emb (ix2 r l) = ix2 (row t r) l := by blk_ext [idx t]
  rw [e]; rfl

theorem final7 : ((dats m 0 c).arrAt 7 cfg0.N : FVec Ideal S1x1024 .f32) = fun i => ((dg A W T (i 1) : ℝ) : EReal) := by
  refine (dats m 0 c).arrAt_eq_of_after_last 7 t0_15 (by decide +kernel) _ fun j => ?_
  blk_simp
  idx_vars j
  obtain rfl := Subsingleton.elim j0 0
  rw [after0_7, Pipeline.eq_sum_fin_of_reset_step_apply_last (fun n h => (outsAt0 m c n h).2.2) 16 (fun _ => 0)
    (fun p j => ∑ r : Fin 512, ((T (row p r) (j 1) * (f A W (row p r) (j 1) * rr (f A W (row p r)) 1024) : ℝ) : EReal))
    (fun t h0 j => by
      idx_vars j; obtain rfl := Subsingleton.elim j0 0; rw [outsAt0_A m c t h0]; frame_out
      rw [Pay.pay7 (blk0 m c h t) (blk1 m c h t), Pay.pay2])
    (fun t h0 j => by
      idx_vars j; obtain rfl := Subsingleton.elim j0 0; rw [outsAt0_B m c t h0]; frame_out
      rw [Pay.pay7 (blk0 m c h t) (blk1 m c h t)])
    (le_of_eq N_0) t0_15 rfl (ix2 0 j1), zero_add]
  simp only [sum_coe]
  exact congrArg _ (Fin.sum_mul_add_fin 16 512 (fun i => T i j1 * (f A W i j1 * rr (f A W i) 1024)))

end Cert.Ffn2Ideal.Arrays

end
-- ==== Proof.Ffn2.Ref.lean ====
/- The reference's three results at finite arguments. -/
module

public import proofs.«01_k».proof.Proof.Gen.Ffn2RefIdeal.Read
public import proofs.«01_k».proof.Proof.Ffn2.Spec

@[expose] public section

set_option maxRecDepth 16384

noncomputable section

namespace Cert.Ffn2RefIdeal.Grad

open Cert.Ffn2RefIdeal Cert.Ffn2RefIdeal.Gen Cert.Ffn2RefIdeal.Read Cert.Reals Cert.Ffn2Spec
open Idealize.ShloMosaic Idealize.ShloMosaic.TcCoe Idealize.SL.Sem

variable {a : FVec Ideal S8192x4096 .f32} {w : FVec Ideal S4096x1024 .f32} {g : FVec Ideal S1024 .f32} {t : FVec Ideal S8192x1024 .f32}
variable {A : Fin 8192 → Fin 4096 → ℝ} {W : Fin 4096 → Fin 1024 → ℝ} {G : Fin 1024 → ℝ} {T : Fin 8192 → Fin 1024 → ℝ}
variable (ha : ∀ i k, a (ix2 i k) = ((A i k : ℝ) : EReal)) (hw : ∀ k l, w (ix2 k l) = ((W k l : ℝ) : EReal))
  (hg : ∀ l, g (ix1 l) = ((G l : ℝ) : EReal)) (ht : ∀ i l, t (ix2 i l) = ((T i l : ℝ) : EReal))

include ha in
theorem v0 (i : Fin 8192) (k : Fin 4096) : val_main_v0 (F := Ideal) a (ix2 i k) = ((max (A i k) 0 : ℝ) : EReal) := by
  pointwise [val_main_v0, val_main_call0_v0, val_main_call0_cst]
  rw [ha, max_zero]

include ha hw in
theorem v7 (i : Fin 8192) (l : Fin 1024) : val_main_v7 (F := Ideal) a w (ix2 i l) = ((f A W i l : ℝ) : EReal) := by
  pointwise [val_main_v7, val_main_v4]
  simp only [v0 ha, hw, ← EReal.coe_mul, sum_coe]; rfl

include ha hw in
theorem v14 (i : Fin 8192) : val_main_v14 (F := Ideal) a w (ix2 i 0) = ((ms (f A W i) 1024 : ℝ) : EReal) := by
  pointwise [val_main_v14, val_main_v13, val_main_v12, val_main_v11, val_main_v10, val_main_v9, val_main_v8, val_main_cst_2, val_main_cst_3, val_main_cst_4]
  simp only [v7 ha hw, eps_word, w1024, ← EReal.coe_mul, sum_coe, zero_add, div_1024, ← EReal.coe_add]; rfl

include ha hw in
theorem v15 (i : Fin 8192) : val_main_v15 (F := Ideal) a w (ix2 i 0) = ((rr (f A W i) 1024 : ℝ) : EReal) := by
  pointwise [val_main_v15]
  rw [v14 ha hw, rsqrt_ms _ (by norm_num)]

include ha hw in
theorem v16 (i : Fin 8192) : val_main_v16 (F := Ideal) a w (ix2 i 0) = ((rr (f A W i) 1024 / ms (f A W i) 1024 : ℝ) : EReal) := by
  pointwise [val_main_v16]
  rw [v14 ha hw, v15 ha hw, div_real (ms_pos _ (by norm_num)).ne']

include hg ht in
theorem v28 (i : Fin 8192) (l : Fin 1024) : val_main_v28 (F := Ideal) g t (ix2 i l) = ((T i l * G l : ℝ) : EReal) := by
  pointwise [val_main_v28, val_main_v27, val_main_v21]
  rw [ht, hg, ← EReal.coe_mul]

include ha hw hg ht in
theorem v39 (i : Fin 8192) (l : Fin 1024) : val_main_v39 (F := Ideal) a w g t (ix2 i l)
    = (((∑ k, f A W i k * (T i k * G k)) * (-1 / 2 * (rr (f A W i) 1024 / ms (f A W i) 1024)) / 1024 : ℝ) : EReal) := by
  pointwise [val_main_v39, val_main_v38, val_main_v37, val_main_v36, val_main_v35, val_main_v32, val_main_v31, val_main_v30,
    val_main_v18, val_main_v17, val_main_cst_5, val_main_cst_8, val_main_cst_9, val_main_cst_10]
  simp only [v28 hg ht, v16 ha hw, v7 ha hw, w1024, wneghalf, ← EReal.coe_mul, sum_coe, zero_add, div_1024, Finset.univ_unique, Fin.default_eq_zero,
    Finset.sum_singleton]

include ha hw hg ht in
theorem v43 (i : Fin 8192) (l : Fin 1024) : val_main_v43 (F := Ideal) a w g t (ix2 i l) = ((df A W G T i l : ℝ) : EReal) := by
  pointwise [val_main_v43, val_main_v42, val_main_v41, val_main_v40, val_main_v34, val_main_v33]
  rw [v39 ha hw hg ht, v28 hg ht, v15 ha hw, v7 ha hw, df, norm_back, rms_grad (f A W i) (fun k => T i k * G k) (by norm_num)]
  simp only [← EReal.coe_mul, add_assoc, ← EReal.coe_add]

include ha hw hg ht in
theorem v48 (i : Fin 8192) (l : Fin 1024) : val_main_v48 (F := Ideal) a w g t (ix2 i l) = ((df A W G T i l : ℝ) : EReal) := by
  pointwise [val_main_v48]
  exact v43 ha hw hg ht i l

include ha hw hg ht in
theorem v49 (i : Fin 8192) (k : Fin 4096) : val_main_v49 (F := Ideal) a w g t (ix2 i k) = ((da A W G T i k : ℝ) : EReal) := by
  pointwise [val_main_v49, val_main_v47, val_main_v46, val_main_v45, val_main_v44, val_main_v6, val_main_v5, val_main_v2, val_main_v1, val_main_cst,
    val_main_cst_1, val_main_cst_11]
  simp only [v43 ha hw hg ht, v0 ha, ha, hw, two_word, ← EReal.coe_mul, sum_coe]
  by_cases h0 : 0 < A i k
  · rw [if_pos (EReal.coe_pos.2 h0)]; rfl
  · rw [if_neg fun h => h0 (EReal.coe_pos.1 h), da, max_eq_right (not_lt.1 h0), mul_zero, mul_zero, EReal.coe_zero]

include ha hw ht in
theorem v50 (l : Fin 1024) : val_main_v50 (F := Ideal) a w t (ix2 0 l) = ((dg A W T l : ℝ) : EReal) := by
  pointwise [val_main_v50, val_main_v29, val_main_v26, val_main_v25, val_main_v24, val_main_v20, val_main_v19, val_main_cst_6, val_main_cst_7]
  simp only [v7 ha hw, v15 ha hw, ht, ← EReal.coe_mul, sum_coe, zero_add, Finset.univ_unique, Fin.default_eq_zero, Finset.sum_singleton]
  exact congrArg _ (Finset.sum_congr rfl fun i _ => mul_comm _ _)

end Cert.Ffn2RefIdeal.Grad

end
-- ==== Proof.Ffn2.Pre.lean ====
/- The precondition read back: the second feed-forward norm's arguments and its cotangent are arrays of reals. -/
module

public import proofs.«01_k».proof.Pre_finite_ffn2
public import proofs.«01_k».proof.Proof.Kit.Reals

@[expose] public section

set_option maxRecDepth 16384

noncomputable section

namespace Cert.Pre_finite_ffn2.Read

open Cert.Pre_finite_ffn2 Cert.Reals Idealize.ShloMosaic

variable [Facts]

theorem reals (a : FVec Ideal S8192x4096 .f32) (w : FVec Ideal S4096x1024 .f32) (g : FVec Ideal S1024 .f32) (t : FVec Ideal S8192x1024 .f32)
    (h : fn (F := Ideal) a w g t = fun _ => 1#1) :
    (∃ A : S8192x4096.Idx → ℝ, a = up A)
      ∧ (∃ W : S4096x1024.Idx → ℝ, w = up W)
      ∧ (∃ G : S1024.Idx → ℝ, g = up G)
      ∧ ∃ T : S8192x1024.Idx → ℝ, t = up T := by
  have h := congrFun h (fun k => k.elim0)
  unfold fn fn_part1 at h
  obtain ⟨h, h4⟩ := IntOp.andi_eq_one.1 h
  obtain ⟨h, h3⟩ := IntOp.andi_eq_one.1 h
  obtain ⟨h1, h2⟩ := IntOp.andi_eq_one.1 h
  haveI : Subsingleton S_.Idx := ⟨fun p q => funext fun k => k.elim0⟩
  exact ⟨reals_of_all _ _ (fun _ => rfl) _ _ _ _ h1,
    reals_of_all _ _ (fun _ => rfl) _ _ _ _ h2,
    reals_of_all _ _ (fun _ => rfl) _ _ _ _ h3,
    reals_of_all _ _ (fun _ => rfl) _ _ _ _ h4⟩

end Cert.Pre_finite_ffn2.Read

end
-- ==== Proof.Ffn2.Claim.lean ====
/- The value claim of the second feed-forward norm's gradient. -/
module

public import proofs.«01_k».proof.Defs
public import proofs.«01_k».proof.Proof.Ffn2.Kernel
public import proofs.«01_k».proof.Proof.Ffn2.Ref
public import proofs.«01_k».proof.Proof.Ffn2.Pre
public import proofs.«01_k».proof.Proof.Gen.Ffn2RefIdeal.Run
public import Idealize.ShloMosaic.Lib.Claim

@[expose] public section

set_option maxRecDepth 16384

noncomputable section

namespace Cert.Ffn2Claim

open Idealize.ShloMosaic Idealize.ShloMosaic.TcCoe Idealize.SL.Sem

theorem given [Cert.Pre_finite_ffn2.Facts]
    (m : (ℓ : Loc Cert.Ffn2Ideal.nD Cert.Ffn2Ideal.τ Cert.Ffn2Ideal.sig) → Buf (Elt Ideal) ℓ)
    (h : Cert.Pre_Ffn2Ideal_finite_ffn2 m) (c : Dev Cert.Ffn2Ideal.nD) :
    ∃ A W G T, Cert.Ffn2Ideal.Arrays.Given m c A W G T := by
  obtain ⟨⟨A, hA⟩, ⟨W, hW⟩, ⟨G, hG⟩, T, hT⟩ := Cert.Pre_finite_ffn2.Read.reals _ _ _ _ (h c)
  exact ⟨fun i k => A (ix2 i k), fun k l => W (ix2 k l), fun l => G (ix1 l), fun i l => T (ix2 i l),
    fun i k => congrFun hA _, fun k l => congrFun hW _, fun l => congrFun hG _, fun i l => congrFun hT _⟩

theorem algebraic [Cert.Pre_finite_ffn2.Facts] :
    Cert.algebraic_Ffn2Ideal_Ffn2RefIdeal_pre_finite_ffn2 (hFfn2Ideal := Cert.Ffn2Ideal.Gen.facts)
      (hFfn2RefIdeal := Cert.Ffn2RefIdeal.Gen.facts) := by
  pair_intro
  · run_from Cert.Ffn2Ideal.Value.run_blocks m g
  · run_from Cert.Ffn2RefIdeal.Value.run m' g'
    all_goals
      obtain ⟨A, W, G, T, h⟩ := given m hpre c
      obtain ⟨e0, e1, e2, e3⟩ := hagree c
    · rw [Cert.Ffn2RefIdeal.Read.val_main_v48_eq, Cert.Ffn2Ideal.Arrays.final5 m c h]
      refine (congr (congr (congr (congrArg (Cert.Ffn2RefIdeal.Read.val_main_v48 (F := Ideal)) e0) e1) e2) e3).trans ?_
      funext i
      idx_vars i
      exact Cert.Ffn2RefIdeal.Grad.v48 h.ha h.hw h.hg h.ht i0 i1
    · rw [Cert.Ffn2RefIdeal.Read.val_main_v49_eq, Cert.Ffn2Ideal.Arrays.final6 m c h]
      refine (congr (congr (congr (congrArg (Cert.Ffn2RefIdeal.Read.val_main_v49 (F := Ideal)) e0) e1) e2) e3).trans ?_
      funext i
      idx_vars i
      exact Cert.Ffn2RefIdeal.Grad.v49 h.ha h.hw h.hg h.ht i0 i1
    · refine (Cert.Ffn2RefIdeal.Read.val_main_v50_eq _ _ _).trans ?_
      rw [Cert.Ffn2Ideal.Arrays.final7 m c h]
      funext i
      idx_vars i
      obtain rfl := Subsingleton.elim i0 0
      exact Cert.Ffn2RefIdeal.Grad.v50 h.ha h.hw h.ht i1

theorem frame_ref : Cert.quiescent_Ffn2RefIdeal (hFfn2RefIdeal := Cert.Ffn2RefIdeal.Gen.facts) := fun m ρ _ =>
  (θ_run _ _ _).mono (fun r h => ⟨fun c => (h c).2.2.2, sem_eq_zero_of_no_sems (by decide) r.2⟩)
    (Cert.Ffn2RefIdeal.Value.run m ρ)

theorem frame_ref_pre [Cert.Pre_finite_ffn2.Facts] :
    Cert.quiescent_Ffn2RefIdeal_pre_finite_ffn2 (hFfn2RefIdeal := Cert.Ffn2RefIdeal.Gen.facts) :=
  fun m ρ _ => frame_ref m ρ True.intro

end Cert.Ffn2Claim

end
-- ==== Proof.InProj.Spec.lean ====
/- The input projection's columns, in the reference's order and in the four packed pieces, and the sums over them. -/
module

public import proofs.«01_k».proof.Proof.Ffn2.Spec

@[expose] public section

set_option maxRecDepth 16384

noncomputable section

namespace Cert.InProjSpec

open Cert.Reals Idealize.ShloMosaic

/-- The column of the reference's order that column `n` of the second piece is. -/
def m1 (n : ℕ) : ℕ := if n < 256 then 416 + n else if n < 512 then 672 + (n - 256) else 1184 + (n - 512)

/-- The column of the reference's order that column `n` of the third piece is. -/
def m2 (n : ℕ) : ℕ := if n < 256 then 928 + n else if n < 512 then 1440 + (n - 256) else 1696 + (n - 512)

/-- The rotary columns doubled: column `n` of the pair of tables laid end to end. -/
def twice (C : ℕ → ℝ) (n : ℕ) : ℝ := if n < 16 then C n else C (n - 16)

/-- The last piece's cotangent: the latent columns, then the rotary columns times the cosines and times the sines. -/
def dB (D C S : ℕ → ℝ) (n : ℕ) : ℝ :=
  if n < 384 then D n else if n < 448 then 0 else if n < 480 then D (384 + (n - 448)) * twice C (n - 448)
    else if n < 576 then 0 else if n < 608 then D (384 + (n - 576)) * twice S (n - 576) else 0

/-- The last piece's weights: the latent columns, then the rotary columns and the rotary columns swapped. -/
def wB (W : ℕ → ℝ) (n : ℕ) : ℝ :=
  if n < 384 then W n else if n < 448 then 0 else if n < 480 then W (384 + (n - 448))
    else if n < 576 then 0 else if n < 592 then -W (400 + (n - 576)) else if n < 608 then W (384 + (n - 592)) else 0

/-- The cotangent of the projection before the rotation. -/
def ct (D C S : ℕ → ℝ) (n : ℕ) : ℝ :=
  if n < 384 then D n else if n < 400 then D (n + 16) * S (n - 384) + D n * C (n - 384)
    else if n < 416 then D n * C (n - 400) + -D (n - 16) * S (n - 400) else D n

/-- A row of the cotangent against a row of the weight. -/
def dh (D C S W : ℕ → ℝ) : ℝ := ∑ n ∈ Finset.range 6048, ct D C S n * W n

theorem sum_B (D C S W : ℕ → ℝ) : ∑ n ∈ Finset.range 640, dB D C S n * wB W n
    = ∑ n ∈ Finset.range 384, D n * W n + ∑ n ∈ Finset.range 16, ((D (400 + n) * S n + D (384 + n) * C n) * W (384 + n)
      + (D (400 + n) * C n + -D (384 + n) * S n) * W (400 + n)) := by
  have cut : ∀ g : ℕ → ℝ, ∑ n ∈ Finset.range 640, g n = ∑ n ∈ Finset.range 384, g n + ∑ n ∈ Finset.range 64, g (384 + n)
      + ∑ n ∈ Finset.range 16, g (448 + n) + ∑ n ∈ Finset.range 16, g (464 + n) + ∑ n ∈ Finset.range 96, g (480 + n)
      + ∑ n ∈ Finset.range 16, g (576 + n) + ∑ n ∈ Finset.range 16, g (592 + n) + ∑ n ∈ Finset.range 32, g (608 + n) := fun g => by
    rw [show 640 = 384 + 64 + 16 + 16 + 96 + 16 + 16 + 32 from rfl]
    simp only [Finset.sum_range_add _]
  rw [cut]
  have e0 : ∑ n ∈ Finset.range 384, dB D C S n * wB W n = ∑ n ∈ Finset.range 384, D n * W n :=
    Finset.sum_congr rfl fun n hn => by have := Finset.mem_range.1 hn; simp only [dB, wB, if_pos this]
  have z : ∀ a b : ℕ, (384 ≤ a ∧ a + b ≤ 448 ∨ 480 ≤ a ∧ a + b ≤ 576 ∨ 608 ≤ a) → ∑ n ∈ Finset.range b, dB D C S (a + n) * wB W (a + n) = 0 :=
    fun a b hab => Finset.sum_eq_zero fun n hn => by
      have := Finset.mem_range.1 hn
      have : wB W (a + n) = 0 := by unfold wB; split_ifs <;> first | rfl | omega
      rw [this, mul_zero]
  rw [e0, z 384 64 (by omega), z 480 96 (by omega), z 608 32 (by omega)]
  simp only [add_zero, add_assoc, ← Finset.sum_add_distrib]
  refine congrArg _ (Finset.sum_congr rfl fun n hn => ?_)
  have hn := Finset.mem_range.1 hn
  have d1 : dB D C S (448 + n) = D (384 + n) * C n := by
    unfold dB twice; split_ifs <;> first | omega | (congr 2 <;> omega)
  have d2 : dB D C S (464 + n) = D (400 + n) * C n := by
    unfold dB twice; split_ifs <;> first | omega | (congr 2 <;> omega)
  have d3 : dB D C S (576 + n) = D (384 + n) * S n := by
    unfold dB twice; split_ifs <;> first | omega | (congr 2 <;> omega)
  have d4 : dB D C S (592 + n) = D (400 + n) * S n := by
    unfold dB twice; split_ifs <;> first | omega | (congr 2 <;> omega)
  have w1 : wB W (448 + n) = W (384 + n) := by unfold wB; split_ifs <;> first | omega | (congr 1; omega)
  have w2 : wB W (464 + n) = W (400 + n) := by unfold wB; split_ifs <;> first | omega | (congr 1; omega)
  have w3 : wB W (576 + n) = -W (400 + n) := by unfold wB; split_ifs <;> first | omega | (congr 2; omega)
  have w4 : wB W (592 + n) = W (384 + n) := by unfold wB; split_ifs <;> first | omega | (congr 1; omega)
  rw [d1, d2, d3, d4, w1, w2, w3, w4]
  ring

theorem sum_m {f : ℕ → ℕ} {a b c : ℕ} (h0 : ∀ n < 256, f n = a + n) (h1 : ∀ n < 256, f (256 + n) = b + n) (h2 : ∀ n < 256, f (512 + n) = c + n)
    (g : ℕ → ℝ) : ∑ n ∈ Finset.range 768, g (f n) = ∑ n ∈ Finset.range 256, g (a + n) + ∑ n ∈ Finset.range 256, g (b + n)
      + ∑ n ∈ Finset.range 256, g (c + n) := by
  rw [show 768 = 256 + 256 + 256 from rfl]
  simp only [Finset.sum_range_add _]
  congr 1
  · congr 1
    · exact Finset.sum_congr rfl fun n hn => by rw [h0 n (Finset.mem_range.1 hn)]
    · exact Finset.sum_congr rfl fun n hn => by rw [h1 n (Finset.mem_range.1 hn)]
  · exact Finset.sum_congr rfl fun n hn => by rw [h2 n (Finset.mem_range.1 hn)]

/-- The sum over the reference's columns is the sum over the four pieces. -/
theorem dh_pieces (D C S W : ℕ → ℝ) : dh D C S W
    = ∑ n ∈ Finset.range 4096, D (1952 + n) * W (1952 + n) + ∑ n ∈ Finset.range 768, D (m1 n) * W (m1 n)
      + ∑ n ∈ Finset.range 768, D (m2 n) * W (m2 n) + ∑ n ∈ Finset.range 640, dB D C S n * wB W n := by
  rw [sum_B, sum_m (f := m1) (a := 416) (b := 672) (c := 1184) (fun n hn => by simp only [m1, if_pos hn])
    (fun n hn => by unfold m1; split_ifs <;> omega) (fun n hn => by unfold m1; split_ifs <;> omega) (fun n => D n * W n),
    sum_m (f := m2) (a := 928) (b := 1440) (c := 1696) (fun n hn => by simp only [m2, if_pos hn])
    (fun n hn => by unfold m2; split_ifs <;> omega) (fun n hn => by unfold m2; split_ifs <;> omega) (fun n => D n * W n), dh,
    show 6048 = 384 + 16 + 16 + 256 + 256 + 256 + 256 + 256 + 256 + 4096 from rfl]
  simp only [Finset.sum_range_add _]
  simp only [Nat.reduceAdd]
  have e0 : ∑ n ∈ Finset.range 384, ct D C S n * W n = ∑ n ∈ Finset.range 384, D n * W n :=
    Finset.sum_congr rfl fun n hn => by have := Finset.mem_range.1 hn; simp only [ct, if_pos this]
  have e1 : ∑ n ∈ Finset.range 16, ct D C S (384 + n) * W (384 + n)
      = ∑ n ∈ Finset.range 16, (D (400 + n) * S n + D (384 + n) * C n) * W (384 + n) :=
    Finset.sum_congr rfl fun n hn => by
      have := Finset.mem_range.1 hn
      have : ct D C S (384 + n) = D (400 + n) * S n + D (384 + n) * C n := by
        rw [ct, if_neg (by omega), if_pos (by omega), show 384 + n - 384 = n by omega, show 384 + n + 16 = 400 + n by omega]
      rw [this]
  have e2 : ∑ n ∈ Finset.range 16, ct D C S (400 + n) * W (400 + n)
      = ∑ n ∈ Finset.range 16, (D (400 + n) * C n + -D (384 + n) * S n) * W (400 + n) :=
    Finset.sum_congr rfl fun n hn => by
      have := Finset.mem_range.1 hn
      have : ct D C S (400 + n) = D (400 + n) * C n + -D (384 + n) * S n := by
        rw [ct, if_neg (by omega), if_neg (by omega), if_pos (by omega), show 400 + n - 400 = n by omega, show 400 + n - 16 = 384 + n by omega]
      rw [this]
  have e : ∀ a b : ℕ, 416 ≤ a → ∑ n ∈ Finset.range b, ct D C S (a + n) * W (a + n) = ∑ n ∈ Finset.range b, D (a + n) * W (a + n) :=
    fun a b ha => Finset.sum_congr rfl fun n _ => by rw [ct, if_neg (by omega), if_neg (by omega), if_neg (by omega)]
  rw [e0, e1, e2, e 416 _ (by omega), e 672 _ (by omega), e 928 _ (by omega), e 1184 _ (by omega), e 1440 _ (by omega),
    e 1696 _ (by omega), e 1952 _ (by omega), Finset.sum_add_distrib]
  ring

/-- The same, the pieces summed over their columns. -/
theorem dh_sums (D C S W : ℕ → ℝ) : (∑ n : Fin 4096, D (1952 + n.val) * W (1952 + n.val)) + (∑ n : Fin 768, D (m1 n.val) * W (m1 n.val))
      + (∑ n : Fin 768, D (m2 n.val) * W (m2 n.val)) + (∑ n : Fin 640, dB D C S n.val * wB W n.val) = dh D C S W := by
  rw [dh_pieces, ← Fin.sum_univ_eq_sum_range (fun n => D (1952 + n) * W (1952 + n)), ← Fin.sum_univ_eq_sum_range (fun n => D (m1 n) * W (m1 n)),
    ← Fin.sum_univ_eq_sum_range (fun n => D (m2 n) * W (m2 n)), ← Fin.sum_univ_eq_sum_range (fun n => dB D C S n * wB W n)]

theorem dh_sum (D C S W : ℕ → ℝ) : ∑ n : Fin 6048, ct D C S n.val * W n.val = dh D C S W :=
  Fin.sum_univ_eq_sum_range (fun n => ct D C S n * W n) 6048

end Cert.InProjSpec

end
-- ==== Proof.InProj.Host.lean ====
/- The operands that the host lines before the region prepare: the packed weight's and the cotangent's four pieces. -/
module

public import proofs.«01_k».proof.Proof.Gen.InProjIdeal.Value
public import proofs.«01_k».proof.Proof.InProj.Spec
public import Idealize.ShloMosaic.Lib.Pipeline.ValueKit
public import Idealize.ShloMosaic.Lib.Claim
public import Idealize.ShloMosaic.Lib.StableHlo.RunRead

@[expose] public section

set_option maxRecDepth 16384

noncomputable section

namespace Cert.InProjIdeal.Host

open Cert.InProjIdeal Cert.InProjIdeal.Gen Cert.Reals Cert.InProjSpec
open Idealize.ShloMosaic Idealize.ShloMosaic.TcCoe Idealize.SL.Sem

/-- The rotary columns of the weight, swapped. -/
def swapW (w : FVec Ideal S1024x32 .bf16) : FVec Ideal S1024x32 .bf16 :=
  concatenate S1024x32 1 [⟨S1024x16, Host.negf (extractStridedSlice S1024x16 ![0, 16] w slices_S1024x32_S1024x16_0_16)⟩,
    ⟨S1024x16, extractStridedSlice S1024x16 ![0, 0] w slices_S1024x32_S1024x16_0_0⟩] concatenates_S1024x16_S1024x16_S1024x32_d1

/-- Rotary columns of the weight between zero columns. -/
def padW (w : FVec Ideal S1024x32 .bf16) : FVec Ideal S1024x128 .bf16 :=
  concatenate S1024x128 1 [⟨S1024x64, broadcastInDim S1024x64 ![] bcast_S_S1024x64 (constant S_ .bf16 0x0000#16)⟩, ⟨S1024x32, w⟩,
    ⟨S1024x32, broadcastInDim S1024x32 ![] bcast_S_S1024x32 (constant S_ .bf16 0x0000#16)⟩] concatenates_S1024x64_S1024x32_S1024x32_S1024x128_d1

/-- The packed weight. -/
def packW (w : FVec Ideal S1024x6048 .bf16) : FVec Ideal S1024x6272 .bf16 :=
  concatenate S1024x6272 1 [⟨S1024x4096, extractStridedSlice S1024x4096 ![0, 1952] w slices_S1024x6048_S1024x4096_0_1952⟩,
    ⟨S1024x256, extractStridedSlice S1024x256 ![0, 416] w slices_S1024x6048_S1024x256_0_416⟩,
    ⟨S1024x256, extractStridedSlice S1024x256 ![0, 672] w slices_S1024x6048_S1024x256_0_672⟩,
    ⟨S1024x256, extractStridedSlice S1024x256 ![0, 1184] w slices_S1024x6048_S1024x256_0_1184⟩,
    ⟨S1024x256, extractStridedSlice S1024x256 ![0, 928] w slices_S1024x6048_S1024x256_0_928⟩,
    ⟨S1024x256, extractStridedSlice S1024x256 ![0, 1440] w slices_S1024x6048_S1024x256_0_1440⟩,
    ⟨S1024x256, extractStridedSlice S1024x256 ![0, 1696] w slices_S1024x6048_S1024x256_0_1696⟩,
    ⟨S1024x256, extractStridedSlice S1024x256 ![0, 0] w slices_S1024x6048_S1024x256_0_0⟩,
    ⟨S1024x128, extractStridedSlice S1024x128 ![0, 256] w slices_S1024x6048_S1024x128_0_256⟩,
    ⟨S1024x128, padW (extractStridedSlice S1024x32 ![0, 384] w slices_S1024x6048_S1024x32_0_384)⟩,
    ⟨S1024x128, padW (swapW (extractStridedSlice S1024x32 ![0, 384] w slices_S1024x6048_S1024x32_0_384))⟩]
    concatenates_S1024x4096_S1024x256_S1024x256_S1024x256_S1024x256_S1024x256_S1024x256_S1024x256_S1024x128_S1024x128_S1024x128_S1024x6272_d1

/-- The packed weight with its columns as rows. -/
def packT (w : FVec Ideal S1024x6048 .f32) : FVec Ideal S6272x1024 .bf16 :=
  transpose S6272x1024 [1, 0] (packW (truncf (F := Ideal) .bf16 w bitsLt_bf16_f32)) transposes_S1024x6272_S6272x1024_1_0

/-- The rotary cotangent times a table, between zero columns. -/
def padD (d : FVec Ideal S8192x32 .f32) (t : FVec Ideal S8192x16 .f32) : FVec Ideal S8192x128 .f32 :=
  concatenate S8192x128 1 [⟨S8192x64, broadcastInDim S8192x64 ![] bcast_S_S8192x64 (constant S_ .f32 0x00000000#32)⟩,
    ⟨S8192x32, mulf d (concatenate S8192x32 1 [⟨S8192x16, t⟩, ⟨S8192x16, t⟩] concatenates_S8192x16_S8192x16_S8192x32_d1)⟩,
    ⟨S8192x32, broadcastInDim S8192x32 ![] bcast_S_S8192x32 (constant S_ .f32 0x00000000#32)⟩] concatenates_S8192x64_S8192x32_S8192x32_S8192x128_d1

/-- The cotangent's last piece. -/
def pieceB (d : FVec Ideal S8192x6048 .f32) (co si : FVec Ideal S8192x16 .f32) : FVec Ideal S8192x640 .f32 :=
  concatenate S8192x640 1 [⟨S8192x256, extractStridedSlice S8192x256 ![0, 0] d slices_S8192x6048_S8192x256_0_0⟩,
    ⟨S8192x128, extractStridedSlice S8192x128 ![0, 256] d slices_S8192x6048_S8192x128_0_256⟩,
    ⟨S8192x128, padD (extractStridedSlice S8192x32 ![0, 384] d slices_S8192x6048_S8192x32_0_384) co⟩,
    ⟨S8192x128, padD (extractStridedSlice S8192x32 ![0, 384] d slices_S8192x6048_S8192x32_0_384) si⟩]
    concatenates_S8192x256_S8192x128_S8192x128_S8192x128_S8192x640_d1

/-- The cotangent's second and third pieces. -/
def pieceM1 (d : FVec Ideal S8192x6048 .f32) : FVec Ideal S8192x768 .f32 :=
  concatenate S8192x768 1 [⟨S8192x256, extractStridedSlice S8192x256 ![0, 416] d slices_S8192x6048_S8192x256_0_416⟩,
    ⟨S8192x256, extractStridedSlice S8192x256 ![0, 672] d slices_S8192x6048_S8192x256_0_672⟩,
    ⟨S8192x256, extractStridedSlice S8192x256 ![0, 1184] d slices_S8192x6048_S8192x256_0_1184⟩]
    concatenates_S8192x256_S8192x256_S8192x256_S8192x768_d1
def pieceM2 (d : FVec Ideal S8192x6048 .f32) : FVec Ideal S8192x768 .f32 :=
  concatenate S8192x768 1 [⟨S8192x256, extractStridedSlice S8192x256 ![0, 928] d slices_S8192x6048_S8192x256_0_928⟩,
    ⟨S8192x256, extractStridedSlice S8192x256 ![0, 1440] d slices_S8192x6048_S8192x256_0_1440⟩,
    ⟨S8192x256, extractStridedSlice S8192x256 ![0, 1696] d slices_S8192x6048_S8192x256_0_1696⟩]
    concatenates_S8192x256_S8192x256_S8192x256_S8192x768_d1

section values

variable {w : FVec Ideal S1024x6048 .f32} {W : Fin 1024 → ℕ → ℝ} (hw : ∀ l (n : Fin 6048), w (ix2 l n) = ((W l n.val : ℝ) : EReal))

include hw in
theorem packT_gate (n : Fin 4096) (l : Fin 1024) : packT w (ix2 ⟨n.val, by omega⟩ l) = ((W l (1952 + n.val) : ℝ) : EReal) := by
  pointwise [packT, packW]
  exact hw l _

theorem real_eq {f : ℕ → ℝ} {a b : ℕ} (h : a = b) : ((f a : ℝ) : EReal) = ((f b : ℝ) : EReal) := by rw [h]

theorem neg_eq {f : ℕ → ℝ} {a b : ℕ} (h : a = b) : -((f a : ℝ) : EReal) = ((-f b : ℝ) : EReal) := by rw [h, EReal.coe_neg]

theorem mul_eq {f g : ℕ → ℝ} {a b p q : ℕ} (h : a = b) (k : p = q) : ((f a : ℝ) : EReal) * ((g p : ℝ) : EReal) = ((f b * g q : ℝ) : EReal) := by
  rw [h, k, EReal.coe_mul]

theorem swap_at {w : FVec Ideal S1024x32 .bf16} {W : Fin 1024 → ℕ → ℝ} (hw : ∀ l (n : Fin 32), w (ix2 l n) = ((W l n.val : ℝ) : EReal))
    (l : Fin 1024) (n : Fin 32) : swapW w (ix2 l n) = (((if n.val < 16 then -W l (16 + n.val) else W l (n.val - 16)) : ℝ) : EReal) := by
  pointwise [swapW]
  simp only [hw]
  split_ifs
  · exact neg_eq rfl
  · rfl

theorem pad_at {w : FVec Ideal S1024x32 .bf16} {W : Fin 1024 → ℕ → ℝ} (hw : ∀ l (n : Fin 32), w (ix2 l n) = ((W l n.val : ℝ) : EReal))
    (l : Fin 1024) (n : Fin 128) : padW w (ix2 l n) = (((if n.val < 64 then 0 else if n.val < 96 then W l (n.val - 64) else 0) : ℝ) : EReal) := by
  pointwise [padW]
  simp only [hw]
  split_ifs <;> first | rfl | omega | exact EReal.coe_zero.symm

set_option maxHeartbeats 2000000 in
include hw in
theorem packT_m1 (n : Fin 768) (l : Fin 1024) : packT w (ix2 ⟨4096 + n.val, by omega⟩ l) = ((W l (m1 n.val) : ℝ) : EReal) := by
  pointwise [packT, packW]
  simp only [hw]
  unfold m1
  split_ifs <;> first | omega | (refine real_eq ?_; omega)

set_option maxHeartbeats 2000000 in
include hw in
theorem packT_m2 (n : Fin 768) (l : Fin 1024) : packT w (ix2 ⟨4864 + n.val, by omega⟩ l) = ((W l (m2 n.val) : ℝ) : EReal) := by
  have hn := n.isLt
  pointwise [packT, packW]
  simp only [hw]
  unfold m2
  rw [dif_neg (by omega), dif_neg (by omega), dif_neg (by omega), dif_neg (by omega)]
  by_cases h0 : n.val < 256
  · rw [dif_pos (by omega), if_pos h0]; exact real_eq (by omega)
  by_cases h1 : n.val < 512
  · rw [dif_neg (by omega), dif_pos (by omega), if_neg h0, if_pos h1]; exact real_eq (by omega)
  · rw [dif_neg (by omega), dif_neg (by omega), dif_pos (by omega), if_neg h0, if_neg h1]; exact real_eq (by omega)

/-- The weight's rotary columns. -/
abbrev ropeW (w : FVec Ideal S1024x6048 .f32) : FVec Ideal S1024x32 .bf16 :=
  extractStridedSlice S1024x32 ![0, 384] (truncf (F := Ideal) .bf16 w bitsLt_bf16_f32) slices_S1024x6048_S1024x32_0_384

include hw in
theorem rope_at (l : Fin 1024) (n : Fin 32) : ropeW w (ix2 l n) = ((W l (384 + n.val) : ℝ) : EReal) := by
  pointwise [ropeW]
  exact hw l _

set_option maxHeartbeats 2000000 in
include hw in
theorem packT_B (n : Fin 640) (l : Fin 1024) : packT w (ix2 ⟨5632 + n.val, by omega⟩ l) = ((wB (W l) n.val : ℝ) : EReal) := by
  have hn := n.isLt
  pointwise [packT, packW]
  rw [dif_neg (by omega), dif_neg (by omega), dif_neg (by omega), dif_neg (by omega), dif_neg (by omega), dif_neg (by omega), dif_neg (by omega)]
  by_cases h0 : n.val < 384
  · by_cases h1 : n.val < 256
    · rw [dif_pos (by omega), hw, wB, if_pos h0]; exact real_eq (by show _ = n.val; simp only; omega)
    · rw [dif_neg (by omega), dif_pos (by omega), hw, wB, if_pos h0]; exact real_eq (by show _ = n.val; simp only; omega)
  rw [dif_neg (by omega), dif_neg (by omega)]
  by_cases h2 : n.val < 512
  · rw [dif_pos (by omega)]
    refine (pad_at (W := fun l n => W l (384 + n)) (rope_at hw) l _).trans (congrArg _ ?_)
    unfold wB
    simp only
    split_ifs <;> first | omega | exact congrArg (W l) (by omega) | rfl
  · rw [dif_neg (by omega)]
    refine (pad_at (W := fun l n => if n < 16 then -W l (384 + (16 + n)) else W l (384 + (n - 16))) (swap_at (W := fun l n => W l (384 + n)) (rope_at hw)) l _).trans (congrArg _ ?_)
    unfold wB
    simp only
    split_ifs <;> first | omega | exact congrArg (W l) (by omega) | exact congrArg (fun k => -W l k) (by omega) | rfl

variable {d : FVec Ideal S8192x6048 .f32} {co si : FVec Ideal S8192x16 .f32} {D C S : Fin 8192 → ℕ → ℝ}
  (hd : ∀ i (n : Fin 6048), d (ix2 i n) = ((D i n.val : ℝ) : EReal)) (hc : ∀ i (n : Fin 16), co (ix2 i n) = ((C i n.val : ℝ) : EReal))
  (hs : ∀ i (n : Fin 16), si (ix2 i n) = ((S i n.val : ℝ) : EReal))

include hd hc hs in
theorem pieceB_at (i : Fin 8192) (n : Fin 640) : pieceB d co si (ix2 i n) = ((dB (D i) (C i) (S i) n.val : ℝ) : EReal) := by
  pointwise [pieceB, padD]
  simp only [hd, hc, hs]
  unfold dB twice
  split_ifs <;> first | omega | exact EReal.coe_zero.symm | (refine real_eq ?_; omega) | (refine mul_eq ?_ ?_ <;> omega)

include hd in
theorem pieceM1_at (i : Fin 8192) (n : Fin 768) : pieceM1 d (ix2 i n) = ((D i (m1 n.val) : ℝ) : EReal) := by
  pointwise [pieceM1]
  simp only [hd]
  unfold m1
  split_ifs <;> first | omega | (refine real_eq ?_; omega)

include hd in
theorem pieceM2_at (i : Fin 8192) (n : Fin 768) : pieceM2 d (ix2 i n) = ((D i (m2 n.val) : ℝ) : EReal) := by
  pointwise [pieceM2]
  simp only [hd]
  unfold m2
  split_ifs <;> first | omega | (refine real_eq ?_; omega)

end values

section reads

variable (m : (ℓ : Loc nD τ sig) → Buf (Elt Ideal) ℓ) (c : Dev nD)

abbrev A0 : FVec Ideal S8192x1024 .f32 := m ((c : Thread nD τ).loc main_arg0)
abbrev A1 : FVec Ideal S1024 .f32 := m ((c : Thread nD τ).loc main_arg1)
abbrev A2 : FVec Ideal S1024x6048 .f32 := m ((c : Thread nD τ).loc main_arg2)
abbrev A3 : FVec Ideal S8192x16 .f32 := m ((c : Thread nD τ).loc main_arg3)
abbrev A4 : FVec Ideal S8192x16 .f32 := m ((c : Thread nD τ).loc main_arg4)
abbrev A5 : FVec Ideal S8192x6048 .f32 := m ((c : Thread nD τ).loc main_arg5)
abbrev A6 : FVec Ideal S8192x1024 .f32 := m ((c : Thread nD τ).loc main_arg6)

theorem V_x : V m c main_arg0 = A0 m c := by
  unfold V hostOps0
  after_reads_simp
theorem V_r : V m c main_arg6 = A6 m c := by
  unfold V hostOps0
  after_reads_simp
theorem V_g : V m c main_v52 = broadcastInDim S1x1024 ![1] bcast_S1024_S1x1024_1 (A1 m c) := by
  unfold V hostOps0
  after_reads_simp
theorem V_v44 : V m c main_v44 = truncf (F := Ideal) .bf16 (extractStridedSlice S8192x4096 ![0, 1952] (A5 m c) slices_S8192x6048_S8192x4096_0_1952) bitsLt_bf16_f32 := by
  unfold V hostOps0
  after_reads_simp
theorem V_v46 : V m c main_v46 = truncf (F := Ideal) .bf16 (pieceM1 (A5 m c)) bitsLt_bf16_f32 := by
  unfold V hostOps0
  after_reads_simp
  rfl
theorem V_v48 : V m c main_v48 = truncf (F := Ideal) .bf16 (pieceM2 (A5 m c)) bitsLt_bf16_f32 := by
  unfold V hostOps0
  after_reads_simp
  rfl
theorem V_v50 : V m c main_v50 = truncf (F := Ideal) .bf16 (pieceB (A5 m c) (A3 m c) (A4 m c)) bitsLt_bf16_f32 := by
  unfold V hostOps0
  after_reads_simp
  rfl
theorem V_v45 : V m c main_v45 = extractStridedSlice S4096x1024 ![0, 0] (packT (A2 m c)) slices_S6272x1024_S4096x1024_0_0 := by
  unfold V hostOps0
  after_reads_simp
  rfl
theorem V_v47 : V m c main_v47 = extractStridedSlice S768x1024 ![4096, 0] (packT (A2 m c)) slices_S6272x1024_S768x1024_4096_0 := by
  unfold V hostOps0
  after_reads_simp
  rfl
theorem V_v49 : V m c main_v49 = extractStridedSlice S768x1024 ![4864, 0] (packT (A2 m c)) slices_S6272x1024_S768x1024_4864_0 := by
  unfold V hostOps0
  after_reads_simp
  rfl
theorem V_v51 : V m c main_v51 = extractStridedSlice S640x1024 ![5632, 0] (packT (A2 m c)) slices_S6272x1024_S640x1024_5632_0 := by
  unfold V hostOps0
  after_reads_simp
  rfl

end reads

end Cert.InProjIdeal.Host

end
-- ==== Proof.InProj.Pay.lean ====
/- What the body of the input projection's gradient stores, at finite blocks. -/
module

public import proofs.«01_k».proof.Proof.Gen.InProjIdeal.Skeleton
public import proofs.«01_k».proof.Proof.InProj.Spec

@[expose] public section

set_option maxRecDepth 16384

noncomputable section

namespace Cert.InProjIdeal.Pay

open Cert.InProjIdeal Cert.InProjIdeal.Gen Cert.Reals Cert.Ffn2Spec Cert.InProjSpec
open Idealize.ShloMosaic Idealize.ShloMosaic.TcCoe Idealize.SL.Sem

variable {a0 : FVec Ideal S512x4096 .bf16} {a1 a2 : FVec Ideal S512x768 .bf16} {a3 : FVec Ideal S512x640 .bf16}
  {w0 : FVec Ideal S4096x1024 .bf16} {w1 w2 : FVec Ideal S768x1024 .bf16} {w3 : FVec Ideal S640x1024 .bf16}
variable {D C S : Fin 512 → ℕ → ℝ} {W : Fin 1024 → ℕ → ℝ}
variable (h0 : ∀ r (n : Fin 4096), a0 (ix2 r n) = ((D r (1952 + n.val) : ℝ) : EReal)) (h1 : ∀ r (n : Fin 768), a1 (ix2 r n) = ((D r (m1 n.val) : ℝ) : EReal))
  (h2 : ∀ r (n : Fin 768), a2 (ix2 r n) = ((D r (m2 n.val) : ℝ) : EReal)) (h3 : ∀ r (n : Fin 640), a3 (ix2 r n) = ((dB (D r) (C r) (S r) n.val : ℝ) : EReal))
  (k0 : ∀ (n : Fin 4096) l, w0 (ix2 n l) = ((W l (1952 + n.val) : ℝ) : EReal)) (k1 : ∀ (n : Fin 768) l, w1 (ix2 n l) = ((W l (m1 n.val) : ℝ) : EReal))
  (k2 : ∀ (n : Fin 768) l, w2 (ix2 n l) = ((W l (m2 n.val) : ℝ) : EReal)) (k3 : ∀ (n : Fin 640) l, w3 (ix2 n l) = ((wB (W l) n.val : ℝ) : EReal))

include h0 h1 h2 h3 k0 k1 k2 k3 in
theorem pay6 (r : Fin 512) (l : Fin 1024) :
    k0_pay6 (F := Ideal) a0 w0 a1 w1 a2 w2 a3 w3 (ix2 r l) = ((dh (D r) (C r) (S r) (W l) : ℝ) : EReal) := by
  pointwise [k0_pay6]
  simp only [h0, h1, h2, h3, k0, k1, k2, k3, ← EReal.coe_mul, sum_coe, ← EReal.coe_add]
  rw [← dh_sums]

variable {t x : FVec Ideal S512x1024 .f32} {g : FVec Ideal S1x1024 .f32} {T X : Fin 512 → Fin 1024 → ℝ} {G : Fin 1024 → ℝ}
variable (ht : ∀ r l, t (ix2 r l) = ((T r l : ℝ) : EReal)) (hx : ∀ r k, x (ix2 r k) = ((X r k : ℝ) : EReal))
  (hg : ∀ l, g (ix2 0 l) = ((G l : ℝ) : EReal))

include hx in
theorem pay1 (r : Fin 512) : k0_pay1 (F := Ideal) (k0_pay8 x) (ix2 r 0) = ((rr (X r) 1024 : ℝ) : EReal) := by
  pointwise [k0_pay1, k0_pay8]
  simp only [hx, eps_word, w1024, ← EReal.coe_mul, sum_coe, zero_add, div_1024, ← EReal.coe_add, rsqrt_mean]

include hx in
theorem pay2 (r : Fin 512) (l : Fin 1024) : k0_pay2 (F := Ideal) x (k0_pay8 x) (ix2 r l) = ((X r l * rr (X r) 1024 : ℝ) : EReal) := by
  pointwise [k0_pay2]
  rw [pay1 hx, hx, ← EReal.coe_mul]

include hx ht in
theorem pay3 (acc : FVec Ideal S1x1024 .f32) (l : Fin 1024) :
    k0_pay3 (F := Ideal) t x (k0_pay8 x) acc (ix2 0 l) = acc (ix2 0 l) + ∑ r : Fin 512, ((T r l * (X r l * rr (X r) 1024) : ℝ) : EReal) := by
  pointwise [k0_pay3]
  simp only [ht, pay2 hx, ← EReal.coe_mul, zero_add]

include hx ht hg in
theorem pay4 (s : FVec Ideal S512x1024 .f32) (r : Fin 512) (l : Fin 1024) :
    k0_pay4 (F := Ideal) t x (k0_pay7 g) (k0_pay8 x) s (ix2 r l) = s (ix2 r l) + ((norm_back (X r) G (T r) l : ℝ) : EReal) := by
  pointwise [k0_pay4, k0_pay7]
  simp only [ht, hg, pay2 hx, pay1 hx, w1024, ← EReal.coe_mul, sum_coe, zero_add, div_1024, ← EReal.coe_sub]
  rfl

theorem pay5 (j : S1x1024.Idx) : k0_pay5 (F := Ideal) j = 0 := by pointwise [k0_pay5]

end Cert.InProjIdeal.Pay

end
-- ==== Proof.InProj.Kernel.lean ====
/- The two arrays the input projection's gradient call leaves, at finite arguments. -/
module

public import proofs.«01_k».proof.Proof.InProj.Host
public import proofs.«01_k».proof.Proof.InProj.Pay

@[expose] public section

set_option maxRecDepth 16384

noncomputable section

namespace Cert.InProjIdeal.Arrays

open Cert.InProjIdeal Cert.InProjIdeal.Gen Cert.InProjIdeal.Host Cert.Reals Cert.Ffn2Spec Cert.InProjSpec
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments are these reals. -/
structure Given (X : Fin 8192 → Fin 1024 → ℝ) (G : Fin 1024 → ℝ) (W : Fin 1024 → ℕ → ℝ) (C S D : Fin 8192 → ℕ → ℝ) : Prop where
  hx : ∀ i l, A0 m c (ix2 i l) = ((X i l : ℝ) : EReal)
  hg : ∀ l, A1 m c (ix1 l) = ((G l : ℝ) : EReal)
  hw : ∀ l (n : Fin 6048), A2 m c (ix2 l n) = ((W l n.val : ℝ) : EReal)
  hc : ∀ i (n : Fin 16), A3 m c (ix2 i n) = ((C i n.val : ℝ) : EReal)
  hs : ∀ i (n : Fin 16), A4 m c (ix2 i n) = ((S i n.val : ℝ) : EReal)
  hd : ∀ i (n : Fin 6048), A5 m c (ix2 i n) = ((D i n.val : ℝ) : EReal)

theorem idx : ∀ t : Fin cfg0.N, win0_0.index t = ![t.val, 0] ∧ win0_1.index t = ![t.val, 0] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![t.val, 0] ∧ win0_9.index t = ![0, 0] ∧ win0_10.index t = ![t.val, 0]
    ∧ win0_11.index t = ![t.val, 0] :=
  (by decide +kernel : ∀ t : Fin grid0.N, _)

/-- The row of the array that row `r` of point `t`'s block is. -/
abbrev row (t : Fin cfg0.N) (r : Fin 512) : Fin 8192 := ⟨t.val * 512 + r.val, by have := lt_of_lt_of_eq t.isLt N_0; omega⟩

theorem blk10 (t : Fin cfg0.N) (r : Fin 512) (l : Fin 1024) : (iblk m c 10 t : FVec Ideal S512x1024 .f32) (ix2 r l) = A6 m c (ix2 (row t r) l) := by
  rw [← V_r m c]
  blk_simp [iblk, idx t]
  refine congrArg (V m c main_arg6) ?_
  blk_ext [idx t]

variable {X : Fin 8192 → Fin 1024 → ℝ} {G : Fin 1024 → ℝ} {W : Fin 1024 → ℕ → ℝ} {C S D : Fin 8192 → ℕ → ℝ}
variable (h : Given m c X G W C S D)
include h

theorem blk0 (t : Fin cfg0.N) (r : Fin 512) (n : Fin 4096) : (iblk m c 0 t : FVec Ideal S512x4096 .bf16) (ix2 r n) = ((D (row t r) (1952 + n.val) : ℝ) : EReal) := by
  refine Eq.trans (b := V m c main_v44 (ix2 (row t r) n)) ?_ ?_
  · blk_simp [iblk, idx t]
    refine congrArg (V m c main_v44) ?_
    blk_ext [idx t]
  · rw [V_v44]; pointwise; exact h.hd _ _

theorem blk1 (t : Fin cfg0.N) (r : Fin 512) (n : Fin 768) : (iblk m c 1 t : FVec Ideal S512x768 .bf16) (ix2 r n) = ((D (row t r) (m1 n.val) : ℝ) : EReal) := by
  refine Eq.trans (b := V m c main_v46 (ix2 (row t r) n)) ?_ ?_
  · blk_simp [iblk, idx t]
    refine congrArg (V m c main_v46) ?_
    blk_ext [idx t]
  · rw [V_v46]; exact pieceM1_at h.hd _ n

theorem blk2 (t : Fin cfg0.N) (r : Fin 512) (n : Fin 768) : (iblk m c 2 t : FVec Ideal S512x768 .bf16) (ix2 r n) = ((D (row t r) (m2 n.val) : ℝ) : EReal) := by
  refine Eq.trans (b := V m c main_v48 (ix2 (row t r) n)) ?_ ?_
  · blk_simp [iblk, idx t]
    refine congrArg (V m c main_v48) ?_
    blk_ext [idx t]
  · rw [V_v48]; exact pieceM2_at h.hd _ n

theorem blk3 (t : Fin cfg0.N) (r : Fin 512) (n : Fin 640) : (iblk m c 3 t : FVec Ideal S512x640 .bf16) (ix2 r n)
    = ((dB (D (row t r)) (C (row t r)) (S (row t r)) n.val : ℝ) : EReal) := by
  refine Eq.trans (b := V m c main_v50 (ix2 (row t r) n)) ?_ ?_
  · blk_simp [iblk, idx t]
    refine congrArg (V m c main_v50) ?_
    blk_ext [idx t]
  · rw [V_v50]; exact pieceB_at h.hd h.hc h.hs _ n

theorem blk4 (t : Fin cfg0.N) (n : Fin 4096) (l : Fin 1024) : (iblk m c 4 t : FVec Ideal S4096x1024 .bf16) (ix2 n l) = ((W l (1952 + n.val) : ℝ) : EReal) := by
  refine Eq.trans (b := V m c main_v45 (ix2 n l)) ?_ ?_
  · blk_simp [iblk, idx t]
    refine congrArg (V m c main_v45) ?_
    blk_ext [idx t]
  · rw [V_v45]; pointwise; exact packT_gate h.hw n l

theorem blk5 (t : Fin cfg0.N) (n : Fin 768) (l : Fin 1024) : (iblk m c 5 t : FVec Ideal S768x1024 .bf16) (ix2 n l) = ((W l (m1 n.val) : ℝ) : EReal) := by
  refine Eq.trans (b := V m c main_v47 (ix2 n l)) ?_ ?_
  · blk_simp [iblk, idx t]
    refine congrArg (V m c main_v47) ?_
    blk_ext [idx t]
  · rw [V_v47]; pointwise; exact packT_m1 h.hw n l

theorem blk6 (t : Fin cfg0.N) (n : Fin 768) (l : Fin 1024) : (iblk m c 6 t : FVec Ideal S768x1024 .bf16) (ix2 n l) = ((W l (m2 n.val) : ℝ) : EReal) := by
  refine Eq.trans (b := V m c main_v49 (ix2 n l)) ?_ ?_
  · blk_simp [iblk, idx t]
    refine congrArg (V m c main_v49) ?_
    blk_ext [idx t]
  · rw [V_v49]; pointwise; exact packT_m2 h.hw n l

theorem blk7 (t : Fin cfg0.N) (n : Fin 640) (l : Fin 1024) : (iblk m c 7 t : FVec Ideal S640x1024 .bf16) (ix2 n l) = ((wB (W l) n.val : ℝ) : EReal) := by
  refine Eq.trans (b := V m c main_v51 (ix2 n l)) ?_ ?_
  · blk_simp [iblk, idx t]
    refine congrArg (V m c main_v51) ?_
    blk_ext [idx t]
  · rw [V_v51]; pointwise; exact packT_B h.hw n l

theorem blk8 (t : Fin cfg0.N) (r : Fin 512) (l : Fin 1024) : (iblk m c 8 t : FVec Ideal S512x1024 .f32) (ix2 r l) = ((X (row t r) l : ℝ) : EReal) := by
  rw [← h.hx, ← V_x m c]
  blk_simp [iblk, idx t]
  refine congrArg (V m c main_arg0) ?_
  blk_ext [idx t]

theorem blk9 (t : Fin cfg0.N) (l : Fin 1024) : (iblk m c 9 t : FVec Ideal S1x1024 .f32) (ix2 0 l) = ((G l : ℝ) : EReal) := by
  refine Eq.trans (b := V m c main_v52 (ix2 0 l)) ?_ ?_
  · blk_simp [iblk, idx t]
    refine congrArg (V m c main_v52) ?_
    blk_ext [idx t]
  · rw [V_g]; pointwise; exact h.hg l

omit h in
/-- The gradient of the projection's input, before the norm. -/
def back (W : Fin 1024 → ℕ → ℝ) (C S D : Fin 8192 → ℕ → ℝ) (i : Fin 8192) (l : Fin 1024) : ℝ := dh (D i) (C i) (S i) (W l)

theorem back_at (t : Fin cfg0.N) (r : Fin 512) (l : Fin 1024) :
    k0_pay6 (F := Ideal) (iblk m c 0 t) (iblk m c 4 t) (iblk m c 1 t) (iblk m c 5 t) (iblk m c 2 t) (iblk m c 6 t) (iblk m c 3 t) (iblk m c 7 t) (ix2 r l)
      = ((back W C S D (row t r) l : ℝ) : EReal) :=
  Pay.pay6 (blk0 m c h t) (blk1 m c h t) (blk2 m c h t) (blk3 m c h t) (blk4 m c h t) (blk5 m c h t) (blk6 m c h t) (blk7 m c h t) r l

theorem point11 (t : Fin cfg0.N) (r : Fin 512) (l : Fin 1024) : (outsAt0 m c t.val t.isLt).1 (ix2 r l)
    = A6 m c (ix2 (row t r) l) + ((norm_back (X (row t r)) G (back W C S D (row t r)) l : ℝ) : EReal) := by
  by_cases h0 : t.val % 16 = 0
  · rw [outsAt0_A m c t h0]; frame_out
    rw [← blk10]
    exact Pay.pay4 (back_at m c h t) (blk8 m c h t) (blk9 m c h t) _ r l
  · rw [outsAt0_B m c t h0]; frame_out
    rw [← blk10]
    exact Pay.pay4 (back_at m c h t) (blk8 m c h t) (blk9 m c h t) _ r l

theorem final11 : ((dats m 0 c).arrAt 11 cfg0.N : FVec Ideal S8192x1024 .f32)
    = fun i => A6 m c (ix2 (i 0) (i 1)) + ((norm_back (X (i 0)) G (back W C S D (i 0)) (i 1) : ℝ) : EReal) := by
  refine (dats m 0 c).arrAt_eq_of_covers 11 _ (by decide +kernel) fun t hf y => ?_
  blk_simp
  rw [after0_11]
  obtain ⟨r, l, rfl⟩ : ∃ (r : Fin 512) (l : Fin 1024), y = ix2 r l := ⟨y 0, y 1, by idx_vars y⟩
  rw [point11 m c h]
  have e : (win0_11.blk t).view.emb (ix2 r l) = ix2 (row t r) l := by blk_ext [idx t]
  rw [e]; rfl

theorem final12 : ((dats m 0 c).arrAt 12 cfg0.N : FVec Ideal S1x1024 .f32)
    = fun i => ((∑ k, back W C S D k (i 1) * (X k (i 1) * rr (X k) 1024) : ℝ) : EReal) := by
  refine (dats m 0 c).arrAt_eq_of_after_last 12 t0_15 (by decide +kernel) _ fun j => ?_
  blk_simp
  idx_vars j
  obtain rfl := Subsingleton.elim j0 0
  rw [after0_12, Pipeline.eq_sum_fin_of_reset_step_apply_last (fun n h => (outsAt0 m c n h).2) 16 (fun _ => 0)
    (fun p j => ∑ r : Fin 512, ((back W C S D (row p r) (j 1) * (X (row p r) (j 1) * rr (X (row p r)) 1024) : ℝ) : EReal))
    (fun t h0 j => by
      idx_vars j; obtain rfl := Subsingleton.elim j0 0; rw [outsAt0_A m c t h0]; frame_out
      rw [Pay.pay3 (back_at m c h t) (blk8 m c h t), Pay.pay5])
    (fun t h0 j => by
      idx_vars j; obtain rfl := Subsingleton.elim j0 0; rw [outsAt0_B m c t h0]; frame_out
      rw [Pay.pay3 (back_at m c h t) (blk8 m c h t)])
    (le_of_eq N_0) t0_15 rfl (ix2 0 j1), zero_add]
  simp only [sum_coe]
  exact congrArg _ (Fin.sum_mul_add_fin 16 512 (fun i => back W C S D i j1 * (X i j1 * rr (X i) 1024)))

end Cert.InProjIdeal.Arrays

end
-- ==== Proof.InProj.Ref.lean ====
/- The reference's two results at finite arguments. -/
module

public import proofs.«01_k».proof.Proof.Gen.InProjRefIdeal.Read
public import proofs.«01_k».proof.Proof.InProj.Spec

@[expose] public section

set_option maxRecDepth 16384

noncomputable section

namespace Cert.InProjRefIdeal.Grad

open Cert.InProjRefIdeal Cert.InProjRefIdeal.Gen Cert.InProjRefIdeal.Read Cert.Reals Cert.Ffn2Spec Cert.InProjSpec
open Idealize.ShloMosaic Idealize.ShloMosaic.TcCoe Idealize.SL.Sem

variable {x : FVec Ideal S8192x1024 .f32} {g : FVec Ideal S1024 .f32} {w : FVec Ideal S1024x6048 .f32} {co si : FVec Ideal S8192x16 .f32}
  {d : FVec Ideal S8192x6048 .f32}
variable {X : Fin 8192 → Fin 1024 → ℝ} {G : Fin 1024 → ℝ} {W : Fin 1024 → ℕ → ℝ} {C S D : Fin 8192 → ℕ → ℝ}
variable (hx : ∀ i l, x (ix2 i l) = ((X i l : ℝ) : EReal)) (hg : ∀ l, g (ix1 l) = ((G l : ℝ) : EReal))
  (hw : ∀ l (n : Fin 6048), w (ix2 l n) = ((W l n.val : ℝ) : EReal)) (hc : ∀ i (n : Fin 16), co (ix2 i n) = ((C i n.val : ℝ) : EReal))
  (hs : ∀ i (n : Fin 16), si (ix2 i n) = ((S i n.val : ℝ) : EReal)) (hd : ∀ i (n : Fin 6048), d (ix2 i n) = ((D i n.val : ℝ) : EReal))

theorem sum_eq {f g k : ℕ → ℝ} {a b p q a' b' p' q' : ℕ} (h0 : a = a') (h1 : p = p') (h2 : b = b') (h3 : q = q') :
    f a * g p + f b * k q = f a' * g p' + f b' * k q' := by subst h0 h1 h2 h3; rfl

theorem diff_eq {f g k : ℕ → ℝ} {a b p q a' b' p' q' : ℕ} (h0 : a = a') (h1 : p = p') (h2 : b = b') (h3 : q = q') :
    f a * g p + -f b * k q = f a' * g p' + -f b' * k q' := by subst h0 h1 h2 h3; rfl

theorem ct_out {D C S : ℕ → ℝ} {a n : ℕ} (h : a = n) (hn : n < 384 ∨ 416 ≤ n) : ((D a : ℝ) : EReal) = ((ct D C S n : ℝ) : EReal) := by
  subst h
  unfold ct
  split_ifs <;> first | rfl | omega

include hc hs hd in
theorem v56 (i : Fin 8192) (n : Fin 32) : val_main_v56 (F := Ideal) co si d (ix2 i n) = ((ct (D i) (C i) (S i) (384 + n.val) : ℝ) : EReal) := by
  pointwise [val_main_v56, val_main_v55, val_main_v54, val_main_v53, val_main_v52, val_main_v51, val_main_v50, val_main_v49, val_main_v48,
    val_main_v47, val_main_v39]
  simp only [hc, hs, hd, ← EReal.coe_neg, ← EReal.coe_mul, ← EReal.coe_add]
  unfold ct
  rw [if_neg (by omega)]
  by_cases h : n.val < 16
  · rw [dif_pos h, if_pos (by omega)]
    exact congrArg _ (sum_eq (f := D i) (g := S i) (k := C i) (by omega) (by omega) (by omega) (by omega))
  · rw [dif_neg h, if_neg (by omega), if_pos (by omega)]
    exact congrArg _ (diff_eq (f := D i) (g := C i) (k := S i) (by omega) (by omega) (by omega) (by omega))

set_option maxHeartbeats 2000000 in
include hc hs hd in
theorem v57 (i : Fin 8192) (n : Fin 6048) : val_main_v57 (F := Ideal) co si d (ix2 i n) = ((ct (D i) (C i) (S i) n.val : ℝ) : EReal) := by
  pointwise [val_main_v57, val_main_v37, val_main_v38, val_main_v40, val_main_v41, val_main_v42, val_main_v43, val_main_v44, val_main_v45, val_main_v46]
  simp only [hd, v56 hc hs hd]
  split_ifs <;> first | exact ct_out (by omega) (by omega) | exact congrArg (fun k => ((ct (D i) (C i) (S i) k : ℝ) : EReal)) (by omega)

include hw hc hs hd in
theorem v58 (i : Fin 8192) (l : Fin 1024) : val_main_v58 (F := Ideal) w co si d (ix2 i l) = ((dh (D i) (C i) (S i) (W l) : ℝ) : EReal) := by
  pointwise [val_main_v58]
  simp only [v57 hc hs hd, hw, ← EReal.coe_mul, sum_coe]
  rw [dh_sum]

include hx in
theorem v6 (i : Fin 8192) : val_main_v6 (F := Ideal) x (ix2 i 0) = ((ms (X i) 1024 : ℝ) : EReal) := by
  pointwise [val_main_v6, val_main_v5, val_main_v4, val_main_v3, val_main_v2, val_main_v1, val_main_v0, val_main_cst, val_main_cst_0, val_main_cst_1]
  simp only [hx, eps_word, w1024, ← EReal.coe_mul, sum_coe, zero_add, div_1024, ← EReal.coe_add]; rfl

include hx in
theorem v7 (i : Fin 8192) : val_main_v7 (F := Ideal) x (ix2 i 0) = ((rr (X i) 1024 : ℝ) : EReal) := by
  pointwise [val_main_v7]
  rw [v6 hx, rsqrt_ms _ (by norm_num)]

include hx in
theorem v8 (i : Fin 8192) : val_main_v8 (F := Ideal) x (ix2 i 0) = ((rr (X i) 1024 / ms (X i) 1024 : ℝ) : EReal) := by
  pointwise [val_main_v8]
  rw [v6 hx, v7 hx, div_real (ms_pos _ (by norm_num)).ne']

include hg hw hc hs hd in
theorem v63 (i : Fin 8192) (l : Fin 1024) : val_main_v63 (F := Ideal) g w co si d (ix2 i l) = ((dh (D i) (C i) (S i) (W l) * G l : ℝ) : EReal) := by
  pointwise [val_main_v63, val_main_v62, val_main_v13]
  rw [v58 hw hc hs hd, hg, ← EReal.coe_mul]

include hx hg hw hc hs hd in
theorem v75 (i : Fin 8192) (l : Fin 1024) : val_main_v75 (F := Ideal) x g w co si d (ix2 i l)
    = (((∑ k, X i k * (dh (D i) (C i) (S i) (W k) * G k)) * (-1 / 2 * (rr (X i) 1024 / ms (X i) 1024)) / 1024 : ℝ) : EReal) := by
  pointwise [val_main_v75, val_main_v74, val_main_v73, val_main_v72, val_main_v71, val_main_v67, val_main_v66, val_main_v65,
    val_main_v10, val_main_v9, val_main_cst_2, val_main_cst_5, val_main_cst_6, val_main_cst_7]
  simp only [v63 hg hw hc hs hd, v8 hx, hx, w1024, wneghalf, ← EReal.coe_mul, sum_coe, zero_add, div_1024, Finset.univ_unique, Fin.default_eq_zero,
    Finset.sum_singleton]

include hx hg hw hc hs hd in
theorem v79 (s : FVec Ideal S8192x1024 .f32) (i : Fin 8192) (l : Fin 1024) : val_main_v79 (F := Ideal) x g w co si d s (ix2 i l)
    = s (ix2 i l) + ((norm_back (X i) G (fun k => dh (D i) (C i) (S i) (W k)) l : ℝ) : EReal) := by
  pointwise [val_main_v79, val_main_v78, val_main_v77, val_main_v76, val_main_v70, val_main_v69, val_main_v68]
  rw [v75 hx hg hw hc hs hd, v63 hg hw hc hs hd, v7 hx, hx, norm_back, rms_grad (X i) (fun k => dh (D i) (C i) (S i) (W k) * G k) (by norm_num)]
  simp only [← EReal.coe_mul, add_assoc, ← EReal.coe_add]

include hx hw hc hs hd in
theorem v80 (l : Fin 1024) : val_main_v80 (F := Ideal) x w co si d (ix2 0 l)
    = ((∑ i, dh (D i) (C i) (S i) (W l) * (X i l * rr (X i) 1024) : ℝ) : EReal) := by
  pointwise [val_main_v80, val_main_v64, val_main_v61, val_main_v60, val_main_v59, val_main_v12, val_main_v11, val_main_cst_3, val_main_cst_4]
  simp only [v58 hw hc hs hd, v7 hx, hx, ← EReal.coe_mul, sum_coe, zero_add, Finset.univ_unique, Fin.default_eq_zero, Finset.sum_singleton]
  exact congrArg _ (Finset.sum_congr rfl fun i _ => mul_comm _ _)

end Cert.InProjRefIdeal.Grad

end
-- ==== Proof.InProj.Pre.lean ====
/- The precondition read back: the input projection's arguments and its cotangent are arrays of reals. -/
module

public import proofs.«01_k».proof.Pre_finite_inproj
public import proofs.«01_k».proof.Proof.Kit.Reals

@[expose] public section

set_option maxRecDepth 16384

noncomputable section

namespace Cert.Pre_finite_inproj.Read

open Cert.Pre_finite_inproj Cert.Reals Idealize.ShloMosaic

variable [Facts]

theorem reals (x : FVec Ideal S8192x1024 .f32) (g : FVec Ideal S1024 .f32) (w : FVec Ideal S1024x6048 .f32) (co : FVec Ideal S8192x16 .f32) (si : FVec Ideal S8192x16 .f32) (d : FVec Ideal S8192x6048 .f32) (s : FVec Ideal S8192x1024 .f32)
    (h : fn (F := Ideal) x g w co si d s = fun _ => 1#1) :
    (∃ X : S8192x1024.Idx → ℝ, x = up X)
      ∧ (∃ G : S1024.Idx → ℝ, g = up G)
      ∧ (∃ W : S1024x6048.Idx → ℝ, w = up W)
      ∧ (∃ C : S8192x16.Idx → ℝ, co = up C)
      ∧ (∃ S : S8192x16.Idx → ℝ, si = up S)
      ∧ ∃ D : S8192x6048.Idx → ℝ, d = up D := by
  have h := congrFun h (fun k => k.elim0)
  unfold fn fn_part1  at h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  haveI : Subsingleton S_.Idx := ⟨fun p q => funext fun k => k.elim0⟩
  exact ⟨reals_of_all _ _ (fun _ => rfl) _ _ _ _ h1,
    reals_of_all _ _ (fun _ => rfl) _ _ _ _ h2,
    reals_of_all _ _ (fun _ => rfl) _ _ _ _ h3,
    reals_of_all _ _ (fun _ => rfl) _ _ _ _ h4,
    reals_of_all _ _ (fun _ => rfl) _ _ _ _ h5,
    reals_of_all _ _ (fun _ => rfl) _ _ _ _ h6⟩

end Cert.Pre_finite_inproj.Read

end
-- ==== Proof.InProj.Claim.lean ====
/- The value claim of the input projection's gradient. -/
module

public import proofs.«01_k».proof.Defs
public import proofs.«01_k».proof.Proof.InProj.Kernel
public import proofs.«01_k».proof.Proof.InProj.Ref
public import proofs.«01_k».proof.Proof.InProj.Pre
public import proofs.«01_k».proof.Proof.Gen.InProjRefIdeal.Run
public import Idealize.ShloMosaic.Lib.Claim

@[expose] public section

set_option maxRecDepth 16384

noncomputable section

namespace Cert.InProjClaim

open Idealize.ShloMosaic Idealize.ShloMosaic.TcCoe Idealize.SL.Sem

/-- A row of reals read at any number, zero past its end. -/
def past {n : ℕ} (f : Fin n → ℝ) (k : ℕ) : ℝ := if h : k < n then f ⟨k, h⟩ else 0

theorem past_val {n : ℕ} (f : Fin n → ℝ) (k : Fin n) : past f k.val = f k := dif_pos k.isLt

theorem given [Cert.Pre_finite_inproj.Facts]
    (m : (ℓ : Loc Cert.InProjIdeal.nD Cert.InProjIdeal.τ Cert.InProjIdeal.sig) → Buf (Elt Ideal) ℓ)
    (h : Cert.Pre_InProjIdeal_finite_inproj m) (c : Dev Cert.InProjIdeal.nD) :
    ∃ X G W C S D, Cert.InProjIdeal.Arrays.Given m c X G W C S D := by
  obtain ⟨⟨X, hX⟩, ⟨G, hG⟩, ⟨W, hW⟩, ⟨C, hC⟩, ⟨S, hS⟩, D, hD⟩ := Cert.Pre_finite_inproj.Read.reals _ _ _ _ _ _ _ (h c)
  exact ⟨fun i l => X (ix2 i l), fun l => G (ix1 l), fun l => past fun n : Fin 6048 => W (ix2 l n), fun i => past fun n : Fin 16 => C (ix2 i n),
    fun i => past fun n : Fin 16 => S (ix2 i n), fun i => past fun n : Fin 6048 => D (ix2 i n),
    fun i l => congrFun hX _, fun l => congrFun hG _, fun l n => by rw [past_val]; exact congrFun hW _,
    fun i n => by rw [past_val]; exact congrFun hC _, fun i n => by rw [past_val]; exact congrFun hS _,
    fun i n => by rw [past_val]; exact congrFun hD _⟩

theorem algebraic [Cert.Pre_finite_inproj.Facts] :
    Cert.algebraic_InProjIdeal_InProjRefIdeal_pre_finite_inproj (hInProjIdeal := Cert.InProjIdeal.Gen.facts)
      (hInProjRefIdeal := Cert.InProjRefIdeal.Gen.facts) := by
  pair_intro
  · run_from Cert.InProjIdeal.Value.run_blocks m g
  · run_from Cert.InProjRefIdeal.Value.run m' g'
    all_goals
      obtain ⟨X, G, W, C, S, D, h⟩ := given m hpre c
      obtain ⟨e0, e1, e2, e3, e4, e5, e6⟩ := hagree c
    · rw [Cert.InProjRefIdeal.Read.val_main_v79_eq, Cert.InProjIdeal.Arrays.final11 m c h]
      refine (congr (congr (congr (congr (congr (congr (congrArg (Cert.InProjRefIdeal.Read.val_main_v79 (F := Ideal)) e0) e1) e2) e3) e4) e5) e6).trans ?_
      funext i
      idx_vars i
      exact Cert.InProjRefIdeal.Grad.v79 h.hx h.hg h.hw h.hc h.hs h.hd _ i0 i1
    · refine (Cert.InProjRefIdeal.Read.val_main_v80_eq _ _ _ _ _).trans ?_
      rw [Cert.InProjIdeal.Arrays.final12 m c h]
      rw [e3, e4, e5]
      funext i
      idx_vars i
      obtain rfl := Subsingleton.elim i0 0
      exact Cert.InProjRefIdeal.Grad.v80 h.hx h.hw h.hc h.hs h.hd i1

theorem frame_ref : Cert.quiescent_InProjRefIdeal (hInProjRefIdeal := Cert.InProjRefIdeal.Gen.facts) := fun m ρ _ =>
  (θ_run _ _ _).mono (fun r h => ⟨fun c => (h c).2.2, sem_eq_zero_of_no_sems (by decide) r.2⟩)
    (Cert.InProjRefIdeal.Value.run m ρ)

theorem frame_ref_pre [Cert.Pre_finite_inproj.Facts] :
    Cert.quiescent_InProjRefIdeal_pre_finite_inproj (hInProjRefIdeal := Cert.InProjRefIdeal.Gen.facts) :=
  fun m ρ _ => frame_ref m ρ True.intro

end Cert.InProjClaim

end
-- ==== Proof.Loss.Spec.lean ====
/- The loss, its error and its gradient, over the reals. -/
module

public import proofs.«01_k».proof.Proof.Ffn2.Spec

@[expose] public section

set_option maxRecDepth 16384

noncomputable section

namespace Cert.LossSpec

open Cert.Reals Cert.Ffn2Spec Idealize.ShloMosaic

theorem half_word : Ideal.ofBits .f32 0x3F000000#32 = ((1 / 2 : ℝ) : EReal) := by
  simp [Ideal.ofBits, Ideal.ieee, -EReal.coe_mul]; norm_num

theorem one_word : Ideal.ofBits .f32 0x3F800000#32 = ((1 : ℝ) : EReal) := by
  simp [Ideal.ofBits, Ideal.ieee, -EReal.coe_mul]; norm_num

theorem inv1024_word : Ideal.ofBits .f32 0x3A800000#32 = ((1 / 1024 : ℝ) : EReal) := by
  simp [Ideal.ofBits, Ideal.ieee, -EReal.coe_mul]; norm_num

/-- The error of a row: `X` plus the norm of `F`, less the target `Y`. -/
def err_row (F X G Y : Fin 1024 → ℝ) (l : Fin 1024) : ℝ := X l + F l * rr F 1024 * G l - Y l

/-- A row's share of the loss. -/
def loss_row (F X G Y : Fin 1024 → ℝ) : ℝ := 1 / 2 * ((∑ l, err_row F X G Y l * err_row F X G Y l) / 1024)

end Cert.LossSpec

end
-- ==== Proof.Loss.Pay.lean ====
/- What the body of the loss call stores, at finite blocks. -/
module

public import proofs.«01_k».proof.Proof.Gen.LossIdeal.Skeleton
public import proofs.«01_k».proof.Proof.Loss.Spec

@[expose] public section

set_option maxRecDepth 16384

noncomputable section

namespace Cert.LossIdeal.Pay

open Cert.LossIdeal Cert.LossIdeal.Gen Cert.Reals Cert.Ffn2Spec Cert.LossSpec
open Idealize.ShloMosaic Idealize.ShloMosaic.TcCoe Idealize.SL.Sem

/-- The product at a block's rows. -/
def fb (A : Fin 512 → Fin 4096 → ℝ) (W : Fin 4096 → Fin 1024 → ℝ) (r : Fin 512) (l : Fin 1024) : ℝ :=
  ∑ k, max (A r k) 0 * max (A r k) 0 * W k l

variable {a : FVec Ideal S512x4096 .bf16} {w : FVec Ideal S4096x1024 .bf16} {x y : FVec Ideal S512x1024 .f32}
  {g : FVec Ideal S1x1024 .f32}
variable {A : Fin 512 → Fin 4096 → ℝ} {W : Fin 4096 → Fin 1024 → ℝ} {X Y : Fin 512 → Fin 1024 → ℝ} {G : Fin 1024 → ℝ}
variable (ha : ∀ r k, a (ix2 r k) = ((A r k : ℝ) : EReal)) (hw : ∀ k l, w (ix2 k l) = ((W k l : ℝ) : EReal))
  (hx : ∀ r l, x (ix2 r l) = ((X r l : ℝ) : EReal)) (hg : ∀ l, g (ix2 0 l) = ((G l : ℝ) : EReal))
  (hy : ∀ r l, y (ix2 r l) = ((Y r l : ℝ) : EReal))

include ha hw in
theorem pay3 (r : Fin 512) (l : Fin 1024) : k0_pay3 (F := Ideal) a w (ix2 r l) = ((fb A W r l : ℝ) : EReal) := by
  pointwise [k0_pay3]
  simp only [ha, hw, max_zero, ← EReal.coe_mul, sum_coe]
  rfl

include ha hw hx hg hy in
theorem pay4 (r : Fin 512) (l : Fin 1024) :
    k0_pay4 (F := Ideal) a w x g y (ix2 r l) = ((err_row (fb A W r) (X r) G (Y r) l : ℝ) : EReal) := by
  pointwise [k0_pay4]
  simp only [pay3 ha hw, hx, hg, hy, eps_word, w1024, ← EReal.coe_mul, sum_coe, zero_add, div_1024, ← EReal.coe_add, rsqrt_mean,
    ← EReal.coe_sub]
  rfl

include ha hw hx hg hy in
theorem pay5 (r : Fin 512) (l : Fin 1024) :
    k0_pay5 (F := Ideal) a w x g y (ix2 r l) = ((err_row (fb A W r) (X r) G (Y r) l * (1 / 1024) : ℝ) : EReal) := by
  pointwise [k0_pay5]
  rw [pay4 ha hw hx hg hy, inv1024_word, ← EReal.coe_mul]

theorem pay1 {e : FVec Ideal S512x1024 .f32} {E : Fin 512 → Fin 1024 → ℝ} (he : ∀ r l, e (ix2 r l) = ((E r l : ℝ) : EReal))
    (acc : FVec Ideal S8x128 .f32) (p : Fin 8) (q : Fin 128) :
    k0_pay1 (F := Ideal) e acc (ix2 p q) = acc (ix2 p q) + ∑ r : Fin 512, ((1 / 2 * ((∑ l, E r l * E r l) / 1024) : ℝ) : EReal) := by
  pointwise [k0_pay1]
  simp only [he, half_word, w1024, ← EReal.coe_mul, sum_coe, zero_add, div_1024, Finset.mul_sum]

theorem pay2 (j : S8x128.Idx) : k0_pay2 (F := Ideal) j = 0 := by pointwise [k0_pay2]

end Cert.LossIdeal.Pay

end
-- ==== Proof.Loss.Kernel.lean ====
/- The three arrays the loss call leaves, at finite arguments. -/
module

public import proofs.«01_k».proof.Proof.Gen.LossIdeal.Value
public import proofs.«01_k».proof.Proof.Loss.Pay
public import Idealize.ShloMosaic.Lib.Pipeline.ValueKit
public import Idealize.ShloMosaic.Lib.StableHlo.RunRead

@[expose] public section

set_option maxRecDepth 16384

noncomputable section

namespace Cert.LossIdeal.Arrays

open Cert.LossIdeal Cert.LossIdeal.Gen Cert.Reals Cert.Ffn2Spec Cert.LossSpec
open Idealize.ShloMosaic Idealize.ShloMosaic.TcCoe Idealize.SL.Sem
open Idealize.ShloMosaic.Pipeline (Dat)

variable (m : (ℓ : Loc nD τ sig) → Buf (Elt Ideal) ℓ) (c : Dev nD)

abbrev A0 : FVec Ideal S8192x4096 .f32 := m ((c : Thread nD τ).loc main_arg0)
abbrev A1 : FVec Ideal S4096x1024 .f32 := m ((c : Thread nD τ).loc main_arg1)
abbrev A2 : FVec Ideal S8192x1024 .f32 := m ((c : Thread nD τ).loc main_arg2)
abbrev A3 : FVec Ideal S1024 .f32 := m ((c : Thread nD τ).loc main_arg3)
abbrev A4 : FVec Ideal S8192x1024 .f32 := m ((c : Thread nD τ).loc main_arg4)

/-- The arguments are these reals. -/
structure Given (A : Fin 8192 → Fin 4096 → ℝ) (W : Fin 4096 → Fin 1024 → ℝ) (X : Fin 8192 → Fin 1024 → ℝ) (G : Fin 1024 → ℝ)
    (Y : Fin 8192 → Fin 1024 → ℝ) : Prop where
  ha : ∀ i k, A0 m c (ix2 i k) = ((A i k : ℝ) : EReal)
  hw : ∀ k l, A1 m c (ix2 k l) = ((W k l : ℝ) : EReal)
  hx : ∀ i l, A2 m c (ix2 i l) = ((X i l : ℝ) : EReal)
  hg : ∀ l, A3 m c (ix1 l) = ((G l : ℝ) : EReal)
  hy : ∀ i l, A4 m c (ix2 i l) = ((Y i l : ℝ) : EReal)

theorem V_a : V m c main_v0 = truncf (F := Ideal) .bf16 (A0 m c) bitsLt_bf16_f32 := by
  unfold V hostOps0
  after_reads_simp
theorem V_w : V m c main_v1 = truncf (F := Ideal) .bf16 (A1 m c) bitsLt_bf16_f32 := by
  unfold V hostOps0
  after_reads_simp
theorem V_g : V m c main_v2 = broadcastInDim S1x1024 ![1] bcast_S1024_S1x1024_1 (A3 m c) := by
  unfold V hostOps0
  after_reads_simp
theorem V_x : V m c main_arg2 = A2 m c := by
  unfold V hostOps0
  after_reads_simp
theorem V_y : V m c main_arg4 = A4 m c := by
  unfold V hostOps0
  after_reads_simp

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![t.val, 0] :=
  (by decide +kernel : ∀ t : Fin grid0.N, _)

/-- The row of the array that row `r` of point `t`'s block is. -/
abbrev row (t : Fin cfg0.N) (r : Fin 512) : Fin 8192 := ⟨t.val * 512 + r.val, by have := lt_of_lt_of_eq t.isLt N_0; omega⟩

variable {A : Fin 8192 → Fin 4096 → ℝ} {W : Fin 4096 → Fin 1024 → ℝ} {X Y : Fin 8192 → Fin 1024 → ℝ} {G : Fin 1024 → ℝ}
variable (h : Given m c A W X G Y)
include h

theorem blk0 (t : Fin cfg0.N) (r : Fin 512) (k : Fin 4096) : (iblk m c 0 t : FVec Ideal S512x4096 .bf16) (ix2 r k) = ((A (row t r) k : ℝ) : EReal) := by
  refine Eq.trans (b := V m c main_v0 (ix2 (row t r) k)) ?_ ?_
  · blk_simp [iblk, idx t]
    refine congrArg (V m c main_v0) ?_
    blk_ext [idx t]
  · rw [V_a]; pointwise; exact h.ha _ k

theorem blk1 (t : Fin cfg0.N) (k : Fin 4096) (l : Fin 1024) : (iblk m c 1 t : FVec Ideal S4096x1024 .bf16) (ix2 k l) = ((W k l : ℝ) : EReal) := by
  refine Eq.trans (b := V m c main_v1 (ix2 k l)) ?_ ?_
  · blk_simp [iblk, idx t]
    refine congrArg (V m c main_v1) ?_
    blk_ext [idx t]
  · rw [V_w]; pointwise; exact h.hw k l

theorem blk2 (t : Fin cfg0.N) (r : Fin 512) (l : Fin 1024) : (iblk m c 2 t : FVec Ideal S512x1024 .f32) (ix2 r l) = ((X (row t r) l : ℝ) : EReal) := by
  rw [← h.hx, ← V_x m c]
  blk_simp [iblk, idx t]
  refine congrArg (V m c main_arg2) ?_
  blk_ext [idx t]

theorem blk3 (t : Fin cfg0.N) (l : Fin 1024) : (iblk m c 3 t : FVec Ideal S1x1024 .f32) (ix2 0 l) = ((G l : ℝ) : EReal) := by
  refine Eq.trans (b := V m c main_v2 (ix2 0 l)) ?_ ?_
  · blk_simp [iblk, idx t]
    refine congrArg (V m c main_v2) ?_
    blk_ext [idx t]
  · rw [V_g]; pointwise; exact h.hg l

theorem blk4 (t : Fin cfg0.N) (r : Fin 512) (l : Fin 1024) : (iblk m c 4 t : FVec Ideal S512x1024 .f32) (ix2 r l) = ((Y (row t r) l : ℝ) : EReal) := by
  rw [← h.hy, ← V_y m c]
  blk_simp [iblk, idx t]
  refine congrArg (V m c main_arg4) ?_
  blk_ext [idx t]

theorem point5 (t : Fin cfg0.N) (r : Fin 512) (l : Fin 1024) : (outsAt0 m c t.val t.isLt).1 (ix2 r l)
    = ((err_row (f A W (row t r)) (X (row t r)) G (Y (row t r)) l * (1 / 1024) : ℝ) : EReal) := by
  by_cases h0 : t.val % 16 = 0
  · rw [outsAt0_A m c t h0]; frame_out
    exact Pay.pay5 (blk0 m c h t) (blk1 m c h t) (blk2 m c h t) (blk3 m c h t) (blk4 m c h t) r l
  · rw [outsAt0_B m c t h0]; frame_out
    exact Pay.pay5 (blk0 m c h t) (blk1 m c h t) (blk2 m c h t) (blk3 m c h t) (blk4 m c h t) r l

theorem point6 (t : Fin cfg0.N) (r : Fin 512) (l : Fin 1024) : (outsAt0 m c t.val t.isLt).2.1 (ix2 r l) = ((f A W (row t r) l : ℝ) : EReal) := by
  by_cases h0 : t.val % 16 = 0
  · rw [outsAt0_A m c t h0]; frame_out
    exact Pay.pay3 (blk0 m c h t) (blk1 m c h t) r l
  · rw [outsAt0_B m c t h0]; frame_out
    exact Pay.pay3 (blk0 m c h t) (blk1 m c h t) r l

theorem final5 : ((dats m 0 c).arrAt 5 cfg0.N : FVec Ideal S8192x1024 .f32)
    = fun i => ((err_row (f A W (i 0)) (X (i 0)) G (Y (i 0)) (i 1) * (1 / 1024) : ℝ) : EReal) := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, by idx_vars y⟩
  rw [point5 m c h]
  have e : (win0_5.blk t).view.emb (ix2 r l) = ix2 (row t r) l := by blk_ext [idx t]
  rw [e]; rfl

theorem final6 : ((dats m 0 c).arrAt 6 cfg0.N : FVec Ideal S8192x1024 .f32) = fun i => ((f A W (i 0) (i 1) : ℝ) : EReal) := by
  refine (dats m 0 c).arrAt_eq_of_covers 6 _ (by decide +kernel) fun t hf y => ?_
  blk_simp
  rw [after0_6]
  obtain ⟨r, l, rfl⟩ : ∃ (r : Fin 512) (l : Fin 1024), y = ix2 r l := ⟨y 0, y 1, by idx_vars y⟩
  rw [point6 m c h]
  have e : (win0_6.blk t).view.emb (ix2 r l) = ix2 (row t r) l := by blk_ext [idx t]
  rw [e]; rfl

theorem final7 : ((dats m 0 c).arrAt 7 cfg0.N : FVec Ideal S8x128 .f32)
    = fun _ => ((∑ i, loss_row (f A W i) (X i) G (Y i) : ℝ) : EReal) := by
  refine (dats m 0 c).arrAt_eq_of_after_last 7 t0_15 (by decide +kernel) _ fun j => ?_
  blk_simp
  rw [after0_7, Pipeline.eq_sum_fin_of_reset_step_apply_last (fun n h => (outsAt0 m c n h).2.2) 16 (fun _ => 0)
    (fun p j => ∑ r : Fin 512, ((loss_row (f A W (row p r)) (X (row p r)) G (Y (row p r)) : ℝ) : EReal))
    (fun t h0 j => by
      idx_vars j; rw [outsAt0_A m c t h0]; frame_out
      rw [Pay.pay1 (Pay.pay4 (blk0 m c h t) (blk1 m c h t) (blk2 m c h t) (blk3 m c h t) (blk4 m c h t)), Pay.pay2]; rfl)
    (fun t h0 j => by
      idx_vars j; rw [outsAt0_B m c t h0]; frame_out
      rw [Pay.pay1 (Pay.pay4 (blk0 m c h t) (blk1 m c h t) (blk2 m c h t) (blk3 m c h t) (blk4 m c h t))]; rfl)
    (le_of_eq N_0) t0_15 rfl j, zero_add]
  simp only [sum_coe]
  exact congrArg _ (Fin.sum_mul_add_fin 16 512 (fun i => loss_row (f A W i) (X i) G (Y i)))

end Cert.LossIdeal.Arrays

end
-- ==== Proof.Loss.Ref.lean ====
/- The reference's three results at finite arguments. -/
module

public import proofs.«01_k».proof.Proof.Gen.LossRefIdeal.Read
public import proofs.«01_k».proof.Proof.Loss.Spec

@[expose] public section

set_option maxRecDepth 16384

noncomputable section

namespace Cert.LossRefIdeal.Grad

open Cert.LossRefIdeal Cert.LossRefIdeal.Gen Cert.LossRefIdeal.Read Cert.Reals Cert.Ffn2Spec Cert.LossSpec
open Idealize.ShloMosaic Idealize.ShloMosaic.TcCoe Idealize.SL.Sem

variable {a : FVec Ideal S8192x4096 .f32} {w : FVec Ideal S4096x1024 .f32} {g : FVec Ideal S1024 .f32} {x y : FVec Ideal S8192x1024 .f32}
variable {A : Fin 8192 → Fin 4096 → ℝ} {W : Fin 4096 → Fin 1024 → ℝ} {G : Fin 1024 → ℝ} {X Y : Fin 8192 → Fin 1024 → ℝ}
variable (ha : ∀ i k, a (ix2 i k) = ((A i k : ℝ) : EReal)) (hw : ∀ k l, w (ix2 k l) = ((W k l : ℝ) : EReal))
  (hx : ∀ i l, x (ix2 i l) = ((X i l : ℝ) : EReal)) (hg : ∀ l, g (ix1 l) = ((G l : ℝ) : EReal))
  (hy : ∀ i l, y (ix2 i l) = ((Y i l : ℝ) : EReal))

include ha hw in
theorem v2 (i : Fin 8192) (l : Fin 1024) : val_main_v2 (F := Ideal) a w (ix2 i l) = ((f A W i l : ℝ) : EReal) := by
  pointwise [val_main_v2, val_main_v1, val_main_v0, val_main_call0_v0, val_main_call0_cst]
  simp only [ha, hw, max_zero, ← EReal.coe_mul, sum_coe]; rfl

include ha hw hx hg hy in
theorem v17 (i : Fin 8192) (l : Fin 1024) :
    val_main_v17 (F := Ideal) a w x g y (ix2 i l) = ((err_row (f A W i) (X i) G (Y i) l : ℝ) : EReal) := by
  pointwise [val_main_v17, val_main_v16, val_main_v15, val_main_v14, val_main_v13, val_main_v12, val_main_v11, val_main_v10, val_main_v9,
    val_main_v8, val_main_v7, val_main_v6, val_main_v5, val_main_v4, val_main_v3, val_main_cst, val_main_cst_0, val_main_cst_1]
  simp only [v2 ha hw, hx, hg, hy, eps_word, w1024, ← EReal.coe_mul, sum_coe, zero_add, div_1024, ← EReal.coe_add, rsqrt_mean,
    ← EReal.coe_sub]
  rfl

include ha hw hx hg hy in
theorem v31 (i : Fin 8192) (l : Fin 1024) :
    val_main_v31 (F := Ideal) a w x g y (ix2 i l) = ((err_row (f A W i) (X i) G (Y i) l * (1 / 1024) : ℝ) : EReal) := by
  pointwise [val_main_v31, val_main_v30, val_main_v29, val_main_v28, val_main_v27, val_main_v26, val_main_v20, val_main_v19, val_main_cst_2,
    val_main_cst_7, val_main_cst_8, val_main_cst_9]
  simp only [v17 ha hw hx hg hy, half_word, one_word, two_word, w1024, ← EReal.coe_mul, div_1024]
  exact congrArg _ (by ring)

include ha hw hx hg hy in
theorem v32 (p : Fin 8) (q : Fin 128) :
    val_main_v32 (F := Ideal) a w x g y (ix2 p q) = ((∑ i, loss_row (f A W i) (X i) G (Y i) : ℝ) : EReal) := by
  pointwise [val_main_v32, val_main_v25, val_main_v24, val_main_v23, val_main_v22, val_main_v21, val_main_v18, val_main_cst_3, val_main_cst_4,
    val_main_cst_5, val_main_cst_6]
  simp only [v17 ha hw hx hg hy, half_word, w1024, ← EReal.coe_mul, sum_coe, zero_add, div_1024, Finset.mul_sum]
  rfl

end Cert.LossRefIdeal.Grad

end
-- ==== Proof.Loss.Pre.lean ====
/- The precondition read back: the loss's arguments are arrays of reals. -/
module

public import proofs.«01_k».proof.Pre_finite_loss
public import proofs.«01_k».proof.Proof.Kit.Reals

@[expose] public section

set_option maxRecDepth 16384

noncomputable section

namespace Cert.Pre_finite_loss.Read

open Cert.Pre_finite_loss Cert.Reals Idealize.ShloMosaic

variable [Facts]

theorem reals (a : FVec Ideal S8192x4096 .f32) (w : FVec Ideal S4096x1024 .f32) (x : FVec Ideal S8192x1024 .f32) (g : FVec Ideal S1024 .f32) (y : FVec Ideal S8192x1024 .f32)
    (h : fn (F := Ideal) a w x g y = fun _ => 1#1) :
    (∃ A : S8192x4096.Idx → ℝ, a = up A)
      ∧ (∃ W : S4096x1024.Idx → ℝ, w = up W)
      ∧ (∃ X : S8192x1024.Idx → ℝ, x = up X)
      ∧ (∃ G : S1024.Idx → ℝ, g = up G)
      ∧ ∃ Y : S8192x1024.Idx → ℝ, y = up Y := by
  have h := congrFun h (fun k => k.elim0)
  unfold fn fn_part1 at h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  haveI : Subsingleton S_.Idx := ⟨fun p q => funext fun k => k.elim0⟩
  exact ⟨reals_of_all _ _ (fun _ => rfl) _ _ _ _ h1,
    reals_of_all _ _ (fun _ => rfl) _ _ _ _ h2,
    reals_of_all _ _ (fun _ => rfl) _ _ _ _ h3,
    reals_of_all _ _ (fun _ => rfl) _ _ _ _ h4,
    reals_of_all _ _ (fun _ => rfl) _ _ _ _ h5⟩

end Cert.Pre_finite_loss.Read

end
-- ==== Proof.Loss.Claim.lean ====
/- The value claim of the loss and its gradient. -/
module

public import proofs.«01_k».proof.Defs
public import proofs.«01_k».proof.Proof.Loss.Kernel
public import proofs.«01_k».proof.Proof.Loss.Ref
public import proofs.«01_k».proof.Proof.Loss.Pre
public import proofs.«01_k».proof.Proof.Gen.LossRefIdeal.Run
public import Idealize.ShloMosaic.Lib.Claim

@[expose] public section

set_option maxRecDepth 16384

noncomputable section

namespace Cert.LossClaim

open Idealize.ShloMosaic Idealize.ShloMosaic.TcCoe Idealize.SL.Sem

theorem given [Cert.Pre_finite_loss.Facts]
    (m : (ℓ : Loc Cert.LossIdeal.nD Cert.LossIdeal.τ Cert.LossIdeal.sig) → Buf (Elt Ideal) ℓ)
    (h : Cert.Pre_LossIdeal_finite_loss m) (c : Dev Cert.LossIdeal.nD) :
    ∃ A W X G Y, Cert.LossIdeal.Arrays.Given m c A W X G Y := by
  obtain ⟨⟨A, hA⟩, ⟨W, hW⟩, ⟨X, hX⟩, ⟨G, hG⟩, Y, hY⟩ := Cert.Pre_finite_loss.Read.reals _ _ _ _ _ (h c)
  exact ⟨fun i k => A (ix2 i k), fun k l => W (ix2 k l), fun i l => X (ix2 i l), fun l => G (ix1 l), fun i l => Y (ix2 i l),
    fun i k => congrFun hA _, fun k l => congrFun hW _, fun i l => congrFun hX _, fun l => congrFun hG _, fun i l => congrFun hY _⟩

theorem algebraic [Cert.Pre_finite_loss.Facts] :
    Cert.algebraic_LossIdeal_LossRefIdeal_pre_finite_loss (hLossIdeal := Cert.LossIdeal.Gen.facts)
      (hLossRefIdeal := Cert.LossRefIdeal.Gen.facts) := by
  pair_intro
  · run_from Cert.LossIdeal.Value.run_blocks m g
  · run_from Cert.LossRefIdeal.Value.run m' g'
    all_goals
      obtain ⟨A, W, X, G, Y, h⟩ := given m hpre c
      obtain ⟨e0, e1, e2, e3, e4⟩ := hagree c
    · rw [Cert.LossRefIdeal.Read.val_main_v31_eq, Cert.LossIdeal.Arrays.final5 m c h]
      funext i
      idx_vars i
      exact Cert.LossRefIdeal.Grad.v31 h.ha h.hw h.hx h.hg h.hy i0 i1
    · show Cert.LossRefIdeal.Read.val_main_v2 (F := Ideal) (Cert.LossIdeal.Arrays.A0 m c) (Cert.LossIdeal.Arrays.A1 m c) = _
      rw [Cert.LossIdeal.Arrays.final6 m c h]
      funext i
      idx_vars i
      exact Cert.LossRefIdeal.Grad.v2 h.ha h.hw i0 i1
    · rw [Cert.LossRefIdeal.Read.val_main_v32_eq, Cert.LossIdeal.Arrays.final7 m c h]
      refine (congr (congr (congr (congr (congrArg (Cert.LossRefIdeal.Read.val_main_v32 (F := Ideal)) e0) e1) e2) e3) e4).trans ?_
      funext i
      idx_vars i
      exact Cert.LossRefIdeal.Grad.v32 h.ha h.hw h.hx h.hg h.hy i0 i1

theorem frame_ref : Cert.quiescent_LossRefIdeal (hLossRefIdeal := Cert.LossRefIdeal.Gen.facts) := fun m ρ _ =>
  (θ_run _ _ _).mono (fun r h => ⟨fun c => (h c).2.2.2, sem_eq_zero_of_no_sems (by decide) r.2⟩)
    (Cert.LossRefIdeal.Value.run m ρ)

theorem frame_ref_pre [Cert.Pre_finite_loss.Facts] :
    Cert.quiescent_LossRefIdeal_pre_finite_loss (hLossRefIdeal := Cert.LossRefIdeal.Gen.facts) :=
  fun m ρ _ => frame_ref m ρ True.intro

end Cert.LossClaim

end
-- ==== Proof.Qkv.Spec.lean ====
/- The two small norms' gradient at any width, and the columns of the query and key products, as the reference orders them and as the kernel pads them. -/
module

public import proofs.«01_k».proof.Proof.Ffn2.Spec

@[expose] public section

set_option maxRecDepth 16384

noncomputable section

namespace Cert.QkvSpec

open Cert.Reals Idealize.ShloMosaic

theorem w256 : Ideal.ofBits .f32 0x43800000#32 = ((256 : ℝ) : EReal) := by
  simp [Ideal.ofBits, Ideal.ieee, -EReal.coe_mul]; norm_num

theorem w128 : Ideal.ofBits .f32 0x43000000#32 = ((128 : ℝ) : EReal) := by
  simp [Ideal.ofBits, Ideal.ieee, -EReal.coe_mul]; norm_num

theorem wone : Ideal.ofBits .f32 0x3F800000#32 = ((1 : ℝ) : EReal) := by
  simp [Ideal.ofBits, Ideal.ieee, -EReal.coe_mul]; norm_num

theorem div_256 (a : ℝ) : Ideal.div (a : EReal) ((256 : ℝ) : EReal) = ((a / 256 : ℝ) : EReal) := div_real (by norm_num)

theorem div_128 (a : ℝ) : Ideal.div (a : EReal) ((128 : ℝ) : EReal) = ((a / 128 : ℝ) : EReal) := div_real (by norm_num)

theorem rsqrt_256 {n : ℕ} (x : Fin n → ℝ) : Ideal.rsqrt (((∑ k, x k * x k) / 256 + eps : ℝ) : EReal) = ((rr x 256 : ℝ) : EReal) :=
  rsqrt_ms x (by norm_num)

theorem rsqrt_128 {n : ℕ} (x : Fin n → ℝ) : Ideal.rsqrt (((∑ k, x k * x k) / 128 + eps : ℝ) : EReal) = ((rr x 128 : ℝ) : EReal) :=
  rsqrt_ms x (by norm_num)

/-- The norm's gradient of a row `F` of mean over `d` lanes at the cotangent `t`. -/
def nb {n : ℕ} (d : ℝ) (F G t : Fin n → ℝ) (l : Fin n) : ℝ :=
  rr F d * (t l * G l - F l * rr F d * ((∑ j, t j * G j * (F j * rr F d)) / d))

/-- The normed row times the gain. -/
def nx {n : ℕ} (d : ℝ) (F G : Fin n → ℝ) (l : Fin n) : ℝ := F l * rr F d * G l

/-- Head `h`'s cotangent of the query before the rotation, lane `j`. -/
def dpre (D : ℕ → ℕ → ℝ) (C S : ℕ → ℝ) (h j : ℕ) : ℝ :=
  if j < 64 then D h j else if j < 80 then D h (j + 16) * S (j - 64) + D h j * C (j - 64)
    else D h j * C (j - 80) + -D h (j - 16) * S (j - 80)

/-- The same over the columns of the four heads. -/
def dqv (D : ℕ → ℕ → ℝ) (C S : ℕ → ℝ) (n : ℕ) : ℝ := dpre D C S (n / 96) (n % 96)

/-- The cotangent of the keys' and values' product: each head's key columns, then its value columns. -/
def dkv (K V : ℕ → ℕ → ℝ) (n : ℕ) : ℝ := if n % 128 < 64 then K (n / 128) (n % 128) else V (n / 128) (n % 128 - 64)

/-- A head's lanes, zero from lane `k` on. -/
def lanes (k : ℕ) (D : ℕ → ℕ → ℝ) (h j : ℕ) : ℝ := if j < k then D h j else 0

/-- A table's lanes: `a`, then the sixteen columns twice, then zero. -/
def tab (a : ℝ) (C : ℕ → ℝ) (j : ℕ) : ℝ := if j < 64 then a else if j < 80 then C (j - 64) else if j < 96 then C (j - 80) else 0

def qab (D : ℕ → ℕ → ℝ) (C S : ℕ → ℝ) (n : ℕ) : ℝ :=
  if n < 512 then lanes 96 D (n / 128) (n % 128) * tab 1 C (n % 128)
    else lanes 96 D ((n - 512) / 128) (n % 128) * tab 0 S (n % 128)

def kav (K V : ℕ → ℕ → ℝ) (n : ℕ) : ℝ :=
  if n < 512 then lanes 96 K (n / 128) (n % 128) else lanes 64 V ((n - 512) / 128) (n % 128)

/-- The query weight's columns padded, then swapped and padded. -/
def wq (W : ℕ → ℝ) (n : ℕ) : ℝ :=
  if n < 512 then (if n % 128 < 96 then W (96 * (n / 128) + n % 128) else 0)
    else if n % 128 < 64 then 0 else if n % 128 < 80 then -W (96 * ((n - 512) / 128) + (n % 128 + 16))
      else if n % 128 < 96 then W (96 * ((n - 512) / 128) + (n % 128 - 16)) else 0

/-- The key columns padded, then the value columns padded. -/
def wkv (W : ℕ → ℝ) (n : ℕ) : ℝ :=
  if n % 128 < 64 then (if n < 512 then W (128 * (n / 128) + n % 128) else W (128 * ((n - 512) / 128) + (64 + n % 128))) else 0

theorem sum_blocks (a b : ℕ) (f : ℕ → ℝ) : ∑ n ∈ Finset.range (a * b), f n = ∑ h ∈ Finset.range a, ∑ j ∈ Finset.range b, f (h * b + j) := by
  induction a with
  | zero => simp
  | succ a ih => rw [Nat.succ_mul, Finset.sum_range_add, ih, Finset.sum_range_succ]

section heads

variable (D K V : ℕ → ℕ → ℝ) (C S W : ℕ → ℝ) (h j : ℕ)

theorem qab_lo (hh : h < 4) (hj : j < 128) : qab D C S (h * 128 + j) = lanes 96 D h j * tab 1 C j := by
  rw [qab, if_pos (by omega), show (h * 128 + j) / 128 = h by omega, show (h * 128 + j) % 128 = j by omega]

theorem qab_hi (hj : j < 128) : qab D C S (512 + (h * 128 + j)) = lanes 96 D h j * tab 0 S j := by
  rw [qab, if_neg (by omega), show (512 + (h * 128 + j) - 512) / 128 = h by omega, show (512 + (h * 128 + j)) % 128 = j by omega]

theorem kav_lo (hh : h < 4) (hj : j < 128) : kav K V (h * 128 + j) = lanes 96 K h j := by
  rw [kav, if_pos (by omega), show (h * 128 + j) / 128 = h by omega, show (h * 128 + j) % 128 = j by omega]

theorem kav_hi (hj : j < 128) : kav K V (512 + (h * 128 + j)) = lanes 64 V h j := by
  rw [kav, if_neg (by omega), show (512 + (h * 128 + j) - 512) / 128 = h by omega, show (512 + (h * 128 + j)) % 128 = j by omega]

theorem wq_lo (hh : h < 4) (hj : j < 128) : wq W (h * 128 + j) = if j < 96 then W (96 * h + j) else 0 := by
  rw [wq, if_pos (by omega), show (h * 128 + j) / 128 = h by omega, show (h * 128 + j) % 128 = j by omega]

theorem wq_hi (hj : j < 128) : wq W (512 + (h * 128 + j)) = if j < 64 then 0 else if j < 80 then -W (96 * h + (j + 16))
    else if j < 96 then W (96 * h + (j - 16)) else 0 := by
  rw [wq, if_neg (by omega), show (512 + (h * 128 + j) - 512) / 128 = h by omega, show (512 + (h * 128 + j)) % 128 = j by omega]

theorem wkv_lo (hh : h < 4) (hj : j < 128) : wkv W (h * 128 + j) = if j < 64 then W (128 * h + j) else 0 := by
  rw [wkv, show (h * 128 + j) / 128 = h by omega, show (h * 128 + j) % 128 = j by omega, if_pos (show h * 128 + j < 512 by omega)]

theorem wkv_hi (hj : j < 128) : wkv W (512 + (h * 128 + j)) = if j < 64 then W (128 * h + (64 + j)) else 0 := by
  rw [wkv, show (512 + (h * 128 + j) - 512) / 128 = h by omega, show (512 + (h * 128 + j)) % 128 = j by omega,
    if_neg (show ¬512 + (h * 128 + j) < 512 by omega)]

/-- The query gradient's columns read from the padded product. -/
theorem pre_nope (hh : h < 4) (hj : j < 64) : qab D C S (h * 128 + j) = dpre D C S h j := by
  rw [qab_lo D C S h j hh (by omega), lanes, tab, dpre, if_pos (by omega), if_pos hj, if_pos hj, mul_one]

theorem pre_first (hh : h < 4) (hj : j < 16) :
    qab D C S (h * 128 + (64 + j)) + qab D C S (512 + (h * 128 + (80 + j))) = dpre D C S h (64 + j) := by
  rw [qab_lo D C S h _ hh (by omega), qab_hi D C S h _ (by omega)]
  simp only [lanes, tab, dpre]
  rw [show 64 + j - 64 = j by omega, show 80 + j - 80 = j by omega, show 64 + j + 16 = 80 + j by omega]
  split_ifs <;> first | omega | ring

theorem pre_second (hh : h < 4) (hj : j < 16) :
    qab D C S (h * 128 + (80 + j)) + -qab D C S (512 + (h * 128 + (64 + j))) = dpre D C S h (80 + j) := by
  rw [qab_lo D C S h _ hh (by omega), qab_hi D C S h _ (by omega)]
  simp only [lanes, tab, dpre]
  rw [show 64 + j - 64 = j by omega, show 80 + j - 80 = j by omega, show 80 + j - 16 = 64 + j by omega]
  split_ifs <;> first | omega | ring

/-- One head's lanes: the padded product is the product over its 96 columns. -/
theorem head_q (hh : h < 4) : ∑ j ∈ Finset.range 128, qab D C S (h * 128 + j) * wq W (h * 128 + j)
      + ∑ j ∈ Finset.range 128, qab D C S (512 + (h * 128 + j)) * wq W (512 + (h * 128 + j))
    = ∑ j ∈ Finset.range 96, dpre D C S h j * W (h * 96 + j) := by
  have cut : ∀ g : ℕ → ℝ, ∑ n ∈ Finset.range 128, g n = ∑ n ∈ Finset.range 64, g n + ∑ n ∈ Finset.range 16, g (64 + n)
      + ∑ n ∈ Finset.range 16, g (80 + n) + ∑ n ∈ Finset.range 32, g (96 + n) := fun g => by
    rw [show 128 = 64 + 16 + 16 + 32 from rfl]
    simp only [Finset.sum_range_add _]
  have cut' : ∀ g : ℕ → ℝ, ∑ n ∈ Finset.range 96, g n = ∑ n ∈ Finset.range 64, g n + ∑ n ∈ Finset.range 16, g (64 + n)
      + ∑ n ∈ Finset.range 16, g (80 + n) := fun g => by
    rw [show 96 = 64 + 16 + 16 from rfl]
    simp only [Finset.sum_range_add _]
  rw [cut, cut, cut']
  have z0 : ∑ n ∈ Finset.range 32, qab D C S (h * 128 + (96 + n)) * wq W (h * 128 + (96 + n)) = 0 := Finset.sum_eq_zero fun n hn => by
    have := Finset.mem_range.1 hn
    rw [wq_lo W h _ hh (by omega), if_neg (by omega), mul_zero]
  have z1 : ∑ n ∈ Finset.range 32, qab D C S (512 + (h * 128 + (96 + n))) * wq W (512 + (h * 128 + (96 + n))) = 0 := Finset.sum_eq_zero fun n hn => by
    have := Finset.mem_range.1 hn
    rw [wq_hi W h _ (by omega), if_neg (by omega), if_neg (by omega), if_neg (by omega), mul_zero]
  have z2 : ∑ n ∈ Finset.range 64, qab D C S (512 + (h * 128 + n)) * wq W (512 + (h * 128 + n)) = 0 := Finset.sum_eq_zero fun n hn => by
    have := Finset.mem_range.1 hn
    rw [wq_hi W h _ (by omega), if_pos (by omega), mul_zero]
  have e : ∑ n ∈ Finset.range 64, qab D C S (h * 128 + n) * wq W (h * 128 + n) = ∑ n ∈ Finset.range 64, dpre D C S h n * W (h * 96 + n) :=
    Finset.sum_congr rfl fun n hn => by
      have := Finset.mem_range.1 hn
      rw [wq_lo W h _ hh (by omega), if_pos (by omega), pre_nope D C S h n hh this, mul_comm 96 h]
  rw [z0, z1, z2, e]
  simp only [add_zero, zero_add, add_assoc, ← Finset.sum_add_distrib]
  refine congrArg _ (Finset.sum_congr rfl fun n hn => ?_)
  have hn := Finset.mem_range.1 hn
  rw [← pre_first D C S h n hh hn, ← pre_second D C S h n hh hn, wq_lo W h _ hh (by omega), wq_lo W h _ hh (by omega), wq_hi W h _ (by omega),
    wq_hi W h _ (by omega), mul_comm 96 h, show 64 + n + 16 = 80 + n by omega, show 80 + n - 16 = 64 + n by omega]
  split_ifs <;> first | omega | ring

theorem head_k (hh : h < 4) : ∑ j ∈ Finset.range 128, kav K V (h * 128 + j) * wkv W (h * 128 + j)
      + ∑ j ∈ Finset.range 128, kav K V (512 + (h * 128 + j)) * wkv W (512 + (h * 128 + j))
    = ∑ j ∈ Finset.range 128, dkv K V (h * 128 + j) * W (h * 128 + j) := by
  have cut : ∀ g : ℕ → ℝ, ∑ n ∈ Finset.range 128, g n = ∑ n ∈ Finset.range 64, g n + ∑ n ∈ Finset.range 64, g (64 + n) := fun g => by
    rw [show 128 = 64 + 64 from rfl]
    simp only [Finset.sum_range_add _]
  rw [cut, cut, cut]
  have z0 : ∑ n ∈ Finset.range 64, kav K V (h * 128 + (64 + n)) * wkv W (h * 128 + (64 + n)) = 0 := Finset.sum_eq_zero fun n hn => by
    have := Finset.mem_range.1 hn
    rw [wkv_lo W h _ hh (by omega), if_neg (by omega), mul_zero]
  have z1 : ∑ n ∈ Finset.range 64, kav K V (512 + (h * 128 + (64 + n))) * wkv W (512 + (h * 128 + (64 + n))) = 0 := Finset.sum_eq_zero fun n hn => by
    have := Finset.mem_range.1 hn
    rw [wkv_hi W h _ (by omega), if_neg (by omega), mul_zero]
  rw [z0, z1, add_zero, add_zero]
  congr 1
  · refine Finset.sum_congr rfl fun n hn => ?_
    have := Finset.mem_range.1 hn
    rw [wkv_lo W h _ hh (by omega), if_pos (by omega), kav_lo K V h _ hh (by omega), lanes, if_pos (by omega), dkv, if_pos (by omega), mul_comm 128 h,
      show (h * 128 + n) / 128 = h by omega, show (h * 128 + n) % 128 = n by omega]
  · refine Finset.sum_congr rfl fun n hn => ?_
    have := Finset.mem_range.1 hn
    rw [wkv_hi W h _ (by omega), if_pos (by omega), kav_hi K V h _ (by omega), lanes, if_pos (by omega), dkv, if_neg (by omega), mul_comm 128 h,
      show (h * 128 + (64 + n)) / 128 = h by omega, show (h * 128 + (64 + n)) % 128 - 64 = n by omega]

end heads

theorem sum_heads (g : ℕ → ℝ) : ∑ n : Fin 1024, g n.val
    = ∑ h ∈ Finset.range 4, (∑ j ∈ Finset.range 128, g (h * 128 + j) + ∑ j ∈ Finset.range 128, g (512 + (h * 128 + j))) := by
  rw [Fin.sum_univ_eq_sum_range g, show 1024 = 4 * 128 + 4 * 128 from rfl, Finset.sum_range_add, sum_blocks, sum_blocks 4 128 (fun n => g (4 * 128 + n)),
    ← Finset.sum_add_distrib]

theorem sum_q (D : ℕ → ℕ → ℝ) (C S W : ℕ → ℝ) : ∑ n : Fin 1024, qab D C S n.val * wq W n.val = ∑ n : Fin 384, dqv D C S n.val * W n.val := by
  rw [sum_heads (fun n => qab D C S n * wq W n), Fin.sum_univ_eq_sum_range (fun n => dqv D C S n * W n), show 384 = 4 * 96 from rfl, sum_blocks]
  refine Finset.sum_congr rfl fun h hh => ?_
  rw [head_q D C S W h (Finset.mem_range.1 hh)]
  refine Finset.sum_congr rfl fun j hj => ?_
  have := Finset.mem_range.1 hj
  rw [dqv, show (h * 96 + j) / 96 = h by omega, show (h * 96 + j) % 96 = j by omega]

theorem sum_k (K V : ℕ → ℕ → ℝ) (W : ℕ → ℝ) : ∑ n : Fin 1024, kav K V n.val * wkv W n.val = ∑ n : Fin 512, dkv K V n.val * W n.val := by
  rw [sum_heads (fun n => kav K V n * wkv W n), Fin.sum_univ_eq_sum_range (fun n => dkv K V n * W n), show 512 = 4 * 128 from rfl, sum_blocks]
  exact Finset.sum_congr rfl fun h hh => head_k K V W h (Finset.mem_range.1 hh)

/-- The query gradient's row and the two products' cotangents of a row. -/
def dhq (D : ℕ → ℕ → ℝ) (C S W : ℕ → ℝ) : ℝ := ∑ n : Fin 384, dqv D C S n.val * W n.val

def dhk (K V : ℕ → ℕ → ℝ) (W : ℕ → ℝ) : ℝ := ∑ n : Fin 512, dkv K V n.val * W n.val

/-- The rotary key's cotangent summed over the heads. -/
def ksum (K : ℕ → ℕ → ℝ) (j : ℕ) : ℝ := K 0 j + K 1 j + K 2 j + K 3 j

/-- The rotary key's gradient. -/
def dkr (K : ℕ → ℕ → ℝ) (C S : ℕ → ℝ) (j : ℕ) : ℝ :=
  if j < 16 then ksum K (80 + j) * S j + ksum K (64 + j) * C j else ksum K (64 + j) * C (j - 16) + -ksum K (48 + j) * S (j - 16)

end Cert.QkvSpec

end
-- ==== Proof.Qkv.Pay.lean ====
/- What the kernel's payloads are of blocks of reals. -/
module

public import proofs.«01_k».proof.Proof.Gen.QkvIdeal.Skeleton
public import proofs.«01_k».proof.Proof.Qkv.Spec
public import Idealize.ShloMosaic.Lib.Pipeline.ValueKit

@[expose] public section

set_option maxRecDepth 16384

noncomputable section

namespace Cert.QkvIdeal.Pay

open Cert.QkvIdeal Cert.QkvIdeal.Gen Cert.Reals Cert.QkvSpec
open Idealize.ShloMosaic Idealize.ShloMosaic.TcCoe Idealize.SL.Sem

theorem real_eq {f : ℕ → ℝ} {a b : ℕ} (h : a = b) : ((f a : ℝ) : EReal) = ((f b : ℝ) : EReal) := by rw [h]

theorem prod_eq {f : ℕ → ℕ → ℝ} {g : ℕ → ℝ} {a a' b b' c c' : ℕ} (h0 : a = a') (h1 : b = b') (h2 : c = c') :
    ((f a b * g c : ℝ) : EReal) = ((f a' b' * g c' : ℝ) : EReal) := by rw [h0, h1, h2]

theorem lane_eq {f : ℕ → ℕ → ℝ} {a a' b b' : ℕ} (h0 : a = a') (h1 : b = b') : ((f a b : ℝ) : EReal) = ((f a' b' : ℝ) : EReal) := by rw [h0, h1]

section heads

variable {D K V : Fin 512 → ℕ → ℕ → ℝ} {C S : Fin 512 → ℕ → ℝ}
variable {q0 q1 q2 q3 k0 k1 k2 k3 v0 v1 v2 v3 : FVec Ideal S1x512x128 .f32} {ct st : FVec Ideal S512x128 .f32}

set_option maxHeartbeats 2000000 in
theorem pay20 (h0 : ∀ r (j : Fin 128), q0 (ix3 0 r j) = ((lanes 96 (D r) 0 j.val : ℝ) : EReal)) (h1 : ∀ r (j : Fin 128), q1 (ix3 0 r j) = ((lanes 96 (D r) 1 j.val : ℝ) : EReal))
    (h2 : ∀ r (j : Fin 128), q2 (ix3 0 r j) = ((lanes 96 (D r) 2 j.val : ℝ) : EReal)) (h3 : ∀ r (j : Fin 128), q3 (ix3 0 r j) = ((lanes 96 (D r) 3 j.val : ℝ) : EReal))
    (hc : ∀ r (j : Fin 128), ct (ix2 r j) = ((tab 1 (C r) j.val : ℝ) : EReal)) (hs : ∀ r (j : Fin 128), st (ix2 r j) = ((tab 0 (S r) j.val : ℝ) : EReal))
    (r : Fin 512) (n : Fin 1024) :
    k0_pay20 (F := Ideal) (k0_pay8 ct) (k0_pay9 st) (k0_pay11 q0) (k0_pay12 q1) (k0_pay13 q2) (k0_pay14 q3) (k0_pay19 ct q0) (ix2 r n)
      = ((qab (D r) (C r) (S r) n.val : ℝ) : EReal) := by
  pointwise [k0_pay20, k0_pay8, k0_pay9, k0_pay11, k0_pay12, k0_pay13, k0_pay14, k0_pay19]
  simp only [h0, h1, h2, h3, hc, hs, ← EReal.coe_mul]
  unfold qab
  split_ifs <;> first | omega | (refine prod_eq (f := lanes 96 (D r)) (g := tab 1 (C r)) ?_ ?_ ?_ <;> omega) | (refine prod_eq (f := lanes 96 (D r)) (g := tab 0 (S r)) ?_ ?_ ?_ <;> omega)

variable (h0 : ∀ r (j : Fin 128), k0 (ix3 0 r j) = ((lanes 96 (K r) 0 j.val : ℝ) : EReal)) (h1 : ∀ r (j : Fin 128), k1 (ix3 0 r j) = ((lanes 96 (K r) 1 j.val : ℝ) : EReal))
    (h2 : ∀ r (j : Fin 128), k2 (ix3 0 r j) = ((lanes 96 (K r) 2 j.val : ℝ) : EReal)) (h3 : ∀ r (j : Fin 128), k3 (ix3 0 r j) = ((lanes 96 (K r) 3 j.val : ℝ) : EReal))
include h0 h1 h2 h3

set_option maxHeartbeats 2000000 in
theorem pay21 (g0 : ∀ r (j : Fin 128), v0 (ix3 0 r j) = ((lanes 64 (V r) 0 j.val : ℝ) : EReal)) (g1 : ∀ r (j : Fin 128), v1 (ix3 0 r j) = ((lanes 64 (V r) 1 j.val : ℝ) : EReal))
    (g2 : ∀ r (j : Fin 128), v2 (ix3 0 r j) = ((lanes 64 (V r) 2 j.val : ℝ) : EReal)) (g3 : ∀ r (j : Fin 128), v3 (ix3 0 r j) = ((lanes 64 (V r) 3 j.val : ℝ) : EReal))
    (r : Fin 512) (n : Fin 1024) :
    k0_pay21 (F := Ideal) (k0_pay15 k0) (k0_pay16 k1) (k0_pay17 k2) (k0_pay18 k3) v0 v1 v2 v3 (ix2 r n) = ((kav (K r) (V r) n.val : ℝ) : EReal) := by
  pointwise [k0_pay21, k0_pay15, k0_pay16, k0_pay17, k0_pay18]
  simp only [h0, h1, h2, h3, g0, g1, g2, g3]
  unfold kav
  split_ifs <;> first | omega | (refine lane_eq (f := lanes 96 (K r)) ?_ ?_ <;> omega) | (refine lane_eq (f := lanes 64 (V r)) ?_ ?_ <;> omega)

theorem pay22 (r : Fin 512) (j : Fin 128) :
    k0_pay22 (F := Ideal) (k0_pay15 k0) (k0_pay16 k1) (k0_pay17 k2) (k0_pay18 k3) (ix2 r j) = ((ksum (lanes 96 (K r)) j.val : ℝ) : EReal) := by
  pointwise [k0_pay22, k0_pay15, k0_pay16, k0_pay17, k0_pay18]
  simp only [h0, h1, h2, h3, ← EReal.coe_add]
  rfl

end heads

section products

variable {A : FVec Ideal S512x1024 .f32} {B : Fin 512 → ℕ → ℝ} (ha : ∀ r (n : Fin 1024), A (ix2 r n) = ((B r n.val : ℝ) : EReal))
variable {c : FVec Ideal S512x256 .bf16} {g : FVec Ideal S1x256 .f32} {w : FVec Ideal S256x1024 .bf16} {X : Fin 512 → Fin 256 → ℝ} {G : Fin 256 → ℝ}
  {W : Fin 256 → ℕ → ℝ}
variable (hx : ∀ r l, c (ix2 r l) = ((X r l : ℝ) : EReal)) (hg : ∀ l, g (ix2 0 l) = ((G l : ℝ) : EReal)) (hw : ∀ l (n : Fin 1024), w (ix2 l n) = ((W l n.val : ℝ) : EReal))

include ha hx hg in
theorem pay30 (acc : FVec Ideal S256x1024 .f32) (l : Fin 256) (n : Fin 1024) :
    k0_pay30 (F := Ideal) A (k0_pay23 c) (k0_pay25 g) (k0_pay27 acc) (k0_pay28 c) k0_pay29 (ix2 l n)
      = acc (ix2 l n) + ∑ r : Fin 512, ((nx 256 (X r) G l * B r n.val : ℝ) : EReal) := by
  pointwise [k0_pay30, k0_pay23, k0_pay25, k0_pay27, k0_pay28, k0_pay29]
  simp only [ha, hx, hg, eps_word, w256, ← EReal.coe_mul, sum_coe, zero_add, div_256, ← EReal.coe_add, rsqrt_256]
  simp only [nx, zero_add]

include ha hw in
theorem pay32 (r : Fin 512) (l : Fin 256) :
    k0_pay32 (F := Ideal) A w (ix2 r l) = ((∑ n : Fin 1024, B r n.val * W l n.val : ℝ) : EReal) := by
  pointwise [k0_pay32]
  simp only [ha, hw, ← EReal.coe_mul, sum_coe, zero_add]

include hx in
theorem pay34 (r : Fin 512) : k0_pay34 (F := Ideal) (k0_pay33 (k0_pay23 c)) (ix2 r 0) = ((rr (X r) 256 : ℝ) : EReal) := by
  pointwise [k0_pay34, k0_pay33, k0_pay23]
  simp only [hx, eps_word, w256, ← EReal.coe_mul, sum_coe, zero_add, div_256, ← EReal.coe_add, rsqrt_256]

include hx in
theorem pay35 (r : Fin 512) (l : Fin 256) : k0_pay35 (F := Ideal) (k0_pay23 c) (k0_pay33 (k0_pay23 c)) (ix2 r l) = ((X r l * rr (X r) 256 : ℝ) : EReal) := by
  pointwise [k0_pay35]
  rw [pay34 hx]
  pointwise [k0_pay23]
  rw [hx, ← EReal.coe_mul]

variable {t : FVec Ideal S512x256 .f32} {T : Fin 512 → Fin 256 → ℝ} (ht : ∀ r l, t (ix2 r l) = ((T r l : ℝ) : EReal))

include hx hg ht in
theorem pay36 (r : Fin 512) (l : Fin 256) :
    k0_pay36 (F := Ideal) (k0_pay23 c) (k0_pay25 g) t (k0_pay33 (k0_pay23 c)) (ix2 r l) = ((nb 256 (X r) G (T r) l : ℝ) : EReal) := by
  pointwise [k0_pay36, k0_pay25]
  simp only [ht, hg, pay35 hx, pay34 hx, w256, ← EReal.coe_mul, sum_coe, zero_add, div_256, ← EReal.coe_sub]
  rfl

include hx ht in
theorem pay1 (acc : FVec Ideal S1x256 .f32) (l : Fin 256) :
    k0_pay1 (F := Ideal) (k0_pay37 (k0_pay23 c) t (k0_pay33 (k0_pay23 c))) acc (ix2 0 l)
      = acc (ix2 0 l) + ∑ r : Fin 512, ((T r l * (X r l * rr (X r) 256) : ℝ) : EReal) := by
  pointwise [k0_pay1, k0_pay37]
  simp only [ht, pay35 hx, ← EReal.coe_mul, zero_add]

end products

section keys

variable {A : FVec Ideal S512x1024 .f32} {B : Fin 512 → ℕ → ℝ} (ha : ∀ r (n : Fin 1024), A (ix2 r n) = ((B r n.val : ℝ) : EReal))
variable {c : FVec Ideal S512x128 .bf16} {g : FVec Ideal S1x128 .f32} {w : FVec Ideal S128x1024 .bf16} {X : Fin 512 → Fin 128 → ℝ} {G : Fin 128 → ℝ}
  {W : Fin 128 → ℕ → ℝ}
variable (hx : ∀ r l, c (ix2 r l) = ((X r l : ℝ) : EReal)) (hg : ∀ l, g (ix2 0 l) = ((G l : ℝ) : EReal)) (hw : ∀ l (n : Fin 1024), w (ix2 l n) = ((W l n.val : ℝ) : EReal))

include ha hx hg in
theorem pay31 (acc : FVec Ideal S128x1024 .f32) (l : Fin 128) (n : Fin 1024) :
    k0_pay31 (F := Ideal) A (k0_pay24 c) (k0_pay26 g) acc (ix2 l n) = acc (ix2 l n) + ∑ r : Fin 512, ((nx 128 (X r) G l * B r n.val : ℝ) : EReal) := by
  pointwise [k0_pay31, k0_pay24, k0_pay26]
  simp only [ha, hx, hg, eps_word, w128, ← EReal.coe_mul, sum_coe, zero_add, div_128, ← EReal.coe_add, rsqrt_128]
  simp only [nx, zero_add]

include ha hw in
theorem pay38 (r : Fin 512) (l : Fin 128) :
    k0_pay38 (F := Ideal) A w (ix2 r l) = ((∑ n : Fin 1024, B r n.val * W l n.val : ℝ) : EReal) := by
  pointwise [k0_pay38]
  simp only [ha, hw, ← EReal.coe_mul, sum_coe, zero_add]

include hx in
theorem pay39 (r : Fin 512) : k0_pay39 (F := Ideal) (k0_pay24 c) (ix2 r 0) = ((rr (X r) 128 : ℝ) : EReal) := by
  pointwise [k0_pay39, k0_pay24]
  simp only [hx, eps_word, w128, ← EReal.coe_mul, sum_coe, zero_add, div_128, ← EReal.coe_add, rsqrt_128]

include hx in
theorem pay40 (r : Fin 512) (l : Fin 128) : k0_pay40 (F := Ideal) (k0_pay24 c) (ix2 r l) = ((X r l * rr (X r) 128 : ℝ) : EReal) := by
  pointwise [k0_pay40]
  rw [pay39 hx]
  pointwise [k0_pay24]
  rw [hx, ← EReal.coe_mul]

variable {T : Fin 512 → Fin 128 → ℝ} (ht : ∀ r l, k0_pay38 (F := Ideal) A w (ix2 r l) = ((T r l : ℝ) : EReal))

include hx hg ht in
theorem pay41 (r : Fin 512) (l : Fin 128) :
    k0_pay41 (F := Ideal) A (k0_pay24 c) (k0_pay26 g) w (ix2 r l) = ((nb 128 (X r) G (T r) l : ℝ) : EReal) := by
  pointwise [k0_pay41, k0_pay26]
  simp only [ht, hg, pay40 hx, pay39 hx, w128, ← EReal.coe_mul, sum_coe, zero_add, div_128, ← EReal.coe_sub]
  rfl

include hx ht in
theorem pay2 (acc : FVec Ideal S1x128 .f32) (l : Fin 128) :
    k0_pay2 (F := Ideal) (k0_pay42 A (k0_pay24 c) w) acc (ix2 0 l)
      = acc (ix2 0 l) + ∑ r : Fin 512, ((T r l * (X r l * rr (X r) 128) : ℝ) : EReal) := by
  pointwise [k0_pay2, k0_pay42]
  simp only [ht, pay40 hx, ← EReal.coe_mul, zero_add]

end keys

theorem pay4 (j : S256x1024.Idx) : k0_pay4 (F := Ideal) j = 0 := by pointwise [k0_pay4]
theorem pay5 (j : S128x1024.Idx) : k0_pay5 (F := Ideal) j = 0 := by pointwise [k0_pay5]
theorem pay6 (j : S1x256.Idx) : k0_pay6 (F := Ideal) j = 0 := by pointwise [k0_pay6]
theorem pay7 (j : S1x128.Idx) : k0_pay7 (F := Ideal) j = 0 := by pointwise [k0_pay7]

/-- The stored row: the two latents' gradients, then the rotary key's cotangent times the two tables. -/
def store (q : Fin 256 → ℝ) (k : Fin 128 → ℝ) (R T U : ℕ → ℝ) (n : Fin 640) : ℝ :=
  if h : n.val < 256 then q ⟨n.val, h⟩ else if h : n.val < 384 then k ⟨n.val - 256, by omega⟩
    else if n.val < 512 then R (n.val - 384) * T (n.val - 384) else R (n.val - 512) * U (n.val - 512)

theorem mul_at {f g : ℕ → ℝ} {a b c : ℕ} (h0 : a = c) (h1 : b = c) : ((f a * g b : ℝ) : EReal) = ((f c * g c : ℝ) : EReal) := by rw [h0, h1]

set_option maxHeartbeats 2000000 in
theorem pay3 {st crt ks : FVec Ideal S512x128 .f32} {dq : FVec Ideal S512x256 .f32} {dk : FVec Ideal S512x128 .f32} {R T U : Fin 512 → ℕ → ℝ}
    {q : Fin 512 → Fin 256 → ℝ} {k : Fin 512 → Fin 128 → ℝ}
    (hs : ∀ r (j : Fin 128), st (ix2 r j) = ((U r j.val : ℝ) : EReal)) (hc : ∀ r (j : Fin 128), crt (ix2 r j) = ((T r j.val : ℝ) : EReal))
    (hk : ∀ r (j : Fin 128), ks (ix2 r j) = ((R r j.val : ℝ) : EReal)) (hq : ∀ r l, dq (ix2 r l) = ((q r l : ℝ) : EReal))
    (hd : ∀ r l, dk (ix2 r l) = ((k r l : ℝ) : EReal)) (r : Fin 512) (n : Fin 640) :
    k0_pay3 (F := Ideal) (k0_pay9 st) (k0_pay10 crt) ks dq dk (ix2 r n) = ((store (q r) (k r) (R r) (T r) (U r) n : ℝ) : EReal) := by
  pointwise [k0_pay3, k0_pay9, k0_pay10]
  simp only [hs, hc, hk, hq, hd, ← EReal.coe_mul]
  unfold store
  by_cases h0 : n.val < 256
  · rw [dif_pos h0, dif_pos h0]
  rw [dif_neg h0, dif_neg h0]
  by_cases h1 : n.val < 384
  · rw [dif_pos (by omega), dif_pos h1]
  rw [dif_neg (by omega), dif_neg h1]
  split_ifs <;> first | omega | exact mul_at (f := R r) (g := T r) (by omega) (by omega) | exact mul_at (f := R r) (g := U r) (by omega) (by omega)

end Cert.QkvIdeal.Pay

end
-- ==== Proof.Qkv.Host.lean ====
/- The operands that the host lines before the region prepare: padded weights, tables, padded heads and the packed projection. -/
module

public import proofs.«01_k».proof.Proof.Gen.QkvIdeal.Frame
public import proofs.«01_k».proof.Proof.Qkv.Pay
public import Idealize.ShloMosaic.Lib.Claim
public import Idealize.ShloMosaic.Lib.StableHlo.RunRead

@[expose] public section

set_option maxRecDepth 16384

noncomputable section

namespace Cert.QkvIdeal.Host

open Cert.QkvIdeal Cert.QkvIdeal.Gen Cert.QkvIdeal.Pay Cert.Reals Cert.QkvSpec
open Idealize.ShloMosaic Idealize.ShloMosaic.TcCoe Idealize.SL.Sem

/-- The query weight by heads. -/
def headsQ (w : FVec Ideal S256x384 .f32) : FVec Ideal S256x4x96 .bf16 :=
  shapeCast S256x4x96 (truncf (F := Ideal) .bf16 w bitsLt_bf16_f32) shapeCasts_S256x384_S256x4x96

/-- A head's rotary weight columns, swapped. -/
def swapQ (w : FVec Ideal S256x4x32 .bf16) : FVec Ideal S256x4x32 .bf16 :=
  concatenate S256x4x32 2 [⟨S256x4x16, Host.negf (extractStridedSlice S256x4x16 ![0, 0, 16] w slices_S256x4x32_S256x4x16_0_0_16)⟩,
    ⟨S256x4x16, extractStridedSlice S256x4x16 ![0, 0, 0] w slices_S256x4x32_S256x4x16_0_0_0⟩] concatenates_S256x4x16_S256x4x16_S256x4x32_d2

/-- The query weight, padded, then swapped and padded. -/
def padQ (w : FVec Ideal S256x4x96 .bf16) : FVec Ideal S256x1024 .bf16 :=
  concatenate S256x1024 1 [⟨S256x512, shapeCast S256x512 (concatenate S256x4x128 2
      [⟨S256x4x64, extractStridedSlice S256x4x64 ![0, 0, 0] w slices_S256x4x96_S256x4x64_0_0_0⟩,
        ⟨S256x4x32, extractStridedSlice S256x4x32 ![0, 0, 64] w slices_S256x4x96_S256x4x32_0_0_64⟩,
        ⟨S256x4x32, broadcastInDim S256x4x32 ![] bcast_S_S256x4x32 (constant S_ .bf16 0x0000#16)⟩]
        concatenates_S256x4x64_S256x4x32_S256x4x32_S256x4x128_d2) shapeCasts_S256x4x128_S256x512⟩,
    ⟨S256x512, shapeCast S256x512 (concatenate S256x4x128 2
      [⟨S256x4x64, broadcastInDim S256x4x64 ![] bcast_S_S256x4x64 (constant S_ .bf16 0x0000#16)⟩,
        ⟨S256x4x32, swapQ (extractStridedSlice S256x4x32 ![0, 0, 64] w slices_S256x4x96_S256x4x32_0_0_64)⟩,
        ⟨S256x4x32, broadcastInDim S256x4x32 ![] bcast_S_S256x4x32 (constant S_ .bf16 0x0000#16)⟩]
        concatenates_S256x4x64_S256x4x32_S256x4x32_S256x4x128_d2) shapeCasts_S256x4x128_S256x512⟩]
    concatenates_S256x512_S256x512_S256x1024_d1

/-- The keys' and values' weight by heads. -/
def headsK (w : FVec Ideal S128x512 .f32) : FVec Ideal S128x4x128 .bf16 :=
  shapeCast S128x4x128 (truncf (F := Ideal) .bf16 w bitsLt_bf16_f32) shapeCasts_S128x512_S128x4x128

/-- The key columns padded, then the value columns padded. -/
def padK (w : FVec Ideal S128x4x128 .bf16) : FVec Ideal S128x1024 .bf16 :=
  concatenate S128x1024 1 [⟨S128x512, shapeCast S128x512 (concatenate S128x4x128 2
      [⟨S128x4x64, extractStridedSlice S128x4x64 ![0, 0, 0] w slices_S128x4x128_S128x4x64_0_0_0⟩,
        ⟨S128x4x64, broadcastInDim S128x4x64 ![] bcast_S_S128x4x64 (constant S_ .bf16 0x0000#16)⟩]
        concatenates_S128x4x64_S128x4x64_S128x4x128_d2) shapeCasts_S128x4x128_S128x512⟩,
    ⟨S128x512, shapeCast S128x512 (concatenate S128x4x128 2
      [⟨S128x4x64, extractStridedSlice S128x4x64 ![0, 0, 64] w slices_S128x4x128_S128x4x64_0_0_64⟩,
        ⟨S128x4x64, broadcastInDim S128x4x64 ![] bcast_S_S128x4x64 (constant S_ .bf16 0x0000#16)⟩]
        concatenates_S128x4x64_S128x4x64_S128x4x128_d2) shapeCasts_S128x4x128_S128x512⟩]
    concatenates_S128x512_S128x512_S128x1024_d1

/-- A table twice between the constant `a` and zeros. -/
def tabs (a : BitVec 32) (t : FVec Ideal S8192x16 .f32) : FVec Ideal S8192x128 .f32 :=
  concatenate S8192x128 1 [⟨S8192x64, broadcastInDim S8192x64 ![] bcast_S_S8192x64 (constant S_ .f32 a)⟩, ⟨S8192x16, t⟩, ⟨S8192x16, t⟩,
    ⟨S8192x32, broadcastInDim S8192x32 ![] bcast_S_S8192x32 (constant S_ .f32 0x00000000#32)⟩]
    concatenates_S8192x64_S8192x16_S8192x16_S8192x32_S8192x128_d1

/-- The heads outermost, their 96 lanes padded to 128. -/
def pad96 (d : FVec Ideal S8192x4x96 .f32) : FVec Ideal S4x8192x128 .f32 :=
  concatenate S4x8192x128 2 [⟨S4x8192x96, transpose S4x8192x96 [1, 0, 2] d transposes_S8192x4x96_S4x8192x96_1_0_2⟩,
    ⟨S4x8192x32, broadcastInDim S4x8192x32 ![] bcast_S_S4x8192x32 (constant S_ .f32 0x00000000#32)⟩] concatenates_S4x8192x96_S4x8192x32_S4x8192x128_d2

/-- The heads outermost, their 64 lanes padded to 128. -/
def pad64 (d : FVec Ideal S8192x4x64 .f32) : FVec Ideal S4x8192x128 .f32 :=
  concatenate S4x8192x128 2 [⟨S4x8192x64, transpose S4x8192x64 [1, 0, 2] d transposes_S8192x4x64_S4x8192x64_1_0_2⟩,
    ⟨S4x8192x64, broadcastInDim S4x8192x64 ![] bcast_S_S4x8192x64 (constant S_ .f32 0x00000000#32)⟩] concatenates_S4x8192x64_S4x8192x64_S4x8192x128_d2

def padP (w : FVec Ideal S8192x32 .bf16) : FVec Ideal S8192x128 .bf16 :=
  concatenate S8192x128 1 [⟨S8192x64, broadcastInDim S8192x64 ![] bcast_S_S8192x64 (constant S_ .bf16 0x0000#16)⟩, ⟨S8192x32, w⟩,
    ⟨S8192x32, broadcastInDim S8192x32 ![] bcast_S_S8192x32 (constant S_ .bf16 0x0000#16)⟩] concatenates_S8192x64_S8192x32_S8192x32_S8192x128_d1

def swapP (w : FVec Ideal S8192x32 .bf16) : FVec Ideal S8192x32 .bf16 :=
  concatenate S8192x32 1 [⟨S8192x16, Host.negf (extractStridedSlice S8192x16 ![0, 16] w slices_S8192x32_S8192x16_0_16)⟩,
    ⟨S8192x16, extractStridedSlice S8192x16 ![0, 0] w slices_S8192x32_S8192x16_0_0⟩] concatenates_S8192x16_S8192x16_S8192x32_d1

/-- The packed projection. -/
def packP (w : FVec Ideal S8192x6048 .bf16) : FVec Ideal S8192x6272 .bf16 :=
  concatenate S8192x6272 1 [⟨S8192x4096, extractStridedSlice S8192x4096 ![0, 1952] w slices_S8192x6048_S8192x4096_0_1952⟩,
    ⟨S8192x256, extractStridedSlice S8192x256 ![0, 416] w slices_S8192x6048_S8192x256_0_416⟩,
    ⟨S8192x256, extractStridedSlice S8192x256 ![0, 672] w slices_S8192x6048_S8192x256_0_672⟩,
    ⟨S8192x256, extractStridedSlice S8192x256 ![0, 1184] w slices_S8192x6048_S8192x256_0_1184⟩,
    ⟨S8192x256, extractStridedSlice S8192x256 ![0, 928] w slices_S8192x6048_S8192x256_0_928⟩,
    ⟨S8192x256, extractStridedSlice S8192x256 ![0, 1440] w slices_S8192x6048_S8192x256_0_1440⟩,
    ⟨S8192x256, extractStridedSlice S8192x256 ![0, 1696] w slices_S8192x6048_S8192x256_0_1696⟩,
    ⟨S8192x256, extractStridedSlice S8192x256 ![0, 0] w slices_S8192x6048_S8192x256_0_0⟩,
    ⟨S8192x128, extractStridedSlice S8192x128 ![0, 256] w slices_S8192x6048_S8192x128_0_256⟩,
    ⟨S8192x128, padP (extractStridedSlice S8192x32 ![0, 384] w slices_S8192x6048_S8192x32_0_384)⟩,
    ⟨S8192x128, padP (swapP (extractStridedSlice S8192x32 ![0, 384] w slices_S8192x6048_S8192x32_0_384))⟩]
    concatenates_S8192x4096_S8192x256_S8192x256_S8192x256_S8192x256_S8192x256_S8192x256_S8192x256_S8192x128_S8192x128_S8192x128_S8192x6272_d1

section values

theorem headsQ_at {w : FVec Ideal S256x384 .f32} {W : Fin 256 → ℕ → ℝ} (hw : ∀ l (n : Fin 384), w (ix2 l n) = ((W l n.val : ℝ) : EReal))
    (l : Fin 256) (h : Fin 4) (j : Fin 96) : headsQ w (ix3 l h j) = ((W l (96 * h.val + j.val) : ℝ) : EReal) := by
  pointwise [headsQ]
  simp only [hw]
  exact real_eq (by omega)

theorem headsK_at {w : FVec Ideal S128x512 .f32} {W : Fin 128 → ℕ → ℝ} (hw : ∀ l (n : Fin 512), w (ix2 l n) = ((W l n.val : ℝ) : EReal))
    (l : Fin 128) (h : Fin 4) (j : Fin 128) : headsK w (ix3 l h j) = ((W l (128 * h.val + j.val) : ℝ) : EReal) := by
  pointwise [headsK]
  simp only [hw]
  exact real_eq (by omega)

theorem neg_eq {f : ℕ → ℝ} {a b : ℕ} (h : a = b) : -((f a : ℝ) : EReal) = ((-f b : ℝ) : EReal) := by rw [h, EReal.coe_neg]

set_option maxHeartbeats 2000000 in
theorem padQ_at {w : FVec Ideal S256x4x96 .bf16} {W : Fin 256 → ℕ → ℝ} (hw : ∀ l (h : Fin 4) (j : Fin 96), w (ix3 l h j) = ((W l (96 * h.val + j.val) : ℝ) : EReal))
    (l : Fin 256) (n : Fin 1024) : padQ w (ix2 l n) = ((wq (W l) n.val : ℝ) : EReal) := by
  pointwise [padQ, swapQ]
  simp only [hw]
  unfold wq
  split_ifs <;> first | omega | exact EReal.coe_zero.symm | exact real_eq (by omega) | exact neg_eq (by omega)

set_option maxHeartbeats 2000000 in
theorem padK_at {w : FVec Ideal S128x4x128 .bf16} {W : Fin 128 → ℕ → ℝ} (hw : ∀ l (h : Fin 4) (j : Fin 128), w (ix3 l h j) = ((W l (128 * h.val + j.val) : ℝ) : EReal))
    (l : Fin 128) (n : Fin 1024) : padK w (ix2 l n) = ((wkv (W l) n.val : ℝ) : EReal) := by
  pointwise [padK]
  simp only [hw]
  unfold wkv
  split_ifs <;> first | omega | exact EReal.coe_zero.symm | exact real_eq (by omega)

theorem tabs_at {a : BitVec 32} {e : ℝ} (ha : Ideal.ofBits .f32 a = (e : EReal)) {t : FVec Ideal S8192x16 .f32} {C : Fin 8192 → ℕ → ℝ}
    (ht : ∀ i (n : Fin 16), t (ix2 i n) = ((C i n.val : ℝ) : EReal)) (i : Fin 8192) (n : Fin 128) : tabs a t (ix2 i n) = ((tab e (C i) n.val : ℝ) : EReal) := by
  pointwise [tabs]
  simp only [ht, ha]
  unfold tab
  split_ifs <;> first | omega | rfl | exact EReal.coe_zero.symm | exact real_eq (by omega)

theorem pad96_at {d : FVec Ideal S8192x4x96 .f32} {D : Fin 8192 → ℕ → ℕ → ℝ}
    (hd : ∀ i (h : Fin 4) (j : Fin 96), d (ix3 i h j) = ((D i h.val j.val : ℝ) : EReal)) (h : Fin 4) (i : Fin 8192) (j : Fin 128) :
    pad96 d (ix3 h i j) = ((lanes 96 (D i) h.val j.val : ℝ) : EReal) := by
  pointwise [pad96]
  simp only [hd]
  unfold lanes
  split_ifs <;> first | omega | rfl | exact EReal.coe_zero.symm

theorem pad64_at {d : FVec Ideal S8192x4x64 .f32} {D : Fin 8192 → ℕ → ℕ → ℝ}
    (hd : ∀ i (h : Fin 4) (j : Fin 64), d (ix3 i h j) = ((D i h.val j.val : ℝ) : EReal)) (h : Fin 4) (i : Fin 8192) (j : Fin 128) :
    pad64 d (ix3 h i j) = ((lanes 64 (D i) h.val j.val : ℝ) : EReal) := by
  pointwise [pad64]
  simp only [hd]
  unfold lanes
  split_ifs <;> first | omega | rfl | exact EReal.coe_zero.symm

variable {p : FVec Ideal S8192x6048 .f32} {P : Fin 8192 → ℕ → ℝ} (hp : ∀ i (n : Fin 6048), p (ix2 i n) = ((P i n.val : ℝ) : EReal))
include hp

theorem packP_q (i : Fin 8192) (n : Fin 256) :
    packP (truncf (F := Ideal) .bf16 p bitsLt_bf16_f32) (ix2 i ⟨5632 + n.val, by omega⟩) = ((P i n.val : ℝ) : EReal) := by
  have hn := n.isLt
  pointwise [packP]
  rw [dif_neg (by omega), dif_neg (by omega), dif_neg (by omega), dif_neg (by omega), dif_neg (by omega), dif_neg (by omega), dif_neg (by omega),
    dif_pos (by omega), hp]
  exact real_eq (by show _ = n.val; simp only; omega)

theorem packP_k (i : Fin 8192) (n : Fin 128) :
    packP (truncf (F := Ideal) .bf16 p bitsLt_bf16_f32) (ix2 i ⟨5888 + n.val, by omega⟩) = ((P i (256 + n.val) : ℝ) : EReal) := by
  have hn := n.isLt
  pointwise [packP]
  rw [dif_neg (by omega), dif_neg (by omega), dif_neg (by omega), dif_neg (by omega), dif_neg (by omega), dif_neg (by omega), dif_neg (by omega),
    dif_neg (by omega), dif_pos (by omega), hp]
  exact real_eq (by show _ = 256 + n.val; simp only; omega)

end values

section reads

variable (m : (ℓ : Loc nD τ sig) → Buf (Elt Ideal) ℓ) (c : Dev nD)

abbrev A0 : FVec Ideal S8192x6048 .f32 := m ((c : Thread nD τ).loc main_arg0)
abbrev A1 : FVec Ideal S256 .f32 := m ((c : Thread nD τ).loc main_arg1)
abbrev A2 : FVec Ideal S256x384 .f32 := m ((c : Thread nD τ).loc main_arg2)
abbrev A3 : FVec Ideal S128 .f32 := m ((c : Thread nD τ).loc main_arg3)
abbrev A4 : FVec Ideal S128x512 .f32 := m ((c : Thread nD τ).loc main_arg4)
abbrev A5 : FVec Ideal S8192x16 .f32 := m ((c : Thread nD τ).loc main_arg5)
abbrev A6 : FVec Ideal S8192x16 .f32 := m ((c : Thread nD τ).loc main_arg6)
abbrev A7 : FVec Ideal S8192x4x96 .f32 := m ((c : Thread nD τ).loc main_arg7)
abbrev A8 : FVec Ideal S8192x4x96 .f32 := m ((c : Thread nD τ).loc main_arg8)
abbrev A9 : FVec Ideal S8192x4x64 .f32 := m ((c : Thread nD τ).loc main_arg9)

theorem V_wq : V m c main_v17 = padQ (headsQ (A2 m c)) := by
  unfold V V0 hostOps0
  simp only [List.flatten_cons, List.flatten_nil, List.append_nil]
  after_reads_simp
  rfl
theorem V_wkv : V m c main_v26 = padK (headsK (A4 m c)) := by
  unfold V V0 hostOps0
  simp only [List.flatten_cons, List.flatten_nil, List.append_nil]
  after_reads_simp
  rfl
theorem V_ct : V m c main_v30 = tabs 0x3F800000#32 (A5 m c) := by
  unfold V V0 hostOps0
  simp only [List.flatten_cons, List.flatten_nil, List.append_nil]
  after_reads_simp
  rfl
theorem V_st : V m c main_v31 = tabs 0x00000000#32 (A6 m c) := by
  unfold V V0 hostOps0
  simp only [List.flatten_cons, List.flatten_nil, List.append_nil]
  after_reads_simp
  rfl
theorem V_crt : V m c main_v32 = tabs 0x00000000#32 (A5 m c) := by
  unfold V V0 hostOps0
  simp only [List.flatten_cons, List.flatten_nil, List.append_nil]
  after_reads_simp
  rfl
theorem V_dq : V m c main_v35 = pad96 (A7 m c) := by
  unfold V V0 hostOps0
  simp only [List.flatten_cons, List.flatten_nil, List.append_nil]
  after_reads_simp
  rfl
theorem V_dk : V m c main_v38 = pad96 (A8 m c) := by
  unfold V V0 hostOps0
  simp only [List.flatten_cons, List.flatten_nil, List.append_nil]
  after_reads_simp
  rfl
theorem V_dv : V m c main_v41 = pad64 (A9 m c) := by
  unfold V V0 hostOps0
  simp only [List.flatten_cons, List.flatten_nil, List.append_nil]
  after_reads_simp
  rfl
theorem V_p : V m c main_v63 = packP (truncf (F := Ideal) .bf16 (A0 m c) bitsLt_bf16_f32) := by
  unfold V V0 hostOps0
  simp only [List.flatten_cons, List.flatten_nil, List.append_nil]
  after_reads_simp
  rfl
theorem V_gq : V m c main_v64 = broadcastInDim S1x256 ![1] bcast_S256_S1x256_1 (A1 m c) := by
  unfold V V0 hostOps0
  simp only [List.flatten_cons, List.flatten_nil, List.append_nil]
  after_reads_simp
theorem V_gkv : V m c main_v65 = broadcastInDim S1x128 ![1] bcast_S128_S1x128_1 (A3 m c) := by
  unfold V V0 hostOps0
  simp only [List.flatten_cons, List.flatten_nil, List.append_nil]
  after_reads_simp

end reads

end Cert.QkvIdeal.Host

end
-- ==== Proof.Qkv.Kernel.lean ====
/- The five arrays the query and key preparation's gradient call leaves, at finite arguments. -/
module

public import proofs.«01_k».proof.Proof.Qkv.Host

@[expose] public section

set_option maxRecDepth 16384

noncomputable section

namespace Cert.QkvIdeal.Arrays

open Cert.QkvIdeal Cert.QkvIdeal.Gen Cert.QkvIdeal.Host Cert.Reals Cert.QkvSpec
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments are these reals. -/
structure Given (P : Fin 8192 → ℕ → ℝ) (GQ : Fin 256 → ℝ) (WQ : Fin 256 → ℕ → ℝ) (GK : Fin 128 → ℝ) (WK : Fin 128 → ℕ → ℝ)
    (C S : Fin 8192 → ℕ → ℝ) (DQ DK DV : Fin 8192 → ℕ → ℕ → ℝ) : Prop where
  hp : ∀ i (n : Fin 6048), A0 m c (ix2 i n) = ((P i n.val : ℝ) : EReal)
  hgq : ∀ l, A1 m c (ix1 l) = ((GQ l : ℝ) : EReal)
  hwq : ∀ l (n : Fin 384), A2 m c (ix2 l n) = ((WQ l n.val : ℝ) : EReal)
  hgk : ∀ l, A3 m c (ix1 l) = ((GK l : ℝ) : EReal)
  hwk : ∀ l (n : Fin 512), A4 m c (ix2 l n) = ((WK l n.val : ℝ) : EReal)
  hc : ∀ i (n : Fin 16), A5 m c (ix2 i n) = ((C i n.val : ℝ) : EReal)
  hs : ∀ i (n : Fin 16), A6 m c (ix2 i n) = ((S i n.val : ℝ) : EReal)
  hq : ∀ i (h : Fin 4) (j : Fin 96), A7 m c (ix3 i h j) = ((DQ i h.val j.val : ℝ) : EReal)
  hk : ∀ i (h : Fin 4) (j : Fin 96), A8 m c (ix3 i h j) = ((DK i h.val j.val : ℝ) : EReal)
  hv : ∀ i (h : Fin 4) (j : Fin 64), A9 m c (ix3 i h j) = ((DV i h.val j.val : ℝ) : EReal)

theorem idx : ∀ t : Fin cfg0.N, win0_0.index t = ![0, t.val, 0] ∧ win0_1.index t = ![0, t.val, 0] ∧ win0_2.index t = ![0, t.val, 0]
    ∧ win0_3.index t = ![t.val, 22] ∧ win0_4.index t = ![t.val, 46] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![t.val, 0] :=
  (by decide +kernel : ∀ t : Fin grid0.N, _)

/-- The row of the array that row `r` of point `t`'s block is. -/
abbrev row (t : Fin cfg0.N) (r : Fin 512) : Fin 8192 := ⟨t.val * 512 + r.val, by have := lt_of_lt_of_eq t.isLt N_0; omega⟩

variable {P : Fin 8192 → ℕ → ℝ} {GQ : Fin 256 → ℝ} {WQ : Fin 256 → ℕ → ℝ} {GK : Fin 128 → ℝ} {WK : Fin 128 → ℕ → ℝ}
variable {C S : Fin 8192 → ℕ → ℝ} {DQ DK DV : Fin 8192 → ℕ → ℕ → ℝ}
variable (h : Given m c P GQ WQ GK WK C S DQ DK DV)
include h

theorem blk0 (t : Fin cfg0.N) (k : Fin 4) (r : Fin 512) (j : Fin 128) : (iblk m c 0 t : FVec Ideal S4x512x128 .f32) (ix3 k r j)
    = ((lanes 96 (DQ (row t r)) k.val j.val : ℝ) : EReal) := by
  refine Eq.trans (b := V m c main_v35 (ix3 k (row t r) j)) ?_ ?_
  · blk_simp [iblk, idx t]
    refine congrArg (V m c main_v35) ?_
    blk_ext [idx t]
  · rw [V_dq]; exact pad96_at h.hq k _ j

theorem blk1 (t : Fin cfg0.N) (k : Fin 4) (r : Fin 512) (j : Fin 128) : (iblk m c 1 t : FVec Ideal S4x512x128 .f32) (ix3 k r j)
    = ((lanes 96 (DK (row t r)) k.val j.val : ℝ) : EReal) := by
  refine Eq.trans (b := V m c main_v38 (ix3 k (row t r) j)) ?_ ?_
  · blk_simp [iblk, idx t]
    refine congrArg (V m c main_v38) ?_
    blk_ext [idx t]
  · rw [V_dk]; exact pad96_at h.hk k _ j

theorem blk2 (t : Fin cfg0.N) (k : Fin 4) (r : Fin 512) (j : Fin 128) : (iblk m c 2 t : FVec Ideal S4x512x128 .f32) (ix3 k r j)
    = ((lanes 64 (DV (row t r)) k.val j.val : ℝ) : EReal) := by
  refine Eq.trans (b := V m c main_v41 (ix3 k (row t r) j)) ?_ ?_
  · blk_simp [iblk, idx t]
    refine congrArg (V m c main_v41) ?_
    blk_ext [idx t]
  · rw [V_dv]; exact pad64_at h.hv k _ j

/-- The latent query's row. -/
abbrev fq (P : Fin 8192 → ℕ → ℝ) (i : Fin 8192) (l : Fin 256) : ℝ := P i l.val

/-- The latent key's row. -/
abbrev fk (P : Fin 8192 → ℕ → ℝ) (i : Fin 8192) (l : Fin 128) : ℝ := P i (256 + l.val)

theorem blk3 (t : Fin cfg0.N) (r : Fin 512) (l : Fin 256) : (X0_3 m c t : FVec Ideal S512x256 .bf16) (ix2 r l) = ((fq P (row t r) l : ℝ) : EReal) := by
  refine Eq.trans (b := V m c main_v63 (ix2 (row t r) ⟨5632 + l.val, by omega⟩)) ?_ ?_
  · unfold X0_3 Pipeline.Window.fill
    rw [dif_pos (moved0_3 t _)]
    blk_simp [iblk, idx t]
    refine congrArg (V m c main_v63) ?_
    blk_ext [idx t]
  · rw [V_p]; exact packP_q h.hp _ l

theorem blk4 (t : Fin cfg0.N) (r : Fin 512) (l : Fin 128) : (iblk m c 4 t : FVec Ideal S512x128 .bf16) (ix2 r l) = ((fk P (row t r) l : ℝ) : EReal) := by
  refine Eq.trans (b := V m c main_v63 (ix2 (row t r) ⟨5888 + l.val, by omega⟩)) ?_ ?_
  · blk_simp [iblk, idx t]
    refine congrArg (V m c main_v63) ?_
    blk_ext [idx t]
  · rw [V_p]; exact packP_k h.hp _ l

theorem blk5 (t : Fin cfg0.N) (l : Fin 256) : (iblk m c 5 t : FVec Ideal S1x256 .f32) (ix2 0 l) = ((GQ l : ℝ) : EReal) := by
  refine Eq.trans (b := V m c main_v64 (ix2 0 l)) ?_ ?_
  · blk_simp [iblk, idx t]
    refine congrArg (V m c main_v64) ?_
    blk_ext [idx t]
  · rw [V_gq]; pointwise; exact h.hgq l

theorem blk6 (t : Fin cfg0.N) (l : Fin 128) : (iblk m c 6 t : FVec Ideal S1x128 .f32) (ix2 0 l) = ((GK l : ℝ) : EReal) := by
  refine Eq.trans (b := V m c main_v65 (ix2 0 l)) ?_ ?_
  · blk_simp [iblk, idx t]
    refine congrArg (V m c main_v65) ?_
    blk_ext [idx t]
  · rw [V_gkv]; pointwise; exact h.hgk l

theorem blk7 (t : Fin cfg0.N) (l : Fin 256) (n : Fin 1024) : (iblk m c 7 t : FVec Ideal S256x1024 .bf16) (ix2 l n) = ((wq (WQ l) n.val : ℝ) : EReal) := by
  refine Eq.trans (b := V m c main_v17 (ix2 l n)) ?_ ?_
  · blk_simp [iblk, idx t]
    refine congrArg (V m c main_v17) ?_
    blk_ext [idx t]
  · rw [V_wq]; exact padQ_at (headsQ_at h.hwq) l n

theorem blk8 (t : Fin cfg0.N) (l : Fin 128) (n : Fin 1024) : (iblk m c 8 t : FVec Ideal S128x1024 .bf16) (ix2 l n) = ((wkv (WK l) n.val : ℝ) : EReal) := by
  refine Eq.trans (b := V m c main_v26 (ix2 l n)) ?_ ?_
  · blk_simp [iblk, idx t]
    refine congrArg (V m c main_v26) ?_
    blk_ext [idx t]
  · rw [V_wkv]; exact padK_at (headsK_at h.hwk) l n

theorem blk9 (t : Fin cfg0.N) (r : Fin 512) (j : Fin 128) : (iblk m c 9 t : FVec Ideal S512x128 .f32) (ix2 r j) = ((tab 1 (C (row t r)) j.val : ℝ) : EReal) := by
  refine Eq.trans (b := V m c main_v30 (ix2 (row t r) j)) ?_ ?_
  · blk_simp [iblk, idx t]
    refine congrArg (V m c main_v30) ?_
    blk_ext [idx t]
  · rw [V_ct]; exact tabs_at wone h.hc _ j

theorem blk10 (t : Fin cfg0.N) (r : Fin 512) (j : Fin 128) : (iblk m c 10 t : FVec Ideal S512x128 .f32) (ix2 r j) = ((tab 0 (S (row t r)) j.val : ℝ) : EReal) := by
  refine Eq.trans (b := V m c main_v31 (ix2 (row t r) j)) ?_ ?_
  · blk_simp [iblk, idx t]
    refine congrArg (V m c main_v31) ?_
    blk_ext [idx t]
  · rw [V_st]; exact tabs_at (by simp) h.hs _ j

theorem blk11 (t : Fin cfg0.N) (r : Fin 512) (j : Fin 128) : (iblk m c 11 t : FVec Ideal S512x128 .f32) (ix2 r j) = ((tab 0 (C (row t r)) j.val : ℝ) : EReal) := by
  refine Eq.trans (b := V m c main_v32 (ix2 (row t r) j)) ?_ ?_
  · blk_simp [iblk, idx t]
    refine congrArg (V m c main_v32) ?_
    blk_ext [idx t]
  · rw [V_crt]; exact tabs_at (by simp) h.hc _ j

omit h in
/-- A head's head_at of a block read at a lane. -/
theorem head_at (X : FVec Ideal S4x512x128 .f32) (k : Fin 4) (hb : ∀ a, (![k.val, 0, 0] : Fin 3 → ℕ) a + S1x512x128.size a ≤ S4x512x128.size a)
    (r : Fin 512) (j : Fin 128) : View.ld (Val := Elt Ideal) (e' := .f32) X (Rect.unit ![k.val, 0, 0] S1x512x128.size hb) (ix3 0 r j) = X (ix3 k r j) := by
  refine congrArg X (funext fun a => Fin.ext ((Rect.idx_unit_val _ _ hb (ix3 0 r j) a).trans ?_))
  fin_cases a <;> simp

omit h in
/-- Head 0's head_at. -/
abbrev head0 (X : FVec Ideal S4x512x128 .f32) : FVec Ideal S1x512x128 .f32 := View.ld (Val := Elt Ideal) (e' := .f32) X (Rect.unit ![0, 0, 0] S1x512x128.size inb_S4x512x128_S1x512x128_0_0_0)

omit h in
/-- Head 1's head_at. -/
abbrev head1 (X : FVec Ideal S4x512x128 .f32) : FVec Ideal S1x512x128 .f32 := View.ld (Val := Elt Ideal) (e' := .f32) X (Rect.unit ![1, 0, 0] S1x512x128.size inb_S4x512x128_S1x512x128_1_0_0)

omit h in
/-- Head 2's head_at. -/
abbrev head2 (X : FVec Ideal S4x512x128 .f32) : FVec Ideal S1x512x128 .f32 := View.ld (Val := Elt Ideal) (e' := .f32) X (Rect.unit ![2, 0, 0] S1x512x128.size inb_S4x512x128_S1x512x128_2_0_0)

omit h in
/-- Head 3's head_at. -/
abbrev head3 (X : FVec Ideal S4x512x128 .f32) : FVec Ideal S1x512x128 .f32 := View.ld (Val := Elt Ideal) (e' := .f32) X (Rect.unit ![3, 0, 0] S1x512x128.size inb_S4x512x128_S1x512x128_3_0_0)

omit h in
/-- The gradient of the padded queries at a point. -/
abbrev QA (t : Fin cfg0.N) : FVec Ideal S512x1024 .f32 :=
  k0_pay20 (k0_pay8 (iblk m c 9 t)) (k0_pay9 (iblk m c 10 t)) (k0_pay11 (head0 (iblk m c 0 t))) (k0_pay12 (head1 (iblk m c 0 t)))
    (k0_pay13 (head2 (iblk m c 0 t))) (k0_pay14 (head3 (iblk m c 0 t))) (k0_pay19 (iblk m c 9 t) (head0 (iblk m c 0 t)))

omit h in
/-- The gradient of the padded keys and values at a point. -/
abbrev KA (t : Fin cfg0.N) : FVec Ideal S512x1024 .f32 :=
  k0_pay21 (k0_pay15 (head0 (iblk m c 1 t))) (k0_pay16 (head1 (iblk m c 1 t))) (k0_pay17 (head2 (iblk m c 1 t))) (k0_pay18 (head3 (iblk m c 1 t)))
    (head0 (iblk m c 2 t)) (head1 (iblk m c 2 t)) (head2 (iblk m c 2 t)) (head3 (iblk m c 2 t))

theorem qa_at (t : Fin cfg0.N) (r : Fin 512) (n : Fin 1024) : QA m c t (ix2 r n)
    = ((qab (DQ (row t r)) (C (row t r)) (S (row t r)) n.val : ℝ) : EReal) :=
  Pay.pay20 (D := fun r => DQ (row t r)) (C := fun r => C (row t r)) (S := fun r => S (row t r))
    (fun r j => (head_at _ 0 _ r j).trans (blk0 m c h t 0 r j)) (fun r j => (head_at _ 1 _ r j).trans (blk0 m c h t 1 r j))
    (fun r j => (head_at _ 2 _ r j).trans (blk0 m c h t 2 r j)) (fun r j => (head_at _ 3 _ r j).trans (blk0 m c h t 3 r j)) (blk9 m c h t) (blk10 m c h t) r n

theorem ka_at (t : Fin cfg0.N) (r : Fin 512) (n : Fin 1024) : KA m c t (ix2 r n) = ((kav (DK (row t r)) (DV (row t r)) n.val : ℝ) : EReal) :=
  Pay.pay21 (K := fun r => DK (row t r)) (V := fun r => DV (row t r))
    (fun r j => (head_at _ 0 _ r j).trans (blk1 m c h t 0 r j)) (fun r j => (head_at _ 1 _ r j).trans (blk1 m c h t 1 r j))
    (fun r j => (head_at _ 2 _ r j).trans (blk1 m c h t 2 r j)) (fun r j => (head_at _ 3 _ r j).trans (blk1 m c h t 3 r j))
    (fun r j => (head_at _ 0 _ r j).trans (blk2 m c h t 0 r j)) (fun r j => (head_at _ 1 _ r j).trans (blk2 m c h t 1 r j))
    (fun r j => (head_at _ 2 _ r j).trans (blk2 m c h t 2 r j)) (fun r j => (head_at _ 3 _ r j).trans (blk2 m c h t 3 r j)) r n

theorem sum_at (t : Fin cfg0.N) (r : Fin 512) (j : Fin 128) :
    k0_pay22 (F := Ideal) (k0_pay15 (head0 (iblk m c 1 t))) (k0_pay16 (head1 (iblk m c 1 t))) (k0_pay17 (head2 (iblk m c 1 t)))
      (k0_pay18 (head3 (iblk m c 1 t))) (ix2 r j) = ((ksum (lanes 96 (DK (row t r))) j.val : ℝ) : EReal) :=
  Pay.pay22 (K := fun r => DK (row t r))
    (fun r j => (head_at _ 0 _ r j).trans (blk1 m c h t 0 r j)) (fun r j => (head_at _ 1 _ r j).trans (blk1 m c h t 1 r j))
    (fun r j => (head_at _ 2 _ r j).trans (blk1 m c h t 2 r j)) (fun r j => (head_at _ 3 _ r j).trans (blk1 m c h t 3 r j)) r j

theorem tq_at (t : Fin cfg0.N) (r : Fin 512) (l : Fin 256) : k0_pay32 (F := Ideal) (QA m c t) (iblk m c 7 t) (ix2 r l)
    = ((dhq (DQ (row t r)) (C (row t r)) (S (row t r)) (WQ l) : ℝ) : EReal) :=
  (Pay.pay32 (qa_at m c h t) (blk7 m c h t) r l).trans (congrArg _ (sum_q _ _ _ _))

theorem tk_at (t : Fin cfg0.N) (r : Fin 512) (l : Fin 128) : k0_pay38 (F := Ideal) (KA m c t) (iblk m c 8 t) (ix2 r l)
    = ((dhk (DK (row t r)) (DV (row t r)) (WK l) : ℝ) : EReal) :=
  (Pay.pay38 (ka_at m c h t) (blk8 m c h t) r l).trans (congrArg _ (sum_k _ _ _))

omit h in
/-- A row of the packed gradient. -/
def gradB (P : Fin 8192 → ℕ → ℝ) (GQ : Fin 256 → ℝ) (WQ : Fin 256 → ℕ → ℝ) (GK : Fin 128 → ℝ) (WK : Fin 128 → ℕ → ℝ)
    (C S : Fin 8192 → ℕ → ℝ) (DQ DK DV : Fin 8192 → ℕ → ℕ → ℝ) (i : Fin 8192) (n : Fin 640) : ℝ :=
  Pay.store (nb 256 (fq P i) GQ fun l => dhq (DQ i) (C i) (S i) (WQ l)) (nb 128 (fk P i) GK fun l => dhk (DK i) (DV i) (WK l))
    (ksum (lanes 96 (DK i))) (tab 0 (C i)) (tab 0 (S i)) n

set_option maxHeartbeats 2000000 in
theorem point12 (t : Fin cfg0.N) (r : Fin 512) (n : Fin 640) : (outsAt0 m c t.val t.isLt).1 (ix2 r n)
    = ((gradB P GQ WQ GK WK C S DQ DK DV (row t r) n : ℝ) : EReal) := by
  by_cases h0 : t.val % 16 = 0
  · rw [outsAt0_A m c t h0]; frame_out
    exact Pay.pay3 (blk10 m c h t) (blk11 m c h t) (sum_at m c h t) (Pay.pay36 (blk3 m c h t) (blk5 m c h t) (tq_at m c h t))
      (Pay.pay41 (blk4 m c h t) (blk6 m c h t) (tk_at m c h t)) r n
  · rw [outsAt0_B m c t h0]; frame_out
    exact Pay.pay3 (blk10 m c h t) (blk11 m c h t) (sum_at m c h t) (Pay.pay36 (blk3 m c h t) (blk5 m c h t) (tq_at m c h t))
      (Pay.pay41 (blk4 m c h t) (blk6 m c h t) (tk_at m c h t)) r n

set_option maxHeartbeats 2000000 in
theorem final12 : ((dats m 0 c).arrAt 12 cfg0.N : FVec Ideal S8192x640 .bf16)
    = fun i => ((gradB P GQ WQ GK WK C S DQ DK DV (i 0) (i 1) : ℝ) : EReal) := by
  refine (dats m 0 c).arrAt_eq_of_covers 12 _ (by decide +kernel) fun t hf y => ?_
  blk_simp
  rw [after0_12]
  obtain ⟨r, l, rfl⟩ : ∃ (r : Fin 512) (l : Fin 640), y = ix2 r l := ⟨y 0, y 1, by idx_vars y⟩
  rw [point12 m c h]
  have e : (win0_12.blk t).view.emb (ix2 r l) = ix2 (row t r) l := by blk_ext [idx t]
  rw [e]; rfl

set_option maxHeartbeats 2000000 in
theorem final13 : ((dats m 0 c).arrAt 13 cfg0.N : FVec Ideal S256x1024 .f32)
    = fun i => ((∑ k, nx 256 (fq P k) GQ (i 0) * qab (DQ k) (C k) (S k) (i 1).val : ℝ) : EReal) := by
  refine (dats m 0 c).arrAt_eq_of_after_last 13 t0_15 (by decide +kernel) _ fun j => ?_
  blk_simp
  idx_vars j
  rw [after0_13, Pipeline.eq_sum_fin_of_reset_step_apply_last (fun n h => (outsAt0 m c n h).2.1) 16 (fun _ => 0)
    (fun p j => ∑ r : Fin 512, ((nx 256 (fq P (row p r)) GQ (j 0) * qab (DQ (row p r)) (C (row p r)) (S (row p r)) (j 1).val : ℝ) : EReal))
    (fun t h0 j => by
      idx_vars j; rw [outsAt0_A m c t h0]; frame_out
      refine (Pay.pay30 (qa_at m c h t) (blk3 m c h t) (blk5 m c h t) _ j0 j1).trans ?_
      rw [Pay.pay4])
    (fun t h0 j => by
      idx_vars j; rw [outsAt0_B m c t h0]; frame_out
      exact Pay.pay30 (qa_at m c h t) (blk3 m c h t) (blk5 m c h t) _ j0 j1)
    (le_of_eq N_0) t0_15 rfl (ix2 j0 j1), zero_add]
  simp only [sum_coe]
  exact congrArg _ (Fin.sum_mul_add_fin 16 512 (fun k => nx 256 (fq P k) GQ j0 * qab (DQ k) (C k) (S k) j1.val))

set_option maxHeartbeats 2000000 in
theorem final14 : ((dats m 0 c).arrAt 14 cfg0.N : FVec Ideal S128x1024 .f32)
    = fun i => ((∑ k, nx 128 (fk P k) GK (i 0) * kav (DK k) (DV k) (i 1).val : ℝ) : EReal) := by
  refine (dats m 0 c).arrAt_eq_of_after_last 14 t0_15 (by decide +kernel) _ fun j => ?_
  blk_simp
  idx_vars j
  rw [after0_14, Pipeline.eq_sum_fin_of_reset_step_apply_last (fun n h => (outsAt0 m c n h).2.2.1) 16 (fun _ => 0)
    (fun p j => ∑ r : Fin 512, ((nx 128 (fk P (row p r)) GK (j 0) * kav (DK (row p r)) (DV (row p r)) (j 1).val : ℝ) : EReal))
    (fun t h0 j => by
      idx_vars j; rw [outsAt0_A m c t h0]; frame_out
      refine (Pay.pay31 (ka_at m c h t) (blk4 m c h t) (blk6 m c h t) _ j0 j1).trans ?_
      rw [Pay.pay5])
    (fun t h0 j => by
      idx_vars j; rw [outsAt0_B m c t h0]; frame_out
      exact Pay.pay31 (ka_at m c h t) (blk4 m c h t) (blk6 m c h t) _ j0 j1)
    (le_of_eq N_0) t0_15 rfl (ix2 j0 j1), zero_add]
  simp only [sum_coe]
  exact congrArg _ (Fin.sum_mul_add_fin 16 512 (fun k => nx 128 (fk P k) GK j0 * kav (DK k) (DV k) j1.val))

set_option maxHeartbeats 2000000 in
theorem final15 : ((dats m 0 c).arrAt 15 cfg0.N : FVec Ideal S1x256 .f32)
    = fun i => ((∑ k, dhq (DQ k) (C k) (S k) (WQ (i 1)) * (fq P k (i 1) * rr (fq P k) 256) : ℝ) : EReal) := by
  refine (dats m 0 c).arrAt_eq_of_after_last 15 t0_15 (by decide +kernel) _ fun j => ?_
  blk_simp
  idx_vars j
  obtain rfl := Subsingleton.elim j0 0
  rw [after0_15, Pipeline.eq_sum_fin_of_reset_step_apply_last (fun n h => (outsAt0 m c n h).2.2.2.1) 16 (fun _ => 0)
    (fun p j => ∑ r : Fin 512, ((dhq (DQ (row p r)) (C (row p r)) (S (row p r)) (WQ (j 1)) * (fq P (row p r) (j 1) * rr (fq P (row p r)) 256) : ℝ) : EReal))
    (fun t h0 j => by
      idx_vars j; obtain rfl := Subsingleton.elim j0 0; rw [outsAt0_A m c t h0]; frame_out
      refine (Pay.pay1 (blk3 m c h t) (tq_at m c h t) _ j1).trans ?_
      rw [Pay.pay6])
    (fun t h0 j => by
      idx_vars j; obtain rfl := Subsingleton.elim j0 0; rw [outsAt0_B m c t h0]; frame_out
      exact Pay.pay1 (blk3 m c h t) (tq_at m c h t) _ j1)
    (le_of_eq N_0) t0_15 rfl (ix2 0 j1), zero_add]
  simp only [sum_coe]
  exact congrArg _ (Fin.sum_mul_add_fin 16 512 (fun k => dhq (DQ k) (C k) (S k) (WQ j1) * (fq P k j1 * rr (fq P k) 256)))

set_option maxHeartbeats 2000000 in
theorem final16 : ((dats m 0 c).arrAt 16 cfg0.N : FVec Ideal S1x128 .f32)
    = fun i => ((∑ k, dhk (DK k) (DV k) (WK (i 1)) * (fk P k (i 1) * rr (fk P k) 128) : ℝ) : EReal) := by
  refine (dats m 0 c).arrAt_eq_of_after_last 16 t0_15 (by decide +kernel) _ fun j => ?_
  blk_simp
  idx_vars j
  obtain rfl := Subsingleton.elim j0 0
  rw [after0_16, Pipeline.eq_sum_fin_of_reset_step_apply_last (fun n h => (outsAt0 m c n h).2.2.2.2) 16 (fun _ => 0)
    (fun p j => ∑ r : Fin 512, ((dhk (DK (row p r)) (DV (row p r)) (WK (j 1)) * (fk P (row p r) (j 1) * rr (fk P (row p r)) 128) : ℝ) : EReal))
    (fun t h0 j => by
      idx_vars j; obtain rfl := Subsingleton.elim j0 0; rw [outsAt0_A m c t h0]; frame_out
      refine (Pay.pay2 (blk4 m c h t) (tk_at m c h t) _ j1).trans ?_
      rw [Pay.pay7])
    (fun t h0 j => by
      idx_vars j; obtain rfl := Subsingleton.elim j0 0; rw [outsAt0_B m c t h0]; frame_out
      exact Pay.pay2 (blk4 m c h t) (tk_at m c h t) _ j1)
    (le_of_eq N_0) t0_15 rfl (ix2 0 j1), zero_add]
  simp only [sum_coe]
  exact congrArg _ (Fin.sum_mul_add_fin 16 512 (fun k => dhk (DK k) (DV k) (WK j1) * (fk P k j1 * rr (fk P k) 128)))

end Cert.QkvIdeal.Arrays

end
-- ==== Proof.Qkv.Tail.lean ====
/- The results the host lines after the region make of the region's arrays. -/
module

public import proofs.«01_k».proof.Proof.Qkv.Kernel

@[expose] public section

set_option maxRecDepth 16384

noncomputable section

namespace Cert.QkvIdeal.Tail

open Cert.QkvIdeal Cert.QkvIdeal.Gen Cert.QkvIdeal.Host Cert.QkvIdeal.Pay Cert.QkvIdeal.Arrays Cert.Reals Cert.QkvSpec
open Idealize.ShloMosaic Idealize.ShloMosaic.TcCoe Idealize.SL.Sem
open Idealize.ShloMosaic.Pipeline (Dat)

/-- The latent query's columns of the packed gradient. -/
def colsQ (b : FVec Ideal S8192x640 .bf16) : FVec Ideal S8192x256 .f32 :=
  extractStridedSlice S8192x256 ![0, 0] (extf .f32 b bitsLt_bf16_f32) slices_S8192x640_S8192x256_0_0

/-- The latent key's columns of the packed gradient. -/
def colsK (b : FVec Ideal S8192x640 .bf16) : FVec Ideal S8192x128 .f32 :=
  extractStridedSlice S8192x128 ![0, 256] (extf .f32 b bitsLt_bf16_f32) slices_S8192x640_S8192x128_0_256

/-- The second piece swapped back. -/
def backR (v : FVec Ideal S8192x32 .f32) : FVec Ideal S8192x32 .f32 :=
  concatenate S8192x32 1 [⟨S8192x16, extractStridedSlice S8192x16 ![0, 16] v slices_S8192x32_S8192x16_0_16⟩,
    ⟨S8192x16, Host.negf (extractStridedSlice S8192x16 ![0, 0] v slices_S8192x32_S8192x16_0_0)⟩] concatenates_S8192x16_S8192x16_S8192x32_d1

/-- The rotary key's two pieces of the packed gradient, combined. -/
def colsR (b : FVec Ideal S8192x640 .bf16) : FVec Ideal S8192x32 .f32 :=
  addf (extractStridedSlice S8192x32 ![0, 64] (extractStridedSlice S8192x128 ![0, 384] (extf .f32 b bitsLt_bf16_f32) slices_S8192x640_S8192x128_0_384)
      slices_S8192x128_S8192x32_0_64)
    (backR (extractStridedSlice S8192x32 ![0, 64] (extractStridedSlice S8192x128 ![0, 512] (extf .f32 b bitsLt_bf16_f32) slices_S8192x640_S8192x128_0_512)
      slices_S8192x128_S8192x32_0_64))

/-- A head's second piece swapped back. -/
def backQ (v : FVec Ideal S256x4x32 .f32) : FVec Ideal S256x4x32 .f32 :=
  concatenate S256x4x32 2 [⟨S256x4x16, extractStridedSlice S256x4x16 ![0, 0, 16] v slices_S256x4x32_S256x4x16_0_0_16⟩,
    ⟨S256x4x16, Host.negf (extractStridedSlice S256x4x16 ![0, 0, 0] v slices_S256x4x32_S256x4x16_0_0_0)⟩] concatenates_S256x4x16_S256x4x16_S256x4x32_d2

/-- One half of the padded query weight's gradient by heads. -/
def halfQ (o : ℕ) (a : FVec Ideal S256x1024 .f32) (hs : S256x1024.Slices ![0, o] S256x512) : FVec Ideal S256x4x128 .f32 :=
  shapeCast S256x4x128 (extractStridedSlice S256x512 ![0, o] a hs) shapeCasts_S256x512_S256x4x128

/-- The query weight's gradient in its own columns. -/
def unpackQ (a : FVec Ideal S256x1024 .f32) : FVec Ideal S256x384 .f32 :=
  shapeCast S256x384 (concatenate S256x4x96 2
    [⟨S256x4x64, extractStridedSlice S256x4x64 ![0, 0, 0] (halfQ 0 a slices_S256x1024_S256x512_0_0) slices_S256x4x128_S256x4x64_0_0_0⟩,
      ⟨S256x4x32, addf (extractStridedSlice S256x4x32 ![0, 0, 64] (halfQ 0 a slices_S256x1024_S256x512_0_0) slices_S256x4x128_S256x4x32_0_0_64)
        (backQ (extractStridedSlice S256x4x32 ![0, 0, 64] (halfQ 512 a slices_S256x1024_S256x512_0_512) slices_S256x4x128_S256x4x32_0_0_64))⟩]
    concatenates_S256x4x64_S256x4x32_S256x4x96_d2) shapeCasts_S256x4x96_S256x384

/-- One half of the padded key and value weight's gradient by heads. -/
def halfK (o : ℕ) (a : FVec Ideal S128x1024 .f32) (hs : S128x1024.Slices ![0, o] S128x512) : FVec Ideal S128x4x128 .f32 :=
  shapeCast S128x4x128 (extractStridedSlice S128x512 ![0, o] a hs) shapeCasts_S128x512_S128x4x128

/-- The key and value weight's gradient in its own columns. -/
def unpackK (a : FVec Ideal S128x1024 .f32) : FVec Ideal S128x512 .f32 :=
  shapeCast S128x512 (concatenate S128x4x128 2
    [⟨S128x4x64, extractStridedSlice S128x4x64 ![0, 0, 0] (halfK 0 a slices_S128x1024_S128x512_0_0) slices_S128x4x128_S128x4x64_0_0_0⟩,
      ⟨S128x4x64, extractStridedSlice S128x4x64 ![0, 0, 0] (halfK 512 a slices_S128x1024_S128x512_0_512) slices_S128x4x128_S128x4x64_0_0_0⟩]
    concatenates_S128x4x64_S128x4x64_S128x4x128_d2) shapeCasts_S128x4x128_S128x512

section reads

variable (U : Valuation τ sig (Elt Ideal))

/-- The array a buffer ends with after the host lines, from any contents. -/
abbrev tail (b : Ref sig .tc) := StableHlo.after (List.flatten [hostOps1 (F := Ideal)]) U (Proc.devRef .tc b)

theorem tail_v88 : tail U main_v88 = colsQ (U (Proc.devRef .tc main_v66_0)) := by
  unfold tail hostOps1
  simp only [List.flatten_cons, List.flatten_nil, List.append_nil]
  after_reads_simp
  rfl

theorem tail_v89 : tail U main_v89 = colsK (U (Proc.devRef .tc main_v66_0)) := by
  unfold tail hostOps1
  simp only [List.flatten_cons, List.flatten_nil, List.append_nil]
  after_reads_simp
  rfl

theorem tail_v98 : tail U main_v98 = colsR (U (Proc.devRef .tc main_v66_0)) := by
  unfold tail hostOps1
  simp only [List.flatten_cons, List.flatten_nil, List.append_nil]
  after_reads_simp
  rfl

theorem tail_v99 : tail U main_v99 = shapeCast S256 (U (Proc.devRef .tc main_v66_3) : FVec Ideal S1x256 .f32) shapeCasts_S1x256_S256 := by
  unfold tail hostOps1
  simp only [List.flatten_cons, List.flatten_nil, List.append_nil]
  after_reads_simp
  rfl

theorem tail_v100 : tail U main_v100 = unpackQ (U (Proc.devRef .tc main_v66_1)) := by
  unfold tail hostOps1
  simp only [List.flatten_cons, List.flatten_nil, List.append_nil]
  after_reads_simp
  rfl

theorem tail_v101 : tail U main_v101 = shapeCast S128 (U (Proc.devRef .tc main_v66_4) : FVec Ideal S1x128 .f32) shapeCasts_S1x128_S128 := by
  unfold tail hostOps1
  simp only [List.flatten_cons, List.flatten_nil, List.append_nil]
  after_reads_simp
  rfl

theorem tail_v102 : tail U main_v102 = unpackK (U (Proc.devRef .tc main_v66_2)) := by
  unfold tail hostOps1
  simp only [List.flatten_cons, List.flatten_nil, List.append_nil]
  after_reads_simp
  rfl

end reads

section values

theorem real_add {f g : ℕ → ℝ} {a b a' b' : ℕ} (h0 : a = a') (h1 : b = b') : ((f a : ℝ) : EReal) + ((g b : ℝ) : EReal) = ((f a' + g b' : ℝ) : EReal) := by
  rw [h0, h1, EReal.coe_add]

theorem real_sub {f g : ℕ → ℝ} {a b a' b' : ℕ} (h0 : a = a') (h1 : b = b') : ((f a : ℝ) : EReal) + -((g b : ℝ) : EReal) = ((f a' + -g b' : ℝ) : EReal) := by
  rw [h0, h1, EReal.coe_add, EReal.coe_neg]

variable {a : FVec Ideal S256x1024 .f32} {A : Fin 256 → ℕ → ℝ} (ha : ∀ l (n : Fin 1024), a (ix2 l n) = ((A l n.val : ℝ) : EReal))
include ha

theorem unpackQ_at (l : Fin 256) (n : Fin 384) : unpackQ a (ix2 l n) = ((if n.val % 96 < 64 then A l (n.val / 96 * 128 + n.val % 96)
    else if n.val % 96 < 80 then A l (n.val / 96 * 128 + n.val % 96) + A l (512 + (n.val / 96 * 128 + (n.val % 96 + 16)))
    else A l (n.val / 96 * 128 + n.val % 96) + -A l (512 + (n.val / 96 * 128 + (n.val % 96 - 16))) : ℝ) : EReal) := by
  pointwise [unpackQ, halfQ, backQ]
  simp only [ha]
  split_ifs <;> first | omega | exact real_eq (by omega) | exact real_add (by omega) (by omega) | exact real_sub (by omega) (by omega)

omit ha in
theorem unpackK_at {a : FVec Ideal S128x1024 .f32} {A : Fin 128 → ℕ → ℝ} (ha : ∀ l (n : Fin 1024), a (ix2 l n) = ((A l n.val : ℝ) : EReal))
    (l : Fin 128) (n : Fin 512) : unpackK a (ix2 l n) = ((if n.val % 128 < 64 then A l (n.val / 128 * 128 + n.val % 128)
      else A l (512 + (n.val / 128 * 128 + (n.val % 128 - 64))) : ℝ) : EReal) := by
  pointwise [unpackK, halfK]
  simp only [ha]
  split_ifs <;> first | omega | exact real_eq (by omega)

end values

section results

variable {P : Fin 8192 → ℕ → ℝ} {GQ : Fin 256 → ℝ} {WQ : Fin 256 → ℕ → ℝ} {GK : Fin 128 → ℝ} {WK : Fin 128 → ℕ → ℝ}
variable {C S : Fin 8192 → ℕ → ℝ} {DQ DK DV : Fin 8192 → ℕ → ℕ → ℝ}

theorem res_wq {a : FVec Ideal S256x1024 .f32} (ha : ∀ l (n : Fin 1024), a (ix2 l n) = ((∑ k, nx 256 (fq P k) GQ l * qab (DQ k) (C k) (S k) n.val : ℝ) : EReal))
    (l : Fin 256) (n : Fin 384) : unpackQ a (ix2 l n) = ((∑ k, nx 256 (fq P k) GQ l * dqv (DQ k) (C k) (S k) n.val : ℝ) : EReal) := by
  rw [unpackQ_at (A := fun l n => ∑ k, nx 256 (fq P k) GQ l * qab (DQ k) (C k) (S k) n) ha]
  have hn := n.isLt
  congr 1
  have e1 : 64 ≤ n.val % 96 → n.val % 96 = 64 + (n.val % 96 - 64) := fun _ => by omega
  have e2 : 64 ≤ n.val % 96 → n.val % 96 + 16 = 80 + (n.val % 96 - 64) := fun _ => by omega
  have e3 : 80 ≤ n.val % 96 → n.val % 96 = 80 + (n.val % 96 - 80) := fun _ => by omega
  have e4 : 80 ≤ n.val % 96 → n.val % 96 - 16 = 64 + (n.val % 96 - 80) := fun _ => by omega
  split_ifs with h0 h1
  · exact Finset.sum_congr rfl fun k _ => by rw [dqv, pre_nope _ _ _ _ _ (by omega) h0]
  · rw [← Finset.sum_add_distrib]
    refine Finset.sum_congr rfl fun k _ => ?_
    rw [← mul_add, dqv, e2 (by omega), show n.val / 96 * 128 + n.val % 96 = n.val / 96 * 128 + (64 + (n.val % 96 - 64)) by omega,
      pre_first _ _ _ _ _ (by omega) (by omega), ← e1 (by omega)]
  · rw [← Finset.sum_neg_distrib, ← Finset.sum_add_distrib]
    refine Finset.sum_congr rfl fun k _ => ?_
    rw [← mul_neg, ← mul_add, dqv, e4 (by omega), show n.val / 96 * 128 + n.val % 96 = n.val / 96 * 128 + (80 + (n.val % 96 - 80)) by omega,
      pre_second _ _ _ _ _ (by omega) (by omega), ← e3 (by omega)]

theorem res_wk {a : FVec Ideal S128x1024 .f32} (ha : ∀ l (n : Fin 1024), a (ix2 l n) = ((∑ k, nx 128 (fk P k) GK l * kav (DK k) (DV k) n.val : ℝ) : EReal))
    (l : Fin 128) (n : Fin 512) : unpackK a (ix2 l n) = ((∑ k, nx 128 (fk P k) GK l * dkv (DK k) (DV k) n.val : ℝ) : EReal) := by
  rw [unpackK_at (A := fun l n => ∑ k, nx 128 (fk P k) GK l * kav (DK k) (DV k) n) ha]
  have hn := n.isLt
  congr 1
  split_ifs with h0
  · exact Finset.sum_congr rfl fun k _ => by rw [kav_lo _ _ _ _ (by omega) (by omega), lanes, if_pos (by omega), dkv, if_pos h0]
  · exact Finset.sum_congr rfl fun k _ => by rw [kav_hi _ _ _ _ (by omega), lanes, if_pos (by omega), dkv, if_neg h0]

variable {b : FVec Ideal S8192x640 .bf16} (hb : ∀ i n, b (ix2 i n) = ((gradB P GQ WQ GK WK C S DQ DK DV i n : ℝ) : EReal))

theorem ksum_lanes (K : ℕ → ℕ → ℝ) {j : ℕ} (h : j < 96) : ksum (lanes 96 K) j = ksum K j := by simp only [ksum, lanes, if_pos h]

theorem rot_c (i : Fin 8192) (n : Fin 640) {j : ℕ} (hn : n.val = 384 + (64 + j)) (hj : j < 32) : gradB P GQ WQ GK WK C S DQ DK DV i n
    = ksum (DK i) (64 + j) * (if j < 16 then C i j else C i (j - 16)) := by
  unfold gradB Pay.store tab
  rw [dif_neg (by omega), dif_neg (by omega), if_pos (by omega), show n.val - 384 = 64 + j by omega, ksum_lanes _ (by omega), if_neg (by omega)]
  congr 1
  split_ifs <;> first | omega | exact congrArg _ (by omega)

theorem rot_s (i : Fin 8192) (n : Fin 640) {j : ℕ} (hn : n.val = 512 + (64 + j)) (hj : j < 32) : gradB P GQ WQ GK WK C S DQ DK DV i n
    = ksum (DK i) (64 + j) * (if j < 16 then S i j else S i (j - 16)) := by
  unfold gradB Pay.store tab
  rw [dif_neg (by omega), dif_neg (by omega), if_neg (by omega), show n.val - 512 = 64 + j by omega, ksum_lanes _ (by omega), if_neg (by omega)]
  congr 1
  split_ifs <;> first | omega | exact congrArg _ (by omega)

include hb

theorem res_r (i : Fin 8192) (j : Fin 32) : colsR b (ix2 i j) = ((dkr (DK i) (C i) (S i) j.val : ℝ) : EReal) := by
  pointwise [colsR, backR]
  simp only [hb]
  have hj := j.isLt
  unfold dkr
  split_ifs with h0
  · rw [rot_c i _ (j := j.val) rfl hj, rot_s i _ (j := 16 + j.val) rfl (by omega), if_pos h0, if_neg (by omega), ← EReal.coe_add, add_comm]
    rw [show 64 + (16 + j.val) = 80 + j.val by omega, show 16 + j.val - 16 = j.val by omega]
  · rw [rot_c i _ (j := j.val) rfl hj, rot_s i _ (j := j.val - 16) rfl (by omega), if_neg h0, if_pos (by omega), ← EReal.coe_neg, ← EReal.coe_add]
    rw [show 64 + (j.val - 16) = 48 + j.val by omega, neg_mul]
  · exact absurd rfl (by assumption)

theorem res_q (i : Fin 8192) (l : Fin 256) : colsQ b (ix2 i l)
    = ((nb 256 (fq P i) GQ (fun l => dhq (DQ i) (C i) (S i) (WQ l)) l : ℝ) : EReal) := by
  pointwise [colsQ]
  simp only [hb]
  unfold gradB Pay.store
  rw [dif_pos (by have := l.isLt; omega)]

theorem res_k (i : Fin 8192) (l : Fin 128) : colsK b (ix2 i l)
    = ((nb 128 (fk P i) GK (fun l => dhk (DK i) (DV i) (WK l)) l : ℝ) : EReal) := by
  pointwise [colsK]
  simp only [hb]
  unfold gradB Pay.store
  have hl := l.isLt
  rw [dif_neg (by show ¬256 + l.val < 256; omega), dif_pos (by show 256 + l.val < 384; omega)]
  exact congrArg (fun l => ((nb 128 (fk P i) GK (fun l => dhk (DK i) (DV i) (WK l)) l : ℝ) : EReal)) (Fin.ext (by simp))

end results

section final

variable (m : (ℓ : Loc nD τ sig) → Buf (Elt Ideal) ℓ) (c : Dev nD)
variable {P : Fin 8192 → ℕ → ℝ} {GQ : Fin 256 → ℝ} {WQ : Fin 256 → ℕ → ℝ} {GK : Fin 128 → ℝ} {WK : Fin 128 → ℕ → ℝ}
variable {C S : Fin 8192 → ℕ → ℝ} {DQ DK DV : Fin 8192 → ℕ → ℕ → ℝ}
variable (h : Given m c P GQ WQ GK WK C S DQ DK DV)
include h

omit h in
/-- The contents the host lines after the region start from. -/
abbrev start : Valuation τ sig (Elt Ideal) := Pipeline.withArrays spec0 c (V0 m c) fun w => (dats m 0 c).arrAt w cfg0.N

omit h in
theorem start_arr (w : Fin cfg0.W) : start m c (Proc.devRef .tc (Pipeline.arrRef spec0 w)) = (dats m 0 c).arrAt w cfg0.N :=
  Pipeline.Dat.withArrays_arrAt (dats m 0 c) sharedIn0 (V0 m c) (A_eq m c) w

theorem out_q (i : Fin 8192) (l : Fin 256) : (tail (start m c) main_v88 : FVec Ideal S8192x256 .f32) (ix2 i l)
    = ((nb 256 (fq P i) GQ (fun l => dhq (DQ i) (C i) (S i) (WQ l)) l : ℝ) : EReal) := by
  rw [tail_v88]
  exact res_q (fun i n => congrFun ((start_arr m c 12).trans (final12 m c h)) (ix2 i n)) i l

theorem out_k (i : Fin 8192) (l : Fin 128) : (tail (start m c) main_v89 : FVec Ideal S8192x128 .f32) (ix2 i l)
    = ((nb 128 (fk P i) GK (fun l => dhk (DK i) (DV i) (WK l)) l : ℝ) : EReal) := by
  rw [tail_v89]
  exact res_k (fun i n => congrFun ((start_arr m c 12).trans (final12 m c h)) (ix2 i n)) i l

theorem out_r (i : Fin 8192) (j : Fin 32) : (tail (start m c) main_v98 : FVec Ideal S8192x32 .f32) (ix2 i j)
    = ((dkr (DK i) (C i) (S i) j.val : ℝ) : EReal) := by
  rw [tail_v98]
  exact res_r (fun i n => congrFun ((start_arr m c 12).trans (final12 m c h)) (ix2 i n)) i j

theorem out_gq (l : Fin 256) : (tail (start m c) main_v99 : FVec Ideal S256 .f32) (ix1 l)
    = ((∑ k, dhq (DQ k) (C k) (S k) (WQ l) * (fq P k l * rr (fq P k) 256) : ℝ) : EReal) := by
  rw [tail_v99]
  pointwise
  exact congrFun ((start_arr m c 15).trans (final15 m c h)) (ix2 0 l)

theorem out_gk (l : Fin 128) : (tail (start m c) main_v101 : FVec Ideal S128 .f32) (ix1 l)
    = ((∑ k, dhk (DK k) (DV k) (WK l) * (fk P k l * rr (fk P k) 128) : ℝ) : EReal) := by
  rw [tail_v101]
  pointwise
  exact congrFun ((start_arr m c 16).trans (final16 m c h)) (ix2 0 l)

theorem out_wq (l : Fin 256) (n : Fin 384) : (tail (start m c) main_v100 : FVec Ideal S256x384 .f32) (ix2 l n)
    = ((∑ k, nx 256 (fq P k) GQ l * dqv (DQ k) (C k) (S k) n.val : ℝ) : EReal) := by
  rw [tail_v100]
  exact res_wq (fun l n => congrFun ((start_arr m c 13).trans (final13 m c h)) (ix2 l n)) l n

theorem out_wk (l : Fin 128) (n : Fin 512) : (tail (start m c) main_v102 : FVec Ideal S128x512 .f32) (ix2 l n)
    = ((∑ k, nx 128 (fk P k) GK l * dkv (DK k) (DV k) n.val : ℝ) : EReal) := by
  rw [tail_v102]
  exact res_wk (fun l n => congrFun ((start_arr m c 14).trans (final14 m c h)) (ix2 l n)) l n

end final

section run

/-- The program's run: every result is what the lines after the region make of its arrays, every argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v88) = tail (start m c) main_v88
      ∧ r.2.mem ((c.tc : Thread nD τ).loc main_v89) = tail (start m c) main_v89
      ∧ r.2.mem ((c.tc : Thread nD τ).loc main_v98) = tail (start m c) main_v98
      ∧ r.2.mem ((c.tc : Thread nD τ).loc main_v99) = tail (start m c) main_v99
      ∧ r.2.mem ((c.tc : Thread nD τ).loc main_v100) = tail (start m c) main_v100
      ∧ r.2.mem ((c.tc : Thread nD τ).loc main_v101) = tail (start m c) main_v101
      ∧ r.2.mem ((c.tc : Thread nD τ).loc main_v102) = tail (start m c) main_v102
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨(h.1 c).2 main_v88 (Pipeline.mem_restRefs_of _ (by decide) (by decide)),
      (h.1 c).2 main_v89 (Pipeline.mem_restRefs_of _ (by decide) (by decide)),
      (h.1 c).2 main_v98 (Pipeline.mem_restRefs_of _ (by decide) (by decide)),
      (h.1 c).2 main_v99 (Pipeline.mem_restRefs_of _ (by decide) (by decide)),
      (h.1 c).2 main_v100 (Pipeline.mem_restRefs_of _ (by decide) (by decide)),
      (h.1 c).2 main_v101 (Pipeline.mem_restRefs_of _ (by decide) (by decide)),
      (h.1 c).2 main_v102 (Pipeline.mem_restRefs_of _ (by decide) (by decide)),
      h.2 c⟩)
    (θ_run_and (run_main m ρ) (unchanged m ρ))

end run

end Cert.QkvIdeal.Tail

end
-- ==== Proof.Qkv.Ref.lean ====
/- What the reference's derivative is of arrays of reals. -/
module

public import proofs.«01_k».proof.Proof.Gen.QkvRefIdeal.Read
public import proofs.«01_k».proof.Proof.Qkv.Spec
public import Idealize.ShloMosaic.Lib.Pipeline.ValueKit

@[expose] public section

set_option maxRecDepth 16384

noncomputable section

namespace Cert.QkvRefIdeal.Grad

open Cert.QkvRefIdeal Cert.QkvRefIdeal.Gen Cert.QkvRefIdeal.Read Cert.Reals Cert.QkvSpec
open Idealize.ShloMosaic Idealize.ShloMosaic.TcCoe Idealize.SL.Sem

variable {p : FVec Ideal S8192x6048 .f32} {g : FVec Ideal S256 .f32} {w : FVec Ideal S256x384 .f32} {e : FVec Ideal S128 .f32} {u : FVec Ideal S128x512 .f32}
  {co si : FVec Ideal S8192x16 .f32} {q k : FVec Ideal S8192x4x96 .f32} {v : FVec Ideal S8192x4x64 .f32}
variable {P : Fin 8192 → ℕ → ℝ} {G : Fin 256 → ℝ} {W : Fin 256 → ℕ → ℝ} {E : Fin 128 → ℝ} {U : Fin 128 → ℕ → ℝ} {C S : Fin 8192 → ℕ → ℝ}
  {D K V : Fin 8192 → ℕ → ℕ → ℝ}
variable (hp : ∀ i (n : Fin 6048), p (ix2 i n) = ((P i n.val : ℝ) : EReal)) (hg : ∀ l, g (ix1 l) = ((G l : ℝ) : EReal))
  (hw : ∀ l (n : Fin 384), w (ix2 l n) = ((W l n.val : ℝ) : EReal)) (he : ∀ l, e (ix1 l) = ((E l : ℝ) : EReal))
  (hu : ∀ l (n : Fin 512), u (ix2 l n) = ((U l n.val : ℝ) : EReal)) (hc : ∀ i (n : Fin 16), co (ix2 i n) = ((C i n.val : ℝ) : EReal))
  (hs : ∀ i (n : Fin 16), si (ix2 i n) = ((S i n.val : ℝ) : EReal)) (hq : ∀ i (h : Fin 4) (j : Fin 96), q (ix3 i h j) = ((D i h.val j.val : ℝ) : EReal))
  (hk : ∀ i (h : Fin 4) (j : Fin 96), k (ix3 i h j) = ((K i h.val j.val : ℝ) : EReal)) (hv : ∀ i (h : Fin 4) (j : Fin 64), v (ix3 i h j) = ((V i h.val j.val : ℝ) : EReal))

/-- A row's latent query and latent keys. -/
abbrev cq (P : ℕ → ℝ) (l : Fin 256) : ℝ := P l.val
abbrev ck (P : ℕ → ℝ) (l : Fin 128) : ℝ := P (256 + l.val)

theorem real_eq {f : ℕ → ℝ} {a b : ℕ} (h : a = b) : ((f a : ℝ) : EReal) = ((f b : ℝ) : EReal) := by rw [h]

theorem sum_eq {f g k : ℕ → ℝ} {a b p q a' b' p' q' : ℕ} (h0 : a = a') (h1 : p = p') (h2 : b = b') (h3 : q = q') :
    f a * g p + f b * k q = f a' * g p' + f b' * k q' := by subst h0 h1 h2 h3; rfl

theorem diff_eq {f g k : ℕ → ℝ} {a b p q a' b' p' q' : ℕ} (h0 : a = a') (h1 : p = p') (h2 : b = b') (h3 : q = q') :
    f a * g p + -f b * k q = f a' * g p' + -f b' * k q' := by subst h0 h1 h2 h3; rfl

section keys

include hk hv in
theorem v112 (i : Fin 8192) (n : Fin 512) : val_main_v112 (F := Ideal) k v (ix2 i n) = ((dkv (K i) (V i) n.val : ℝ) : EReal) := by
  pointwise [val_main_v112, val_main_v111, val_main_v110, val_main_v109, val_main_v78, val_main_cst_9, val_main_cst_10]
  simp only [hk, hv]
  unfold dkv
  split_ifs <;> first | omega | simp

include hp in
theorem v36 (i : Fin 8192) : val_main_v36 (F := Ideal) p (ix2 i 0) = ((ms (ck (P i)) 128 : ℝ) : EReal) := by
  pointwise [val_main_v36, val_main_v35, val_main_v34, val_main_v33, val_main_v32, val_main_v31, val_main_v30, val_main_v1, val_main_cst_3, val_main_cst_4,
    val_main_cst_5]
  simp only [hp, eps_word, w128, ← EReal.coe_mul, sum_coe, zero_add, div_128, ← EReal.coe_add]; rfl

include hp in
theorem v37 (i : Fin 8192) : val_main_v37 (F := Ideal) p (ix2 i 0) = ((rr (ck (P i)) 128 : ℝ) : EReal) := by
  pointwise [val_main_v37]
  rw [v36 hp, rsqrt_ms _ (by norm_num)]

include hp in
theorem v38 (i : Fin 8192) : val_main_v38 (F := Ideal) p (ix2 i 0) = ((rr (ck (P i)) 128 / ms (ck (P i)) 128 : ℝ) : EReal) := by
  pointwise [val_main_v38]
  rw [v36 hp, v37 hp, div_real (ms_pos _ (by norm_num)).ne']

include hp in
theorem v42 (i : Fin 8192) (l : Fin 128) : val_main_v42 (F := Ideal) p (ix2 i l) = ((ck (P i) l * rr (ck (P i)) 128 : ℝ) : EReal) := by
  pointwise [val_main_v42, val_main_v41, val_main_v1]
  rw [hp, v37 hp, ← EReal.coe_mul]

include hp he in
theorem v45 (i : Fin 8192) (l : Fin 128) : val_main_v45 (F := Ideal) p e (ix2 i l) = ((nx 128 (ck (P i)) E l : ℝ) : EReal) := by
  pointwise [val_main_v45, val_main_v44, val_main_v43]
  rw [v42 hp, he, ← EReal.coe_mul]
  rfl

include hk hv hu in
theorem v115 (i : Fin 8192) (l : Fin 128) : val_main_v115 (F := Ideal) u k v (ix2 i l) = ((dhk (K i) (V i) (U l) : ℝ) : EReal) := by
  pointwise [val_main_v115]
  simp only [v112 hk hv, hu, ← EReal.coe_mul, sum_coe]
  rfl

include hp he hk hv in
theorem v114 (l : Fin 128) (n : Fin 512) : val_main_v114 (F := Ideal) p e k v (ix2 l n)
    = ((∑ i, nx 128 (ck (P i)) E l * dkv (K i) (V i) n.val : ℝ) : EReal) := by
  pointwise [val_main_v114, val_main_v113]
  simp only [v112 hk hv, v45 hp he, ← EReal.coe_mul, sum_coe]
  exact congrArg _ (Finset.sum_congr rfl fun i _ => mul_comm _ _)

include hp hu hk hv in
theorem v121 (l : Fin 128) : val_main_v121 (F := Ideal) p u k v (ix1 l)
    = ((∑ i, dhk (K i) (V i) (U l) * (ck (P i) l * rr (ck (P i)) 128) : ℝ) : EReal) := by
  pointwise [val_main_v121, val_main_v118, val_main_v117, val_main_v116, val_main_cst_11, val_main_cst_12]
  simp only [v115 hu hk hv, v42 hp, ← EReal.coe_mul, sum_coe, zero_add, Finset.univ_unique, Fin.default_eq_zero, Finset.sum_singleton]
  exact congrArg _ (Finset.sum_congr rfl fun i _ => mul_comm _ _)

include he hu hk hv in
theorem v120 (i : Fin 8192) (l : Fin 128) : val_main_v120 (F := Ideal) e u k v (ix2 i l) = ((dhk (K i) (V i) (U l) * E l : ℝ) : EReal) := by
  pointwise [val_main_v120, val_main_v119, val_main_v43]
  rw [v115 hu hk hv, he, ← EReal.coe_mul]

include hp he hu hk hv in
theorem v131 (i : Fin 8192) (l : Fin 128) : val_main_v131 (F := Ideal) p e u k v (ix2 i l)
    = (((∑ j, ck (P i) j * (dhk (K i) (V i) (U j) * E j)) * (-1 / 2 * (rr (ck (P i)) 128 / ms (ck (P i)) 128)) / 128 : ℝ) : EReal) := by
  pointwise [val_main_v131, val_main_v130, val_main_v129, val_main_v128, val_main_v127, val_main_v124, val_main_v123, val_main_v122, val_main_v40,
    val_main_v39, val_main_v1, val_main_cst_6, val_main_cst_13, val_main_cst_14, val_main_cst_15]
  simp only [v120 he hu hk hv, v38 hp, hp, w128, wneghalf, ← EReal.coe_mul, sum_coe, zero_add, div_128, Finset.univ_unique, Fin.default_eq_zero,
    Finset.sum_singleton]

include hp he hu hk hv in
theorem v135 (i : Fin 8192) (l : Fin 128) : val_main_v135 (F := Ideal) p e u k v (ix2 i l)
    = ((nb 128 (ck (P i)) E (fun j => dhk (K i) (V i) (U j)) l : ℝ) : EReal) := by
  pointwise [val_main_v135, val_main_v134, val_main_v133, val_main_v132, val_main_v126, val_main_v125, val_main_v1]
  rw [v131 hp he hu hk hv, v120 he hu hk hv, v37 hp, hp, nb, rms_grad (ck (P i)) (fun j => dhk (K i) (V i) (U j) * E j) (by norm_num)]
  simp only [← EReal.coe_mul, add_assoc, ← EReal.coe_add]

include hk in
theorem v84 (i : Fin 8192) (n : Fin 32) : val_main_v84 (F := Ideal) k (ix2 i n) = ((ksum (K i) (64 + n.val) : ℝ) : EReal) := by
  pointwise [val_main_v84, val_main_v83, val_main_v82, val_main_v79, val_main_cst_7, val_main_cst_8]
  simp only [hk, sum_coe, zero_add, Finset.univ_unique, Fin.default_eq_zero, Finset.sum_singleton, Fin.sum_univ_four]
  rfl

include hc hs hk in
theorem v94 (i : Fin 8192) (n : Fin 32) : val_main_v94 (F := Ideal) co si k (ix2 i n) = ((dkr (K i) (C i) (S i) n.val : ℝ) : EReal) := by
  pointwise [val_main_v94, val_main_v93, val_main_v92, val_main_v91, val_main_v90, val_main_v89, val_main_v88, val_main_v87, val_main_v86, val_main_v85]
  simp only [v84 hk, hc, hs, ← EReal.coe_neg, ← EReal.coe_mul, ← EReal.coe_add]
  unfold dkr
  split_ifs
  · exact congrArg _ (sum_eq (f := ksum (K i)) (g := S i) (k := C i) (by omega) rfl rfl rfl)
  · exact congrArg _ (diff_eq (f := ksum (K i)) (g := C i) (k := S i) (by omega) rfl (by omega) rfl)

end keys

section queries

include hc hs hq in
theorem v108 (i : Fin 8192) (h : Fin 4) (n : Fin 32) : val_main_v108 (F := Ideal) co si q (ix3 i h n) = ((dpre (D i) (C i) (S i) h.val (64 + n.val) : ℝ) : EReal) := by
  pointwise [val_main_v108, val_main_v107, val_main_v106, val_main_v105, val_main_v104, val_main_v103, val_main_v102, val_main_v101, val_main_v100,
    val_main_v99, val_main_v98, val_main_v97, val_main_v96, val_main_v95, val_main_v81, val_main_v51, val_main_v50]
  simp only [hq, hc, hs, ← EReal.coe_neg, ← EReal.coe_mul, ← EReal.coe_add]
  unfold dpre
  split_ifs <;> first
    | omega
    | exact congrArg _ (sum_eq (f := D i h.val) (g := S i) (k := C i) (by omega) (by omega) rfl (by omega))
    | exact congrArg _ (diff_eq (f := D i h.val) (g := C i) (k := S i) (by omega) (by omega) (by omega) (by omega))

include hc hs hq in
theorem v139 (i : Fin 8192) (n : Fin 384) : val_main_v139 (F := Ideal) co si q (ix2 i n) = ((dqv (D i) (C i) (S i) n.val : ℝ) : EReal) := by
  pointwise [val_main_v139, val_main_v138, val_main_v137, val_main_v136, val_main_v80, val_main_cst_16, val_main_cst_17]
  simp only [hq, v108 hc hs hq]
  unfold dqv
  by_cases h : n.val % 96 < 64
  · rw [dif_neg (by omega), dif_pos (by omega), zero_add, dpre, if_pos h]
  · rw [dif_pos (by omega), dif_neg (by omega), add_zero]
    exact real_eq (f := dpre (D i) (C i) (S i) (n.val / 96)) (by omega)

include hp in
theorem v16 (i : Fin 8192) : val_main_v16 (F := Ideal) p (ix2 i 0) = ((ms (cq (P i)) 256 : ℝ) : EReal) := by
  pointwise [val_main_v16, val_main_v15, val_main_v14, val_main_v13, val_main_v12, val_main_v11, val_main_v10, val_main_v0, val_main_cst, val_main_cst_0,
    val_main_cst_1]
  simp only [hp, eps_word, w256, ← EReal.coe_mul, sum_coe, zero_add, div_256, ← EReal.coe_add]; rfl

include hp in
theorem v17 (i : Fin 8192) : val_main_v17 (F := Ideal) p (ix2 i 0) = ((rr (cq (P i)) 256 : ℝ) : EReal) := by
  pointwise [val_main_v17]
  rw [v16 hp, rsqrt_ms _ (by norm_num)]

include hp in
theorem v18 (i : Fin 8192) : val_main_v18 (F := Ideal) p (ix2 i 0) = ((rr (cq (P i)) 256 / ms (cq (P i)) 256 : ℝ) : EReal) := by
  pointwise [val_main_v18]
  rw [v16 hp, v17 hp, div_real (ms_pos _ (by norm_num)).ne']

include hp in
theorem v22 (i : Fin 8192) (l : Fin 256) : val_main_v22 (F := Ideal) p (ix2 i l) = ((cq (P i) l * rr (cq (P i)) 256 : ℝ) : EReal) := by
  pointwise [val_main_v22, val_main_v21, val_main_v0]
  rw [hp, v17 hp, ← EReal.coe_mul]

include hp hg in
theorem v25 (i : Fin 8192) (l : Fin 256) : val_main_v25 (F := Ideal) p g (ix2 i l) = ((nx 256 (cq (P i)) G l : ℝ) : EReal) := by
  pointwise [val_main_v25, val_main_v24, val_main_v23]
  rw [v22 hp, hg, ← EReal.coe_mul]
  rfl

include hw hc hs hq in
theorem v142 (i : Fin 8192) (l : Fin 256) : val_main_v142 (F := Ideal) w co si q (ix2 i l) = ((dhq (D i) (C i) (S i) (W l) : ℝ) : EReal) := by
  pointwise [val_main_v142]
  simp only [v139 hc hs hq, hw, ← EReal.coe_mul, sum_coe]
  rfl

include hp hg hc hs hq in
theorem v141 (l : Fin 256) (n : Fin 384) : val_main_v141 (F := Ideal) p g co si q (ix2 l n)
    = ((∑ i, nx 256 (cq (P i)) G l * dqv (D i) (C i) (S i) n.val : ℝ) : EReal) := by
  pointwise [val_main_v141, val_main_v140]
  simp only [v139 hc hs hq, v25 hp hg, ← EReal.coe_mul, sum_coe]
  exact congrArg _ (Finset.sum_congr rfl fun i _ => mul_comm _ _)

include hp hw hc hs hq in
theorem v148 (l : Fin 256) : val_main_v148 (F := Ideal) p w co si q (ix1 l)
    = ((∑ i, dhq (D i) (C i) (S i) (W l) * (cq (P i) l * rr (cq (P i)) 256) : ℝ) : EReal) := by
  pointwise [val_main_v148, val_main_v145, val_main_v144, val_main_v143, val_main_cst_18, val_main_cst_19]
  simp only [v142 hw hc hs hq, v22 hp, ← EReal.coe_mul, sum_coe, zero_add, Finset.univ_unique, Fin.default_eq_zero, Finset.sum_singleton]
  exact congrArg _ (Finset.sum_congr rfl fun i _ => mul_comm _ _)

include hg hw hc hs hq in
theorem v147 (i : Fin 8192) (l : Fin 256) : val_main_v147 (F := Ideal) g w co si q (ix2 i l) = ((dhq (D i) (C i) (S i) (W l) * G l : ℝ) : EReal) := by
  pointwise [val_main_v147, val_main_v146, val_main_v23]
  rw [v142 hw hc hs hq, hg, ← EReal.coe_mul]

include hp hg hw hc hs hq in
theorem v158 (i : Fin 8192) (l : Fin 256) : val_main_v158 (F := Ideal) p g w co si q (ix2 i l)
    = (((∑ j, cq (P i) j * (dhq (D i) (C i) (S i) (W j) * G j)) * (-1 / 2 * (rr (cq (P i)) 256 / ms (cq (P i)) 256)) / 256 : ℝ) : EReal) := by
  pointwise [val_main_v158, val_main_v157, val_main_v156, val_main_v155, val_main_v154, val_main_v151, val_main_v150, val_main_v149, val_main_v20,
    val_main_v19, val_main_v0, val_main_cst_2, val_main_cst_20, val_main_cst_21, val_main_cst_22]
  simp only [v147 hg hw hc hs hq, v18 hp, hp, w256, wneghalf, ← EReal.coe_mul, sum_coe, zero_add, div_256, Finset.univ_unique, Fin.default_eq_zero,
    Finset.sum_singleton]

include hp hg hw hc hs hq in
theorem v162 (i : Fin 8192) (l : Fin 256) : val_main_v162 (F := Ideal) p g w co si q (ix2 i l)
    = ((nb 256 (cq (P i)) G (fun j => dhq (D i) (C i) (S i) (W j)) l : ℝ) : EReal) := by
  pointwise [val_main_v162, val_main_v161, val_main_v160, val_main_v159, val_main_v153, val_main_v152, val_main_v0]
  rw [v158 hp hg hw hc hs hq, v147 hg hw hc hs hq, v17 hp, hp, nb, rms_grad (cq (P i)) (fun j => dhq (D i) (C i) (S i) (W j) * G j) (by norm_num)]
  simp only [← EReal.coe_mul, add_assoc, ← EReal.coe_add]

end queries

end Cert.QkvRefIdeal.Grad

end
-- ==== Proof.Qkv.Pre.lean ====
/- The precondition read back: the projection, the gains, the weights, the two tables and the three cotangents are arrays of reals. -/
module

public import proofs.«01_k».proof.Pre_finite_qkv
public import proofs.«01_k».proof.Proof.Kit.Reals

@[expose] public section

set_option maxRecDepth 16384

noncomputable section

namespace Cert.Pre_finite_qkv.Read

open Cert.Pre_finite_qkv Cert.Reals Idealize.ShloMosaic

variable [Facts]

theorem reals (p : FVec Ideal S8192x6048 .f32) (g : FVec Ideal S256 .f32) (w : FVec Ideal S256x384 .f32) (e : FVec Ideal S128 .f32) (u : FVec Ideal S128x512 .f32) (co : FVec Ideal S8192x16 .f32) (si : FVec Ideal S8192x16 .f32) (q : FVec Ideal S8192x4x96 .f32) (k : FVec Ideal S8192x4x96 .f32) (v : FVec Ideal S8192x4x64 .f32)
    (h : fn (F := Ideal) p g w e u co si q k v = fun _ => 1#1) :
    (∃ P : S8192x6048.Idx → ℝ, p = up P)
      ∧ (∃ G : S256.Idx → ℝ, g = up G)
      ∧ (∃ W : S256x384.Idx → ℝ, w = up W)
      ∧ (∃ E : S128.Idx → ℝ, e = up E)
      ∧ (∃ U : S128x512.Idx → ℝ, u = up U)
      ∧ (∃ C : S8192x16.Idx → ℝ, co = up C)
      ∧ (∃ S : S8192x16.Idx → ℝ, si = up S)
      ∧ (∃ D : S8192x4x96.Idx → ℝ, q = up D)
      ∧ (∃ K : S8192x4x96.Idx → ℝ, k = up K)
      ∧ ∃ V : S8192x4x64.Idx → ℝ, v = up V := by
  have h := congrFun h (fun k => k.elim0)
  unfold fn fn_part1 fn_part2 at h
  obtain ⟨h, h10⟩ := IntOp.andi_eq_one.1 h
  obtain ⟨h, h9⟩ := IntOp.andi_eq_one.1 h
  obtain ⟨h, h8⟩ := IntOp.andi_eq_one.1 h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  haveI : Subsingleton S_.Idx := ⟨fun p q => funext fun k => k.elim0⟩
  exact ⟨reals_of_all _ _ (fun _ => rfl) _ _ _ _ h1,
    reals_of_all _ _ (fun _ => rfl) _ _ _ _ h2,
    reals_of_all _ _ (fun _ => rfl) _ _ _ _ h3,
    reals_of_all _ _ (fun _ => rfl) _ _ _ _ h4,
    reals_of_all _ _ (fun _ => rfl) _ _ _ _ h5,
    reals_of_all _ _ (fun _ => rfl) _ _ _ _ h6,
    reals_of_all _ _ (fun _ => rfl) _ _ _ _ h7,
    reals_of_all _ _ (fun _ => rfl) _ _ _ _ h8,
    reals_of_all _ _ (fun _ => rfl) _ _ _ _ h9,
    reals_of_all _ _ (fun _ => rfl) _ _ _ _ h10⟩

end Cert.Pre_finite_qkv.Read

end
-- ==== Proof.Qkv.Claim.lean ====
/- The value claim of the query and key preparation's gradient. -/
module

public import proofs.«01_k».proof.Defs
public import proofs.«01_k».proof.Proof.Qkv.Tail
public import proofs.«01_k».proof.Proof.Qkv.Ref
public import proofs.«01_k».proof.Proof.Qkv.Pre
public import proofs.«01_k».proof.Proof.Gen.QkvRefIdeal.Run
public import Idealize.ShloMosaic.Lib.Claim

@[expose] public section

set_option maxRecDepth 16384

noncomputable section

namespace Cert.QkvClaim

open Idealize.ShloMosaic Idealize.ShloMosaic.TcCoe Idealize.SL.Sem

/-- A row of reals read at any number, zero past its end. -/
def past {n : ℕ} (f : Fin n → ℝ) (k : ℕ) : ℝ := if h : k < n then f ⟨k, h⟩ else 0

theorem past_val {n : ℕ} (f : Fin n → ℝ) (k : Fin n) : past f k.val = f k := dif_pos k.isLt

/-- Heads of rows of reals read at any numbers, zero past their ends. -/
def heads {a n : ℕ} (f : Fin a → Fin n → ℝ) (i k : ℕ) : ℝ := if h : i < a then past (f ⟨i, h⟩) k else 0

theorem heads_val {a n : ℕ} (f : Fin a → Fin n → ℝ) (i : Fin a) (k : Fin n) : heads f i.val k.val = f i k := by
  rw [heads, dif_pos i.isLt]; exact past_val _ k

theorem given [Cert.Pre_finite_qkv.Facts]
    (m : (ℓ : Loc Cert.QkvIdeal.nD Cert.QkvIdeal.τ Cert.QkvIdeal.sig) → Buf (Elt Ideal) ℓ)
    (h : Cert.Pre_QkvIdeal_finite_qkv m) (c : Dev Cert.QkvIdeal.nD) :
    ∃ P G W E U C S D K V, Cert.QkvIdeal.Arrays.Given m c P G W E U C S D K V := by
  obtain ⟨⟨P, hP⟩, ⟨G, hG⟩, ⟨W, hW⟩, ⟨E, hE⟩, ⟨U, hU⟩, ⟨C, hC⟩, ⟨S, hS⟩, ⟨D, hD⟩, ⟨K, hK⟩, V, hV⟩ :=
    Cert.Pre_finite_qkv.Read.reals _ _ _ _ _ _ _ _ _ _ (h c)
  exact ⟨fun i => past fun n : Fin 6048 => P (ix2 i n), fun l => G (ix1 l), fun l => past fun n : Fin 384 => W (ix2 l n), fun l => E (ix1 l),
    fun l => past fun n : Fin 512 => U (ix2 l n), fun i => past fun n : Fin 16 => C (ix2 i n), fun i => past fun n : Fin 16 => S (ix2 i n),
    fun i => heads fun h j => D (ix3 i h j), fun i => heads fun h j => K (ix3 i h j), fun i => heads fun h j => V (ix3 i h j),
    fun i n => by rw [past_val]; exact congrFun hP _, fun l => congrFun hG _, fun l n => by rw [past_val]; exact congrFun hW _,
    fun l => congrFun hE _, fun l n => by rw [past_val]; exact congrFun hU _, fun i n => by rw [past_val]; exact congrFun hC _,
    fun i n => by rw [past_val]; exact congrFun hS _, fun i h j => by rw [heads_val]; exact congrFun hD _,
    fun i h j => by rw [heads_val]; exact congrFun hK _, fun i h j => by rw [heads_val]; exact congrFun hV _⟩

theorem algebraic [Cert.Pre_finite_qkv.Facts] :
    Cert.algebraic_QkvIdeal_QkvRefIdeal_pre_finite_qkv (hQkvIdeal := Cert.QkvIdeal.Gen.facts)
      (hQkvRefIdeal := Cert.QkvRefIdeal.Gen.facts) := by
  pair_intro
  · run_from Cert.QkvIdeal.Tail.run m g
  · run_from Cert.QkvRefIdeal.Value.run m' g'
    all_goals
      obtain ⟨P, G, W, E, U, C, S, D, K, V, h⟩ := given m hpre c
      obtain ⟨e0, e1, e2, e3, e4, e5, e6, e7, e8, e9⟩ := hagree c
    · refine (Cert.QkvRefIdeal.Read.val_main_v162_eq _).trans ?_
      simp only [StableHlo.launchContents_devRef, e0, e1, e2, e5, e6, e7]
      funext i
      idx_vars i
      exact (Cert.QkvRefIdeal.Grad.v162 h.hp h.hgq h.hwq h.hc h.hs h.hq i0 i1).trans (Cert.QkvIdeal.Tail.out_q m c h i0 i1).symm
    · refine (Cert.QkvRefIdeal.Read.val_main_v135_eq _).trans ?_
      simp only [StableHlo.launchContents_devRef, e0, e3, e4, e8, e9]
      funext i
      idx_vars i
      exact (Cert.QkvRefIdeal.Grad.v135 h.hp h.hgk h.hwk h.hk h.hv i0 i1).trans (Cert.QkvIdeal.Tail.out_k m c h i0 i1).symm
    · refine (Cert.QkvRefIdeal.Read.val_main_v94_eq _).trans ?_
      simp only [StableHlo.launchContents_devRef, e5, e6, e8]
      funext i
      idx_vars i
      exact (Cert.QkvRefIdeal.Grad.v94 h.hc h.hs h.hk i0 i1).trans (Cert.QkvIdeal.Tail.out_r m c h i0 i1).symm
    · refine (Cert.QkvRefIdeal.Read.val_main_v148_eq _).trans ?_
      simp only [StableHlo.launchContents_devRef, e0, e2, e5, e6, e7]
      funext i
      idx_vars i
      exact (Cert.QkvRefIdeal.Grad.v148 h.hp h.hwq h.hc h.hs h.hq i0).trans (Cert.QkvIdeal.Tail.out_gq m c h i0).symm
    · refine (Cert.QkvRefIdeal.Read.val_main_v141_eq _).trans ?_
      simp only [StableHlo.launchContents_devRef, e0, e1, e5, e6, e7]
      funext i
      idx_vars i
      exact (Cert.QkvRefIdeal.Grad.v141 h.hp h.hgq h.hc h.hs h.hq i0 i1).trans (Cert.QkvIdeal.Tail.out_wq m c h i0 i1).symm
    · refine (Cert.QkvRefIdeal.Read.val_main_v121_eq _).trans ?_
      simp only [StableHlo.launchContents_devRef, e0, e4, e8, e9]
      funext i
      idx_vars i
      exact (Cert.QkvRefIdeal.Grad.v121 h.hp h.hwk h.hk h.hv i0).trans (Cert.QkvIdeal.Tail.out_gk m c h i0).symm
    · refine (Cert.QkvRefIdeal.Read.val_main_v114_eq _).trans ?_
      simp only [StableHlo.launchContents_devRef, e0, e3, e8, e9]
      funext i
      idx_vars i
      exact (Cert.QkvRefIdeal.Grad.v114 h.hp h.hgk h.hk h.hv i0 i1).trans (Cert.QkvIdeal.Tail.out_wk m c h i0 i1).symm

theorem frame_ref : Cert.quiescent_QkvRefIdeal (hQkvRefIdeal := Cert.QkvRefIdeal.Gen.facts) := fun m ρ _ =>
  (θ_run _ _ _).mono (fun r h => ⟨fun c => (h c).2.2.2.2.2.2.2, sem_eq_zero_of_no_sems (by decide) r.2⟩)
    (Cert.QkvRefIdeal.Value.run m ρ)

theorem frame_ref_pre [Cert.Pre_finite_qkv.Facts] :
    Cert.quiescent_QkvRefIdeal_pre_finite_qkv (hQkvRefIdeal := Cert.QkvRefIdeal.Gen.facts) :=
  fun m ρ _ => frame_ref m ρ True.intro

end Cert.QkvClaim

end
-- ==== Proof.Fwd.Host.lean ====
/- The operands that the host lines of attention's forward pass prepare: each head's features at its lanes, a one in the
   value's lane after its width. -/
module

public import proofs.«01_k».proof.Proof.Gen.FwdIdeal.Value
public import proofs.«01_k».proof.Proof.Attn.Host

@[expose] public section

set_option maxRecDepth 16384

noncomputable section

namespace Cert.FwdIdeal.Host

open Cert.FwdIdeal Cert.FwdIdeal.Gen Cert.Reals Cert.AttnSpec
open Cert.AttnIdeal.Host (wide wideV oneLane wide_at wideV_at oneLane_at)
open Idealize.ShloMosaic Idealize.ShloMosaic.TcCoe Idealize.SL.Sem

variable (m : (ℓ : Loc nD τ sig) → Buf (Elt Ideal) ℓ) (c : Dev nD)

abbrev A0 : FVec Ideal S8192x4x96 .f32 := m ((c : Thread nD τ).loc main_arg0)
abbrev A1 : FVec Ideal S8192x4x96 .f32 := m ((c : Thread nD τ).loc main_arg1)
abbrev A2 : FVec Ideal S8192x4x64 .f32 := m ((c : Thread nD τ).loc main_arg2)

theorem V_v7 : V m c main_v7 = truncf (F := Ideal) .bf16 (wide (A0 m c)) bitsLt_bf16_f32 := by
  unfold V hostOps0; after_reads_simp; rfl
theorem V_v11 : V m c main_v11 = truncf (F := Ideal) .bf16 (wide (A1 m c)) bitsLt_bf16_f32 := by
  unfold V hostOps0; after_reads_simp; rfl
theorem V_v18 : V m c main_v18 = truncf (F := Ideal) .bf16 (addf (wideV (A2 m c)) oneLane) bitsLt_bf16_f32 := by
  unfold V hostOps0; after_reads_simp; rfl

/-- The arguments are arrays of these reals. -/
structure Given (q k : Fin 8192 → Fin 4 → Fin 96 → ℝ) (v : Fin 8192 → Fin 4 → Fin 64 → ℝ) : Prop where
  h0 : ∀ a h d, A0 m c (ix3 a h d) = ((q a h d : ℝ) : EReal)
  h1 : ∀ a h d, A1 m c (ix3 a h d) = ((k a h d : ℝ) : EReal)
  h2 : ∀ a h d, A2 m c (ix3 a h d) = ((v a h d : ℝ) : EReal)

variable {q k : Fin 8192 → Fin 4 → Fin 96 → ℝ} {v : Fin 8192 → Fin 4 → Fin 64 → ℝ} (g : Given m c q k v)
include g

theorem at7 (h : Fin 4) (a : Fin 8192) (l : Fin 128) : V m c main_v7 (ix3 h a l) = ((lane 128 (q a h) l : ℝ) : EReal) :=
  (congrFun (V_v7 m c) _).trans (wide_at g.h0 h a l)
theorem at11 (h : Fin 4) (a : Fin 8192) (l : Fin 128) : V m c main_v11 (ix3 h a l) = ((lane 128 (k a h) l : ℝ) : EReal) :=
  (congrFun (V_v11 m c) _).trans (wide_at g.h1 h a l)
theorem at18 (h : Fin 4) (a : Fin 8192) (l : Fin 128) :
    V m c main_v18 (ix3 h a l) = ((lane 128 (v a h) l + (if l.val = 64 then 1 else 0) : ℝ) : EReal) :=
  (congrFun (V_v18 m c) _).trans ((congr (congrArg (FloatOps.addf (F := Ideal) (φ := .f32)) (wideV_at g.h2 h a l)) (oneLane_at h a l)).trans (EReal.coe_add _ _).symm)

end Cert.FwdIdeal.Host

end
-- ==== Proof.Fwd.Offs.lean ====
/- Where attention's forward pass reads: the tiles of keys a grid point's loop meets are those before the point's tile of
   queries. -/
module

public import proofs.«01_k».proof.Proof.Gen.FwdIdeal.Value
public import Idealize.ShloMosaic.Lib.Pipeline.ValueKit

@[expose] public section

set_option maxRecDepth 16384

noncomputable section

namespace Cert.FwdIdeal.Offs

open Cert.FwdIdeal Cert.FwdIdeal.Gen
open Idealize.ShloMosaic Idealize.ShloMosaic.TcCoe Idealize.SL.Sem

theorem trips : ∀ i : grid0.Coords, (k0_t1_loop i).trips = (i 1).val := by decide +kernel

/-- The loop over the tiles left over makes no trip. -/
theorem trips2 : ∀ i : grid0.Coords, (k0_t2_loop i).trips = 0 := by decide +kernel

/-- The tile of keys of a trip. -/
def met (i : grid0.Coords) (k : Fin (k0_t1_loop i).trips) : Fin 8 :=
  ⟨k.val, by have := trips i; have := k.isLt; have : (i 1).val < 8 := (i 1).isLt; omega⟩

/-- The tile of queries of a point. -/
def here (i : grid0.Coords) : Fin 8 := ⟨(i 1).val, (i 1).isLt⟩

theorem off1 : ∀ (i : grid0.Coords) (k : Fin (k0_t1_loop i).trips), k0_off1 i k = ![0, 1024 * (met i k).val, 0] := by decide +kernel
theorem off2 : ∀ (i : grid0.Coords) (k : Fin (k0_t1_loop i).trips), k0_off2 i k = ![1, 1024 * (met i k).val, 0] := by decide +kernel
theorem off3 : ∀ (i : grid0.Coords) (k : Fin (k0_t1_loop i).trips), k0_off3 i k = ![2, 1024 * (met i k).val, 0] := by decide +kernel
theorem off4 : ∀ (i : grid0.Coords) (k : Fin (k0_t1_loop i).trips), k0_off4 i k = ![3, 1024 * (met i k).val, 0] := by decide +kernel
theorem off9 : ∀ i : grid0.Coords, k0_off9 i = ![0, 1024 * (here i).val, 0] := by decide +kernel
theorem off10 : ∀ i : grid0.Coords, k0_off10 i = ![1, 1024 * (here i).val, 0] := by decide +kernel
theorem off11 : ∀ i : grid0.Coords, k0_off11 i = ![2, 1024 * (here i).val, 0] := by decide +kernel
theorem off12 : ∀ i : grid0.Coords, k0_off12 i = ![3, 1024 * (here i).val, 0] := by decide +kernel

/-- A row of a tile. -/
def tile (i : Fin 8) (r : Fin 1024) : Fin 8192 := ⟨1024 * i.val + r.val, by have := i.isLt; have := r.isLt; omega⟩

theorem tile_surj (a : Fin 8192) : ∃ i r, a = tile i r :=
  ⟨⟨a.val / 1024, by have := a.isLt; omega⟩, ⟨a.val % 1024, Nat.mod_lt _ (by norm_num)⟩, Fin.ext (by simp only [tile]; omega)⟩

/-- A head's lanes among those of the four. -/
def four (h : Fin 4) (l : Fin 128) : Fin 512 := ⟨128 * h.val + l.val, by have := h.isLt; have := l.isLt; omega⟩

theorem four_surj (a : Fin 512) : ∃ h l, a = four h l :=
  ⟨⟨a.val / 128, by have := a.isLt; omega⟩, ⟨a.val % 128, Nat.mod_lt _ (by norm_num)⟩, Fin.ext (by simp only [four]; omega)⟩

section loads
variable {e : EltTy} {Val : EltTy → Type}

theorem ld3 (X : S4x8192x128.Idx → Val e) (off : Fin 3 → ℕ) (inb) (h : Fin 4) (i : Fin 8) (ho : off = ![h.val, 1024 * i.val, 0])
    (r : Fin 1024) (l : Fin 128) : View.ld X (Rect.unit (s := S4x8192x128) off ![1, 1024, 128] inb) (ix3 0 r l) = X (ix3 h (tile i r) l) := by
  subst ho
  exact congrArg X (by funext a; fin_cases a <;> exact Fin.ext ((Rect.idx_unit_val _ _ _ _ _).trans (by simp [tile])))

theorem ldq (X : S4x1024x128.Idx → Val e) (off : Fin 3 → ℕ) (inb) (h : Fin 4) (ho : off = ![h.val, 0, 0])
    (r : Fin 1024) (l : Fin 128) : View.ld X (Rect.unit (s := S4x1024x128) off ![1, 1024, 128] inb) (ix3 0 r l) = X (ix3 h r l) := by
  subst ho
  exact congrArg X (by funext a; fin_cases a <;> exact Fin.ext ((Rect.idx_unit_val _ _ _ _ _).trans (by simp)))
end loads

end Cert.FwdIdeal.Offs

end
-- ==== Proof.Fwd.Spec.lean ====
/- The running softmax over the reals: a row's maximum so far and its sums so far, rescaled whenever the maximum grows.
   Whatever was subtracted in the exponents, the sums are those of the unshifted exponentials times one factor. -/
module

public import proofs.«01_k».proof.Proof.Attn.Spec

@[expose] public section

set_option maxRecDepth 16384

noncomputable section

namespace Cert.FwdSpec

open Idealize.ShloMosaic Cert.Reals Cert.AttnSpec

/-- A row with maximum `m` and sums `acc` that stand for the unshifted sums `Z`. -/
def Done (Z : Fin 128 → ℝ) (m : EReal) (acc : Fin 128 → EReal) : Prop :=
  ∃ M : ℝ, m = (M : EReal) ∧ ∀ l, acc l = ((Z l * Real.exp (-(M * Real.log 2)) : ℝ) : EReal)

/-- The same, or nothing has been met yet. -/
def State (Z : Fin 128 → ℝ) (m : EReal) (acc : Fin 128 → EReal) : Prop :=
  (m = ⊥ ∧ (∀ l, acc l = 0) ∧ ∀ l, Z l = 0) ∨ Done Z m acc

/-- A masked score, its logarithm's base two. -/
def sc (p : Fin 1024 → Prop) [DecidablePred p] (g : Fin 1024 → ℝ) (t : Fin 1024) : EReal :=
  if p t then ((g t * (Real.log 2)⁻¹ : ℝ) : EReal) else ⊥

theorem exp2_real (x : ℝ) : Ideal.exp2 (x : EReal) = ((Real.rpow 2 x : ℝ) : EReal) := Ideal.exp2_coe x

theorem rpow_two (x : ℝ) : Real.rpow 2 x = Real.exp (x * Real.log 2) := by
  rw [Real.rpow_eq_pow, Real.rpow_def_of_pos two_pos, mul_comm]

theorem exp2_sc (p : Fin 1024 → Prop) [DecidablePred p] (g : Fin 1024 → ℝ) (M : ℝ) (t : Fin 1024) :
    Ideal.exp2 (sc p g t - (M : EReal)) = (((if p t then Real.exp (g t) else 0) * Real.exp (-(M * Real.log 2)) : ℝ) : EReal) := by
  have h2 : Real.log 2 ≠ 0 := (Real.log_pos one_lt_two).ne'
  unfold sc
  split
  · rw [← EReal.coe_sub, exp2_real, rpow_two, ← Real.exp_add]
    refine congrArg (fun x : ℝ => ((Real.exp x : ℝ) : EReal)) ?_
    field_simp
    ring
  · rw [EReal.bot_sub, Ideal.exp2_bot, zero_mul, EReal.coe_zero]

/-- One tile of keys: the maximum grows, the sums are rescaled and the tile's parts added. -/
theorem step {Z : Fin 128 → ℝ} {m : EReal} {acc : Fin 128 → EReal} (h : State Z m acc) (p : Fin 1024 → Prop) [DecidablePred p]
    (g : Fin 1024 → ℝ) (V : Fin 1024 → Fin 128 → ℝ) (hp : ∃ t, p t) {m' : EReal} {acc' : Fin 128 → EReal}
    (hm : m' = max m (Finset.fold max ⊥ (sc p g) Finset.univ))
    (ha : ∀ l, acc' l = Ideal.exp2 (m - m') * acc l + ∑ t, Ideal.exp2 (sc p g t - m') * ((V t l : ℝ) : EReal)) :
    Done (fun l => Z l + ∑ t, (if p t then Real.exp (g t) else 0) * V t l) m' acc' := by
  obtain ⟨t0, ht0⟩ := hp
  obtain ⟨T, hT⟩ : ∃ T : ℝ, Finset.fold max (⊥ : EReal) (sc p g) Finset.univ = (T : EReal) :=
    real_max _ (fun t => by unfold sc; split; exact EReal.coe_ne_top _; exact bot_ne_top) t0 (by unfold sc; rw [if_pos ht0]; exact EReal.coe_ne_bot _)
  rw [hT] at hm
  have tail : ∀ (M : ℝ) l, ∑ t, Ideal.exp2 (sc p g t - (M : EReal)) * ((V t l : ℝ) : EReal)
      = (((∑ t, (if p t then Real.exp (g t) else 0) * V t l) * Real.exp (-(M * Real.log 2)) : ℝ) : EReal) := fun M l => by
    simp only [exp2_sc, ← EReal.coe_mul, sum_coe, Finset.sum_mul]
    exact congrArg _ (Finset.sum_congr rfl fun t _ => by ring)
  rcases h with ⟨rfl, h0, hZ⟩ | ⟨M, rfl, hM⟩
  · rw [max_bot_left] at hm
    subst hm
    refine ⟨T, rfl, fun l => ?_⟩
    rw [ha, tail, h0, mul_zero, zero_add]; dsimp only; rw [hZ, zero_add]
  · have hm' : m' = ((max M T : ℝ) : EReal) := hm.trans (EReal.coe_strictMono.monotone.map_max).symm
    subst hm'
    refine ⟨max M T, rfl, fun l => ?_⟩
    rw [ha, tail, hM, ← EReal.coe_sub, exp2_real, rpow_two, ← EReal.coe_mul, ← EReal.coe_add]
    refine congrArg _ ?_
    dsimp only
    rw [add_mul]
    refine congrArg (· + _) ?_
    rw [mul_left_comm, ← Real.exp_add]
    refine congrArg (fun x => Z l * Real.exp x) ?_
    ring

/-- The unshifted sums of a tile at the row `r`. -/
def tileSum (p : Fin 1024 → Fin 1024 → Prop) [∀ r, DecidablePred (p r)] (Q K V : Fin 1024 → Fin 128 → ℝ) (r : Fin 1024) (l : Fin 128) : ℝ :=
  ∑ t, (if p r t then Real.exp ((∑ d, Q r d * K t d) * scale) else 0) * V t l

/-- The mask of a tile before the queries' own, and of the queries' own. -/
abbrev all (_ _ : Fin 1024) : Prop := True
abbrev upto (r t : Fin 1024) : Prop := t ≤ r

/-- What a row's sums say at the end. -/
theorem output {Z : Fin 128 → ℝ} {m : EReal} {acc : Fin 128 → EReal} (h : Done Z m acc) (hz : 0 < Z 64) :
    (∀ l, Ideal.div (acc l) (acc 64) = ((Z l / Z 64 : ℝ) : EReal))
    ∧ m + Ideal.log (acc 64) * (((Real.log 2)⁻¹ : ℝ) : EReal) = ((Real.log (Z 64) / Real.log 2 : ℝ) : EReal) := by
  obtain ⟨M, rfl, ha⟩ := h
  have h2 : Real.log 2 ≠ 0 := (Real.log_pos one_lt_two).ne'
  have he := Real.exp_pos (-(M * Real.log 2))
  have hp : 0 < Z 64 * Real.exp (-(M * Real.log 2)) := mul_pos hz he
  refine ⟨fun l => ?_, ?_⟩
  · rw [ha, ha, div_real hp.ne', mul_div_mul_right _ _ he.ne']
  · rw [ha, Ideal.log_coe, if_neg hp.not_ge, ← EReal.coe_mul, ← EReal.coe_add, Real.log_mul hz.ne' he.ne', Real.log_exp]
    refine congrArg _ ?_
    field_simp
    ring

end Cert.FwdSpec

end
-- ==== Proof.Fwd.Pay.lean ====
/- What the body of attention computes from real blocks: a tile of keys at a time, the rows' maxima and sums; after the
   last tile the rows' outputs and the logarithms of their sums. The four heads' statements differ in names only. -/
module

public import proofs.«01_k».proof.Proof.Gen.FwdIdeal.Skeleton
public import proofs.«01_k».proof.Proof.Fwd.Spec

@[expose] public section

set_option maxRecDepth 16384

noncomputable section

namespace Cert.FwdIdeal.Pay

open Cert.FwdIdeal Cert.FwdIdeal.Gen Cert.Reals Cert.AttnSpec Cert.FwdSpec
open Idealize.ShloMosaic Idealize.ShloMosaic.TcCoe Idealize.SL.Sem

variable (m : FVec Ideal S1024x1 .f32) (acc : FVec Ideal S1024x128 .f32) (q k v : FVec Ideal S1x1024x128 .bf16)

theorem named : Named.named (F := Ideal) (φ := .f32) κ "attn_scale_log2e" 0x3E16C740#32 = ((scale * (Real.log 2)⁻¹ : ℝ) : EReal) := by
  unfold scale; rfl

theorem named' : Named.named (F := Ideal) (φ := .f32) κ "inv_log_2" 0x3FB8AA3B#32 = (((Real.log 2)⁻¹ : ℝ) : EReal) := rfl

section loop
variable (z : FVec Ideal S1024x1024 .f32)

theorem max1 : k0_pay8 (F := Ideal) m q k = k0_pay5 m q k := rfl
theorem max2 : k0_pay12 (F := Ideal) m q k = k0_pay5 m q k := rfl
theorem max3 : k0_pay31 (F := Ideal) m (k0_pay14 q) (k0_pay15 k) (constant S1024x1024 .f32 0x00000000#32) = k0_pay5 m q k := rfl
theorem acc1 : k0_pay10 (F := Ideal) acc (k0_pay7 q k) (k0_pay8 m q k) (k0_pay9 m q k) v = k0_pay6 m acc q k v := rfl
theorem acc2 : k0_pay13 (F := Ideal) m acc q k v = k0_pay6 m acc q k v := rfl
theorem acc3 : k0_pay32 (F := Ideal) m acc (k0_pay14 q) (k0_pay15 k) (constant S1024x1024 .f32 0x00000000#32) v = k0_pay6 m acc q k v := rfl
end loop

abbrev cols : IVec S1024x1024 32 := iota .tc S1024x1024 32 [1] iota_S1024x1024_d1_w32
abbrev rows : IVec S1024x1024 32 := iota .tc S1024x1024 32 [0] iota_S1024x1024_d0_w32
abbrev lanes : IVec S1x128 32 := iota .tc S1x128 32 [1] iota_S1x128_d1_w32
abbrev zero : Ideal .f32 := Scalar.ofBits .f32 0x00000000#32

theorem dmax0 : k0_pay37 (F := Ideal) m q k = k0_pay43 m q k := rfl
theorem dmax2 : k0_pay47 (F := Ideal) m (k0_pay45 q k) cols rows = k0_pay43 m q k := rfl
theorem dmax3 : k0_pay50 (F := Ideal) m q k = k0_pay43 m q k := rfl
theorem dacc0 : k0_pay41 (F := Ideal) (k0_pay38 m acc q k) (k0_pay39 v) (k0_pay40 m q k) (constant S1024x128 .f32 0x00000000#32) = k0_pay44 m acc q k v := rfl
theorem dacc2 : k0_pay48 (F := Ideal) m acc (k0_pay45 q k) cols rows v = k0_pay44 m acc q k v := rfl
theorem dacc3 : k0_pay53 (F := Ideal) (k0_pay51 m acc q k) (k0_pay52 m q k) v = k0_pay44 m acc q k v := rfl

theorem out1 : k0_pay60 (F := Ideal) (k0_pay58 lanes acc) zero (k0_pay59 lanes) = k0_pay55 lanes acc := rfl
theorem out2 : k0_pay63 (F := Ideal) lanes acc = k0_pay55 lanes acc := rfl
theorem out3 : k0_pay2 (F := Ideal) lanes acc (k0_pay65 lanes) zero = k0_pay55 lanes acc := rfl
theorem lse1 : k0_pay61 (F := Ideal) m (k0_pay57 lanes acc) = k0_pay56 lanes m acc := rfl
theorem lse2 : k0_pay64 (F := Ideal) lanes m acc = k0_pay56 lanes m acc := rfl
theorem lse3 : k0_pay3 (F := Ideal) m acc (k0_pay65 lanes) zero = k0_pay56 lanes m acc := rfl

variable {m acc q k v} {Q K V Z : Fin 1024 → Fin 128 → ℝ}
variable (hq : ∀ r l, q (ix3 0 r l) = ((Q r l : ℝ) : EReal)) (hk : ∀ r l, k (ix3 0 r l) = ((K r l : ℝ) : EReal))
  (hv : ∀ r l, v (ix3 0 r l) = ((V r l : ℝ) : EReal))

/-- A tile's score. -/
def score (Q K : Fin 1024 → Fin 128 → ℝ) (r t : Fin 1024) : ℝ := (∑ d, Q r d * K t d) * scale

theorem score_eq (r t : Fin 1024) : (∑ d, Q r d * K t d) * (scale * (Real.log 2)⁻¹) = score Q K r t * (Real.log 2)⁻¹ := by
  unfold score; ring

include hq hk
theorem pay4 (r t : Fin 1024) : k0_pay4 (F := Ideal) q k (ix2 r t) = sc (all r) (score Q K r) t := by
  pointwise [k0_pay4]
  simp only [hq, hk, named, ← EReal.coe_mul, sum_coe, zero_add, score_eq]
  rfl

theorem pay42 (r t : Fin 1024) : k0_pay42 (F := Ideal) q k (ix2 r t) = sc (upto r) (score Q K r) t := by
  pointwise [k0_pay42]
  rw [masked (by norm_num)]
  simp only [hq, hk, named, ← EReal.coe_mul, sum_coe, zero_add, bot_word, score_eq]
  rfl

theorem pay5 (r : Fin 1024) : k0_pay5 (F := Ideal) m q k (ix2 r 0) = max (m (ix2 r 0)) (Finset.fold max ⊥ (sc (all r) (score Q K r)) Finset.univ) := by
  pointwise [k0_pay5]
  simp only [pay4 hq hk]
  rfl

theorem pay43 (r : Fin 1024) : k0_pay43 (F := Ideal) m q k (ix2 r 0) = max (m (ix2 r 0)) (Finset.fold max ⊥ (sc (upto r) (score Q K r)) Finset.univ) := by
  pointwise [k0_pay43]
  simp only [pay42 hq hk]
  rfl

include hv
theorem tile_all (h : ∀ r, State (Z r) (m (ix2 r 0)) (fun l => acc (ix2 r l))) (r : Fin 1024) :
    Done (fun l => Z r l + tileSum all Q K V r l) (k0_pay5 (F := Ideal) m q k (ix2 r 0)) (fun l => k0_pay6 (F := Ideal) m acc q k v (ix2 r l)) := by
  refine step (h r) (all r) (score Q K r) V ⟨0, trivial⟩ (pay5 hq hk r) fun l => ?_
  pointwise [k0_pay6]
  simp only [pay4 hq hk, hv, zero_add]
  rfl

theorem tile_upto (h : ∀ r, State (Z r) (m (ix2 r 0)) (fun l => acc (ix2 r l))) (r : Fin 1024) :
    Done (fun l => Z r l + tileSum upto Q K V r l) (k0_pay43 (F := Ideal) m q k (ix2 r 0)) (fun l => k0_pay44 (F := Ideal) m acc q k v (ix2 r l)) := by
  refine step (h r) (upto r) (score Q K r) V ⟨r, le_refl r⟩ (pay43 hq hk r) fun l => ?_
  pointwise [k0_pay44]
  simp only [pay42 hq hk, hv, zero_add]
  rfl

omit hq hk hv
theorem start (r : Fin 1024) : State (fun _ => 0) (k0_pay28 (F := Ideal) (ix2 r 0)) (fun l => k0_pay29 (F := Ideal) (ix2 r l)) := by
  refine .inl ⟨?_, fun l => ?_, fun _ => rfl⟩
  · pointwise [k0_pay28]
    exact bot_word
  · pointwise [k0_pay29]

theorem lane_eq : ∀ l : Fin 128, IntOp.cmpi .eq (BitVec.ofNat 32 l.val) 64#32 = if l = 64 then 1#1 else 0#1 := by decide +kernel

theorem lane_lt : ∀ l : Fin 128, IntOp.cmpi .slt (BitVec.ofNat 32 l.val) 64#32 = if l.val < 64 then 1#1 else 0#1 := by decide +kernel

theorem sel_eq (l : Fin 128) (x y : EReal) :
    Scalar.select (IntOp.cmpi .eq (BitVec.ofNat 32 l.val) 64#32) x y = if l = 64 then x else y := by
  rw [lane_eq]; split <;> rfl

theorem sel_lt (l : Fin 128) (x y : EReal) :
    Scalar.select (IntOp.cmpi .slt (BitVec.ofNat 32 l.val) 64#32) x y = if l.val < 64 then x else y := by
  rw [lane_lt]; split <;> rfl

theorem pay54 (r : Fin 1024) : k0_pay54 (F := Ideal) lanes acc (ix2 r 0) = acc (ix2 r 64) := by
  pointwise [k0_pay54]
  simp only [sel_eq, Finset.sum_ite_eq', Finset.sum_ite_eq, Finset.mem_univ, if_true, zero_add]

theorem pay55 (r : Fin 1024) (l : Fin 128) (h : Done (Z r) (m (ix2 r 0)) (fun l => acc (ix2 r l))) (hz : 0 < Z r 64) :
    k0_pay55 (F := Ideal) lanes acc (ix2 r l) = ((if l.val < 64 then Z r l / Z r 64 else 0 : ℝ) : EReal) := by
  pointwise [k0_pay55]
  rw [sel_lt]
  split
  · exact (congrArg (Ideal.div _) (pay54 r)).trans ((output h hz).1 l)
  · rfl

theorem pay56 (r : Fin 1024) (h : Done (Z r) (m (ix2 r 0)) (fun l => acc (ix2 r l))) (hz : 0 < Z r 64) :
    k0_pay56 (F := Ideal) lanes m acc (ix3 0 r 0) = ((Real.log (Z r 64) / Real.log 2 : ℝ) : EReal) := by
  refine Eq.trans ?_ (output h hz).2
  pointwise [k0_pay56]
  simp only [pay54, named']

end Cert.FwdIdeal.Pay

end
-- ==== Proof.Fwd.Loop.lean ====
/- The loop of attention's forward pass over the tiles of keys before a tile of queries: a trip adds its tile to the four
   heads' running maxima and sums. -/
module

public import proofs.«01_k».proof.Proof.Fwd.Offs
public import proofs.«01_k».proof.Proof.Fwd.Pay

@[expose] public section

set_option maxRecDepth 16384

noncomputable section

namespace Cert.FwdIdeal.Loop

open Cert.FwdIdeal Cert.FwdIdeal.Gen Cert.FwdIdeal.Offs Cert.Reals Cert.AttnSpec Cert.FwdSpec
open Idealize.ShloMosaic Idealize.ShloMosaic.TcCoe Idealize.SL.Sem

/-- The real values of a point's blocks: four heads' keys and values at all rows, and a tile of queries. -/
structure Tiles where
  Q : Fin 4 → Fin 1024 → Fin 128 → ℝ
  K : Fin 4 → Fin 8192 → Fin 128 → ℝ
  V : Fin 4 → Fin 8192 → Fin 128 → ℝ

/-- A tile of keys' part of the sums. -/
def Tiles.part (b : Tiles) (p : Fin 1024 → Fin 1024 → Prop) [∀ r, DecidablePred (p r)] (j : Fin 8) (h : Fin 4) (r : Fin 1024) (l : Fin 128) : ℝ :=
  tileSum p (b.Q h) (fun t => b.K h (tile j t)) (fun t => b.V h (tile j t)) r l

/-- The blocks hold these real values. -/
structure Reads (b : Tiles) (x2 : FVec Ideal S4x1024x128 .bf16) (x3 x4 : FVec Ideal S4x8192x128 .bf16) : Prop where
  q : ∀ h r l, x2 (ix3 h r l) = ((b.Q h r l : ℝ) : EReal)
  k : ∀ h a l, x3 (ix3 h a l) = ((b.K h a l : ℝ) : EReal)
  v : ∀ h a l, x4 (ix3 h a l) = ((b.V h a l : ℝ) : EReal)

/-- What the loop carries: a maximum and sums a head. -/
abbrev Carry : Type := FVec Ideal S1024x1 .f32 × FVec Ideal S1024x128 .f32 × FVec Ideal S1024x1 .f32 × FVec Ideal S1024x128 .f32
  × FVec Ideal S1024x1 .f32 × FVec Ideal S1024x128 .f32 × FVec Ideal S1024x1 .f32 × FVec Ideal S1024x128 .f32

/-- A head's rows stand for the sums `Z`. -/
abbrev Head (S : (Fin 128 → ℝ) → EReal → (Fin 128 → EReal) → Prop) (Z : Fin 1024 → Fin 128 → ℝ) (m : FVec Ideal S1024x1 .f32)
    (acc : FVec Ideal S1024x128 .f32) : Prop := ∀ r, S (Z r) (m (ix2 r 0)) (fun l => acc (ix2 r l))

/-- The four heads' rows do. -/
structure Holds (Z : Fin 4 → Fin 1024 → Fin 128 → ℝ) (s : Carry) : Prop where
  h0 : Head State (Z 0) s.1 s.2.1
  h1 : Head State (Z 1) s.2.2.1 s.2.2.2.1
  h2 : Head State (Z 2) s.2.2.2.2.1 s.2.2.2.2.2.1
  h3 : Head State (Z 3) s.2.2.2.2.2.2.1 s.2.2.2.2.2.2.2

variable (𝒱 : Variants) (c : Dev nD) (bd : Option 𝒱.V) (i : grid0.Coords)
    (arg2 : Memref sig .tc .vmem S4x1024x128 .bf16) (harg2 : arg2.IsWhole)
    (arg3 : Memref sig .tc .vmem S4x8192x128 .bf16) (harg3 : arg3.IsWhole)
    (arg4 : Memref sig .tc .vmem S4x8192x128 .bf16) (harg4 : arg4.IsWhole)
    (arg5 : Memref sig .tc .vmem S1024x512 .f32) (harg5 : arg5.IsWhole)
    (arg6 : Memref sig .tc .vmem S4x1024x1 .f32) (harg6 : arg6.IsWhole)
    (X_arg2 : BufTy.Contents (Elt Ideal) arg2.view.ty) (X_arg3 : BufTy.Contents (Elt Ideal) arg3.view.ty)
    (X_arg4 : BufTy.Contents (Elt Ideal) arg4.view.ty)

section one
variable {b : Tiles} (hr : Reads b (arg2.view.read (Elt Ideal) X_arg2) (arg3.view.read (Elt Ideal) X_arg3) (arg4.view.read (Elt Ideal) X_arg4))
  (k : Fin (k0_t1_loop i).trips) (acc : Carry) {Z : Fin 4 → Fin 1024 → Fin 128 → ℝ} (hz : Holds Z acc)
include hr hz

theorem tripR : Holds (fun h r l => Z h r l + b.part all (met i k) h r l)
    (tripR_k0_t1 (F := Ideal) 𝒱 c bd i arg2 harg2 arg3 harg3 arg4 harg4 arg5 harg5 arg6 harg6 X_arg2 X_arg3 X_arg4 k acc) := by
  have q0 := fun inb t l => (ldq _ ![0, 0, 0] inb 0 rfl t l).trans (hr.q 0 t l)
  have q1 := fun inb t l => (ldq _ ![1, 0, 0] inb 1 rfl t l).trans (hr.q 1 t l)
  have q2 := fun inb t l => (ldq _ ![2, 0, 0] inb 2 rfl t l).trans (hr.q 2 t l)
  have q3 := fun inb t l => (ldq _ ![3, 0, 0] inb 3 rfl t l).trans (hr.q 3 t l)
  have k0 := fun inb t l => (ld3 _ _ inb 0 (met i k) (off1 i k) t l).trans (hr.k 0 _ l)
  have k1 := fun inb t l => (ld3 _ _ inb 1 (met i k) (off2 i k) t l).trans (hr.k 1 _ l)
  have k2 := fun inb t l => (ld3 _ _ inb 2 (met i k) (off3 i k) t l).trans (hr.k 2 _ l)
  have k3 := fun inb t l => (ld3 _ _ inb 3 (met i k) (off4 i k) t l).trans (hr.k 3 _ l)
  have v0 := fun inb t l => (ld3 _ _ inb 0 (met i k) (off1 i k) t l).trans (hr.v 0 _ l)
  have v1 := fun inb t l => (ld3 _ _ inb 1 (met i k) (off2 i k) t l).trans (hr.v 1 _ l)
  have v2 := fun inb t l => (ld3 _ _ inb 2 (met i k) (off3 i k) t l).trans (hr.v 2 _ l)
  have v3 := fun inb t l => (ld3 _ _ inb 3 (met i k) (off4 i k) t l).trans (hr.v 3 _ l)
  unfold tripR_k0_t1 trip_k0_t1
  dsimp only
  refine ⟨fun r => .inr ?_, fun r => .inr ?_, fun r => .inr ?_, fun r => .inr ?_⟩
  · exact Pay.tile_all (q0 _) (k0 _) (v0 _) hz.h0 r
  · exact Pay.tile_all (q1 _) (k1 _) (v1 _) hz.h1 r
  · exact Pay.tile_all (q2 _) (k2 _) (v2 _) hz.h2 r
  · exact Pay.tile_all (q3 _) (k3 _) (v3 _) hz.h3 r
end one

theorem sum_succ (k : Fin (k0_t1_loop i).trips) (F : Fin 8 → ℝ) :
    (∑ a, if a.val < k.val then F a else 0) + F (met i k) = ∑ a, if a.val < k.val + 1 then F a else 0 := by
  have : ∀ a : Fin 8, (if a.val < k.val then F a else 0) + (if a = met i k then F a else 0) = if a.val < k.val + 1 then F a else 0 := fun a => by
    by_cases e : a = met i k
    · rw [if_pos e, if_neg (by rw [e]; simp [met]), if_pos (by rw [e]; simp [met]), zero_add]
    · have : a.val ≠ k.val := fun h => e (Fin.ext h)
      rw [if_neg e, add_zero]
      exact if_congr (by omega) rfl rfl
  rw [← Finset.sum_congr rfl (fun a _ => this a), Finset.sum_add_distrib]
  simp

/-- The sums of the first `n` tiles. -/
def before (b : Tiles) (n : ℕ) (h : Fin 4) (r : Fin 1024) (l : Fin 128) : ℝ := ∑ a : Fin 8, if a.val < n then b.part all a h r l else 0

section all
variable {b : Tiles} (hr : Reads b (arg2.view.read (Elt Ideal) X_arg2) (arg3.view.read (Elt Ideal) X_arg3) (arg4.view.read (Elt Ideal) X_arg4))

theorem begin (b : Tiles) : Holds (before b 0) (k0_pay28 (F := Ideal), k0_pay29 (F := Ideal), k0_pay28 (F := Ideal), k0_pay29 (F := Ideal),
    k0_pay28 (F := Ideal), k0_pay29 (F := Ideal), k0_pay28 (F := Ideal), k0_pay29 (F := Ideal)) := by
  have : ∀ h r, before b 0 h r = fun _ => 0 := fun h r => by funext l; unfold before; simp
  refine ⟨?_, ?_, ?_, ?_⟩ <;> intro r <;> rw [this] <;> exact Pay.start r

include hr in
theorem loop (n : ℕ) (hn : n ≤ (k0_t1_loop i).trips) :
    Holds (before b n) (st_k0_t1 (F := Ideal) 𝒱 c bd i arg2 harg2 arg3 harg3 arg4 harg4 arg5 harg5 arg6 harg6 X_arg2 X_arg3 X_arg4
      (k0_pay28 (F := Ideal), k0_pay29 (F := Ideal), k0_pay28 (F := Ideal), k0_pay29 (F := Ideal),
        k0_pay28 (F := Ideal), k0_pay29 (F := Ideal), k0_pay28 (F := Ideal), k0_pay29 (F := Ideal)) n) := by
  induction n with
  | zero => exact begin b
  | succ n ih =>
    have e := st_k0_t1_succ (F := Ideal) 𝒱 c bd i arg2 harg2 arg3 harg3 arg4 harg4 arg5 harg5 arg6 harg6 X_arg2 X_arg3 X_arg4
      (k0_pay28 (F := Ideal), k0_pay29 (F := Ideal), k0_pay28 (F := Ideal), k0_pay29 (F := Ideal),
        k0_pay28 (F := Ideal), k0_pay29 (F := Ideal), k0_pay28 (F := Ideal), k0_pay29 (F := Ideal)) ⟨n, hn⟩
    rw [e]
    have := tripR (hr := hr) (k := ⟨n, hn⟩) (hz := ih (Nat.le_of_succ_le hn)) 𝒱 c bd i arg2 harg2 arg3 harg3 arg4 harg4 arg5 harg5 arg6 harg6 X_arg2 X_arg3 X_arg4
    have z : (fun h r l => before b n h r l + b.part all (met i ⟨n, hn⟩) h r l) = before b (n + 1) := by
      funext h r l; exact sum_succ i ⟨n, hn⟩ (fun a => b.part all a h r l)
    rw [z] at this
    exact this
end all

theorem rest (v7 : BitVec 32) (init : Carry) (n : ℕ) (hn : n = 0) :
    st_k0_t2 (F := Ideal) 𝒱 c bd i arg2 harg2 arg3 harg3 arg4 harg4 arg5 harg5 arg6 harg6 v7 X_arg2 X_arg3 X_arg4 init n = init := by
  subst hn
  rfl

end Cert.FwdIdeal.Loop

end
-- ==== Proof.Fwd.Sums.lean ====
/- A row's sums over the tiles of keys are the sums over all keys: the weights of later keys are zero, and a head's lanes
   past its width meet zeros. -/
module

public import proofs.«01_k».proof.Proof.Fwd.Loop

@[expose] public section

set_option maxRecDepth 16384

noncomputable section

namespace Cert.FwdIdeal.Sums

open Cert.FwdIdeal Cert.FwdIdeal.Offs Cert.FwdIdeal.Loop Cert.Reals Cert.AttnSpec Cert.FwdSpec
open Idealize.ShloMosaic Idealize.ShloMosaic.TcCoe Idealize.SL.Sem

variable (q k : Fin 8192 → Fin 4 → Fin 96 → ℝ) (v : Fin 8192 → Fin 4 → Fin 64 → ℝ) (i : Fin 8)

/-- A value's lanes, with the one after its width. -/
def val (h : Fin 4) (b : Fin 8192) (l : Fin 128) : ℝ := lane 128 (v b h) l + if l.val = 64 then 1 else 0

/-- The blocks of a tile of queries. -/
def tiles : Tiles where
  Q h r l := lane 128 (q (tile i r) h) l
  K h a l := lane 128 (k a h) l
  V h a l := val v h a l

/-- A row's sums. -/
def sums (h : Fin 4) (a : Fin 8192) (l : Fin 128) : ℝ := ∑ b, weight q k 0 h a b * val v h b l

theorem sum_tiles (F : Fin 8192 → ℝ) : ∑ a, F a = ∑ i, ∑ t, F (tile i t) :=
  (Fin.sum_mul_add_fin 8 1024 F).symm.trans (Finset.sum_congr rfl fun i _ => Finset.sum_congr rfl fun t _ =>
    congrArg F (Fin.ext (by simp only [tile]; omega)))

theorem part_eq (p : Fin 1024 → Fin 1024 → Prop) [∀ r, DecidablePred (p r)] (j : Fin 8) (h : Fin 4) (r : Fin 1024) (l : Fin 128)
    (hp : ∀ t, p r t ↔ tile j t ≤ tile i r) :
    (tiles q k v i).part p j h r l = ∑ t, weight q k 0 h (tile i r) (tile j t) * val v h (tile j t) l := by
  unfold Tiles.part tileSum
  refine Finset.sum_congr rfl fun t _ => ?_
  refine congrArg₂ (· * ·) ?_ rfl
  unfold weight AttnSpec.score tiles
  dsimp only
  rw [sum_lane_lane (by norm_num), sub_zero]
  exact if_congr (hp t) rfl rfl

/-- The tiles before the queries' own and the own tile make up the whole sum. -/
theorem whole (h : Fin 4) (r : Fin 1024) (l : Fin 128) :
    before (tiles q k v i) i.val h r l + (tiles q k v i).part upto i h r l = sums q k v h (tile i r) l := by
  unfold sums before
  rw [sum_tiles, part_eq q k v i upto i h r l (fun t => by simp only [upto, Fin.le_def, tile]; omega)]
  have e : ∀ j : Fin 8, ∑ t, weight q k 0 h (tile i r) (tile j t) * val v h (tile j t) l
      = (if j.val < i.val then (tiles q k v i).part all j h r l else 0)
        + if j = i then ∑ t, weight q k 0 h (tile i r) (tile i t) * val v h (tile i t) l else 0 := fun j => by
    rcases lt_trichotomy j i with hj | hj | hj
    · have := Fin.lt_def.1 hj
      rw [if_pos this, if_neg hj.ne, add_zero,
        part_eq q k v i all j h r l (fun t => iff_of_true trivial (by have := t.isLt; simp only [Fin.le_def, tile]; omega))]
    · subst hj
      rw [if_neg (lt_irrefl _), if_pos rfl, zero_add]
    · have := Fin.lt_def.1 hj
      rw [if_neg (by omega), if_neg hj.ne', add_zero]
      refine Finset.sum_eq_zero fun t _ => ?_
      unfold weight
      rw [if_neg (by have := r.isLt; simp only [Fin.le_def, tile]; omega), zero_mul]
  rw [Finset.sum_congr rfl (fun j _ => e j), Finset.sum_add_distrib]
  simp

theorem sums_one (h : Fin 4) (a : Fin 8192) : sums q k v h a 64 = total q k 0 h a := by
  unfold sums total val lane
  exact Finset.sum_congr rfl fun b _ => by simp

/-- A row's output at a head's lanes. -/
def out (h : Fin 4) (a : Fin 8192) (l : Fin 128) : ℝ := ∑ b, prob q k h a b * lane 128 (v b h) l

theorem out_eq (h : Fin 4) (a : Fin 8192) (l : Fin 128) :
    (if l.val < 64 then sums q k v h a l / sums q k v h a 64 else 0) = out q k v h a l := by
  rw [sums_one]
  unfold out sums prob
  split
  · rw [Finset.sum_div]
    refine Finset.sum_congr rfl fun b _ => ?_
    unfold val
    rw [if_neg (by omega), add_zero]
    ring
  · rename_i hl
    unfold lane
    simp [dif_neg hl]

end Cert.FwdIdeal.Sums

end
-- ==== Proof.Fwd.Point.lean ====
/- What a point of attention's forward pass leaves in its blocks. -/
module

public import proofs.«01_k».proof.Proof.Fwd.Loop
public import proofs.«01_k».proof.Proof.Attn.Point

@[expose] public section

set_option maxRecDepth 16384

noncomputable section

namespace Cert.FwdIdeal.Point

open Cert.FwdIdeal Cert.FwdIdeal.Gen Cert.FwdIdeal.Offs Cert.FwdIdeal.Loop Cert.Reals Cert.AttnSpec Cert.FwdSpec
open Cert.AttnIdeal.Point (canon_mem)
open Idealize.ShloMosaic Idealize.ShloMosaic.TcCoe Idealize.SL.Sem

/-- A row's sums after the tiles before the queries' own and that tile. -/
def upToOwn (b : Tiles) (j : Fin 8) (h : Fin 4) (r : Fin 1024) (l : Fin 128) : ℝ := before b j.val h r l + b.part upto j h r l

section own
variable {b : Tiles} {x2 : FVec Ideal S4x1024x128 .bf16} {x3 x4 : FVec Ideal S4x8192x128 .bf16} (hr : Reads b x2 x3 x4) (i : grid0.Coords)
  {s : Carry} {n : ℕ} (hs : Holds (before b n) s) (hn : n = (here i).val)
include hr hs hn

theorem own0 (iq) (ik) (r : Fin 1024) : Done (upToOwn b (here i) 0 r)
    (k0_pay43 (F := Ideal) s.1 (View.ld (Val := Elt Ideal) (e' := EltTy.bf16) x2 (Rect.unit ![0, 0, 0] ![1, 1024, 128] iq)) (View.ld (Val := Elt Ideal) (e' := EltTy.bf16) x3 (Rect.unit (k0_off9 i) ![1, 1024, 128] ik)) (ix2 r 0))
    (fun l => k0_pay44 (F := Ideal) s.1 s.2.1 (View.ld (Val := Elt Ideal) (e' := EltTy.bf16) x2 (Rect.unit ![0, 0, 0] ![1, 1024, 128] iq)) (View.ld (Val := Elt Ideal) (e' := EltTy.bf16) x3 (Rect.unit (k0_off9 i) ![1, 1024, 128] ik))
      (View.ld (Val := Elt Ideal) (e' := EltTy.bf16) x4 (Rect.unit (k0_off9 i) ![1, 1024, 128] ik)) (ix2 r l)) :=
  Pay.tile_upto (fun t l => (ldq _ _ _ 0 rfl t l).trans (hr.q 0 t l)) (fun t l => (ld3 _ _ _ 0 (here i) (off9 i) t l).trans (hr.k 0 _ l))
    (fun t l => (ld3 _ _ _ 0 (here i) (off9 i) t l).trans (hr.v 0 _ l)) (hn ▸ hs.h0) r

theorem own1 (iq) (ik) (r : Fin 1024) : Done (upToOwn b (here i) 1 r)
    (k0_pay43 (F := Ideal) s.2.2.1 (View.ld (Val := Elt Ideal) (e' := EltTy.bf16) x2 (Rect.unit ![1, 0, 0] ![1, 1024, 128] iq)) (View.ld (Val := Elt Ideal) (e' := EltTy.bf16) x3 (Rect.unit (k0_off10 i) ![1, 1024, 128] ik)) (ix2 r 0))
    (fun l => k0_pay44 (F := Ideal) s.2.2.1 s.2.2.2.1 (View.ld (Val := Elt Ideal) (e' := EltTy.bf16) x2 (Rect.unit ![1, 0, 0] ![1, 1024, 128] iq)) (View.ld (Val := Elt Ideal) (e' := EltTy.bf16) x3 (Rect.unit (k0_off10 i) ![1, 1024, 128] ik))
      (View.ld (Val := Elt Ideal) (e' := EltTy.bf16) x4 (Rect.unit (k0_off10 i) ![1, 1024, 128] ik)) (ix2 r l)) :=
  Pay.tile_upto (fun t l => (ldq _ _ _ 1 rfl t l).trans (hr.q 1 t l)) (fun t l => (ld3 _ _ _ 1 (here i) (off10 i) t l).trans (hr.k 1 _ l))
    (fun t l => (ld3 _ _ _ 1 (here i) (off10 i) t l).trans (hr.v 1 _ l)) (hn ▸ hs.h1) r

theorem own2 (iq) (ik) (r : Fin 1024) : Done (upToOwn b (here i) 2 r)
    (k0_pay43 (F := Ideal) s.2.2.2.2.1 (View.ld (Val := Elt Ideal) (e' := EltTy.bf16) x2 (Rect.unit ![2, 0, 0] ![1, 1024, 128] iq)) (View.ld (Val := Elt Ideal) (e' := EltTy.bf16) x3 (Rect.unit (k0_off11 i) ![1, 1024, 128] ik)) (ix2 r 0))
    (fun l => k0_pay44 (F := Ideal) s.2.2.2.2.1 s.2.2.2.2.2.1 (View.ld (Val := Elt Ideal) (e' := EltTy.bf16) x2 (Rect.unit ![2, 0, 0] ![1, 1024, 128] iq)) (View.ld (Val := Elt Ideal) (e' := EltTy.bf16) x3 (Rect.unit (k0_off11 i) ![1, 1024, 128] ik))
      (View.ld (Val := Elt Ideal) (e' := EltTy.bf16) x4 (Rect.unit (k0_off11 i) ![1, 1024, 128] ik)) (ix2 r l)) :=
  Pay.tile_upto (fun t l => (ldq _ _ _ 2 rfl t l).trans (hr.q 2 t l)) (fun t l => (ld3 _ _ _ 2 (here i) (off11 i) t l).trans (hr.k 2 _ l))
    (fun t l => (ld3 _ _ _ 2 (here i) (off11 i) t l).trans (hr.v 2 _ l)) (hn ▸ hs.h2) r

theorem own3 (iq) (ik) (r : Fin 1024) : Done (upToOwn b (here i) 3 r)
    (k0_pay43 (F := Ideal) s.2.2.2.2.2.2.1 (View.ld (Val := Elt Ideal) (e' := EltTy.bf16) x2 (Rect.unit ![3, 0, 0] ![1, 1024, 128] iq)) (View.ld (Val := Elt Ideal) (e' := EltTy.bf16) x3 (Rect.unit (k0_off12 i) ![1, 1024, 128] ik)) (ix2 r 0))
    (fun l => k0_pay44 (F := Ideal) s.2.2.2.2.2.2.1 s.2.2.2.2.2.2.2 (View.ld (Val := Elt Ideal) (e' := EltTy.bf16) x2 (Rect.unit ![3, 0, 0] ![1, 1024, 128] iq)) (View.ld (Val := Elt Ideal) (e' := EltTy.bf16) x3 (Rect.unit (k0_off12 i) ![1, 1024, 128] ik))
      (View.ld (Val := Elt Ideal) (e' := EltTy.bf16) x4 (Rect.unit (k0_off12 i) ![1, 1024, 128] ik)) (ix2 r l)) :=
  Pay.tile_upto (fun t l => (ldq _ _ _ 3 rfl t l).trans (hr.q 3 t l)) (fun t l => (ld3 _ _ _ 3 (here i) (off12 i) t l).trans (hr.k 3 _ l))
    (fun t l => (ld3 _ _ _ 3 (here i) (off12 i) t l).trans (hr.v 3 _ l)) (hn ▸ hs.h3) r

end own

variable (m : (ℓ : Loc nD τ sig) → Buf (Elt Ideal) ℓ) (c : Dev nD) (t : Fin cfg0.N) {b : Tiles}
  (hr : Reads b (iblk m c 0 t) (iblk m c 1 t) (iblk m c 2 t))
  (hz : ∀ h r, 0 < upToOwn b (here (grid0.coords t)) h r 64)
include hr hz

set_option maxHeartbeats 2000000 in
/-- The rows' outputs. -/
theorem after3 (h : Fin 4) (r : Fin 1024) (l : Fin 128) :
    (outsAt0 m c t).1 (ix2 r (four h l))
      = ((if l.val < 64 then upToOwn b (here (grid0.coords t)) h r l / upToOwn b (here (grid0.coords t)) h r 64 else 0 : ℝ) : EReal) := by
  unfold outsAt0
  dsimp only
  frame_out
  simp only [rest (hn := trips2 (grid0.coords t))]
  match h with
  | 3 =>
    rw [canon_mem _ _ _ _ (ix2 r l) (by intro a; fin_cases a <;> simp [four])]
    refine (congrFun (Pay.out3 ..) _).trans ?_
    refine (congrFun (congrArg (k0_pay55 (F := Ideal) _) (Pay.dacc3 ..)) _).trans ?_
    refine Pay.pay55 (Z := upToOwn b (here (grid0.coords t)) 3) r l
      (own3 hr (grid0.coords t) (loop (hr := ?_) (hn := ?_) ..) ?_ _ _ r) (hz 3 r)
    · simpa only [Memref.IsWhole.read_unread] using hr
    · exact le_rfl
    · exact trips (grid0.coords t)
  | 2 =>
    rw [View.canon_cons_of_not_mem _ _ (by rw [Rect.mem_set_unit]; intro hall; have := (hall 1).1; have := l.isLt; simp [four] at *; omega),
      canon_mem _ _ _ _ (ix2 r l) (by intro a; fin_cases a <;> simp [four])]
    refine (congrFun (Pay.out2 ..) _).trans ?_
    refine (congrFun (congrArg (k0_pay55 (F := Ideal) _) (Pay.dacc2 ..)) _).trans ?_
    refine Pay.pay55 (Z := upToOwn b (here (grid0.coords t)) 2) r l
      (own2 hr (grid0.coords t) (loop (hr := ?_) (hn := ?_) ..) ?_ _ _ r) (hz 2 r)
    · simpa only [Memref.IsWhole.read_unread] using hr
    · exact le_rfl
    · exact trips (grid0.coords t)
  | 1 =>
    rw [View.canon_cons_of_not_mem _ _ (by rw [Rect.mem_set_unit]; intro hall; have := (hall 1).1; have := l.isLt; simp [four] at *; omega),
      View.canon_cons_of_not_mem _ _ (by rw [Rect.mem_set_unit]; intro hall; have := (hall 1).1; have := l.isLt; simp [four] at *; omega),
      canon_mem _ _ _ _ (ix2 r l) (by intro a; fin_cases a <;> simp [four])]
    refine (congrFun (Pay.out1 ..) _).trans ?_
    refine Pay.pay55 (Z := upToOwn b (here (grid0.coords t)) 1) r l
      (own1 hr (grid0.coords t) (loop (hr := ?_) (hn := ?_) ..) ?_ _ _ r) (hz 1 r)
    · simpa only [Memref.IsWhole.read_unread] using hr
    · exact le_rfl
    · exact trips (grid0.coords t)
  | 0 =>
    rw [View.canon_cons_of_not_mem _ _ (by rw [Rect.mem_set_unit]; intro hall; have := (hall 1).1; have := l.isLt; simp [four] at *; omega),
      View.canon_cons_of_not_mem _ _ (by rw [Rect.mem_set_unit]; intro hall; have := (hall 1).1; have := l.isLt; simp [four] at *; omega),
      View.canon_cons_of_not_mem _ _ (by rw [Rect.mem_set_unit]; intro hall; have := (hall 1).1; have := l.isLt; simp [four] at *; omega),
      canon_mem _ _ _ _ (ix2 r l) (by intro a; fin_cases a <;> simp [four])]
    refine (congrFun (congrArg (k0_pay55 (F := Ideal) _) (Pay.dacc0 ..)) _).trans ?_
    refine Pay.pay55 (Z := upToOwn b (here (grid0.coords t)) 0) r l
      (own0 hr (grid0.coords t) (loop (hr := ?_) (hn := ?_) ..) ?_ _ _ r) (hz 0 r)
    · simpa only [Memref.IsWhole.read_unread] using hr
    · exact le_rfl
    · exact trips (grid0.coords t)

set_option maxHeartbeats 2000000 in
/-- The logarithms of their sums. -/
theorem after4 (h : Fin 4) (r : Fin 1024) :
    (outsAt0 m c t).2 (ix3 h r 0) = ((Real.log (upToOwn b (here (grid0.coords t)) h r 64) / Real.log 2 : ℝ) : EReal) := by
  unfold outsAt0
  dsimp only
  frame_out
  simp only [rest (hn := trips2 (grid0.coords t))]
  match h with
  | 3 =>
    rw [canon_mem _ _ _ _ (ix3 0 r 0) (by intro a; fin_cases a <;> simp)]
    refine (congrFun (Pay.lse3 ..) _).trans ?_
    refine (congrFun (congrArg₂ (k0_pay56 (F := Ideal) _) (Pay.dmax3 ..) (Pay.dacc3 ..)) _).trans ?_
    refine Pay.pay56 (Z := upToOwn b (here (grid0.coords t)) 3) r
      (own3 hr (grid0.coords t) (loop (hr := ?_) (hn := ?_) ..) ?_ _ _ r) (hz 3 r)
    · simpa only [Memref.IsWhole.read_unread] using hr
    · exact le_rfl
    · exact trips (grid0.coords t)
  | 2 =>
    rw [View.canon_cons_of_not_mem _ _ (by rw [Rect.mem_set_unit]; intro hall; simpa using (hall 0).1),
      canon_mem _ _ _ _ (ix3 0 r 0) (by intro a; fin_cases a <;> simp)]
    refine (congrFun (Pay.lse2 ..) _).trans ?_
    refine (congrFun (congrArg₂ (k0_pay56 (F := Ideal) _) (Pay.dmax2 ..) (Pay.dacc2 ..)) _).trans ?_
    refine Pay.pay56 (Z := upToOwn b (here (grid0.coords t)) 2) r
      (own2 hr (grid0.coords t) (loop (hr := ?_) (hn := ?_) ..) ?_ _ _ r) (hz 2 r)
    · simpa only [Memref.IsWhole.read_unread] using hr
    · exact le_rfl
    · exact trips (grid0.coords t)
  | 1 =>
    rw [View.canon_cons_of_not_mem _ _ (by rw [Rect.mem_set_unit]; intro hall; simpa using (hall 0).1),
      View.canon_cons_of_not_mem _ _ (by rw [Rect.mem_set_unit]; intro hall; simpa using (hall 0).1),
      canon_mem _ _ _ _ (ix3 0 r 0) (by intro a; fin_cases a <;> simp)]
    refine (congrFun (Pay.lse1 ..) _).trans ?_
    refine Pay.pay56 (Z := upToOwn b (here (grid0.coords t)) 1) r
      (own1 hr (grid0.coords t) (loop (hr := ?_) (hn := ?_) ..) ?_ _ _ r) (hz 1 r)
    · simpa only [Memref.IsWhole.read_unread] using hr
    · exact le_rfl
    · exact trips (grid0.coords t)
  | 0 =>
    rw [View.canon_cons_of_not_mem _ _ (by rw [Rect.mem_set_unit]; intro hall; simpa using (hall 0).1),
      View.canon_cons_of_not_mem _ _ (by rw [Rect.mem_set_unit]; intro hall; simpa using (hall 0).1),
      View.canon_cons_of_not_mem _ _ (by rw [Rect.mem_set_unit]; intro hall; simpa using (hall 0).1),
      canon_mem _ _ _ _ (ix3 0 r 0) (by intro a; fin_cases a <;> simp)]
    refine (congrFun (congrArg₂ (k0_pay56 (F := Ideal) _) (Pay.dmax0 ..) (Pay.dacc0 ..)) _).trans ?_
    refine Pay.pay56 (Z := upToOwn b (here (grid0.coords t)) 0) r
      (own0 hr (grid0.coords t) (loop (hr := ?_) (hn := ?_) ..) ?_ _ _ r) (hz 0 r)
    · simpa only [Memref.IsWhole.read_unread] using hr
    · exact le_rfl
    · exact trips (grid0.coords t)

end Cert.FwdIdeal.Point

end
-- ==== Proof.Fwd.Kernel.lean ====
/- The arrays that attention's forward pass leaves. -/
module

public import proofs.«01_k».proof.Proof.Fwd.Host
public import proofs.«01_k».proof.Proof.Fwd.Sums
public import proofs.«01_k».proof.Proof.Fwd.Point

@[expose] public section

set_option maxRecDepth 16384

noncomputable section

namespace Cert.FwdIdeal.Arrays

open Cert.FwdIdeal Cert.FwdIdeal.Gen Cert.FwdIdeal.Offs Cert.FwdIdeal.Loop Cert.FwdIdeal.Sums Cert.FwdIdeal.Point Cert.FwdIdeal.Host
open Cert.Reals Cert.AttnSpec
open Idealize.ShloMosaic Idealize.ShloMosaic.TcCoe Idealize.SL.Sem
open Idealize.ShloMosaic.Pipeline (Dat)

variable (m : (ℓ : Loc nD τ sig) → Buf (Elt Ideal) ℓ) (c : Dev nD)

theorem idx : ∀ t : Fin cfg0.N, win0_0.index t = ![0, (here (grid0.coords t)).val, 0] ∧ win0_1.index t = ![0, 0, 0] ∧ win0_2.index t = ![0, 0, 0]
    ∧ win0_3.index t = ![(here (grid0.coords t)).val, 0] ∧ win0_4.index t = ![0, (here (grid0.coords t)).val, 0] :=
  (by decide +kernel : ∀ t : Fin grid0.N, _)

variable {q k : Fin 8192 → Fin 4 → Fin 96 → ℝ} {v : Fin 8192 → Fin 4 → Fin 64 → ℝ} (g : Given m c q k v)

include g in
set_option maxHeartbeats 2000000 in
theorem reads (t : Fin cfg0.N) : Reads (tiles q k v (here (grid0.coords t))) (iblk m c 0 t) (iblk m c 1 t) (iblk m c 2 t) where
  q h r l := by
    refine Eq.trans ?_ (at7 m c g h (tile (here (grid0.coords t)) r) l)
    blk_simp [iblk, idx t]
    refine congrArg (V m c main_v7) ?_
    blk_ext [idx t, tile]
  k h a l := by
    refine Eq.trans ?_ (at11 m c g h a l)
    blk_simp [iblk, idx t]
    refine congrArg (V m c main_v11) ?_
    blk_ext [idx t]
  v h a l := by
    refine Eq.trans ?_ (at18 m c g h a l)
    blk_simp [iblk, idx t]
    refine congrArg (V m c main_v18) ?_
    blk_ext [idx t]

theorem positive (q k : Fin 8192 → Fin 4 → Fin 96 → ℝ) (v : Fin 8192 → Fin 4 → Fin 64 → ℝ) (i : Fin 8) (h : Fin 4) (r : Fin 1024) :
    0 < upToOwn (tiles q k v i) i h r 64 := by
  unfold upToOwn
  rw [whole, sums_one]
  exact total_pos q k 0 h _

/-- The outputs with the heads' lanes side by side. -/
def outs (q k : Fin 8192 → Fin 4 → Fin 96 → ℝ) (v : Fin 8192 → Fin 4 → Fin 64 → ℝ) (y : S8192x512.Idx) : ℝ :=
  out q k v ⟨(y 1).val / 128, by have : (y 1).val < 512 := (y 1).isLt; omega⟩ (y 0) ⟨(y 1).val % 128, Nat.mod_lt _ (by norm_num)⟩

theorem outs_at (q k : Fin 8192 → Fin 4 → Fin 96 → ℝ) (v : Fin 8192 → Fin 4 → Fin 64 → ℝ) (a : Fin 8192) (h : Fin 4) (l : Fin 128) :
    outs q k v (ix2 a (four h l)) = out q k v h a l := by
  have := l.isLt
  refine congr (congr (congrArg (out q k v) ?_) rfl) ?_
  · exact Fin.ext (show (128 * h.val + l.val) / 128 = h.val by omega)
  · exact Fin.ext (show (128 * h.val + l.val) % 128 = l.val by omega)

include g

theorem final3 : ((dats m 0 c).arrAt 3 cfg0.N : FVec Ideal S8192x512 .f32) = fun y => ((outs q k v y : ℝ) : EReal) := by
  refine (dats m 0 c).arrAt_eq_of_covers 3 _ (by decide +kernel) fun t hf y => ?_
  blk_simp
  rw [after0_3]
  obtain ⟨r, d, rfl⟩ : ∃ (r : Fin 1024) (d : Fin 512), y = ix2 r d := ⟨y 0, y 1, by idx_vars y⟩
  obtain ⟨h, l, rfl⟩ := four_surj d
  have e : (win0_3.blk t).view.emb (ix2 r (four h l)) = ix2 (tile (here (grid0.coords t)) r) (four h l) := by blk_ext [idx t, tile, four]
  rw [e, outs_at]
  refine (after3 m c t (reads m c g t) (positive q k v _) h r l).trans (congrArg _ ?_)
  unfold upToOwn
  rw [whole, whole, out_eq]

theorem final4 : ((dats m 0 c).arrAt 4 cfg0.N : FVec Ideal S4x8192x1 .f32) = fun y => ((lse q k (y 0) (y 1) / Real.log 2 : ℝ) : EReal) := by
  refine (dats m 0 c).arrAt_eq_of_covers 4 _ (by decide +kernel) fun t hf y => ?_
  blk_simp
  rw [after0_4]
  obtain ⟨h, r, z, rfl⟩ : ∃ (h : Fin 4) (r : Fin 1024) (z : Fin 1), y = ix3 h r z := ⟨y 0, y 1, y 2, by idx_vars y⟩
  obtain rfl : z = 0 := Subsingleton.elim _ _
  have e : (win0_4.blk t).view.emb (ix3 h r 0) = ix3 h (tile (here (grid0.coords t)) r) 0 := by blk_ext [idx t, tile]
  rw [e]
  refine (after4 m c t (reads m c g t) (positive q k v _) h r).trans (congrArg _ ?_)
  unfold upToOwn
  rw [whole, sums_one]
  rfl

end Cert.FwdIdeal.Arrays

end
-- ==== Proof.Fwd.Ref.lean ====
/- The reference's results: softmax's products with the values, and the logarithm of a row's sum. -/
module

public import proofs.«01_k».proof.Proof.Gen.FwdRefIdeal.Read
public import proofs.«01_k».proof.Proof.Attn.Host
public import proofs.«01_k».proof.Proof.Fwd.Sums

@[expose] public section

set_option maxRecDepth 16384

noncomputable section

namespace Cert.FwdRefIdeal.Out

open Cert.FwdRefIdeal Cert.FwdRefIdeal.Gen Cert.FwdRefIdeal.Read Cert.Reals Cert.AttnSpec
open Cert.FwdIdeal.Offs (four)
open Cert.FwdIdeal.Sums (out)
open Idealize.ShloMosaic Idealize.ShloMosaic.TcCoe Idealize.SL.Sem

variable {x0 x1 : FVec Ideal S8192x4x96 .f32} {x2 : FVec Ideal S8192x4x64 .f32} {q k : Fin 8192 → Fin 4 → Fin 96 → ℝ} {v : Fin 8192 → Fin 4 → Fin 64 → ℝ}
  (h0 : ∀ a h d, x0 (ix3 a h d) = ((q a h d : ℝ) : EReal)) (h1 : ∀ a h d, x1 (ix3 a h d) = ((k a h d : ℝ) : EReal))
  (h2 : ∀ a h d, x2 (ix3 a h d) = ((v a h d : ℝ) : EReal))

include h0 h1

theorem v9 (h : Fin 4) (a b : Fin 8192) : val_main_v9 (F := Ideal) x0 x1 (ix3 h a b) = if b ≤ a then ((score q k h a b : ℝ) : EReal) else ⊥ := by
  pointwise [val_main_v9, val_main_call0_v2, val_main_call0_v1, val_main_call0_v0, val_main_cst_0, val_main_v8, val_main_v7, val_main_v6, val_main_v5, val_main_v4, val_main_v3, val_main_v2, val_main_v1, val_main_v0, val_main_cst]
  rw [masked (by norm_num)]
  simp only [h0, h1, ← EReal.coe_mul, sum_coe, scale_word]
  exact congrArg (ite _ _) bot_word

theorem v10 (h : Fin 4) (a : Fin 8192) : ∃ r : ℝ, val_main_v10 (F := Ideal) x0 x1 (ix2 h a) = (r : EReal) := by
  pointwise [val_main_v10, val_main_cst_1]
  simp only [v9 h0 h1, bot_word]
  exact masked_max q k h a

/-- What is subtracted in a row's exponents for the logarithm. -/
def top (h : Fin 4) (a : Fin 8192) : ℝ := (val_main_v10 (F := Ideal) x0 x1 (ix2 h a)).toReal

theorem v10_top (h : Fin 4) (a : Fin 8192) : val_main_v10 (F := Ideal) x0 x1 (ix2 h a) = ((top (x0 := x0) (x1 := x1) h a : ℝ) : EReal) := by
  obtain ⟨r, hr⟩ := v10 h0 h1 h a
  rw [top, hr, EReal.toReal_coe]

theorem v14 (h : Fin 4) (a b : Fin 8192) : val_main_v14 (F := Ideal) x0 x1 (ix3 h a b) = ((weight q k (top (x0 := x0) (x1 := x1) h a) h a b : ℝ) : EReal) := by
  have e : val_main_v12 (F := Ideal) x0 x1 (ix3 h a b) = ((top (x0 := x0) (x1 := x1) h a : ℝ) : EReal) := by
    pointwise [val_main_v12, val_main_v11]
    exact v10_top h0 h1 h a
  rw [val_main_v14_apply, val_main_v13_apply, v9 h0 h1, e]
  exact exp_masked q k _ h a b

theorem v15 (h : Fin 4) (a : Fin 8192) : val_main_v15 (F := Ideal) x0 x1 (ix2 h a) = ((total q k (top (x0 := x0) (x1 := x1) h a) h a : ℝ) : EReal) := by
  pointwise [val_main_v15, val_main_cst_2]
  simp only [v14 h0 h1, sum_coe, zero_add]
  rfl

theorem v11 (h : Fin 4) (a : Fin 8192) (b : Fin 1) : val_main_v11 (F := Ideal) x0 x1 (ix3 h a b) = ((top (x0 := x0) (x1 := x1) h a : ℝ) : EReal) := by
  pointwise [val_main_v11]
  exact v10_top h0 h1 h a

theorem v16 (h : Fin 4) (a : Fin 8192) (b : Fin 1) : val_main_v16 (F := Ideal) x0 x1 (ix3 h a b) = ((total q k (top (x0 := x0) (x1 := x1) h a) h a : ℝ) : EReal) := by
  pointwise [val_main_v16]
  exact v15 h0 h1 h a

omit h0 h1 in
theorem v36 (i : S4x8192x1.Idx) : val_main_v36 (F := Ideal) i = Ideal.log ((2 : ℝ) : EReal) := by
  rw [val_main_v36_apply, val_main_v35_apply, val_main_cst_7_apply]
  exact congrArg Ideal.log two_word

theorem v37 (h : Fin 4) (a : Fin 8192) (b : Fin 1) : val_main_v37 (F := Ideal) x0 x1 (ix3 h a b) = ((lse q k h a / Real.log 2 : ℝ) : EReal) := by
  rw [val_main_v37_apply, val_main_v18_apply, val_main_v17_apply, v11 h0 h1, v16 h0 h1, v36]
  exact Cert.AttnIdeal.Host.log_div _ (total_pos q k _ h a) (lse_eq q k _ h a)

theorem v19 (h : Fin 4) (a : Fin 8192) : ∃ r : ℝ, val_main_v19 (F := Ideal) x0 x1 (ix2 h a) = (r : EReal) := by
  pointwise [val_main_v19, val_main_cst_3]
  simp only [v9 h0 h1, bot_word]
  exact masked_max q k h a

/-- What is subtracted in a row's exponents for the probabilities. -/
def top' (h : Fin 4) (a : Fin 8192) : ℝ := (val_main_v19 (F := Ideal) x0 x1 (ix2 h a)).toReal

theorem v19_top (h : Fin 4) (a : Fin 8192) : val_main_v19 (F := Ideal) x0 x1 (ix2 h a) = ((top' (x0 := x0) (x1 := x1) h a : ℝ) : EReal) := by
  obtain ⟨r, hr⟩ := v19 h0 h1 h a
  rw [top', hr, EReal.toReal_coe]

omit h0 h1 in
theorem v20 (h : Fin 4) (a : Fin 8192) : val_main_v20 (F := Ideal) (ix2 h a) = ⊥ := by
  pointwise [val_main_v20, val_main_cst_4]
  exact bot_word

theorem v21 (h : Fin 4) (a : Fin 8192) : val_main_v21 (F := Ideal) x0 x1 (ix2 h a) = ((top' (x0 := x0) (x1 := x1) h a : ℝ) : EReal) := by
  rw [val_main_v21_apply, v20, v19_top h0 h1]
  exact max_bot_left _

theorem v25 (h : Fin 4) (a b : Fin 8192) : val_main_v25 (F := Ideal) x0 x1 (ix3 h a b) = ((weight q k (top' (x0 := x0) (x1 := x1) h a) h a b : ℝ) : EReal) := by
  have e : val_main_v23 (F := Ideal) x0 x1 (ix3 h a b) = ((top' (x0 := x0) (x1 := x1) h a : ℝ) : EReal) := by
    pointwise [val_main_v23, val_main_v22]
    exact v21 h0 h1 h a
  rw [val_main_v25_apply, val_main_v24_apply, v9 h0 h1, e]
  exact exp_masked q k _ h a b

theorem v26 (h : Fin 4) (a : Fin 8192) : val_main_v26 (F := Ideal) x0 x1 (ix2 h a) = ((total q k (top' (x0 := x0) (x1 := x1) h a) h a : ℝ) : EReal) := by
  pointwise [val_main_v26, val_main_cst_5]
  simp only [v25 h0 h1, sum_coe, zero_add]
  rfl

theorem v29 (h : Fin 4) (a b : Fin 8192) : val_main_v29 (F := Ideal) x0 x1 (ix3 h a b) = ((prob q k h a b : ℝ) : EReal) := by
  pointwise [val_main_v29, val_main_v28, val_main_v27]
  rw [v25 h0 h1, v26 h0 h1, div_real (total_pos q k _ h a).ne', prob_eq]

include h2

theorem v33 (h : Fin 4) (a : Fin 8192) (l : Fin 128) : val_main_v33 (F := Ideal) x0 x1 x2 (ix3 a h l) = ((out q k v h a l : ℝ) : EReal) := by
  pointwise [val_main_v33, val_main_v32, val_main_cst_6, val_main_v31, val_main_v30]
  simp only [v29 h0 h1, h2, ← EReal.coe_mul, sum_coe]
  unfold out lane
  split
  · exact congrArg _ (Finset.sum_congr rfl fun b _ => mul_comm _ _)
  · simp

theorem v34 (h : Fin 4) (a : Fin 8192) (l : Fin 128) : val_main_v34 (F := Ideal) x0 x1 x2 (ix2 a (four h l)) = ((out q k v h a l : ℝ) : EReal) := by
  rw [val_main_v34_apply]
  refine (congrArg _ ?_).trans (v33 h0 h1 h2 h a l)
  have := h.isLt; have := l.isLt
  funext d; fin_cases d
  · exact Fin.ext (show (a.val * 512 + (128 * h.val + l.val)) / 512 = a.val by omega)
  · exact Fin.ext (show (a.val * 512 + (128 * h.val + l.val)) / 128 % 4 = h.val by omega)
  · exact Fin.ext (show (a.val * 512 + (128 * h.val + l.val)) % 128 = l.val by omega)

end Cert.FwdRefIdeal.Out

end
-- ==== Proof.Fwd.Pre.lean ====
/- The precondition read back: attention's arguments are arrays of reals. -/
module

public import proofs.«01_k».proof.Pre_finite_fwd
public import proofs.«01_k».proof.Proof.Kit.Reals

@[expose] public section

set_option maxRecDepth 16384

noncomputable section

namespace Cert.Pre_finite_fwd.Read

open Cert.Pre_finite_fwd Cert.Reals Idealize.ShloMosaic

variable [Facts]

theorem reals (q k : FVec Ideal S8192x4x96 .f32) (v : FVec Ideal S8192x4x64 .f32)
    (h : fn (F := Ideal) q k v = fun _ => 1#1) :
    (∃ Q : S8192x4x96.Idx → ℝ, q = up Q) ∧ (∃ K : S8192x4x96.Idx → ℝ, k = up K) ∧ ∃ U : S8192x4x64.Idx → ℝ, v = up U := by
  have h := congrFun h (fun k => k.elim0)
  unfold fn at h
  obtain ⟨h, h3⟩ := IntOp.andi_eq_one.1 h
  obtain ⟨h1, h2⟩ := IntOp.andi_eq_one.1 h
  haveI : Subsingleton S_.Idx := ⟨fun p q => funext fun k => k.elim0⟩
  exact ⟨reals_of_all _ _ (fun _ => rfl) _ _ _ _ h1, reals_of_all _ _ (fun _ => rfl) _ _ _ _ h2, reals_of_all _ _ (fun _ => rfl) _ _ _ _ h3⟩

end Cert.Pre_finite_fwd.Read

end
-- ==== Proof.Fwd.Claim.lean ====
/- The value claim of attention's forward pass. -/
module

public import proofs.«01_k».proof.Defs
public import proofs.«01_k».proof.Proof.Fwd.Kernel
public import proofs.«01_k».proof.Proof.Fwd.Ref
public import proofs.«01_k».proof.Proof.Fwd.Pre
public import proofs.«01_k».proof.Proof.Gen.FwdRefIdeal.Run
public import Idealize.ShloMosaic.Lib.Claim

@[expose] public section

set_option maxRecDepth 16384

noncomputable section

namespace Cert.FwdClaim

open Idealize.ShloMosaic Idealize.ShloMosaic.TcCoe Idealize.SL.Sem

theorem given [Cert.Pre_finite_fwd.Facts] (m : (ℓ : Loc Cert.FwdIdeal.nD Cert.FwdIdeal.τ Cert.FwdIdeal.sig) → Buf (Elt Ideal) ℓ)
    (c : Dev Cert.FwdIdeal.nD)
    (h : Cert.Pre_finite_fwd.fn (F := Ideal) (Cert.FwdIdeal.Host.A0 m c) (Cert.FwdIdeal.Host.A1 m c) (Cert.FwdIdeal.Host.A2 m c)
      = fun _ => 1#1) : ∃ q k v, Cert.FwdIdeal.Host.Given m c q k v := by
  obtain ⟨⟨Q, hQ⟩, ⟨K, hK⟩, ⟨U, hU⟩⟩ := Cert.Pre_finite_fwd.Read.reals _ _ _ h
  exact ⟨fun a h d => Q (ix3 a h d), fun a h d => K (ix3 a h d), fun a h d => U (ix3 a h d),
    fun a h d => congrFun hQ _, fun a h d => congrFun hK _, fun a h d => congrFun hU _⟩

theorem algebraic [Cert.Pre_finite_fwd.Facts] :
    Cert.algebraic_FwdIdeal_FwdRefIdeal_pre_finite_fwd (hFwdIdeal := Cert.FwdIdeal.Gen.facts)
      (hFwdRefIdeal := Cert.FwdRefIdeal.Gen.facts) := by
  pair_intro
  · run_from Cert.FwdIdeal.Value.run_blocks m g
  · run_from Cert.FwdRefIdeal.Value.run m' g'
    all_goals
      obtain ⟨q, k, v, hg⟩ := given m c (hpre c)
      obtain ⟨e0, e1, e2⟩ := hagree c
    · rw [Cert.FwdRefIdeal.Read.val_main_v34_eq, Cert.FwdIdeal.Arrays.final3 m c hg]
      refine (congr (congr (congrArg (Cert.FwdRefIdeal.Read.val_main_v34 (F := Ideal)) e0) e1) e2).trans ?_
      funext i
      idx_vars i
      obtain ⟨h, l, rfl⟩ := Cert.FwdIdeal.Offs.four_surj i1
      exact (Cert.FwdRefIdeal.Out.v34 hg.h0 hg.h1 hg.h2 h i0 l).trans (congrArg _ (Cert.FwdIdeal.Arrays.outs_at q k v i0 h l).symm)
    · refine (Cert.FwdRefIdeal.Read.val_main_v37_eq _ _).trans ?_
      rw [Cert.FwdIdeal.Arrays.final4 m c hg]
      funext i
      idx_vars i
      exact Cert.FwdRefIdeal.Out.v37 hg.h0 hg.h1 i0 i1 i2

theorem frame_ref : Cert.quiescent_FwdRefIdeal (hFwdRefIdeal := Cert.FwdRefIdeal.Gen.facts) := fun m ρ _ =>
  (θ_run _ _ _).mono (fun r h => ⟨fun c => (h c).2.2, sem_eq_zero_of_no_sems (by decide) r.2⟩)
    (Cert.FwdRefIdeal.Value.run m ρ)

theorem frame_ref_pre [Cert.Pre_finite_fwd.Facts] :
    Cert.quiescent_FwdRefIdeal_pre_finite_fwd (hFwdRefIdeal := Cert.FwdRefIdeal.Gen.facts) :=
  fun m ρ _ => frame_ref m ρ True.intro

end Cert.FwdClaim

end
-- ==== Proof.Up.Spec.lean ====
/- The norm and the first product of the feed-forward, over the reals. -/
module

public import proofs.«01_k».proof.Proof.Kit.Reals

@[expose] public section

set_option maxRecDepth 16384

noncomputable section

namespace Cert.UpSpec

open Cert.Reals

/-- Row `i` of the product: the norm of the row `X i` with gain `G`, against column `k` of the weight. -/
def act {n : ℕ} (X : Fin n → Fin 1024 → ℝ) (G : Fin 1024 → ℝ) (W : Fin 1024 → Fin 4096 → ℝ) (i : Fin n) (k : Fin 4096) : ℝ :=
  ∑ l, X i l * rr (X i) 1024 * G l * W l k

end Cert.UpSpec

end
-- ==== Proof.Up.Pay.lean ====
/- What the body of the first product stores, at finite blocks. -/
module

public import proofs.«01_k».proof.Proof.Gen.UpIdeal.Skeleton
public import proofs.«01_k».proof.Proof.Up.Spec

@[expose] public section

set_option maxRecDepth 16384

noncomputable section

namespace Cert.UpIdeal.Pay

open Cert.UpIdeal Cert.UpIdeal.Gen Cert.Reals Cert.UpSpec
open Idealize.ShloMosaic Idealize.ShloMosaic.TcCoe Idealize.SL.Sem

theorem pay1 {x : FVec Ideal S1024x1024 .f32} {g : FVec Ideal S1x1024 .f32} {w : FVec Ideal S1024x4096 .bf16}
    {X : Fin 1024 → Fin 1024 → ℝ} {G : Fin 1024 → ℝ} {W : Fin 1024 → Fin 4096 → ℝ}
    (hx : ∀ r l, x (ix2 r l) = ((X r l : ℝ) : EReal)) (hg : ∀ l, g (ix2 0 l) = ((G l : ℝ) : EReal))
    (hw : ∀ l k, w (ix2 l k) = ((W l k : ℝ) : EReal)) (r : Fin 1024) (k : Fin 4096) :
    k0_pay1 (F := Ideal) x g w (ix2 r k) = ((act X G W r k : ℝ) : EReal) := by
  pointwise [k0_pay1]
  simp only [hx, hg, hw, eps_word, w1024, ← EReal.coe_mul, sum_coe, zero_add, div_1024, ← EReal.coe_add, rsqrt_mean]
  rfl

end Cert.UpIdeal.Pay

end
-- ==== Proof.Up.Kernel.lean ====
/- The array the first product leaves, at finite arguments. -/
module

public import proofs.«01_k».proof.Proof.Gen.UpIdeal.Value
public import proofs.«01_k».proof.Proof.Up.Pay
public import Idealize.ShloMosaic.Lib.Pipeline.ValueKit
public import Idealize.ShloMosaic.Lib.StableHlo.RunRead

@[expose] public section

set_option maxRecDepth 16384

noncomputable section

namespace Cert.UpIdeal.Arrays

open Cert.UpIdeal Cert.UpIdeal.Gen Cert.Reals Cert.UpSpec
open Idealize.ShloMosaic Idealize.ShloMosaic.TcCoe Idealize.SL.Sem
open Idealize.ShloMosaic.Pipeline (Dat)

variable (m : (ℓ : Loc nD τ sig) → Buf (Elt Ideal) ℓ) (c : Dev nD)

abbrev A0 : FVec Ideal S8192x1024 .f32 := m ((c : Thread nD τ).loc main_arg0)
abbrev A1 : FVec Ideal S1024 .f32 := m ((c : Thread nD τ).loc main_arg1)
abbrev A2 : FVec Ideal S1024x4096 .f32 := m ((c : Thread nD τ).loc main_arg2)

/-- The arguments are these reals. -/
structure Given (X : Fin 8192 → Fin 1024 → ℝ) (G : Fin 1024 → ℝ) (W : Fin 1024 → Fin 4096 → ℝ) : Prop where
  hx : ∀ i l, A0 m c (ix2 i l) = ((X i l : ℝ) : EReal)
  hg : ∀ l, A1 m c (ix1 l) = ((G l : ℝ) : EReal)
  hw : ∀ l k, A2 m c (ix2 l k) = ((W l k : ℝ) : EReal)

theorem V_w : V m c main_v0 = truncf (F := Ideal) .bf16 (A2 m c) bitsLt_bf16_f32 := by
  unfold V hostOps0
  after_reads_simp
theorem V_g : V m c main_v1 = broadcastInDim S1x1024 ![1] bcast_S1024_S1x1024_1 (A1 m c) := by
  unfold V hostOps0
  after_reads_simp
theorem V_x : V m c main_arg0 = A0 m c := by
  unfold V hostOps0
  after_reads_simp

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The row of the array that row `r` of point `t`'s block is. -/
abbrev row (t : Fin cfg0.N) (r : Fin 1024) : Fin 8192 := ⟨t.val * 1024 + r.val, by have := lt_of_lt_of_eq t.isLt N_0; omega⟩

variable {X : Fin 8192 → Fin 1024 → ℝ} {G : Fin 1024 → ℝ} {W : Fin 1024 → Fin 4096 → ℝ}
variable (h : Given m c X G W)
include h

theorem blk0 (t : Fin cfg0.N) (r : Fin 1024) (l : Fin 1024) : (iblk m c 0 t : FVec Ideal S1024x1024 .f32) (ix2 r l) = ((X (row t r) l : ℝ) : EReal) := by
  rw [← h.hx, ← V_x m c]
  blk_simp [iblk, idx t]
  refine congrArg (V m c main_arg0) ?_
  blk_ext [idx t]

theorem blk1 (t : Fin cfg0.N) (l : Fin 1024) : (iblk m c 1 t : FVec Ideal S1x1024 .f32) (ix2 0 l) = ((G l : ℝ) : EReal) := by
  refine Eq.trans (b := V m c main_v1 (ix2 0 l)) ?_ ?_
  · blk_simp [iblk, idx t]
    refine congrArg (V m c main_v1) ?_
    blk_ext [idx t]
  · rw [V_g]; pointwise; exact h.hg l

theorem blk2 (t : Fin cfg0.N) (l : Fin 1024) (k : Fin 4096) : (iblk m c 2 t : FVec Ideal S1024x4096 .bf16) (ix2 l k) = ((W l k : ℝ) : EReal) := by
  refine Eq.trans (b := V m c main_v0 (ix2 l k)) ?_ ?_
  · blk_simp [iblk, idx t]
    refine congrArg (V m c main_v0) ?_
    blk_ext [idx t]
  · rw [V_w]; pointwise; exact h.hw l k

theorem final3 : ((dats m 0 c).arrAt 3 cfg0.N : FVec Ideal S8192x4096 .bf16) = fun i => ((act X G W (i 0) (i 1) : ℝ) : EReal) := by
  refine (dats m 0 c).arrAt_eq_of_covers 3 _ (by decide +kernel) fun t hf y => ?_
  blk_simp
  rw [after0_3]
  obtain ⟨r, k, rfl⟩ : ∃ (r : Fin 1024) (k : Fin 4096), y = ix2 r k := ⟨y 0, y 1, by idx_vars y⟩
  have e : (win0_3.blk t).view.emb (ix2 r k) = ix2 (row t r) k := by blk_ext [idx t]
  rw [e]
  unfold out0_3
  frame_out
  exact Pay.pay1 (blk0 m c h t) (blk1 m c h t) (blk2 m c h t) r k

end Cert.UpIdeal.Arrays

end
-- ==== Proof.Up.Ref.lean ====
/- The reference's result at finite arguments. -/
module

public import proofs.«01_k».proof.Proof.Gen.UpRefIdeal.Read
public import proofs.«01_k».proof.Proof.Up.Spec

@[expose] public section

set_option maxRecDepth 16384

noncomputable section

namespace Cert.UpRefIdeal.Out

open Cert.UpRefIdeal Cert.UpRefIdeal.Gen Cert.UpRefIdeal.Read Cert.Reals Cert.UpSpec
open Idealize.ShloMosaic Idealize.ShloMosaic.TcCoe Idealize.SL.Sem

theorem v14 {x : FVec Ideal S8192x1024 .f32} {g : FVec Ideal S1024 .f32} {w : FVec Ideal S1024x4096 .f32}
    {X : Fin 8192 → Fin 1024 → ℝ} {G : Fin 1024 → ℝ} {W : Fin 1024 → Fin 4096 → ℝ}
    (hx : ∀ i l, x (ix2 i l) = ((X i l : ℝ) : EReal)) (hg : ∀ l, g (ix1 l) = ((G l : ℝ) : EReal))
    (hw : ∀ l k, w (ix2 l k) = ((W l k : ℝ) : EReal)) (i : Fin 8192) (k : Fin 4096) :
    val_main_v14 (F := Ideal) x g w (ix2 i k) = ((act X G W i k : ℝ) : EReal) := by
  pointwise [val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  simp only [hx, hg, hw, eps_word, w1024, ← EReal.coe_mul, sum_coe, zero_add, div_1024, ← EReal.coe_add, rsqrt_mean]
  rfl

end Cert.UpRefIdeal.Out

end
-- ==== Proof.Up.Pre.lean ====
/- The precondition read back: the arguments are arrays of reals. -/
module

public import proofs.«01_k».proof.Pre_finite_up
public import proofs.«01_k».proof.Proof.Kit.Reals

@[expose] public section

set_option maxRecDepth 16384

noncomputable section

namespace Cert.Pre_finite_up.Read

open Cert.Pre_finite_up Cert.Reals Idealize.ShloMosaic

variable [Facts]

theorem reals (x : FVec Ideal S8192x1024 .f32) (g : FVec Ideal S1024 .f32) (w : FVec Ideal S1024x4096 .f32)
    (h : fn (F := Ideal) x g w = fun _ => 1#1) :
    (∃ X : S8192x1024.Idx → ℝ, x = up X)
      ∧ (∃ G : S1024.Idx → ℝ, g = up G)
      ∧ (∃ W : S1024x4096.Idx → ℝ, w = up W) := by
  have h := congrFun h (fun k => k.elim0)
  unfold fn at h
  obtain ⟨h, h3⟩ := IntOp.andi_eq_one.1 h
  obtain ⟨h1, h2⟩ := IntOp.andi_eq_one.1 h
  haveI : Subsingleton S_.Idx := ⟨fun p q => funext fun k => k.elim0⟩
  exact ⟨reals_of_all _ _ (fun _ => rfl) _ _ _ _ h1,
    reals_of_all _ _ (fun _ => rfl) _ _ _ _ h2,
    reals_of_all _ _ (fun _ => rfl) _ _ _ _ h3⟩

end Cert.Pre_finite_up.Read

end
-- ==== Proof.Up.Claim.lean ====
/- The value claim of the norm and the first product of the feed-forward. -/
module

public import proofs.«01_k».proof.Defs
public import proofs.«01_k».proof.Proof.Up.Kernel
public import proofs.«01_k».proof.Proof.Up.Ref
public import proofs.«01_k».proof.Proof.Up.Pre
public import proofs.«01_k».proof.Proof.Gen.UpRefIdeal.Run
public import Idealize.ShloMosaic.Lib.Claim

@[expose] public section

set_option maxRecDepth 16384

noncomputable section

namespace Cert.UpClaim

open Idealize.ShloMosaic Idealize.ShloMosaic.TcCoe Idealize.SL.Sem

theorem given [Cert.Pre_finite_up.Facts]
    (m : (ℓ : Loc Cert.UpIdeal.nD Cert.UpIdeal.τ Cert.UpIdeal.sig) → Buf (Elt Ideal) ℓ)
    (h : Cert.Pre_UpIdeal_finite_up m) (c : Dev Cert.UpIdeal.nD) :
    ∃ X G W, Cert.UpIdeal.Arrays.Given m c X G W := by
  obtain ⟨⟨X, hX⟩, ⟨G, hG⟩, ⟨W, hW⟩⟩ := Cert.Pre_finite_up.Read.reals _ _ _ (h c)
  exact ⟨fun i j => X (ix2 i j), fun i => G (ix1 i), fun i j => W (ix2 i j),
    fun _ _ => congrFun hX _, fun _ => congrFun hG _, fun _ _ => congrFun hW _⟩

theorem algebraic [Cert.Pre_finite_up.Facts] :
    Cert.algebraic_UpIdeal_UpRefIdeal_pre_finite_up (hUpIdeal := Cert.UpIdeal.Gen.facts)
      (hUpRefIdeal := Cert.UpRefIdeal.Gen.facts) := by
  pair_intro
  · run_from Cert.UpIdeal.Value.run_blocks m g
  · run_from Cert.UpRefIdeal.Value.run m' g'
    all_goals
      obtain ⟨X, G, W, h⟩ := given m hpre c
      obtain ⟨e0, e1, e2⟩ := hagree c
    · rw [Cert.UpRefIdeal.Read.val_main_v14_eq, Cert.UpIdeal.Arrays.final3 m c h]
      funext i
      idx_vars i
      exact Cert.UpRefIdeal.Out.v14 h.hx h.hg h.hw i0 i1

theorem frame_ref : Cert.quiescent_UpRefIdeal (hUpRefIdeal := Cert.UpRefIdeal.Gen.facts) := fun m ρ _ =>
  (θ_run _ _ _).mono (fun r h => ⟨fun c => (h c).2, sem_eq_zero_of_no_sems (by decide) r.2⟩)
    (Cert.UpRefIdeal.Value.run m ρ)

theorem frame_ref_pre [Cert.Pre_finite_up.Facts] :
    Cert.quiescent_UpRefIdeal_pre_finite_up (hUpRefIdeal := Cert.UpRefIdeal.Gen.facts) :=
  fun m ρ _ => frame_ref m ρ True.intro

end Cert.UpClaim

end
-- ==== Proof.Down.Spec.lean ====
/- The second product of the feed-forward, its norm and the residual, over the reals. -/
module

public import proofs.«01_k».proof.Proof.Ffn2.Spec

@[expose] public section

set_option maxRecDepth 16384

noncomputable section

namespace Cert.DownSpec

open Cert.Reals

/-- A row of the block's output: `X` plus the norm of the row `F` with gain `G`. -/
def out_row (F X G : Fin 1024 → ℝ) (l : Fin 1024) : ℝ := X l + F l * rr F 1024 * G l

end Cert.DownSpec

end
-- ==== Proof.Down.Pay.lean ====
/- What the body of the second product stores, at finite blocks. -/
module

public import proofs.«01_k».proof.Proof.Gen.DownIdeal.Skeleton
public import proofs.«01_k».proof.Proof.Down.Spec

@[expose] public section

set_option maxRecDepth 16384

noncomputable section

namespace Cert.DownIdeal.Pay

open Cert.DownIdeal Cert.DownIdeal.Gen Cert.Reals Cert.Ffn2Spec Cert.DownSpec
open Idealize.ShloMosaic Idealize.ShloMosaic.TcCoe Idealize.SL.Sem

/-- The product at a block's rows. -/
def fb (A : Fin 512 → Fin 4096 → ℝ) (W : Fin 4096 → Fin 1024 → ℝ) (r : Fin 512) (l : Fin 1024) : ℝ :=
  ∑ k, max (A r k) 0 * max (A r k) 0 * W k l

variable {a : FVec Ideal S512x4096 .bf16} {w : FVec Ideal S4096x1024 .bf16} {x : FVec Ideal S512x1024 .f32} {g : FVec Ideal S1x1024 .f32}
variable {A : Fin 512 → Fin 4096 → ℝ} {W : Fin 4096 → Fin 1024 → ℝ} {X : Fin 512 → Fin 1024 → ℝ} {G : Fin 1024 → ℝ}
variable (ha : ∀ r k, a (ix2 r k) = ((A r k : ℝ) : EReal)) (hw : ∀ k l, w (ix2 k l) = ((W k l : ℝ) : EReal))
  (hx : ∀ r l, x (ix2 r l) = ((X r l : ℝ) : EReal)) (hg : ∀ l, g (ix2 0 l) = ((G l : ℝ) : EReal))

include ha hw in
theorem pay1 (r : Fin 512) (l : Fin 1024) : k0_pay1 (F := Ideal) a w (ix2 r l) = ((fb A W r l : ℝ) : EReal) := by
  pointwise [k0_pay1]
  simp only [ha, hw, max_zero, ← EReal.coe_mul, sum_coe]
  rfl

include ha hw hx hg in
theorem pay2 (r : Fin 512) (l : Fin 1024) :
    k0_pay2 (F := Ideal) a w x g (ix2 r l) = ((out_row (fb A W r) (X r) G l : ℝ) : EReal) := by
  pointwise [k0_pay2]
  simp only [pay1 ha hw, hx, hg, eps_word, w1024, ← EReal.coe_mul, sum_coe, zero_add, div_1024, ← EReal.coe_add, rsqrt_mean]
  rfl

end Cert.DownIdeal.Pay

end
-- ==== Proof.Down.Kernel.lean ====
/- The two arrays the second product leaves, at finite arguments. -/
module

public import proofs.«01_k».proof.Proof.Gen.DownIdeal.Value
public import proofs.«01_k».proof.Proof.Down.Pay
public import Idealize.ShloMosaic.Lib.Pipeline.ValueKit
public import Idealize.ShloMosaic.Lib.StableHlo.RunRead

@[expose] public section

set_option maxRecDepth 16384

noncomputable section

namespace Cert.DownIdeal.Arrays

open Cert.DownIdeal Cert.DownIdeal.Gen Cert.Reals Cert.Ffn2Spec Cert.DownSpec
open Idealize.ShloMosaic Idealize.ShloMosaic.TcCoe Idealize.SL.Sem
open Idealize.ShloMosaic.Pipeline (Dat)

variable (m : (ℓ : Loc nD τ sig) → Buf (Elt Ideal) ℓ) (c : Dev nD)

abbrev A0 : FVec Ideal S8192x4096 .f32 := m ((c : Thread nD τ).loc main_arg0)
abbrev A1 : FVec Ideal S4096x1024 .f32 := m ((c : Thread nD τ).loc main_arg1)
abbrev A2 : FVec Ideal S8192x1024 .f32 := m ((c : Thread nD τ).loc main_arg2)
abbrev A3 : FVec Ideal S1024 .f32 := m ((c : Thread nD τ).loc main_arg3)

/-- The arguments are these reals. -/
structure Given (A : Fin 8192 → Fin 4096 → ℝ) (W : Fin 4096 → Fin 1024 → ℝ) (X : Fin 8192 → Fin 1024 → ℝ) (G : Fin 1024 → ℝ) : Prop where
  ha : ∀ i k, A0 m c (ix2 i k) = ((A i k : ℝ) : EReal)
  hw : ∀ k l, A1 m c (ix2 k l) = ((W k l : ℝ) : EReal)
  hx : ∀ i l, A2 m c (ix2 i l) = ((X i l : ℝ) : EReal)
  hg : ∀ l, A3 m c (ix1 l) = ((G l : ℝ) : EReal)

theorem V_a : V m c main_v0 = truncf (F := Ideal) .bf16 (A0 m c) bitsLt_bf16_f32 := by
  unfold V hostOps0
  after_reads_simp
theorem V_w : V m c main_v1 = truncf (F := Ideal) .bf16 (A1 m c) bitsLt_bf16_f32 := by
  unfold V hostOps0
  after_reads_simp
theorem V_g : V m c main_v2 = broadcastInDim S1x1024 ![1] bcast_S1024_S1x1024_1 (A3 m c) := by
  unfold V hostOps0
  after_reads_simp
theorem V_x : V m c main_arg2 = A2 m c := by
  unfold V hostOps0
  after_reads_simp

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The row of the array that row `r` of point `t`'s block is. -/
abbrev row (t : Fin cfg0.N) (r : Fin 512) : Fin 8192 := ⟨t.val * 512 + r.val, by have := lt_of_lt_of_eq t.isLt N_0; omega⟩

variable {A : Fin 8192 → Fin 4096 → ℝ} {W : Fin 4096 → Fin 1024 → ℝ} {X : Fin 8192 → Fin 1024 → ℝ} {G : Fin 1024 → ℝ}
variable (h : Given m c A W X G)
include h

theorem blk0 (t : Fin cfg0.N) (r : Fin 512) (k : Fin 4096) : (iblk m c 0 t : FVec Ideal S512x4096 .bf16) (ix2 r k) = ((A (row t r) k : ℝ) : EReal) := by
  refine Eq.trans (b := V m c main_v0 (ix2 (row t r) k)) ?_ ?_
  · blk_simp [iblk, idx t]
    refine congrArg (V m c main_v0) ?_
    blk_ext [idx t]
  · rw [V_a]; pointwise; exact h.ha _ k

theorem blk1 (t : Fin cfg0.N) (k : Fin 4096) (l : Fin 1024) : (iblk m c 1 t : FVec Ideal S4096x1024 .bf16) (ix2 k l) = ((W k l : ℝ) : EReal) := by
  refine Eq.trans (b := V m c main_v1 (ix2 k l)) ?_ ?_
  · blk_simp [iblk, idx t]
    refine congrArg (V m c main_v1) ?_
    blk_ext [idx t]
  · rw [V_w]; pointwise; exact h.hw k l

theorem blk2 (t : Fin cfg0.N) (r : Fin 512) (l : Fin 1024) : (iblk m c 2 t : FVec Ideal S512x1024 .f32) (ix2 r l) = ((X (row t r) l : ℝ) : EReal) := by
  rw [← h.hx, ← V_x m c]
  blk_simp [iblk, idx t]
  refine congrArg (V m c main_arg2) ?_
  blk_ext [idx t]

theorem blk3 (t : Fin cfg0.N) (l : Fin 1024) : (iblk m c 3 t : FVec Ideal S1x1024 .f32) (ix2 0 l) = ((G l : ℝ) : EReal) := by
  refine Eq.trans (b := V m c main_v2 (ix2 0 l)) ?_ ?_
  · blk_simp [iblk, idx t]
    refine congrArg (V m c main_v2) ?_
    blk_ext [idx t]
  · rw [V_g]; pointwise; exact h.hg l

theorem final4 : ((dats m 0 c).arrAt 4 cfg0.N : FVec Ideal S8192x1024 .f32)
    = fun i => ((out_row (f A W (i 0)) (X (i 0)) G (i 1) : ℝ) : EReal) := by
  refine (dats m 0 c).arrAt_eq_of_covers 4 _ (by decide +kernel) fun t hf y => ?_
  blk_simp
  rw [after0_4]
  obtain ⟨r, l, rfl⟩ : ∃ (r : Fin 512) (l : Fin 1024), y = ix2 r l := ⟨y 0, y 1, by idx_vars y⟩
  have e : (win0_4.blk t).view.emb (ix2 r l) = ix2 (row t r) l := by blk_ext [idx t]
  rw [e]
  unfold out0_4
  frame_out
  exact Pay.pay2 (blk0 m c h t) (blk1 m c h t) (blk2 m c h t) (blk3 m c h t) r l

theorem final5 : ((dats m 0 c).arrAt 5 cfg0.N : FVec Ideal S8192x1024 .f32) = fun i => ((f A W (i 0) (i 1) : ℝ) : EReal) := by
  refine (dats m 0 c).arrAt_eq_of_covers 5 _ (by decide +kernel) fun t hf y => ?_
  blk_simp
  rw [after0_5]
  obtain ⟨r, l, rfl⟩ : ∃ (r : Fin 512) (l : Fin 1024), y = ix2 r l := ⟨y 0, y 1, by idx_vars y⟩
  have e : (win0_5.blk t).view.emb (ix2 r l) = ix2 (row t r) l := by blk_ext [idx t]
  rw [e]
  unfold out0_5
  frame_out
  exact Pay.pay1 (blk0 m c h t) (blk1 m c h t) r l

end Cert.DownIdeal.Arrays

end
-- ==== Proof.Down.Ref.lean ====
/- The reference's two results at finite arguments. -/
module

public import proofs.«01_k».proof.Proof.Gen.DownRefIdeal.Read
public import proofs.«01_k».proof.Proof.Down.Spec

@[expose] public section

set_option maxRecDepth 16384

noncomputable section

namespace Cert.DownRefIdeal.Out

open Cert.DownRefIdeal Cert.DownRefIdeal.Gen Cert.DownRefIdeal.Read Cert.Reals Cert.Ffn2Spec Cert.DownSpec
open Idealize.ShloMosaic Idealize.ShloMosaic.TcCoe Idealize.SL.Sem

variable {a : FVec Ideal S8192x4096 .f32} {w : FVec Ideal S4096x1024 .f32} {g : FVec Ideal S1024 .f32} {x : FVec Ideal S8192x1024 .f32}
variable {A : Fin 8192 → Fin 4096 → ℝ} {W : Fin 4096 → Fin 1024 → ℝ} {G : Fin 1024 → ℝ} {X : Fin 8192 → Fin 1024 → ℝ}
variable (ha : ∀ i k, a (ix2 i k) = ((A i k : ℝ) : EReal)) (hw : ∀ k l, w (ix2 k l) = ((W k l : ℝ) : EReal))
  (hx : ∀ i l, x (ix2 i l) = ((X i l : ℝ) : EReal)) (hg : ∀ l, g (ix1 l) = ((G l : ℝ) : EReal))

include ha hw in
theorem v2 (i : Fin 8192) (l : Fin 1024) : val_main_v2 (F := Ideal) a w (ix2 i l) = ((f A W i l : ℝ) : EReal) := by
  pointwise [val_main_v2, val_main_v1, val_main_v0, val_main_call0_v0, val_main_call0_cst]
  simp only [ha, hw, max_zero, ← EReal.coe_mul, sum_coe]; rfl

include ha hw hx hg in
theorem v16 (i : Fin 8192) (l : Fin 1024) :
    val_main_v16 (F := Ideal) a w x g (ix2 i l) = ((out_row (f A W i) (X i) G l : ℝ) : EReal) := by
  pointwise [val_main_v16, val_main_v15, val_main_v14, val_main_v13, val_main_v12, val_main_v11, val_main_v10, val_main_v9,
    val_main_v8, val_main_v7, val_main_v6, val_main_v5, val_main_v4, val_main_v3, val_main_cst, val_main_cst_0, val_main_cst_1]
  simp only [v2 ha hw, hx, hg, eps_word, w1024, ← EReal.coe_mul, sum_coe, zero_add, div_1024, ← EReal.coe_add, rsqrt_mean]
  rfl

end Cert.DownRefIdeal.Out

end
-- ==== Proof.Down.Pre.lean ====
/- The precondition read back: the arguments are arrays of reals. -/
module

public import proofs.«01_k».proof.Pre_finite_down
public import proofs.«01_k».proof.Proof.Kit.Reals

@[expose] public section

set_option maxRecDepth 16384

noncomputable section

namespace Cert.Pre_finite_down.Read

open Cert.Pre_finite_down Cert.Reals Idealize.ShloMosaic

variable [Facts]

theorem reals (a : FVec Ideal S8192x4096 .f32) (w : FVec Ideal S4096x1024 .f32) (x : FVec Ideal S8192x1024 .f32) (g : FVec Ideal S1024 .f32)
    (h : fn (F := Ideal) a w x g = fun _ => 1#1) :
    (∃ A : S8192x4096.Idx → ℝ, a = up A)
      ∧ (∃ W : S4096x1024.Idx → ℝ, w = up W)
      ∧ (∃ X : S8192x1024.Idx → ℝ, x = up X)
      ∧ (∃ G : S1024.Idx → ℝ, g = up G) := by
  have h := congrFun h (fun k => k.elim0)
  unfold fn fn_part1 at h
  obtain ⟨h, h4⟩ := IntOp.andi_eq_one.1 h
  obtain ⟨h, h3⟩ := IntOp.andi_eq_one.1 h
  obtain ⟨h1, h2⟩ := IntOp.andi_eq_one.1 h
  haveI : Subsingleton S_.Idx := ⟨fun p q => funext fun k => k.elim0⟩
  exact ⟨reals_of_all _ _ (fun _ => rfl) _ _ _ _ h1,
    reals_of_all _ _ (fun _ => rfl) _ _ _ _ h2,
    reals_of_all _ _ (fun _ => rfl) _ _ _ _ h3,
    reals_of_all _ _ (fun _ => rfl) _ _ _ _ h4⟩

end Cert.Pre_finite_down.Read

end
-- ==== Proof.Down.Claim.lean ====
/- The value claim of the second product of the feed-forward, its norm and the residual. -/
module

public import proofs.«01_k».proof.Defs
public import proofs.«01_k».proof.Proof.Down.Kernel
public import proofs.«01_k».proof.Proof.Down.Ref
public import proofs.«01_k».proof.Proof.Down.Pre
public import proofs.«01_k».proof.Proof.Gen.DownRefIdeal.Run
public import Idealize.ShloMosaic.Lib.Claim

@[expose] public section

set_option maxRecDepth 16384

noncomputable section

namespace Cert.DownClaim

open Idealize.ShloMosaic Idealize.ShloMosaic.TcCoe Idealize.SL.Sem

theorem given [Cert.Pre_finite_down.Facts]
    (m : (ℓ : Loc Cert.DownIdeal.nD Cert.DownIdeal.τ Cert.DownIdeal.sig) → Buf (Elt Ideal) ℓ)
    (h : Cert.Pre_DownIdeal_finite_down m) (c : Dev Cert.DownIdeal.nD) :
    ∃ A W X G, Cert.DownIdeal.Arrays.Given m c A W X G := by
  obtain ⟨⟨A, hA⟩, ⟨W, hW⟩, ⟨X, hX⟩, ⟨G, hG⟩⟩ := Cert.Pre_finite_down.Read.reals _ _ _ _ (h c)
  exact ⟨fun i j => A (ix2 i j), fun i j => W (ix2 i j), fun i j => X (ix2 i j), fun i => G (ix1 i),
    fun _ _ => congrFun hA _, fun _ _ => congrFun hW _, fun _ _ => congrFun hX _, fun _ => congrFun hG _⟩

theorem algebraic [Cert.Pre_finite_down.Facts] :
    Cert.algebraic_DownIdeal_DownRefIdeal_pre_finite_down (hDownIdeal := Cert.DownIdeal.Gen.facts)
      (hDownRefIdeal := Cert.DownRefIdeal.Gen.facts) := by
  pair_intro
  · run_from Cert.DownIdeal.Value.run_blocks m g
  · run_from Cert.DownRefIdeal.Value.run m' g'
    all_goals
      obtain ⟨A, W, X, G, h⟩ := given m hpre c
      obtain ⟨e0, e1, e2, e3⟩ := hagree c
    · rw [Cert.DownRefIdeal.Read.val_main_v16_eq, Cert.DownIdeal.Arrays.final4 m c h]
      funext i
      idx_vars i
      exact Cert.DownRefIdeal.Out.v16 h.ha h.hw h.hx h.hg i0 i1
    · show Cert.DownRefIdeal.Read.val_main_v2 (F := Ideal) (Cert.DownIdeal.Arrays.A0 m c) (Cert.DownIdeal.Arrays.A1 m c) = _
      rw [Cert.DownIdeal.Arrays.final5 m c h]
      funext i
      idx_vars i
      exact Cert.DownRefIdeal.Out.v2 h.ha h.hw i0 i1

theorem frame_ref : Cert.quiescent_DownRefIdeal (hDownRefIdeal := Cert.DownRefIdeal.Gen.facts) := fun m ρ _ =>
  (θ_run _ _ _).mono (fun r h => ⟨fun c => (h c).2.2, sem_eq_zero_of_no_sems (by decide) r.2⟩)
    (Cert.DownRefIdeal.Value.run m ρ)

theorem frame_ref_pre [Cert.Pre_finite_down.Facts] :
    Cert.quiescent_DownRefIdeal_pre_finite_down (hDownRefIdeal := Cert.DownRefIdeal.Gen.facts) :=
  fun m ρ _ => frame_ref m ρ True.intro

end Cert.DownClaim

end
-- ==== Proof.Prep.Spec.lean ====
/- The rotated queries, the rotated keys and the values with their lane of ones, as the reference orders them and as the kernel pads them. -/
module

public import proofs.«01_k».proof.Proof.Qkv.Spec

@[expose] public section

set_option maxRecDepth 16384

noncomputable section

namespace Cert.PrepSpec

open Cert.Reals Cert.QkvSpec

/-- Head `h`'s query, lane `j`: its plain lanes, then its rotary lanes rotated, then zeros. -/
def qs (Q C S : ℕ → ℝ) (h j : ℕ) : ℝ :=
  if j < 64 then Q (96 * h + j) else if j < 80 then Q (96 * h + j) * C (j - 64) - Q (96 * h + (j + 16)) * S (j - 64)
    else if j < 96 then Q (96 * h + j) * C (j - 80) + Q (96 * h + (j - 16)) * S (j - 80) else 0

/-- Head `h`'s key, lane `j`: its plain lanes, then the rotary key that the heads share, rotated, then zeros. -/
def ks (U P C S : ℕ → ℝ) (h j : ℕ) : ℝ :=
  if j < 64 then U (128 * h + j) else if j < 80 then P (384 + (j - 64)) * C (j - 64) - P (384 + (j - 48)) * S (j - 64)
    else if j < 96 then P (384 + (j - 64)) * C (j - 80) + P (384 + (j - 80)) * S (j - 80) else 0

/-- The lane of ones. -/
def one (j : ℕ) : ℝ := if j = 64 then 1 else 0

/-- Head `h`'s value, lane `j`: its lanes, then a one, then zeros. -/
def vs (U : ℕ → ℝ) (h j : ℕ) : ℝ := if j < 64 then U (128 * h + (64 + j)) else if j = 64 then 1 else 0

/-- The rotary key between zeros. -/
def kp (P : ℕ → ℝ) (j : ℕ) : ℝ := if j < 64 then 0 else if j < 96 then P (384 + (j - 64)) else 0

/-- The same with its halves exchanged and the first negated. -/
def kx (P : ℕ → ℝ) (j : ℕ) : ℝ := if j < 64 then 0 else if j < 80 then -P (384 + (j - 48)) else if j < 96 then P (384 + (j - 80)) else 0

variable {n : ℕ} (N : Fin n → ℝ) (W : Fin n → ℕ → ℝ) (P C S : ℕ → ℝ) (h j : ℕ)

/-- A row against column `k` of a weight. -/
def dot (k : ℕ) : ℝ := ∑ l, N l * W l k

theorem query (hh : h < 4) (hj : j < 128) :
    dot N (fun l => wq (W l)) (h * 128 + j) * tab 1 C j + dot N (fun l => wq (W l)) (512 + (h * 128 + j)) * tab 0 S j = qs (dot N W) C S h j := by
  unfold dot
  simp only [wq_lo _ h j hh hj, wq_hi _ h j hj]
  unfold qs tab
  split_ifs <;> first | omega | ((try simp only [mul_neg, Finset.sum_neg_distrib, mul_zero, Finset.sum_const_zero]) <;> ring)

theorem key (hh : h < 4) (hj : j < 128) :
    dot N (fun l => wkv (W l)) (h * 128 + j) + (kp P j * tab 0 C j + kx P j * tab 0 S j) = ks (dot N W) P C S h j := by
  unfold dot
  simp only [wkv_lo _ h j hh hj]
  unfold ks kp kx tab
  split_ifs <;> first | omega | ((try simp only [mul_zero, Finset.sum_const_zero]) <;> ring)

theorem value (hj : j < 128) : dot N (fun l => wkv (W l)) (512 + (h * 128 + j)) + one j = vs (dot N W) h j := by
  unfold dot
  simp only [wkv_hi _ h j hj]
  unfold vs one
  split_ifs <;> first | omega | ((try simp only [mul_zero, Finset.sum_const_zero]) <;> ring)

end Cert.PrepSpec

end
-- ==== Proof.Prep.Pay.lean ====
/- What the body of the query and key preparation stores, at finite blocks. -/
module

public import proofs.«01_k».proof.Proof.Gen.PrepIdeal.Skeleton
public import proofs.«01_k».proof.Proof.Prep.Spec
public import Idealize.ShloMosaic.Lib.Pipeline.ValueKit

@[expose] public section

set_option maxRecDepth 16384

noncomputable section

namespace Cert.PrepIdeal.Pay

open Cert.PrepIdeal Cert.PrepIdeal.Gen Cert.Reals Cert.QkvSpec Cert.PrepSpec
open Idealize.ShloMosaic Idealize.ShloMosaic.TcCoe Idealize.SL.Sem

theorem real_eq {f : ℕ → ℝ} {a b : ℕ} (h : a = b) : ((f a : ℝ) : EReal) = ((f b : ℝ) : EReal) := by rw [h]

section queries

variable {c : FVec Ideal S512x256 .bf16} {g : FVec Ideal S1x256 .f32} {w : FVec Ideal S256x1024 .bf16} {X : Fin 512 → Fin 256 → ℝ} {G : Fin 256 → ℝ}
  {W : Fin 256 → ℕ → ℝ}

theorem pay9 (hx : ∀ r l, c (ix2 r l) = ((X r l : ℝ) : EReal)) (hg : ∀ l, g (ix2 0 l) = ((G l : ℝ) : EReal))
    (hw : ∀ l (n : Fin 1024), w (ix2 l n) = ((W l n.val : ℝ) : EReal)) (r : Fin 512) (n : Fin 1024) :
    k0_pay9 (F := Ideal) c g w (ix2 r n) = ((dot (nx 256 (X r) G) W n.val : ℝ) : EReal) := by
  pointwise [k0_pay9]
  simp only [hx, hg, hw, eps_word, w256, ← EReal.coe_mul, sum_coe, zero_add, div_256, ← EReal.coe_add, rsqrt_256]
  rfl

variable {A : FVec Ideal S512x1024 .f32} {N : Fin 512 → Fin 256 → ℝ} {C S : Fin 512 → ℕ → ℝ} {ct st : FVec Ideal S512x128 .f32}
variable (ha : ∀ r (n : Fin 1024), A (ix2 r n) = ((dot (N r) (fun l => wq (W l)) n.val : ℝ) : EReal))
  (hc : ∀ r (j : Fin 128), ct (ix2 r j) = ((tab 1 (C r) j.val : ℝ) : EReal)) (hs : ∀ r (j : Fin 128), st (ix2 r j) = ((tab 0 (S r) j.val : ℝ) : EReal))

theorem rot {f : ℕ → ℝ} {a b a' b' : ℕ} {x y : ℝ} (h0 : a = a') (h1 : b = b') : ((f a * x + f b * y : ℝ) : EReal) = ((f a' * x + f b' * y : ℝ) : EReal) := by
  rw [h0, h1]

include ha hc hs

theorem q0 (r : Fin 512) (j : Fin 128) :
    k0_pay16 (F := Ideal) (k0_pay6 ct) (k0_pay7 st) A (ix3 0 r j) = ((qs (dot (N r) W) (C r) (S r) 0 j.val : ℝ) : EReal) := by
  rw [← query (N r) W (C r) (S r) 0 j.val (by norm_num) j.isLt]
  pointwise [k0_pay16, k0_pay6, k0_pay7]
  simp only [ha, hc, hs, ← EReal.coe_mul, ← EReal.coe_add] <;> exact rot (by omega) (by omega)

theorem q1 (r : Fin 512) (j : Fin 128) :
    k0_pay20 (F := Ideal) (k0_pay6 ct) (k0_pay7 st) A (ix3 0 r j) = ((qs (dot (N r) W) (C r) (S r) 1 j.val : ℝ) : EReal) := by
  rw [← query (N r) W (C r) (S r) 1 j.val (by norm_num) j.isLt]
  pointwise [k0_pay20, k0_pay6, k0_pay7]
  simp only [ha, hc, hs, ← EReal.coe_mul, ← EReal.coe_add] <;> exact rot (by omega) (by omega)

theorem q2 (r : Fin 512) (j : Fin 128) :
    k0_pay23 (F := Ideal) (k0_pay6 ct) (k0_pay7 st) A (ix3 0 r j) = ((qs (dot (N r) W) (C r) (S r) 2 j.val : ℝ) : EReal) := by
  rw [← query (N r) W (C r) (S r) 2 j.val (by norm_num) j.isLt]
  pointwise [k0_pay23, k0_pay6, k0_pay7]
  simp only [ha, hc, hs, ← EReal.coe_mul, ← EReal.coe_add] <;> exact rot (by omega) (by omega)

theorem q3 (r : Fin 512) (j : Fin 128) :
    k0_pay3 (F := Ideal) (k0_pay6 ct) (k0_pay7 st) A (ix3 0 r j) = ((qs (dot (N r) W) (C r) (S r) 3 j.val : ℝ) : EReal) := by
  rw [← query (N r) W (C r) (S r) 3 j.val (by norm_num) j.isLt]
  pointwise [k0_pay3, k0_pay6, k0_pay7]
  simp only [ha, hc, hs, ← EReal.coe_mul, ← EReal.coe_add] <;> exact rot (by omega) (by omega)

end queries

section keys

variable {c : FVec Ideal S512x128 .bf16} {g : FVec Ideal S1x128 .f32} {w : FVec Ideal S128x1024 .bf16} {X : Fin 512 → Fin 128 → ℝ} {G : Fin 128 → ℝ}
  {W : Fin 128 → ℕ → ℝ}
variable (hx : ∀ r l, c (ix2 r l) = ((X r l : ℝ) : EReal)) (hg : ∀ l, g (ix2 0 l) = ((G l : ℝ) : EReal))
    (hw : ∀ l (n : Fin 1024), w (ix2 l n) = ((wkv (W l) n.val : ℝ) : EReal))

include hx hg hw in
theorem pay13 (r : Fin 512) (n : Fin 1024) :
    k0_pay13 (F := Ideal) (k0_pay10 c) (k0_pay11 g) (k0_pay12 c) w (ix2 r n) = ((dot (nx 128 (X r) G) (fun l => wkv (W l)) n.val : ℝ) : EReal) := by
  pointwise [k0_pay13, k0_pay10, k0_pay11, k0_pay12]
  simp only [hx, hg, hw, eps_word, w128, ← EReal.coe_mul, sum_coe, zero_add, div_128, ← EReal.coe_add, rsqrt_128]
  rfl

variable {C S Y : Fin 512 → ℕ → ℝ} {ct st : FVec Ideal S512x128 .f32} {y z : FVec Ideal S512x128 .bf16}

theorem pay14 (hc : ∀ r (j : Fin 128), ct (ix2 r j) = ((tab 0 (C r) j.val : ℝ) : EReal)) (hs : ∀ r (j : Fin 128), st (ix2 r j) = ((tab 0 (S r) j.val : ℝ) : EReal))
    (hy : ∀ r (j : Fin 128), y (ix2 r j) = ((kp (Y r) j.val : ℝ) : EReal)) (hz : ∀ r (j : Fin 128), z (ix2 r j) = ((kx (Y r) j.val : ℝ) : EReal))
    (r : Fin 512) (j : Fin 128) : k0_pay14 (F := Ideal) (k0_pay7 st) (k0_pay8 ct) y z (ix2 r j)
      = ((kp (Y r) j.val * tab 0 (C r) j.val + kx (Y r) j.val * tab 0 (S r) j.val : ℝ) : EReal) := by
  pointwise [k0_pay14, k0_pay7, k0_pay8]
  simp only [hc, hs, hy, hz, ← EReal.coe_mul, ← EReal.coe_add]

theorem pay15 (j : Fin 128) : k0_pay15 (F := Ideal) (ix2 0 j) = ((one j.val : ℝ) : EReal) := by
  pointwise [k0_pay15]
  have e : BitVec.setWidth 32 (IntOp.cmpi CmpIPredicate.eq (BitVec.ofNat 32 j.val) 64#32) = if j.val = 64 then 1#32 else 0#32 := by
    revert j; decide
  rw [e]
  unfold one
  show (((if j.val = 64 then 1#32 else 0#32 : BitVec 32).toInt : ℝ) : EReal) = _
  split_ifs <;> simp

theorem shift {f : ℕ → ℝ} {a a' : ℕ} {x : ℝ} (h0 : a = a') : ((f a + x : ℝ) : EReal) = ((f a' + x : ℝ) : EReal) := by rw [h0]

variable {A : FVec Ideal S512x1024 .f32} {N : Fin 512 → Fin 128 → ℝ} {k : FVec Ideal S512x128 .f32} {o : FVec Ideal S1x128 .f32}
variable (ha : ∀ r (n : Fin 1024), A (ix2 r n) = ((dot (N r) (fun l => wkv (W l)) n.val : ℝ) : EReal))
variable (hk : ∀ r (j : Fin 128), k (ix2 r j) = ((kp (Y r) j.val * tab 0 (C r) j.val + kx (Y r) j.val * tab 0 (S r) j.val : ℝ) : EReal))
variable (ho : ∀ j : Fin 128, o (ix2 0 j) = ((one j.val : ℝ) : EReal))

include ha hk in
theorem k1 (r : Fin 512) (j : Fin 128) : k0_pay21 (F := Ideal) A k (ix3 0 r j) = ((ks (dot (N r) W) (Y r) (C r) (S r) 1 j.val : ℝ) : EReal) := by
  rw [← key (N r) W (Y r) (C r) (S r) 1 j.val (by norm_num) j.isLt]
  pointwise [k0_pay21]
  simp only [ha, hk, ← EReal.coe_add] <;> exact shift (by omega)

include ha hk in
theorem k2 (r : Fin 512) (j : Fin 128) : k0_pay1 (F := Ideal) (k0_pay24 A k) (ix3 0 r j) = ((ks (dot (N r) W) (Y r) (C r) (S r) 2 j.val : ℝ) : EReal) := by
  rw [← key (N r) W (Y r) (C r) (S r) 2 j.val (by norm_num) j.isLt]
  pointwise [k0_pay1, k0_pay24]
  simp only [ha, hk, ← EReal.coe_add] <;> exact shift (by omega)

include ha hk in
theorem k3 (r : Fin 512) (j : Fin 128) : k0_pay4 (F := Ideal) A k (ix3 0 r j) = ((ks (dot (N r) W) (Y r) (C r) (S r) 3 j.val : ℝ) : EReal) := by
  rw [← key (N r) W (Y r) (C r) (S r) 3 j.val (by norm_num) j.isLt]
  pointwise [k0_pay4]
  simp only [ha, hk, ← EReal.coe_add] <;> exact shift (by omega)

include ha ho in
theorem v1 (r : Fin 512) (j : Fin 128) : k0_pay22 (F := Ideal) A o (ix3 0 r j) = ((vs (dot (N r) W) 1 j.val : ℝ) : EReal) := by
  rw [← value (N r) W 1 j.val j.isLt]
  pointwise [k0_pay22]
  simp only [ha, ho, ← EReal.coe_add] <;> exact shift (by omega)

include ha ho in
theorem v2 (r : Fin 512) (j : Fin 128) : k0_pay2 (F := Ideal) A o (ix3 0 r j) = ((vs (dot (N r) W) 2 j.val : ℝ) : EReal) := by
  rw [← value (N r) W 2 j.val j.isLt]
  pointwise [k0_pay2]
  simp only [ha, ho, ← EReal.coe_add] <;> exact shift (by omega)

include ha ho in
theorem v3 (r : Fin 512) (j : Fin 128) : k0_pay5 (F := Ideal) A o (ix3 0 r j) = ((vs (dot (N r) W) 3 j.val : ℝ) : EReal) := by
  rw [← value (N r) W 3 j.val j.isLt]
  pointwise [k0_pay5]
  simp only [ha, ho, ← EReal.coe_add] <;> exact shift (by omega)

include hx hg hw in
theorem v0 (r : Fin 512) (j : Fin 128) : k0_pay19 (F := Ideal) (k0_pay18 (k0_pay10 c) (k0_pay11 g) (k0_pay12 c) w) (ix3 0 r j)
    = ((vs (dot (nx 128 (X r) G) W) 0 j.val : ℝ) : EReal) := by
  rw [← value (nx 128 (X r) G) W 0 j.val j.isLt]
  pointwise [k0_pay19, k0_pay18]
  simp only [pay13 hx hg hw, pay15, ← EReal.coe_add] <;> exact shift (by omega)

include hx hg hw in
theorem k0 (hc : ∀ r (j : Fin 128), ct (ix2 r j) = ((tab 0 (C r) j.val : ℝ) : EReal)) (hs : ∀ r (j : Fin 128), st (ix2 r j) = ((tab 0 (S r) j.val : ℝ) : EReal))
    (hy : ∀ r (j : Fin 128), y (ix2 r j) = ((kp (Y r) j.val : ℝ) : EReal)) (hz : ∀ r (j : Fin 128), z (ix2 r j) = ((kx (Y r) j.val : ℝ) : EReal))
    (r : Fin 512) (j : Fin 128) : k0_pay17 (F := Ideal) (k0_pay7 st) (k0_pay8 ct) (k0_pay10 c) (k0_pay11 g) (k0_pay12 c) w y z (ix3 0 r j)
      = ((ks (dot (nx 128 (X r) G) W) (Y r) (C r) (S r) 0 j.val : ℝ) : EReal) := by
  rw [← key (nx 128 (X r) G) W (Y r) (C r) (S r) 0 j.val (by norm_num) j.isLt]
  pointwise [k0_pay17]
  simp only [pay13 hx hg hw, pay14 hc hs hy hz, ← EReal.coe_add] <;> exact shift (by omega)

end keys

end Cert.PrepIdeal.Pay

end
-- ==== Proof.Prep.Host.lean ====
/- The operands that the host lines before the region prepare: padded weights, tables, and the packed projection. -/
module

public import proofs.«01_k».proof.Proof.Gen.PrepIdeal.Frame
public import proofs.«01_k».proof.Proof.Prep.Pay
public import Idealize.ShloMosaic.Lib.Claim
public import Idealize.ShloMosaic.Lib.StableHlo.RunRead

@[expose] public section

set_option maxRecDepth 16384

noncomputable section

namespace Cert.PrepIdeal.Host

open Cert.PrepIdeal Cert.PrepIdeal.Gen Cert.PrepIdeal.Pay Cert.Reals Cert.QkvSpec Cert.PrepSpec
open Idealize.ShloMosaic Idealize.ShloMosaic.TcCoe Idealize.SL.Sem

/-- The query weight by heads. -/
def headsQ (w : FVec Ideal S256x384 .f32) : FVec Ideal S256x4x96 .bf16 :=
  shapeCast S256x4x96 (truncf (F := Ideal) .bf16 w bitsLt_bf16_f32) shapeCasts_S256x384_S256x4x96

/-- A head's rotary weight columns, swapped. -/
def swapQ (w : FVec Ideal S256x4x32 .bf16) : FVec Ideal S256x4x32 .bf16 :=
  concatenate S256x4x32 2 [⟨S256x4x16, Host.negf (extractStridedSlice S256x4x16 ![0, 0, 16] w slices_S256x4x32_S256x4x16_0_0_16)⟩,
    ⟨S256x4x16, extractStridedSlice S256x4x16 ![0, 0, 0] w slices_S256x4x32_S256x4x16_0_0_0⟩] concatenates_S256x4x16_S256x4x16_S256x4x32_d2

/-- The query weight, padded, then swapped and padded. -/
def padQ (w : FVec Ideal S256x4x96 .bf16) : FVec Ideal S256x1024 .bf16 :=
  concatenate S256x1024 1 [⟨S256x512, shapeCast S256x512 (concatenate S256x4x128 2
      [⟨S256x4x64, extractStridedSlice S256x4x64 ![0, 0, 0] w slices_S256x4x96_S256x4x64_0_0_0⟩,
        ⟨S256x4x32, extractStridedSlice S256x4x32 ![0, 0, 64] w slices_S256x4x96_S256x4x32_0_0_64⟩,
        ⟨S256x4x32, broadcastInDim S256x4x32 ![] bcast_S_S256x4x32 (constant S_ .bf16 0x0000#16)⟩]
        concatenates_S256x4x64_S256x4x32_S256x4x32_S256x4x128_d2) shapeCasts_S256x4x128_S256x512⟩,
    ⟨S256x512, shapeCast S256x512 (concatenate S256x4x128 2
      [⟨S256x4x64, broadcastInDim S256x4x64 ![] bcast_S_S256x4x64 (constant S_ .bf16 0x0000#16)⟩,
        ⟨S256x4x32, swapQ (extractStridedSlice S256x4x32 ![0, 0, 64] w slices_S256x4x96_S256x4x32_0_0_64)⟩,
        ⟨S256x4x32, broadcastInDim S256x4x32 ![] bcast_S_S256x4x32 (constant S_ .bf16 0x0000#16)⟩]
        concatenates_S256x4x64_S256x4x32_S256x4x32_S256x4x128_d2) shapeCasts_S256x4x128_S256x512⟩]
    concatenates_S256x512_S256x512_S256x1024_d1

/-- The keys' and values' weight by heads. -/
def headsK (w : FVec Ideal S128x512 .f32) : FVec Ideal S128x4x128 .bf16 :=
  shapeCast S128x4x128 (truncf (F := Ideal) .bf16 w bitsLt_bf16_f32) shapeCasts_S128x512_S128x4x128

/-- The key columns padded, then the value columns padded. -/
def padK (w : FVec Ideal S128x4x128 .bf16) : FVec Ideal S128x1024 .bf16 :=
  concatenate S128x1024 1 [⟨S128x512, shapeCast S128x512 (concatenate S128x4x128 2
      [⟨S128x4x64, extractStridedSlice S128x4x64 ![0, 0, 0] w slices_S128x4x128_S128x4x64_0_0_0⟩,
        ⟨S128x4x64, broadcastInDim S128x4x64 ![] bcast_S_S128x4x64 (constant S_ .bf16 0x0000#16)⟩]
        concatenates_S128x4x64_S128x4x64_S128x4x128_d2) shapeCasts_S128x4x128_S128x512⟩,
    ⟨S128x512, shapeCast S128x512 (concatenate S128x4x128 2
      [⟨S128x4x64, extractStridedSlice S128x4x64 ![0, 0, 64] w slices_S128x4x128_S128x4x64_0_0_64⟩,
        ⟨S128x4x64, broadcastInDim S128x4x64 ![] bcast_S_S128x4x64 (constant S_ .bf16 0x0000#16)⟩]
        concatenates_S128x4x64_S128x4x64_S128x4x128_d2) shapeCasts_S128x4x128_S128x512⟩]
    concatenates_S128x512_S128x512_S128x1024_d1

/-- A table twice between the constant `a` and zeros. -/
def tabs (a : BitVec 32) (t : FVec Ideal S8192x16 .f32) : FVec Ideal S8192x128 .f32 :=
  concatenate S8192x128 1 [⟨S8192x64, broadcastInDim S8192x64 ![] bcast_S_S8192x64 (constant S_ .f32 a)⟩, ⟨S8192x16, t⟩, ⟨S8192x16, t⟩,
    ⟨S8192x32, broadcastInDim S8192x32 ![] bcast_S_S8192x32 (constant S_ .f32 0x00000000#32)⟩]
    concatenates_S8192x64_S8192x16_S8192x16_S8192x32_S8192x128_d1

def padP (w : FVec Ideal S8192x32 .bf16) : FVec Ideal S8192x128 .bf16 :=
  concatenate S8192x128 1 [⟨S8192x64, broadcastInDim S8192x64 ![] bcast_S_S8192x64 (constant S_ .bf16 0x0000#16)⟩, ⟨S8192x32, w⟩,
    ⟨S8192x32, broadcastInDim S8192x32 ![] bcast_S_S8192x32 (constant S_ .bf16 0x0000#16)⟩] concatenates_S8192x64_S8192x32_S8192x32_S8192x128_d1

def swapP (w : FVec Ideal S8192x32 .bf16) : FVec Ideal S8192x32 .bf16 :=
  concatenate S8192x32 1 [⟨S8192x16, Host.negf (extractStridedSlice S8192x16 ![0, 16] w slices_S8192x32_S8192x16_0_16)⟩,
    ⟨S8192x16, extractStridedSlice S8192x16 ![0, 0] w slices_S8192x32_S8192x16_0_0⟩] concatenates_S8192x16_S8192x16_S8192x32_d1

/-- The packed projection. -/
def packP (w : FVec Ideal S8192x6048 .bf16) : FVec Ideal S8192x6272 .bf16 :=
  concatenate S8192x6272 1 [⟨S8192x4096, extractStridedSlice S8192x4096 ![0, 1952] w slices_S8192x6048_S8192x4096_0_1952⟩,
    ⟨S8192x256, extractStridedSlice S8192x256 ![0, 416] w slices_S8192x6048_S8192x256_0_416⟩,
    ⟨S8192x256, extractStridedSlice S8192x256 ![0, 672] w slices_S8192x6048_S8192x256_0_672⟩,
    ⟨S8192x256, extractStridedSlice S8192x256 ![0, 1184] w slices_S8192x6048_S8192x256_0_1184⟩,
    ⟨S8192x256, extractStridedSlice S8192x256 ![0, 928] w slices_S8192x6048_S8192x256_0_928⟩,
    ⟨S8192x256, extractStridedSlice S8192x256 ![0, 1440] w slices_S8192x6048_S8192x256_0_1440⟩,
    ⟨S8192x256, extractStridedSlice S8192x256 ![0, 1696] w slices_S8192x6048_S8192x256_0_1696⟩,
    ⟨S8192x256, extractStridedSlice S8192x256 ![0, 0] w slices_S8192x6048_S8192x256_0_0⟩,
    ⟨S8192x128, extractStridedSlice S8192x128 ![0, 256] w slices_S8192x6048_S8192x128_0_256⟩,
    ⟨S8192x128, padP (extractStridedSlice S8192x32 ![0, 384] w slices_S8192x6048_S8192x32_0_384)⟩,
    ⟨S8192x128, padP (swapP (extractStridedSlice S8192x32 ![0, 384] w slices_S8192x6048_S8192x32_0_384))⟩]
    concatenates_S8192x4096_S8192x256_S8192x256_S8192x256_S8192x256_S8192x256_S8192x256_S8192x256_S8192x128_S8192x128_S8192x128_S8192x6272_d1

section values

theorem headsQ_at {w : FVec Ideal S256x384 .f32} {W : Fin 256 → ℕ → ℝ} (hw : ∀ l (n : Fin 384), w (ix2 l n) = ((W l n.val : ℝ) : EReal))
    (l : Fin 256) (h : Fin 4) (j : Fin 96) : headsQ w (ix3 l h j) = ((W l (96 * h.val + j.val) : ℝ) : EReal) := by
  pointwise [headsQ]
  simp only [hw]
  exact real_eq (by omega)

theorem headsK_at {w : FVec Ideal S128x512 .f32} {W : Fin 128 → ℕ → ℝ} (hw : ∀ l (n : Fin 512), w (ix2 l n) = ((W l n.val : ℝ) : EReal))
    (l : Fin 128) (h : Fin 4) (j : Fin 128) : headsK w (ix3 l h j) = ((W l (128 * h.val + j.val) : ℝ) : EReal) := by
  pointwise [headsK]
  simp only [hw]
  exact real_eq (by omega)

theorem neg_eq {f : ℕ → ℝ} {a b : ℕ} (h : a = b) : -((f a : ℝ) : EReal) = ((-f b : ℝ) : EReal) := by rw [h, EReal.coe_neg]

set_option maxHeartbeats 2000000 in
theorem padQ_at {w : FVec Ideal S256x4x96 .bf16} {W : Fin 256 → ℕ → ℝ} (hw : ∀ l (h : Fin 4) (j : Fin 96), w (ix3 l h j) = ((W l (96 * h.val + j.val) : ℝ) : EReal))
    (l : Fin 256) (n : Fin 1024) : padQ w (ix2 l n) = ((wq (W l) n.val : ℝ) : EReal) := by
  pointwise [padQ, swapQ]
  simp only [hw]
  unfold wq
  split_ifs <;> first | omega | exact EReal.coe_zero.symm | exact real_eq (by omega) | exact neg_eq (by omega)

set_option maxHeartbeats 2000000 in
theorem padK_at {w : FVec Ideal S128x4x128 .bf16} {W : Fin 128 → ℕ → ℝ} (hw : ∀ l (h : Fin 4) (j : Fin 128), w (ix3 l h j) = ((W l (128 * h.val + j.val) : ℝ) : EReal))
    (l : Fin 128) (n : Fin 1024) : padK w (ix2 l n) = ((wkv (W l) n.val : ℝ) : EReal) := by
  pointwise [padK]
  simp only [hw]
  unfold wkv
  split_ifs <;> first | omega | exact EReal.coe_zero.symm | exact real_eq (by omega)

theorem tabs_at {a : BitVec 32} {e : ℝ} (ha : Ideal.ofBits .f32 a = (e : EReal)) {t : FVec Ideal S8192x16 .f32} {C : Fin 8192 → ℕ → ℝ}
    (ht : ∀ i (n : Fin 16), t (ix2 i n) = ((C i n.val : ℝ) : EReal)) (i : Fin 8192) (n : Fin 128) : tabs a t (ix2 i n) = ((tab e (C i) n.val : ℝ) : EReal) := by
  pointwise [tabs]
  simp only [ht, ha]
  unfold tab
  split_ifs <;> first | omega | rfl | exact EReal.coe_zero.symm | exact real_eq (by omega)

variable {p : FVec Ideal S8192x6048 .f32} {P : Fin 8192 → ℕ → ℝ} (hp : ∀ i (n : Fin 6048), p (ix2 i n) = ((P i n.val : ℝ) : EReal))
include hp

theorem packP_q (i : Fin 8192) (n : Fin 256) :
    packP (truncf (F := Ideal) .bf16 p bitsLt_bf16_f32) (ix2 i ⟨5632 + n.val, by omega⟩) = ((P i n.val : ℝ) : EReal) := by
  have hn := n.isLt
  pointwise [packP]
  rw [dif_neg (by omega), dif_neg (by omega), dif_neg (by omega), dif_neg (by omega), dif_neg (by omega), dif_neg (by omega), dif_neg (by omega),
    dif_pos (by omega), hp]
  exact real_eq (by show _ = n.val; simp only; omega)

theorem packP_k (i : Fin 8192) (n : Fin 128) :
    packP (truncf (F := Ideal) .bf16 p bitsLt_bf16_f32) (ix2 i ⟨5888 + n.val, by omega⟩) = ((P i (256 + n.val) : ℝ) : EReal) := by
  have hn := n.isLt
  pointwise [packP]
  rw [dif_neg (by omega), dif_neg (by omega), dif_neg (by omega), dif_neg (by omega), dif_neg (by omega), dif_neg (by omega), dif_neg (by omega),
    dif_neg (by omega), dif_pos (by omega), hp]
  exact real_eq (by show _ = 256 + n.val; simp only; omega)

theorem packP_r (i : Fin 8192) (n : Fin 128) :
    packP (truncf (F := Ideal) .bf16 p bitsLt_bf16_f32) (ix2 i ⟨6016 + n.val, by omega⟩) = ((kp (P i) n.val : ℝ) : EReal) := by
  have hn := n.isLt
  pointwise [packP, padP]
  rw [dif_neg (by omega), dif_neg (by omega), dif_neg (by omega), dif_neg (by omega), dif_neg (by omega), dif_neg (by omega), dif_neg (by omega),
    dif_neg (by omega), dif_neg (by omega), dif_pos (by omega)]
  simp only [hp]
  unfold kp
  split_ifs <;> first | omega | exact EReal.coe_zero.symm | exact real_eq (by omega)

set_option maxHeartbeats 2000000 in
theorem packP_x (i : Fin 8192) (n : Fin 128) :
    packP (truncf (F := Ideal) .bf16 p bitsLt_bf16_f32) (ix2 i ⟨6144 + n.val, by omega⟩) = ((kx (P i) n.val : ℝ) : EReal) := by
  have hn := n.isLt
  pointwise [packP, padP, swapP]
  rw [dif_neg (by omega), dif_neg (by omega), dif_neg (by omega), dif_neg (by omega), dif_neg (by omega), dif_neg (by omega), dif_neg (by omega),
    dif_neg (by omega), dif_neg (by omega), dif_neg (by omega)]
  simp only [hp]
  unfold kx
  split_ifs <;> first | omega | exact EReal.coe_zero.symm | exact real_eq (by omega) | exact neg_eq (by omega)

end values

section reads

variable (m : (ℓ : Loc nD τ sig) → Buf (Elt Ideal) ℓ) (c : Dev nD)

abbrev A0 : FVec Ideal S8192x6048 .f32 := m ((c : Thread nD τ).loc main_arg0)
abbrev A1 : FVec Ideal S256 .f32 := m ((c : Thread nD τ).loc main_arg1)
abbrev A2 : FVec Ideal S256x384 .f32 := m ((c : Thread nD τ).loc main_arg2)
abbrev A3 : FVec Ideal S128 .f32 := m ((c : Thread nD τ).loc main_arg3)
abbrev A4 : FVec Ideal S128x512 .f32 := m ((c : Thread nD τ).loc main_arg4)
abbrev A5 : FVec Ideal S8192x16 .f32 := m ((c : Thread nD τ).loc main_arg5)
abbrev A6 : FVec Ideal S8192x16 .f32 := m ((c : Thread nD τ).loc main_arg6)
theorem V_wq : V m c main_v17 = padQ (headsQ (A2 m c)) := by
  unfold V hostOps0
  after_reads_simp
  rfl
theorem V_wkv : V m c main_v26 = padK (headsK (A4 m c)) := by
  unfold V hostOps0
  after_reads_simp
  rfl
theorem V_ct : V m c main_v30 = tabs 0x3F800000#32 (A5 m c) := by
  unfold V hostOps0
  after_reads_simp
  rfl
theorem V_st : V m c main_v31 = tabs 0x00000000#32 (A6 m c) := by
  unfold V hostOps0
  after_reads_simp
  rfl
theorem V_crt : V m c main_v32 = tabs 0x00000000#32 (A5 m c) := by
  unfold V hostOps0
  after_reads_simp
  rfl
theorem V_p : V m c main_v54 = packP (truncf (F := Ideal) .bf16 (A0 m c) bitsLt_bf16_f32) := by
  unfold V hostOps0
  after_reads_simp
  rfl
theorem V_gq : V m c main_v55 = broadcastInDim S1x256 ![1] bcast_S256_S1x256_1 (A1 m c) := by
  unfold V hostOps0
  after_reads_simp
theorem V_gkv : V m c main_v56 = broadcastInDim S1x128 ![1] bcast_S128_S1x128_1 (A3 m c) := by
  unfold V hostOps0
  after_reads_simp

end reads

end Cert.PrepIdeal.Host

end
-- ==== Proof.Prep.Kernel.lean ====
/- The three arrays the query and key preparation leaves, at finite arguments. -/
module

public import proofs.«01_k».proof.Proof.Gen.PrepIdeal.Value
public import proofs.«01_k».proof.Proof.Prep.Host
public import proofs.«01_k».proof.Proof.Attn.Point

@[expose] public section

set_option maxRecDepth 16384

noncomputable section

namespace Cert.PrepIdeal.Arrays

open Cert.PrepIdeal Cert.PrepIdeal.Gen Cert.PrepIdeal.Host Cert.Reals Cert.QkvSpec Cert.PrepSpec
open Idealize.ShloMosaic Idealize.ShloMosaic.TcCoe Idealize.SL.Sem
open Idealize.ShloMosaic.Pipeline (Dat)

variable (m : (ℓ : Loc nD τ sig) → Buf (Elt Ideal) ℓ) (c : Dev nD)

/-- The arguments are these reals. -/
structure Given (P : Fin 8192 → ℕ → ℝ) (GQ : Fin 256 → ℝ) (WQ : Fin 256 → ℕ → ℝ) (GK : Fin 128 → ℝ) (WK : Fin 128 → ℕ → ℝ)
    (C S : Fin 8192 → ℕ → ℝ) : Prop where
  hp : ∀ i (n : Fin 6048), A0 m c (ix2 i n) = ((P i n.val : ℝ) : EReal)
  hgq : ∀ l, A1 m c (ix1 l) = ((GQ l : ℝ) : EReal)
  hwq : ∀ l (n : Fin 384), A2 m c (ix2 l n) = ((WQ l n.val : ℝ) : EReal)
  hgk : ∀ l, A3 m c (ix1 l) = ((GK l : ℝ) : EReal)
  hwk : ∀ l (n : Fin 512), A4 m c (ix2 l n) = ((WK l n.val : ℝ) : EReal)
  hc : ∀ i (n : Fin 16), A5 m c (ix2 i n) = ((C i n.val : ℝ) : EReal)
  hs : ∀ i (n : Fin 16), A6 m c (ix2 i n) = ((S i n.val : ℝ) : EReal)

theorem idx : ∀ t : Fin cfg0.N, win0_0.index t = ![t.val, 22] ∧ win0_1.index t = ![t.val, 46] ∧ win0_2.index t = ![t.val, 47]
    ∧ win0_3.index t = ![t.val, 48] ∧ win0_4.index t = ![0, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![0, t.val, 0] ∧ win0_12.index t = ![0, t.val, 0] ∧ win0_13.index t = ![0, t.val, 0] :=
  (by decide +kernel : ∀ t : Fin grid0.N, _)

/-- The row of the array that row `r` of point `t`'s block is. -/
abbrev row (t : Fin cfg0.N) (r : Fin 512) : Fin 8192 := ⟨t.val * 512 + r.val, by have := lt_of_lt_of_eq t.isLt N_0; omega⟩

variable {P : Fin 8192 → ℕ → ℝ} {GQ : Fin 256 → ℝ} {WQ : Fin 256 → ℕ → ℝ} {GK : Fin 128 → ℝ} {WK : Fin 128 → ℕ → ℝ}
variable {C S : Fin 8192 → ℕ → ℝ}
variable (h : Given m c P GQ WQ GK WK C S)
include h

/-- The latent query's row. -/
abbrev fq (P : Fin 8192 → ℕ → ℝ) (i : Fin 8192) (l : Fin 256) : ℝ := P i l.val

/-- The latent key's row. -/
abbrev fk (P : Fin 8192 → ℕ → ℝ) (i : Fin 8192) (l : Fin 128) : ℝ := P i (256 + l.val)

theorem blk0 (t : Fin cfg0.N) (r : Fin 512) (l : Fin 256) : (X0_0 m c t : FVec Ideal S512x256 .bf16) (ix2 r l) = ((fq P (row t r) l : ℝ) : EReal) := by
  refine Eq.trans (b := V m c main_v54 (ix2 (row t r) ⟨5632 + l.val, by omega⟩)) ?_ ?_
  · unfold X0_0 Pipeline.Window.fill
    rw [dif_pos (moved0_0 t _)]
    blk_simp [iblk, idx t]
    refine congrArg (V m c main_v54) ?_
    blk_ext [idx t]
  · rw [V_p]; exact packP_q h.hp _ l

theorem blk1 (t : Fin cfg0.N) (r : Fin 512) (l : Fin 128) : (iblk m c 1 t : FVec Ideal S512x128 .bf16) (ix2 r l) = ((fk P (row t r) l : ℝ) : EReal) := by
  refine Eq.trans (b := V m c main_v54 (ix2 (row t r) ⟨5888 + l.val, by omega⟩)) ?_ ?_
  · blk_simp [iblk, idx t]
    refine congrArg (V m c main_v54) ?_
    blk_ext [idx t]
  · rw [V_p]; exact packP_k h.hp _ l

theorem blk2 (t : Fin cfg0.N) (r : Fin 512) (j : Fin 128) : (iblk m c 2 t : FVec Ideal S512x128 .bf16) (ix2 r j) = ((kp (P (row t r)) j.val : ℝ) : EReal) := by
  refine Eq.trans (b := V m c main_v54 (ix2 (row t r) ⟨6016 + j.val, by omega⟩)) ?_ ?_
  · blk_simp [iblk, idx t]
    refine congrArg (V m c main_v54) ?_
    blk_ext [idx t]
  · rw [V_p]; exact packP_r h.hp _ j

theorem blk3 (t : Fin cfg0.N) (r : Fin 512) (j : Fin 128) : (iblk m c 3 t : FVec Ideal S512x128 .bf16) (ix2 r j) = ((kx (P (row t r)) j.val : ℝ) : EReal) := by
  refine Eq.trans (b := V m c main_v54 (ix2 (row t r) ⟨6144 + j.val, by omega⟩)) ?_ ?_
  · blk_simp [iblk, idx t]
    refine congrArg (V m c main_v54) ?_
    blk_ext [idx t]
  · rw [V_p]; exact packP_x h.hp _ j

theorem blk4 (t : Fin cfg0.N) (l : Fin 256) : (iblk m c 4 t : FVec Ideal S1x256 .f32) (ix2 0 l) = ((GQ l : ℝ) : EReal) := by
  refine Eq.trans (b := V m c main_v55 (ix2 0 l)) ?_ ?_
  · blk_simp [iblk, idx t]
    refine congrArg (V m c main_v55) ?_
    blk_ext [idx t]
  · rw [V_gq]; pointwise; exact h.hgq l

theorem blk5 (t : Fin cfg0.N) (l : Fin 128) : (iblk m c 5 t : FVec Ideal S1x128 .f32) (ix2 0 l) = ((GK l : ℝ) : EReal) := by
  refine Eq.trans (b := V m c main_v56 (ix2 0 l)) ?_ ?_
  · blk_simp [iblk, idx t]
    refine congrArg (V m c main_v56) ?_
    blk_ext [idx t]
  · rw [V_gkv]; pointwise; exact h.hgk l

theorem blk6 (t : Fin cfg0.N) (l : Fin 256) (n : Fin 1024) : (iblk m c 6 t : FVec Ideal S256x1024 .bf16) (ix2 l n) = ((wq (WQ l) n.val : ℝ) : EReal) := by
  refine Eq.trans (b := V m c main_v17 (ix2 l n)) ?_ ?_
  · blk_simp [iblk, idx t]
    refine congrArg (V m c main_v17) ?_
    blk_ext [idx t]
  · rw [V_wq]; exact padQ_at (headsQ_at h.hwq) l n

theorem blk7 (t : Fin cfg0.N) (l : Fin 128) (n : Fin 1024) : (iblk m c 7 t : FVec Ideal S128x1024 .bf16) (ix2 l n) = ((wkv (WK l) n.val : ℝ) : EReal) := by
  refine Eq.trans (b := V m c main_v26 (ix2 l n)) ?_ ?_
  · blk_simp [iblk, idx t]
    refine congrArg (V m c main_v26) ?_
    blk_ext [idx t]
  · rw [V_wkv]; exact padK_at (headsK_at h.hwk) l n

theorem blk8 (t : Fin cfg0.N) (r : Fin 512) (j : Fin 128) : (iblk m c 8 t : FVec Ideal S512x128 .f32) (ix2 r j) = ((tab 1 (C (row t r)) j.val : ℝ) : EReal) := by
  refine Eq.trans (b := V m c main_v30 (ix2 (row t r) j)) ?_ ?_
  · blk_simp [iblk, idx t]
    refine congrArg (V m c main_v30) ?_
    blk_ext [idx t]
  · rw [V_ct]; exact tabs_at wone h.hc _ j

theorem blk9 (t : Fin cfg0.N) (r : Fin 512) (j : Fin 128) : (iblk m c 9 t : FVec Ideal S512x128 .f32) (ix2 r j) = ((tab 0 (S (row t r)) j.val : ℝ) : EReal) := by
  refine Eq.trans (b := V m c main_v31 (ix2 (row t r) j)) ?_ ?_
  · blk_simp [iblk, idx t]
    refine congrArg (V m c main_v31) ?_
    blk_ext [idx t]
  · rw [V_st]; exact tabs_at (by simp) h.hs _ j

theorem blk10 (t : Fin cfg0.N) (r : Fin 512) (j : Fin 128) : (iblk m c 10 t : FVec Ideal S512x128 .f32) (ix2 r j) = ((tab 0 (C (row t r)) j.val : ℝ) : EReal) := by
  refine Eq.trans (b := V m c main_v32 (ix2 (row t r) j)) ?_ ?_
  · blk_simp [iblk, idx t]
    refine congrArg (V m c main_v32) ?_
    blk_ext [idx t]
  · rw [V_crt]; exact tabs_at (by simp) h.hc _ j

/-- The queries, keys and values of a row. -/
abbrev qa (P : Fin 8192 → ℕ → ℝ) (GQ : Fin 256 → ℝ) (WQ : Fin 256 → ℕ → ℝ) (C S : Fin 8192 → ℕ → ℝ) (k : Fin 4) (i : Fin 8192) (j : Fin 128) : ℝ :=
  qs (dot (nx 256 (fq P i) GQ) WQ) (C i) (S i) k.val j.val
abbrev ka (P : Fin 8192 → ℕ → ℝ) (GK : Fin 128 → ℝ) (WK : Fin 128 → ℕ → ℝ) (C S : Fin 8192 → ℕ → ℝ) (k : Fin 4) (i : Fin 8192) (j : Fin 128) : ℝ :=
  ks (dot (nx 128 (fk P i) GK) WK) (P i) (C i) (S i) k.val j.val
abbrev va (P : Fin 8192 → ℕ → ℝ) (GK : Fin 128 → ℝ) (WK : Fin 128 → ℕ → ℝ) (k : Fin 4) (i : Fin 8192) (j : Fin 128) : ℝ :=
  vs (dot (nx 128 (fk P i) GK) WK) k.val j.val

theorem qp (t : Fin cfg0.N) (r : Fin 512) (n : Fin 1024) : k0_pay9 (F := Ideal) (X0_0 m c t) (iblk m c 4 t) (iblk m c 6 t) (ix2 r n)
    = ((dot (nx 256 (fq P (row t r)) GQ) (fun l => wq (WQ l)) n.val : ℝ) : EReal) :=
  Pay.pay9 (X := fun r => fq P (row t r)) (W := fun l => wq (WQ l)) (blk0 m c h t) (blk4 m c h t) (blk6 m c h t) r n

omit h in
/-- The keys' and values' product at a point. -/
abbrev KV (t : Fin cfg0.N) : FVec Ideal S512x1024 .f32 := k0_pay13 (F := Ideal) (k0_pay10 (iblk m c 1 t)) (k0_pay11 (iblk m c 5 t)) (k0_pay12 (iblk m c 1 t)) (iblk m c 7 t)

theorem kv (t : Fin cfg0.N) (r : Fin 512) (n : Fin 1024) : KV m c t (ix2 r n)
    = ((dot (nx 128 (fk P (row t r)) GK) (fun l => wkv (WK l)) n.val : ℝ) : EReal) :=
  Pay.pay13 (X := fun r => fk P (row t r)) (blk1 m c h t) (blk5 m c h t) (blk7 m c h t) r n

theorem kr (t : Fin cfg0.N) (r : Fin 512) (j : Fin 128) :
    k0_pay14 (F := Ideal) (k0_pay7 (iblk m c 9 t)) (k0_pay8 (iblk m c 10 t)) (iblk m c 2 t) (iblk m c 3 t) (ix2 r j)
      = ((kp (P (row t r)) j.val * tab 0 (C (row t r)) j.val + kx (P (row t r)) j.val * tab 0 (S (row t r)) j.val : ℝ) : EReal) :=
  Pay.pay14 (C := fun r => C (row t r)) (S := fun r => S (row t r)) (Y := fun r => P (row t r)) (blk10 m c h t) (blk9 m c h t) (blk2 m c h t) (blk3 m c h t) r j

omit h in
/-- A piece of another head does not cover the entry. -/
theorem other {k k' : Fin 4} (hk : k ≠ k') (r : Fin 512) (j : Fin 128) (hb : ∀ a, (![k'.val, 0, 0] : Fin 3 → ℕ) a + S1x512x128.size a ≤ S4x512x128.size a)
    (x : (Rect.unit (s := S4x512x128) ![k'.val, 0, 0] S1x512x128.size hb).shape.Idx → Elt Ideal .bf16) (L : List (View.Piece (Elt Ideal) S4x512x128 .bf16)) :
    View.canon ((⟨Rect.unit ![k'.val, 0, 0] S1x512x128.size hb, x⟩ : View.Piece (Elt Ideal) S4x512x128 .bf16) :: L) (ix3 k r j) = View.canon L (ix3 k r j) := by
  refine View.canon_cons_of_not_mem _ _ ?_
  rw [Rect.mem_set_unit]
  intro hall
  have h0 := hall 0
  simp at h0
  exact hk (Fin.ext (by omega))

omit h in
/-- The head's own piece. -/
theorem own (k : Fin 4) (r : Fin 512) (j : Fin 128) (hb : ∀ a, (![k.val, 0, 0] : Fin 3 → ℕ) a + S1x512x128.size a ≤ S4x512x128.size a)
    (x : (Rect.unit (s := S4x512x128) ![k.val, 0, 0] S1x512x128.size hb).shape.Idx → Elt Ideal .bf16) (L : List (View.Piece (Elt Ideal) S4x512x128 .bf16)) :
    View.canon ((⟨Rect.unit ![k.val, 0, 0] S1x512x128.size hb, x⟩ : View.Piece (Elt Ideal) S4x512x128 .bf16) :: L) (ix3 k r j) = x (ix3 0 r j) :=
  Cert.AttnIdeal.Point.canon_mem (S := S4x512x128) (e := .bf16) (off := ![k.val, 0, 0]) (size := S1x512x128.size) hb x L (ix3 k r j) (ix3 0 r j) (by intro a; fin_cases a <;> simp)

set_option maxHeartbeats 2000000 in
theorem point11 (t : Fin cfg0.N) (k : Fin 4) (r : Fin 512) (j : Fin 128) :
    (outsAt0 m c t).1 (ix3 k r j) = ((qa P GQ WQ C S k (row t r) j : ℝ) : EReal) := by
  unfold outsAt0
  dsimp only
  frame_out
  match k with
  | 3 => exact (own 3 r j _ _ _).trans (Pay.q3 (N := fun r => nx 256 (fq P (row t r)) GQ) (C := fun r => C (row t r)) (S := fun r => S (row t r)) (qp m c h t) (blk8 m c h t) (blk9 m c h t) r j)
  | 2 => exact (other (k := 2) (k' := 3) (by decide) r j _ _ _).trans ((own 2 r j _ _ _).trans (Pay.q2 (N := fun r => nx 256 (fq P (row t r)) GQ) (C := fun r => C (row t r)) (S := fun r => S (row t r)) (qp m c h t) (blk8 m c h t) (blk9 m c h t) r j))
  | 1 => exact (other (k := 1) (k' := 3) (by decide) r j _ _ _).trans ((other (k := 1) (k' := 2) (by decide) r j _ _ _).trans ((own 1 r j _ _ _).trans (Pay.q1 (N := fun r => nx 256 (fq P (row t r)) GQ) (C := fun r => C (row t r)) (S := fun r => S (row t r)) (qp m c h t) (blk8 m c h t) (blk9 m c h t) r j)))
  | 0 => exact (other (k := 0) (k' := 3) (by decide) r j _ _ _).trans ((other (k := 0) (k' := 2) (by decide) r j _ _ _).trans ((other (k := 0) (k' := 1) (by decide) r j _ _ _).trans ((own 0 r j _ _ _).trans (Pay.q0 (N := fun r => nx 256 (fq P (row t r)) GQ) (C := fun r => C (row t r)) (S := fun r => S (row t r)) (qp m c h t) (blk8 m c h t) (blk9 m c h t) r j))))

theorem final11 : ((dats m 0 c).arrAt 11 cfg0.N : FVec Ideal S4x8192x128 .bf16) = fun i => ((qa P GQ WQ C S (i 0) (i 1) (i 2) : ℝ) : EReal) := by
  refine (dats m 0 c).arrAt_eq_of_covers 11 _ (by decide +kernel) fun t hf y => ?_
  blk_simp
  rw [after0_11]
  obtain ⟨k, r, j, rfl⟩ : ∃ (k : Fin 4) (r : Fin 512) (j : Fin 128), y = ix3 k r j := ⟨y 0, y 1, y 2, by idx_vars y⟩
  refine (point11 m c h t k r j).trans ?_
  have e : (win0_11.blk t).view.emb (ix3 k r j) = ix3 k (row t r) j := by blk_ext [idx t]
  rw [e]; rfl

set_option maxHeartbeats 2000000 in
theorem point12 (t : Fin cfg0.N) (k : Fin 4) (r : Fin 512) (j : Fin 128) :
    (outsAt0 m c t).2.1 (ix3 k r j) = ((ka P GK WK C S k (row t r) j : ℝ) : EReal) := by
  unfold outsAt0
  dsimp only
  frame_out
  match k with
  | 3 => exact (own 3 r j _ _ _).trans (Pay.k3 (N := fun r => nx 128 (fk P (row t r)) GK) (C := fun r => C (row t r)) (S := fun r => S (row t r)) (Y := fun r => P (row t r)) (kv m c h t) (kr m c h t) r j)
  | 2 => exact (other (k := 2) (k' := 3) (by decide) r j _ _ _).trans ((own 2 r j _ _ _).trans (Pay.k2 (N := fun r => nx 128 (fk P (row t r)) GK) (C := fun r => C (row t r)) (S := fun r => S (row t r)) (Y := fun r => P (row t r)) (kv m c h t) (kr m c h t) r j))
  | 1 => exact (other (k := 1) (k' := 3) (by decide) r j _ _ _).trans ((other (k := 1) (k' := 2) (by decide) r j _ _ _).trans ((own 1 r j _ _ _).trans (Pay.k1 (N := fun r => nx 128 (fk P (row t r)) GK) (C := fun r => C (row t r)) (S := fun r => S (row t r)) (Y := fun r => P (row t r)) (kv m c h t) (kr m c h t) r j)))
  | 0 => exact (other (k := 0) (k' := 3) (by decide) r j _ _ _).trans ((other (k := 0) (k' := 2) (by decide) r j _ _ _).trans ((other (k := 0) (k' := 1) (by decide) r j _ _ _).trans ((own 0 r j _ _ _).trans (Pay.k0 (X := fun r => fk P (row t r)) (C := fun r => C (row t r)) (S := fun r => S (row t r)) (Y := fun r => P (row t r)) (blk1 m c h t) (blk5 m c h t) (blk7 m c h t) (blk10 m c h t) (blk9 m c h t) (blk2 m c h t) (blk3 m c h t) r j))))

theorem final12 : ((dats m 0 c).arrAt 12 cfg0.N : FVec Ideal S4x8192x128 .bf16) = fun i => ((ka P GK WK C S (i 0) (i 1) (i 2) : ℝ) : EReal) := by
  refine (dats m 0 c).arrAt_eq_of_covers 12 _ (by decide +kernel) fun t hf y => ?_
  blk_simp
  rw [after0_12]
  obtain ⟨k, r, j, rfl⟩ : ∃ (k : Fin 4) (r : Fin 512) (j : Fin 128), y = ix3 k r j := ⟨y 0, y 1, y 2, by idx_vars y⟩
  refine (point12 m c h t k r j).trans ?_
  have e : (win0_12.blk t).view.emb (ix3 k r j) = ix3 k (row t r) j := by blk_ext [idx t]
  rw [e]; rfl

set_option maxHeartbeats 2000000 in
theorem point13 (t : Fin cfg0.N) (k : Fin 4) (r : Fin 512) (j : Fin 128) :
    (outsAt0 m c t).2.2 (ix3 k r j) = ((va P GK WK k (row t r) j : ℝ) : EReal) := by
  unfold outsAt0
  dsimp only
  frame_out
  match k with
  | 3 => exact (own 3 r j _ _ _).trans (Pay.v3 (N := fun r => nx 128 (fk P (row t r)) GK) (kv m c h t) Pay.pay15 r j)
  | 2 => exact (other (k := 2) (k' := 3) (by decide) r j _ _ _).trans ((own 2 r j _ _ _).trans (Pay.v2 (N := fun r => nx 128 (fk P (row t r)) GK) (kv m c h t) Pay.pay15 r j))
  | 1 => exact (other (k := 1) (k' := 3) (by decide) r j _ _ _).trans ((other (k := 1) (k' := 2) (by decide) r j _ _ _).trans ((own 1 r j _ _ _).trans (Pay.v1 (N := fun r => nx 128 (fk P (row t r)) GK) (kv m c h t) Pay.pay15 r j)))
  | 0 => exact (other (k := 0) (k' := 3) (by decide) r j _ _ _).trans ((other (k := 0) (k' := 2) (by decide) r j _ _ _).trans ((other (k := 0) (k' := 1) (by decide) r j _ _ _).trans ((own 0 r j _ _ _).trans (Pay.v0 (X := fun r => fk P (row t r)) (blk1 m c h t) (blk5 m c h t) (blk7 m c h t) r j))))

theorem final13 : ((dats m 0 c).arrAt 13 cfg0.N : FVec Ideal S4x8192x128 .bf16) = fun i => ((va P GK WK (i 0) (i 1) (i 2) : ℝ) : EReal) := by
  refine (dats m 0 c).arrAt_eq_of_covers 13 _ (by decide +kernel) fun t hf y => ?_
  blk_simp
  rw [after0_13]
  obtain ⟨k, r, j, rfl⟩ : ∃ (k : Fin 4) (r : Fin 512) (j : Fin 128), y = ix3 k r j := ⟨y 0, y 1, y 2, by idx_vars y⟩
  refine (point13 m c h t k r j).trans ?_
  have e : (win0_13.blk t).view.emb (ix3 k r j) = ix3 k (row t r) j := by blk_ext [idx t]
  rw [e]; rfl

end Cert.PrepIdeal.Arrays

end
-- ==== Proof.Prep.Ref.lean ====
/- The reference's three results at finite arguments. -/
module

public import proofs.«01_k».proof.Proof.Gen.PrepRefIdeal.Read
public import proofs.«01_k».proof.Proof.Prep.Spec
public import Idealize.ShloMosaic.Lib.Pipeline.ValueKit

@[expose] public section

set_option maxRecDepth 16384

noncomputable section

namespace Cert.PrepRefIdeal.Out

open Cert.PrepRefIdeal Cert.PrepRefIdeal.Gen Cert.PrepRefIdeal.Read Cert.Reals Cert.QkvSpec Cert.PrepSpec
open Idealize.ShloMosaic Idealize.ShloMosaic.TcCoe Idealize.SL.Sem

variable {p : FVec Ideal S8192x6048 .f32} {g : FVec Ideal S256 .f32} {w : FVec Ideal S256x384 .f32} {e : FVec Ideal S128 .f32} {u : FVec Ideal S128x512 .f32}
  {co si : FVec Ideal S8192x16 .f32}
variable {P : Fin 8192 → ℕ → ℝ} {G : Fin 256 → ℝ} {W : Fin 256 → ℕ → ℝ} {E : Fin 128 → ℝ} {U : Fin 128 → ℕ → ℝ} {C S : Fin 8192 → ℕ → ℝ}
variable (hp : ∀ i (n : Fin 6048), p (ix2 i n) = ((P i n.val : ℝ) : EReal)) (hg : ∀ l, g (ix1 l) = ((G l : ℝ) : EReal))
  (hw : ∀ l (n : Fin 384), w (ix2 l n) = ((W l n.val : ℝ) : EReal)) (he : ∀ l, e (ix1 l) = ((E l : ℝ) : EReal))
  (hu : ∀ l (n : Fin 512), u (ix2 l n) = ((U l n.val : ℝ) : EReal)) (hc : ∀ i (n : Fin 16), co (ix2 i n) = ((C i n.val : ℝ) : EReal))
  (hs : ∀ i (n : Fin 16), si (ix2 i n) = ((S i n.val : ℝ) : EReal))

/-- A row's latent query and latent keys. -/
abbrev cq (P : ℕ → ℝ) (l : Fin 256) : ℝ := P l.val
abbrev ck (P : ℕ → ℝ) (l : Fin 128) : ℝ := P (256 + l.val)

theorem real_eq {f : ℕ → ℝ} {a b : ℕ} (h : a = b) : ((f a : ℝ) : EReal) = ((f b : ℝ) : EReal) := by rw [h]

theorem diff_eq {f g k : ℕ → ℝ} {a b p q a' b' p' q' : ℕ} (h0 : a = a') (h1 : p = p') (h2 : b = b') (h3 : q = q') :
    ((f a * g p - f b * k q : ℝ) : EReal) = ((f a' * g p' - f b' * k q' : ℝ) : EReal) := by subst h0 h1 h2 h3; rfl

theorem sum_eq {f g k : ℕ → ℝ} {a b p q a' b' p' q' : ℕ} (h0 : a = a') (h1 : p = p') (h2 : b = b') (h3 : q = q') :
    ((f a * g p + f b * k q : ℝ) : EReal) = ((f a' * g p' + f b' * k q' : ℝ) : EReal) := by subst h0 h1 h2 h3; rfl

include hp hg in
theorem v22 (i : Fin 8192) (l : Fin 256) : val_main_v22 (F := Ideal) p g (ix2 i l) = ((nx 256 (cq (P i)) G l : ℝ) : EReal) := by
  pointwise [val_main_v22, val_main_v21, val_main_v20, val_main_v19, val_main_v18, val_main_v17, val_main_v16, val_main_v15, val_main_v14, val_main_v13,
    val_main_v12, val_main_v11, val_main_v10, val_main_v0, val_main_cst, val_main_cst_0, val_main_cst_1]
  simp only [hp, hg, eps_word, w256, ← EReal.coe_mul, sum_coe, zero_add, div_256, ← EReal.coe_add, rsqrt_256]
  rfl

include hp hg hw in
theorem v24 (i : Fin 8192) (h : Fin 4) (j : Fin 96) : val_main_v24 (F := Ideal) p g w (ix3 i h j)
    = ((dot (nx 256 (cq (P i)) G) W (96 * h.val + j.val) : ℝ) : EReal) := by
  pointwise [val_main_v24, val_main_v23]
  simp only [v22 hp hg, hw, ← EReal.coe_mul, sum_coe]
  exact real_eq (f := dot (nx 256 (cq (P i)) G) W) (by omega)

include hp he in
theorem v39 (i : Fin 8192) (l : Fin 128) : val_main_v39 (F := Ideal) p e (ix2 i l) = ((nx 128 (ck (P i)) E l : ℝ) : EReal) := by
  pointwise [val_main_v39, val_main_v38, val_main_v37, val_main_v36, val_main_v35, val_main_v34, val_main_v33, val_main_v32, val_main_v31, val_main_v30,
    val_main_v29, val_main_v28, val_main_v27, val_main_v1, val_main_cst_2, val_main_cst_3, val_main_cst_4]
  simp only [hp, he, eps_word, w128, ← EReal.coe_mul, sum_coe, zero_add, div_128, ← EReal.coe_add, rsqrt_128]
  rfl

include hp he hu in
theorem v41 (i : Fin 8192) (h : Fin 4) (j : Fin 128) : val_main_v41 (F := Ideal) p e u (ix3 i h j)
    = ((dot (nx 128 (ck (P i)) E) U (128 * h.val + j.val) : ℝ) : EReal) := by
  pointwise [val_main_v41, val_main_v40]
  simp only [v39 hp he, hu, ← EReal.coe_mul, sum_coe]
  exact real_eq (f := dot (nx 128 (ck (P i)) E) U) (by omega)

include hp hg hw hc hs in
theorem v58 (i : Fin 8192) (h : Fin 4) (n : Fin 32) : val_main_v58 (F := Ideal) p g w co si (ix3 i h n)
    = ((qs (dot (nx 256 (cq (P i)) G) W) (C i) (S i) h.val (64 + n.val) : ℝ) : EReal) := by
  pointwise [val_main_v58, val_main_v57, val_main_v56, val_main_v55, val_main_v54, val_main_v53, val_main_v52, val_main_v51, val_main_v50, val_main_v49,
    val_main_v48, val_main_v47, val_main_v46, val_main_v45, val_main_v44, val_main_v26]
  simp only [v24 hp hg hw, hc, hs, ← EReal.coe_mul, ← EReal.coe_sub, ← EReal.coe_add]
  unfold qs
  split_ifs <;> first
    | omega
    | exact diff_eq (f := dot (nx 256 (cq (P i)) G) W) (g := C i) (k := S i) (by omega) (by omega) (by omega) (by omega)
    | exact sum_eq (f := dot (nx 256 (cq (P i)) G) W) (g := C i) (k := S i) (by omega) (by omega) (by omega) (by omega)

include hp hg hw hc hs in
theorem v80 (h : Fin 4) (i : Fin 8192) (j : Fin 128) : val_main_v80 (F := Ideal) p g w co si (ix3 h i j)
    = ((qs (dot (nx 256 (cq (P i)) G) W) (C i) (S i) h.val j.val : ℝ) : EReal) := by
  pointwise [val_main_v80, val_main_v79, val_main_v76, val_main_v75, val_main_v70, val_main_v25, val_main_cst_7]
  simp only [v24 hp hg hw, v58 hp hg hw hc hs]
  split_ifs with h0 h1
  · rw [qs, if_pos h1]
  · exact real_eq (f := qs (dot (nx 256 (cq (P i)) G) W) (C i) (S i) h.val) (by omega)
  · rw [qs, if_neg (by omega), if_neg (by omega), if_neg (by omega)]; simp

include hp hc hs in
theorem v67 (i : Fin 8192) (n : Fin 32) (V : ℕ → ℝ) (k : ℕ) : val_main_v67 (F := Ideal) p co si (ix2 i n)
    = ((ks V (P i) (C i) (S i) k (64 + n.val) : ℝ) : EReal) := by
  pointwise [val_main_v67, val_main_v66, val_main_v65, val_main_v64, val_main_v63, val_main_v62, val_main_v61, val_main_v60, val_main_v59, val_main_v2]
  simp only [hp, hc, hs, ← EReal.coe_mul, ← EReal.coe_sub, ← EReal.coe_add]
  unfold ks
  split_ifs <;> first
    | omega
    | exact diff_eq (f := P i) (g := C i) (k := S i) (by omega) (by omega) (by omega) (by omega)
    | exact sum_eq (f := P i) (g := C i) (k := S i) (by omega) (by omega) (by omega) (by omega)

include hp he hu hc hs in
theorem v82 (h : Fin 4) (i : Fin 8192) (j : Fin 128) : val_main_v82 (F := Ideal) p e u co si (ix3 h i j)
    = ((ks (dot (nx 128 (ck (P i)) E) U) (P i) (C i) (S i) h.val j.val : ℝ) : EReal) := by
  pointwise [val_main_v82, val_main_v81, val_main_v78, val_main_v77, val_main_v71, val_main_v69, val_main_v68, val_main_v42, val_main_cst_8]
  simp only [v41 hp he hu, v67 hp hc hs _ _ (dot (nx 128 (ck (P i)) E) U) h.val]
  split_ifs with h0 h1
  · rw [ks, if_pos h1]
  · exact real_eq (f := ks (dot (nx 128 (ck (P i)) E) U) (P i) (C i) (S i) h.val) (by omega)
  · rw [ks, if_neg (by omega), if_neg (by omega), if_neg (by omega)]; simp

include hp he hu in
theorem v84 (h : Fin 4) (i : Fin 8192) (j : Fin 128) : val_main_v84 (F := Ideal) p e u (ix3 h i j)
    = ((vs (dot (nx 128 (ck (P i)) E) U) h.val j.val : ℝ) : EReal) := by
  pointwise [val_main_v84, val_main_v83, val_main_v74, val_main_v73, val_main_v72, val_main_v43, val_main_cst_5, val_main_cst_6]
  simp only [v41 hp he hu, wone]
  unfold vs
  split_ifs <;> first | omega | rfl | exact EReal.coe_zero.symm | exact real_eq (f := dot (nx 128 (ck (P i)) E) U) (by omega)

end Cert.PrepRefIdeal.Out

end
-- ==== Proof.Prep.Pre.lean ====
/- The precondition read back: the arguments are arrays of reals. -/
module

public import proofs.«01_k».proof.Pre_finite_prep
public import proofs.«01_k».proof.Proof.Kit.Reals

@[expose] public section

set_option maxRecDepth 16384

noncomputable section

namespace Cert.Pre_finite_prep.Read

open Cert.Pre_finite_prep Cert.Reals Idealize.ShloMosaic

variable [Facts]

theorem reals (p : FVec Ideal S8192x6048 .f32) (g : FVec Ideal S256 .f32) (w : FVec Ideal S256x384 .f32) (e : FVec Ideal S128 .f32) (u : FVec Ideal S128x512 .f32) (co : FVec Ideal S8192x16 .f32) (si : FVec Ideal S8192x16 .f32)
    (h : fn (F := Ideal) p g w e u co si = fun _ => 1#1) :
    (∃ P : S8192x6048.Idx → ℝ, p = up P)
      ∧ (∃ G : S256.Idx → ℝ, g = up G)
      ∧ (∃ W : S256x384.Idx → ℝ, w = up W)
      ∧ (∃ E : S128.Idx → ℝ, e = up E)
      ∧ (∃ U : S128x512.Idx → ℝ, u = up U)
      ∧ (∃ CO : S8192x16.Idx → ℝ, co = up CO)
      ∧ (∃ SI : S8192x16.Idx → ℝ, si = up SI) := by
  have h := congrFun h (fun k => k.elim0)
  unfold fn fn_part1 at h
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h1, h2⟩ := IntOp.andi_eq_one.1 h
  haveI : Subsingleton S_.Idx := ⟨fun p q => funext fun k => k.elim0⟩
  exact ⟨reals_of_all _ _ (fun _ => rfl) _ _ _ _ h1,
    reals_of_all _ _ (fun _ => rfl) _ _ _ _ h2,
    reals_of_all _ _ (fun _ => rfl) _ _ _ _ h3,
    reals_of_all _ _ (fun _ => rfl) _ _ _ _ h4,
    reals_of_all _ _ (fun _ => rfl) _ _ _ _ h5,
    reals_of_all _ _ (fun _ => rfl) _ _ _ _ h6,
    reals_of_all _ _ (fun _ => rfl) _ _ _ _ h7⟩

end Cert.Pre_finite_prep.Read

end
-- ==== Proof.Prep.Claim.lean ====
/- The value claim of the query and key preparation. -/
module

public import proofs.«01_k».proof.Defs
public import proofs.«01_k».proof.Proof.Prep.Kernel
public import proofs.«01_k».proof.Proof.Prep.Ref
public import proofs.«01_k».proof.Proof.Prep.Pre
public import proofs.«01_k».proof.Proof.Gen.PrepRefIdeal.Run
public import Idealize.ShloMosaic.Lib.Claim

@[expose] public section

set_option maxRecDepth 16384

noncomputable section

namespace Cert.PrepClaim

open Idealize.ShloMosaic Idealize.ShloMosaic.TcCoe Idealize.SL.Sem

/-- A row of reals read at any number, zero past its end. -/
def past {n : ℕ} (f : Fin n → ℝ) (k : ℕ) : ℝ := if h : k < n then f ⟨k, h⟩ else 0

theorem past_val {n : ℕ} (f : Fin n → ℝ) (k : Fin n) : past f k.val = f k := dif_pos k.isLt

theorem given [Cert.Pre_finite_prep.Facts]
    (m : (ℓ : Loc Cert.PrepIdeal.nD Cert.PrepIdeal.τ Cert.PrepIdeal.sig) → Buf (Elt Ideal) ℓ)
    (h : Cert.Pre_PrepIdeal_finite_prep m) (c : Dev Cert.PrepIdeal.nD) :
    ∃ P G W E U C S, Cert.PrepIdeal.Arrays.Given m c P G W E U C S := by
  obtain ⟨⟨P, hP⟩, ⟨G, hG⟩, ⟨W, hW⟩, ⟨E, hE⟩, ⟨U, hU⟩, ⟨C, hC⟩, S, hS⟩ :=
    Cert.Pre_finite_prep.Read.reals _ _ _ _ _ _ _ (h c)
  exact ⟨fun i => past fun n : Fin 6048 => P (ix2 i n), fun l => G (ix1 l), fun l => past fun n : Fin 384 => W (ix2 l n), fun l => E (ix1 l),
    fun l => past fun n : Fin 512 => U (ix2 l n), fun i => past fun n : Fin 16 => C (ix2 i n), fun i => past fun n : Fin 16 => S (ix2 i n),
    fun i n => by rw [past_val]; exact congrFun hP _, fun l => congrFun hG _, fun l n => by rw [past_val]; exact congrFun hW _,
    fun l => congrFun hE _, fun l n => by rw [past_val]; exact congrFun hU _, fun i n => by rw [past_val]; exact congrFun hC _,
    fun i n => by rw [past_val]; exact congrFun hS _⟩

set_option maxHeartbeats 2000000 in
theorem algebraic [Cert.Pre_finite_prep.Facts] :
    Cert.algebraic_PrepIdeal_PrepRefIdeal_pre_finite_prep (hPrepIdeal := Cert.PrepIdeal.Gen.facts)
      (hPrepRefIdeal := Cert.PrepRefIdeal.Gen.facts) := by
  pair_intro
  · run_from Cert.PrepIdeal.Value.run_blocks m g
  · run_from Cert.PrepRefIdeal.Value.run m' g'
    all_goals
      obtain ⟨P, G, W, E, U, C, S, h⟩ := given m hpre c
      obtain ⟨e0, e1, e2, e3, e4, e5, e6⟩ := hagree c
    · refine (Cert.PrepRefIdeal.Read.val_main_v80_eq _ _).trans ?_
      simp only [StableHlo.launchContents_devRef, e0, e1, e2, e5, e6]
      rw [Cert.PrepIdeal.Arrays.final11 m c h]
      funext i
      idx_vars i
      exact Cert.PrepRefIdeal.Out.v80 h.hp h.hgq h.hwq h.hc h.hs i0 i1 i2
    · refine (Cert.PrepRefIdeal.Read.val_main_v82_eq _ _ _ _ _).trans ?_
      simp only [StableHlo.launchContents_devRef, e0, e3, e4, e5, e6]
      rw [Cert.PrepIdeal.Arrays.final12 m c h]
      funext i
      idx_vars i
      exact Cert.PrepRefIdeal.Out.v82 h.hp h.hgk h.hwk h.hc h.hs i0 i1 i2
    · refine (Cert.PrepRefIdeal.Read.val_main_v84_eq _ _ _).trans ?_
      simp only [StableHlo.launchContents_devRef, e0, e3, e4]
      rw [Cert.PrepIdeal.Arrays.final13 m c h]
      funext i
      idx_vars i
      exact Cert.PrepRefIdeal.Out.v84 h.hp h.hgk h.hwk i0 i1 i2

theorem frame_ref : Cert.quiescent_PrepRefIdeal (hPrepRefIdeal := Cert.PrepRefIdeal.Gen.facts) := fun m ρ _ =>
  (θ_run _ _ _).mono (fun r h => ⟨fun c => (h c).2.2.2, sem_eq_zero_of_no_sems (by decide) r.2⟩)
    (Cert.PrepRefIdeal.Value.run m ρ)

theorem frame_ref_pre [Cert.Pre_finite_prep.Facts] :
    Cert.quiescent_PrepRefIdeal_pre_finite_prep (hPrepRefIdeal := Cert.PrepRefIdeal.Gen.facts) :=
  fun m ρ _ => frame_ref m ρ True.intro

end Cert.PrepClaim

end
-- ==== Proof.Proj.Spec.lean ====
/- The norm and the projection, over the reals, with the columns in the packed order. -/
module

public import proofs.«01_k».proof.Proof.InProj.Spec

@[expose] public section

set_option maxRecDepth 16384

noncomputable section

namespace Cert.ProjSpec

open Cert.Reals Cert.InProjSpec

/-- Column `n` of the packed order, of a row whose columns `f` are in the reference's order. -/
def lay (f : ℕ → ℝ) (n : ℕ) : ℝ :=
  if n < 4096 then f (1952 + n) else if n < 4864 then f (m1 (n - 4096)) else if n < 5632 then f (m2 (n - 4864)) else wB f (n - 5632)

theorem lay_gate (f : ℕ → ℝ) (n : ℕ) (h : n < 4096) : lay f n = f (1952 + n) := if_pos h

theorem lay_m1 (f : ℕ → ℝ) (n : ℕ) (h : n < 768) : lay f (4096 + n) = f (m1 n) := by
  rw [lay, if_neg (by omega), if_pos (by omega), Nat.add_sub_cancel_left]

theorem lay_m2 (f : ℕ → ℝ) (n : ℕ) (h : n < 768) : lay f (4864 + n) = f (m2 n) := by
  rw [lay, if_neg (by omega), if_neg (by omega), if_pos (by omega), Nat.add_sub_cancel_left]

theorem lay_B (f : ℕ → ℝ) (n : ℕ) : lay f (5632 + n) = wB f n := by
  rw [lay, if_neg (by omega), if_neg (by omega), if_neg (by omega), Nat.add_sub_cancel_left]

section

variable (f : ℕ → ℝ) (n : ℕ)

theorem lay_1 (hu : n < 4096) : lay f n = f (1952 + n) := by
  rw [lay, if_pos hu]

theorem lay_2 (hl : 4096 ≤ n) (hu : n < 4608) : lay f n = f (n - 3680) := by
  rw [lay, if_neg (by omega), if_pos (by omega), m1]
  exact congrArg f (by split_ifs <;> omega)

theorem lay_3 (hl : 4608 ≤ n) (hu : n < 4864) : lay f n = f (n - 3424) := by
  rw [lay, if_neg (by omega), if_pos (by omega), m1]
  exact congrArg f (by split_ifs <;> omega)

theorem lay_4 (hl : 4864 ≤ n) (hu : n < 5120) : lay f n = f (n - 3936) := by
  rw [lay, if_neg (by omega), if_neg (by omega), if_pos (by omega), m2]
  exact congrArg f (by split_ifs <;> omega)

theorem lay_5 (hl : 5120 ≤ n) (hu : n < 5632) : lay f n = f (n - 3680) := by
  rw [lay, if_neg (by omega), if_neg (by omega), if_pos (by omega), m2]
  exact congrArg f (by split_ifs <;> omega)

theorem lay_6 (hl : 5632 ≤ n) (hu : n < 6016) : lay f n = f (n - 5632) := by
  rw [lay, if_neg (by omega), if_neg (by omega), if_neg (by omega), wB]
  split_ifs <;> first | omega | exact congrArg f (by omega) | exact congrArg (fun k => -f k) (by omega) | rfl

theorem lay_7 (hl : 6016 ≤ n) (hu : n < 6080) : lay f n = 0 := by
  rw [lay, if_neg (by omega), if_neg (by omega), if_neg (by omega), wB]
  split_ifs <;> first | omega | exact congrArg f (by omega) | exact congrArg (fun k => -f k) (by omega) | rfl

theorem lay_8 (hl : 6080 ≤ n) (hu : n < 6112) : lay f n = f (n - 5696) := by
  rw [lay, if_neg (by omega), if_neg (by omega), if_neg (by omega), wB]
  split_ifs <;> first | omega | exact congrArg f (by omega) | exact congrArg (fun k => -f k) (by omega) | rfl

theorem lay_9 (hl : 6112 ≤ n) (hu : n < 6208) : lay f n = 0 := by
  rw [lay, if_neg (by omega), if_neg (by omega), if_neg (by omega), wB]
  split_ifs <;> first | omega | exact congrArg f (by omega) | exact congrArg (fun k => -f k) (by omega) | rfl

theorem lay_10 (hl : 6208 ≤ n) (hu : n < 6224) : lay f n = -f (n - 5808) := by
  rw [lay, if_neg (by omega), if_neg (by omega), if_neg (by omega), wB]
  split_ifs <;> first | omega | exact congrArg f (by omega) | exact congrArg (fun k => -f k) (by omega) | rfl

theorem lay_11 (hl : 6224 ≤ n) (hu : n < 6240) : lay f n = f (n - 5840) := by
  rw [lay, if_neg (by omega), if_neg (by omega), if_neg (by omega), wB]
  split_ifs <;> first | omega | exact congrArg f (by omega) | exact congrArg (fun k => -f k) (by omega) | rfl

theorem lay_12 (hl : 6240 ≤ n) : lay f n = 0 := by
  rw [lay, if_neg (by omega), if_neg (by omega), if_neg (by omega), wB]
  split_ifs <;> first | omega | exact congrArg f (by omega) | exact congrArg (fun k => -f k) (by omega) | rfl

end

/-- Packing a weight's columns packs the product's. -/
theorem sum_lay (a : Fin 1024 → ℝ) (W : Fin 1024 → ℕ → ℝ) (n : ℕ) :
    ∑ l, a l * lay (W l) n = lay (fun k => ∑ l, a l * W l k) n := by
  unfold lay wB
  split_ifs <;> simp

/-- Row `i` of the product: the norm of the row `X i` with gain `G`, against column `k` of the weight. -/
def prod {n : ℕ} (X : Fin n → Fin 1024 → ℝ) (G : Fin 1024 → ℝ) (W : Fin 1024 → ℕ → ℝ) (i : Fin n) (k : ℕ) : ℝ :=
  ∑ l, X i l * rr (X i) 1024 * G l * W l k

end Cert.ProjSpec

end
-- ==== Proof.Proj.Pay.lean ====
/- What the body of the projection stores, at finite blocks. -/
module

public import proofs.«01_k».proof.Proof.Gen.ProjIdeal.Skeleton
public import proofs.«01_k».proof.Proof.Proj.Spec

@[expose] public section

set_option maxRecDepth 16384

noncomputable section

namespace Cert.ProjIdeal.Pay

open Cert.ProjIdeal Cert.ProjIdeal.Gen Cert.Reals Cert.ProjSpec
open Idealize.ShloMosaic Idealize.ShloMosaic.TcCoe Idealize.SL.Sem

theorem pay1 {x : FVec Ideal S1024x1024 .f32} {g : FVec Ideal S1x1024 .f32} {w : FVec Ideal S1024x6272 .bf16}
    {X : Fin 1024 → Fin 1024 → ℝ} {G : Fin 1024 → ℝ} {W : Fin 1024 → ℕ → ℝ}
    (hx : ∀ r l, x (ix2 r l) = ((X r l : ℝ) : EReal)) (hg : ∀ l, g (ix2 0 l) = ((G l : ℝ) : EReal))
    (hw : ∀ l k, w (ix2 l k) = ((lay (W l) k.val : ℝ) : EReal)) (r : Fin 1024) (k : Fin 6272) :
    k0_pay1 (F := Ideal) x g w (ix2 r k) = ((lay (prod X G W r) k.val : ℝ) : EReal) := by
  pointwise [k0_pay1]
  simp only [hx, hg, hw, eps_word, w1024, ← EReal.coe_mul, sum_coe, zero_add, div_1024, ← EReal.coe_add, rsqrt_mean]
  exact congrArg _ (sum_lay (fun l => X r l * rr (X r) 1024 * G l) W k.val)

end Cert.ProjIdeal.Pay

end
-- ==== Proof.Proj.Kernel.lean ====
/- The packed projection the kernel leaves, at finite arguments. -/
module

public import proofs.«01_k».proof.Proof.Gen.ProjIdeal.Value
public import proofs.«01_k».proof.Proof.Proj.Pay
public import proofs.«01_k».proof.Proof.InProj.Host
public import Idealize.ShloMosaic.Lib.Pipeline.ValueKit
public import Idealize.ShloMosaic.Lib.StableHlo.RunRead

@[expose] public section

set_option maxRecDepth 16384

noncomputable section

namespace Cert.ProjIdeal.Arrays

open Cert.ProjIdeal Cert.ProjIdeal.Gen Cert.Reals Cert.ProjSpec
open Idealize.ShloMosaic Idealize.ShloMosaic.TcCoe Idealize.SL.Sem
open Idealize.ShloMosaic.Pipeline (Dat)

variable (m : (ℓ : Loc nD τ sig) → Buf (Elt Ideal) ℓ) (c : Dev nD)

abbrev A0 : FVec Ideal S8192x1024 .f32 := m ((c : Thread nD τ).loc main_arg0)
abbrev A1 : FVec Ideal S1024 .f32 := m ((c : Thread nD τ).loc main_arg1)
abbrev A2 : FVec Ideal S1024x6048 .f32 := m ((c : Thread nD τ).loc main_arg2)

/-- The arguments are these reals. -/
structure Given (X : Fin 8192 → Fin 1024 → ℝ) (G : Fin 1024 → ℝ) (W : Fin 1024 → ℕ → ℝ) : Prop where
  hx : ∀ i l, A0 m c (ix2 i l) = ((X i l : ℝ) : EReal)
  hg : ∀ l, A1 m c (ix1 l) = ((G l : ℝ) : EReal)
  hw : ∀ l (n : Fin 6048), A2 m c (ix2 l n) = ((W l n.val : ℝ) : EReal)

theorem V_w : V m c main_v21 = InProjIdeal.Host.packW (truncf (F := Ideal) .bf16 (A2 m c) bitsLt_bf16_f32) := by
  unfold V hostOps0
  after_reads_simp
  rfl
theorem V_g : V m c main_v22 = broadcastInDim S1x1024 ![1] bcast_S1024_S1x1024_1 (A1 m c) := by
  unfold V hostOps0
  after_reads_simp
theorem V_x : V m c main_arg0 = A0 m c := by
  unfold V hostOps0
  after_reads_simp

theorem idx : ∀ t : Fin cfg0.N, win0_0.index t = ![t.val, 0] ∧ win0_1.index t = ![0, 0] ∧ win0_2.index t = ![0, 0]
    ∧ win0_3.index t = ![t.val, 0] :=
  (by decide +kernel : ∀ t : Fin grid0.N, _)

/-- The packed weight's entries, through its transpose's. -/
theorem pack_at {w : FVec Ideal S1024x6048 .f32} {W : Fin 1024 → ℕ → ℝ} (hw : ∀ l (n : Fin 6048), w (ix2 l n) = ((W l n.val : ℝ) : EReal))
    (l : Fin 1024) (n : Fin 6272) : InProjIdeal.Host.packT w (ix2 n l) = ((lay (W l) n.val : ℝ) : EReal) := by
  obtain ⟨n, hn⟩ := n
  by_cases h1 : n < 4096
  · exact (InProjIdeal.Host.packT_gate hw ⟨n, h1⟩ l).trans (congrArg _ (lay_gate (W l) n h1).symm)
  obtain ⟨n, rfl⟩ : ∃ k, n = 4096 + k := ⟨n - 4096, by omega⟩
  by_cases h2 : n < 768
  · exact (InProjIdeal.Host.packT_m1 hw ⟨n, h2⟩ l).trans (congrArg _ (lay_m1 (W l) n h2).symm)
  obtain ⟨n, rfl⟩ : ∃ k, n = 768 + k := ⟨n - 768, by omega⟩
  simp only [← Nat.add_assoc]
  by_cases h3 : n < 768
  · exact (InProjIdeal.Host.packT_m2 hw ⟨n, h3⟩ l).trans (congrArg _ (lay_m2 (W l) n h3).symm)
  obtain ⟨n, rfl⟩ : ∃ k, n = 768 + k := ⟨n - 768, by omega⟩
  simp only [← Nat.add_assoc]
  exact (InProjIdeal.Host.packT_B hw ⟨n, by omega⟩ l).trans (congrArg _ (lay_B (W l) n).symm)

/-- The row of the array that row `r` of point `t`'s block is. -/
abbrev row (t : Fin cfg0.N) (r : Fin 1024) : Fin 8192 := ⟨t.val * 1024 + r.val, by have := lt_of_lt_of_eq t.isLt N_0; omega⟩

variable {X : Fin 8192 → Fin 1024 → ℝ} {G : Fin 1024 → ℝ} {W : Fin 1024 → ℕ → ℝ}
variable (h : Given m c X G W)
include h

theorem blk0 (t : Fin cfg0.N) (r : Fin 1024) (l : Fin 1024) : (iblk m c 0 t : FVec Ideal S1024x1024 .f32) (ix2 r l) = ((X (row t r) l : ℝ) : EReal) := by
  rw [← h.hx, ← V_x m c]
  blk_simp [iblk, idx t]
  refine congrArg (V m c main_arg0) ?_
  blk_ext [idx t]

theorem blk1 (t : Fin cfg0.N) (l : Fin 1024) : (iblk m c 1 t : FVec Ideal S1x1024 .f32) (ix2 0 l) = ((G l : ℝ) : EReal) := by
  refine Eq.trans (b := V m c main_v22 (ix2 0 l)) ?_ ?_
  · blk_simp [iblk, idx t]
    refine congrArg (V m c main_v22) ?_
    blk_ext [idx t]
  · rw [V_g]; pointwise; exact h.hg l

theorem blk2 (t : Fin cfg0.N) (l : Fin 1024) (k : Fin 6272) :
    (iblk m c 2 t : FVec Ideal S1024x6272 .bf16) (ix2 l k) = ((lay (W l) k.val : ℝ) : EReal) := by
  refine Eq.trans (b := V m c main_v21 (ix2 l k)) ?_ ?_
  · blk_simp [iblk, idx t]
    refine congrArg (V m c main_v21) ?_
    blk_ext [idx t]
  · rw [V_w]
    refine Eq.trans (b := InProjIdeal.Host.packT (A2 m c) (ix2 k l)) ?_ (pack_at h.hw l k)
    pointwise [InProjIdeal.Host.packT]

theorem final3 : ((dats m 0 c).arrAt 3 cfg0.N : FVec Ideal S8192x6272 .bf16) =
    fun i => ((lay (prod X G W (i 0)) (i 1).val : ℝ) : EReal) := by
  refine (dats m 0 c).arrAt_eq_of_covers 3 _ (by decide +kernel) fun t hf y => ?_
  blk_simp
  rw [after0_3]
  obtain ⟨r, k, rfl⟩ : ∃ (r : Fin 1024) (k : Fin 6272), y = ix2 r k := ⟨y 0, y 1, by idx_vars y⟩
  have e : (win0_3.blk t).view.emb (ix2 r k) = ix2 (row t r) k := by blk_ext [idx t]
  rw [e]
  unfold out0_3
  frame_out
  refine (Pay.pay1 (blk0 m c h t) (blk1 m c h t) (blk2 m c h t) r k).trans
    (congrArg (fun n : ℕ => ((lay (prod X G W (row t r)) n : ℝ) : EReal)) ?_)
  rw [(idx t).2.2.2]
  show k.val = 0 * 6272 + k.val
  omega

end Cert.ProjIdeal.Arrays

end
-- ==== Proof.Proj.Ref.lean ====
/- The reference's result at finite arguments. -/
module

public import proofs.«01_k».proof.Proof.Gen.ProjRefIdeal.Read
public import proofs.«01_k».proof.Proof.Proj.Spec

@[expose] public section

set_option maxRecDepth 16384

noncomputable section

namespace Cert.ProjRefIdeal.Out

open Cert.InProjSpec Cert.ProjRefIdeal Cert.ProjRefIdeal.Gen Cert.ProjRefIdeal.Read Cert.Reals Cert.ProjSpec
open Idealize.ShloMosaic Idealize.ShloMosaic.TcCoe Idealize.SL.Sem

theorem dite_to {c : Prop} [Decidable c] {a : c → EReal} {b : ¬c → EReal} {r : EReal} (ha : ∀ h, a h = r) (hb : ∀ h, b h = r) :
    dite c a b = r := by
  by_cases h : c
  · rw [dif_pos h, ha]
  · rw [dif_neg h, hb]

theorem to_lay {f : ℕ → ℝ} {r : ℝ} {a b : ℕ} (h : r = f b) (e : a = b) : ((f a : ℝ) : EReal) = ((r : ℝ) : EReal) := by rw [h, e]

theorem neg_to {f : ℕ → ℝ} {r : ℝ} {a b : ℕ} (h : r = -f b) (e : a = b) : -((f a : ℝ) : EReal) = ((r : ℝ) : EReal) := by
  rw [h, e, EReal.coe_neg]

theorem zero_to {r : ℝ} (h : r = 0) : (0 : EReal) = ((r : ℝ) : EReal) := by rw [h, EReal.coe_zero]

section

variable {x : FVec Ideal S8192x1024 .f32} {g : FVec Ideal S1024 .f32} {w : FVec Ideal S1024x6048 .f32}
  {X : Fin 8192 → Fin 1024 → ℝ} {G : Fin 1024 → ℝ} {W : Fin 1024 → ℕ → ℝ}
  (hx : ∀ i l, x (ix2 i l) = ((X i l : ℝ) : EReal)) (hg : ∀ l, g (ix1 l) = ((G l : ℝ) : EReal))
  (hw : ∀ l (n : Fin 6048), w (ix2 l n) = ((W l n.val : ℝ) : EReal))
include hx hg hw

theorem v13 (i : Fin 8192) (n : Fin 6048) : val_main_v13 (F := Ideal) x g w (ix2 i n) = ((prod X G W i n.val : ℝ) : EReal) := by
  pointwise [val_main_v13, val_main_v12, val_main_v11, val_main_v10, val_main_v9, val_main_v8, val_main_v7, val_main_v6,
    val_main_v5, val_main_v4, val_main_v3, val_main_v2, val_main_v1, val_main_v0, val_main_cst, val_main_cst_0, val_main_cst_1]
  simp only [hx, hg, hw, eps_word, w1024, ← EReal.coe_mul, sum_coe, zero_add, div_1024, ← EReal.coe_add, rsqrt_mean]
  rfl

set_option maxHeartbeats 4000000 in
theorem v32 (i : Fin 8192) (n : Fin 6272) : val_main_v32 (F := Ideal) x g w (ix2 i n) = ((lay (prod X G W i) n.val : ℝ) : EReal) := by
  obtain ⟨n, hn⟩ := n
  pointwise [val_main_v32, val_main_v31, val_main_v30, val_main_v29, val_main_v28, val_main_v27, val_main_v26, val_main_v25, val_main_v24,
    val_main_v23, val_main_v22, val_main_v21, val_main_v20, val_main_v19, val_main_v18, val_main_v17, val_main_v16, val_main_v15, val_main_v14,
    val_main_cst_2, val_main_cst_3, val_main_cst_4, val_main_cst_5]
  have hv := v13 hx hg hw i
  generalize val_main_v13 (F := Ideal) x g w = p at hv ⊢
  generalize prod X G W i = f at hv ⊢
  repeat' refine dite_to (fun _ => ?_) fun _ => ?_
  all_goals try rw [hv]
  · exact to_lay (lay_1 f n (by omega)) rfl
  · exact to_lay (lay_2 f n (by omega) (by omega)) (by simp only; omega)
  · exact to_lay (lay_2 f n (by omega) (by omega)) (by simp only; omega)
  · exact to_lay (lay_3 f n (by omega) (by omega)) (by simp only; omega)
  · exact to_lay (lay_4 f n (by omega) (by omega)) (by simp only; omega)
  · exact to_lay (lay_5 f n (by omega) (by omega)) (by simp only; omega)
  · exact to_lay (lay_5 f n (by omega) (by omega)) (by simp only; omega)
  · exact to_lay (lay_6 f n (by omega) (by omega)) (by simp only; omega)
  · exact to_lay (lay_6 f n (by omega) (by omega)) (by simp only; omega)
  · exact zero_to (lay_7 f n (by omega) (by omega))
  · exact to_lay (lay_8 f n (by omega) (by omega)) (by simp only; omega)
  · exact zero_to (lay_9 f n (by omega) (by omega))
  · exact zero_to (lay_9 f n (by omega) (by omega))
  · exact neg_to (lay_10 f n (by omega) (by omega)) (by simp only; omega)
  · exact to_lay (lay_11 f n (by omega) (by omega)) (by simp only; omega)
  · exact zero_to (lay_12 f n (by omega))

end

end Cert.ProjRefIdeal.Out

end
-- ==== Proof.Proj.Pre.lean ====
/- The precondition read back: the arguments are arrays of reals. -/
module

public import proofs.«01_k».proof.Pre_finite_proj
public import proofs.«01_k».proof.Proof.Kit.Reals

@[expose] public section

set_option maxRecDepth 16384

noncomputable section

namespace Cert.Pre_finite_proj.Read

open Cert.Pre_finite_proj Cert.Reals Idealize.ShloMosaic

variable [Facts]

theorem reals (x : FVec Ideal S8192x1024 .f32) (g : FVec Ideal S1024 .f32) (w : FVec Ideal S1024x6048 .f32)
    (h : fn (F := Ideal) x g w = fun _ => 1#1) :
    (∃ X : S8192x1024.Idx → ℝ, x = up X)
      ∧ (∃ G : S1024.Idx → ℝ, g = up G)
      ∧ (∃ W : S1024x6048.Idx → ℝ, w = up W) := by
  have h := congrFun h (fun k => k.elim0)
  unfold fn at h
  obtain ⟨h, h3⟩ := IntOp.andi_eq_one.1 h
  obtain ⟨h1, h2⟩ := IntOp.andi_eq_one.1 h
  haveI : Subsingleton S_.Idx := ⟨fun p q => funext fun k => k.elim0⟩
  exact ⟨reals_of_all _ _ (fun _ => rfl) _ _ _ _ h1,
    reals_of_all _ _ (fun _ => rfl) _ _ _ _ h2,
    reals_of_all _ _ (fun _ => rfl) _ _ _ _ h3⟩

end Cert.Pre_finite_proj.Read

end
-- ==== Proof.Proj.Claim.lean ====
/- The value claim of the norm and the projection. -/
module

public import proofs.«01_k».proof.Defs
public import proofs.«01_k».proof.Proof.Proj.Kernel
public import proofs.«01_k».proof.Proof.Proj.Ref
public import proofs.«01_k».proof.Proof.Proj.Pre
public import proofs.«01_k».proof.Proof.Gen.ProjRefIdeal.Run
public import Idealize.ShloMosaic.Lib.Claim

@[expose] public section

set_option maxRecDepth 16384

noncomputable section

namespace Cert.ProjClaim

open Idealize.ShloMosaic Idealize.ShloMosaic.TcCoe Idealize.SL.Sem

/-- A finite row, continued by zeros. -/
def past {n : ℕ} (f : Fin n → ℝ) (k : ℕ) : ℝ := if h : k < n then f ⟨k, h⟩ else 0

theorem past_val {n : ℕ} (f : Fin n → ℝ) (k : Fin n) : past f k.val = f k := dif_pos k.isLt

theorem given [Cert.Pre_finite_proj.Facts]
    (m : (ℓ : Loc Cert.ProjIdeal.nD Cert.ProjIdeal.τ Cert.ProjIdeal.sig) → Buf (Elt Ideal) ℓ)
    (h : Cert.Pre_ProjIdeal_finite_proj m) (c : Dev Cert.ProjIdeal.nD) :
    ∃ X G W, Cert.ProjIdeal.Arrays.Given m c X G W := by
  obtain ⟨⟨X, hX⟩, ⟨G, hG⟩, ⟨W, hW⟩⟩ := Cert.Pre_finite_proj.Read.reals _ _ _ (h c)
  exact ⟨fun i j => X (ix2 i j), fun i => G (ix1 i), fun l => past fun n : Fin 6048 => W (ix2 l n),
    fun _ _ => congrFun hX _, fun _ => congrFun hG _, fun l n => by rw [past_val]; exact congrFun hW _⟩

theorem algebraic [Cert.Pre_finite_proj.Facts] :
    Cert.algebraic_ProjIdeal_ProjRefIdeal_pre_finite_proj (hProjIdeal := Cert.ProjIdeal.Gen.facts)
      (hProjRefIdeal := Cert.ProjRefIdeal.Gen.facts) := by
  pair_intro
  · run_from Cert.ProjIdeal.Value.run_blocks m g
  · run_from Cert.ProjRefIdeal.Value.run m' g'
    all_goals
      obtain ⟨X, G, W, h⟩ := given m hpre c
      obtain ⟨e0, e1, e2⟩ := hagree c
    · refine (Cert.ProjRefIdeal.Read.val_main_v32_eq _ _).trans ?_
      simp only [StableHlo.launchContents_devRef, e0, e1, e2]
      rw [Cert.ProjIdeal.Arrays.final3 m c h]
      funext i
      idx_vars i
      exact Cert.ProjRefIdeal.Out.v32 h.hx h.hg h.hw i0 i1

theorem frame_ref : Cert.quiescent_ProjRefIdeal (hProjRefIdeal := Cert.ProjRefIdeal.Gen.facts) := fun m ρ _ =>
  (θ_run _ _ _).mono (fun r h => ⟨fun c => (h c).2, sem_eq_zero_of_no_sems (by decide) r.2⟩)
    (Cert.ProjRefIdeal.Value.run m ρ)

theorem frame_ref_pre [Cert.Pre_finite_proj.Facts] :
    Cert.quiescent_ProjRefIdeal_pre_finite_proj (hProjRefIdeal := Cert.ProjRefIdeal.Gen.facts) :=
  fun m ρ _ => frame_ref m ρ True.intro

end Cert.ProjClaim

end
-- ==== Proof.Wup.Spec.lean ====
/- The gradient of a product's weight, over the reals, with the product's other factor the norm or the squared ReLU of a row. -/
module

public import proofs.«01_k».proof.Proof.Kit.Reals

@[expose] public section

set_option maxRecDepth 16384

noncomputable section

namespace Cert.WSpec

open Cert.Reals

/-- The normed row `i` with gain `G`. -/
def normed {n : ℕ} (X : Fin n → Fin 1024 → ℝ) (G : Fin 1024 → ℝ) (i : Fin n) (k : Fin 1024) : ℝ := X i k * rr (X i) 1024 * G k

/-- The squared positive part. -/
def relu2 {n : ℕ} (A : Fin n → Fin 4096 → ℝ) (i : Fin n) (k : Fin 4096) : ℝ := max (A i k) 0 * max (A i k) 0

/-- The weight's gradient: the product over the rows. -/
def grad {r p q : ℕ} (H : Fin r → Fin p → ℝ) (B : Fin r → Fin q → ℝ) (k : Fin p) (n : Fin q) : ℝ := ∑ i, H i k * B i n

theorem max_zero (a : ℝ) : max ((a : ℝ) : EReal) 0 = ((max a 0 : ℝ) : EReal) := by
  rw [← EReal.coe_zero]; exact (EReal.coe_strictMono.monotone.map_max).symm

end Cert.WSpec

end
-- ==== Proof.Wup.Pay.lean ====
/- What the body of the weight gradient's product stores, at finite blocks. -/
module

public import proofs.«01_k».proof.Proof.Gen.WupIdeal.Skeleton
public import proofs.«01_k».proof.Proof.Wup.Spec

@[expose] public section

set_option maxRecDepth 16384

noncomputable section

namespace Cert.WupIdeal.Pay

open Cert.WupIdeal Cert.WupIdeal.Gen Cert.Reals Cert.WSpec
open Idealize.ShloMosaic Idealize.ShloMosaic.TcCoe Idealize.SL.Sem

theorem pay1 (j : S1024x2048.Idx) : k0_pay1 (F := Ideal) j = 0 := by pointwise [k0_pay1]

theorem pay2 {x : FVec Ideal S512x1024 .f32} {g : FVec Ideal S1x1024 .f32} {X : Fin 512 → Fin 1024 → ℝ} {G : Fin 1024 → ℝ}
    {b : FVec Ideal S512x2048 .bf16} {B : Fin 512 → Fin 2048 → ℝ} (hx : ∀ r l, x (ix2 r l) = ((X r l : ℝ) : EReal)) (hg : ∀ l, g (ix2 0 l) = ((G l : ℝ) : EReal))
    (hb : ∀ r n, b (ix2 r n) = ((B r n : ℝ) : EReal)) (acc : FVec Ideal S1024x2048 .f32) (k : Fin 1024) (n : Fin 2048) :
    k0_pay2 (F := Ideal) x g acc b (ix2 k n) = acc (ix2 k n) + ((grad (normed X G) B k n : ℝ) : EReal) := by
  pointwise [k0_pay2]
  simp only [hx, hg, hb, eps_word, w1024, ← EReal.coe_mul, sum_coe, zero_add, div_1024, ← EReal.coe_add, rsqrt_mean]
  rfl

end Cert.WupIdeal.Pay

end
-- ==== Proof.Wup.Kernel.lean ====
/- The weight's gradient the kernel leaves, at finite arguments. -/
module

public import proofs.«01_k».proof.Proof.Gen.WupIdeal.Value
public import proofs.«01_k».proof.Proof.Wup.Pay
public import Idealize.ShloMosaic.Lib.Pipeline.ValueKit
public import Idealize.ShloMosaic.Lib.StableHlo.RunRead

@[expose] public section

set_option maxRecDepth 16384

noncomputable section

namespace Cert.WupIdeal.Arrays

open Cert.WupIdeal Cert.WupIdeal.Gen Cert.Reals Cert.WSpec
open Idealize.ShloMosaic Idealize.ShloMosaic.TcCoe Idealize.SL.Sem
open Idealize.ShloMosaic.Pipeline (Dat)

variable (m : (ℓ : Loc nD τ sig) → Buf (Elt Ideal) ℓ) (c : Dev nD)

abbrev A0 : FVec Ideal S8192x1024 .f32 := m ((c : Thread nD τ).loc main_arg0)
abbrev A1 : FVec Ideal S1024 .f32 := m ((c : Thread nD τ).loc main_arg1)
abbrev A2 : FVec Ideal S8192x4096 .f32 := m ((c : Thread nD τ).loc main_arg2)

/-- The arguments are these reals. -/
structure Given (X : Fin 8192 → Fin 1024 → ℝ) (G : Fin 1024 → ℝ) (B : Fin 8192 → Fin 4096 → ℝ) : Prop where
  hx : ∀ i l, A0 m c (ix2 i l) = ((X i l : ℝ) : EReal)
  hg : ∀ l, A1 m c (ix1 l) = ((G l : ℝ) : EReal)
  hb : ∀ i n, A2 m c (ix2 i n) = ((B i n : ℝ) : EReal)

theorem V_b : V m c main_v0 = truncf (F := Ideal) .bf16 (A2 m c) bitsLt_bf16_f32 := by
  unfold V hostOps0
  after_reads_simp
theorem V_g : V m c main_v1 = broadcastInDim S1x1024 ![1] bcast_S1024_S1x1024_1 (A1 m c) := by
  unfold V hostOps0
  after_reads_simp
theorem V_x : V m c main_arg0 = A0 m c := by
  unfold V hostOps0
  after_reads_simp

theorem idx : ∀ t : Fin cfg0.N, win0_0.index t = ![t.val % 16, 0] ∧ win0_1.index t = ![0, 0] ∧ win0_2.index t = ![t.val % 16, t.val / 16] ∧
    win0_3.index t = ![0, t.val / 16] :=
  (by decide +kernel : ∀ t : Fin grid0.N, _)

/-- The row and the column of the arrays that row `r` and column `n` of point `t`'s blocks are. -/
abbrev row (t : Fin cfg0.N) (r : Fin 512) : Fin 8192 := ⟨t.val % 16 * 512 + r.val, by omega⟩
abbrev col (t : Fin cfg0.N) (n : Fin 2048) : Fin 4096 :=
  ⟨t.val / 16 * 2048 + n.val, by have := lt_of_lt_of_eq t.isLt N_0; omega⟩

variable {X : Fin 8192 → Fin 1024 → ℝ} {G : Fin 1024 → ℝ} {B : Fin 8192 → Fin 4096 → ℝ}
variable (h : Given m c X G B)
include h

theorem blk0 (t : Fin cfg0.N) (r : Fin 512) (l : Fin 1024) :
    (iblk m c 0 t : FVec Ideal S512x1024 .f32) (ix2 r l) = ((X (row t r) l : ℝ) : EReal) := by
  rw [← h.hx, ← V_x m c]
  blk_simp [iblk, idx t]
  refine congrArg (V m c main_arg0) ?_
  blk_ext [idx t]

theorem blk1 (t : Fin cfg0.N) (l : Fin 1024) : (iblk m c 1 t : FVec Ideal S1x1024 .f32) (ix2 0 l) = ((G l : ℝ) : EReal) := by
  refine Eq.trans (b := V m c main_v1 (ix2 0 l)) ?_ ?_
  · blk_simp [iblk, idx t]
    refine congrArg (V m c main_v1) ?_
    blk_ext [idx t]
  · rw [V_g]; pointwise; exact h.hg l

theorem blk2 (t : Fin cfg0.N) (r : Fin 512) (n : Fin 2048) :
    (iblk m c 2 t : FVec Ideal S512x2048 .bf16) (ix2 r n) = ((B (row t r) (col t n) : ℝ) : EReal) := by
  refine Eq.trans (b := V m c main_v0 (ix2 (row t r) (col t n))) ?_ ?_
  · blk_simp [iblk, idx t]
    refine congrArg (V m c main_v0) ?_
    blk_ext [idx t]
  · rw [V_b]; pointwise; exact h.hb _ _

theorem final3 : ((dats m 0 c).arrAt 3 cfg0.N : FVec Ideal S1024x4096 .f32) = fun i => ((grad (normed X G) B (i 0) (i 1) : ℝ) : EReal) := by
  refine (dats m 0 c).arrAt_eq_of_covers 3 _ (by decide +kernel) fun t hf y => ?_
  have ht : t.val % 16 = 15 := (flush0_3 t).mp hf
  blk_simp
  rw [after0_3]
  obtain ⟨k, n, rfl⟩ : ∃ (k : Fin 1024) (n : Fin 2048), y = ix2 k n := ⟨y 0, y 1, by idx_vars y⟩
  have e : (win0_3.blk t).view.emb (ix2 k n) = ix2 k (col t n) := by blk_ext [idx t]
  refine Eq.trans ?_ (congrArg (fun i : S1024x4096.Idx => ((grad (normed X G) B (i 0) (i 1) : ℝ) : EReal)) e).symm
  refine (Pipeline.eq_sum_fin_of_reset_step_apply_of_flush (fun n h => outsAt0 m c n h) 16 (fun _ => 0)
    (fun p j => ((∑ r : Fin 512, (normed X G) (row p r) (j 0) * B (row p r) (col p (j 1)) : ℝ) : EReal))
    (fun t h0 j => by
      idx_vars j; rw [outsAt0_A m c t h0]; frame_out
      rw [Pay.pay2 (blk0 m c h t) (blk1 m c h t) (blk2 m c h t), Pay.pay1]; rfl)
    (fun t h0 j => by
      idx_vars j; rw [outsAt0_B m c t h0]; frame_out
      rw [Pay.pay2 (blk0 m c h t) (blk1 m c h t) (blk2 m c h t)]; rfl)
    t ht (ix2 k n)).trans ?_
  rw [zero_add, sum_coe]
  refine congrArg _ (Fin.sum_mul_add_congr (f := fun i => (normed X G) i k * B i (col t n)) (fun s r hl => ?_))
  have hs := s.isLt
  have e1 : row ⟨16 * (t.val / 16) + s.val, Pipeline.run_point_lt_of_flush t ht s⟩ r = ⟨s.val * 512 + r.val, hl⟩ := Fin.ext (by
    show (16 * (t.val / 16) + s.val) % 16 * 512 + r.val = s.val * 512 + r.val
    omega)
  have e2 : col ⟨16 * (t.val / 16) + s.val, Pipeline.run_point_lt_of_flush t ht s⟩ n = col t n := Fin.ext (by
    show (16 * (t.val / 16) + s.val) / 16 * 2048 + n.val = t.val / 16 * 2048 + n.val
    omega)
  show (normed X G) (row _ r) k * B (row _ r) (col _ n) = _
  rw [e1, e2]

end Cert.WupIdeal.Arrays

end
-- ==== Proof.Wup.Ref.lean ====
/- The reference's result at finite arguments. -/
module

public import proofs.«01_k».proof.Proof.Gen.WupRefIdeal.Read
public import proofs.«01_k».proof.Proof.Wup.Spec

@[expose] public section

set_option maxRecDepth 16384

noncomputable section

namespace Cert.WupRefIdeal.Out

open Cert.WupRefIdeal Cert.WupRefIdeal.Gen Cert.WupRefIdeal.Read Cert.Reals Cert.WSpec
open Idealize.ShloMosaic Idealize.ShloMosaic.TcCoe Idealize.SL.Sem

theorem v16 {x : FVec Ideal S8192x1024 .f32} {g : FVec Ideal S1024 .f32} {b : FVec Ideal S8192x4096 .f32}
    {X : Fin 8192 → Fin 1024 → ℝ} {G : Fin 1024 → ℝ} {B : Fin 8192 → Fin 4096 → ℝ}
    (hx : ∀ i l, x (ix2 i l) = ((X i l : ℝ) : EReal)) (hg : ∀ l, g (ix1 l) = ((G l : ℝ) : EReal))
    (hb : ∀ i n, b (ix2 i n) = ((B i n : ℝ) : EReal)) (k : Fin 1024) (n : Fin 4096) :
    val_main_v16 (F := Ideal) x g b (ix2 k n) = ((grad (normed X G) B k n : ℝ) : EReal) := by
  pointwise [val_main_v16, val_main_v15, val_main_v13, val_main_v12, val_main_v11, val_main_v10, val_main_v9, val_main_v8, val_main_v7, val_main_v6,
    val_main_v5, val_main_v4, val_main_v3, val_main_v2, val_main_v1, val_main_cst_0, val_main_cst_1, val_main_cst_2]
  simp only [hx, hg, hb, eps_word, w1024, ← EReal.coe_mul, sum_coe, zero_add, div_1024, ← EReal.coe_add, rsqrt_mean]
  exact congrArg _ (Finset.sum_congr rfl fun i _ => mul_comm _ _)

end Cert.WupRefIdeal.Out

end
-- ==== Proof.Wup.Pre.lean ====
/- The precondition read back: the arguments are arrays of reals. -/
module

public import proofs.«01_k».proof.Pre_finite_wup
public import proofs.«01_k».proof.Proof.Kit.Reals

@[expose] public section

set_option maxRecDepth 16384

noncomputable section

namespace Cert.Pre_finite_wup.Read

open Cert.Pre_finite_wup Cert.Reals Idealize.ShloMosaic

variable [Facts]

theorem reals (x : FVec Ideal S8192x1024 .f32) (g : FVec Ideal S1024 .f32) (w : FVec Ideal S8192x4096 .f32)
    (h : fn (F := Ideal) x g w = fun _ => 1#1) :
    (∃ X : S8192x1024.Idx → ℝ, x = up X)
      ∧ (∃ G : S1024.Idx → ℝ, g = up G)
      ∧ (∃ W : S8192x4096.Idx → ℝ, w = up W) := by
  have h := congrFun h (fun k => k.elim0)
  unfold fn at h
  obtain ⟨h, h3⟩ := IntOp.andi_eq_one.1 h
  obtain ⟨h1, h2⟩ := IntOp.andi_eq_one.1 h
  haveI : Subsingleton S_.Idx := ⟨fun p q => funext fun k => k.elim0⟩
  exact ⟨reals_of_all _ _ (fun _ => rfl) _ _ _ _ h1,
    reals_of_all _ _ (fun _ => rfl) _ _ _ _ h2,
    reals_of_all _ _ (fun _ => rfl) _ _ _ _ h3⟩

end Cert.Pre_finite_wup.Read

end
-- ==== Proof.Wup.Claim.lean ====
/- The value claim of the first product's weight gradient. -/
module

public import proofs.«01_k».proof.Defs
public import proofs.«01_k».proof.Proof.Wup.Kernel
public import proofs.«01_k».proof.Proof.Wup.Ref
public import proofs.«01_k».proof.Proof.Wup.Pre
public import proofs.«01_k».proof.Proof.Gen.WupRefIdeal.Run
public import Idealize.ShloMosaic.Lib.Claim

@[expose] public section

set_option maxRecDepth 16384

noncomputable section

namespace Cert.WupClaim

open Idealize.ShloMosaic Idealize.ShloMosaic.TcCoe Idealize.SL.Sem

theorem given [Cert.Pre_finite_wup.Facts]
    (m : (ℓ : Loc Cert.WupIdeal.nD Cert.WupIdeal.τ Cert.WupIdeal.sig) → Buf (Elt Ideal) ℓ)
    (h : Cert.Pre_WupIdeal_finite_wup m) (c : Dev Cert.WupIdeal.nD) :
    ∃ X G B, Cert.WupIdeal.Arrays.Given m c X G B := by
  obtain ⟨⟨X, hX⟩, ⟨G, hG⟩, ⟨W, hW⟩⟩ := Cert.Pre_finite_wup.Read.reals _ _ _ (h c)
  exact ⟨fun i j => X (ix2 i j), fun i => G (ix1 i), fun i j => W (ix2 i j),
    fun _ _ => congrFun hX _, fun _ => congrFun hG _, fun _ _ => congrFun hW _⟩

theorem algebraic [Cert.Pre_finite_wup.Facts] :
    Cert.algebraic_WupIdeal_WupRefIdeal_pre_finite_wup (hWupIdeal := Cert.WupIdeal.Gen.facts)
      (hWupRefIdeal := Cert.WupRefIdeal.Gen.facts) := by
  pair_intro
  · run_from Cert.WupIdeal.Value.run_blocks m g
  · run_from Cert.WupRefIdeal.Value.run m' g'
    all_goals
      obtain ⟨X, G, B, h⟩ := given m hpre c
      obtain ⟨e0, e1, e2⟩ := hagree c
    · refine (Cert.WupRefIdeal.Read.val_main_v16_eq _ _ _).trans ?_
      rw [Cert.WupIdeal.Arrays.final3 m c h]
      funext i
      idx_vars i
      exact Cert.WupRefIdeal.Out.v16 h.hx h.hg h.hb i0 i1

theorem frame_ref : Cert.quiescent_WupRefIdeal (hWupRefIdeal := Cert.WupRefIdeal.Gen.facts) := fun m ρ _ =>
  (θ_run _ _ _).mono (fun r h => ⟨fun c => (h c).2, sem_eq_zero_of_no_sems (by decide) r.2⟩)
    (Cert.WupRefIdeal.Value.run m ρ)

theorem frame_ref_pre [Cert.Pre_finite_wup.Facts] :
    Cert.quiescent_WupRefIdeal_pre_finite_wup (hWupRefIdeal := Cert.WupRefIdeal.Gen.facts) :=
  fun m ρ _ => frame_ref m ρ True.intro

end Cert.WupClaim

end
-- ==== Proof.Wdown.Pay.lean ====
/- What the body of the weight gradient's product stores, at finite blocks. -/
module

public import proofs.«01_k».proof.Proof.Gen.WdownIdeal.Skeleton
public import proofs.«01_k».proof.Proof.Wup.Spec

@[expose] public section

set_option maxRecDepth 16384

noncomputable section

namespace Cert.WdownIdeal.Pay

open Cert.WdownIdeal Cert.WdownIdeal.Gen Cert.Reals Cert.WSpec
open Idealize.ShloMosaic Idealize.ShloMosaic.TcCoe Idealize.SL.Sem

theorem pay1 (j : S4096x1024.Idx) : k0_pay1 (F := Ideal) j = 0 := by pointwise [k0_pay1]

theorem pay2 {a : FVec Ideal S512x4096 .bf16} {A : Fin 512 → Fin 4096 → ℝ}
    {b : FVec Ideal S512x1024 .bf16} {B : Fin 512 → Fin 1024 → ℝ} (ha : ∀ r l, a (ix2 r l) = ((A r l : ℝ) : EReal))
    (hb : ∀ r n, b (ix2 r n) = ((B r n : ℝ) : EReal)) (acc : FVec Ideal S4096x1024 .f32) (k : Fin 4096) (n : Fin 1024) :
    k0_pay2 (F := Ideal) a acc b (ix2 k n) = acc (ix2 k n) + ((grad (relu2 A) B k n : ℝ) : EReal) := by
  pointwise [k0_pay2]
  simp only [ha, hb, max_zero, ← EReal.coe_mul, sum_coe]
  rfl

end Cert.WdownIdeal.Pay

end
-- ==== Proof.Wdown.Kernel.lean ====
/- The weight's gradient the kernel leaves, at finite arguments. -/
module

public import proofs.«01_k».proof.Proof.Gen.WdownIdeal.Value
public import proofs.«01_k».proof.Proof.Wdown.Pay
public import Idealize.ShloMosaic.Lib.Pipeline.ValueKit
public import Idealize.ShloMosaic.Lib.StableHlo.RunRead

@[expose] public section

set_option maxRecDepth 16384

noncomputable section

namespace Cert.WdownIdeal.Arrays

open Cert.WdownIdeal Cert.WdownIdeal.Gen Cert.Reals Cert.WSpec
open Idealize.ShloMosaic Idealize.ShloMosaic.TcCoe Idealize.SL.Sem
open Idealize.ShloMosaic.Pipeline (Dat)

variable (m : (ℓ : Loc nD τ sig) → Buf (Elt Ideal) ℓ) (c : Dev nD)

abbrev A0 : FVec Ideal S8192x4096 .f32 := m ((c : Thread nD τ).loc main_arg0)
abbrev A1 : FVec Ideal S8192x1024 .f32 := m ((c : Thread nD τ).loc main_arg1)

/-- The arguments are these reals. -/
structure Given (A : Fin 8192 → Fin 4096 → ℝ) (B : Fin 8192 → Fin 1024 → ℝ) : Prop where
  ha : ∀ i l, A0 m c (ix2 i l) = ((A i l : ℝ) : EReal)
  hb : ∀ i n, A1 m c (ix2 i n) = ((B i n : ℝ) : EReal)

theorem V_b : V m c main_v1 = truncf (F := Ideal) .bf16 (A1 m c) bitsLt_bf16_f32 := by
  unfold V hostOps0
  after_reads_simp
theorem V_a : V m c main_v0 = truncf (F := Ideal) .bf16 (A0 m c) bitsLt_bf16_f32 := by
  unfold V hostOps0
  after_reads_simp

theorem idx : ∀ t : Fin cfg0.N, win0_0.index t = ![t.val % 16, 0] ∧ win0_1.index t = ![t.val % 16, t.val / 16] ∧
    win0_2.index t = ![0, t.val / 16] :=
  (by decide +kernel : ∀ t : Fin grid0.N, _)

/-- The row and the column of the arrays that row `r` and column `n` of point `t`'s blocks are. -/
abbrev row (t : Fin cfg0.N) (r : Fin 512) : Fin 8192 := ⟨t.val % 16 * 512 + r.val, by omega⟩
abbrev col (t : Fin cfg0.N) (n : Fin 1024) : Fin 1024 :=
  ⟨t.val / 16 * 1024 + n.val, by have := lt_of_lt_of_eq t.isLt N_0; omega⟩

variable {A : Fin 8192 → Fin 4096 → ℝ} {B : Fin 8192 → Fin 1024 → ℝ}
variable (h : Given m c A B)
include h

theorem blk0 (t : Fin cfg0.N) (r : Fin 512) (l : Fin 4096) :
    (iblk m c 0 t : FVec Ideal S512x4096 .bf16) (ix2 r l) = ((A (row t r) l : ℝ) : EReal) := by
  refine Eq.trans (b := V m c main_v0 (ix2 (row t r) l)) ?_ ?_
  · blk_simp [iblk, idx t]
    refine congrArg (V m c main_v0) ?_
    blk_ext [idx t]
  · rw [V_a]; pointwise; exact h.ha _ _

theorem blk1 (t : Fin cfg0.N) (r : Fin 512) (n : Fin 1024) :
    (iblk m c 1 t : FVec Ideal S512x1024 .bf16) (ix2 r n) = ((B (row t r) (col t n) : ℝ) : EReal) := by
  refine Eq.trans (b := V m c main_v1 (ix2 (row t r) (col t n))) ?_ ?_
  · blk_simp [iblk, idx t]
    refine congrArg (V m c main_v1) ?_
    blk_ext [idx t]
  · rw [V_b]; pointwise; exact h.hb _ _

theorem final2 : ((dats m 0 c).arrAt 2 cfg0.N : FVec Ideal S4096x1024 .f32) = fun i => ((grad (relu2 A) B (i 0) (i 1) : ℝ) : EReal) := by
  refine (dats m 0 c).arrAt_eq_of_covers 2 _ (by decide +kernel) fun t hf y => ?_
  have ht : t.val % 16 = 15 := (flush0_2 t).mp hf
  blk_simp
  rw [after0_2]
  obtain ⟨k, n, rfl⟩ : ∃ (k : Fin 4096) (n : Fin 1024), y = ix2 k n := ⟨y 0, y 1, by idx_vars y⟩
  have e : (win0_2.blk t).view.emb (ix2 k n) = ix2 k (col t n) := by blk_ext [idx t]
  refine Eq.trans ?_ (congrArg (fun i : S4096x1024.Idx => ((grad (relu2 A) B (i 0) (i 1) : ℝ) : EReal)) e).symm
  refine (Pipeline.eq_sum_fin_of_reset_step_apply_of_flush (fun n h => outsAt0 m c n h) 16 (fun _ => 0)
    (fun p j => ((∑ r : Fin 512, (relu2 A) (row p r) (j 0) * B (row p r) (col p (j 1)) : ℝ) : EReal))
    (fun t h0 j => by
      idx_vars j; rw [outsAt0_A m c t h0]; frame_out
      rw [Pay.pay2 (blk0 m c h t) (blk1 m c h t), Pay.pay1]; rfl)
    (fun t h0 j => by
      idx_vars j; rw [outsAt0_B m c t h0]; frame_out
      rw [Pay.pay2 (blk0 m c h t) (blk1 m c h t)]; rfl)
    t ht (ix2 k n)).trans ?_
  rw [zero_add, sum_coe]
  refine congrArg _ (Fin.sum_mul_add_congr (f := fun i => (relu2 A) i k * B i (col t n)) (fun s r hl => ?_))
  have hs := s.isLt
  have e1 : row ⟨16 * (t.val / 16) + s.val, Pipeline.run_point_lt_of_flush t ht s⟩ r = ⟨s.val * 512 + r.val, hl⟩ := Fin.ext (by
    show (16 * (t.val / 16) + s.val) % 16 * 512 + r.val = s.val * 512 + r.val
    omega)
  have e2 : col ⟨16 * (t.val / 16) + s.val, Pipeline.run_point_lt_of_flush t ht s⟩ n = col t n := Fin.ext (by
    show (16 * (t.val / 16) + s.val) / 16 * 1024 + n.val = t.val / 16 * 1024 + n.val
    omega)
  show (relu2 A) (row _ r) k * B (row _ r) (col _ n) = _
  rw [e1, e2]

end Cert.WdownIdeal.Arrays

end
-- ==== Proof.Wdown.Ref.lean ====
/- The reference's result at finite arguments. -/
module

public import proofs.«01_k».proof.Proof.Gen.WdownRefIdeal.Read
public import proofs.«01_k».proof.Proof.Wup.Spec

@[expose] public section

set_option maxRecDepth 16384

noncomputable section

namespace Cert.WdownRefIdeal.Out

open Cert.WdownRefIdeal Cert.WdownRefIdeal.Gen Cert.WdownRefIdeal.Read Cert.Reals Cert.WSpec
open Idealize.ShloMosaic Idealize.ShloMosaic.TcCoe Idealize.SL.Sem

theorem v5 {a : FVec Ideal S8192x4096 .f32} {b : FVec Ideal S8192x1024 .f32}
    {A : Fin 8192 → Fin 4096 → ℝ} {B : Fin 8192 → Fin 1024 → ℝ}
    (ha : ∀ i l, a (ix2 i l) = ((A i l : ℝ) : EReal))
    (hb : ∀ i n, b (ix2 i n) = ((B i n : ℝ) : EReal)) (k : Fin 4096) (n : Fin 1024) :
    val_main_v5 (F := Ideal) a b (ix2 k n) = ((grad (relu2 A) B k n : ℝ) : EReal) := by
  pointwise [val_main_v5, val_main_v4, val_main_v2, val_main_v1, val_main_call0_v0, val_main_call0_cst]
  simp only [ha, hb, max_zero, ← EReal.coe_mul, sum_coe]
  exact congrArg _ (Finset.sum_congr rfl fun i _ => mul_comm _ _)

end Cert.WdownRefIdeal.Out

end
-- ==== Proof.Wdown.Pre.lean ====
/- The precondition read back: the arguments are arrays of reals. -/
module

public import proofs.«01_k».proof.Pre_finite_wdown
public import proofs.«01_k».proof.Proof.Kit.Reals

@[expose] public section

set_option maxRecDepth 16384

noncomputable section

namespace Cert.Pre_finite_wdown.Read

open Cert.Pre_finite_wdown Cert.Reals Idealize.ShloMosaic

variable [Facts]

theorem reals (a : FVec Ideal S8192x4096 .f32) (b : FVec Ideal S8192x1024 .f32) (h : fn (F := Ideal) a b = fun _ => 1#1) :
    (∃ A : S8192x4096.Idx → ℝ, a = up A) ∧ (∃ B : S8192x1024.Idx → ℝ, b = up B) := by
  have h := congrFun h (fun k => k.elim0)
  unfold fn at h
  obtain ⟨h1, h2⟩ := IntOp.andi_eq_one.1 h
  haveI : Subsingleton S_.Idx := ⟨fun p q => funext fun k => k.elim0⟩
  exact ⟨reals_of_all _ _ (fun _ => rfl) _ _ _ _ h1, reals_of_all _ _ (fun _ => rfl) _ _ _ _ h2⟩

end Cert.Pre_finite_wdown.Read

end
-- ==== Proof.Wdown.Claim.lean ====
/- The value claim of the second product's weight gradient. -/
module

public import proofs.«01_k».proof.Defs
public import proofs.«01_k».proof.Proof.Wdown.Kernel
public import proofs.«01_k».proof.Proof.Wdown.Ref
public import proofs.«01_k».proof.Proof.Wdown.Pre
public import proofs.«01_k».proof.Proof.Gen.WdownRefIdeal.Run
public import Idealize.ShloMosaic.Lib.Claim

@[expose] public section

set_option maxRecDepth 16384

noncomputable section

namespace Cert.WdownClaim

open Idealize.ShloMosaic Idealize.ShloMosaic.TcCoe Idealize.SL.Sem

theorem given [Cert.Pre_finite_wdown.Facts]
    (m : (ℓ : Loc Cert.WdownIdeal.nD Cert.WdownIdeal.τ Cert.WdownIdeal.sig) → Buf (Elt Ideal) ℓ)
    (h : Cert.Pre_WdownIdeal_finite_wdown m) (c : Dev Cert.WdownIdeal.nD) :
    ∃ A B, Cert.WdownIdeal.Arrays.Given m c A B := by
  obtain ⟨⟨A, hA⟩, ⟨B, hB⟩⟩ := Cert.Pre_finite_wdown.Read.reals _ _ (h c)
  exact ⟨fun i j => A (ix2 i j), fun i j => B (ix2 i j), fun _ _ => congrFun hA _, fun _ _ => congrFun hB _⟩

theorem algebraic [Cert.Pre_finite_wdown.Facts] :
    Cert.algebraic_WdownIdeal_WdownRefIdeal_pre_finite_wdown (hWdownIdeal := Cert.WdownIdeal.Gen.facts)
      (hWdownRefIdeal := Cert.WdownRefIdeal.Gen.facts) := by
  pair_intro
  · run_from Cert.WdownIdeal.Value.run_blocks m g
  · run_from Cert.WdownRefIdeal.Value.run m' g'
    all_goals
      obtain ⟨A, B, h⟩ := given m hpre c
      obtain ⟨e0, e1⟩ := hagree c
    · refine (Cert.WdownRefIdeal.Read.val_main_v5_eq _ _).trans ?_
      rw [Cert.WdownIdeal.Arrays.final2 m c h]
      funext i
      idx_vars i
      exact Cert.WdownRefIdeal.Out.v5 h.ha h.hb i0 i1

theorem frame_ref : Cert.quiescent_WdownRefIdeal (hWdownRefIdeal := Cert.WdownRefIdeal.Gen.facts) := fun m ρ _ =>
  (θ_run _ _ _).mono (fun r h => ⟨fun c => (h c).2, sem_eq_zero_of_no_sems (by decide) r.2⟩)
    (Cert.WdownRefIdeal.Value.run m ρ)

theorem frame_ref_pre [Cert.Pre_finite_wdown.Facts] :
    Cert.quiescent_WdownRefIdeal_pre_finite_wdown (hWdownRefIdeal := Cert.WdownRefIdeal.Gen.facts) :=
  fun m ρ _ => frame_ref m ρ True.intro

end Cert.WdownClaim

end
-- ==== Proof.Adam.Spec.lean ====
/- One step of the optimiser on one entry. -/
module

public import Idealize.ShloMosaic.Lib.Claim
public import proofs.«01_k».proof.Proof.Kit.Reals

@[expose] public section

set_option maxRecDepth 16384

noncomputable section

namespace Cert.Step

open Idealize.ShloMosaic Idealize.ShloMosaic.TcCoe

abbrev word (b : BitVec 32) : EReal := (FloatOps.ofBits .f32 b : Ideal .f32)

/-- The new first moment. -/
def m1 (g m : EReal) : EReal := word 0x3F666666#32 * m + word 0x3DCCCCCD#32 * g

/-- The new second moment. -/
def m2 (g v : EReal) : EReal := word 0x3F7FBE77#32 * v + word 0x3A83126F#32 * (g * g)

/-- The weight's change. -/
def delta (w g m v : EReal) : EReal :=
  word 0xBA83126F#32 * ((FloatOps.divf (FloatOps.divf (m1 g m : Ideal .f32) (word 0x3F26BD02#32))
    (FloatOps.addf (FloatOps.sqrt (FloatOps.divf (m2 g v : Ideal .f32) (word 0x3C231ACC#32))) (word 0x322BCC77#32)) : Ideal .f32)
    + word 0x3C23D70A#32 * w)

end Cert.Step

end
-- ==== Proof.Adam.Kernel.lean ====
/- The arrays the optimiser's call leaves. -/
module

public import proofs.«01_k».proof.Proof.Gen.AdamIdeal.Value
public import proofs.«01_k».proof.Proof.Adam.Spec
public import Idealize.ShloMosaic.Lib.Pipeline.ValueKit
public import Idealize.ShloMosaic.Lib.StableHlo.RunRead

@[expose] public section

set_option maxRecDepth 16384

noncomputable section

namespace Cert.AdamIdeal.Arrays

open Cert.AdamIdeal Cert.AdamIdeal.Gen Cert.Step
open Idealize.ShloMosaic Idealize.ShloMosaic.TcCoe Idealize.SL.Sem
open Idealize.ShloMosaic.Pipeline (Dat)

theorem pay2 (g m : FVec Ideal S4x72x1024 .f32) (j : S4x72x1024.Idx) : k0_pay2 (F := Ideal) g m j = m1 (g j) (m j) := by
  pointwise [k0_pay2, k0_pay1]
  rfl

theorem pay3 (g v : FVec Ideal S4x72x1024 .f32) (j : S4x72x1024.Idx) : k0_pay3 (F := Ideal) g v j = m2 (g j) (v j) := by
  pointwise [k0_pay3, k0_pay1]
  rfl

theorem pay4 (w g m v : FVec Ideal S4x72x1024 .f32) (j : S4x72x1024.Idx) : k0_pay4 (F := Ideal) w g m v j = delta (w j) (g j) (m j) (v j) := by
  unfold delta
  rw [← pay2, ← pay3]
  pointwise [k0_pay4]

variable (m : (ℓ : Loc nD τ sig) → Buf (Elt Ideal) ℓ) (c : Dev nD)

abbrev A0 : FVec Ideal S4x1024x1512 .f32 := m ((c : Thread nD τ).loc main_arg0)
abbrev A1 : FVec Ideal S4x1024x1512 .f32 := m ((c : Thread nD τ).loc main_arg1)
abbrev A2 : FVec Ideal S4x1024x1512 .f32 := m ((c : Thread nD τ).loc main_arg2)
abbrev A3 : FVec Ideal S4x1024x1512 .f32 := m ((c : Thread nD τ).loc main_arg3)

theorem V0 : V m c main_v0 = transpose S4x1512x1024 [0, 2, 1] (A0 m c) transposes_S4x1024x1512_S4x1512x1024_0_2_1 := by
  unfold V hostOps0
  after_reads_simp
theorem V1 : V m c main_v1 = transpose S4x1512x1024 [0, 2, 1] (A1 m c) transposes_S4x1024x1512_S4x1512x1024_0_2_1 := by
  unfold V hostOps0
  after_reads_simp
theorem V2 : V m c main_v2 = transpose S4x1512x1024 [0, 2, 1] (A2 m c) transposes_S4x1024x1512_S4x1512x1024_0_2_1 := by
  unfold V hostOps0
  after_reads_simp
theorem V3 : V m c main_v3 = transpose S4x1512x1024 [0, 2, 1] (A3 m c) transposes_S4x1024x1512_S4x1512x1024_0_2_1 := by
  unfold V hostOps0
  after_reads_simp

theorem idx : ∀ t : Fin cfg0.N, win0_0.index t = ![0, t.val, 0] ∧ win0_1.index t = ![0, t.val, 0] ∧ win0_2.index t = ![0, t.val, 0] ∧ win0_3.index t = ![0, t.val, 0] ∧ win0_4.index t = ![0, t.val, 0] ∧ win0_5.index t = ![0, t.val, 0] ∧ win0_6.index t = ![0, t.val, 0] :=
  (by decide +kernel : ∀ t : Fin grid0.N, _)

/-- The row of the turned array that row `r` of point `t`'s block is. -/
abbrev row (t : Fin cfg0.N) (r : Fin 72) : Fin 1512 := ⟨t.val * 72 + r.val, by have := lt_of_lt_of_eq t.isLt N_0; omega⟩

theorem blk0 (t : Fin cfg0.N) (a : Fin 4) (r : Fin 72) (l : Fin 1024) : (iblk m c 0 t : FVec Ideal S4x72x1024 .f32) (ix3 a r l) = A0 m c (ix3 a l (row t r)) := by
  refine Eq.trans (b := V m c main_v0 (ix3 a (row t r) l)) ?_ ?_
  · blk_simp [iblk, idx t]
    refine congrArg (V m c main_v0) ?_
    blk_ext [idx t]
  · rw [V0]; pointwise

theorem blk1 (t : Fin cfg0.N) (a : Fin 4) (r : Fin 72) (l : Fin 1024) : (iblk m c 1 t : FVec Ideal S4x72x1024 .f32) (ix3 a r l) = A1 m c (ix3 a l (row t r)) := by
  refine Eq.trans (b := V m c main_v1 (ix3 a (row t r) l)) ?_ ?_
  · blk_simp [iblk, idx t]
    refine congrArg (V m c main_v1) ?_
    blk_ext [idx t]
  · rw [V1]; pointwise

theorem blk2 (t : Fin cfg0.N) (a : Fin 4) (r : Fin 72) (l : Fin 1024) : (iblk m c 2 t : FVec Ideal S4x72x1024 .f32) (ix3 a r l) = A2 m c (ix3 a l (row t r)) := by
  refine Eq.trans (b := V m c main_v2 (ix3 a (row t r) l)) ?_ ?_
  · blk_simp [iblk, idx t]
    refine congrArg (V m c main_v2) ?_
    blk_ext [idx t]
  · rw [V2]; pointwise

theorem blk3 (t : Fin cfg0.N) (a : Fin 4) (r : Fin 72) (l : Fin 1024) : (iblk m c 3 t : FVec Ideal S4x72x1024 .f32) (ix3 a r l) = A3 m c (ix3 a l (row t r)) := by
  refine Eq.trans (b := V m c main_v3 (ix3 a (row t r) l)) ?_ ?_
  · blk_simp [iblk, idx t]
    refine congrArg (V m c main_v3) ?_
    blk_ext [idx t]
  · rw [V3]; pointwise

theorem final4 : ((dats m 0 c).arrAt 4 cfg0.N : FVec Ideal S4x1512x1024 .f32) = fun i => delta (A0 m c (ix3 (i 0) (i 2) (i 1))) (A1 m c (ix3 (i 0) (i 2) (i 1))) (A2 m c (ix3 (i 0) (i 2) (i 1))) (A3 m c (ix3 (i 0) (i 2) (i 1))) := by
  refine (dats m 0 c).arrAt_eq_of_covers 4 _ (by decide +kernel) fun t hf y => ?_
  blk_simp
  rw [after0_4]
  obtain ⟨a, r, l, rfl⟩ : ∃ (a : Fin 4) (r : Fin 72) (l : Fin 1024), y = ix3 a r l := ⟨y 0, y 1, y 2, by idx_vars y⟩
  have e : (win0_4.blk t).view.emb (ix3 a r l) = ix3 a (row t r) l := by blk_ext [idx t]
  rw [e]
  unfold out0_4
  frame_out
  rw [pay4, blk0, blk1, blk2, blk3]
  rfl

theorem final5 : ((dats m 0 c).arrAt 5 cfg0.N : FVec Ideal S4x1512x1024 .f32) = fun i => m1 (A1 m c (ix3 (i 0) (i 2) (i 1))) (A2 m c (ix3 (i 0) (i 2) (i 1))) := by
  refine (dats m 0 c).arrAt_eq_of_covers 5 _ (by decide +kernel) fun t hf y => ?_
  blk_simp
  rw [after0_5]
  obtain ⟨a, r, l, rfl⟩ : ∃ (a : Fin 4) (r : Fin 72) (l : Fin 1024), y = ix3 a r l := ⟨y 0, y 1, y 2, by idx_vars y⟩
  have e : (win0_5.blk t).view.emb (ix3 a r l) = ix3 a (row t r) l := by blk_ext [idx t]
  rw [e]
  unfold out0_5
  frame_out
  rw [pay2, blk1, blk2]
  rfl

theorem final6 : ((dats m 0 c).arrAt 6 cfg0.N : FVec Ideal S4x1512x1024 .f32) = fun i => m2 (A1 m c (ix3 (i 0) (i 2) (i 1))) (A3 m c (ix3 (i 0) (i 2) (i 1))) := by
  refine (dats m 0 c).arrAt_eq_of_covers 6 _ (by decide +kernel) fun t hf y => ?_
  blk_simp
  rw [after0_6]
  obtain ⟨a, r, l, rfl⟩ : ∃ (a : Fin 4) (r : Fin 72) (l : Fin 1024), y = ix3 a r l := ⟨y 0, y 1, y 2, by idx_vars y⟩
  have e : (win0_6.blk t).view.emb (ix3 a r l) = ix3 a (row t r) l := by blk_ext [idx t]
  rw [e]
  unfold out0_6
  frame_out
  rw [pay3, blk1, blk3]
  rfl

end Cert.AdamIdeal.Arrays

end
-- ==== Proof.Adam.Ref.lean ====
/- The reference's results, entry by entry. -/
module

public import proofs.«01_k».proof.Proof.Gen.AdamRefIdeal.Read
public import proofs.«01_k».proof.Proof.Adam.Spec

@[expose] public section

set_option maxRecDepth 16384

noncomputable section

namespace Cert.AdamRefIdeal.Out

open Cert.AdamRefIdeal Cert.AdamRefIdeal.Gen Cert.AdamRefIdeal.Read Cert.Step
open Idealize.ShloMosaic Idealize.ShloMosaic.TcCoe Idealize.SL.Sem

variable (w g m v : FVec Ideal S4x1024x1512 .f32) (a : Fin 4) (n : Fin 1512) (l : Fin 1024)

theorem v25 : val_main_v25 (F := Ideal) g m (ix3 a n l) = m1 (g (ix3 a l n)) (m (ix3 a l n)) := by
  pointwise [val_main_v25, val_main_v4, val_main_v3, val_main_v2, val_main_v1, val_main_v0, val_main_cst, val_main_cst_0]
  rfl

theorem v26 : val_main_v26 (F := Ideal) g v (ix3 a n l) = m2 (g (ix3 a l n)) (v (ix3 a l n)) := by
  pointwise [val_main_v26, val_main_v10, val_main_v9, val_main_v8, val_main_v7, val_main_v6, val_main_v5, val_main_cst_1, val_main_cst_2]
  rfl

theorem v24 : val_main_v24 (F := Ideal) w g m v (ix3 a n l) = delta (w (ix3 a l n)) (g (ix3 a l n)) (m (ix3 a l n)) (v (ix3 a l n)) := by
  pointwise [val_main_v24, val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3, val_main_cst_4, val_main_cst_5,
    val_main_cst_6, val_main_cst_7]
  rfl

end Cert.AdamRefIdeal.Out

end
-- ==== Proof.Adam.Claim.lean ====
/- The value claim of the optimiser's step. -/
module

public import proofs.«01_k».proof.Defs
public import proofs.«01_k».proof.Proof.Adam.Kernel
public import proofs.«01_k».proof.Proof.Adam.Ref
public import proofs.«01_k».proof.Proof.Gen.AdamRefIdeal.Run
public import proofs.«01_k».proof.Proof.Gen.AdamRefIdeal.Read
public import Idealize.ShloMosaic.Lib.Claim

@[expose] public section

set_option maxRecDepth 16384

noncomputable section

namespace Cert.AdamClaim

open Idealize.ShloMosaic Idealize.ShloMosaic.TcCoe Idealize.SL.Sem

theorem algebraic : Cert.algebraic_AdamIdeal_AdamRefIdeal (hAdamIdeal := Cert.AdamIdeal.Gen.facts) (hAdamRefIdeal := Cert.AdamRefIdeal.Gen.facts) := by
  pair_intro
  · run_from Cert.AdamIdeal.Value.run_blocks m g
  · run_from Cert.AdamRefIdeal.Value.run m' g'
    all_goals obtain ⟨e0, e1, e2, e3⟩ := hagree c
    · refine (Cert.AdamRefIdeal.Read.val_main_v24_eq _ _ _ _).trans ?_
      rw [Cert.AdamIdeal.Arrays.final4 m c]
      funext i
      idx_vars i
      exact Cert.AdamRefIdeal.Out.v24 _ _ _ _ i0 i1 i2
    · refine (Cert.AdamRefIdeal.Read.val_main_v25_eq _ _).trans ?_
      rw [Cert.AdamIdeal.Arrays.final5 m c]
      funext i
      idx_vars i
      exact Cert.AdamRefIdeal.Out.v25 _ _ i0 i1 i2
    · refine (Cert.AdamRefIdeal.Read.val_main_v26_eq _ _).trans ?_
      rw [Cert.AdamIdeal.Arrays.final6 m c]
      funext i
      idx_vars i
      exact Cert.AdamRefIdeal.Out.v26 _ _ i0 i1 i2

theorem frame_ref : Cert.quiescent_AdamRefIdeal (hAdamRefIdeal := Cert.AdamRefIdeal.Gen.facts) := fun m ρ _ =>
  (θ_run _ _ _).mono (fun r h => ⟨fun c => (h c).2.2.2, sem_eq_zero_of_no_sems (by decide) r.2⟩)
    (Cert.AdamRefIdeal.Value.run m ρ)

end Cert.AdamClaim

end
-- ==== Proof.Sums.Kernel.lean ====
/- The array the sum over the devices leaves. -/
module

public import proofs.«01_k».proof.Proof.Gen.SumsIdeal.Value
public import Idealize.ShloMosaic.Lib.Pipeline.ValueKit
public import Idealize.ShloMosaic.Lib.StableHlo.RunRead
public import proofs.«01_k».proof.Proof.Kit.Reals

@[expose] public section

set_option maxRecDepth 16384

noncomputable section

namespace Cert.SumsIdeal.Arrays

open Cert.SumsIdeal Cert.SumsIdeal.Gen
open Idealize.ShloMosaic Idealize.ShloMosaic.TcCoe Idealize.SL.Sem
open Idealize.ShloMosaic.Pipeline (Dat)

theorem pay1 (x : FVec Ideal S8x96x1024 .f32) (r : Fin 96) (l : Fin 1024) : k0_pay1 (F := Ideal) x (ix2 r l) = ∑ k : Fin 8, x (ix3 k r l) := by
  pointwise [k0_pay1]
  rw [Fin.sum_univ_eight]

variable (m : (ℓ : Loc nD τ sig) → Buf (Elt Ideal) ℓ) (c : Dev nD)

abbrev A0 : FVec Ideal S8x384x1024 .f32 := m ((c : Thread nD τ).loc main_arg0)

theorem V0 : V m c main_arg0 = A0 m c := rfl

theorem idx : ∀ t : Fin cfg0.N, win0_0.index t = ![0, t.val, 0] ∧ win0_1.index t = ![t.val, 0] :=
  (by decide +kernel : ∀ t : Fin grid0.N, _)

/-- The row of the array that row `r` of point `t`'s block is. -/
abbrev row (t : Fin cfg0.N) (r : Fin 96) : Fin 384 := ⟨t.val * 96 + r.val, by have := lt_of_lt_of_eq t.isLt N_0; omega⟩

theorem blk0 (t : Fin cfg0.N) (k : Fin 8) (r : Fin 96) (l : Fin 1024) : (iblk m c 0 t : FVec Ideal S8x96x1024 .f32) (ix3 k r l) = A0 m c (ix3 k (row t r) l) := by
  rw [← V0 m c]
  blk_simp [iblk, idx t]
  refine congrArg (V m c main_arg0) ?_
  blk_ext [idx t]

theorem final1 : ((dats m 0 c).arrAt 1 cfg0.N : FVec Ideal S384x1024 .f32) = fun i => ∑ k : Fin 8, A0 m c (ix3 k (i 0) (i 1)) := by
  refine (dats m 0 c).arrAt_eq_of_covers 1 _ (by decide +kernel) fun t hf y => ?_
  blk_simp
  rw [after0_1]
  obtain ⟨r, l, rfl⟩ : ∃ (r : Fin 96) (l : Fin 1024), y = ix2 r l := ⟨y 0, y 1, by idx_vars y⟩
  have e : (win0_1.blk t).view.emb (ix2 r l) = ix2 (row t r) l := by blk_ext [idx t]
  rw [e]
  unfold out0_1
  frame_out
  exact (pay1 _ r l).trans (Finset.sum_congr rfl fun k _ => blk0 m c t k r l)

end Cert.SumsIdeal.Arrays

end
-- ==== Proof.Sums.Ref.lean ====
/- The reference's result, entry by entry. -/
module

public import proofs.«01_k».proof.Proof.Gen.SumsRefIdeal.Read
public import proofs.«01_k».proof.Proof.Kit.Reals

@[expose] public section

set_option maxRecDepth 16384

noncomputable section

namespace Cert.SumsRefIdeal.Out

open Cert.SumsRefIdeal Cert.SumsRefIdeal.Gen Cert.SumsRefIdeal.Read Cert.Reals
open Idealize.ShloMosaic Idealize.ShloMosaic.TcCoe Idealize.SL.Sem

theorem v0 (x : FVec Ideal S8x384x1024 .f32) (r : Fin 384) (l : Fin 1024) : val_main_v0 (F := Ideal) x (ix2 r l) = ∑ k : Fin 8, x (ix3 k r l) := by
  pointwise [val_main_v0, val_main_cst]

end Cert.SumsRefIdeal.Out

end
-- ==== Proof.Sums.Claim.lean ====
/- The value claim of the sum over the devices. -/
module

public import proofs.«01_k».proof.Defs
public import proofs.«01_k».proof.Proof.Sums.Kernel
public import proofs.«01_k».proof.Proof.Sums.Ref
public import proofs.«01_k».proof.Proof.Gen.SumsRefIdeal.Run
public import proofs.«01_k».proof.Proof.Gen.SumsRefIdeal.Read
public import Idealize.ShloMosaic.Lib.Claim

@[expose] public section

set_option maxRecDepth 16384

noncomputable section

namespace Cert.SumsClaim

open Idealize.ShloMosaic Idealize.ShloMosaic.TcCoe Idealize.SL.Sem

set_option maxHeartbeats 4000000 in
theorem algebraic : Cert.algebraic_SumsIdeal_SumsRefIdeal (hSumsIdeal := Cert.SumsIdeal.Gen.facts) (hSumsRefIdeal := Cert.SumsRefIdeal.Gen.facts) := by
  pair_intro
  · run_from Cert.SumsIdeal.Value.run_blocks m g
  · run_from Cert.SumsRefIdeal.Value.run m' g'
    all_goals obtain e0 := hagree c
    · refine (Cert.SumsRefIdeal.Read.val_main_v0_eq _).trans ?_
      rw [Cert.SumsIdeal.Arrays.final1 m c]
      funext i
      idx_vars i
      exact Cert.SumsRefIdeal.Out.v0 _ i0 i1

theorem frame_ref : Cert.quiescent_SumsRefIdeal (hSumsRefIdeal := Cert.SumsRefIdeal.Gen.facts) := fun m ρ _ =>
  (θ_run _ _ _).mono (fun r h => ⟨fun c => (h c).2, sem_eq_zero_of_no_sems (by decide) r.2⟩)
    (Cert.SumsRefIdeal.Value.run m ρ)

end Cert.SumsClaim

end
-- ==== Proof.lean ====
module

public import proofs.«01_k».proof.Defs
public import proofs.«01_k».proof.Proof.Gen.Ffn1
public import proofs.«01_k».proof.Proof.Gen.Ffn1.Skeleton
public import proofs.«01_k».proof.Proof.Gen.Ffn1.Launch
public import proofs.«01_k».proof.Proof.Gen.Ffn1.Points
public import proofs.«01_k».proof.Proof.Gen.Ffn1.Frame
public import proofs.«01_k».proof.Proof.Gen.Ffn1Ideal
public import proofs.«01_k».proof.Proof.Gen.Ffn1Ideal.Skeleton
public import proofs.«01_k».proof.Proof.Gen.Ffn1Ideal.Launch
public import proofs.«01_k».proof.Proof.Gen.Ffn1Ideal.Points
public import proofs.«01_k».proof.Proof.Gen.Ffn1Ideal.Frame
public import proofs.«01_k».proof.Proof.Gen.Ffn1RefIdeal
public import proofs.«01_k».proof.Proof.Gen.Ffn1Ideal.Value
public import proofs.«01_k».proof.Proof.Gen.Ffn1RefIdeal.Run
public import proofs.«01_k».proof.Proof.Gen.Ffn1RefIdeal.Read
public import proofs.«01_k».proof.Proof.Gen.Pre_finite_ffn1
public import proofs.«01_k».proof.Proof.Ffn1.Claim
public import proofs.«01_k».proof.Proof.Gen.Shift
public import proofs.«01_k».proof.Proof.Gen.Shift.Skeleton
public import proofs.«01_k».proof.Proof.Gen.Shift.Launch
public import proofs.«01_k».proof.Proof.Gen.Shift.Points
public import proofs.«01_k».proof.Proof.Gen.Shift.Frame
public import proofs.«01_k».proof.Proof.Gen.ShiftIdeal
public import proofs.«01_k».proof.Proof.Gen.ShiftIdeal.Skeleton
public import proofs.«01_k».proof.Proof.Gen.ShiftIdeal.Launch
public import proofs.«01_k».proof.Proof.Gen.ShiftIdeal.Points
public import proofs.«01_k».proof.Proof.Gen.ShiftIdeal.Frame
public import proofs.«01_k».proof.Proof.Gen.ShiftRefIdeal
public import proofs.«01_k».proof.Proof.Gen.ShiftIdeal.Value
public import proofs.«01_k».proof.Proof.Gen.ShiftRefIdeal.Run
public import proofs.«01_k».proof.Proof.Gen.ShiftRefIdeal.Read
public import proofs.«01_k».proof.Proof.Gen.Pre_finite_shift
public import proofs.«01_k».proof.Proof.Shift.Claim
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Pre_finite_attn
public import proofs.«01_k».proof.Proof.Attn.Claim
public import proofs.«01_k».proof.Proof.Gen.Ffn2
public import proofs.«01_k».proof.Proof.Gen.Ffn2.Skeleton
public import proofs.«01_k».proof.Proof.Gen.Ffn2.Launch
public import proofs.«01_k».proof.Proof.Gen.Ffn2.Points
public import proofs.«01_k».proof.Proof.Gen.Ffn2.Frame
public import proofs.«01_k».proof.Proof.Gen.Ffn2Ideal
public import proofs.«01_k».proof.Proof.Gen.Ffn2Ideal.Skeleton
public import proofs.«01_k».proof.Proof.Gen.Ffn2Ideal.Launch
public import proofs.«01_k».proof.Proof.Gen.Ffn2Ideal.Points
public import proofs.«01_k».proof.Proof.Gen.Ffn2Ideal.Frame
public import proofs.«01_k».proof.Proof.Gen.Ffn2RefIdeal
public import proofs.«01_k».proof.Proof.Gen.Ffn2Ideal.Value
public import proofs.«01_k».proof.Proof.Gen.Ffn2RefIdeal.Run
public import proofs.«01_k».proof.Proof.Gen.Ffn2RefIdeal.Read
public import proofs.«01_k».proof.Proof.Gen.Pre_finite_ffn2
public import proofs.«01_k».proof.Proof.Ffn2.Claim
public import proofs.«01_k».proof.Proof.Gen.InProj
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjRefIdeal
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.Pre_finite_inproj
public import proofs.«01_k».proof.Proof.InProj.Claim
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.LossIdeal.Value
public import proofs.«01_k».proof.Proof.Gen.LossRefIdeal.Run
public import proofs.«01_k».proof.Proof.Gen.LossRefIdeal.Read
public import proofs.«01_k».proof.Proof.Gen.Pre_finite_loss
public import proofs.«01_k».proof.Proof.Loss.Claim
public import proofs.«01_k».proof.Proof.Gen.Qkv
public import proofs.«01_k».proof.Proof.Gen.Qkv.Skeleton
public import proofs.«01_k».proof.Proof.Gen.Qkv.Launch
public import proofs.«01_k».proof.Proof.Gen.Qkv.Points
public import proofs.«01_k».proof.Proof.Gen.Qkv.Frame
public import proofs.«01_k».proof.Proof.Gen.QkvIdeal
public import proofs.«01_k».proof.Proof.Gen.QkvIdeal.Skeleton
public import proofs.«01_k».proof.Proof.Gen.QkvIdeal.Launch
public import proofs.«01_k».proof.Proof.Gen.QkvIdeal.Points
public import proofs.«01_k».proof.Proof.Gen.QkvIdeal.Frame
public import proofs.«01_k».proof.Proof.Gen.QkvRefIdeal
public import proofs.«01_k».proof.Proof.Gen.QkvRefIdeal.Run
public import proofs.«01_k».proof.Proof.Gen.QkvRefIdeal.Read
public import proofs.«01_k».proof.Proof.Gen.Pre_finite_qkv
public import proofs.«01_k».proof.Proof.Qkv.Claim
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdRefIdeal
public import proofs.«01_k».proof.Proof.Gen.FwdIdeal.Value
public import proofs.«01_k».proof.Proof.Gen.FwdRefIdeal.Run
public import proofs.«01_k».proof.Proof.Gen.FwdRefIdeal.Read
public import proofs.«01_k».proof.Proof.Gen.Pre_finite_fwd
public import proofs.«01_k».proof.Proof.Fwd.Claim
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpIdeal.Value
public import proofs.«01_k».proof.Proof.Gen.UpRefIdeal.Run
public import proofs.«01_k».proof.Proof.Gen.UpRefIdeal.Read
public import proofs.«01_k».proof.Proof.Gen.Pre_finite_up
public import proofs.«01_k».proof.Proof.Up.Claim
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownIdeal.Value
public import proofs.«01_k».proof.Proof.Gen.DownRefIdeal.Run
public import proofs.«01_k».proof.Proof.Gen.DownRefIdeal.Read
public import proofs.«01_k».proof.Proof.Gen.Pre_finite_down
public import proofs.«01_k».proof.Proof.Down.Claim
public import proofs.«01_k».proof.Proof.Gen.Prep
public import proofs.«01_k».proof.Proof.Gen.Prep.Skeleton
public import proofs.«01_k».proof.Proof.Gen.Prep.Launch
public import proofs.«01_k».proof.Proof.Gen.Prep.Points
public import proofs.«01_k».proof.Proof.Gen.Prep.Frame
public import proofs.«01_k».proof.Proof.Gen.PrepIdeal
public import proofs.«01_k».proof.Proof.Gen.PrepIdeal.Skeleton
public import proofs.«01_k».proof.Proof.Gen.PrepIdeal.Launch
public import proofs.«01_k».proof.Proof.Gen.PrepIdeal.Points
public import proofs.«01_k».proof.Proof.Gen.PrepIdeal.Frame
public import proofs.«01_k».proof.Proof.Gen.PrepRefIdeal
public import proofs.«01_k».proof.Proof.Gen.PrepIdeal.Value
public import proofs.«01_k».proof.Proof.Gen.PrepRefIdeal.Run
public import proofs.«01_k».proof.Proof.Gen.PrepRefIdeal.Read
public import proofs.«01_k».proof.Proof.Gen.Pre_finite_prep
public import proofs.«01_k».proof.Proof.Prep.Claim
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjIdeal.Value
public import proofs.«01_k».proof.Proof.Gen.ProjRefIdeal.Run
public import proofs.«01_k».proof.Proof.Gen.ProjRefIdeal.Read
public import proofs.«01_k».proof.Proof.Gen.Pre_finite_proj
public import proofs.«01_k».proof.Proof.Proj.Claim
public import proofs.«01_k».proof.Proof.Gen.Wup
public import proofs.«01_k».proof.Proof.Gen.Wup.Skeleton
public import proofs.«01_k».proof.Proof.Gen.Wup.Launch
public import proofs.«01_k».proof.Proof.Gen.Wup.Points
public import proofs.«01_k».proof.Proof.Gen.Wup.Frame
public import proofs.«01_k».proof.Proof.Gen.WupIdeal
public import proofs.«01_k».proof.Proof.Gen.WupIdeal.Skeleton
public import proofs.«01_k».proof.Proof.Gen.WupIdeal.Launch
public import proofs.«01_k».proof.Proof.Gen.WupIdeal.Points
public import proofs.«01_k».proof.Proof.Gen.WupIdeal.Frame
public import proofs.«01_k».proof.Proof.Gen.WupRefIdeal
public import proofs.«01_k».proof.Proof.Gen.WupIdeal.Value
public import proofs.«01_k».proof.Proof.Gen.WupRefIdeal.Run
public import proofs.«01_k».proof.Proof.Gen.WupRefIdeal.Read
public import proofs.«01_k».proof.Proof.Gen.Pre_finite_wup
public import proofs.«01_k».proof.Proof.Wup.Claim
public import proofs.«01_k».proof.Proof.Gen.Wdown
public import proofs.«01_k».proof.Proof.Gen.Wdown.Skeleton
public import proofs.«01_k».proof.Proof.Gen.Wdown.Launch
public import proofs.«01_k».proof.Proof.Gen.Wdown.Points
public import proofs.«01_k».proof.Proof.Gen.Wdown.Frame
public import proofs.«01_k».proof.Proof.Gen.WdownIdeal
public import proofs.«01_k».proof.Proof.Gen.WdownIdeal.Skeleton
public import proofs.«01_k».proof.Proof.Gen.WdownIdeal.Launch
public import proofs.«01_k».proof.Proof.Gen.WdownIdeal.Points
public import proofs.«01_k».proof.Proof.Gen.WdownIdeal.Frame
public import proofs.«01_k».proof.Proof.Gen.WdownRefIdeal
public import proofs.«01_k».proof.Proof.Gen.WdownIdeal.Value
public import proofs.«01_k».proof.Proof.Gen.WdownRefIdeal.Run
public import proofs.«01_k».proof.Proof.Gen.WdownRefIdeal.Read
public import proofs.«01_k».proof.Proof.Gen.Pre_finite_wdown
public import proofs.«01_k».proof.Proof.Wdown.Claim
public import proofs.«01_k».proof.Proof.Gen.Adam
public import proofs.«01_k».proof.Proof.Gen.Adam.Skeleton
public import proofs.«01_k».proof.Proof.Gen.Adam.Launch
public import proofs.«01_k».proof.Proof.Gen.Adam.Points
public import proofs.«01_k».proof.Proof.Gen.Adam.Frame
public import proofs.«01_k».proof.Proof.Gen.AdamIdeal
public import proofs.«01_k».proof.Proof.Gen.AdamIdeal.Skeleton
public import proofs.«01_k».proof.Proof.Gen.AdamIdeal.Launch
public import proofs.«01_k».proof.Proof.Gen.AdamIdeal.Points
public import proofs.«01_k».proof.Proof.Gen.AdamIdeal.Frame
public import proofs.«01_k».proof.Proof.Gen.AdamRefIdeal
public import proofs.«01_k».proof.Proof.Gen.AdamIdeal.Value
public import proofs.«01_k».proof.Proof.Gen.AdamRefIdeal.Run
public import proofs.«01_k».proof.Proof.Gen.AdamRefIdeal.Read
public import proofs.«01_k».proof.Proof.Adam.Claim
public import proofs.«01_k».proof.Proof.Gen.Sums
public import proofs.«01_k».proof.Proof.Gen.Sums.Skeleton
public import proofs.«01_k».proof.Proof.Gen.Sums.Launch
public import proofs.«01_k».proof.Proof.Gen.Sums.Points
public import proofs.«01_k».proof.Proof.Gen.Sums.Frame
public import proofs.«01_k».proof.Proof.Gen.SumsIdeal
public import proofs.«01_k».proof.Proof.Gen.SumsIdeal.Skeleton
public import proofs.«01_k».proof.Proof.Gen.SumsIdeal.Launch
public import proofs.«01_k».proof.Proof.Gen.SumsIdeal.Points
public import proofs.«01_k».proof.Proof.Gen.SumsIdeal.Frame
public import proofs.«01_k».proof.Proof.Gen.SumsRefIdeal
public import proofs.«01_k».proof.Proof.Gen.SumsIdeal.Value
public import proofs.«01_k».proof.Proof.Gen.SumsRefIdeal.Run
public import proofs.«01_k».proof.Proof.Gen.SumsRefIdeal.Read
public import proofs.«01_k».proof.Proof.Sums.Claim
public import Idealize.ShloMosaic.Adequacy
public import Idealize.ShloMosaic.Init

@[expose] public section

noncomputable section

-- Every claim also says that every semaphore counter ends at zero; the proofs show that too.

namespace Cert.Proof

open Idealize.ShloMosaic Idealize.SL.Sem

theorem claim : Cert.Claim := ⟨Cert.Ffn1.Gen.facts,
  Cert.Ffn1Ideal.Gen.facts,
  Cert.Ffn1RefIdeal.Gen.facts,
  Cert.Shift.Gen.facts,
  Cert.ShiftIdeal.Gen.facts,
  Cert.ShiftRefIdeal.Gen.facts,
  Cert.Attn.Gen.facts,
  Cert.AttnIdeal.Gen.facts,
  Cert.AttnRefIdeal.Gen.facts,
  Cert.Ffn2.Gen.facts,
  Cert.Ffn2Ideal.Gen.facts,
  Cert.Ffn2RefIdeal.Gen.facts,
  Cert.InProj.Gen.facts,
  Cert.InProjIdeal.Gen.facts,
  Cert.InProjRefIdeal.Gen.facts,
  Cert.Loss.Gen.facts,
  Cert.LossIdeal.Gen.facts,
  Cert.LossRefIdeal.Gen.facts,
  Cert.Qkv.Gen.facts,
  Cert.QkvIdeal.Gen.facts,
  Cert.QkvRefIdeal.Gen.facts,
  Cert.Fwd.Gen.facts,
  Cert.FwdIdeal.Gen.facts,
  Cert.FwdRefIdeal.Gen.facts,
  Cert.Up.Gen.facts,
  Cert.UpIdeal.Gen.facts,
  Cert.UpRefIdeal.Gen.facts,
  Cert.Down.Gen.facts,
  Cert.DownIdeal.Gen.facts,
  Cert.DownRefIdeal.Gen.facts,
  Cert.Prep.Gen.facts,
  Cert.PrepIdeal.Gen.facts,
  Cert.PrepRefIdeal.Gen.facts,
  Cert.Proj.Gen.facts,
  Cert.ProjIdeal.Gen.facts,
  Cert.ProjRefIdeal.Gen.facts,
  Cert.Wup.Gen.facts,
  Cert.WupIdeal.Gen.facts,
  Cert.WupRefIdeal.Gen.facts,
  Cert.Wdown.Gen.facts,
  Cert.WdownIdeal.Gen.facts,
  Cert.WdownRefIdeal.Gen.facts,
  Cert.Adam.Gen.facts,
  Cert.AdamIdeal.Gen.facts,
  Cert.AdamRefIdeal.Gen.facts,
  Cert.Sums.Gen.facts,
  Cert.SumsIdeal.Gen.facts,
  Cert.SumsRefIdeal.Gen.facts,
  Cert.Pre_finite_ffn1.Gen.facts,
  Cert.Pre_finite_shift.Gen.facts,
  Cert.Pre_finite_attn.Gen.facts,
  Cert.Pre_finite_ffn2.Gen.facts,
  Cert.Pre_finite_inproj.Gen.facts,
  Cert.Pre_finite_loss.Gen.facts,
  Cert.Pre_finite_qkv.Gen.facts,
  Cert.Pre_finite_fwd.Gen.facts,
  Cert.Pre_finite_up.Gen.facts,
  Cert.Pre_finite_down.Gen.facts,
  Cert.Pre_finite_prep.Gen.facts,
  Cert.Pre_finite_proj.Gen.facts,
  Cert.Pre_finite_wup.Gen.facts,
  Cert.Pre_finite_wdown.Gen.facts,
  fun m ρ _ => Cert.Ffn1.Gen.frame m ρ,
  fun m ρ _ => Cert.Ffn1Ideal.Gen.frame m ρ,
  fun m ρ _ => Cert.Ffn1Ideal.Gen.frame m ρ,
  Cert.Ffn1Claim.frame_ref,
  Cert.Ffn1Claim.frame_ref_pre,
  fun m ρ _ => Cert.Shift.Gen.frame m ρ,
  fun m ρ _ => Cert.ShiftIdeal.Gen.frame m ρ,
  fun m ρ _ => Cert.ShiftIdeal.Gen.frame m ρ,
  Cert.ShiftClaim.frame_ref,
  Cert.ShiftClaim.frame_ref_pre,
  fun m ρ _ => Cert.Attn.Gen.frame m ρ,
  fun m ρ _ => Cert.AttnIdeal.Gen.frame m ρ,
  fun m ρ _ => Cert.AttnIdeal.Gen.frame m ρ,
  Cert.AttnClaim.frame_ref,
  Cert.AttnClaim.frame_ref_pre,
  fun m ρ _ => Cert.Ffn2.Gen.frame m ρ,
  fun m ρ _ => Cert.Ffn2Ideal.Gen.frame m ρ,
  fun m ρ _ => Cert.Ffn2Ideal.Gen.frame m ρ,
  Cert.Ffn2Claim.frame_ref,
  Cert.Ffn2Claim.frame_ref_pre,
  fun m ρ _ => Cert.InProj.Gen.frame m ρ,
  fun m ρ _ => Cert.InProjIdeal.Gen.frame m ρ,
  fun m ρ _ => Cert.InProjIdeal.Gen.frame m ρ,
  Cert.InProjClaim.frame_ref,
  Cert.InProjClaim.frame_ref_pre,
  fun m ρ _ => Cert.Loss.Gen.frame m ρ,
  fun m ρ _ => Cert.LossIdeal.Gen.frame m ρ,
  fun m ρ _ => Cert.LossIdeal.Gen.frame m ρ,
  Cert.LossClaim.frame_ref,
  Cert.LossClaim.frame_ref_pre,
  fun m ρ _ => Cert.Qkv.Gen.frame m ρ,
  fun m ρ _ => Cert.QkvIdeal.Gen.frame m ρ,
  fun m ρ _ => Cert.QkvIdeal.Gen.frame m ρ,
  Cert.QkvClaim.frame_ref,
  Cert.QkvClaim.frame_ref_pre,
  fun m ρ _ => Cert.Fwd.Gen.frame m ρ,
  fun m ρ _ => Cert.FwdIdeal.Gen.frame m ρ,
  fun m ρ _ => Cert.FwdIdeal.Gen.frame m ρ,
  Cert.FwdClaim.frame_ref,
  Cert.FwdClaim.frame_ref_pre,
  fun m ρ _ => Cert.Up.Gen.frame m ρ,
  fun m ρ _ => Cert.UpIdeal.Gen.frame m ρ,
  fun m ρ _ => Cert.UpIdeal.Gen.frame m ρ,
  Cert.UpClaim.frame_ref,
  Cert.UpClaim.frame_ref_pre,
  fun m ρ _ => Cert.Down.Gen.frame m ρ,
  fun m ρ _ => Cert.DownIdeal.Gen.frame m ρ,
  fun m ρ _ => Cert.DownIdeal.Gen.frame m ρ,
  Cert.DownClaim.frame_ref,
  Cert.DownClaim.frame_ref_pre,
  fun m ρ _ => Cert.Prep.Gen.frame m ρ,
  fun m ρ _ => Cert.PrepIdeal.Gen.frame m ρ,
  fun m ρ _ => Cert.PrepIdeal.Gen.frame m ρ,
  Cert.PrepClaim.frame_ref,
  Cert.PrepClaim.frame_ref_pre,
  fun m ρ _ => Cert.Proj.Gen.frame m ρ,
  fun m ρ _ => Cert.ProjIdeal.Gen.frame m ρ,
  fun m ρ _ => Cert.ProjIdeal.Gen.frame m ρ,
  Cert.ProjClaim.frame_ref,
  Cert.ProjClaim.frame_ref_pre,
  fun m ρ _ => Cert.Wup.Gen.frame m ρ,
  fun m ρ _ => Cert.WupIdeal.Gen.frame m ρ,
  fun m ρ _ => Cert.WupIdeal.Gen.frame m ρ,
  Cert.WupClaim.frame_ref,
  Cert.WupClaim.frame_ref_pre,
  fun m ρ _ => Cert.Wdown.Gen.frame m ρ,
  fun m ρ _ => Cert.WdownIdeal.Gen.frame m ρ,
  fun m ρ _ => Cert.WdownIdeal.Gen.frame m ρ,
  Cert.WdownClaim.frame_ref,
  Cert.WdownClaim.frame_ref_pre,
  fun m ρ _ => Cert.Adam.Gen.frame m ρ,
  fun m ρ _ => Cert.AdamIdeal.Gen.frame m ρ,
  Cert.AdamClaim.frame_ref,
  fun m ρ _ => Cert.Sums.Gen.frame m ρ,
  fun m ρ _ => Cert.SumsIdeal.Gen.frame m ρ,
  Cert.SumsClaim.frame_ref,
  trivial,
  haveI := Cert.Pre_finite_ffn1.Gen.facts; Cert.Ffn1Claim.algebraic,
  trivial,
  haveI := Cert.Pre_finite_shift.Gen.facts; Cert.ShiftClaim.algebraic,
  IdealRules.named_const.statement Cert.AttnIdeal.κ "attn_scale_log2e" .f32 0x3E16C740#32 _ rfl,
  haveI := Cert.Pre_finite_attn.Gen.facts; Cert.AttnClaim.algebraic,
  trivial,
  haveI := Cert.Pre_finite_ffn2.Gen.facts; Cert.Ffn2Claim.algebraic,
  trivial,
  haveI := Cert.Pre_finite_inproj.Gen.facts; Cert.InProjClaim.algebraic,
  trivial,
  haveI := Cert.Pre_finite_loss.Gen.facts; Cert.LossClaim.algebraic,
  trivial,
  haveI := Cert.Pre_finite_qkv.Gen.facts; Cert.QkvClaim.algebraic,
  ⟨IdealRules.named_const.statement Cert.FwdIdeal.κ "attn_scale_log2e" .f32 0x3E16C740#32 _ rfl, IdealRules.named_const.statement Cert.FwdIdeal.κ "inv_log_2" .f32 0x3FB8AA3B#32 _ rfl⟩,
  haveI := Cert.Pre_finite_fwd.Gen.facts; Cert.FwdClaim.algebraic,
  trivial,
  haveI := Cert.Pre_finite_up.Gen.facts; Cert.UpClaim.algebraic,
  trivial,
  haveI := Cert.Pre_finite_down.Gen.facts; Cert.DownClaim.algebraic,
  trivial,
  haveI := Cert.Pre_finite_prep.Gen.facts; Cert.PrepClaim.algebraic,
  trivial,
  haveI := Cert.Pre_finite_proj.Gen.facts; Cert.ProjClaim.algebraic,
  trivial,
  haveI := Cert.Pre_finite_wup.Gen.facts; Cert.WupClaim.algebraic,
  trivial,
  haveI := Cert.Pre_finite_wdown.Gen.facts; Cert.WdownClaim.algebraic,
  trivial,
  Cert.AdamClaim.algebraic,
  trivial,
  Cert.SumsClaim.algebraic⟩

end Cert.Proof

end
